-- ==== Defs.lean ====
def Pre_Gather (m : (ℓ : Loc Cert.Gather.nD Cert.Gather.τ Cert.Gather.sig) → Buf (Elt Bits) ℓ) : Prop :=
  True

def Pre_GatherIdeal (m : (ℓ : Loc Cert.GatherIdeal.nD Cert.GatherIdeal.τ Cert.GatherIdeal.sig) → Buf (Elt Ideal) ℓ) : Prop :=
  True

def Pre_GatherRefIdeal (m : (ℓ : Loc Cert.GatherRefIdeal.nD Cert.GatherRefIdeal.τ Cert.GatherRefIdeal.sig) → Buf (Elt Ideal) ℓ) : Prop :=
  True

def Pre_GatherRef (m : (ℓ : Loc Cert.GatherRef.nD Cert.GatherRef.τ Cert.GatherRef.sig) → Buf (Elt Bits) ℓ) : Prop :=
  True

def Pre_Swap (m : (ℓ : Loc Cert.Swap.nD Cert.Swap.τ Cert.Swap.sig) → Buf (Elt Bits) ℓ) : Prop :=
  True

def Pre_SwapIdeal (m : (ℓ : Loc Cert.SwapIdeal.nD Cert.SwapIdeal.τ Cert.SwapIdeal.sig) → Buf (Elt Ideal) ℓ) : Prop :=
  True

def Pre_SwapRefIdeal (m : (ℓ : Loc Cert.SwapRefIdeal.nD Cert.SwapRefIdeal.τ Cert.SwapRefIdeal.sig) → Buf (Elt Ideal) ℓ) : Prop :=
  True

def Pre_SwapRef (m : (ℓ : Loc Cert.SwapRef.nD Cert.SwapRef.τ Cert.SwapRef.sig) → Buf (Elt Bits) ℓ) : Prop :=
  True

def Pre_Scatter (m : (ℓ : Loc Cert.Scatter.nD Cert.Scatter.τ Cert.Scatter.sig) → Buf (Elt Bits) ℓ) : Prop :=
  True

def Pre_ScatterIdeal (m : (ℓ : Loc Cert.ScatterIdeal.nD Cert.ScatterIdeal.τ Cert.ScatterIdeal.sig) → Buf (Elt Ideal) ℓ) : Prop :=
  True

def Pre_ScatterRefIdeal (m : (ℓ : Loc Cert.ScatterRefIdeal.nD Cert.ScatterRefIdeal.τ Cert.ScatterRefIdeal.sig) → Buf (Elt Ideal) ℓ) : Prop :=
  True

def Pre_ScatterRef (m : (ℓ : Loc Cert.ScatterRef.nD Cert.ScatterRef.τ Cert.ScatterRef.sig) → Buf (Elt Bits) ℓ) : Prop :=
  True

def Pre_Share (m : (ℓ : Loc Cert.Share.nD Cert.Share.τ Cert.Share.sig) → Buf (Elt Bits) ℓ) : Prop :=
  True

def Pre_ShareIdeal (m : (ℓ : Loc Cert.ShareIdeal.nD Cert.ShareIdeal.τ Cert.ShareIdeal.sig) → Buf (Elt Ideal) ℓ) : Prop :=
  True

def Pre_ShareRefIdeal (m : (ℓ : Loc Cert.ShareRefIdeal.nD Cert.ShareRefIdeal.τ Cert.ShareRefIdeal.sig) → Buf (Elt Ideal) ℓ) : Prop :=
  True

def Pre_ShareRef (m : (ℓ : Loc Cert.ShareRef.nD Cert.ShareRef.τ Cert.ShareRef.sig) → Buf (Elt Bits) ℓ) : Prop :=
  True

def Pre_Chip (m : (ℓ : Loc Cert.Chip.nD Cert.Chip.τ Cert.Chip.sig) → Buf (Elt Bits) ℓ) : Prop :=
  True

def Pre_ChipIdeal (m : (ℓ : Loc Cert.ChipIdeal.nD Cert.ChipIdeal.τ Cert.ChipIdeal.sig) → Buf (Elt Ideal) ℓ) : Prop :=
  True

def Pre_ChipRefIdeal (m : (ℓ : Loc Cert.ChipRefIdeal.nD Cert.ChipRefIdeal.τ Cert.ChipRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_FfnOutDx (m : (ℓ : Loc Cert.FfnOutDx.nD Cert.FfnOutDx.τ Cert.FfnOutDx.sig) → Buf (Elt Bits) ℓ) : Prop :=
  True

def Pre_FfnOutDxIdeal (m : (ℓ : Loc Cert.FfnOutDxIdeal.nD Cert.FfnOutDxIdeal.τ Cert.FfnOutDxIdeal.sig) → Buf (Elt Ideal) ℓ) : Prop :=
  True

def Pre_FfnOutDxRefIdeal (m : (ℓ : Loc Cert.FfnOutDxRefIdeal.nD Cert.FfnOutDxRefIdeal.τ Cert.FfnOutDxRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_FfnInDx (m : (ℓ : Loc Cert.FfnInDx.nD Cert.FfnInDx.τ Cert.FfnInDx.sig) → Buf (Elt Bits) ℓ) : Prop :=
  True

def Pre_FfnInDxIdeal (m : (ℓ : Loc Cert.FfnInDxIdeal.nD Cert.FfnInDxIdeal.τ Cert.FfnInDxIdeal.sig) → Buf (Elt Ideal) ℓ) : Prop :=
  True

def Pre_FfnInDxRefIdeal (m : (ℓ : Loc Cert.FfnInDxRefIdeal.nD Cert.FfnInDxRefIdeal.τ Cert.FfnInDxRefIdeal.sig) → Buf (Elt Ideal) ℓ) : Prop :=
  True

def Pre_FfnOutDw (m : (ℓ : Loc Cert.FfnOutDw.nD Cert.FfnOutDw.τ Cert.FfnOutDw.sig) → Buf (Elt Bits) ℓ) : Prop :=
  True

def Pre_FfnOutDwIdeal (m : (ℓ : Loc Cert.FfnOutDwIdeal.nD Cert.FfnOutDwIdeal.τ Cert.FfnOutDwIdeal.sig) → Buf (Elt Ideal) ℓ) : Prop :=
  True

def Pre_FfnOutDwRefIdeal (m : (ℓ : Loc Cert.FfnOutDwRefIdeal.nD Cert.FfnOutDwRefIdeal.τ Cert.FfnOutDwRefIdeal.sig) → Buf (Elt Ideal) ℓ) : Prop :=
  True

def Pre_FfnInDw (m : (ℓ : Loc Cert.FfnInDw.nD Cert.FfnInDw.τ Cert.FfnInDw.sig) → Buf (Elt Bits) ℓ) : Prop :=
  True

def Pre_FfnInDwIdeal (m : (ℓ : Loc Cert.FfnInDwIdeal.nD Cert.FfnInDwIdeal.τ Cert.FfnInDwIdeal.sig) → Buf (Elt Ideal) ℓ) : Prop :=
  True

def Pre_FfnInDwRefIdeal (m : (ℓ : Loc Cert.FfnInDwRefIdeal.nD Cert.FfnInDwRefIdeal.τ Cert.FfnInDwRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_SwiF (m : (ℓ : Loc Cert.SwiF.nD Cert.SwiF.τ Cert.SwiF.sig) → Buf (Elt Bits) ℓ) : Prop :=
  True

def Pre_SwiFIdeal (m : (ℓ : Loc Cert.SwiFIdeal.nD Cert.SwiFIdeal.τ Cert.SwiFIdeal.sig) → Buf (Elt Ideal) ℓ) : Prop :=
  True

def Pre_SwiFRefIdeal (m : (ℓ : Loc Cert.SwiFRefIdeal.nD Cert.SwiFRefIdeal.τ Cert.SwiFRefIdeal.sig) → Buf (Elt Ideal) ℓ) : Prop :=
  True

def Pre_SwiB (m : (ℓ : Loc Cert.SwiB.nD Cert.SwiB.τ Cert.SwiB.sig) → Buf (Elt Bits) ℓ) : Prop :=
  True

def Pre_SwiBIdeal (m : (ℓ : Loc Cert.SwiBIdeal.nD Cert.SwiBIdeal.τ Cert.SwiBIdeal.sig) → Buf (Elt Ideal) ℓ) : Prop :=
  True

def Pre_SwiBRefIdeal (m : (ℓ : Loc Cert.SwiBRefIdeal.nD Cert.SwiBRefIdeal.τ Cert.SwiBRefIdeal.sig) → Buf (Elt Ideal) ℓ) : Prop :=
  True

def Pre_LnF (m : (ℓ : Loc Cert.LnF.nD Cert.LnF.τ Cert.LnF.sig) → Buf (Elt Bits) ℓ) : Prop :=
  True

def Pre_LnFIdeal (m : (ℓ : Loc Cert.LnFIdeal.nD Cert.LnFIdeal.τ Cert.LnFIdeal.sig) → Buf (Elt Ideal) ℓ) : Prop :=
  True

def Pre_LnFRefIdeal (m : (ℓ : Loc Cert.LnFRefIdeal.nD Cert.LnFRefIdeal.τ Cert.LnFRefIdeal.sig) → Buf (Elt Ideal) ℓ) : Prop :=
  True

def Pre_LnB (m : (ℓ : Loc Cert.LnB.nD Cert.LnB.τ Cert.LnB.sig) → Buf (Elt Bits) ℓ) : Prop :=
  True

def Pre_LnBIdeal (m : (ℓ : Loc Cert.LnBIdeal.nD Cert.LnBIdeal.τ Cert.LnBIdeal.sig) → Buf (Elt Ideal) ℓ) : Prop :=
  True

def Pre_LnBRefIdeal (m : (ℓ : Loc Cert.LnBRefIdeal.nD Cert.LnBRefIdeal.τ Cert.LnBRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_ConvF (m : (ℓ : Loc Cert.ConvF.nD Cert.ConvF.τ Cert.ConvF.sig) → Buf (Elt Bits) ℓ) : Prop :=
  True

def Pre_ConvFIdeal (m : (ℓ : Loc Cert.ConvFIdeal.nD Cert.ConvFIdeal.τ Cert.ConvFIdeal.sig) → Buf (Elt Ideal) ℓ) : Prop :=
  True

def Pre_ConvFRefIdeal (m : (ℓ : Loc Cert.ConvFRefIdeal.nD Cert.ConvFRefIdeal.τ Cert.ConvFRefIdeal.sig) → Buf (Elt Ideal) ℓ) : Prop :=
  True

def Pre_ConvB (m : (ℓ : Loc Cert.ConvB.nD Cert.ConvB.τ Cert.ConvB.sig) → Buf (Elt Bits) ℓ) : Prop :=
  True

def Pre_ConvBIdeal (m : (ℓ : Loc Cert.ConvBIdeal.nD Cert.ConvBIdeal.τ Cert.ConvBIdeal.sig) → Buf (Elt Ideal) ℓ) : Prop :=
  True

def Pre_ConvBRefIdeal (m : (ℓ : Loc Cert.ConvBRefIdeal.nD Cert.ConvBRefIdeal.τ Cert.ConvBRefIdeal.sig) → Buf (Elt Ideal) ℓ) : Prop :=
  True

def Pre_DilD (m : (ℓ : Loc Cert.DilD.nD Cert.DilD.τ Cert.DilD.sig) → Buf (Elt Bits) ℓ) : Prop :=
  True

def Pre_DilDIdeal (m : (ℓ : Loc Cert.DilDIdeal.nD Cert.DilDIdeal.τ Cert.DilDIdeal.sig) → Buf (Elt Ideal) ℓ) : Prop :=
  True

def Pre_DilDRefIdeal (m : (ℓ : Loc Cert.DilDRefIdeal.nD Cert.DilDRefIdeal.τ Cert.DilDRefIdeal.sig) → Buf (Elt Ideal) ℓ) : Prop :=
  True

def Pre_DilM (m : (ℓ : Loc Cert.DilM.nD Cert.DilM.τ Cert.DilM.sig) → Buf (Elt Bits) ℓ) : Prop :=
  True

def Pre_DilMIdeal (m : (ℓ : Loc Cert.DilMIdeal.nD Cert.DilMIdeal.τ Cert.DilMIdeal.sig) → Buf (Elt Ideal) ℓ) : Prop :=
  True

def Pre_DilMRefIdeal (m : (ℓ : Loc Cert.DilMRefIdeal.nD Cert.DilMRefIdeal.τ Cert.DilMRefIdeal.sig) → Buf (Elt Ideal) ℓ) : Prop :=
  True

def Pre_FoxF (m : (ℓ : Loc Cert.FoxF.nD Cert.FoxF.τ Cert.FoxF.sig) → Buf (Elt Bits) ℓ) : Prop :=
  True

def Pre_FoxFIdeal (m : (ℓ : Loc Cert.FoxFIdeal.nD Cert.FoxFIdeal.τ Cert.FoxFIdeal.sig) → Buf (Elt Ideal) ℓ) : Prop :=
  True

def Pre_FoxFRefIdeal (m : (ℓ : Loc Cert.FoxFRefIdeal.nD Cert.FoxFRefIdeal.τ Cert.FoxFRefIdeal.sig) → Buf (Elt Ideal) ℓ) : Prop :=
  True

def Pre_FoxB (m : (ℓ : Loc Cert.FoxB.nD Cert.FoxB.τ Cert.FoxB.sig) → Buf (Elt Bits) ℓ) : Prop :=
  True

def Pre_FoxBIdeal (m : (ℓ : Loc Cert.FoxBIdeal.nD Cert.FoxBIdeal.τ Cert.FoxBIdeal.sig) → Buf (Elt Ideal) ℓ) : Prop :=
  True

def Pre_FoxBIdeal_below_infinity [hPre_below_infinity : Cert.Pre_below_infinity.Facts] (m : (ℓ : Loc Cert.FoxBIdeal.nD Cert.FoxBIdeal.τ Cert.FoxBIdeal.sig) → Buf (Elt Ideal) ℓ) : Prop :=
  ∀ c : Dev Cert.FoxBIdeal.nD,
    (Cert.Pre_below_infinity.fn (F := Ideal) (m ((c.tc : Thread Cert.FoxBIdeal.nD Cert.FoxBIdeal.τ).loc Cert.FoxBIdeal.main_arg0)) (m ((c.tc : Thread Cert.FoxBIdeal.nD Cert.FoxBIdeal.τ).loc Cert.FoxBIdeal.main_arg1)) (m ((c.tc : Thread Cert.FoxBIdeal.nD Cert.FoxBIdeal.τ).loc Cert.FoxBIdeal.main_arg2))) = (fun _ => 1#1)

def Pre_FoxBRefIdeal (m : (ℓ : Loc Cert.FoxBRefIdeal.nD Cert.FoxBRefIdeal.τ Cert.FoxBRefIdeal.sig) → Buf (Elt Ideal) ℓ) : Prop :=
  True

def Pre_FoxBRefIdeal_below_infinity [hPre_below_infinity : Cert.Pre_below_infinity.Facts] (m : (ℓ : Loc Cert.FoxBRefIdeal.nD Cert.FoxBRefIdeal.τ Cert.FoxBRefIdeal.sig) → Buf (Elt Ideal) ℓ) : Prop :=
  ∀ c : Dev Cert.FoxBRefIdeal.nD,
    (Cert.Pre_below_infinity.fn (F := Ideal) (m ((c.tc : Thread Cert.FoxBRefIdeal.nD Cert.FoxBRefIdeal.τ).loc Cert.FoxBRefIdeal.main_arg0)) (m ((c.tc : Thread Cert.FoxBRefIdeal.nD Cert.FoxBRefIdeal.τ).loc Cert.FoxBRefIdeal.main_arg1)) (m ((c.tc : Thread Cert.FoxBRefIdeal.nD Cert.FoxBRefIdeal.τ).loc Cert.FoxBRefIdeal.main_arg2))) = (fun _ => 1#1)

def Pre_DilB (m : (ℓ : Loc Cert.DilB.nD Cert.DilB.τ Cert.DilB.sig) → Buf (Elt Bits) ℓ) : Prop :=
  True

def Pre_DilBIdeal (m : (ℓ : Loc Cert.DilBIdeal.nD Cert.DilBIdeal.τ Cert.DilBIdeal.sig) → Buf (Elt Ideal) ℓ) : Prop :=
  True

def Pre_DilBRefIdeal (m : (ℓ : Loc Cert.DilBRefIdeal.nD Cert.DilBRefIdeal.τ Cert.DilBRefIdeal.sig) → Buf (Elt Ideal) ℓ) : Prop :=
  True

def Pre_DilG (m : (ℓ : Loc Cert.DilG.nD Cert.DilG.τ Cert.DilG.sig) → Buf (Elt Bits) ℓ) : Prop :=
  True

def Pre_DilGIdeal (m : (ℓ : Loc Cert.DilGIdeal.nD Cert.DilGIdeal.τ Cert.DilGIdeal.sig) → Buf (Elt Ideal) ℓ) : Prop :=
  True

def Pre_DilGRefIdeal (m : (ℓ : Loc Cert.DilGRefIdeal.nD Cert.DilGRefIdeal.τ Cert.DilGRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_AdamOutRefIdeal (m : (ℓ : Loc Cert.AdamOutRefIdeal.nD Cert.AdamOutRefIdeal.τ Cert.AdamOutRefIdeal.sig) → Buf (Elt Ideal) ℓ) : Prop :=
  True

def Pre_AdamGate (m : (ℓ : Loc Cert.AdamGate.nD Cert.AdamGate.τ Cert.AdamGate.sig) → Buf (Elt Bits) ℓ) : Prop :=
  True

def Pre_AdamGateIdeal (m : (ℓ : Loc Cert.AdamGateIdeal.nD Cert.AdamGateIdeal.τ Cert.AdamGateIdeal.sig) → Buf (Elt Ideal) ℓ) : Prop :=
  True

def Pre_AdamGateRefIdeal (m : (ℓ : Loc Cert.AdamGateRefIdeal.nD Cert.AdamGateRefIdeal.τ Cert.AdamGateRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def quiescent_Gather [hGather : Cert.Gather.Facts] : Prop :=
  ∀ (m : (ℓ : Loc Cert.Gather.nD Cert.Gather.τ Cert.Gather.sig) → Buf (Elt Bits) ℓ) (g : Dev Cert.Gather.nD → PrngReg), Pre_Gather m →
    θ_run (Cert.Gather.defs (F := Bits)) (onTc (τ := Cert.Gather.τ) (Cert.Gather.main (F := Bits))) ⟨m, fun _ => 0, g⟩ (fun r => (∀ c : Dev Cert.Gather.nD,
      r.2.mem ((c.tc : Thread Cert.Gather.nD Cert.Gather.τ).loc Cert.Gather.main_arg0) = m ((c.tc : Thread Cert.Gather.nD Cert.Gather.τ).loc Cert.Gather.main_arg0))
      ∧ r.2.sem = fun _ => 0)

def quiescent_GatherIdeal [hGatherIdeal : Cert.GatherIdeal.Facts] : Prop :=
  ∀ (m : (ℓ : Loc Cert.GatherIdeal.nD Cert.GatherIdeal.τ Cert.GatherIdeal.sig) → Buf (Elt Ideal) ℓ) (g : Dev Cert.GatherIdeal.nD → PrngReg), Pre_GatherIdeal m →
    θ_run (Cert.GatherIdeal.defs (F := Ideal)) (onTc (τ := Cert.GatherIdeal.τ) (Cert.GatherIdeal.main (F := Ideal))) ⟨m, fun _ => 0, g⟩ (fun r => (∀ c : Dev Cert.GatherIdeal.nD,
      r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ r.2.sem = fun _ => 0)

def quiescent_GatherRefIdeal [hGatherRefIdeal : Cert.GatherRefIdeal.Facts] : Prop :=
  ∀ (m : (ℓ : Loc Cert.GatherRefIdeal.nD Cert.GatherRefIdeal.τ Cert.GatherRefIdeal.sig) → Buf (Elt Ideal) ℓ) (g : Dev Cert.GatherRefIdeal.nD → PrngReg), Pre_GatherRefIdeal m →
    θ_run (Cert.GatherRefIdeal.defs (F := Ideal)) (onTc (τ := Cert.GatherRefIdeal.τ) (Cert.GatherRefIdeal.main (F := Ideal))) ⟨m, fun _ => 0, g⟩ (fun r => (∀ c : Dev Cert.GatherRefIdeal.nD,
      r.2.mem ((c.tc : Thread Cert.GatherRefIdeal.nD Cert.GatherRefIdeal.τ).loc Cert.GatherRefIdeal.main_arg0) = m ((c.tc : Thread Cert.GatherRefIdeal.nD Cert.GatherRefIdeal.τ).loc Cert.GatherRefIdeal.main_arg0))
      ∧ r.2.sem = fun _ => 0)

def quiescent_GatherRef [hGatherRef : Cert.GatherRef.Facts] : Prop :=
  ∀ (m : (ℓ : Loc Cert.GatherRef.nD Cert.GatherRef.τ Cert.GatherRef.sig) → Buf (Elt Bits) ℓ) (g : Dev Cert.GatherRef.nD → PrngReg), Pre_GatherRef m →
    θ_run (Cert.GatherRef.defs (F := Bits)) (onTc (τ := Cert.GatherRef.τ) (Cert.GatherRef.main (F := Bits))) ⟨m, fun _ => 0, g⟩ (fun r => (∀ c : Dev Cert.GatherRef.nD,
      r.2.mem ((c.tc : Thread Cert.GatherRef.nD Cert.GatherRef.τ).loc Cert.GatherRef.main_arg0) = m ((c.tc : Thread Cert.GatherRef.nD Cert.GatherRef.τ).loc Cert.GatherRef.main_arg0))
      ∧ r.2.sem = fun _ => 0)

def quiescent_Swap [hSwap : Cert.Swap.Facts] : Prop :=
  ∀ (m : (ℓ : Loc Cert.Swap.nD Cert.Swap.τ Cert.Swap.sig) → Buf (Elt Bits) ℓ) (g : Dev Cert.Swap.nD → PrngReg), Pre_Swap m →
    θ_run (Cert.Swap.defs (F := Bits)) (onTc (τ := Cert.Swap.τ) (Cert.Swap.main (F := Bits))) ⟨m, fun _ => 0, g⟩ (fun r => (∀ c : Dev Cert.Swap.nD,
      r.2.mem ((c.tc : Thread Cert.Swap.nD Cert.Swap.τ).loc Cert.Swap.main_arg0) = m ((c.tc : Thread Cert.Swap.nD Cert.Swap.τ).loc Cert.Swap.main_arg0))
      ∧ r.2.sem = fun _ => 0)

def quiescent_SwapIdeal [hSwapIdeal : Cert.SwapIdeal.Facts] : Prop :=
  ∀ (m : (ℓ : Loc Cert.SwapIdeal.nD Cert.SwapIdeal.τ Cert.SwapIdeal.sig) → Buf (Elt Ideal) ℓ) (g : Dev Cert.SwapIdeal.nD → PrngReg), Pre_SwapIdeal m →
    θ_run (Cert.SwapIdeal.defs (F := Ideal)) (onTc (τ := Cert.SwapIdeal.τ) (Cert.SwapIdeal.main (F := Ideal))) ⟨m, fun _ => 0, g⟩ (fun r => (∀ c : Dev Cert.SwapIdeal.nD,
      r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ r.2.sem = fun _ => 0)

def quiescent_SwapRefIdeal [hSwapRefIdeal : Cert.SwapRefIdeal.Facts] : Prop :=
  ∀ (m : (ℓ : Loc Cert.SwapRefIdeal.nD Cert.SwapRefIdeal.τ Cert.SwapRefIdeal.sig) → Buf (Elt Ideal) ℓ) (g : Dev Cert.SwapRefIdeal.nD → PrngReg), Pre_SwapRefIdeal m →
    θ_run (Cert.SwapRefIdeal.defs (F := Ideal)) (onTc (τ := Cert.SwapRefIdeal.τ) (Cert.SwapRefIdeal.main (F := Ideal))) ⟨m, fun _ => 0, g⟩ (fun r => (∀ c : Dev Cert.SwapRefIdeal.nD,
      r.2.mem ((c.tc : Thread Cert.SwapRefIdeal.nD Cert.SwapRefIdeal.τ).loc Cert.SwapRefIdeal.main_arg0) = m ((c.tc : Thread Cert.SwapRefIdeal.nD Cert.SwapRefIdeal.τ).loc Cert.SwapRefIdeal.main_arg0))
      ∧ r.2.sem = fun _ => 0)

def quiescent_SwapRef [hSwapRef : Cert.SwapRef.Facts] : Prop :=
  ∀ (m : (ℓ : Loc Cert.SwapRef.nD Cert.SwapRef.τ Cert.SwapRef.sig) → Buf (Elt Bits) ℓ) (g : Dev Cert.SwapRef.nD → PrngReg), Pre_SwapRef m →
    θ_run (Cert.SwapRef.defs (F := Bits)) (onTc (τ := Cert.SwapRef.τ) (Cert.SwapRef.main (F := Bits))) ⟨m, fun _ => 0, g⟩ (fun r => (∀ c : Dev Cert.SwapRef.nD,
      r.2.mem ((c.tc : Thread Cert.SwapRef.nD Cert.SwapRef.τ).loc Cert.SwapRef.main_arg0) = m ((c.tc : Thread Cert.SwapRef.nD Cert.SwapRef.τ).loc Cert.SwapRef.main_arg0))
      ∧ r.2.sem = fun _ => 0)

def quiescent_Scatter [hScatter : Cert.Scatter.Facts] : Prop :=
  ∀ (m : (ℓ : Loc Cert.Scatter.nD Cert.Scatter.τ Cert.Scatter.sig) → Buf (Elt Bits) ℓ) (g : Dev Cert.Scatter.nD → PrngReg), Pre_Scatter m →
    θ_run (Cert.Scatter.defs (F := Bits)) (onTc (τ := Cert.Scatter.τ) (Cert.Scatter.main (F := Bits))) ⟨m, fun _ => 0, g⟩ (fun r => (∀ c : Dev Cert.Scatter.nD,
      r.2.mem ((c.tc : Thread Cert.Scatter.nD Cert.Scatter.τ).loc Cert.Scatter.main_arg0) = m ((c.tc : Thread Cert.Scatter.nD Cert.Scatter.τ).loc Cert.Scatter.main_arg0))
      ∧ r.2.sem = fun _ => 0)

def quiescent_ScatterIdeal [hScatterIdeal : Cert.ScatterIdeal.Facts] : Prop :=
  ∀ (m : (ℓ : Loc Cert.ScatterIdeal.nD Cert.ScatterIdeal.τ Cert.ScatterIdeal.sig) → Buf (Elt Ideal) ℓ) (g : Dev Cert.ScatterIdeal.nD → PrngReg), Pre_ScatterIdeal m →
    θ_run (Cert.ScatterIdeal.defs (F := Ideal)) (onTc (τ := Cert.ScatterIdeal.τ) (Cert.ScatterIdeal.main (F := Ideal))) ⟨m, fun _ => 0, g⟩ (fun r => (∀ c : Dev Cert.ScatterIdeal.nD,
      r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ r.2.sem = fun _ => 0)

def quiescent_ScatterRefIdeal [hScatterRefIdeal : Cert.ScatterRefIdeal.Facts] : Prop :=
  ∀ (m : (ℓ : Loc Cert.ScatterRefIdeal.nD Cert.ScatterRefIdeal.τ Cert.ScatterRefIdeal.sig) → Buf (Elt Ideal) ℓ) (g : Dev Cert.ScatterRefIdeal.nD → PrngReg), Pre_ScatterRefIdeal m →
    θ_run (Cert.ScatterRefIdeal.defs (F := Ideal)) (onTc (τ := Cert.ScatterRefIdeal.τ) (Cert.ScatterRefIdeal.main (F := Ideal))) ⟨m, fun _ => 0, g⟩ (fun r => (∀ c : Dev Cert.ScatterRefIdeal.nD,
      r.2.mem ((c.tc : Thread Cert.ScatterRefIdeal.nD Cert.ScatterRefIdeal.τ).loc Cert.ScatterRefIdeal.main_arg0) = m ((c.tc : Thread Cert.ScatterRefIdeal.nD Cert.ScatterRefIdeal.τ).loc Cert.ScatterRefIdeal.main_arg0))
      ∧ r.2.sem = fun _ => 0)

def quiescent_ScatterRef [hScatterRef : Cert.ScatterRef.Facts] : Prop :=
  ∀ (m : (ℓ : Loc Cert.ScatterRef.nD Cert.ScatterRef.τ Cert.ScatterRef.sig) → Buf (Elt Bits) ℓ) (g : Dev Cert.ScatterRef.nD → PrngReg), Pre_ScatterRef m →
    θ_run (Cert.ScatterRef.defs (F := Bits)) (onTc (τ := Cert.ScatterRef.τ) (Cert.ScatterRef.main (F := Bits))) ⟨m, fun _ => 0, g⟩ (fun r => (∀ c : Dev Cert.ScatterRef.nD,
      r.2.mem ((c.tc : Thread Cert.ScatterRef.nD Cert.ScatterRef.τ).loc Cert.ScatterRef.main_arg0) = m ((c.tc : Thread Cert.ScatterRef.nD Cert.ScatterRef.τ).loc Cert.ScatterRef.main_arg0))
      ∧ r.2.sem = fun _ => 0)

def quiescent_Share [hShare : Cert.Share.Facts] : Prop :=
  ∀ (m : (ℓ : Loc Cert.Share.nD Cert.Share.τ Cert.Share.sig) → Buf (Elt Bits) ℓ) (g : Dev Cert.Share.nD → PrngReg), Pre_Share m →
    θ_run (Cert.Share.defs (F := Bits)) (onTc (τ := Cert.Share.τ) (Cert.Share.main (F := Bits))) ⟨m, fun _ => 0, g⟩ (fun r => (∀ c : Dev Cert.Share.nD,
      r.2.mem ((c.tc : Thread Cert.Share.nD Cert.Share.τ).loc Cert.Share.main_arg0) = m ((c.tc : Thread Cert.Share.nD Cert.Share.τ).loc Cert.Share.main_arg0))
      ∧ r.2.sem = fun _ => 0)

def quiescent_ShareIdeal [hShareIdeal : Cert.ShareIdeal.Facts] : Prop :=
  ∀ (m : (ℓ : Loc Cert.ShareIdeal.nD Cert.ShareIdeal.τ Cert.ShareIdeal.sig) → Buf (Elt Ideal) ℓ) (g : Dev Cert.ShareIdeal.nD → PrngReg), Pre_ShareIdeal m →
    θ_run (Cert.ShareIdeal.defs (F := Ideal)) (onTc (τ := Cert.ShareIdeal.τ) (Cert.ShareIdeal.main (F := Ideal))) ⟨m, fun _ => 0, g⟩ (fun r => (∀ c : Dev Cert.ShareIdeal.nD,
      r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ r.2.sem = fun _ => 0)

def quiescent_ShareRefIdeal [hShareRefIdeal : Cert.ShareRefIdeal.Facts] : Prop :=
  ∀ (m : (ℓ : Loc Cert.ShareRefIdeal.nD Cert.ShareRefIdeal.τ Cert.ShareRefIdeal.sig) → Buf (Elt Ideal) ℓ) (g : Dev Cert.ShareRefIdeal.nD → PrngReg), Pre_ShareRefIdeal m →
    θ_run (Cert.ShareRefIdeal.defs (F := Ideal)) (onTc (τ := Cert.ShareRefIdeal.τ) (Cert.ShareRefIdeal.main (F := Ideal))) ⟨m, fun _ => 0, g⟩ (fun r => (∀ c : Dev Cert.ShareRefIdeal.nD,
      r.2.mem ((c.tc : Thread Cert.ShareRefIdeal.nD Cert.ShareRefIdeal.τ).loc Cert.ShareRefIdeal.main_arg0) = m ((c.tc : Thread Cert.ShareRefIdeal.nD Cert.ShareRefIdeal.τ).loc Cert.ShareRefIdeal.main_arg0))
      ∧ r.2.sem = fun _ => 0)

def quiescent_ShareRef [hShareRef : Cert.ShareRef.Facts] : Prop :=
  ∀ (m : (ℓ : Loc Cert.ShareRef.nD Cert.ShareRef.τ Cert.ShareRef.sig) → Buf (Elt Bits) ℓ) (g : Dev Cert.ShareRef.nD → PrngReg), Pre_ShareRef m →
    θ_run (Cert.ShareRef.defs (F := Bits)) (onTc (τ := Cert.ShareRef.τ) (Cert.ShareRef.main (F := Bits))) ⟨m, fun _ => 0, g⟩ (fun r => (∀ c : Dev Cert.ShareRef.nD,
      r.2.mem ((c.tc : Thread Cert.ShareRef.nD Cert.ShareRef.τ).loc Cert.ShareRef.main_arg0) = m ((c.tc : Thread Cert.ShareRef.nD Cert.ShareRef.τ).loc Cert.ShareRef.main_arg0))
      ∧ r.2.sem = fun _ => 0)

def quiescent_Chip [hChip : Cert.Chip.Facts] : Prop :=
  ∀ (m : (ℓ : Loc Cert.Chip.nD Cert.Chip.τ Cert.Chip.sig) → Buf (Elt Bits) ℓ) (g : Dev Cert.Chip.nD → PrngReg), Pre_Chip m →
    θ_run (Cert.Chip.defs (F := Bits)) (onTc (τ := Cert.Chip.τ) (Cert.Chip.main (F := Bits))) ⟨m, fun _ => 0, g⟩ (fun r => (∀ c : Dev Cert.Chip.nD,
      r.2.mem ((c.tc : Thread Cert.Chip.nD Cert.Chip.τ).loc Cert.Chip.main_arg0) = m ((c.tc : Thread Cert.Chip.nD Cert.Chip.τ).loc Cert.Chip.main_arg0))
      ∧ r.2.sem = fun _ => 0)

def quiescent_ChipIdeal [hChipIdeal : Cert.ChipIdeal.Facts] : Prop :=
  ∀ (m : (ℓ : Loc Cert.ChipIdeal.nD Cert.ChipIdeal.τ Cert.ChipIdeal.sig) → Buf (Elt Ideal) ℓ) (g : Dev Cert.ChipIdeal.nD → PrngReg), Pre_ChipIdeal m →
    θ_run (Cert.ChipIdeal.defs (F := Ideal)) (onTc (τ := Cert.ChipIdeal.τ) (Cert.ChipIdeal.main (F := Ideal))) ⟨m, fun _ => 0, g⟩ (fun r => (∀ c : Dev Cert.ChipIdeal.nD,
      r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0))
      ∧ r.2.sem = fun _ => 0)

def quiescent_ChipRefIdeal [hChipRefIdeal : Cert.ChipRefIdeal.Facts] : Prop :=
  ∀ (m : (ℓ : Loc Cert.ChipRefIdeal.nD Cert.ChipRefIdeal.τ Cert.ChipRefIdeal.sig) → Buf (Elt Ideal) ℓ) (g : Dev Cert.ChipRefIdeal.nD → PrngReg), Pre_ChipRefIdeal m →
    θ_run (Cert.ChipRefIdeal.defs (F := Ideal)) (onTc (τ := Cert.ChipRefIdeal.τ) (Cert.ChipRefIdeal.main (F := Ideal))) ⟨m, fun _ => 0, g⟩ (fun r => (∀ c : Dev Cert.ChipRefIdeal.nD,
      r.2.mem ((c.tc : Thread Cert.ChipRefIdeal.nD Cert.ChipRefIdeal.τ).loc Cert.ChipRefIdeal.main_arg0) = m ((c.tc : Thread Cert.ChipRefIdeal.nD Cert.ChipRefIdeal.τ).loc Cert.ChipRefIdeal.main_arg0))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1)
      ∧ r.2.mem ((c.tc : Thread Cert.ProjDx.nD Cert.ProjDx.τ).loc Cert.ProjDx.main_arg2) = m ((c.tc : Thread Cert.ProjDx.nD Cert.ProjDx.τ).loc Cert.ProjDx.main_arg2))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
      ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1)
      ∧ r.2.mem ((c.tc : Thread Cert.ProjDxRefIdeal.nD Cert.ProjDxRefIdeal.τ).loc Cert.ProjDxRefIdeal.main_arg2) = m ((c.tc : Thread Cert.ProjDxRefIdeal.nD Cert.ProjDxRefIdeal.τ).loc Cert.ProjDxRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_FfnOutDx [hFfnOutDx : Cert.FfnOutDx.Facts] : Prop :=
  ∀ (m : (ℓ : Loc Cert.FfnOutDx.nD Cert.FfnOutDx.τ Cert.FfnOutDx.sig) → Buf (Elt Bits) ℓ) (g : Dev Cert.FfnOutDx.nD → PrngReg), Pre_FfnOutDx m →
    θ_run (Cert.FfnOutDx.defs (F := Bits)) (onTc (τ := Cert.FfnOutDx.τ) (Cert.FfnOutDx.main (F := Bits))) ⟨m, fun _ => 0, g⟩ (fun r => (∀ c : Dev Cert.FfnOutDx.nD,
      r.2.mem ((c.tc : Thread Cert.FfnOutDx.nD Cert.FfnOutDx.τ).loc Cert.FfnOutDx.main_arg0) = m ((c.tc : Thread Cert.FfnOutDx.nD Cert.FfnOutDx.τ).loc Cert.FfnOutDx.main_arg0)
      ∧ r.2.mem ((c.tc : Thread Cert.FfnOutDx.nD Cert.FfnOutDx.τ).loc Cert.FfnOutDx.main_arg1) = m ((c.tc : Thread Cert.FfnOutDx.nD Cert.FfnOutDx.τ).loc Cert.FfnOutDx.main_arg1))
      ∧ r.2.sem = fun _ => 0)

def quiescent_FfnOutDxIdeal [hFfnOutDxIdeal : Cert.FfnOutDxIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg), Pre_FfnOutDxIdeal m →
    θ_run (Cert.FfnOutDxIdeal.defs (F := Ideal)) (onTc (τ := Cert.FfnOutDxIdeal.τ) (Cert.FfnOutDxIdeal.main (F := Ideal))) ⟨m, fun _ => 0, g⟩ (fun r => (∀ c : Dev Cert.FfnOutDxIdeal.nD,
      r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
      ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ r.2.sem = fun _ => 0)

def quiescent_FfnOutDxRefIdeal [hFfnOutDxRefIdeal : Cert.FfnOutDxRefIdeal.Facts] : Prop :=
  ∀ (m : (ℓ : Loc Cert.FfnOutDxRefIdeal.nD Cert.FfnOutDxRefIdeal.τ Cert.FfnOutDxRefIdeal.sig) → Buf (Elt Ideal) ℓ) (g : Dev Cert.FfnOutDxRefIdeal.nD → PrngReg), Pre_FfnOutDxRefIdeal m →
    θ_run (Cert.FfnOutDxRefIdeal.defs (F := Ideal)) (onTc (τ := Cert.FfnOutDxRefIdeal.τ) (Cert.FfnOutDxRefIdeal.main (F := Ideal))) ⟨m, fun _ => 0, g⟩ (fun r => (∀ c : Dev Cert.FfnOutDxRefIdeal.nD,
      r.2.mem ((c.tc : Thread Cert.FfnOutDxRefIdeal.nD Cert.FfnOutDxRefIdeal.τ).loc Cert.FfnOutDxRefIdeal.main_arg0) = m ((c.tc : Thread Cert.FfnOutDxRefIdeal.nD Cert.FfnOutDxRefIdeal.τ).loc Cert.FfnOutDxRefIdeal.main_arg0)
      ∧ r.2.mem ((c.tc : Thread Cert.FfnOutDxRefIdeal.nD Cert.FfnOutDxRefIdeal.τ).loc Cert.FfnOutDxRefIdeal.main_arg1) = m ((c.tc : Thread Cert.FfnOutDxRefIdeal.nD Cert.FfnOutDxRefIdeal.τ).loc Cert.FfnOutDxRefIdeal.main_arg1))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_FfnInDx [hFfnInDx : Cert.FfnInDx.Facts] : Prop :=
  ∀ (m : (ℓ : Loc Cert.FfnInDx.nD Cert.FfnInDx.τ Cert.FfnInDx.sig) → Buf (Elt Bits) ℓ) (g : Dev Cert.FfnInDx.nD → PrngReg), Pre_FfnInDx m →
    θ_run (Cert.FfnInDx.defs (F := Bits)) (onTc (τ := Cert.FfnInDx.τ) (Cert.FfnInDx.main (F := Bits))) ⟨m, fun _ => 0, g⟩ (fun r => (∀ c : Dev Cert.FfnInDx.nD,
      r.2.mem ((c.tc : Thread Cert.FfnInDx.nD Cert.FfnInDx.τ).loc Cert.FfnInDx.main_arg0) = m ((c.tc : Thread Cert.FfnInDx.nD Cert.FfnInDx.τ).loc Cert.FfnInDx.main_arg0)
      ∧ r.2.mem ((c.tc : Thread Cert.FfnInDx.nD Cert.FfnInDx.τ).loc Cert.FfnInDx.main_arg1) = m ((c.tc : Thread Cert.FfnInDx.nD Cert.FfnInDx.τ).loc Cert.FfnInDx.main_arg1)
      ∧ r.2.mem ((c.tc : Thread Cert.FfnInDx.nD Cert.FfnInDx.τ).loc Cert.FfnInDx.main_arg2) = m ((c.tc : Thread Cert.FfnInDx.nD Cert.FfnInDx.τ).loc Cert.FfnInDx.main_arg2))
      ∧ r.2.sem = fun _ => 0)

def quiescent_FfnInDxIdeal [hFfnInDxIdeal : Cert.FfnInDxIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg), Pre_FfnInDxIdeal m →
    θ_run (Cert.FfnInDxIdeal.defs (F := Ideal)) (onTc (τ := Cert.FfnInDxIdeal.τ) (Cert.FfnInDxIdeal.main (F := Ideal))) ⟨m, fun _ => 0, g⟩ (fun r => (∀ c : Dev Cert.FfnInDxIdeal.nD,
      r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
      ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
      ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ r.2.sem = fun _ => 0)

def quiescent_FfnInDxRefIdeal [hFfnInDxRefIdeal : Cert.FfnInDxRefIdeal.Facts] : Prop :=
  ∀ (m : (ℓ : Loc Cert.FfnInDxRefIdeal.nD Cert.FfnInDxRefIdeal.τ Cert.FfnInDxRefIdeal.sig) → Buf (Elt Ideal) ℓ) (g : Dev Cert.FfnInDxRefIdeal.nD → PrngReg), Pre_FfnInDxRefIdeal m →
    θ_run (Cert.FfnInDxRefIdeal.defs (F := Ideal)) (onTc (τ := Cert.FfnInDxRefIdeal.τ) (Cert.FfnInDxRefIdeal.main (F := Ideal))) ⟨m, fun _ => 0, g⟩ (fun r => (∀ c : Dev Cert.FfnInDxRefIdeal.nD,
      r.2.mem ((c.tc : Thread Cert.FfnInDxRefIdeal.nD Cert.FfnInDxRefIdeal.τ).loc Cert.FfnInDxRefIdeal.main_arg0) = m ((c.tc : Thread Cert.FfnInDxRefIdeal.nD Cert.FfnInDxRefIdeal.τ).loc Cert.FfnInDxRefIdeal.main_arg0)
      ∧ r.2.mem ((c.tc : Thread Cert.FfnInDxRefIdeal.nD Cert.FfnInDxRefIdeal.τ).loc Cert.FfnInDxRefIdeal.main_arg1) = m ((c.tc : Thread Cert.FfnInDxRefIdeal.nD Cert.FfnInDxRefIdeal.τ).loc Cert.FfnInDxRefIdeal.main_arg1)
      ∧ r.2.mem ((c.tc : Thread Cert.FfnInDxRefIdeal.nD Cert.FfnInDxRefIdeal.τ).loc Cert.FfnInDxRefIdeal.main_arg2) = m ((c.tc : Thread Cert.FfnInDxRefIdeal.nD Cert.FfnInDxRefIdeal.τ).loc Cert.FfnInDxRefIdeal.main_arg2))
      ∧ r.2.sem = fun _ => 0)

def quiescent_FfnOutDw [hFfnOutDw : Cert.FfnOutDw.Facts] : Prop :=
  ∀ (m : (ℓ : Loc Cert.FfnOutDw.nD Cert.FfnOutDw.τ Cert.FfnOutDw.sig) → Buf (Elt Bits) ℓ) (g : Dev Cert.FfnOutDw.nD → PrngReg), Pre_FfnOutDw m →
    θ_run (Cert.FfnOutDw.defs (F := Bits)) (onTc (τ := Cert.FfnOutDw.τ) (Cert.FfnOutDw.main (F := Bits))) ⟨m, fun _ => 0, g⟩ (fun r => (∀ c : Dev Cert.FfnOutDw.nD,
      r.2.mem ((c.tc : Thread Cert.FfnOutDw.nD Cert.FfnOutDw.τ).loc Cert.FfnOutDw.main_arg0) = m ((c.tc : Thread Cert.FfnOutDw.nD Cert.FfnOutDw.τ).loc Cert.FfnOutDw.main_arg0)
      ∧ r.2.mem ((c.tc : Thread Cert.FfnOutDw.nD Cert.FfnOutDw.τ).loc Cert.FfnOutDw.main_arg1) = m ((c.tc : Thread Cert.FfnOutDw.nD Cert.FfnOutDw.τ).loc Cert.FfnOutDw.main_arg1))
      ∧ r.2.sem = fun _ => 0)

def quiescent_FfnOutDwIdeal [hFfnOutDwIdeal : Cert.FfnOutDwIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg), Pre_FfnOutDwIdeal m →
    θ_run (Cert.FfnOutDwIdeal.defs (F := Ideal)) (onTc (τ := Cert.FfnOutDwIdeal.τ) (Cert.FfnOutDwIdeal.main (F := Ideal))) ⟨m, fun _ => 0, g⟩ (fun r => (∀ c : Dev Cert.FfnOutDwIdeal.nD,
      r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
      ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ r.2.sem = fun _ => 0)

def quiescent_FfnOutDwRefIdeal [hFfnOutDwRefIdeal : Cert.FfnOutDwRefIdeal.Facts] : Prop :=
  ∀ (m : (ℓ : Loc Cert.FfnOutDwRefIdeal.nD Cert.FfnOutDwRefIdeal.τ Cert.FfnOutDwRefIdeal.sig) → Buf (Elt Ideal) ℓ) (g : Dev Cert.FfnOutDwRefIdeal.nD → PrngReg), Pre_FfnOutDwRefIdeal m →
    θ_run (Cert.FfnOutDwRefIdeal.defs (F := Ideal)) (onTc (τ := Cert.FfnOutDwRefIdeal.τ) (Cert.FfnOutDwRefIdeal.main (F := Ideal))) ⟨m, fun _ => 0, g⟩ (fun r => (∀ c : Dev Cert.FfnOutDwRefIdeal.nD,
      r.2.mem ((c.tc : Thread Cert.FfnOutDwRefIdeal.nD Cert.FfnOutDwRefIdeal.τ).loc Cert.FfnOutDwRefIdeal.main_arg0) = m ((c.tc : Thread Cert.FfnOutDwRefIdeal.nD Cert.FfnOutDwRefIdeal.τ).loc Cert.FfnOutDwRefIdeal.main_arg0)
      ∧ r.2.mem ((c.tc : Thread Cert.FfnOutDwRefIdeal.nD Cert.FfnOutDwRefIdeal.τ).loc Cert.FfnOutDwRefIdeal.main_arg1) = m ((c.tc : Thread Cert.FfnOutDwRefIdeal.nD Cert.FfnOutDwRefIdeal.τ).loc Cert.FfnOutDwRefIdeal.main_arg1))
      ∧ r.2.sem = fun _ => 0)

def quiescent_FfnInDw [hFfnInDw : Cert.FfnInDw.Facts] : Prop :=
  ∀ (m : (ℓ : Loc Cert.FfnInDw.nD Cert.FfnInDw.τ Cert.FfnInDw.sig) → Buf (Elt Bits) ℓ) (g : Dev Cert.FfnInDw.nD → PrngReg), Pre_FfnInDw m →
    θ_run (Cert.FfnInDw.defs (F := Bits)) (onTc (τ := Cert.FfnInDw.τ) (Cert.FfnInDw.main (F := Bits))) ⟨m, fun _ => 0, g⟩ (fun r => (∀ c : Dev Cert.FfnInDw.nD,
      r.2.mem ((c.tc : Thread Cert.FfnInDw.nD Cert.FfnInDw.τ).loc Cert.FfnInDw.main_arg0) = m ((c.tc : Thread Cert.FfnInDw.nD Cert.FfnInDw.τ).loc Cert.FfnInDw.main_arg0)
      ∧ r.2.mem ((c.tc : Thread Cert.FfnInDw.nD Cert.FfnInDw.τ).loc Cert.FfnInDw.main_arg1) = m ((c.tc : Thread Cert.FfnInDw.nD Cert.FfnInDw.τ).loc Cert.FfnInDw.main_arg1))
      ∧ r.2.sem = fun _ => 0)

def quiescent_FfnInDwIdeal [hFfnInDwIdeal : Cert.FfnInDwIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg), Pre_FfnInDwIdeal m →
    θ_run (Cert.FfnInDwIdeal.defs (F := Ideal)) (onTc (τ := Cert.FfnInDwIdeal.τ) (Cert.FfnInDwIdeal.main (F := Ideal))) ⟨m, fun _ => 0, g⟩ (fun r => (∀ c : Dev Cert.FfnInDwIdeal.nD,
      r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
      ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ r.2.sem = fun _ => 0)

def quiescent_FfnInDwRefIdeal [hFfnInDwRefIdeal : Cert.FfnInDwRefIdeal.Facts] : Prop :=
  ∀ (m : (ℓ : Loc Cert.FfnInDwRefIdeal.nD Cert.FfnInDwRefIdeal.τ Cert.FfnInDwRefIdeal.sig) → Buf (Elt Ideal) ℓ) (g : Dev Cert.FfnInDwRefIdeal.nD → PrngReg), Pre_FfnInDwRefIdeal m →
    θ_run (Cert.FfnInDwRefIdeal.defs (F := Ideal)) (onTc (τ := Cert.FfnInDwRefIdeal.τ) (Cert.FfnInDwRefIdeal.main (F := Ideal))) ⟨m, fun _ => 0, g⟩ (fun r => (∀ c : Dev Cert.FfnInDwRefIdeal.nD,
      r.2.mem ((c.tc : Thread Cert.FfnInDwRefIdeal.nD Cert.FfnInDwRefIdeal.τ).loc Cert.FfnInDwRefIdeal.main_arg0) = m ((c.tc : Thread Cert.FfnInDwRefIdeal.nD Cert.FfnInDwRefIdeal.τ).loc Cert.FfnInDwRefIdeal.main_arg0)
      ∧ r.2.mem ((c.tc : Thread Cert.FfnInDwRefIdeal.nD Cert.FfnInDwRefIdeal.τ).loc Cert.FfnInDwRefIdeal.main_arg1) = m ((c.tc : Thread Cert.FfnInDwRefIdeal.nD Cert.FfnInDwRefIdeal.τ).loc Cert.FfnInDwRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_SwiF [hSwiF : Cert.SwiF.Facts] : Prop :=
  ∀ (m : (ℓ : Loc Cert.SwiF.nD Cert.SwiF.τ Cert.SwiF.sig) → Buf (Elt Bits) ℓ) (g : Dev Cert.SwiF.nD → PrngReg), Pre_SwiF m →
    θ_run (Cert.SwiF.defs (F := Bits)) (onTc (τ := Cert.SwiF.τ) (Cert.SwiF.main (F := Bits))) ⟨m, fun _ => 0, g⟩ (fun r => (∀ c : Dev Cert.SwiF.nD,
      r.2.mem ((c.tc : Thread Cert.SwiF.nD Cert.SwiF.τ).loc Cert.SwiF.main_arg0) = m ((c.tc : Thread Cert.SwiF.nD Cert.SwiF.τ).loc Cert.SwiF.main_arg0))
      ∧ r.2.sem = fun _ => 0)

def quiescent_SwiFIdeal [hSwiFIdeal : Cert.SwiFIdeal.Facts] : Prop :=
  ∀ (m : (ℓ : Loc Cert.SwiFIdeal.nD Cert.SwiFIdeal.τ Cert.SwiFIdeal.sig) → Buf (Elt Ideal) ℓ) (g : Dev Cert.SwiFIdeal.nD → PrngReg), Pre_SwiFIdeal m →
    θ_run (Cert.SwiFIdeal.defs (F := Ideal)) (onTc (τ := Cert.SwiFIdeal.τ) (Cert.SwiFIdeal.main (F := Ideal))) ⟨m, fun _ => 0, g⟩ (fun r => (∀ c : Dev Cert.SwiFIdeal.nD,
      r.2.mem ((c.tc : Thread Cert.SwiFIdeal.nD Cert.SwiFIdeal.τ).loc Cert.SwiFIdeal.main_arg0) = m ((c.tc : Thread Cert.SwiFIdeal.nD Cert.SwiFIdeal.τ).loc Cert.SwiFIdeal.main_arg0))
      ∧ r.2.sem = fun _ => 0)

def quiescent_SwiFRefIdeal [hSwiFRefIdeal : Cert.SwiFRefIdeal.Facts] : Prop :=
  ∀ (m : (ℓ : Loc Cert.SwiFRefIdeal.nD Cert.SwiFRefIdeal.τ Cert.SwiFRefIdeal.sig) → Buf (Elt Ideal) ℓ) (g : Dev Cert.SwiFRefIdeal.nD → PrngReg), Pre_SwiFRefIdeal m →
    θ_run (Cert.SwiFRefIdeal.defs (F := Ideal)) (onTc (τ := Cert.SwiFRefIdeal.τ) (Cert.SwiFRefIdeal.main (F := Ideal))) ⟨m, fun _ => 0, g⟩ (fun r => (∀ c : Dev Cert.SwiFRefIdeal.nD,
      r.2.mem ((c.tc : Thread Cert.SwiFRefIdeal.nD Cert.SwiFRefIdeal.τ).loc Cert.SwiFRefIdeal.main_arg0) = m ((c.tc : Thread Cert.SwiFRefIdeal.nD Cert.SwiFRefIdeal.τ).loc Cert.SwiFRefIdeal.main_arg0))
      ∧ r.2.sem = fun _ => 0)

def quiescent_SwiB [hSwiB : Cert.SwiB.Facts] : Prop :=
  ∀ (m : (ℓ : Loc Cert.SwiB.nD Cert.SwiB.τ Cert.SwiB.sig) → Buf (Elt Bits) ℓ) (g : Dev Cert.SwiB.nD → PrngReg), Pre_SwiB m →
    θ_run (Cert.SwiB.defs (F := Bits)) (onTc (τ := Cert.SwiB.τ) (Cert.SwiB.main (F := Bits))) ⟨m, fun _ => 0, g⟩ (fun r => (∀ c : Dev Cert.SwiB.nD,
      r.2.mem ((c.tc : Thread Cert.SwiB.nD Cert.SwiB.τ).loc Cert.SwiB.main_arg0) = m ((c.tc : Thread Cert.SwiB.nD Cert.SwiB.τ).loc Cert.SwiB.main_arg0)
      ∧ r.2.mem ((c.tc : Thread Cert.SwiB.nD Cert.SwiB.τ).loc Cert.SwiB.main_arg1) = m ((c.tc : Thread Cert.SwiB.nD Cert.SwiB.τ).loc Cert.SwiB.main_arg1))
      ∧ r.2.sem = fun _ => 0)

def quiescent_SwiBIdeal [hSwiBIdeal : Cert.SwiBIdeal.Facts] : Prop :=
  ∀ (m : (ℓ : Loc Cert.SwiBIdeal.nD Cert.SwiBIdeal.τ Cert.SwiBIdeal.sig) → Buf (Elt Ideal) ℓ) (g : Dev Cert.SwiBIdeal.nD → PrngReg), Pre_SwiBIdeal m →
    θ_run (Cert.SwiBIdeal.defs (F := Ideal)) (onTc (τ := Cert.SwiBIdeal.τ) (Cert.SwiBIdeal.main (F := Ideal))) ⟨m, fun _ => 0, g⟩ (fun r => (∀ c : Dev Cert.SwiBIdeal.nD,
      r.2.mem ((c.tc : Thread Cert.SwiBIdeal.nD Cert.SwiBIdeal.τ).loc Cert.SwiBIdeal.main_arg0) = m ((c.tc : Thread Cert.SwiBIdeal.nD Cert.SwiBIdeal.τ).loc Cert.SwiBIdeal.main_arg0)
      ∧ r.2.mem ((c.tc : Thread Cert.SwiBIdeal.nD Cert.SwiBIdeal.τ).loc Cert.SwiBIdeal.main_arg1) = m ((c.tc : Thread Cert.SwiBIdeal.nD Cert.SwiBIdeal.τ).loc Cert.SwiBIdeal.main_arg1))
      ∧ r.2.sem = fun _ => 0)

def quiescent_SwiBRefIdeal [hSwiBRefIdeal : Cert.SwiBRefIdeal.Facts] : Prop :=
  ∀ (m : (ℓ : Loc Cert.SwiBRefIdeal.nD Cert.SwiBRefIdeal.τ Cert.SwiBRefIdeal.sig) → Buf (Elt Ideal) ℓ) (g : Dev Cert.SwiBRefIdeal.nD → PrngReg), Pre_SwiBRefIdeal m →
    θ_run (Cert.SwiBRefIdeal.defs (F := Ideal)) (onTc (τ := Cert.SwiBRefIdeal.τ) (Cert.SwiBRefIdeal.main (F := Ideal))) ⟨m, fun _ => 0, g⟩ (fun r => (∀ c : Dev Cert.SwiBRefIdeal.nD,
      r.2.mem ((c.tc : Thread Cert.SwiBRefIdeal.nD Cert.SwiBRefIdeal.τ).loc Cert.SwiBRefIdeal.main_arg0) = m ((c.tc : Thread Cert.SwiBRefIdeal.nD Cert.SwiBRefIdeal.τ).loc Cert.SwiBRefIdeal.main_arg0)
      ∧ r.2.mem ((c.tc : Thread Cert.SwiBRefIdeal.nD Cert.SwiBRefIdeal.τ).loc Cert.SwiBRefIdeal.main_arg1) = m ((c.tc : Thread Cert.SwiBRefIdeal.nD Cert.SwiBRefIdeal.τ).loc Cert.SwiBRefIdeal.main_arg1))
      ∧ r.2.sem = fun _ => 0)

def quiescent_LnF [hLnF : Cert.LnF.Facts] : Prop :=
  ∀ (m : (ℓ : Loc Cert.LnF.nD Cert.LnF.τ Cert.LnF.sig) → Buf (Elt Bits) ℓ) (g : Dev Cert.LnF.nD → PrngReg), Pre_LnF m →
    θ_run (Cert.LnF.defs (F := Bits)) (onTc (τ := Cert.LnF.τ) (Cert.LnF.main (F := Bits))) ⟨m, fun _ => 0, g⟩ (fun r => (∀ c : Dev Cert.LnF.nD,
      r.2.mem ((c.tc : Thread Cert.LnF.nD Cert.LnF.τ).loc Cert.LnF.main_arg0) = m ((c.tc : Thread Cert.LnF.nD Cert.LnF.τ).loc Cert.LnF.main_arg0)
      ∧ r.2.mem ((c.tc : Thread Cert.LnF.nD Cert.LnF.τ).loc Cert.LnF.main_arg1) = m ((c.tc : Thread Cert.LnF.nD Cert.LnF.τ).loc Cert.LnF.main_arg1)
      ∧ r.2.mem ((c.tc : Thread Cert.LnF.nD Cert.LnF.τ).loc Cert.LnF.main_arg2) = m ((c.tc : Thread Cert.LnF.nD Cert.LnF.τ).loc Cert.LnF.main_arg2)
      ∧ r.2.mem ((c.tc : Thread Cert.LnF.nD Cert.LnF.τ).loc Cert.LnF.main_arg3) = m ((c.tc : Thread Cert.LnF.nD Cert.LnF.τ).loc Cert.LnF.main_arg3))
      ∧ r.2.sem = fun _ => 0)

def quiescent_LnFIdeal [hLnFIdeal : Cert.LnFIdeal.Facts] : Prop :=
  ∀ (m : (ℓ : Loc Cert.LnFIdeal.nD Cert.LnFIdeal.τ Cert.LnFIdeal.sig) → Buf (Elt Ideal) ℓ) (g : Dev Cert.LnFIdeal.nD → PrngReg), Pre_LnFIdeal m →
    θ_run (Cert.LnFIdeal.defs (F := Ideal)) (onTc (τ := Cert.LnFIdeal.τ) (Cert.LnFIdeal.main (F := Ideal))) ⟨m, fun _ => 0, g⟩ (fun r => (∀ c : Dev Cert.LnFIdeal.nD,
      r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
      ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
      ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2)
      ∧ r.2.mem ((c.tc : Thread Cert.LnFIdeal.nD Cert.LnFIdeal.τ).loc Cert.LnFIdeal.main_arg3) = m ((c.tc : Thread Cert.LnFIdeal.nD Cert.LnFIdeal.τ).loc Cert.LnFIdeal.main_arg3))
      ∧ r.2.sem = fun _ => 0)

def quiescent_LnFRefIdeal [hLnFRefIdeal : Cert.LnFRefIdeal.Facts] : Prop :=
  ∀ (m : (ℓ : Loc Cert.LnFRefIdeal.nD Cert.LnFRefIdeal.τ Cert.LnFRefIdeal.sig) → Buf (Elt Ideal) ℓ) (g : Dev Cert.LnFRefIdeal.nD → PrngReg), Pre_LnFRefIdeal m →
    θ_run (Cert.LnFRefIdeal.defs (F := Ideal)) (onTc (τ := Cert.LnFRefIdeal.τ) (Cert.LnFRefIdeal.main (F := Ideal))) ⟨m, fun _ => 0, g⟩ (fun r => (∀ c : Dev Cert.LnFRefIdeal.nD,
      r.2.mem ((c.tc : Thread Cert.LnFRefIdeal.nD Cert.LnFRefIdeal.τ).loc Cert.LnFRefIdeal.main_arg0) = m ((c.tc : Thread Cert.LnFRefIdeal.nD Cert.LnFRefIdeal.τ).loc Cert.LnFRefIdeal.main_arg0)
      ∧ r.2.mem ((c.tc : Thread Cert.LnFRefIdeal.nD Cert.LnFRefIdeal.τ).loc Cert.LnFRefIdeal.main_arg1) = m ((c.tc : Thread Cert.LnFRefIdeal.nD Cert.LnFRefIdeal.τ).loc Cert.LnFRefIdeal.main_arg1)
      ∧ r.2.mem ((c.tc : Thread Cert.LnFRefIdeal.nD Cert.LnFRefIdeal.τ).loc Cert.LnFRefIdeal.main_arg2) = m ((c.tc : Thread Cert.LnFRefIdeal.nD Cert.LnFRefIdeal.τ).loc Cert.LnFRefIdeal.main_arg2)
      ∧ r.2.mem ((c.tc : Thread Cert.LnFRefIdeal.nD Cert.LnFRefIdeal.τ).loc Cert.LnFRefIdeal.main_arg3) = m ((c.tc : Thread Cert.LnFRefIdeal.nD Cert.LnFRefIdeal.τ).loc Cert.LnFRefIdeal.main_arg3))
      ∧ r.2.sem = fun _ => 0)

def quiescent_LnB [hLnB : Cert.LnB.Facts] : Prop :=
  ∀ (m : (ℓ : Loc Cert.LnB.nD Cert.LnB.τ Cert.LnB.sig) → Buf (Elt Bits) ℓ) (g : Dev Cert.LnB.nD → PrngReg), Pre_LnB m →
    θ_run (Cert.LnB.defs (F := Bits)) (onTc (τ := Cert.LnB.τ) (Cert.LnB.main (F := Bits))) ⟨m, fun _ => 0, g⟩ (fun r => (∀ c : Dev Cert.LnB.nD,
      r.2.mem ((c.tc : Thread Cert.LnB.nD Cert.LnB.τ).loc Cert.LnB.main_arg0) = m ((c.tc : Thread Cert.LnB.nD Cert.LnB.τ).loc Cert.LnB.main_arg0)
      ∧ r.2.mem ((c.tc : Thread Cert.LnB.nD Cert.LnB.τ).loc Cert.LnB.main_arg1) = m ((c.tc : Thread Cert.LnB.nD Cert.LnB.τ).loc Cert.LnB.main_arg1)
      ∧ r.2.mem ((c.tc : Thread Cert.LnB.nD Cert.LnB.τ).loc Cert.LnB.main_arg2) = m ((c.tc : Thread Cert.LnB.nD Cert.LnB.τ).loc Cert.LnB.main_arg2))
      ∧ r.2.sem = fun _ => 0)

def quiescent_LnBIdeal [hLnBIdeal : Cert.LnBIdeal.Facts] : Prop :=
  ∀ (m : (ℓ : Loc Cert.LnBIdeal.nD Cert.LnBIdeal.τ Cert.LnBIdeal.sig) → Buf (Elt Ideal) ℓ) (g : Dev Cert.LnBIdeal.nD → PrngReg), Pre_LnBIdeal m →
    θ_run (Cert.LnBIdeal.defs (F := Ideal)) (onTc (τ := Cert.LnBIdeal.τ) (Cert.LnBIdeal.main (F := Ideal))) ⟨m, fun _ => 0, g⟩ (fun r => (∀ c : Dev Cert.LnBIdeal.nD,
      r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
      ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
      ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2))
      ∧ r.2.sem = fun _ => 0)

def quiescent_LnBRefIdeal [hLnBRefIdeal : Cert.LnBRefIdeal.Facts] : Prop :=
  ∀ (m : (ℓ : Loc Cert.LnBRefIdeal.nD Cert.LnBRefIdeal.τ Cert.LnBRefIdeal.sig) → Buf (Elt Ideal) ℓ) (g : Dev Cert.LnBRefIdeal.nD → PrngReg), Pre_LnBRefIdeal m →
    θ_run (Cert.LnBRefIdeal.defs (F := Ideal)) (onTc (τ := Cert.LnBRefIdeal.τ) (Cert.LnBRefIdeal.main (F := Ideal))) ⟨m, fun _ => 0, g⟩ (fun r => (∀ c : Dev Cert.LnBRefIdeal.nD,
      r.2.mem ((c.tc : Thread Cert.LnBRefIdeal.nD Cert.LnBRefIdeal.τ).loc Cert.LnBRefIdeal.main_arg0) = m ((c.tc : Thread Cert.LnBRefIdeal.nD Cert.LnBRefIdeal.τ).loc Cert.LnBRefIdeal.main_arg0)
      ∧ r.2.mem ((c.tc : Thread Cert.LnBRefIdeal.nD Cert.LnBRefIdeal.τ).loc Cert.LnBRefIdeal.main_arg1) = m ((c.tc : Thread Cert.LnBRefIdeal.nD Cert.LnBRefIdeal.τ).loc Cert.LnBRefIdeal.main_arg1)
      ∧ r.2.mem ((c.tc : Thread Cert.LnBRefIdeal.nD Cert.LnBRefIdeal.τ).loc Cert.LnBRefIdeal.main_arg2) = m ((c.tc : Thread Cert.LnBRefIdeal.nD Cert.LnBRefIdeal.τ).loc Cert.LnBRefIdeal.main_arg2))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_ConvF [hConvF : Cert.ConvF.Facts] : Prop :=
  ∀ (m : (ℓ : Loc Cert.ConvF.nD Cert.ConvF.τ Cert.ConvF.sig) → Buf (Elt Bits) ℓ) (g : Dev Cert.ConvF.nD → PrngReg), Pre_ConvF m →
    θ_run (Cert.ConvF.defs (F := Bits)) (onTc (τ := Cert.ConvF.τ) (Cert.ConvF.main (F := Bits))) ⟨m, fun _ => 0, g⟩ (fun r => (∀ c : Dev Cert.ConvF.nD,
      r.2.mem ((c.tc : Thread Cert.ConvF.nD Cert.ConvF.τ).loc Cert.ConvF.main_arg0) = m ((c.tc : Thread Cert.ConvF.nD Cert.ConvF.τ).loc Cert.ConvF.main_arg0)
      ∧ r.2.mem ((c.tc : Thread Cert.ConvF.nD Cert.ConvF.τ).loc Cert.ConvF.main_arg1) = m ((c.tc : Thread Cert.ConvF.nD Cert.ConvF.τ).loc Cert.ConvF.main_arg1))
      ∧ r.2.sem = fun _ => 0)

def quiescent_ConvFIdeal [hConvFIdeal : Cert.ConvFIdeal.Facts] : Prop :=
  ∀ (m : (ℓ : Loc Cert.ConvFIdeal.nD Cert.ConvFIdeal.τ Cert.ConvFIdeal.sig) → Buf (Elt Ideal) ℓ) (g : Dev Cert.ConvFIdeal.nD → PrngReg), Pre_ConvFIdeal m →
    θ_run (Cert.ConvFIdeal.defs (F := Ideal)) (onTc (τ := Cert.ConvFIdeal.τ) (Cert.ConvFIdeal.main (F := Ideal))) ⟨m, fun _ => 0, g⟩ (fun r => (∀ c : Dev Cert.ConvFIdeal.nD,
      r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
      ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ r.2.sem = fun _ => 0)

def quiescent_ConvFRefIdeal [hConvFRefIdeal : Cert.ConvFRefIdeal.Facts] : Prop :=
  ∀ (m : (ℓ : Loc Cert.ConvFRefIdeal.nD Cert.ConvFRefIdeal.τ Cert.ConvFRefIdeal.sig) → Buf (Elt Ideal) ℓ) (g : Dev Cert.ConvFRefIdeal.nD → PrngReg), Pre_ConvFRefIdeal m →
    θ_run (Cert.ConvFRefIdeal.defs (F := Ideal)) (onTc (τ := Cert.ConvFRefIdeal.τ) (Cert.ConvFRefIdeal.main (F := Ideal))) ⟨m, fun _ => 0, g⟩ (fun r => (∀ c : Dev Cert.ConvFRefIdeal.nD,
      r.2.mem ((c.tc : Thread Cert.ConvFRefIdeal.nD Cert.ConvFRefIdeal.τ).loc Cert.ConvFRefIdeal.main_arg0) = m ((c.tc : Thread Cert.ConvFRefIdeal.nD Cert.ConvFRefIdeal.τ).loc Cert.ConvFRefIdeal.main_arg0)
      ∧ r.2.mem ((c.tc : Thread Cert.ConvFRefIdeal.nD Cert.ConvFRefIdeal.τ).loc Cert.ConvFRefIdeal.main_arg1) = m ((c.tc : Thread Cert.ConvFRefIdeal.nD Cert.ConvFRefIdeal.τ).loc Cert.ConvFRefIdeal.main_arg1))
      ∧ r.2.sem = fun _ => 0)

def quiescent_ConvB [hConvB : Cert.ConvB.Facts] : Prop :=
  ∀ (m : (ℓ : Loc Cert.ConvB.nD Cert.ConvB.τ Cert.ConvB.sig) → Buf (Elt Bits) ℓ) (g : Dev Cert.ConvB.nD → PrngReg), Pre_ConvB m →
    θ_run (Cert.ConvB.defs (F := Bits)) (onTc (τ := Cert.ConvB.τ) (Cert.ConvB.main (F := Bits))) ⟨m, fun _ => 0, g⟩ (fun r => (∀ c : Dev Cert.ConvB.nD,
      r.2.mem ((c.tc : Thread Cert.ConvB.nD Cert.ConvB.τ).loc Cert.ConvB.main_arg0) = m ((c.tc : Thread Cert.ConvB.nD Cert.ConvB.τ).loc Cert.ConvB.main_arg0)
      ∧ r.2.mem ((c.tc : Thread Cert.ConvB.nD Cert.ConvB.τ).loc Cert.ConvB.main_arg1) = m ((c.tc : Thread Cert.ConvB.nD Cert.ConvB.τ).loc Cert.ConvB.main_arg1)
      ∧ r.2.mem ((c.tc : Thread Cert.ConvB.nD Cert.ConvB.τ).loc Cert.ConvB.main_arg2) = m ((c.tc : Thread Cert.ConvB.nD Cert.ConvB.τ).loc Cert.ConvB.main_arg2))
      ∧ r.2.sem = fun _ => 0)

def quiescent_ConvBIdeal [hConvBIdeal : Cert.ConvBIdeal.Facts] : Prop :=
  ∀ (m : (ℓ : Loc Cert.ConvBIdeal.nD Cert.ConvBIdeal.τ Cert.ConvBIdeal.sig) → Buf (Elt Ideal) ℓ) (g : Dev Cert.ConvBIdeal.nD → PrngReg), Pre_ConvBIdeal m →
    θ_run (Cert.ConvBIdeal.defs (F := Ideal)) (onTc (τ := Cert.ConvBIdeal.τ) (Cert.ConvBIdeal.main (F := Ideal))) ⟨m, fun _ => 0, g⟩ (fun r => (∀ c : Dev Cert.ConvBIdeal.nD,
      r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
      ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
      ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ r.2.sem = fun _ => 0)

def quiescent_ConvBRefIdeal [hConvBRefIdeal : Cert.ConvBRefIdeal.Facts] : Prop :=
  ∀ (m : (ℓ : Loc Cert.ConvBRefIdeal.nD Cert.ConvBRefIdeal.τ Cert.ConvBRefIdeal.sig) → Buf (Elt Ideal) ℓ) (g : Dev Cert.ConvBRefIdeal.nD → PrngReg), Pre_ConvBRefIdeal m →
    θ_run (Cert.ConvBRefIdeal.defs (F := Ideal)) (onTc (τ := Cert.ConvBRefIdeal.τ) (Cert.ConvBRefIdeal.main (F := Ideal))) ⟨m, fun _ => 0, g⟩ (fun r => (∀ c : Dev Cert.ConvBRefIdeal.nD,
      r.2.mem ((c.tc : Thread Cert.ConvBRefIdeal.nD Cert.ConvBRefIdeal.τ).loc Cert.ConvBRefIdeal.main_arg0) = m ((c.tc : Thread Cert.ConvBRefIdeal.nD Cert.ConvBRefIdeal.τ).loc Cert.ConvBRefIdeal.main_arg0)
      ∧ r.2.mem ((c.tc : Thread Cert.ConvBRefIdeal.nD Cert.ConvBRefIdeal.τ).loc Cert.ConvBRefIdeal.main_arg1) = m ((c.tc : Thread Cert.ConvBRefIdeal.nD Cert.ConvBRefIdeal.τ).loc Cert.ConvBRefIdeal.main_arg1)
      ∧ r.2.mem ((c.tc : Thread Cert.ConvBRefIdeal.nD Cert.ConvBRefIdeal.τ).loc Cert.ConvBRefIdeal.main_arg2) = m ((c.tc : Thread Cert.ConvBRefIdeal.nD Cert.ConvBRefIdeal.τ).loc Cert.ConvBRefIdeal.main_arg2))
      ∧ r.2.sem = fun _ => 0)

def quiescent_DilD [hDilD : Cert.DilD.Facts] : Prop :=
  ∀ (m : (ℓ : Loc Cert.DilD.nD Cert.DilD.τ Cert.DilD.sig) → Buf (Elt Bits) ℓ) (g : Dev Cert.DilD.nD → PrngReg), Pre_DilD m →
    θ_run (Cert.DilD.defs (F := Bits)) (onTc (τ := Cert.DilD.τ) (Cert.DilD.main (F := Bits))) ⟨m, fun _ => 0, g⟩ (fun r => (∀ c : Dev Cert.DilD.nD,
      r.2.mem ((c.tc : Thread Cert.DilD.nD Cert.DilD.τ).loc Cert.DilD.main_arg0) = m ((c.tc : Thread Cert.DilD.nD Cert.DilD.τ).loc Cert.DilD.main_arg0)
      ∧ r.2.mem ((c.tc : Thread Cert.DilD.nD Cert.DilD.τ).loc Cert.DilD.main_arg1) = m ((c.tc : Thread Cert.DilD.nD Cert.DilD.τ).loc Cert.DilD.main_arg1))
      ∧ r.2.sem = fun _ => 0)

def quiescent_DilDIdeal [hDilDIdeal : Cert.DilDIdeal.Facts] : Prop :=
  ∀ (m : (ℓ : Loc Cert.DilDIdeal.nD Cert.DilDIdeal.τ Cert.DilDIdeal.sig) → Buf (Elt Ideal) ℓ) (g : Dev Cert.DilDIdeal.nD → PrngReg), Pre_DilDIdeal m →
    θ_run (Cert.DilDIdeal.defs (F := Ideal)) (onTc (τ := Cert.DilDIdeal.τ) (Cert.DilDIdeal.main (F := Ideal))) ⟨m, fun _ => 0, g⟩ (fun r => (∀ c : Dev Cert.DilDIdeal.nD,
      r.2.mem ((c.tc : Thread Cert.DilDIdeal.nD Cert.DilDIdeal.τ).loc Cert.DilDIdeal.main_arg0) = m ((c.tc : Thread Cert.DilDIdeal.nD Cert.DilDIdeal.τ).loc Cert.DilDIdeal.main_arg0)
      ∧ r.2.mem ((c.tc : Thread Cert.DilDIdeal.nD Cert.DilDIdeal.τ).loc Cert.DilDIdeal.main_arg1) = m ((c.tc : Thread Cert.DilDIdeal.nD Cert.DilDIdeal.τ).loc Cert.DilDIdeal.main_arg1))
      ∧ r.2.sem = fun _ => 0)

def quiescent_DilDRefIdeal [hDilDRefIdeal : Cert.DilDRefIdeal.Facts] : Prop :=
  ∀ (m : (ℓ : Loc Cert.DilDRefIdeal.nD Cert.DilDRefIdeal.τ Cert.DilDRefIdeal.sig) → Buf (Elt Ideal) ℓ) (g : Dev Cert.DilDRefIdeal.nD → PrngReg), Pre_DilDRefIdeal m →
    θ_run (Cert.DilDRefIdeal.defs (F := Ideal)) (onTc (τ := Cert.DilDRefIdeal.τ) (Cert.DilDRefIdeal.main (F := Ideal))) ⟨m, fun _ => 0, g⟩ (fun r => (∀ c : Dev Cert.DilDRefIdeal.nD,
      r.2.mem ((c.tc : Thread Cert.DilDRefIdeal.nD Cert.DilDRefIdeal.τ).loc Cert.DilDRefIdeal.main_arg0) = m ((c.tc : Thread Cert.DilDRefIdeal.nD Cert.DilDRefIdeal.τ).loc Cert.DilDRefIdeal.main_arg0)
      ∧ r.2.mem ((c.tc : Thread Cert.DilDRefIdeal.nD Cert.DilDRefIdeal.τ).loc Cert.DilDRefIdeal.main_arg1) = m ((c.tc : Thread Cert.DilDRefIdeal.nD Cert.DilDRefIdeal.τ).loc Cert.DilDRefIdeal.main_arg1))
      ∧ r.2.sem = fun _ => 0)

def quiescent_DilM [hDilM : Cert.DilM.Facts] : Prop :=
  ∀ (m : (ℓ : Loc Cert.DilM.nD Cert.DilM.τ Cert.DilM.sig) → Buf (Elt Bits) ℓ) (g : Dev Cert.DilM.nD → PrngReg), Pre_DilM m →
    θ_run (Cert.DilM.defs (F := Bits)) (onTc (τ := Cert.DilM.τ) (Cert.DilM.main (F := Bits))) ⟨m, fun _ => 0, g⟩ (fun r => (∀ c : Dev Cert.DilM.nD,
      r.2.mem ((c.tc : Thread Cert.DilM.nD Cert.DilM.τ).loc Cert.DilM.main_arg0) = m ((c.tc : Thread Cert.DilM.nD Cert.DilM.τ).loc Cert.DilM.main_arg0)
      ∧ r.2.mem ((c.tc : Thread Cert.DilM.nD Cert.DilM.τ).loc Cert.DilM.main_arg1) = m ((c.tc : Thread Cert.DilM.nD Cert.DilM.τ).loc Cert.DilM.main_arg1))
      ∧ r.2.sem = fun _ => 0)

def quiescent_DilMIdeal [hDilMIdeal : Cert.DilMIdeal.Facts] : Prop :=
  ∀ (m : (ℓ : Loc Cert.DilMIdeal.nD Cert.DilMIdeal.τ Cert.DilMIdeal.sig) → Buf (Elt Ideal) ℓ) (g : Dev Cert.DilMIdeal.nD → PrngReg), Pre_DilMIdeal m →
    θ_run (Cert.DilMIdeal.defs (F := Ideal)) (onTc (τ := Cert.DilMIdeal.τ) (Cert.DilMIdeal.main (F := Ideal))) ⟨m, fun _ => 0, g⟩ (fun r => (∀ c : Dev Cert.DilMIdeal.nD,
      r.2.mem ((c.tc : Thread Cert.DilMIdeal.nD Cert.DilMIdeal.τ).loc Cert.DilMIdeal.main_arg0) = m ((c.tc : Thread Cert.DilMIdeal.nD Cert.DilMIdeal.τ).loc Cert.DilMIdeal.main_arg0)
      ∧ r.2.mem ((c.tc : Thread Cert.DilMIdeal.nD Cert.DilMIdeal.τ).loc Cert.DilMIdeal.main_arg1) = m ((c.tc : Thread Cert.DilMIdeal.nD Cert.DilMIdeal.τ).loc Cert.DilMIdeal.main_arg1))
      ∧ r.2.sem = fun _ => 0)

def quiescent_DilMRefIdeal [hDilMRefIdeal : Cert.DilMRefIdeal.Facts] : Prop :=
  ∀ (m : (ℓ : Loc Cert.DilMRefIdeal.nD Cert.DilMRefIdeal.τ Cert.DilMRefIdeal.sig) → Buf (Elt Ideal) ℓ) (g : Dev Cert.DilMRefIdeal.nD → PrngReg), Pre_DilMRefIdeal m →
    θ_run (Cert.DilMRefIdeal.defs (F := Ideal)) (onTc (τ := Cert.DilMRefIdeal.τ) (Cert.DilMRefIdeal.main (F := Ideal))) ⟨m, fun _ => 0, g⟩ (fun r => (∀ c : Dev Cert.DilMRefIdeal.nD,
      r.2.mem ((c.tc : Thread Cert.DilMRefIdeal.nD Cert.DilMRefIdeal.τ).loc Cert.DilMRefIdeal.main_arg0) = m ((c.tc : Thread Cert.DilMRefIdeal.nD Cert.DilMRefIdeal.τ).loc Cert.DilMRefIdeal.main_arg0)
      ∧ r.2.mem ((c.tc : Thread Cert.DilMRefIdeal.nD Cert.DilMRefIdeal.τ).loc Cert.DilMRefIdeal.main_arg1) = m ((c.tc : Thread Cert.DilMRefIdeal.nD Cert.DilMRefIdeal.τ).loc Cert.DilMRefIdeal.main_arg1))
      ∧ r.2.sem = fun _ => 0)

def quiescent_FoxF [hFoxF : Cert.FoxF.Facts] : Prop :=
  ∀ (m : (ℓ : Loc Cert.FoxF.nD Cert.FoxF.τ Cert.FoxF.sig) → Buf (Elt Bits) ℓ) (g : Dev Cert.FoxF.nD → PrngReg), Pre_FoxF m →
    θ_run (Cert.FoxF.defs (F := Bits)) (onTc (τ := Cert.FoxF.τ) (Cert.FoxF.main (F := Bits))) ⟨m, fun _ => 0, g⟩ (fun r => (∀ c : Dev Cert.FoxF.nD,
      r.2.mem ((c.tc : Thread Cert.FoxF.nD Cert.FoxF.τ).loc Cert.FoxF.main_arg0) = m ((c.tc : Thread Cert.FoxF.nD Cert.FoxF.τ).loc Cert.FoxF.main_arg0)
      ∧ r.2.mem ((c.tc : Thread Cert.FoxF.nD Cert.FoxF.τ).loc Cert.FoxF.main_arg1) = m ((c.tc : Thread Cert.FoxF.nD Cert.FoxF.τ).loc Cert.FoxF.main_arg1))
      ∧ r.2.sem = fun _ => 0)

def quiescent_FoxFIdeal [hFoxFIdeal : Cert.FoxFIdeal.Facts] : Prop :=
  ∀ (m : (ℓ : Loc Cert.FoxFIdeal.nD Cert.FoxFIdeal.τ Cert.FoxFIdeal.sig) → Buf (Elt Ideal) ℓ) (g : Dev Cert.FoxFIdeal.nD → PrngReg), Pre_FoxFIdeal m →
    θ_run (Cert.FoxFIdeal.defs (F := Ideal)) (onTc (τ := Cert.FoxFIdeal.τ) (Cert.FoxFIdeal.main (F := Ideal))) ⟨m, fun _ => 0, g⟩ (fun r => (∀ c : Dev Cert.FoxFIdeal.nD,
      r.2.mem ((c.tc : Thread Cert.FoxFIdeal.nD Cert.FoxFIdeal.τ).loc Cert.FoxFIdeal.main_arg0) = m ((c.tc : Thread Cert.FoxFIdeal.nD Cert.FoxFIdeal.τ).loc Cert.FoxFIdeal.main_arg0)
      ∧ r.2.mem ((c.tc : Thread Cert.FoxFIdeal.nD Cert.FoxFIdeal.τ).loc Cert.FoxFIdeal.main_arg1) = m ((c.tc : Thread Cert.FoxFIdeal.nD Cert.FoxFIdeal.τ).loc Cert.FoxFIdeal.main_arg1))
      ∧ r.2.sem = fun _ => 0)

def quiescent_FoxFRefIdeal [hFoxFRefIdeal : Cert.FoxFRefIdeal.Facts] : Prop :=
  ∀ (m : (ℓ : Loc Cert.FoxFRefIdeal.nD Cert.FoxFRefIdeal.τ Cert.FoxFRefIdeal.sig) → Buf (Elt Ideal) ℓ) (g : Dev Cert.FoxFRefIdeal.nD → PrngReg), Pre_FoxFRefIdeal m →
    θ_run (Cert.FoxFRefIdeal.defs (F := Ideal)) (onTc (τ := Cert.FoxFRefIdeal.τ) (Cert.FoxFRefIdeal.main (F := Ideal))) ⟨m, fun _ => 0, g⟩ (fun r => (∀ c : Dev Cert.FoxFRefIdeal.nD,
      r.2.mem ((c.tc : Thread Cert.FoxFRefIdeal.nD Cert.FoxFRefIdeal.τ).loc Cert.FoxFRefIdeal.main_arg0) = m ((c.tc : Thread Cert.FoxFRefIdeal.nD Cert.FoxFRefIdeal.τ).loc Cert.FoxFRefIdeal.main_arg0)
      ∧ r.2.mem ((c.tc : Thread Cert.FoxFRefIdeal.nD Cert.FoxFRefIdeal.τ).loc Cert.FoxFRefIdeal.main_arg1) = m ((c.tc : Thread Cert.FoxFRefIdeal.nD Cert.FoxFRefIdeal.τ).loc Cert.FoxFRefIdeal.main_arg1))
      ∧ r.2.sem = fun _ => 0)

def quiescent_FoxB [hFoxB : Cert.FoxB.Facts] : Prop :=
  ∀ (m : (ℓ : Loc Cert.FoxB.nD Cert.FoxB.τ Cert.FoxB.sig) → Buf (Elt Bits) ℓ) (g : Dev Cert.FoxB.nD → PrngReg), Pre_FoxB m →
    θ_run (Cert.FoxB.defs (F := Bits)) (onTc (τ := Cert.FoxB.τ) (Cert.FoxB.main (F := Bits))) ⟨m, fun _ => 0, g⟩ (fun r => (∀ c : Dev Cert.FoxB.nD,
      r.2.mem ((c.tc : Thread Cert.FoxB.nD Cert.FoxB.τ).loc Cert.FoxB.main_arg0) = m ((c.tc : Thread Cert.FoxB.nD Cert.FoxB.τ).loc Cert.FoxB.main_arg0)
      ∧ r.2.mem ((c.tc : Thread Cert.FoxB.nD Cert.FoxB.τ).loc Cert.FoxB.main_arg1) = m ((c.tc : Thread Cert.FoxB.nD Cert.FoxB.τ).loc Cert.FoxB.main_arg1)
      ∧ r.2.mem ((c.tc : Thread Cert.FoxB.nD Cert.FoxB.τ).loc Cert.FoxB.main_arg2) = m ((c.tc : Thread Cert.FoxB.nD Cert.FoxB.τ).loc Cert.FoxB.main_arg2))
      ∧ r.2.sem = fun _ => 0)

def quiescent_FoxBIdeal [hFoxBIdeal : Cert.FoxBIdeal.Facts] : Prop :=
  ∀ (m : (ℓ : Loc Cert.FoxBIdeal.nD Cert.FoxBIdeal.τ Cert.FoxBIdeal.sig) → Buf (Elt Ideal) ℓ) (g : Dev Cert.FoxBIdeal.nD → PrngReg), Pre_FoxBIdeal m →
    θ_run (Cert.FoxBIdeal.defs (F := Ideal)) (onTc (τ := Cert.FoxBIdeal.τ) (Cert.FoxBIdeal.main (F := Ideal))) ⟨m, fun _ => 0, g⟩ (fun r => (∀ c : Dev Cert.FoxBIdeal.nD,
      r.2.mem ((c.tc : Thread Cert.FoxBIdeal.nD Cert.FoxBIdeal.τ).loc Cert.FoxBIdeal.main_arg0) = m ((c.tc : Thread Cert.FoxBIdeal.nD Cert.FoxBIdeal.τ).loc Cert.FoxBIdeal.main_arg0)
      ∧ r.2.mem ((c.tc : Thread Cert.FoxBIdeal.nD Cert.FoxBIdeal.τ).loc Cert.FoxBIdeal.main_arg1) = m ((c.tc : Thread Cert.FoxBIdeal.nD Cert.FoxBIdeal.τ).loc Cert.FoxBIdeal.main_arg1)
      ∧ r.2.mem ((c.tc : Thread Cert.FoxBIdeal.nD Cert.FoxBIdeal.τ).loc Cert.FoxBIdeal.main_arg2) = m ((c.tc : Thread Cert.FoxBIdeal.nD Cert.FoxBIdeal.τ).loc Cert.FoxBIdeal.main_arg2))
      ∧ r.2.sem = fun _ => 0)

def quiescent_FoxBIdeal_pre_below_infinity [hFoxBIdeal : Cert.FoxBIdeal.Facts] [hPre_below_infinity : Cert.Pre_below_infinity.Facts] : Prop :=
  ∀ (m : (ℓ : Loc Cert.FoxBIdeal.nD Cert.FoxBIdeal.τ Cert.FoxBIdeal.sig) → Buf (Elt Ideal) ℓ) (g : Dev Cert.FoxBIdeal.nD → PrngReg), Pre_FoxBIdeal_below_infinity m →
    θ_run (Cert.FoxBIdeal.defs (F := Ideal)) (onTc (τ := Cert.FoxBIdeal.τ) (Cert.FoxBIdeal.main (F := Ideal))) ⟨m, fun _ => 0, g⟩ (fun r => (∀ c : Dev Cert.FoxBIdeal.nD,
      r.2.mem ((c.tc : Thread Cert.FoxBIdeal.nD Cert.FoxBIdeal.τ).loc Cert.FoxBIdeal.main_arg0) = m ((c.tc : Thread Cert.FoxBIdeal.nD Cert.FoxBIdeal.τ).loc Cert.FoxBIdeal.main_arg0)
      ∧ r.2.mem ((c.tc : Thread Cert.FoxBIdeal.nD Cert.FoxBIdeal.τ).loc Cert.FoxBIdeal.main_arg1) = m ((c.tc : Thread Cert.FoxBIdeal.nD Cert.FoxBIdeal.τ).loc Cert.FoxBIdeal.main_arg1)
      ∧ r.2.mem ((c.tc : Thread Cert.FoxBIdeal.nD Cert.FoxBIdeal.τ).loc Cert.FoxBIdeal.main_arg2) = m ((c.tc : Thread Cert.FoxBIdeal.nD Cert.FoxBIdeal.τ).loc Cert.FoxBIdeal.main_arg2))
      ∧ r.2.sem = fun _ => 0)

def quiescent_FoxBRefIdeal [hFoxBRefIdeal : Cert.FoxBRefIdeal.Facts] : Prop :=
  ∀ (m : (ℓ : Loc Cert.FoxBRefIdeal.nD Cert.FoxBRefIdeal.τ Cert.FoxBRefIdeal.sig) → Buf (Elt Ideal) ℓ) (g : Dev Cert.FoxBRefIdeal.nD → PrngReg), Pre_FoxBRefIdeal m →
    θ_run (Cert.FoxBRefIdeal.defs (F := Ideal)) (onTc (τ := Cert.FoxBRefIdeal.τ) (Cert.FoxBRefIdeal.main (F := Ideal))) ⟨m, fun _ => 0, g⟩ (fun r => (∀ c : Dev Cert.FoxBRefIdeal.nD,
      r.2.mem ((c.tc : Thread Cert.FoxBRefIdeal.nD Cert.FoxBRefIdeal.τ).loc Cert.FoxBRefIdeal.main_arg0) = m ((c.tc : Thread Cert.FoxBRefIdeal.nD Cert.FoxBRefIdeal.τ).loc Cert.FoxBRefIdeal.main_arg0)
      ∧ r.2.mem ((c.tc : Thread Cert.FoxBRefIdeal.nD Cert.FoxBRefIdeal.τ).loc Cert.FoxBRefIdeal.main_arg1) = m ((c.tc : Thread Cert.FoxBRefIdeal.nD Cert.FoxBRefIdeal.τ).loc Cert.FoxBRefIdeal.main_arg1)
      ∧ r.2.mem ((c.tc : Thread Cert.FoxBRefIdeal.nD Cert.FoxBRefIdeal.τ).loc Cert.FoxBRefIdeal.main_arg2) = m ((c.tc : Thread Cert.FoxBRefIdeal.nD Cert.FoxBRefIdeal.τ).loc Cert.FoxBRefIdeal.main_arg2))
      ∧ r.2.sem = fun _ => 0)

def quiescent_FoxBRefIdeal_pre_below_infinity [hFoxBRefIdeal : Cert.FoxBRefIdeal.Facts] [hPre_below_infinity : Cert.Pre_below_infinity.Facts] : Prop :=
  ∀ (m : (ℓ : Loc Cert.FoxBRefIdeal.nD Cert.FoxBRefIdeal.τ Cert.FoxBRefIdeal.sig) → Buf (Elt Ideal) ℓ) (g : Dev Cert.FoxBRefIdeal.nD → PrngReg), Pre_FoxBRefIdeal_below_infinity m →
    θ_run (Cert.FoxBRefIdeal.defs (F := Ideal)) (onTc (τ := Cert.FoxBRefIdeal.τ) (Cert.FoxBRefIdeal.main (F := Ideal))) ⟨m, fun _ => 0, g⟩ (fun r => (∀ c : Dev Cert.FoxBRefIdeal.nD,
      r.2.mem ((c.tc : Thread Cert.FoxBRefIdeal.nD Cert.FoxBRefIdeal.τ).loc Cert.FoxBRefIdeal.main_arg0) = m ((c.tc : Thread Cert.FoxBRefIdeal.nD Cert.FoxBRefIdeal.τ).loc Cert.FoxBRefIdeal.main_arg0)
      ∧ r.2.mem ((c.tc : Thread Cert.FoxBRefIdeal.nD Cert.FoxBRefIdeal.τ).loc Cert.FoxBRefIdeal.main_arg1) = m ((c.tc : Thread Cert.FoxBRefIdeal.nD Cert.FoxBRefIdeal.τ).loc Cert.FoxBRefIdeal.main_arg1)
      ∧ r.2.mem ((c.tc : Thread Cert.FoxBRefIdeal.nD Cert.FoxBRefIdeal.τ).loc Cert.FoxBRefIdeal.main_arg2) = m ((c.tc : Thread Cert.FoxBRefIdeal.nD Cert.FoxBRefIdeal.τ).loc Cert.FoxBRefIdeal.main_arg2))
      ∧ r.2.sem = fun _ => 0)

def quiescent_DilB [hDilB : Cert.DilB.Facts] : Prop :=
  ∀ (m : (ℓ : Loc Cert.DilB.nD Cert.DilB.τ Cert.DilB.sig) → Buf (Elt Bits) ℓ) (g : Dev Cert.DilB.nD → PrngReg), Pre_DilB m →
    θ_run (Cert.DilB.defs (F := Bits)) (onTc (τ := Cert.DilB.τ) (Cert.DilB.main (F := Bits))) ⟨m, fun _ => 0, g⟩ (fun r => (∀ c : Dev Cert.DilB.nD,
      r.2.mem ((c.tc : Thread Cert.DilB.nD Cert.DilB.τ).loc Cert.DilB.main_arg0) = m ((c.tc : Thread Cert.DilB.nD Cert.DilB.τ).loc Cert.DilB.main_arg0)
      ∧ r.2.mem ((c.tc : Thread Cert.DilB.nD Cert.DilB.τ).loc Cert.DilB.main_arg1) = m ((c.tc : Thread Cert.DilB.nD Cert.DilB.τ).loc Cert.DilB.main_arg1))
      ∧ r.2.sem = fun _ => 0)

def quiescent_DilBIdeal [hDilBIdeal : Cert.DilBIdeal.Facts] : Prop :=
  ∀ (m : (ℓ : Loc Cert.DilBIdeal.nD Cert.DilBIdeal.τ Cert.DilBIdeal.sig) → Buf (Elt Ideal) ℓ) (g : Dev Cert.DilBIdeal.nD → PrngReg), Pre_DilBIdeal m →
    θ_run (Cert.DilBIdeal.defs (F := Ideal)) (onTc (τ := Cert.DilBIdeal.τ) (Cert.DilBIdeal.main (F := Ideal))) ⟨m, fun _ => 0, g⟩ (fun r => (∀ c : Dev Cert.DilBIdeal.nD,
      r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0)
      ∧ r.2.mem ((c.tc : Thread Cert.DilBIdeal.nD Cert.DilBIdeal.τ).loc Cert.DilBIdeal.main_arg1) = m ((c.tc : Thread Cert.DilBIdeal.nD Cert.DilBIdeal.τ).loc Cert.DilBIdeal.main_arg1))
      ∧ r.2.sem = fun _ => 0)

def quiescent_DilBRefIdeal [hDilBRefIdeal : Cert.DilBRefIdeal.Facts] : Prop :=
  ∀ (m : (ℓ : Loc Cert.DilBRefIdeal.nD Cert.DilBRefIdeal.τ Cert.DilBRefIdeal.sig) → Buf (Elt Ideal) ℓ) (g : Dev Cert.DilBRefIdeal.nD → PrngReg), Pre_DilBRefIdeal m →
    θ_run (Cert.DilBRefIdeal.defs (F := Ideal)) (onTc (τ := Cert.DilBRefIdeal.τ) (Cert.DilBRefIdeal.main (F := Ideal))) ⟨m, fun _ => 0, g⟩ (fun r => (∀ c : Dev Cert.DilBRefIdeal.nD,
      r.2.mem ((c.tc : Thread Cert.DilBRefIdeal.nD Cert.DilBRefIdeal.τ).loc Cert.DilBRefIdeal.main_arg0) = m ((c.tc : Thread Cert.DilBRefIdeal.nD Cert.DilBRefIdeal.τ).loc Cert.DilBRefIdeal.main_arg0)
      ∧ r.2.mem ((c.tc : Thread Cert.DilBRefIdeal.nD Cert.DilBRefIdeal.τ).loc Cert.DilBRefIdeal.main_arg1) = m ((c.tc : Thread Cert.DilBRefIdeal.nD Cert.DilBRefIdeal.τ).loc Cert.DilBRefIdeal.main_arg1))
      ∧ r.2.sem = fun _ => 0)

def quiescent_DilG [hDilG : Cert.DilG.Facts] : Prop :=
  ∀ (m : (ℓ : Loc Cert.DilG.nD Cert.DilG.τ Cert.DilG.sig) → Buf (Elt Bits) ℓ) (g : Dev Cert.DilG.nD → PrngReg), Pre_DilG m →
    θ_run (Cert.DilG.defs (F := Bits)) (onTc (τ := Cert.DilG.τ) (Cert.DilG.main (F := Bits))) ⟨m, fun _ => 0, g⟩ (fun r => (∀ c : Dev Cert.DilG.nD,
      r.2.mem ((c.tc : Thread Cert.DilG.nD Cert.DilG.τ).loc Cert.DilG.main_arg0) = m ((c.tc : Thread Cert.DilG.nD Cert.DilG.τ).loc Cert.DilG.main_arg0)
      ∧ r.2.mem ((c.tc : Thread Cert.DilG.nD Cert.DilG.τ).loc Cert.DilG.main_arg1) = m ((c.tc : Thread Cert.DilG.nD Cert.DilG.τ).loc Cert.DilG.main_arg1))
      ∧ r.2.sem = fun _ => 0)

def quiescent_DilGIdeal [hDilGIdeal : Cert.DilGIdeal.Facts] : Prop :=
  ∀ (m : (ℓ : Loc Cert.DilGIdeal.nD Cert.DilGIdeal.τ Cert.DilGIdeal.sig) → Buf (Elt Ideal) ℓ) (g : Dev Cert.DilGIdeal.nD → PrngReg), Pre_DilGIdeal m →
    θ_run (Cert.DilGIdeal.defs (F := Ideal)) (onTc (τ := Cert.DilGIdeal.τ) (Cert.DilGIdeal.main (F := Ideal))) ⟨m, fun _ => 0, g⟩ (fun r => (∀ c : Dev Cert.DilGIdeal.nD,
      r.2.mem ((c.tc : Thread Cert.DilGIdeal.nD Cert.DilGIdeal.τ).loc Cert.DilGIdeal.main_arg0) = m ((c.tc : Thread Cert.DilGIdeal.nD Cert.DilGIdeal.τ).loc Cert.DilGIdeal.main_arg0)
      ∧ r.2.mem ((c.tc : Thread Cert.DilGIdeal.nD Cert.DilGIdeal.τ).loc Cert.DilGIdeal.main_arg1) = m ((c.tc : Thread Cert.DilGIdeal.nD Cert.DilGIdeal.τ).loc Cert.DilGIdeal.main_arg1))
      ∧ r.2.sem = fun _ => 0)

def quiescent_DilGRefIdeal [hDilGRefIdeal : Cert.DilGRefIdeal.Facts] : Prop :=
  ∀ (m : (ℓ : Loc Cert.DilGRefIdeal.nD Cert.DilGRefIdeal.τ Cert.DilGRefIdeal.sig) → Buf (Elt Ideal) ℓ) (g : Dev Cert.DilGRefIdeal.nD → PrngReg), Pre_DilGRefIdeal m →
    θ_run (Cert.DilGRefIdeal.defs (F := Ideal)) (onTc (τ := Cert.DilGRefIdeal.τ) (Cert.DilGRefIdeal.main (F := Ideal))) ⟨m, fun _ => 0, g⟩ (fun r => (∀ c : Dev Cert.DilGRefIdeal.nD,
      r.2.mem ((c.tc : Thread Cert.DilGRefIdeal.nD Cert.DilGRefIdeal.τ).loc Cert.DilGRefIdeal.main_arg0) = m ((c.tc : Thread Cert.DilGRefIdeal.nD Cert.DilGRefIdeal.τ).loc Cert.DilGRefIdeal.main_arg0)
      ∧ r.2.mem ((c.tc : Thread Cert.DilGRefIdeal.nD Cert.DilGRefIdeal.τ).loc Cert.DilGRefIdeal.main_arg1) = m ((c.tc : Thread Cert.DilGRefIdeal.nD Cert.DilGRefIdeal.τ).loc Cert.DilGRefIdeal.main_arg1))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_AdamOutRefIdeal [hAdamOutRefIdeal : Cert.AdamOutRefIdeal.Facts] : Prop :=
  ∀ (m : (ℓ : Loc Cert.AdamOutRefIdeal.nD Cert.AdamOutRefIdeal.τ Cert.AdamOutRefIdeal.sig) → Buf (Elt Ideal) ℓ) (g : Dev Cert.AdamOutRefIdeal.nD → PrngReg), Pre_AdamOutRefIdeal m →
    θ_run (Cert.AdamOutRefIdeal.defs (F := Ideal)) (onTc (τ := Cert.AdamOutRefIdeal.τ) (Cert.AdamOutRefIdeal.main (F := Ideal))) ⟨m, fun _ => 0, g⟩ (fun r => (∀ c : Dev Cert.AdamOutRefIdeal.nD,
      r.2.mem ((c.tc : Thread Cert.AdamOutRefIdeal.nD Cert.AdamOutRefIdeal.τ).loc Cert.AdamOutRefIdeal.main_arg0) = m ((c.tc : Thread Cert.AdamOutRefIdeal.nD Cert.AdamOutRefIdeal.τ).loc Cert.AdamOutRefIdeal.main_arg0)
      ∧ r.2.mem ((c.tc : Thread Cert.AdamOutRefIdeal.nD Cert.AdamOutRefIdeal.τ).loc Cert.AdamOutRefIdeal.main_arg1) = m ((c.tc : Thread Cert.AdamOutRefIdeal.nD Cert.AdamOutRefIdeal.τ).loc Cert.AdamOutRefIdeal.main_arg1)
      ∧ r.2.mem ((c.tc : Thread Cert.AdamOutRefIdeal.nD Cert.AdamOutRefIdeal.τ).loc Cert.AdamOutRefIdeal.main_arg2) = m ((c.tc : Thread Cert.AdamOutRefIdeal.nD Cert.AdamOutRefIdeal.τ).loc Cert.AdamOutRefIdeal.main_arg2)
      ∧ r.2.mem ((c.tc : Thread Cert.AdamOutRefIdeal.nD Cert.AdamOutRefIdeal.τ).loc Cert.AdamOutRefIdeal.main_arg3) = m ((c.tc : Thread Cert.AdamOutRefIdeal.nD Cert.AdamOutRefIdeal.τ).loc Cert.AdamOutRefIdeal.main_arg3))
      ∧ r.2.sem = fun _ => 0)

def quiescent_AdamGate [hAdamGate : Cert.AdamGate.Facts] : Prop :=
  ∀ (m : (ℓ : Loc Cert.AdamGate.nD Cert.AdamGate.τ Cert.AdamGate.sig) → Buf (Elt Bits) ℓ) (g : Dev Cert.AdamGate.nD → PrngReg), Pre_AdamGate m →
    θ_run (Cert.AdamGate.defs (F := Bits)) (onTc (τ := Cert.AdamGate.τ) (Cert.AdamGate.main (F := Bits))) ⟨m, fun _ => 0, g⟩ (fun r => (∀ c : Dev Cert.AdamGate.nD,
      r.2.mem ((c.tc : Thread Cert.AdamGate.nD Cert.AdamGate.τ).loc Cert.AdamGate.main_arg0) = m ((c.tc : Thread Cert.AdamGate.nD Cert.AdamGate.τ).loc Cert.AdamGate.main_arg0)
      ∧ r.2.mem ((c.tc : Thread Cert.AdamGate.nD Cert.AdamGate.τ).loc Cert.AdamGate.main_arg1) = m ((c.tc : Thread Cert.AdamGate.nD Cert.AdamGate.τ).loc Cert.AdamGate.main_arg1)
      ∧ r.2.mem ((c.tc : Thread Cert.AdamGate.nD Cert.AdamGate.τ).loc Cert.AdamGate.main_arg2) = m ((c.tc : Thread Cert.AdamGate.nD Cert.AdamGate.τ).loc Cert.AdamGate.main_arg2)
      ∧ r.2.mem ((c.tc : Thread Cert.AdamGate.nD Cert.AdamGate.τ).loc Cert.AdamGate.main_arg3) = m ((c.tc : Thread Cert.AdamGate.nD Cert.AdamGate.τ).loc Cert.AdamGate.main_arg3))
      ∧ r.2.sem = fun _ => 0)

def quiescent_AdamGateIdeal [hAdamGateIdeal : Cert.AdamGateIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg), Pre_AdamGateIdeal m →
    θ_run (Cert.AdamGateIdeal.defs (F := Ideal)) (onTc (τ := Cert.AdamGateIdeal.τ) (Cert.AdamGateIdeal.main (F := Ideal))) ⟨m, fun _ => 0, g⟩ (fun r => (∀ c : Dev Cert.AdamGateIdeal.nD,
      r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
      ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
      ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
      ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ r.2.sem = fun _ => 0)

def quiescent_AdamGateRefIdeal [hAdamGateRefIdeal : Cert.AdamGateRefIdeal.Facts] : Prop :=
  ∀ (m : (ℓ : Loc Cert.AdamGateRefIdeal.nD Cert.AdamGateRefIdeal.τ Cert.AdamGateRefIdeal.sig) → Buf (Elt Ideal) ℓ) (g : Dev Cert.AdamGateRefIdeal.nD → PrngReg), Pre_AdamGateRefIdeal m →
    θ_run (Cert.AdamGateRefIdeal.defs (F := Ideal)) (onTc (τ := Cert.AdamGateRefIdeal.τ) (Cert.AdamGateRefIdeal.main (F := Ideal))) ⟨m, fun _ => 0, g⟩ (fun r => (∀ c : Dev Cert.AdamGateRefIdeal.nD,
      r.2.mem ((c.tc : Thread Cert.AdamGateRefIdeal.nD Cert.AdamGateRefIdeal.τ).loc Cert.AdamGateRefIdeal.main_arg0) = m ((c.tc : Thread Cert.AdamGateRefIdeal.nD Cert.AdamGateRefIdeal.τ).loc Cert.AdamGateRefIdeal.main_arg0)
      ∧ r.2.mem ((c.tc : Thread Cert.AdamGateRefIdeal.nD Cert.AdamGateRefIdeal.τ).loc Cert.AdamGateRefIdeal.main_arg1) = m ((c.tc : Thread Cert.AdamGateRefIdeal.nD Cert.AdamGateRefIdeal.τ).loc Cert.AdamGateRefIdeal.main_arg1)
      ∧ r.2.mem ((c.tc : Thread Cert.AdamGateRefIdeal.nD Cert.AdamGateRefIdeal.τ).loc Cert.AdamGateRefIdeal.main_arg2) = m ((c.tc : Thread Cert.AdamGateRefIdeal.nD Cert.AdamGateRefIdeal.τ).loc Cert.AdamGateRefIdeal.main_arg2)
      ∧ r.2.mem ((c.tc : Thread Cert.AdamGateRefIdeal.nD Cert.AdamGateRefIdeal.τ).loc Cert.AdamGateRefIdeal.main_arg3) = m ((c.tc : Thread Cert.AdamGateRefIdeal.nD Cert.AdamGateRefIdeal.τ).loc Cert.AdamGateRefIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def preserves_Gather_GatherIdeal : Prop :=
  True

def algebraic_GatherIdeal_GatherRefIdeal [hGatherIdeal : Cert.GatherIdeal.Facts] [hGatherRefIdeal : Cert.GatherRefIdeal.Facts] : Prop :=
  ∀ (m : (ℓ : Loc Cert.GatherIdeal.nD Cert.GatherIdeal.τ Cert.GatherIdeal.sig) → Buf (Elt Ideal) ℓ) (g : Dev Cert.GatherIdeal.nD → PrngReg)
    (m' : (ℓ : Loc Cert.GatherRefIdeal.nD Cert.GatherRefIdeal.τ Cert.GatherRefIdeal.sig) → Buf (Elt Ideal) ℓ) (g' : Dev Cert.GatherRefIdeal.nD → PrngReg), Pre_GatherIdeal m →
    (∀ c : Dev Cert.GatherIdeal.nD,
      m ((c.tc : Thread Cert.GatherIdeal.nD Cert.GatherIdeal.τ).loc Cert.GatherIdeal.main_arg0) = Layout.blockN ⟨3, ![2, 3137, 1024]⟩ ⟨3, ![8, 3137, 1024]⟩ (Layout.meshBlock [2, 2, 2] ![[0, 1], [], []] c) (m' (((0 : Dev Cert.GatherRefIdeal.nD).tc : Thread Cert.GatherRefIdeal.nD Cert.GatherRefIdeal.τ).loc Cert.GatherRefIdeal.main_arg0))) →
    ∃ (v0 : Buf (Elt Ideal) (((0 : Dev Cert.GatherRefIdeal.nD).tc : Thread Cert.GatherRefIdeal.nD Cert.GatherRefIdeal.τ).loc Cert.GatherRefIdeal.main_v0)),
      θ_run (Cert.GatherIdeal.defs (F := Ideal)) (onTc (τ := Cert.GatherIdeal.τ) (Cert.GatherIdeal.main (F := Ideal))) ⟨m, fun _ => 0, g⟩ (fun r => ∀ c : Dev Cert.GatherIdeal.nD,
          r.2.mem ((c.tc : Thread Cert.GatherIdeal.nD Cert.GatherIdeal.τ).loc Cert.GatherIdeal.main_v1) = v0
          ∧ r.2.mem ((c.tc : Thread Cert.GatherIdeal.nD Cert.GatherIdeal.τ).loc Cert.GatherIdeal.main_arg0) = m ((c.tc : Thread Cert.GatherIdeal.nD Cert.GatherIdeal.τ).loc Cert.GatherIdeal.main_arg0))
      ∧ θ_run (Cert.GatherRefIdeal.defs (F := Ideal)) (onTc (τ := Cert.GatherRefIdeal.τ) (Cert.GatherRefIdeal.main (F := Ideal))) ⟨m', fun _ => 0, g'⟩ (fun r =>
          r.2.mem (((0 : Dev Cert.GatherRefIdeal.nD).tc : Thread Cert.GatherRefIdeal.nD Cert.GatherRefIdeal.τ).loc Cert.GatherRefIdeal.main_v0) = v0
          ∧ r.2.mem (((0 : Dev Cert.GatherRefIdeal.nD).tc : Thread Cert.GatherRefIdeal.nD Cert.GatherRefIdeal.τ).loc Cert.GatherRefIdeal.main_arg0) = m' (((0 : Dev Cert.GatherRefIdeal.nD).tc : Thread Cert.GatherRefIdeal.nD Cert.GatherRefIdeal.τ).loc Cert.GatherRefIdeal.main_arg0))

def bitexact_Gather_GatherRef [hGather : Cert.Gather.Facts] [hGatherRef : Cert.GatherRef.Facts] : Prop :=
  ∀ (m : (ℓ : Loc Cert.Gather.nD Cert.Gather.τ Cert.Gather.sig) → Buf (Elt Bits) ℓ) (g : Dev Cert.Gather.nD → PrngReg)
    (m' : (ℓ : Loc Cert.GatherRef.nD Cert.GatherRef.τ Cert.GatherRef.sig) → Buf (Elt Bits) ℓ) (g' : Dev Cert.GatherRef.nD → PrngReg), Pre_Gather m →
    (∀ c : Dev Cert.Gather.nD,
      m ((c.tc : Thread Cert.Gather.nD Cert.Gather.τ).loc Cert.Gather.main_arg0) = Layout.blockN ⟨3, ![2, 3137, 1024]⟩ ⟨3, ![8, 3137, 1024]⟩ (Layout.meshBlock [2, 2, 2] ![[0, 1], [], []] c) (m' (((0 : Dev Cert.GatherRef.nD).tc : Thread Cert.GatherRef.nD Cert.GatherRef.τ).loc Cert.GatherRef.main_arg0))) →
    ∃ (v0 : Buf (Elt Bits) (((0 : Dev Cert.GatherRef.nD).tc : Thread Cert.GatherRef.nD Cert.GatherRef.τ).loc Cert.GatherRef.main_v0)),
      θ_run (Cert.Gather.defs (F := Bits)) (onTc (τ := Cert.Gather.τ) (Cert.Gather.main (F := Bits))) ⟨m, fun _ => 0, g⟩ (fun r => ∀ c : Dev Cert.Gather.nD,
          r.2.mem ((c.tc : Thread Cert.Gather.nD Cert.Gather.τ).loc Cert.Gather.main_v1) = v0
          ∧ r.2.mem ((c.tc : Thread Cert.Gather.nD Cert.Gather.τ).loc Cert.Gather.main_arg0) = m ((c.tc : Thread Cert.Gather.nD Cert.Gather.τ).loc Cert.Gather.main_arg0))
      ∧ θ_run (Cert.GatherRef.defs (F := Bits)) (onTc (τ := Cert.GatherRef.τ) (Cert.GatherRef.main (F := Bits))) ⟨m', fun _ => 0, g'⟩ (fun r =>
          r.2.mem (((0 : Dev Cert.GatherRef.nD).tc : Thread Cert.GatherRef.nD Cert.GatherRef.τ).loc Cert.GatherRef.main_v0) = v0
          ∧ r.2.mem (((0 : Dev Cert.GatherRef.nD).tc : Thread Cert.GatherRef.nD Cert.GatherRef.τ).loc Cert.GatherRef.main_arg0) = m' (((0 : Dev Cert.GatherRef.nD).tc : Thread Cert.GatherRef.nD Cert.GatherRef.τ).loc Cert.GatherRef.main_arg0))

def preserves_Swap_SwapIdeal : Prop :=
  True

def algebraic_SwapIdeal_SwapRefIdeal [hSwapIdeal : Cert.SwapIdeal.Facts] [hSwapRefIdeal : Cert.SwapRefIdeal.Facts] : Prop :=
  ∀ (m : (ℓ : Loc Cert.SwapIdeal.nD Cert.SwapIdeal.τ Cert.SwapIdeal.sig) → Buf (Elt Ideal) ℓ) (g : Dev Cert.SwapIdeal.nD → PrngReg)
    (m' : (ℓ : Loc Cert.SwapRefIdeal.nD Cert.SwapRefIdeal.τ Cert.SwapRefIdeal.sig) → Buf (Elt Ideal) ℓ) (g' : Dev Cert.SwapRefIdeal.nD → PrngReg), Pre_SwapIdeal m →
    (∀ c : Dev Cert.SwapIdeal.nD,
      m ((c.tc : Thread Cert.SwapIdeal.nD Cert.SwapIdeal.τ).loc Cert.SwapIdeal.main_arg0) = Layout.block ⟨4, ![2, 4, 3137, 1024]⟩ ⟨4, ![16, 4, 3137, 1024]⟩ 0 8 c (m' (((0 : Dev Cert.SwapRefIdeal.nD).tc : Thread Cert.SwapRefIdeal.nD Cert.SwapRefIdeal.τ).loc Cert.SwapRefIdeal.main_arg0))) →
    ∃ (v0 : Buf (Elt Ideal) (((0 : Dev Cert.SwapRefIdeal.nD).tc : Thread Cert.SwapRefIdeal.nD Cert.SwapRefIdeal.τ).loc Cert.SwapRefIdeal.main_v8)),
      θ_run (Cert.SwapIdeal.defs (F := Ideal)) (onTc (τ := Cert.SwapIdeal.τ) (Cert.SwapIdeal.main (F := Ideal))) ⟨m, fun _ => 0, g⟩ (fun r => ∀ c : Dev Cert.SwapIdeal.nD,
          r.2.mem ((c.tc : Thread Cert.SwapIdeal.nD Cert.SwapIdeal.τ).loc Cert.SwapIdeal.main_v1) = Layout.block ⟨3, ![4, 3137, 1024]⟩ ⟨3, ![32, 3137, 1024]⟩ 0 8 c v0
          ∧ r.2.mem ((c.tc : Thread Cert.SwapIdeal.nD Cert.SwapIdeal.τ).loc Cert.SwapIdeal.main_arg0) = m ((c.tc : Thread Cert.SwapIdeal.nD Cert.SwapIdeal.τ).loc Cert.SwapIdeal.main_arg0))
      ∧ θ_run (Cert.SwapRefIdeal.defs (F := Ideal)) (onTc (τ := Cert.SwapRefIdeal.τ) (Cert.SwapRefIdeal.main (F := Ideal))) ⟨m', fun _ => 0, g'⟩ (fun r =>
          r.2.mem (((0 : Dev Cert.SwapRefIdeal.nD).tc : Thread Cert.SwapRefIdeal.nD Cert.SwapRefIdeal.τ).loc Cert.SwapRefIdeal.main_v8) = v0
          ∧ r.2.mem (((0 : Dev Cert.SwapRefIdeal.nD).tc : Thread Cert.SwapRefIdeal.nD Cert.SwapRefIdeal.τ).loc Cert.SwapRefIdeal.main_arg0) = m' (((0 : Dev Cert.SwapRefIdeal.nD).tc : Thread Cert.SwapRefIdeal.nD Cert.SwapRefIdeal.τ).loc Cert.SwapRefIdeal.main_arg0))

def bitexact_Swap_SwapRef [hSwap : Cert.Swap.Facts] [hSwapRef : Cert.SwapRef.Facts] : Prop :=
  ∀ (m : (ℓ : Loc Cert.Swap.nD Cert.Swap.τ Cert.Swap.sig) → Buf (Elt Bits) ℓ) (g : Dev Cert.Swap.nD → PrngReg)
    (m' : (ℓ : Loc Cert.SwapRef.nD Cert.SwapRef.τ Cert.SwapRef.sig) → Buf (Elt Bits) ℓ) (g' : Dev Cert.SwapRef.nD → PrngReg), Pre_Swap m →
    (∀ c : Dev Cert.Swap.nD,
      m ((c.tc : Thread Cert.Swap.nD Cert.Swap.τ).loc Cert.Swap.main_arg0) = Layout.block ⟨4, ![2, 4, 3137, 1024]⟩ ⟨4, ![16, 4, 3137, 1024]⟩ 0 8 c (m' (((0 : Dev Cert.SwapRef.nD).tc : Thread Cert.SwapRef.nD Cert.SwapRef.τ).loc Cert.SwapRef.main_arg0))) →
    ∃ (v0 : Buf (Elt Bits) (((0 : Dev Cert.SwapRef.nD).tc : Thread Cert.SwapRef.nD Cert.SwapRef.τ).loc Cert.SwapRef.main_v8)),
      θ_run (Cert.Swap.defs (F := Bits)) (onTc (τ := Cert.Swap.τ) (Cert.Swap.main (F := Bits))) ⟨m, fun _ => 0, g⟩ (fun r => ∀ c : Dev Cert.Swap.nD,
          r.2.mem ((c.tc : Thread Cert.Swap.nD Cert.Swap.τ).loc Cert.Swap.main_v1) = Layout.block ⟨3, ![4, 3137, 1024]⟩ ⟨3, ![32, 3137, 1024]⟩ 0 8 c v0
          ∧ r.2.mem ((c.tc : Thread Cert.Swap.nD Cert.Swap.τ).loc Cert.Swap.main_arg0) = m ((c.tc : Thread Cert.Swap.nD Cert.Swap.τ).loc Cert.Swap.main_arg0))
      ∧ θ_run (Cert.SwapRef.defs (F := Bits)) (onTc (τ := Cert.SwapRef.τ) (Cert.SwapRef.main (F := Bits))) ⟨m', fun _ => 0, g'⟩ (fun r =>
          r.2.mem (((0 : Dev Cert.SwapRef.nD).tc : Thread Cert.SwapRef.nD Cert.SwapRef.τ).loc Cert.SwapRef.main_v8) = v0
          ∧ r.2.mem (((0 : Dev Cert.SwapRef.nD).tc : Thread Cert.SwapRef.nD Cert.SwapRef.τ).loc Cert.SwapRef.main_arg0) = m' (((0 : Dev Cert.SwapRef.nD).tc : Thread Cert.SwapRef.nD Cert.SwapRef.τ).loc Cert.SwapRef.main_arg0))

def preserves_Scatter_ScatterIdeal : Prop :=
  True

def algebraic_ScatterIdeal_ScatterRefIdeal [hScatterIdeal : Cert.ScatterIdeal.Facts] [hScatterRefIdeal : Cert.ScatterRefIdeal.Facts] : Prop :=
  ∀ (m : (ℓ : Loc Cert.ScatterIdeal.nD Cert.ScatterIdeal.τ Cert.ScatterIdeal.sig) → Buf (Elt Ideal) ℓ) (g : Dev Cert.ScatterIdeal.nD → PrngReg)
    (m' : (ℓ : Loc Cert.ScatterRefIdeal.nD Cert.ScatterRefIdeal.τ Cert.ScatterRefIdeal.sig) → Buf (Elt Ideal) ℓ) (g' : Dev Cert.ScatterRefIdeal.nD → PrngReg), Pre_ScatterIdeal m →
    (∀ c : Dev Cert.ScatterIdeal.nD,
      m ((c.tc : Thread Cert.ScatterIdeal.nD Cert.ScatterIdeal.τ).loc Cert.ScatterIdeal.main_arg0) = Layout.block ⟨3, ![4, 3137, 1024]⟩ ⟨3, ![32, 3137, 1024]⟩ 0 8 c (m' (((0 : Dev Cert.ScatterRefIdeal.nD).tc : Thread Cert.ScatterRefIdeal.nD Cert.ScatterRefIdeal.τ).loc Cert.ScatterRefIdeal.main_arg0))) →
    ∃ (v0 : Buf (Elt Ideal) (((0 : Dev Cert.ScatterRefIdeal.nD).tc : Thread Cert.ScatterRefIdeal.nD Cert.ScatterRefIdeal.τ).loc Cert.ScatterRefIdeal.main_v2)),
      θ_run (Cert.ScatterIdeal.defs (F := Ideal)) (onTc (τ := Cert.ScatterIdeal.τ) (Cert.ScatterIdeal.main (F := Ideal))) ⟨m, fun _ => 0, g⟩ (fun r => ∀ c : Dev Cert.ScatterIdeal.nD,
          r.2.mem ((c.tc : Thread Cert.ScatterIdeal.nD Cert.ScatterIdeal.τ).loc Cert.ScatterIdeal.main_v1) = Layout.block ⟨3, ![4, 3137, 1024]⟩ ⟨3, ![32, 3137, 1024]⟩ 0 8 c v0
          ∧ r.2.mem ((c.tc : Thread Cert.ScatterIdeal.nD Cert.ScatterIdeal.τ).loc Cert.ScatterIdeal.main_arg0) = m ((c.tc : Thread Cert.ScatterIdeal.nD Cert.ScatterIdeal.τ).loc Cert.ScatterIdeal.main_arg0))
      ∧ θ_run (Cert.ScatterRefIdeal.defs (F := Ideal)) (onTc (τ := Cert.ScatterRefIdeal.τ) (Cert.ScatterRefIdeal.main (F := Ideal))) ⟨m', fun _ => 0, g'⟩ (fun r =>
          r.2.mem (((0 : Dev Cert.ScatterRefIdeal.nD).tc : Thread Cert.ScatterRefIdeal.nD Cert.ScatterRefIdeal.τ).loc Cert.ScatterRefIdeal.main_v2) = v0
          ∧ r.2.mem (((0 : Dev Cert.ScatterRefIdeal.nD).tc : Thread Cert.ScatterRefIdeal.nD Cert.ScatterRefIdeal.τ).loc Cert.ScatterRefIdeal.main_arg0) = m' (((0 : Dev Cert.ScatterRefIdeal.nD).tc : Thread Cert.ScatterRefIdeal.nD Cert.ScatterRefIdeal.τ).loc Cert.ScatterRefIdeal.main_arg0))

def bitexact_Scatter_ScatterRef [hScatter : Cert.Scatter.Facts] [hScatterRef : Cert.ScatterRef.Facts] : Prop :=
  ∀ (m : (ℓ : Loc Cert.Scatter.nD Cert.Scatter.τ Cert.Scatter.sig) → Buf (Elt Bits) ℓ) (g : Dev Cert.Scatter.nD → PrngReg)
    (m' : (ℓ : Loc Cert.ScatterRef.nD Cert.ScatterRef.τ Cert.ScatterRef.sig) → Buf (Elt Bits) ℓ) (g' : Dev Cert.ScatterRef.nD → PrngReg), Pre_Scatter m →
    (∀ c : Dev Cert.Scatter.nD,
      m ((c.tc : Thread Cert.Scatter.nD Cert.Scatter.τ).loc Cert.Scatter.main_arg0) = Layout.block ⟨3, ![4, 3137, 1024]⟩ ⟨3, ![32, 3137, 1024]⟩ 0 8 c (m' (((0 : Dev Cert.ScatterRef.nD).tc : Thread Cert.ScatterRef.nD Cert.ScatterRef.τ).loc Cert.ScatterRef.main_arg0))) →
    ∃ (v0 : Buf (Elt Bits) (((0 : Dev Cert.ScatterRef.nD).tc : Thread Cert.ScatterRef.nD Cert.ScatterRef.τ).loc Cert.ScatterRef.main_v2)),
      θ_run (Cert.Scatter.defs (F := Bits)) (onTc (τ := Cert.Scatter.τ) (Cert.Scatter.main (F := Bits))) ⟨m, fun _ => 0, g⟩ (fun r => ∀ c : Dev Cert.Scatter.nD,
          r.2.mem ((c.tc : Thread Cert.Scatter.nD Cert.Scatter.τ).loc Cert.Scatter.main_v1) = Layout.block ⟨3, ![4, 3137, 1024]⟩ ⟨3, ![32, 3137, 1024]⟩ 0 8 c v0
          ∧ r.2.mem ((c.tc : Thread Cert.Scatter.nD Cert.Scatter.τ).loc Cert.Scatter.main_arg0) = m ((c.tc : Thread Cert.Scatter.nD Cert.Scatter.τ).loc Cert.Scatter.main_arg0))
      ∧ θ_run (Cert.ScatterRef.defs (F := Bits)) (onTc (τ := Cert.ScatterRef.τ) (Cert.ScatterRef.main (F := Bits))) ⟨m', fun _ => 0, g'⟩ (fun r =>
          r.2.mem (((0 : Dev Cert.ScatterRef.nD).tc : Thread Cert.ScatterRef.nD Cert.ScatterRef.τ).loc Cert.ScatterRef.main_v2) = v0
          ∧ r.2.mem (((0 : Dev Cert.ScatterRef.nD).tc : Thread Cert.ScatterRef.nD Cert.ScatterRef.τ).loc Cert.ScatterRef.main_arg0) = m' (((0 : Dev Cert.ScatterRef.nD).tc : Thread Cert.ScatterRef.nD Cert.ScatterRef.τ).loc Cert.ScatterRef.main_arg0))

def preserves_Share_ShareIdeal : Prop :=
  True

def algebraic_ShareIdeal_ShareRefIdeal [hShareIdeal : Cert.ShareIdeal.Facts] [hShareRefIdeal : Cert.ShareRefIdeal.Facts] : Prop :=
  ∀ (m : (ℓ : Loc Cert.ShareIdeal.nD Cert.ShareIdeal.τ Cert.ShareIdeal.sig) → Buf (Elt Ideal) ℓ) (g : Dev Cert.ShareIdeal.nD → PrngReg)
    (m' : (ℓ : Loc Cert.ShareRefIdeal.nD Cert.ShareRefIdeal.τ Cert.ShareRefIdeal.sig) → Buf (Elt Ideal) ℓ) (g' : Dev Cert.ShareRefIdeal.nD → PrngReg), Pre_ShareIdeal m →
    (∀ c : Dev Cert.ShareIdeal.nD,
      m ((c.tc : Thread Cert.ShareIdeal.nD Cert.ShareIdeal.τ).loc Cert.ShareIdeal.main_arg0) = Layout.block ⟨2, ![3137, 1024]⟩ ⟨2, ![25096, 1024]⟩ 0 8 c (m' (((0 : Dev Cert.ShareRefIdeal.nD).tc : Thread Cert.ShareRefIdeal.nD Cert.ShareRefIdeal.τ).loc Cert.ShareRefIdeal.main_arg0))) →
    ∃ (v0 : Buf (Elt Ideal) (((0 : Dev Cert.ShareRefIdeal.nD).tc : Thread Cert.ShareRefIdeal.nD Cert.ShareRefIdeal.τ).loc Cert.ShareRefIdeal.main_v0)),
      θ_run (Cert.ShareIdeal.defs (F := Ideal)) (onTc (τ := Cert.ShareIdeal.τ) (Cert.ShareIdeal.main (F := Ideal))) ⟨m, fun _ => 0, g⟩ (fun r => ∀ c : Dev Cert.ShareIdeal.nD,
          r.2.mem ((c.tc : Thread Cert.ShareIdeal.nD Cert.ShareIdeal.τ).loc Cert.ShareIdeal.main_v1) = Layout.blockN ⟨3, ![2, 3137, 1024]⟩ ⟨3, ![8, 3137, 1024]⟩ (Layout.meshBlock [2, 2, 2] ![[0, 1], [], []] c) v0
          ∧ r.2.mem ((c.tc : Thread Cert.ShareIdeal.nD Cert.ShareIdeal.τ).loc Cert.ShareIdeal.main_arg0) = m ((c.tc : Thread Cert.ShareIdeal.nD Cert.ShareIdeal.τ).loc Cert.ShareIdeal.main_arg0))
      ∧ θ_run (Cert.ShareRefIdeal.defs (F := Ideal)) (onTc (τ := Cert.ShareRefIdeal.τ) (Cert.ShareRefIdeal.main (F := Ideal))) ⟨m', fun _ => 0, g'⟩ (fun r =>
          r.2.mem (((0 : Dev Cert.ShareRefIdeal.nD).tc : Thread Cert.ShareRefIdeal.nD Cert.ShareRefIdeal.τ).loc Cert.ShareRefIdeal.main_v0) = v0
          ∧ r.2.mem (((0 : Dev Cert.ShareRefIdeal.nD).tc : Thread Cert.ShareRefIdeal.nD Cert.ShareRefIdeal.τ).loc Cert.ShareRefIdeal.main_arg0) = m' (((0 : Dev Cert.ShareRefIdeal.nD).tc : Thread Cert.ShareRefIdeal.nD Cert.ShareRefIdeal.τ).loc Cert.ShareRefIdeal.main_arg0))

def bitexact_Share_ShareRef [hShare : Cert.Share.Facts] [hShareRef : Cert.ShareRef.Facts] : Prop :=
  ∀ (m : (ℓ : Loc Cert.Share.nD Cert.Share.τ Cert.Share.sig) → Buf (Elt Bits) ℓ) (g : Dev Cert.Share.nD → PrngReg)
    (m' : (ℓ : Loc Cert.ShareRef.nD Cert.ShareRef.τ Cert.ShareRef.sig) → Buf (Elt Bits) ℓ) (g' : Dev Cert.ShareRef.nD → PrngReg), Pre_Share m →
    (∀ c : Dev Cert.Share.nD,
      m ((c.tc : Thread Cert.Share.nD Cert.Share.τ).loc Cert.Share.main_arg0) = Layout.block ⟨2, ![3137, 1024]⟩ ⟨2, ![25096, 1024]⟩ 0 8 c (m' (((0 : Dev Cert.ShareRef.nD).tc : Thread Cert.ShareRef.nD Cert.ShareRef.τ).loc Cert.ShareRef.main_arg0))) →
    ∃ (v0 : Buf (Elt Bits) (((0 : Dev Cert.ShareRef.nD).tc : Thread Cert.ShareRef.nD Cert.ShareRef.τ).loc Cert.ShareRef.main_v0)),
      θ_run (Cert.Share.defs (F := Bits)) (onTc (τ := Cert.Share.τ) (Cert.Share.main (F := Bits))) ⟨m, fun _ => 0, g⟩ (fun r => ∀ c : Dev Cert.Share.nD,
          r.2.mem ((c.tc : Thread Cert.Share.nD Cert.Share.τ).loc Cert.Share.main_v1) = Layout.blockN ⟨3, ![2, 3137, 1024]⟩ ⟨3, ![8, 3137, 1024]⟩ (Layout.meshBlock [2, 2, 2] ![[0, 1], [], []] c) v0
          ∧ r.2.mem ((c.tc : Thread Cert.Share.nD Cert.Share.τ).loc Cert.Share.main_arg0) = m ((c.tc : Thread Cert.Share.nD Cert.Share.τ).loc Cert.Share.main_arg0))
      ∧ θ_run (Cert.ShareRef.defs (F := Bits)) (onTc (τ := Cert.ShareRef.τ) (Cert.ShareRef.main (F := Bits))) ⟨m', fun _ => 0, g'⟩ (fun r =>
          r.2.mem (((0 : Dev Cert.ShareRef.nD).tc : Thread Cert.ShareRef.nD Cert.ShareRef.τ).loc Cert.ShareRef.main_v0) = v0
          ∧ r.2.mem (((0 : Dev Cert.ShareRef.nD).tc : Thread Cert.ShareRef.nD Cert.ShareRef.τ).loc Cert.ShareRef.main_arg0) = m' (((0 : Dev Cert.ShareRef.nD).tc : Thread Cert.ShareRef.nD Cert.ShareRef.τ).loc Cert.ShareRef.main_arg0))

def preserves_Chip_ChipIdeal : Prop :=
  True

def algebraic_ChipIdeal_ChipRefIdeal [hChipIdeal : Cert.ChipIdeal.Facts] [hChipRefIdeal : Cert.ChipRefIdeal.Facts] : Prop :=
  ∀ (m : (ℓ : Loc Cert.ChipIdeal.nD Cert.ChipIdeal.τ Cert.ChipIdeal.sig) → Buf (Elt Ideal) ℓ) (g : Dev Cert.ChipIdeal.nD → PrngReg)
    (m' : (ℓ : Loc Cert.ChipRefIdeal.nD Cert.ChipRefIdeal.τ Cert.ChipRefIdeal.sig) → Buf (Elt Ideal) ℓ) (g' : Dev Cert.ChipRefIdeal.nD → PrngReg), Pre_ChipIdeal m →
    (∀ c : Dev Cert.ChipIdeal.nD,
      m' ((c.tc : Thread Cert.ChipRefIdeal.nD Cert.ChipRefIdeal.τ).loc Cert.ChipRefIdeal.main_arg0) = m ((c.tc : Thread Cert.ChipIdeal.nD Cert.ChipIdeal.τ).loc Cert.ChipIdeal.main_arg0)) →
    ∃ (v0 : (c : Dev Cert.ChipIdeal.nD) → Buf (Elt Ideal) ((c.tc : Thread Cert.ChipIdeal.nD Cert.ChipIdeal.τ).loc Cert.ChipIdeal.main_v0)),
      θ_run (Cert.ChipIdeal.defs (F := Ideal)) (onTc (τ := Cert.ChipIdeal.τ) (Cert.ChipIdeal.main (F := Ideal))) ⟨m, fun _ => 0, g⟩ (fun r => ∀ c : Dev Cert.ChipIdeal.nD,
          r.2.mem ((c.tc : Thread Cert.ChipIdeal.nD Cert.ChipIdeal.τ).loc Cert.ChipIdeal.main_v0) = v0 c
          ∧ r.2.mem ((c.tc : Thread Cert.ChipIdeal.nD Cert.ChipIdeal.τ).loc Cert.ChipIdeal.main_arg0) = m ((c.tc : Thread Cert.ChipIdeal.nD Cert.ChipIdeal.τ).loc Cert.ChipIdeal.main_arg0))
      ∧ θ_run (Cert.ChipRefIdeal.defs (F := Ideal)) (onTc (τ := Cert.ChipRefIdeal.τ) (Cert.ChipRefIdeal.main (F := Ideal))) ⟨m', fun _ => 0, g'⟩ (fun r => ∀ c : Dev Cert.ChipRefIdeal.nD,
          r.2.mem ((c.tc : Thread Cert.ChipRefIdeal.nD Cert.ChipRefIdeal.τ).loc Cert.ChipRefIdeal.main_v1) = v0 c
          ∧ r.2.mem ((c.tc : Thread Cert.ChipRefIdeal.nD Cert.ChipRefIdeal.τ).loc Cert.ChipRefIdeal.main_arg0) = m' ((c.tc : Thread Cert.ChipRefIdeal.nD Cert.ChipRefIdeal.τ).loc Cert.ChipRefIdeal.main_arg0))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)
      ∧ m' ((c.tc : Thread Cert.ProjDxRefIdeal.nD Cert.ProjDxRefIdeal.τ).loc Cert.ProjDxRefIdeal.main_arg2) = m ((c.tc : Thread Cert.ProjDxIdeal.nD Cert.ProjDxIdeal.τ).loc Cert.ProjDxIdeal.main_arg2)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1)
          ∧ r.2.mem ((c.tc : Thread Cert.ProjDxIdeal.nD Cert.ProjDxIdeal.τ).loc Cert.ProjDxIdeal.main_arg2) = m ((c.tc : Thread Cert.ProjDxIdeal.nD Cert.ProjDxIdeal.τ).loc Cert.ProjDxIdeal.main_arg2))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v6) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1)
          ∧ r.2.mem ((c.tc : Thread Cert.ProjDxRefIdeal.nD Cert.ProjDxRefIdeal.τ).loc Cert.ProjDxRefIdeal.main_arg2) = m' ((c.tc : Thread Cert.ProjDxRefIdeal.nD Cert.ProjDxRefIdeal.τ).loc Cert.ProjDxRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v1) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v1) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v2) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_FfnOutDx_FfnOutDxIdeal : Prop :=
  True

def algebraic_FfnOutDxIdeal_FfnOutDxRefIdeal [hFfnOutDxIdeal : Cert.FfnOutDxIdeal.Facts] [hFfnOutDxRefIdeal : Cert.FfnOutDxRefIdeal.Facts] : Prop :=
  ∀ (m : (ℓ : Loc Cert.FfnOutDxIdeal.nD Cert.FfnOutDxIdeal.τ Cert.FfnOutDxIdeal.sig) → Buf (Elt Ideal) ℓ) (g : Dev Cert.FfnOutDxIdeal.nD → PrngReg)
    (m' : (ℓ : Loc Cert.FfnOutDxRefIdeal.nD Cert.FfnOutDxRefIdeal.τ Cert.FfnOutDxRefIdeal.sig) → Buf (Elt Ideal) ℓ) (g' : Dev Cert.FfnOutDxRefIdeal.nD → PrngReg), Pre_FfnOutDxIdeal m →
    (∀ c : Dev Cert.FfnOutDxIdeal.nD,
      m' ((c.tc : Thread Cert.FfnOutDxRefIdeal.nD Cert.FfnOutDxRefIdeal.τ).loc Cert.FfnOutDxRefIdeal.main_arg0) = m ((c.tc : Thread Cert.FfnOutDxIdeal.nD Cert.FfnOutDxIdeal.τ).loc Cert.FfnOutDxIdeal.main_arg0)
      ∧ m' ((c.tc : Thread Cert.FfnOutDxRefIdeal.nD Cert.FfnOutDxRefIdeal.τ).loc Cert.FfnOutDxRefIdeal.main_arg1) = m ((c.tc : Thread Cert.FfnOutDxIdeal.nD Cert.FfnOutDxIdeal.τ).loc Cert.FfnOutDxIdeal.main_arg1)) →
    ∃ (v0 : (c : Dev Cert.FfnOutDxIdeal.nD) → Buf (Elt Ideal) ((c.tc : Thread Cert.FfnOutDxIdeal.nD Cert.FfnOutDxIdeal.τ).loc Cert.FfnOutDxIdeal.main_v0)),
      θ_run (Cert.FfnOutDxIdeal.defs (F := Ideal)) (onTc (τ := Cert.FfnOutDxIdeal.τ) (Cert.FfnOutDxIdeal.main (F := Ideal))) ⟨m, fun _ => 0, g⟩ (fun r => ∀ c : Dev Cert.FfnOutDxIdeal.nD,
          r.2.mem ((c.tc : Thread Cert.FfnOutDxIdeal.nD Cert.FfnOutDxIdeal.τ).loc Cert.FfnOutDxIdeal.main_v0) = v0 c
          ∧ r.2.mem ((c.tc : Thread Cert.FfnOutDxIdeal.nD Cert.FfnOutDxIdeal.τ).loc Cert.FfnOutDxIdeal.main_arg0) = m ((c.tc : Thread Cert.FfnOutDxIdeal.nD Cert.FfnOutDxIdeal.τ).loc Cert.FfnOutDxIdeal.main_arg0)
          ∧ r.2.mem ((c.tc : Thread Cert.FfnOutDxIdeal.nD Cert.FfnOutDxIdeal.τ).loc Cert.FfnOutDxIdeal.main_arg1) = m ((c.tc : Thread Cert.FfnOutDxIdeal.nD Cert.FfnOutDxIdeal.τ).loc Cert.FfnOutDxIdeal.main_arg1))
      ∧ θ_run (Cert.FfnOutDxRefIdeal.defs (F := Ideal)) (onTc (τ := Cert.FfnOutDxRefIdeal.τ) (Cert.FfnOutDxRefIdeal.main (F := Ideal))) ⟨m', fun _ => 0, g'⟩ (fun r => ∀ c : Dev Cert.FfnOutDxRefIdeal.nD,
          r.2.mem ((c.tc : Thread Cert.FfnOutDxRefIdeal.nD Cert.FfnOutDxRefIdeal.τ).loc Cert.FfnOutDxRefIdeal.main_v3) = v0 c
          ∧ r.2.mem ((c.tc : Thread Cert.FfnOutDxRefIdeal.nD Cert.FfnOutDxRefIdeal.τ).loc Cert.FfnOutDxRefIdeal.main_arg0) = m' ((c.tc : Thread Cert.FfnOutDxRefIdeal.nD Cert.FfnOutDxRefIdeal.τ).loc Cert.FfnOutDxRefIdeal.main_arg0)
          ∧ r.2.mem ((c.tc : Thread Cert.FfnOutDxRefIdeal.nD Cert.FfnOutDxRefIdeal.τ).loc Cert.FfnOutDxRefIdeal.main_arg1) = m' ((c.tc : Thread Cert.FfnOutDxRefIdeal.nD Cert.FfnOutDxRefIdeal.τ).loc Cert.FfnOutDxRefIdeal.main_arg1))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v3) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_FfnInDx_FfnInDxIdeal : Prop :=
  True

def algebraic_FfnInDxIdeal_FfnInDxRefIdeal [hFfnInDxIdeal : Cert.FfnInDxIdeal.Facts] [hFfnInDxRefIdeal : Cert.FfnInDxRefIdeal.Facts] : Prop :=
  ∀ (m : (ℓ : Loc Cert.FfnInDxIdeal.nD Cert.FfnInDxIdeal.τ Cert.FfnInDxIdeal.sig) → Buf (Elt Ideal) ℓ) (g : Dev Cert.FfnInDxIdeal.nD → PrngReg)
    (m' : (ℓ : Loc Cert.FfnInDxRefIdeal.nD Cert.FfnInDxRefIdeal.τ Cert.FfnInDxRefIdeal.sig) → Buf (Elt Ideal) ℓ) (g' : Dev Cert.FfnInDxRefIdeal.nD → PrngReg), Pre_FfnInDxIdeal m →
    (∀ c : Dev Cert.FfnInDxIdeal.nD,
      m' ((c.tc : Thread Cert.FfnInDxRefIdeal.nD Cert.FfnInDxRefIdeal.τ).loc Cert.FfnInDxRefIdeal.main_arg0) = m ((c.tc : Thread Cert.FfnInDxIdeal.nD Cert.FfnInDxIdeal.τ).loc Cert.FfnInDxIdeal.main_arg0)
      ∧ m' ((c.tc : Thread Cert.FfnInDxRefIdeal.nD Cert.FfnInDxRefIdeal.τ).loc Cert.FfnInDxRefIdeal.main_arg1) = m ((c.tc : Thread Cert.FfnInDxIdeal.nD Cert.FfnInDxIdeal.τ).loc Cert.FfnInDxIdeal.main_arg1)
      ∧ m' ((c.tc : Thread Cert.FfnInDxRefIdeal.nD Cert.FfnInDxRefIdeal.τ).loc Cert.FfnInDxRefIdeal.main_arg2) = m ((c.tc : Thread Cert.FfnInDxIdeal.nD Cert.FfnInDxIdeal.τ).loc Cert.FfnInDxIdeal.main_arg2)) →
    ∃ (v0 : (c : Dev Cert.FfnInDxIdeal.nD) → Buf (Elt Ideal) ((c.tc : Thread Cert.FfnInDxIdeal.nD Cert.FfnInDxIdeal.τ).loc Cert.FfnInDxIdeal.main_v0)),
      θ_run (Cert.FfnInDxIdeal.defs (F := Ideal)) (onTc (τ := Cert.FfnInDxIdeal.τ) (Cert.FfnInDxIdeal.main (F := Ideal))) ⟨m, fun _ => 0, g⟩ (fun r => ∀ c : Dev Cert.FfnInDxIdeal.nD,
          r.2.mem ((c.tc : Thread Cert.FfnInDxIdeal.nD Cert.FfnInDxIdeal.τ).loc Cert.FfnInDxIdeal.main_v0) = v0 c
          ∧ r.2.mem ((c.tc : Thread Cert.FfnInDxIdeal.nD Cert.FfnInDxIdeal.τ).loc Cert.FfnInDxIdeal.main_arg0) = m ((c.tc : Thread Cert.FfnInDxIdeal.nD Cert.FfnInDxIdeal.τ).loc Cert.FfnInDxIdeal.main_arg0)
          ∧ r.2.mem ((c.tc : Thread Cert.FfnInDxIdeal.nD Cert.FfnInDxIdeal.τ).loc Cert.FfnInDxIdeal.main_arg1) = m ((c.tc : Thread Cert.FfnInDxIdeal.nD Cert.FfnInDxIdeal.τ).loc Cert.FfnInDxIdeal.main_arg1)
          ∧ r.2.mem ((c.tc : Thread Cert.FfnInDxIdeal.nD Cert.FfnInDxIdeal.τ).loc Cert.FfnInDxIdeal.main_arg2) = m ((c.tc : Thread Cert.FfnInDxIdeal.nD Cert.FfnInDxIdeal.τ).loc Cert.FfnInDxIdeal.main_arg2))
      ∧ θ_run (Cert.FfnInDxRefIdeal.defs (F := Ideal)) (onTc (τ := Cert.FfnInDxRefIdeal.τ) (Cert.FfnInDxRefIdeal.main (F := Ideal))) ⟨m', fun _ => 0, g'⟩ (fun r => ∀ c : Dev Cert.FfnInDxRefIdeal.nD,
          r.2.mem ((c.tc : Thread Cert.FfnInDxRefIdeal.nD Cert.FfnInDxRefIdeal.τ).loc Cert.FfnInDxRefIdeal.main_v6) = v0 c
          ∧ r.2.mem ((c.tc : Thread Cert.FfnInDxRefIdeal.nD Cert.FfnInDxRefIdeal.τ).loc Cert.FfnInDxRefIdeal.main_arg0) = m' ((c.tc : Thread Cert.FfnInDxRefIdeal.nD Cert.FfnInDxRefIdeal.τ).loc Cert.FfnInDxRefIdeal.main_arg0)
          ∧ r.2.mem ((c.tc : Thread Cert.FfnInDxRefIdeal.nD Cert.FfnInDxRefIdeal.τ).loc Cert.FfnInDxRefIdeal.main_arg1) = m' ((c.tc : Thread Cert.FfnInDxRefIdeal.nD Cert.FfnInDxRefIdeal.τ).loc Cert.FfnInDxRefIdeal.main_arg1)
          ∧ r.2.mem ((c.tc : Thread Cert.FfnInDxRefIdeal.nD Cert.FfnInDxRefIdeal.τ).loc Cert.FfnInDxRefIdeal.main_arg2) = m' ((c.tc : Thread Cert.FfnInDxRefIdeal.nD Cert.FfnInDxRefIdeal.τ).loc Cert.FfnInDxRefIdeal.main_arg2))

def preserves_FfnOutDw_FfnOutDwIdeal : Prop :=
  True

def algebraic_FfnOutDwIdeal_FfnOutDwRefIdeal [hFfnOutDwIdeal : Cert.FfnOutDwIdeal.Facts] [hFfnOutDwRefIdeal : Cert.FfnOutDwRefIdeal.Facts] : Prop :=
  ∀ (m : (ℓ : Loc Cert.FfnOutDwIdeal.nD Cert.FfnOutDwIdeal.τ Cert.FfnOutDwIdeal.sig) → Buf (Elt Ideal) ℓ) (g : Dev Cert.FfnOutDwIdeal.nD → PrngReg)
    (m' : (ℓ : Loc Cert.FfnOutDwRefIdeal.nD Cert.FfnOutDwRefIdeal.τ Cert.FfnOutDwRefIdeal.sig) → Buf (Elt Ideal) ℓ) (g' : Dev Cert.FfnOutDwRefIdeal.nD → PrngReg), Pre_FfnOutDwIdeal m →
    (∀ c : Dev Cert.FfnOutDwIdeal.nD,
      m' ((c.tc : Thread Cert.FfnOutDwRefIdeal.nD Cert.FfnOutDwRefIdeal.τ).loc Cert.FfnOutDwRefIdeal.main_arg0) = m ((c.tc : Thread Cert.FfnOutDwIdeal.nD Cert.FfnOutDwIdeal.τ).loc Cert.FfnOutDwIdeal.main_arg0)
      ∧ m' ((c.tc : Thread Cert.FfnOutDwRefIdeal.nD Cert.FfnOutDwRefIdeal.τ).loc Cert.FfnOutDwRefIdeal.main_arg1) = m ((c.tc : Thread Cert.FfnOutDwIdeal.nD Cert.FfnOutDwIdeal.τ).loc Cert.FfnOutDwIdeal.main_arg1)) →
    ∃ (v0 : (c : Dev Cert.FfnOutDwIdeal.nD) → Buf (Elt Ideal) ((c.tc : Thread Cert.FfnOutDwIdeal.nD Cert.FfnOutDwIdeal.τ).loc Cert.FfnOutDwIdeal.main_v0)),
      θ_run (Cert.FfnOutDwIdeal.defs (F := Ideal)) (onTc (τ := Cert.FfnOutDwIdeal.τ) (Cert.FfnOutDwIdeal.main (F := Ideal))) ⟨m, fun _ => 0, g⟩ (fun r => ∀ c : Dev Cert.FfnOutDwIdeal.nD,
          r.2.mem ((c.tc : Thread Cert.FfnOutDwIdeal.nD Cert.FfnOutDwIdeal.τ).loc Cert.FfnOutDwIdeal.main_v0) = v0 c
          ∧ r.2.mem ((c.tc : Thread Cert.FfnOutDwIdeal.nD Cert.FfnOutDwIdeal.τ).loc Cert.FfnOutDwIdeal.main_arg0) = m ((c.tc : Thread Cert.FfnOutDwIdeal.nD Cert.FfnOutDwIdeal.τ).loc Cert.FfnOutDwIdeal.main_arg0)
          ∧ r.2.mem ((c.tc : Thread Cert.FfnOutDwIdeal.nD Cert.FfnOutDwIdeal.τ).loc Cert.FfnOutDwIdeal.main_arg1) = m ((c.tc : Thread Cert.FfnOutDwIdeal.nD Cert.FfnOutDwIdeal.τ).loc Cert.FfnOutDwIdeal.main_arg1))
      ∧ θ_run (Cert.FfnOutDwRefIdeal.defs (F := Ideal)) (onTc (τ := Cert.FfnOutDwRefIdeal.τ) (Cert.FfnOutDwRefIdeal.main (F := Ideal))) ⟨m', fun _ => 0, g'⟩ (fun r => ∀ c : Dev Cert.FfnOutDwRefIdeal.nD,
          r.2.mem ((c.tc : Thread Cert.FfnOutDwRefIdeal.nD Cert.FfnOutDwRefIdeal.τ).loc Cert.FfnOutDwRefIdeal.main_v2) = v0 c
          ∧ r.2.mem ((c.tc : Thread Cert.FfnOutDwRefIdeal.nD Cert.FfnOutDwRefIdeal.τ).loc Cert.FfnOutDwRefIdeal.main_arg0) = m' ((c.tc : Thread Cert.FfnOutDwRefIdeal.nD Cert.FfnOutDwRefIdeal.τ).loc Cert.FfnOutDwRefIdeal.main_arg0)
          ∧ r.2.mem ((c.tc : Thread Cert.FfnOutDwRefIdeal.nD Cert.FfnOutDwRefIdeal.τ).loc Cert.FfnOutDwRefIdeal.main_arg1) = m' ((c.tc : Thread Cert.FfnOutDwRefIdeal.nD Cert.FfnOutDwRefIdeal.τ).loc Cert.FfnOutDwRefIdeal.main_arg1))

def preserves_FfnInDw_FfnInDwIdeal : Prop :=
  True

def algebraic_FfnInDwIdeal_FfnInDwRefIdeal [hFfnInDwIdeal : Cert.FfnInDwIdeal.Facts] [hFfnInDwRefIdeal : Cert.FfnInDwRefIdeal.Facts] : Prop :=
  ∀ (m : (ℓ : Loc Cert.FfnInDwIdeal.nD Cert.FfnInDwIdeal.τ Cert.FfnInDwIdeal.sig) → Buf (Elt Ideal) ℓ) (g : Dev Cert.FfnInDwIdeal.nD → PrngReg)
    (m' : (ℓ : Loc Cert.FfnInDwRefIdeal.nD Cert.FfnInDwRefIdeal.τ Cert.FfnInDwRefIdeal.sig) → Buf (Elt Ideal) ℓ) (g' : Dev Cert.FfnInDwRefIdeal.nD → PrngReg), Pre_FfnInDwIdeal m →
    (∀ c : Dev Cert.FfnInDwIdeal.nD,
      m' ((c.tc : Thread Cert.FfnInDwRefIdeal.nD Cert.FfnInDwRefIdeal.τ).loc Cert.FfnInDwRefIdeal.main_arg0) = m ((c.tc : Thread Cert.FfnInDwIdeal.nD Cert.FfnInDwIdeal.τ).loc Cert.FfnInDwIdeal.main_arg0)
      ∧ m' ((c.tc : Thread Cert.FfnInDwRefIdeal.nD Cert.FfnInDwRefIdeal.τ).loc Cert.FfnInDwRefIdeal.main_arg1) = m ((c.tc : Thread Cert.FfnInDwIdeal.nD Cert.FfnInDwIdeal.τ).loc Cert.FfnInDwIdeal.main_arg1)) →
    ∃ (v0 : (c : Dev Cert.FfnInDwIdeal.nD) → Buf (Elt Ideal) ((c.tc : Thread Cert.FfnInDwIdeal.nD Cert.FfnInDwIdeal.τ).loc Cert.FfnInDwIdeal.main_v0)),
      θ_run (Cert.FfnInDwIdeal.defs (F := Ideal)) (onTc (τ := Cert.FfnInDwIdeal.τ) (Cert.FfnInDwIdeal.main (F := Ideal))) ⟨m, fun _ => 0, g⟩ (fun r => ∀ c : Dev Cert.FfnInDwIdeal.nD,
          r.2.mem ((c.tc : Thread Cert.FfnInDwIdeal.nD Cert.FfnInDwIdeal.τ).loc Cert.FfnInDwIdeal.main_v0) = v0 c
          ∧ r.2.mem ((c.tc : Thread Cert.FfnInDwIdeal.nD Cert.FfnInDwIdeal.τ).loc Cert.FfnInDwIdeal.main_arg0) = m ((c.tc : Thread Cert.FfnInDwIdeal.nD Cert.FfnInDwIdeal.τ).loc Cert.FfnInDwIdeal.main_arg0)
          ∧ r.2.mem ((c.tc : Thread Cert.FfnInDwIdeal.nD Cert.FfnInDwIdeal.τ).loc Cert.FfnInDwIdeal.main_arg1) = m ((c.tc : Thread Cert.FfnInDwIdeal.nD Cert.FfnInDwIdeal.τ).loc Cert.FfnInDwIdeal.main_arg1))
      ∧ θ_run (Cert.FfnInDwRefIdeal.defs (F := Ideal)) (onTc (τ := Cert.FfnInDwRefIdeal.τ) (Cert.FfnInDwRefIdeal.main (F := Ideal))) ⟨m', fun _ => 0, g'⟩ (fun r => ∀ c : Dev Cert.FfnInDwRefIdeal.nD,
          r.2.mem ((c.tc : Thread Cert.FfnInDwRefIdeal.nD Cert.FfnInDwRefIdeal.τ).loc Cert.FfnInDwRefIdeal.main_v2) = v0 c
          ∧ r.2.mem ((c.tc : Thread Cert.FfnInDwRefIdeal.nD Cert.FfnInDwRefIdeal.τ).loc Cert.FfnInDwRefIdeal.main_arg0) = m' ((c.tc : Thread Cert.FfnInDwRefIdeal.nD Cert.FfnInDwRefIdeal.τ).loc Cert.FfnInDwRefIdeal.main_arg0)
          ∧ r.2.mem ((c.tc : Thread Cert.FfnInDwRefIdeal.nD Cert.FfnInDwRefIdeal.τ).loc Cert.FfnInDwRefIdeal.main_arg1) = m' ((c.tc : Thread Cert.FfnInDwRefIdeal.nD Cert.FfnInDwRefIdeal.τ).loc Cert.FfnInDwRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v2) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v2) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_SwiF_SwiFIdeal : Prop :=
  True

def algebraic_SwiFIdeal_SwiFRefIdeal [hSwiFIdeal : Cert.SwiFIdeal.Facts] [hSwiFRefIdeal : Cert.SwiFRefIdeal.Facts] : Prop :=
  ∀ (m : (ℓ : Loc Cert.SwiFIdeal.nD Cert.SwiFIdeal.τ Cert.SwiFIdeal.sig) → Buf (Elt Ideal) ℓ) (g : Dev Cert.SwiFIdeal.nD → PrngReg)
    (m' : (ℓ : Loc Cert.SwiFRefIdeal.nD Cert.SwiFRefIdeal.τ Cert.SwiFRefIdeal.sig) → Buf (Elt Ideal) ℓ) (g' : Dev Cert.SwiFRefIdeal.nD → PrngReg), Pre_SwiFIdeal m →
    (∀ c : Dev Cert.SwiFIdeal.nD,
      m' ((c.tc : Thread Cert.SwiFRefIdeal.nD Cert.SwiFRefIdeal.τ).loc Cert.SwiFRefIdeal.main_arg0) = m ((c.tc : Thread Cert.SwiFIdeal.nD Cert.SwiFIdeal.τ).loc Cert.SwiFIdeal.main_arg0)) →
    ∃ (v0 : (c : Dev Cert.SwiFIdeal.nD) → Buf (Elt Ideal) ((c.tc : Thread Cert.SwiFIdeal.nD Cert.SwiFIdeal.τ).loc Cert.SwiFIdeal.main_v0)),
      θ_run (Cert.SwiFIdeal.defs (F := Ideal)) (onTc (τ := Cert.SwiFIdeal.τ) (Cert.SwiFIdeal.main (F := Ideal))) ⟨m, fun _ => 0, g⟩ (fun r => ∀ c : Dev Cert.SwiFIdeal.nD,
          r.2.mem ((c.tc : Thread Cert.SwiFIdeal.nD Cert.SwiFIdeal.τ).loc Cert.SwiFIdeal.main_v0) = v0 c
          ∧ r.2.mem ((c.tc : Thread Cert.SwiFIdeal.nD Cert.SwiFIdeal.τ).loc Cert.SwiFIdeal.main_arg0) = m ((c.tc : Thread Cert.SwiFIdeal.nD Cert.SwiFIdeal.τ).loc Cert.SwiFIdeal.main_arg0))
      ∧ θ_run (Cert.SwiFRefIdeal.defs (F := Ideal)) (onTc (τ := Cert.SwiFRefIdeal.τ) (Cert.SwiFRefIdeal.main (F := Ideal))) ⟨m', fun _ => 0, g'⟩ (fun r => ∀ c : Dev Cert.SwiFRefIdeal.nD,
          r.2.mem ((c.tc : Thread Cert.SwiFRefIdeal.nD Cert.SwiFRefIdeal.τ).loc Cert.SwiFRefIdeal.main_v4) = v0 c
          ∧ r.2.mem ((c.tc : Thread Cert.SwiFRefIdeal.nD Cert.SwiFRefIdeal.τ).loc Cert.SwiFRefIdeal.main_arg0) = m' ((c.tc : Thread Cert.SwiFRefIdeal.nD Cert.SwiFRefIdeal.τ).loc Cert.SwiFRefIdeal.main_arg0))

def preserves_SwiB_SwiBIdeal : Prop :=
  True

def algebraic_SwiBIdeal_SwiBRefIdeal [hSwiBIdeal : Cert.SwiBIdeal.Facts] [hSwiBRefIdeal : Cert.SwiBRefIdeal.Facts] : Prop :=
  ∀ (m : (ℓ : Loc Cert.SwiBIdeal.nD Cert.SwiBIdeal.τ Cert.SwiBIdeal.sig) → Buf (Elt Ideal) ℓ) (g : Dev Cert.SwiBIdeal.nD → PrngReg)
    (m' : (ℓ : Loc Cert.SwiBRefIdeal.nD Cert.SwiBRefIdeal.τ Cert.SwiBRefIdeal.sig) → Buf (Elt Ideal) ℓ) (g' : Dev Cert.SwiBRefIdeal.nD → PrngReg), Pre_SwiBIdeal m →
    (∀ c : Dev Cert.SwiBIdeal.nD,
      m' ((c.tc : Thread Cert.SwiBRefIdeal.nD Cert.SwiBRefIdeal.τ).loc Cert.SwiBRefIdeal.main_arg0) = m ((c.tc : Thread Cert.SwiBIdeal.nD Cert.SwiBIdeal.τ).loc Cert.SwiBIdeal.main_arg0)
      ∧ m' ((c.tc : Thread Cert.SwiBRefIdeal.nD Cert.SwiBRefIdeal.τ).loc Cert.SwiBRefIdeal.main_arg1) = m ((c.tc : Thread Cert.SwiBIdeal.nD Cert.SwiBIdeal.τ).loc Cert.SwiBIdeal.main_arg1)) →
    ∃ (v0 : (c : Dev Cert.SwiBIdeal.nD) → Buf (Elt Ideal) ((c.tc : Thread Cert.SwiBIdeal.nD Cert.SwiBIdeal.τ).loc Cert.SwiBIdeal.main_v0)),
      θ_run (Cert.SwiBIdeal.defs (F := Ideal)) (onTc (τ := Cert.SwiBIdeal.τ) (Cert.SwiBIdeal.main (F := Ideal))) ⟨m, fun _ => 0, g⟩ (fun r => ∀ c : Dev Cert.SwiBIdeal.nD,
          r.2.mem ((c.tc : Thread Cert.SwiBIdeal.nD Cert.SwiBIdeal.τ).loc Cert.SwiBIdeal.main_v0) = v0 c
          ∧ r.2.mem ((c.tc : Thread Cert.SwiBIdeal.nD Cert.SwiBIdeal.τ).loc Cert.SwiBIdeal.main_arg0) = m ((c.tc : Thread Cert.SwiBIdeal.nD Cert.SwiBIdeal.τ).loc Cert.SwiBIdeal.main_arg0)
          ∧ r.2.mem ((c.tc : Thread Cert.SwiBIdeal.nD Cert.SwiBIdeal.τ).loc Cert.SwiBIdeal.main_arg1) = m ((c.tc : Thread Cert.SwiBIdeal.nD Cert.SwiBIdeal.τ).loc Cert.SwiBIdeal.main_arg1))
      ∧ θ_run (Cert.SwiBRefIdeal.defs (F := Ideal)) (onTc (τ := Cert.SwiBRefIdeal.τ) (Cert.SwiBRefIdeal.main (F := Ideal))) ⟨m', fun _ => 0, g'⟩ (fun r => ∀ c : Dev Cert.SwiBRefIdeal.nD,
          r.2.mem ((c.tc : Thread Cert.SwiBRefIdeal.nD Cert.SwiBRefIdeal.τ).loc Cert.SwiBRefIdeal.main_v19) = v0 c
          ∧ r.2.mem ((c.tc : Thread Cert.SwiBRefIdeal.nD Cert.SwiBRefIdeal.τ).loc Cert.SwiBRefIdeal.main_arg0) = m' ((c.tc : Thread Cert.SwiBRefIdeal.nD Cert.SwiBRefIdeal.τ).loc Cert.SwiBRefIdeal.main_arg0)
          ∧ r.2.mem ((c.tc : Thread Cert.SwiBRefIdeal.nD Cert.SwiBRefIdeal.τ).loc Cert.SwiBRefIdeal.main_arg1) = m' ((c.tc : Thread Cert.SwiBRefIdeal.nD Cert.SwiBRefIdeal.τ).loc Cert.SwiBRefIdeal.main_arg1))

def preserves_LnF_LnFIdeal : Prop :=
  True

def algebraic_LnFIdeal_LnFRefIdeal [hLnFIdeal : Cert.LnFIdeal.Facts] [hLnFRefIdeal : Cert.LnFRefIdeal.Facts] : Prop :=
  ∀ (m : (ℓ : Loc Cert.LnFIdeal.nD Cert.LnFIdeal.τ Cert.LnFIdeal.sig) → Buf (Elt Ideal) ℓ) (g : Dev Cert.LnFIdeal.nD → PrngReg)
    (m' : (ℓ : Loc Cert.LnFRefIdeal.nD Cert.LnFRefIdeal.τ Cert.LnFRefIdeal.sig) → Buf (Elt Ideal) ℓ) (g' : Dev Cert.LnFRefIdeal.nD → PrngReg), Pre_LnFIdeal m →
    (∀ c : Dev Cert.LnFIdeal.nD,
      m' ((c.tc : Thread Cert.LnFRefIdeal.nD Cert.LnFRefIdeal.τ).loc Cert.LnFRefIdeal.main_arg0) = m ((c.tc : Thread Cert.LnFIdeal.nD Cert.LnFIdeal.τ).loc Cert.LnFIdeal.main_arg0)
      ∧ m' ((c.tc : Thread Cert.LnFRefIdeal.nD Cert.LnFRefIdeal.τ).loc Cert.LnFRefIdeal.main_arg1) = m ((c.tc : Thread Cert.LnFIdeal.nD Cert.LnFIdeal.τ).loc Cert.LnFIdeal.main_arg1)
      ∧ m' ((c.tc : Thread Cert.LnFRefIdeal.nD Cert.LnFRefIdeal.τ).loc Cert.LnFRefIdeal.main_arg2) = m ((c.tc : Thread Cert.LnFIdeal.nD Cert.LnFIdeal.τ).loc Cert.LnFIdeal.main_arg2)
      ∧ m' ((c.tc : Thread Cert.LnFRefIdeal.nD Cert.LnFRefIdeal.τ).loc Cert.LnFRefIdeal.main_arg3) = m ((c.tc : Thread Cert.LnFIdeal.nD Cert.LnFIdeal.τ).loc Cert.LnFIdeal.main_arg3)) →
    ∃ (v0 : (c : Dev Cert.LnFIdeal.nD) → Buf (Elt Ideal) ((c.tc : Thread Cert.LnFIdeal.nD Cert.LnFIdeal.τ).loc Cert.LnFIdeal.main_v2_0)) (v1 : (c : Dev Cert.LnFIdeal.nD) → Buf (Elt Ideal) ((c.tc : Thread Cert.LnFIdeal.nD Cert.LnFIdeal.τ).loc Cert.LnFIdeal.main_v2_1)),
      θ_run (Cert.LnFIdeal.defs (F := Ideal)) (onTc (τ := Cert.LnFIdeal.τ) (Cert.LnFIdeal.main (F := Ideal))) ⟨m, fun _ => 0, g⟩ (fun r => ∀ c : Dev Cert.LnFIdeal.nD,
          r.2.mem ((c.tc : Thread Cert.LnFIdeal.nD Cert.LnFIdeal.τ).loc Cert.LnFIdeal.main_v2_0) = v0 c
          ∧ r.2.mem ((c.tc : Thread Cert.LnFIdeal.nD Cert.LnFIdeal.τ).loc Cert.LnFIdeal.main_v2_1) = v1 c
          ∧ r.2.mem ((c.tc : Thread Cert.LnFIdeal.nD Cert.LnFIdeal.τ).loc Cert.LnFIdeal.main_arg0) = m ((c.tc : Thread Cert.LnFIdeal.nD Cert.LnFIdeal.τ).loc Cert.LnFIdeal.main_arg0)
          ∧ r.2.mem ((c.tc : Thread Cert.LnFIdeal.nD Cert.LnFIdeal.τ).loc Cert.LnFIdeal.main_arg1) = m ((c.tc : Thread Cert.LnFIdeal.nD Cert.LnFIdeal.τ).loc Cert.LnFIdeal.main_arg1)
          ∧ r.2.mem ((c.tc : Thread Cert.LnFIdeal.nD Cert.LnFIdeal.τ).loc Cert.LnFIdeal.main_arg2) = m ((c.tc : Thread Cert.LnFIdeal.nD Cert.LnFIdeal.τ).loc Cert.LnFIdeal.main_arg2)
          ∧ r.2.mem ((c.tc : Thread Cert.LnFIdeal.nD Cert.LnFIdeal.τ).loc Cert.LnFIdeal.main_arg3) = m ((c.tc : Thread Cert.LnFIdeal.nD Cert.LnFIdeal.τ).loc Cert.LnFIdeal.main_arg3))
      ∧ θ_run (Cert.LnFRefIdeal.defs (F := Ideal)) (onTc (τ := Cert.LnFRefIdeal.τ) (Cert.LnFRefIdeal.main (F := Ideal))) ⟨m', fun _ => 0, g'⟩ (fun r => ∀ c : Dev Cert.LnFRefIdeal.nD,
          r.2.mem ((c.tc : Thread Cert.LnFRefIdeal.nD Cert.LnFRefIdeal.τ).loc Cert.LnFRefIdeal.main_v2) = v0 c
          ∧ r.2.mem ((c.tc : Thread Cert.LnFRefIdeal.nD Cert.LnFRefIdeal.τ).loc Cert.LnFRefIdeal.main_v26) = v1 c
          ∧ r.2.mem ((c.tc : Thread Cert.LnFRefIdeal.nD Cert.LnFRefIdeal.τ).loc Cert.LnFRefIdeal.main_arg0) = m' ((c.tc : Thread Cert.LnFRefIdeal.nD Cert.LnFRefIdeal.τ).loc Cert.LnFRefIdeal.main_arg0)
          ∧ r.2.mem ((c.tc : Thread Cert.LnFRefIdeal.nD Cert.LnFRefIdeal.τ).loc Cert.LnFRefIdeal.main_arg1) = m' ((c.tc : Thread Cert.LnFRefIdeal.nD Cert.LnFRefIdeal.τ).loc Cert.LnFRefIdeal.main_arg1)
          ∧ r.2.mem ((c.tc : Thread Cert.LnFRefIdeal.nD Cert.LnFRefIdeal.τ).loc Cert.LnFRefIdeal.main_arg2) = m' ((c.tc : Thread Cert.LnFRefIdeal.nD Cert.LnFRefIdeal.τ).loc Cert.LnFRefIdeal.main_arg2)
          ∧ r.2.mem ((c.tc : Thread Cert.LnFRefIdeal.nD Cert.LnFRefIdeal.τ).loc Cert.LnFRefIdeal.main_arg3) = m' ((c.tc : Thread Cert.LnFRefIdeal.nD Cert.LnFRefIdeal.τ).loc Cert.LnFRefIdeal.main_arg3))

def preserves_LnB_LnBIdeal : Prop :=
  True

def algebraic_LnBIdeal_LnBRefIdeal [hLnBIdeal : Cert.LnBIdeal.Facts] [hLnBRefIdeal : Cert.LnBRefIdeal.Facts] : Prop :=
  ∀ (m : (ℓ : Loc Cert.LnBIdeal.nD Cert.LnBIdeal.τ Cert.LnBIdeal.sig) → Buf (Elt Ideal) ℓ) (g : Dev Cert.LnBIdeal.nD → PrngReg)
    (m' : (ℓ : Loc Cert.LnBRefIdeal.nD Cert.LnBRefIdeal.τ Cert.LnBRefIdeal.sig) → Buf (Elt Ideal) ℓ) (g' : Dev Cert.LnBRefIdeal.nD → PrngReg), Pre_LnBIdeal m →
    (∀ c : Dev Cert.LnBIdeal.nD,
      m' ((c.tc : Thread Cert.LnBRefIdeal.nD Cert.LnBRefIdeal.τ).loc Cert.LnBRefIdeal.main_arg0) = m ((c.tc : Thread Cert.LnBIdeal.nD Cert.LnBIdeal.τ).loc Cert.LnBIdeal.main_arg0)
      ∧ m' ((c.tc : Thread Cert.LnBRefIdeal.nD Cert.LnBRefIdeal.τ).loc Cert.LnBRefIdeal.main_arg1) = m ((c.tc : Thread Cert.LnBIdeal.nD Cert.LnBIdeal.τ).loc Cert.LnBIdeal.main_arg1)
      ∧ m' ((c.tc : Thread Cert.LnBRefIdeal.nD Cert.LnBRefIdeal.τ).loc Cert.LnBRefIdeal.main_arg2) = m ((c.tc : Thread Cert.LnBIdeal.nD Cert.LnBIdeal.τ).loc Cert.LnBIdeal.main_arg2)) →
    ∃ (v0 : (c : Dev Cert.LnBIdeal.nD) → Buf (Elt Ideal) ((c.tc : Thread Cert.LnBIdeal.nD Cert.LnBIdeal.τ).loc Cert.LnBIdeal.main_v1_0)) (v1 : (c : Dev Cert.LnBIdeal.nD) → Buf (Elt Ideal) ((c.tc : Thread Cert.LnBIdeal.nD Cert.LnBIdeal.τ).loc Cert.LnBIdeal.main_v1_1)),
      θ_run (Cert.LnBIdeal.defs (F := Ideal)) (onTc (τ := Cert.LnBIdeal.τ) (Cert.LnBIdeal.main (F := Ideal))) ⟨m, fun _ => 0, g⟩ (fun r => ∀ c : Dev Cert.LnBIdeal.nD,
          r.2.mem ((c.tc : Thread Cert.LnBIdeal.nD Cert.LnBIdeal.τ).loc Cert.LnBIdeal.main_v1_0) = v0 c
          ∧ r.2.mem ((c.tc : Thread Cert.LnBIdeal.nD Cert.LnBIdeal.τ).loc Cert.LnBIdeal.main_v1_1) = v1 c
          ∧ r.2.mem ((c.tc : Thread Cert.LnBIdeal.nD Cert.LnBIdeal.τ).loc Cert.LnBIdeal.main_arg0) = m ((c.tc : Thread Cert.LnBIdeal.nD Cert.LnBIdeal.τ).loc Cert.LnBIdeal.main_arg0)
          ∧ r.2.mem ((c.tc : Thread Cert.LnBIdeal.nD Cert.LnBIdeal.τ).loc Cert.LnBIdeal.main_arg1) = m ((c.tc : Thread Cert.LnBIdeal.nD Cert.LnBIdeal.τ).loc Cert.LnBIdeal.main_arg1)
          ∧ r.2.mem ((c.tc : Thread Cert.LnBIdeal.nD Cert.LnBIdeal.τ).loc Cert.LnBIdeal.main_arg2) = m ((c.tc : Thread Cert.LnBIdeal.nD Cert.LnBIdeal.τ).loc Cert.LnBIdeal.main_arg2))
      ∧ θ_run (Cert.LnBRefIdeal.defs (F := Ideal)) (onTc (τ := Cert.LnBRefIdeal.τ) (Cert.LnBRefIdeal.main (F := Ideal))) ⟨m', fun _ => 0, g'⟩ (fun r => ∀ c : Dev Cert.LnBRefIdeal.nD,
          r.2.mem ((c.tc : Thread Cert.LnBRefIdeal.nD Cert.LnBRefIdeal.τ).loc Cert.LnBRefIdeal.main_v36) = v0 c
          ∧ r.2.mem ((c.tc : Thread Cert.LnBRefIdeal.nD Cert.LnBRefIdeal.τ).loc Cert.LnBRefIdeal.main_v43) = v1 c
          ∧ r.2.mem ((c.tc : Thread Cert.LnBRefIdeal.nD Cert.LnBRefIdeal.τ).loc Cert.LnBRefIdeal.main_arg0) = m' ((c.tc : Thread Cert.LnBRefIdeal.nD Cert.LnBRefIdeal.τ).loc Cert.LnBRefIdeal.main_arg0)
          ∧ r.2.mem ((c.tc : Thread Cert.LnBRefIdeal.nD Cert.LnBRefIdeal.τ).loc Cert.LnBRefIdeal.main_arg1) = m' ((c.tc : Thread Cert.LnBRefIdeal.nD Cert.LnBRefIdeal.τ).loc Cert.LnBRefIdeal.main_arg1)
          ∧ r.2.mem ((c.tc : Thread Cert.LnBRefIdeal.nD Cert.LnBRefIdeal.τ).loc Cert.LnBRefIdeal.main_arg2) = m' ((c.tc : Thread Cert.LnBRefIdeal.nD Cert.LnBRefIdeal.τ).loc Cert.LnBRefIdeal.main_arg2))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v2) = v0 c
          ∧ r.2.mem ((c.tc : Thread Cert.LossRefIdeal.nD Cert.LossRefIdeal.τ).loc Cert.LossRefIdeal.main_v9) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_ConvF_ConvFIdeal : Prop :=
  True

def algebraic_ConvFIdeal_ConvFRefIdeal [hConvFIdeal : Cert.ConvFIdeal.Facts] [hConvFRefIdeal : Cert.ConvFRefIdeal.Facts] : Prop :=
  ∀ (m : (ℓ : Loc Cert.ConvFIdeal.nD Cert.ConvFIdeal.τ Cert.ConvFIdeal.sig) → Buf (Elt Ideal) ℓ) (g : Dev Cert.ConvFIdeal.nD → PrngReg)
    (m' : (ℓ : Loc Cert.ConvFRefIdeal.nD Cert.ConvFRefIdeal.τ Cert.ConvFRefIdeal.sig) → Buf (Elt Ideal) ℓ) (g' : Dev Cert.ConvFRefIdeal.nD → PrngReg), Pre_ConvFIdeal m →
    (∀ c : Dev Cert.ConvFIdeal.nD,
      m' ((c.tc : Thread Cert.ConvFRefIdeal.nD Cert.ConvFRefIdeal.τ).loc Cert.ConvFRefIdeal.main_arg0) = m ((c.tc : Thread Cert.ConvFIdeal.nD Cert.ConvFIdeal.τ).loc Cert.ConvFIdeal.main_arg0)
      ∧ m' ((c.tc : Thread Cert.ConvFRefIdeal.nD Cert.ConvFRefIdeal.τ).loc Cert.ConvFRefIdeal.main_arg1) = m ((c.tc : Thread Cert.ConvFIdeal.nD Cert.ConvFIdeal.τ).loc Cert.ConvFIdeal.main_arg1)) →
    ∃ (v0 : (c : Dev Cert.ConvFIdeal.nD) → Buf (Elt Ideal) ((c.tc : Thread Cert.ConvFIdeal.nD Cert.ConvFIdeal.τ).loc Cert.ConvFIdeal.main_v0)),
      θ_run (Cert.ConvFIdeal.defs (F := Ideal)) (onTc (τ := Cert.ConvFIdeal.τ) (Cert.ConvFIdeal.main (F := Ideal))) ⟨m, fun _ => 0, g⟩ (fun r => ∀ c : Dev Cert.ConvFIdeal.nD,
          r.2.mem ((c.tc : Thread Cert.ConvFIdeal.nD Cert.ConvFIdeal.τ).loc Cert.ConvFIdeal.main_v0) = v0 c
          ∧ r.2.mem ((c.tc : Thread Cert.ConvFIdeal.nD Cert.ConvFIdeal.τ).loc Cert.ConvFIdeal.main_arg0) = m ((c.tc : Thread Cert.ConvFIdeal.nD Cert.ConvFIdeal.τ).loc Cert.ConvFIdeal.main_arg0)
          ∧ r.2.mem ((c.tc : Thread Cert.ConvFIdeal.nD Cert.ConvFIdeal.τ).loc Cert.ConvFIdeal.main_arg1) = m ((c.tc : Thread Cert.ConvFIdeal.nD Cert.ConvFIdeal.τ).loc Cert.ConvFIdeal.main_arg1))
      ∧ θ_run (Cert.ConvFRefIdeal.defs (F := Ideal)) (onTc (τ := Cert.ConvFRefIdeal.τ) (Cert.ConvFRefIdeal.main (F := Ideal))) ⟨m', fun _ => 0, g'⟩ (fun r => ∀ c : Dev Cert.ConvFRefIdeal.nD,
          r.2.mem ((c.tc : Thread Cert.ConvFRefIdeal.nD Cert.ConvFRefIdeal.τ).loc Cert.ConvFRefIdeal.main_v31) = v0 c
          ∧ r.2.mem ((c.tc : Thread Cert.ConvFRefIdeal.nD Cert.ConvFRefIdeal.τ).loc Cert.ConvFRefIdeal.main_arg0) = m' ((c.tc : Thread Cert.ConvFRefIdeal.nD Cert.ConvFRefIdeal.τ).loc Cert.ConvFRefIdeal.main_arg0)
          ∧ r.2.mem ((c.tc : Thread Cert.ConvFRefIdeal.nD Cert.ConvFRefIdeal.τ).loc Cert.ConvFRefIdeal.main_arg1) = m' ((c.tc : Thread Cert.ConvFRefIdeal.nD Cert.ConvFRefIdeal.τ).loc Cert.ConvFRefIdeal.main_arg1))

def preserves_ConvB_ConvBIdeal : Prop :=
  True

def algebraic_ConvBIdeal_ConvBRefIdeal [hConvBIdeal : Cert.ConvBIdeal.Facts] [hConvBRefIdeal : Cert.ConvBRefIdeal.Facts] : Prop :=
  ∀ (m : (ℓ : Loc Cert.ConvBIdeal.nD Cert.ConvBIdeal.τ Cert.ConvBIdeal.sig) → Buf (Elt Ideal) ℓ) (g : Dev Cert.ConvBIdeal.nD → PrngReg)
    (m' : (ℓ : Loc Cert.ConvBRefIdeal.nD Cert.ConvBRefIdeal.τ Cert.ConvBRefIdeal.sig) → Buf (Elt Ideal) ℓ) (g' : Dev Cert.ConvBRefIdeal.nD → PrngReg), Pre_ConvBIdeal m →
    (∀ c : Dev Cert.ConvBIdeal.nD,
      m' ((c.tc : Thread Cert.ConvBRefIdeal.nD Cert.ConvBRefIdeal.τ).loc Cert.ConvBRefIdeal.main_arg0) = m ((c.tc : Thread Cert.ConvBIdeal.nD Cert.ConvBIdeal.τ).loc Cert.ConvBIdeal.main_arg0)
      ∧ m' ((c.tc : Thread Cert.ConvBRefIdeal.nD Cert.ConvBRefIdeal.τ).loc Cert.ConvBRefIdeal.main_arg1) = m ((c.tc : Thread Cert.ConvBIdeal.nD Cert.ConvBIdeal.τ).loc Cert.ConvBIdeal.main_arg1)
      ∧ m' ((c.tc : Thread Cert.ConvBRefIdeal.nD Cert.ConvBRefIdeal.τ).loc Cert.ConvBRefIdeal.main_arg2) = m ((c.tc : Thread Cert.ConvBIdeal.nD Cert.ConvBIdeal.τ).loc Cert.ConvBIdeal.main_arg2)) →
    ∃ (v0 : (c : Dev Cert.ConvBIdeal.nD) → Buf (Elt Ideal) ((c.tc : Thread Cert.ConvBIdeal.nD Cert.ConvBIdeal.τ).loc Cert.ConvBIdeal.main_v0_0)) (v1 : (c : Dev Cert.ConvBIdeal.nD) → Buf (Elt Ideal) ((c.tc : Thread Cert.ConvBIdeal.nD Cert.ConvBIdeal.τ).loc Cert.ConvBIdeal.main_v0_1)),
      θ_run (Cert.ConvBIdeal.defs (F := Ideal)) (onTc (τ := Cert.ConvBIdeal.τ) (Cert.ConvBIdeal.main (F := Ideal))) ⟨m, fun _ => 0, g⟩ (fun r => ∀ c : Dev Cert.ConvBIdeal.nD,
          r.2.mem ((c.tc : Thread Cert.ConvBIdeal.nD Cert.ConvBIdeal.τ).loc Cert.ConvBIdeal.main_v0_0) = v0 c
          ∧ r.2.mem ((c.tc : Thread Cert.ConvBIdeal.nD Cert.ConvBIdeal.τ).loc Cert.ConvBIdeal.main_v0_1) = v1 c
          ∧ r.2.mem ((c.tc : Thread Cert.ConvBIdeal.nD Cert.ConvBIdeal.τ).loc Cert.ConvBIdeal.main_arg0) = m ((c.tc : Thread Cert.ConvBIdeal.nD Cert.ConvBIdeal.τ).loc Cert.ConvBIdeal.main_arg0)
          ∧ r.2.mem ((c.tc : Thread Cert.ConvBIdeal.nD Cert.ConvBIdeal.τ).loc Cert.ConvBIdeal.main_arg1) = m ((c.tc : Thread Cert.ConvBIdeal.nD Cert.ConvBIdeal.τ).loc Cert.ConvBIdeal.main_arg1)
          ∧ r.2.mem ((c.tc : Thread Cert.ConvBIdeal.nD Cert.ConvBIdeal.τ).loc Cert.ConvBIdeal.main_arg2) = m ((c.tc : Thread Cert.ConvBIdeal.nD Cert.ConvBIdeal.τ).loc Cert.ConvBIdeal.main_arg2))
      ∧ θ_run (Cert.ConvBRefIdeal.defs (F := Ideal)) (onTc (τ := Cert.ConvBRefIdeal.τ) (Cert.ConvBRefIdeal.main (F := Ideal))) ⟨m', fun _ => 0, g'⟩ (fun r => ∀ c : Dev Cert.ConvBRefIdeal.nD,
          r.2.mem ((c.tc : Thread Cert.ConvBRefIdeal.nD Cert.ConvBRefIdeal.τ).loc Cert.ConvBRefIdeal.main_v79) = v0 c
          ∧ r.2.mem ((c.tc : Thread Cert.ConvBRefIdeal.nD Cert.ConvBRefIdeal.τ).loc Cert.ConvBRefIdeal.main_v81) = v1 c
          ∧ r.2.mem ((c.tc : Thread Cert.ConvBRefIdeal.nD Cert.ConvBRefIdeal.τ).loc Cert.ConvBRefIdeal.main_arg0) = m' ((c.tc : Thread Cert.ConvBRefIdeal.nD Cert.ConvBRefIdeal.τ).loc Cert.ConvBRefIdeal.main_arg0)
          ∧ r.2.mem ((c.tc : Thread Cert.ConvBRefIdeal.nD Cert.ConvBRefIdeal.τ).loc Cert.ConvBRefIdeal.main_arg1) = m' ((c.tc : Thread Cert.ConvBRefIdeal.nD Cert.ConvBRefIdeal.τ).loc Cert.ConvBRefIdeal.main_arg1)
          ∧ r.2.mem ((c.tc : Thread Cert.ConvBRefIdeal.nD Cert.ConvBRefIdeal.τ).loc Cert.ConvBRefIdeal.main_arg2) = m' ((c.tc : Thread Cert.ConvBRefIdeal.nD Cert.ConvBRefIdeal.τ).loc Cert.ConvBRefIdeal.main_arg2))

def preserves_DilD_DilDIdeal : Prop :=
  True

def algebraic_DilDIdeal_DilDRefIdeal [hDilDIdeal : Cert.DilDIdeal.Facts] [hDilDRefIdeal : Cert.DilDRefIdeal.Facts] : Prop :=
  ∀ (m : (ℓ : Loc Cert.DilDIdeal.nD Cert.DilDIdeal.τ Cert.DilDIdeal.sig) → Buf (Elt Ideal) ℓ) (g : Dev Cert.DilDIdeal.nD → PrngReg)
    (m' : (ℓ : Loc Cert.DilDRefIdeal.nD Cert.DilDRefIdeal.τ Cert.DilDRefIdeal.sig) → Buf (Elt Ideal) ℓ) (g' : Dev Cert.DilDRefIdeal.nD → PrngReg), Pre_DilDIdeal m →
    (∀ c : Dev Cert.DilDIdeal.nD,
      m' ((c.tc : Thread Cert.DilDRefIdeal.nD Cert.DilDRefIdeal.τ).loc Cert.DilDRefIdeal.main_arg0) = m ((c.tc : Thread Cert.DilDIdeal.nD Cert.DilDIdeal.τ).loc Cert.DilDIdeal.main_arg0)
      ∧ m' ((c.tc : Thread Cert.DilDRefIdeal.nD Cert.DilDRefIdeal.τ).loc Cert.DilDRefIdeal.main_arg1) = m ((c.tc : Thread Cert.DilDIdeal.nD Cert.DilDIdeal.τ).loc Cert.DilDIdeal.main_arg1)) →
    ∃ (v0 : (c : Dev Cert.DilDIdeal.nD) → Buf (Elt Ideal) ((c.tc : Thread Cert.DilDIdeal.nD Cert.DilDIdeal.τ).loc Cert.DilDIdeal.main_v0)),
      θ_run (Cert.DilDIdeal.defs (F := Ideal)) (onTc (τ := Cert.DilDIdeal.τ) (Cert.DilDIdeal.main (F := Ideal))) ⟨m, fun _ => 0, g⟩ (fun r => ∀ c : Dev Cert.DilDIdeal.nD,
          r.2.mem ((c.tc : Thread Cert.DilDIdeal.nD Cert.DilDIdeal.τ).loc Cert.DilDIdeal.main_v0) = v0 c
          ∧ r.2.mem ((c.tc : Thread Cert.DilDIdeal.nD Cert.DilDIdeal.τ).loc Cert.DilDIdeal.main_arg0) = m ((c.tc : Thread Cert.DilDIdeal.nD Cert.DilDIdeal.τ).loc Cert.DilDIdeal.main_arg0)
          ∧ r.2.mem ((c.tc : Thread Cert.DilDIdeal.nD Cert.DilDIdeal.τ).loc Cert.DilDIdeal.main_arg1) = m ((c.tc : Thread Cert.DilDIdeal.nD Cert.DilDIdeal.τ).loc Cert.DilDIdeal.main_arg1))
      ∧ θ_run (Cert.DilDRefIdeal.defs (F := Ideal)) (onTc (τ := Cert.DilDRefIdeal.τ) (Cert.DilDRefIdeal.main (F := Ideal))) ⟨m', fun _ => 0, g'⟩ (fun r => ∀ c : Dev Cert.DilDRefIdeal.nD,
          r.2.mem ((c.tc : Thread Cert.DilDRefIdeal.nD Cert.DilDRefIdeal.τ).loc Cert.DilDRefIdeal.main_v6) = v0 c
          ∧ r.2.mem ((c.tc : Thread Cert.DilDRefIdeal.nD Cert.DilDRefIdeal.τ).loc Cert.DilDRefIdeal.main_arg0) = m' ((c.tc : Thread Cert.DilDRefIdeal.nD Cert.DilDRefIdeal.τ).loc Cert.DilDRefIdeal.main_arg0)
          ∧ r.2.mem ((c.tc : Thread Cert.DilDRefIdeal.nD Cert.DilDRefIdeal.τ).loc Cert.DilDRefIdeal.main_arg1) = m' ((c.tc : Thread Cert.DilDRefIdeal.nD Cert.DilDRefIdeal.τ).loc Cert.DilDRefIdeal.main_arg1))

def preserves_DilM_DilMIdeal : Prop :=
  True

def algebraic_DilMIdeal_DilMRefIdeal [hDilMIdeal : Cert.DilMIdeal.Facts] [hDilMRefIdeal : Cert.DilMRefIdeal.Facts] : Prop :=
  ∀ (m : (ℓ : Loc Cert.DilMIdeal.nD Cert.DilMIdeal.τ Cert.DilMIdeal.sig) → Buf (Elt Ideal) ℓ) (g : Dev Cert.DilMIdeal.nD → PrngReg)
    (m' : (ℓ : Loc Cert.DilMRefIdeal.nD Cert.DilMRefIdeal.τ Cert.DilMRefIdeal.sig) → Buf (Elt Ideal) ℓ) (g' : Dev Cert.DilMRefIdeal.nD → PrngReg), Pre_DilMIdeal m →
    (∀ c : Dev Cert.DilMIdeal.nD,
      m' ((c.tc : Thread Cert.DilMRefIdeal.nD Cert.DilMRefIdeal.τ).loc Cert.DilMRefIdeal.main_arg0) = m ((c.tc : Thread Cert.DilMIdeal.nD Cert.DilMIdeal.τ).loc Cert.DilMIdeal.main_arg0)
      ∧ m' ((c.tc : Thread Cert.DilMRefIdeal.nD Cert.DilMRefIdeal.τ).loc Cert.DilMRefIdeal.main_arg1) = m ((c.tc : Thread Cert.DilMIdeal.nD Cert.DilMIdeal.τ).loc Cert.DilMIdeal.main_arg1)) →
    ∃ (v0 : (c : Dev Cert.DilMIdeal.nD) → Buf (Elt Ideal) ((c.tc : Thread Cert.DilMIdeal.nD Cert.DilMIdeal.τ).loc Cert.DilMIdeal.main_v0_0)) (v1 : (c : Dev Cert.DilMIdeal.nD) → Buf (Elt Ideal) ((c.tc : Thread Cert.DilMIdeal.nD Cert.DilMIdeal.τ).loc Cert.DilMIdeal.main_v0_1)),
      θ_run (Cert.DilMIdeal.defs (F := Ideal)) (onTc (τ := Cert.DilMIdeal.τ) (Cert.DilMIdeal.main (F := Ideal))) ⟨m, fun _ => 0, g⟩ (fun r => ∀ c : Dev Cert.DilMIdeal.nD,
          r.2.mem ((c.tc : Thread Cert.DilMIdeal.nD Cert.DilMIdeal.τ).loc Cert.DilMIdeal.main_v0_0) = v0 c
          ∧ r.2.mem ((c.tc : Thread Cert.DilMIdeal.nD Cert.DilMIdeal.τ).loc Cert.DilMIdeal.main_v0_1) = v1 c
          ∧ r.2.mem ((c.tc : Thread Cert.DilMIdeal.nD Cert.DilMIdeal.τ).loc Cert.DilMIdeal.main_arg0) = m ((c.tc : Thread Cert.DilMIdeal.nD Cert.DilMIdeal.τ).loc Cert.DilMIdeal.main_arg0)
          ∧ r.2.mem ((c.tc : Thread Cert.DilMIdeal.nD Cert.DilMIdeal.τ).loc Cert.DilMIdeal.main_arg1) = m ((c.tc : Thread Cert.DilMIdeal.nD Cert.DilMIdeal.τ).loc Cert.DilMIdeal.main_arg1))
      ∧ θ_run (Cert.DilMRefIdeal.defs (F := Ideal)) (onTc (τ := Cert.DilMRefIdeal.τ) (Cert.DilMRefIdeal.main (F := Ideal))) ⟨m', fun _ => 0, g'⟩ (fun r => ∀ c : Dev Cert.DilMRefIdeal.nD,
          r.2.mem ((c.tc : Thread Cert.DilMRefIdeal.nD Cert.DilMRefIdeal.τ).loc Cert.DilMRefIdeal.main_v27) = v0 c
          ∧ r.2.mem ((c.tc : Thread Cert.DilMRefIdeal.nD Cert.DilMRefIdeal.τ).loc Cert.DilMRefIdeal.main_v29) = v1 c
          ∧ r.2.mem ((c.tc : Thread Cert.DilMRefIdeal.nD Cert.DilMRefIdeal.τ).loc Cert.DilMRefIdeal.main_arg0) = m' ((c.tc : Thread Cert.DilMRefIdeal.nD Cert.DilMRefIdeal.τ).loc Cert.DilMRefIdeal.main_arg0)
          ∧ r.2.mem ((c.tc : Thread Cert.DilMRefIdeal.nD Cert.DilMRefIdeal.τ).loc Cert.DilMRefIdeal.main_arg1) = m' ((c.tc : Thread Cert.DilMRefIdeal.nD Cert.DilMRefIdeal.τ).loc Cert.DilMRefIdeal.main_arg1))

def preserves_FoxF_FoxFIdeal : Prop :=
  True

def algebraic_FoxFIdeal_FoxFRefIdeal [hFoxFIdeal : Cert.FoxFIdeal.Facts] [hFoxFRefIdeal : Cert.FoxFRefIdeal.Facts] : Prop :=
  ∀ (m : (ℓ : Loc Cert.FoxFIdeal.nD Cert.FoxFIdeal.τ Cert.FoxFIdeal.sig) → Buf (Elt Ideal) ℓ) (g : Dev Cert.FoxFIdeal.nD → PrngReg)
    (m' : (ℓ : Loc Cert.FoxFRefIdeal.nD Cert.FoxFRefIdeal.τ Cert.FoxFRefIdeal.sig) → Buf (Elt Ideal) ℓ) (g' : Dev Cert.FoxFRefIdeal.nD → PrngReg), Pre_FoxFIdeal m →
    (∀ c : Dev Cert.FoxFIdeal.nD,
      m' ((c.tc : Thread Cert.FoxFRefIdeal.nD Cert.FoxFRefIdeal.τ).loc Cert.FoxFRefIdeal.main_arg0) = m ((c.tc : Thread Cert.FoxFIdeal.nD Cert.FoxFIdeal.τ).loc Cert.FoxFIdeal.main_arg0)
      ∧ m' ((c.tc : Thread Cert.FoxFRefIdeal.nD Cert.FoxFRefIdeal.τ).loc Cert.FoxFRefIdeal.main_arg1) = m ((c.tc : Thread Cert.FoxFIdeal.nD Cert.FoxFIdeal.τ).loc Cert.FoxFIdeal.main_arg1)) →
    ∃ (v0 : (c : Dev Cert.FoxFIdeal.nD) → Buf (Elt Ideal) ((c.tc : Thread Cert.FoxFIdeal.nD Cert.FoxFIdeal.τ).loc Cert.FoxFIdeal.main_v0)),
      θ_run (Cert.FoxFIdeal.defs (F := Ideal)) (onTc (τ := Cert.FoxFIdeal.τ) (Cert.FoxFIdeal.main (F := Ideal))) ⟨m, fun _ => 0, g⟩ (fun r => ∀ c : Dev Cert.FoxFIdeal.nD,
          r.2.mem ((c.tc : Thread Cert.FoxFIdeal.nD Cert.FoxFIdeal.τ).loc Cert.FoxFIdeal.main_v0) = v0 c
          ∧ r.2.mem ((c.tc : Thread Cert.FoxFIdeal.nD Cert.FoxFIdeal.τ).loc Cert.FoxFIdeal.main_arg0) = m ((c.tc : Thread Cert.FoxFIdeal.nD Cert.FoxFIdeal.τ).loc Cert.FoxFIdeal.main_arg0)
          ∧ r.2.mem ((c.tc : Thread Cert.FoxFIdeal.nD Cert.FoxFIdeal.τ).loc Cert.FoxFIdeal.main_arg1) = m ((c.tc : Thread Cert.FoxFIdeal.nD Cert.FoxFIdeal.τ).loc Cert.FoxFIdeal.main_arg1))
      ∧ θ_run (Cert.FoxFRefIdeal.defs (F := Ideal)) (onTc (τ := Cert.FoxFRefIdeal.τ) (Cert.FoxFRefIdeal.main (F := Ideal))) ⟨m', fun _ => 0, g'⟩ (fun r => ∀ c : Dev Cert.FoxFRefIdeal.nD,
          r.2.mem ((c.tc : Thread Cert.FoxFRefIdeal.nD Cert.FoxFRefIdeal.τ).loc Cert.FoxFRefIdeal.main_v9) = v0 c
          ∧ r.2.mem ((c.tc : Thread Cert.FoxFRefIdeal.nD Cert.FoxFRefIdeal.τ).loc Cert.FoxFRefIdeal.main_arg0) = m' ((c.tc : Thread Cert.FoxFRefIdeal.nD Cert.FoxFRefIdeal.τ).loc Cert.FoxFRefIdeal.main_arg0)
          ∧ r.2.mem ((c.tc : Thread Cert.FoxFRefIdeal.nD Cert.FoxFRefIdeal.τ).loc Cert.FoxFRefIdeal.main_arg1) = m' ((c.tc : Thread Cert.FoxFRefIdeal.nD Cert.FoxFRefIdeal.τ).loc Cert.FoxFRefIdeal.main_arg1))

def preserves_FoxB_FoxBIdeal : Prop :=
  True

def algebraic_FoxBIdeal_FoxBRefIdeal_pre_below_infinity [hFoxBIdeal : Cert.FoxBIdeal.Facts] [hFoxBRefIdeal : Cert.FoxBRefIdeal.Facts] [hPre_below_infinity : Cert.Pre_below_infinity.Facts] : Prop :=
  ∀ (m : (ℓ : Loc Cert.FoxBIdeal.nD Cert.FoxBIdeal.τ Cert.FoxBIdeal.sig) → Buf (Elt Ideal) ℓ) (g : Dev Cert.FoxBIdeal.nD → PrngReg)
    (m' : (ℓ : Loc Cert.FoxBRefIdeal.nD Cert.FoxBRefIdeal.τ Cert.FoxBRefIdeal.sig) → Buf (Elt Ideal) ℓ) (g' : Dev Cert.FoxBRefIdeal.nD → PrngReg), Pre_FoxBIdeal_below_infinity m →
    (∀ c : Dev Cert.FoxBIdeal.nD,
      m' ((c.tc : Thread Cert.FoxBRefIdeal.nD Cert.FoxBRefIdeal.τ).loc Cert.FoxBRefIdeal.main_arg0) = m ((c.tc : Thread Cert.FoxBIdeal.nD Cert.FoxBIdeal.τ).loc Cert.FoxBIdeal.main_arg0)
      ∧ m' ((c.tc : Thread Cert.FoxBRefIdeal.nD Cert.FoxBRefIdeal.τ).loc Cert.FoxBRefIdeal.main_arg1) = m ((c.tc : Thread Cert.FoxBIdeal.nD Cert.FoxBIdeal.τ).loc Cert.FoxBIdeal.main_arg1)
      ∧ m' ((c.tc : Thread Cert.FoxBRefIdeal.nD Cert.FoxBRefIdeal.τ).loc Cert.FoxBRefIdeal.main_arg2) = m ((c.tc : Thread Cert.FoxBIdeal.nD Cert.FoxBIdeal.τ).loc Cert.FoxBIdeal.main_arg2)) →
    ∃ (v0 : (c : Dev Cert.FoxBIdeal.nD) → Buf (Elt Ideal) ((c.tc : Thread Cert.FoxBIdeal.nD Cert.FoxBIdeal.τ).loc Cert.FoxBIdeal.main_v0_0)) (v1 : (c : Dev Cert.FoxBIdeal.nD) → Buf (Elt Ideal) ((c.tc : Thread Cert.FoxBIdeal.nD Cert.FoxBIdeal.τ).loc Cert.FoxBIdeal.main_v0_1)),
      θ_run (Cert.FoxBIdeal.defs (F := Ideal)) (onTc (τ := Cert.FoxBIdeal.τ) (Cert.FoxBIdeal.main (F := Ideal))) ⟨m, fun _ => 0, g⟩ (fun r => ∀ c : Dev Cert.FoxBIdeal.nD,
          r.2.mem ((c.tc : Thread Cert.FoxBIdeal.nD Cert.FoxBIdeal.τ).loc Cert.FoxBIdeal.main_v0_0) = v0 c
          ∧ r.2.mem ((c.tc : Thread Cert.FoxBIdeal.nD Cert.FoxBIdeal.τ).loc Cert.FoxBIdeal.main_v0_1) = v1 c
          ∧ r.2.mem ((c.tc : Thread Cert.FoxBIdeal.nD Cert.FoxBIdeal.τ).loc Cert.FoxBIdeal.main_arg0) = m ((c.tc : Thread Cert.FoxBIdeal.nD Cert.FoxBIdeal.τ).loc Cert.FoxBIdeal.main_arg0)
          ∧ r.2.mem ((c.tc : Thread Cert.FoxBIdeal.nD Cert.FoxBIdeal.τ).loc Cert.FoxBIdeal.main_arg1) = m ((c.tc : Thread Cert.FoxBIdeal.nD Cert.FoxBIdeal.τ).loc Cert.FoxBIdeal.main_arg1)
          ∧ r.2.mem ((c.tc : Thread Cert.FoxBIdeal.nD Cert.FoxBIdeal.τ).loc Cert.FoxBIdeal.main_arg2) = m ((c.tc : Thread Cert.FoxBIdeal.nD Cert.FoxBIdeal.τ).loc Cert.FoxBIdeal.main_arg2))
      ∧ θ_run (Cert.FoxBRefIdeal.defs (F := Ideal)) (onTc (τ := Cert.FoxBRefIdeal.τ) (Cert.FoxBRefIdeal.main (F := Ideal))) ⟨m', fun _ => 0, g'⟩ (fun r => ∀ c : Dev Cert.FoxBRefIdeal.nD,
          r.2.mem ((c.tc : Thread Cert.FoxBRefIdeal.nD Cert.FoxBRefIdeal.τ).loc Cert.FoxBRefIdeal.main_v22) = v0 c
          ∧ r.2.mem ((c.tc : Thread Cert.FoxBRefIdeal.nD Cert.FoxBRefIdeal.τ).loc Cert.FoxBRefIdeal.main_v24) = v1 c
          ∧ r.2.mem ((c.tc : Thread Cert.FoxBRefIdeal.nD Cert.FoxBRefIdeal.τ).loc Cert.FoxBRefIdeal.main_arg0) = m' ((c.tc : Thread Cert.FoxBRefIdeal.nD Cert.FoxBRefIdeal.τ).loc Cert.FoxBRefIdeal.main_arg0)
          ∧ r.2.mem ((c.tc : Thread Cert.FoxBRefIdeal.nD Cert.FoxBRefIdeal.τ).loc Cert.FoxBRefIdeal.main_arg1) = m' ((c.tc : Thread Cert.FoxBRefIdeal.nD Cert.FoxBRefIdeal.τ).loc Cert.FoxBRefIdeal.main_arg1)
          ∧ r.2.mem ((c.tc : Thread Cert.FoxBRefIdeal.nD Cert.FoxBRefIdeal.τ).loc Cert.FoxBRefIdeal.main_arg2) = m' ((c.tc : Thread Cert.FoxBRefIdeal.nD Cert.FoxBRefIdeal.τ).loc Cert.FoxBRefIdeal.main_arg2))

def preserves_DilB_DilBIdeal : Prop :=
  True

def algebraic_DilBIdeal_DilBRefIdeal [hDilBIdeal : Cert.DilBIdeal.Facts] [hDilBRefIdeal : Cert.DilBRefIdeal.Facts] : Prop :=
  ∀ (m : (ℓ : Loc Cert.DilBIdeal.nD Cert.DilBIdeal.τ Cert.DilBIdeal.sig) → Buf (Elt Ideal) ℓ) (g : Dev Cert.DilBIdeal.nD → PrngReg)
    (m' : (ℓ : Loc Cert.DilBRefIdeal.nD Cert.DilBRefIdeal.τ Cert.DilBRefIdeal.sig) → Buf (Elt Ideal) ℓ) (g' : Dev Cert.DilBRefIdeal.nD → PrngReg), Pre_DilBIdeal m →
    (∀ c : Dev Cert.DilBIdeal.nD,
      m' ((c.tc : Thread Cert.DilBRefIdeal.nD Cert.DilBRefIdeal.τ).loc Cert.DilBRefIdeal.main_arg0) = m ((c.tc : Thread Cert.DilBIdeal.nD Cert.DilBIdeal.τ).loc Cert.DilBIdeal.main_arg0)
      ∧ m' ((c.tc : Thread Cert.DilBRefIdeal.nD Cert.DilBRefIdeal.τ).loc Cert.DilBRefIdeal.main_arg1) = m ((c.tc : Thread Cert.DilBIdeal.nD Cert.DilBIdeal.τ).loc Cert.DilBIdeal.main_arg1)) →
    ∃ (v0 : (c : Dev Cert.DilBIdeal.nD) → Buf (Elt Ideal) ((c.tc : Thread Cert.DilBIdeal.nD Cert.DilBIdeal.τ).loc Cert.DilBIdeal.main_v0)),
      θ_run (Cert.DilBIdeal.defs (F := Ideal)) (onTc (τ := Cert.DilBIdeal.τ) (Cert.DilBIdeal.main (F := Ideal))) ⟨m, fun _ => 0, g⟩ (fun r => ∀ c : Dev Cert.DilBIdeal.nD,
          r.2.mem ((c.tc : Thread Cert.DilBIdeal.nD Cert.DilBIdeal.τ).loc Cert.DilBIdeal.main_v0) = v0 c
          ∧ r.2.mem ((c.tc : Thread Cert.DilBIdeal.nD Cert.DilBIdeal.τ).loc Cert.DilBIdeal.main_arg0) = m ((c.tc : Thread Cert.DilBIdeal.nD Cert.DilBIdeal.τ).loc Cert.DilBIdeal.main_arg0)
          ∧ r.2.mem ((c.tc : Thread Cert.DilBIdeal.nD Cert.DilBIdeal.τ).loc Cert.DilBIdeal.main_arg1) = m ((c.tc : Thread Cert.DilBIdeal.nD Cert.DilBIdeal.τ).loc Cert.DilBIdeal.main_arg1))
      ∧ θ_run (Cert.DilBRefIdeal.defs (F := Ideal)) (onTc (τ := Cert.DilBRefIdeal.τ) (Cert.DilBRefIdeal.main (F := Ideal))) ⟨m', fun _ => 0, g'⟩ (fun r => ∀ c : Dev Cert.DilBRefIdeal.nD,
          r.2.mem ((c.tc : Thread Cert.DilBRefIdeal.nD Cert.DilBRefIdeal.τ).loc Cert.DilBRefIdeal.main_v15) = v0 c
          ∧ r.2.mem ((c.tc : Thread Cert.DilBRefIdeal.nD Cert.DilBRefIdeal.τ).loc Cert.DilBRefIdeal.main_arg0) = m' ((c.tc : Thread Cert.DilBRefIdeal.nD Cert.DilBRefIdeal.τ).loc Cert.DilBRefIdeal.main_arg0)
          ∧ r.2.mem ((c.tc : Thread Cert.DilBRefIdeal.nD Cert.DilBRefIdeal.τ).loc Cert.DilBRefIdeal.main_arg1) = m' ((c.tc : Thread Cert.DilBRefIdeal.nD Cert.DilBRefIdeal.τ).loc Cert.DilBRefIdeal.main_arg1))

def preserves_DilG_DilGIdeal : Prop :=
  True

def algebraic_DilGIdeal_DilGRefIdeal [hDilGIdeal : Cert.DilGIdeal.Facts] [hDilGRefIdeal : Cert.DilGRefIdeal.Facts] : Prop :=
  ∀ (m : (ℓ : Loc Cert.DilGIdeal.nD Cert.DilGIdeal.τ Cert.DilGIdeal.sig) → Buf (Elt Ideal) ℓ) (g : Dev Cert.DilGIdeal.nD → PrngReg)
    (m' : (ℓ : Loc Cert.DilGRefIdeal.nD Cert.DilGRefIdeal.τ Cert.DilGRefIdeal.sig) → Buf (Elt Ideal) ℓ) (g' : Dev Cert.DilGRefIdeal.nD → PrngReg), Pre_DilGIdeal m →
    (∀ c : Dev Cert.DilGIdeal.nD,
      m' ((c.tc : Thread Cert.DilGRefIdeal.nD Cert.DilGRefIdeal.τ).loc Cert.DilGRefIdeal.main_arg0) = m ((c.tc : Thread Cert.DilGIdeal.nD Cert.DilGIdeal.τ).loc Cert.DilGIdeal.main_arg0)
      ∧ m' ((c.tc : Thread Cert.DilGRefIdeal.nD Cert.DilGRefIdeal.τ).loc Cert.DilGRefIdeal.main_arg1) = m ((c.tc : Thread Cert.DilGIdeal.nD Cert.DilGIdeal.τ).loc Cert.DilGIdeal.main_arg1)) →
    ∃ (v0 : (c : Dev Cert.DilGIdeal.nD) → Buf (Elt Ideal) ((c.tc : Thread Cert.DilGIdeal.nD Cert.DilGIdeal.τ).loc Cert.DilGIdeal.main_v0)),
      θ_run (Cert.DilGIdeal.defs (F := Ideal)) (onTc (τ := Cert.DilGIdeal.τ) (Cert.DilGIdeal.main (F := Ideal))) ⟨m, fun _ => 0, g⟩ (fun r => ∀ c : Dev Cert.DilGIdeal.nD,
          r.2.mem ((c.tc : Thread Cert.DilGIdeal.nD Cert.DilGIdeal.τ).loc Cert.DilGIdeal.main_v0) = v0 c
          ∧ r.2.mem ((c.tc : Thread Cert.DilGIdeal.nD Cert.DilGIdeal.τ).loc Cert.DilGIdeal.main_arg0) = m ((c.tc : Thread Cert.DilGIdeal.nD Cert.DilGIdeal.τ).loc Cert.DilGIdeal.main_arg0)
          ∧ r.2.mem ((c.tc : Thread Cert.DilGIdeal.nD Cert.DilGIdeal.τ).loc Cert.DilGIdeal.main_arg1) = m ((c.tc : Thread Cert.DilGIdeal.nD Cert.DilGIdeal.τ).loc Cert.DilGIdeal.main_arg1))
      ∧ θ_run (Cert.DilGRefIdeal.defs (F := Ideal)) (onTc (τ := Cert.DilGRefIdeal.τ) (Cert.DilGRefIdeal.main (F := Ideal))) ⟨m', fun _ => 0, g'⟩ (fun r => ∀ c : Dev Cert.DilGRefIdeal.nD,
          r.2.mem ((c.tc : Thread Cert.DilGRefIdeal.nD Cert.DilGRefIdeal.τ).loc Cert.DilGRefIdeal.main_v13) = v0 c
          ∧ r.2.mem ((c.tc : Thread Cert.DilGRefIdeal.nD Cert.DilGRefIdeal.τ).loc Cert.DilGRefIdeal.main_arg0) = m' ((c.tc : Thread Cert.DilGRefIdeal.nD Cert.DilGRefIdeal.τ).loc Cert.DilGRefIdeal.main_arg0)
          ∧ r.2.mem ((c.tc : Thread Cert.DilGRefIdeal.nD Cert.DilGRefIdeal.τ).loc Cert.DilGRefIdeal.main_arg1) = m' ((c.tc : Thread Cert.DilGRefIdeal.nD Cert.DilGRefIdeal.τ).loc Cert.DilGRefIdeal.main_arg1))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v23) = v0 c
          ∧ r.2.mem ((c.tc : Thread Cert.AdamInRefIdeal.nD Cert.AdamInRefIdeal.τ).loc Cert.AdamInRefIdeal.main_v4) = v1 c
          ∧ r.2.mem ((c.tc : Thread Cert.AdamInRefIdeal.nD Cert.AdamInRefIdeal.τ).loc Cert.AdamInRefIdeal.main_v10) = v2 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamOut_AdamOutIdeal : Prop :=
  True

def algebraic_AdamOutIdeal_AdamOutRefIdeal [hAdamOutIdeal : Cert.AdamOutIdeal.Facts] [hAdamOutRefIdeal : Cert.AdamOutRefIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.AdamOutRefIdeal.nD Cert.AdamOutRefIdeal.τ Cert.AdamOutRefIdeal.sig) → Buf (Elt Ideal) ℓ) (g' : Dev Cert.AdamOutRefIdeal.nD → PrngReg), Pre_AdamOutIdeal m →
    (∀ c : Dev Cert.AdamOutIdeal.nD,
      m' ((c.tc : Thread Cert.AdamOutRefIdeal.nD Cert.AdamOutRefIdeal.τ).loc Cert.AdamOutRefIdeal.main_arg0) = m ((c.tc : Thread Cert.AdamOutIdeal.nD Cert.AdamOutIdeal.τ).loc Cert.AdamOutIdeal.main_arg0)
      ∧ m' ((c.tc : Thread Cert.AdamOutRefIdeal.nD Cert.AdamOutRefIdeal.τ).loc Cert.AdamOutRefIdeal.main_arg1) = m ((c.tc : Thread Cert.AdamOutIdeal.nD Cert.AdamOutIdeal.τ).loc Cert.AdamOutIdeal.main_arg1)
      ∧ m' ((c.tc : Thread Cert.AdamOutRefIdeal.nD Cert.AdamOutRefIdeal.τ).loc Cert.AdamOutRefIdeal.main_arg2) = m ((c.tc : Thread Cert.AdamOutIdeal.nD Cert.AdamOutIdeal.τ).loc Cert.AdamOutIdeal.main_arg2)
      ∧ m' ((c.tc : Thread Cert.AdamOutRefIdeal.nD Cert.AdamOutRefIdeal.τ).loc Cert.AdamOutRefIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.AdamOutRefIdeal.defs (F := Ideal)) (onTc (τ := Cert.AdamOutRefIdeal.τ) (Cert.AdamOutRefIdeal.main (F := Ideal))) ⟨m', fun _ => 0, g'⟩ (fun r => ∀ c : Dev Cert.AdamOutRefIdeal.nD,
          r.2.mem ((c.tc : Thread Cert.AdamOutRefIdeal.nD Cert.AdamOutRefIdeal.τ).loc Cert.AdamOutRefIdeal.main_v23) = v0 c
          ∧ r.2.mem ((c.tc : Thread Cert.AdamOutRefIdeal.nD Cert.AdamOutRefIdeal.τ).loc Cert.AdamOutRefIdeal.main_v4) = v1 c
          ∧ r.2.mem ((c.tc : Thread Cert.AdamOutRefIdeal.nD Cert.AdamOutRefIdeal.τ).loc Cert.AdamOutRefIdeal.main_v10) = v2 c
          ∧ r.2.mem ((c.tc : Thread Cert.AdamOutRefIdeal.nD Cert.AdamOutRefIdeal.τ).loc Cert.AdamOutRefIdeal.main_arg0) = m' ((c.tc : Thread Cert.AdamOutRefIdeal.nD Cert.AdamOutRefIdeal.τ).loc Cert.AdamOutRefIdeal.main_arg0)
          ∧ r.2.mem ((c.tc : Thread Cert.AdamOutRefIdeal.nD Cert.AdamOutRefIdeal.τ).loc Cert.AdamOutRefIdeal.main_arg1) = m' ((c.tc : Thread Cert.AdamOutRefIdeal.nD Cert.AdamOutRefIdeal.τ).loc Cert.AdamOutRefIdeal.main_arg1)
          ∧ r.2.mem ((c.tc : Thread Cert.AdamOutRefIdeal.nD Cert.AdamOutRefIdeal.τ).loc Cert.AdamOutRefIdeal.main_arg2) = m' ((c.tc : Thread Cert.AdamOutRefIdeal.nD Cert.AdamOutRefIdeal.τ).loc Cert.AdamOutRefIdeal.main_arg2)
          ∧ r.2.mem ((c.tc : Thread Cert.AdamOutRefIdeal.nD Cert.AdamOutRefIdeal.τ).loc Cert.AdamOutRefIdeal.main_arg3) = m' ((c.tc : Thread Cert.AdamOutRefIdeal.nD Cert.AdamOutRefIdeal.τ).loc Cert.AdamOutRefIdeal.main_arg3))

def preserves_AdamGate_AdamGateIdeal : Prop :=
  True

def algebraic_AdamGateIdeal_AdamGateRefIdeal [hAdamGateIdeal : Cert.AdamGateIdeal.Facts] [hAdamGateRefIdeal : Cert.AdamGateRefIdeal.Facts] : Prop :=
  ∀ (m : (ℓ : Loc Cert.AdamGateIdeal.nD Cert.AdamGateIdeal.τ Cert.AdamGateIdeal.sig) → Buf (Elt Ideal) ℓ) (g : Dev Cert.AdamGateIdeal.nD → PrngReg)
    (m' : (ℓ : Loc Cert.AdamGateRefIdeal.nD Cert.AdamGateRefIdeal.τ Cert.AdamGateRefIdeal.sig) → Buf (Elt Ideal) ℓ) (g' : Dev Cert.AdamGateRefIdeal.nD → PrngReg), Pre_AdamGateIdeal m →
    (∀ c : Dev Cert.AdamGateIdeal.nD,
      m' ((c.tc : Thread Cert.AdamGateRefIdeal.nD Cert.AdamGateRefIdeal.τ).loc Cert.AdamGateRefIdeal.main_arg0) = m ((c.tc : Thread Cert.AdamGateIdeal.nD Cert.AdamGateIdeal.τ).loc Cert.AdamGateIdeal.main_arg0)
      ∧ m' ((c.tc : Thread Cert.AdamGateRefIdeal.nD Cert.AdamGateRefIdeal.τ).loc Cert.AdamGateRefIdeal.main_arg1) = m ((c.tc : Thread Cert.AdamGateIdeal.nD Cert.AdamGateIdeal.τ).loc Cert.AdamGateIdeal.main_arg1)
      ∧ m' ((c.tc : Thread Cert.AdamGateRefIdeal.nD Cert.AdamGateRefIdeal.τ).loc Cert.AdamGateRefIdeal.main_arg2) = m ((c.tc : Thread Cert.AdamGateIdeal.nD Cert.AdamGateIdeal.τ).loc Cert.AdamGateIdeal.main_arg2)
      ∧ m' ((c.tc : Thread Cert.AdamGateRefIdeal.nD Cert.AdamGateRefIdeal.τ).loc Cert.AdamGateRefIdeal.main_arg3) = m ((c.tc : Thread Cert.AdamGateIdeal.nD Cert.AdamGateIdeal.τ).loc Cert.AdamGateIdeal.main_arg3)) →
    ∃ (v0 : (c : Dev Cert.AdamGateIdeal.nD) → Buf (Elt Ideal) ((c.tc : Thread Cert.AdamGateIdeal.nD Cert.AdamGateIdeal.τ).loc Cert.AdamGateIdeal.main_v0_0)) (v1 : (c : Dev Cert.AdamGateIdeal.nD) → Buf (Elt Ideal) ((c.tc : Thread Cert.AdamGateIdeal.nD Cert.AdamGateIdeal.τ).loc Cert.AdamGateIdeal.main_v0_1)) (v2 : (c : Dev Cert.AdamGateIdeal.nD) → Buf (Elt Ideal) ((c.tc : Thread Cert.AdamGateIdeal.nD Cert.AdamGateIdeal.τ).loc Cert.AdamGateIdeal.main_v0_2)),
      θ_run (Cert.AdamGateIdeal.defs (F := Ideal)) (onTc (τ := Cert.AdamGateIdeal.τ) (Cert.AdamGateIdeal.main (F := Ideal))) ⟨m, fun _ => 0, g⟩ (fun r => ∀ c : Dev Cert.AdamGateIdeal.nD,
          r.2.mem ((c.tc : Thread Cert.AdamGateIdeal.nD Cert.AdamGateIdeal.τ).loc Cert.AdamGateIdeal.main_v0_0) = v0 c
          ∧ r.2.mem ((c.tc : Thread Cert.AdamGateIdeal.nD Cert.AdamGateIdeal.τ).loc Cert.AdamGateIdeal.main_v0_1) = v1 c
          ∧ r.2.mem ((c.tc : Thread Cert.AdamGateIdeal.nD Cert.AdamGateIdeal.τ).loc Cert.AdamGateIdeal.main_v0_2) = v2 c
          ∧ r.2.mem ((c.tc : Thread Cert.AdamGateIdeal.nD Cert.AdamGateIdeal.τ).loc Cert.AdamGateIdeal.main_arg0) = m ((c.tc : Thread Cert.AdamGateIdeal.nD Cert.AdamGateIdeal.τ).loc Cert.AdamGateIdeal.main_arg0)
          ∧ r.2.mem ((c.tc : Thread Cert.AdamGateIdeal.nD Cert.AdamGateIdeal.τ).loc Cert.AdamGateIdeal.main_arg1) = m ((c.tc : Thread Cert.AdamGateIdeal.nD Cert.AdamGateIdeal.τ).loc Cert.AdamGateIdeal.main_arg1)
          ∧ r.2.mem ((c.tc : Thread Cert.AdamGateIdeal.nD Cert.AdamGateIdeal.τ).loc Cert.AdamGateIdeal.main_arg2) = m ((c.tc : Thread Cert.AdamGateIdeal.nD Cert.AdamGateIdeal.τ).loc Cert.AdamGateIdeal.main_arg2)
          ∧ r.2.mem ((c.tc : Thread Cert.AdamGateIdeal.nD Cert.AdamGateIdeal.τ).loc Cert.AdamGateIdeal.main_arg3) = m ((c.tc : Thread Cert.AdamGateIdeal.nD Cert.AdamGateIdeal.τ).loc Cert.AdamGateIdeal.main_arg3))
      ∧ θ_run (Cert.AdamGateRefIdeal.defs (F := Ideal)) (onTc (τ := Cert.AdamGateRefIdeal.τ) (Cert.AdamGateRefIdeal.main (F := Ideal))) ⟨m', fun _ => 0, g'⟩ (fun r => ∀ c : Dev Cert.AdamGateRefIdeal.nD,
          r.2.mem ((c.tc : Thread Cert.AdamGateRefIdeal.nD Cert.AdamGateRefIdeal.τ).loc Cert.AdamGateRefIdeal.main_v23) = v0 c
          ∧ r.2.mem ((c.tc : Thread Cert.AdamGateRefIdeal.nD Cert.AdamGateRefIdeal.τ).loc Cert.AdamGateRefIdeal.main_v4) = v1 c
          ∧ r.2.mem ((c.tc : Thread Cert.AdamGateRefIdeal.nD Cert.AdamGateRefIdeal.τ).loc Cert.AdamGateRefIdeal.main_v10) = v2 c
          ∧ r.2.mem ((c.tc : Thread Cert.AdamGateRefIdeal.nD Cert.AdamGateRefIdeal.τ).loc Cert.AdamGateRefIdeal.main_arg0) = m' ((c.tc : Thread Cert.AdamGateRefIdeal.nD Cert.AdamGateRefIdeal.τ).loc Cert.AdamGateRefIdeal.main_arg0)
          ∧ r.2.mem ((c.tc : Thread Cert.AdamGateRefIdeal.nD Cert.AdamGateRefIdeal.τ).loc Cert.AdamGateRefIdeal.main_arg1) = m' ((c.tc : Thread Cert.AdamGateRefIdeal.nD Cert.AdamGateRefIdeal.τ).loc Cert.AdamGateRefIdeal.main_arg1)
          ∧ r.2.mem ((c.tc : Thread Cert.AdamGateRefIdeal.nD Cert.AdamGateRefIdeal.τ).loc Cert.AdamGateRefIdeal.main_arg2) = m' ((c.tc : Thread Cert.AdamGateRefIdeal.nD Cert.AdamGateRefIdeal.τ).loc Cert.AdamGateRefIdeal.main_arg2)
          ∧ r.2.mem ((c.tc : Thread Cert.AdamGateRefIdeal.nD Cert.AdamGateRefIdeal.τ).loc Cert.AdamGateRefIdeal.main_arg3) = m' ((c.tc : Thread Cert.AdamGateRefIdeal.nD Cert.AdamGateRefIdeal.τ).loc Cert.AdamGateRefIdeal.main_arg3))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v0_0)) (v1 : (c : Dev Cert.AdamUpIdeal.nD) → Buf (Elt Ideal) ((c.tc : Thread Cert.AdamUpIdeal.nD Cert.AdamUpIdeal.τ).loc Cert.AdamUpIdeal.main_v0_1)) (v2 : (c : Dev Cert.AdamUpIdeal.nD) → Buf (Elt Ideal) ((c.tc : Thread Cert.AdamUpIdeal.nD Cert.AdamUpIdeal.τ).loc Cert.AdamUpIdeal.main_v0_2)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v0_0) = v0 c
          ∧ r.2.mem ((c.tc : Thread Cert.AdamUpIdeal.nD Cert.AdamUpIdeal.τ).loc Cert.AdamUpIdeal.main_v0_1) = v1 c
          ∧ r.2.mem ((c.tc : Thread Cert.AdamUpIdeal.nD Cert.AdamUpIdeal.τ).loc Cert.AdamUpIdeal.main_v0_2) = v2 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v23) = v0 c
          ∧ r.2.mem ((c.tc : Thread Cert.AdamUpRefIdeal.nD Cert.AdamUpRefIdeal.τ).loc Cert.AdamUpRefIdeal.main_v4) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v23) = v0 c
          ∧ r.2.mem ((c.tc : Thread Cert.AdamDownRefIdeal.nD Cert.AdamDownRefIdeal.τ).loc Cert.AdamDownRefIdeal.main_v4) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def Claim : Prop :=
  ∃ (hGather : Cert.Gather.Facts) (hGatherIdeal : Cert.GatherIdeal.Facts) (hGatherRefIdeal : Cert.GatherRefIdeal.Facts) (hGatherRef : Cert.GatherRef.Facts) (hSwap : Cert.Swap.Facts) (hSwapIdeal : Cert.SwapIdeal.Facts) (hSwapRefIdeal : Cert.SwapRefIdeal.Facts) (hSwapRef : Cert.SwapRef.Facts) (hScatter : Cert.Scatter.Facts) (hScatterIdeal : Cert.ScatterIdeal.Facts) (hScatterRefIdeal : Cert.ScatterRefIdeal.Facts) (hScatterRef : Cert.ScatterRef.Facts) (hShare : Cert.Share.Facts) (hShareIdeal : Cert.ShareIdeal.Facts) (hShareRefIdeal : Cert.ShareRefIdeal.Facts) (hShareRef : Cert.ShareRef.Facts) (hChip : Cert.Chip.Facts) (hChipIdeal : Cert.ChipIdeal.Facts) (hChipRefIdeal : Cert.ChipRefIdeal.Facts) (hProjDx : Cert.ProjDx.Facts) (hProjDxIdeal : Cert.ProjDxIdeal.Facts) (hProjDxRefIdeal : Cert.ProjDxRefIdeal.Facts) (hProj : Cert.Proj.Facts) (hProjIdeal : Cert.ProjIdeal.Facts) (hProjRefIdeal : Cert.ProjRefIdeal.Facts) (hOutProj : Cert.OutProj.Facts) (hOutProjIdeal : Cert.OutProjIdeal.Facts) (hOutProjRefIdeal : Cert.OutProjRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hFfnOutDx : Cert.FfnOutDx.Facts) (hFfnOutDxIdeal : Cert.FfnOutDxIdeal.Facts) (hFfnOutDxRefIdeal : Cert.FfnOutDxRefIdeal.Facts) (hOutProjDx : Cert.OutProjDx.Facts) (hOutProjDxIdeal : Cert.OutProjDxIdeal.Facts) (hOutProjDxRefIdeal : Cert.OutProjDxRefIdeal.Facts) (hFfnInDx : Cert.FfnInDx.Facts) (hFfnInDxIdeal : Cert.FfnInDxIdeal.Facts) (hFfnInDxRefIdeal : Cert.FfnInDxRefIdeal.Facts) (hFfnOutDw : Cert.FfnOutDw.Facts) (hFfnOutDwIdeal : Cert.FfnOutDwIdeal.Facts) (hFfnOutDwRefIdeal : Cert.FfnOutDwRefIdeal.Facts) (hFfnInDw : Cert.FfnInDw.Facts) (hFfnInDwIdeal : Cert.FfnInDwIdeal.Facts) (hFfnInDwRefIdeal : Cert.FfnInDwRefIdeal.Facts) (hOutProjDw : Cert.OutProjDw.Facts) (hOutProjDwIdeal : Cert.OutProjDwIdeal.Facts) (hOutProjDwRefIdeal : Cert.OutProjDwRefIdeal.Facts) (hProjDw : Cert.ProjDw.Facts) (hProjDwIdeal : Cert.ProjDwIdeal.Facts) (hProjDwRefIdeal : Cert.ProjDwRefIdeal.Facts) (hSwiF : Cert.SwiF.Facts) (hSwiFIdeal : Cert.SwiFIdeal.Facts) (hSwiFRefIdeal : Cert.SwiFRefIdeal.Facts) (hSwiB : Cert.SwiB.Facts) (hSwiBIdeal : Cert.SwiBIdeal.Facts) (hSwiBRefIdeal : Cert.SwiBRefIdeal.Facts) (hLnF : Cert.LnF.Facts) (hLnFIdeal : Cert.LnFIdeal.Facts) (hLnFRefIdeal : Cert.LnFRefIdeal.Facts) (hLnB : Cert.LnB.Facts) (hLnBIdeal : Cert.LnBIdeal.Facts) (hLnBRefIdeal : Cert.LnBRefIdeal.Facts) (hLoss : Cert.Loss.Facts) (hLossIdeal : Cert.LossIdeal.Facts) (hLossRefIdeal : Cert.LossRefIdeal.Facts) (hConvF : Cert.ConvF.Facts) (hConvFIdeal : Cert.ConvFIdeal.Facts) (hConvFRefIdeal : Cert.ConvFRefIdeal.Facts) (hConvB : Cert.ConvB.Facts) (hConvBIdeal : Cert.ConvBIdeal.Facts) (hConvBRefIdeal : Cert.ConvBRefIdeal.Facts) (hDilD : Cert.DilD.Facts) (hDilDIdeal : Cert.DilDIdeal.Facts) (hDilDRefIdeal : Cert.DilDRefIdeal.Facts) (hDilM : Cert.DilM.Facts) (hDilMIdeal : Cert.DilMIdeal.Facts) (hDilMRefIdeal : Cert.DilMRefIdeal.Facts) (hFoxF : Cert.FoxF.Facts) (hFoxFIdeal : Cert.FoxFIdeal.Facts) (hFoxFRefIdeal : Cert.FoxFRefIdeal.Facts) (hFoxB : Cert.FoxB.Facts) (hFoxBIdeal : Cert.FoxBIdeal.Facts) (hFoxBRefIdeal : Cert.FoxBRefIdeal.Facts) (hDilB : Cert.DilB.Facts) (hDilBIdeal : Cert.DilBIdeal.Facts) (hDilBRefIdeal : Cert.DilBRefIdeal.Facts) (hDilG : Cert.DilG.Facts) (hDilGIdeal : Cert.DilGIdeal.Facts) (hDilGRefIdeal : Cert.DilGRefIdeal.Facts) (hAdamIn : Cert.AdamIn.Facts) (hAdamInIdeal : Cert.AdamInIdeal.Facts) (hAdamInRefIdeal : Cert.AdamInRefIdeal.Facts) (hAdamOut : Cert.AdamOut.Facts) (hAdamOutIdeal : Cert.AdamOutIdeal.Facts) (hAdamOutRefIdeal : Cert.AdamOutRefIdeal.Facts) (hAdamGate : Cert.AdamGate.Facts) (hAdamGateIdeal : Cert.AdamGateIdeal.Facts) (hAdamGateRefIdeal : Cert.AdamGateRefIdeal.Facts) (hAdamUp : Cert.AdamUp.Facts) (hAdamUpIdeal : Cert.AdamUpIdeal.Facts) (hAdamUpRefIdeal : Cert.AdamUpRefIdeal.Facts) (hAdamDown : Cert.AdamDown.Facts) (hAdamDownIdeal : Cert.AdamDownIdeal.Facts) (hAdamDownRefIdeal : Cert.AdamDownRefIdeal.Facts) (hAdamSmall : Cert.AdamSmall.Facts) (hAdamSmallIdeal : Cert.AdamSmallIdeal.Facts) (hAdamSmallRefIdeal : Cert.AdamSmallRefIdeal.Facts) (hPre_below_infinity : Cert.Pre_below_infinity.Facts),
    quiescent_Gather (hGather := hGather)
    ∧ quiescent_GatherIdeal (hGatherIdeal := hGatherIdeal)
    ∧ quiescent_GatherRefIdeal (hGatherRefIdeal := hGatherRefIdeal)
    ∧ quiescent_GatherRef (hGatherRef := hGatherRef)
    ∧ quiescent_Swap (hSwap := hSwap)
    ∧ quiescent_SwapIdeal (hSwapIdeal := hSwapIdeal)
    ∧ quiescent_SwapRefIdeal (hSwapRefIdeal := hSwapRefIdeal)
    ∧ quiescent_SwapRef (hSwapRef := hSwapRef)
    ∧ quiescent_Scatter (hScatter := hScatter)
    ∧ quiescent_ScatterIdeal (hScatterIdeal := hScatterIdeal)
    ∧ quiescent_ScatterRefIdeal (hScatterRefIdeal := hScatterRefIdeal)
    ∧ quiescent_ScatterRef (hScatterRef := hScatterRef)
    ∧ quiescent_Share (hShare := hShare)
    ∧ quiescent_ShareIdeal (hShareIdeal := hShareIdeal)
    ∧ quiescent_ShareRefIdeal (hShareRefIdeal := hShareRefIdeal)
    ∧ quiescent_ShareRef (hShareRef := hShareRef)
    ∧ quiescent_Chip (hChip := hChip)
    ∧ quiescent_ChipIdeal (hChipIdeal := hChipIdeal)
    ∧ quiescent_ChipRefIdeal (hChipRefIdeal := hChipRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_Proj (hProj := hProj)
    ∧ quiescent_ProjIdeal (hProjIdeal := hProjIdeal)
    ∧ quiescent_ProjRefIdeal (hProjRefIdeal := hProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_FfnOutDx (hFfnOutDx := hFfnOutDx)
    ∧ quiescent_FfnOutDxIdeal (hFfnOutDxIdeal := hFfnOutDxIdeal)
    ∧ quiescent_FfnOutDxRefIdeal (hFfnOutDxRefIdeal := hFfnOutDxRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_FfnInDx (hFfnInDx := hFfnInDx)
    ∧ quiescent_FfnInDxIdeal (hFfnInDxIdeal := hFfnInDxIdeal)
    ∧ quiescent_FfnInDxRefIdeal (hFfnInDxRefIdeal := hFfnInDxRefIdeal)
    ∧ quiescent_FfnOutDw (hFfnOutDw := hFfnOutDw)
    ∧ quiescent_FfnOutDwIdeal (hFfnOutDwIdeal := hFfnOutDwIdeal)
    ∧ quiescent_FfnOutDwRefIdeal (hFfnOutDwRefIdeal := hFfnOutDwRefIdeal)
    ∧ quiescent_FfnInDw (hFfnInDw := hFfnInDw)
    ∧ quiescent_FfnInDwIdeal (hFfnInDwIdeal := hFfnInDwIdeal)
    ∧ quiescent_FfnInDwRefIdeal (hFfnInDwRefIdeal := hFfnInDwRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_SwiF (hSwiF := hSwiF)
    ∧ quiescent_SwiFIdeal (hSwiFIdeal := hSwiFIdeal)
    ∧ quiescent_SwiFRefIdeal (hSwiFRefIdeal := hSwiFRefIdeal)
    ∧ quiescent_SwiB (hSwiB := hSwiB)
    ∧ quiescent_SwiBIdeal (hSwiBIdeal := hSwiBIdeal)
    ∧ quiescent_SwiBRefIdeal (hSwiBRefIdeal := hSwiBRefIdeal)
    ∧ quiescent_LnF (hLnF := hLnF)
    ∧ quiescent_LnFIdeal (hLnFIdeal := hLnFIdeal)
    ∧ quiescent_LnFRefIdeal (hLnFRefIdeal := hLnFRefIdeal)
    ∧ quiescent_LnB (hLnB := hLnB)
    ∧ quiescent_LnBIdeal (hLnBIdeal := hLnBIdeal)
    ∧ quiescent_LnBRefIdeal (hLnBRefIdeal := hLnBRefIdeal)
    ∧ quiescent_Loss (hLoss := hLoss)
    ∧ quiescent_LossIdeal (hLossIdeal := hLossIdeal)
    ∧ quiescent_LossRefIdeal (hLossRefIdeal := hLossRefIdeal)
    ∧ quiescent_ConvF (hConvF := hConvF)
    ∧ quiescent_ConvFIdeal (hConvFIdeal := hConvFIdeal)
    ∧ quiescent_ConvFRefIdeal (hConvFRefIdeal := hConvFRefIdeal)
    ∧ quiescent_ConvB (hConvB := hConvB)
    ∧ quiescent_ConvBIdeal (hConvBIdeal := hConvBIdeal)
    ∧ quiescent_ConvBRefIdeal (hConvBRefIdeal := hConvBRefIdeal)
    ∧ quiescent_DilD (hDilD := hDilD)
    ∧ quiescent_DilDIdeal (hDilDIdeal := hDilDIdeal)
    ∧ quiescent_DilDRefIdeal (hDilDRefIdeal := hDilDRefIdeal)
    ∧ quiescent_DilM (hDilM := hDilM)
    ∧ quiescent_DilMIdeal (hDilMIdeal := hDilMIdeal)
    ∧ quiescent_DilMRefIdeal (hDilMRefIdeal := hDilMRefIdeal)
    ∧ quiescent_FoxF (hFoxF := hFoxF)
    ∧ quiescent_FoxFIdeal (hFoxFIdeal := hFoxFIdeal)
    ∧ quiescent_FoxFRefIdeal (hFoxFRefIdeal := hFoxFRefIdeal)
    ∧ quiescent_FoxB (hFoxB := hFoxB)
    ∧ quiescent_FoxBIdeal (hFoxBIdeal := hFoxBIdeal)
    ∧ quiescent_FoxBIdeal_pre_below_infinity (hFoxBIdeal := hFoxBIdeal) (hPre_below_infinity := hPre_below_infinity)
    ∧ quiescent_FoxBRefIdeal (hFoxBRefIdeal := hFoxBRefIdeal)
    ∧ quiescent_FoxBRefIdeal_pre_below_infinity (hFoxBRefIdeal := hFoxBRefIdeal) (hPre_below_infinity := hPre_below_infinity)
    ∧ quiescent_DilB (hDilB := hDilB)
    ∧ quiescent_DilBIdeal (hDilBIdeal := hDilBIdeal)
    ∧ quiescent_DilBRefIdeal (hDilBRefIdeal := hDilBRefIdeal)
    ∧ quiescent_DilG (hDilG := hDilG)
    ∧ quiescent_DilGIdeal (hDilGIdeal := hDilGIdeal)
    ∧ quiescent_DilGRefIdeal (hDilGRefIdeal := hDilGRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamOut (hAdamOut := hAdamOut)
    ∧ quiescent_AdamOutIdeal (hAdamOutIdeal := hAdamOutIdeal)
    ∧ quiescent_AdamOutRefIdeal (hAdamOutRefIdeal := hAdamOutRefIdeal)
    ∧ quiescent_AdamGate (hAdamGate := hAdamGate)
    ∧ quiescent_AdamGateIdeal (hAdamGateIdeal := hAdamGateIdeal)
    ∧ quiescent_AdamGateRefIdeal (hAdamGateRefIdeal := hAdamGateRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ preserves_Gather_GatherIdeal
    ∧ algebraic_GatherIdeal_GatherRefIdeal (hGatherIdeal := hGatherIdeal) (hGatherRefIdeal := hGatherRefIdeal)
    ∧ bitexact_Gather_GatherRef (hGather := hGather) (hGatherRef := hGatherRef)
    ∧ preserves_Swap_SwapIdeal
    ∧ algebraic_SwapIdeal_SwapRefIdeal (hSwapIdeal := hSwapIdeal) (hSwapRefIdeal := hSwapRefIdeal)
    ∧ bitexact_Swap_SwapRef (hSwap := hSwap) (hSwapRef := hSwapRef)
    ∧ preserves_Scatter_ScatterIdeal
    ∧ algebraic_ScatterIdeal_ScatterRefIdeal (hScatterIdeal := hScatterIdeal) (hScatterRefIdeal := hScatterRefIdeal)
    ∧ bitexact_Scatter_ScatterRef (hScatter := hScatter) (hScatterRef := hScatterRef)
    ∧ preserves_Share_ShareIdeal
    ∧ algebraic_ShareIdeal_ShareRefIdeal (hShareIdeal := hShareIdeal) (hShareRefIdeal := hShareRefIdeal)
    ∧ bitexact_Share_ShareRef (hShare := hShare) (hShareRef := hShareRef)
    ∧ preserves_Chip_ChipIdeal
    ∧ algebraic_ChipIdeal_ChipRefIdeal (hChipIdeal := hChipIdeal) (hChipRefIdeal := hChipRefIdeal)
    ∧ preserves_ProjDx_ProjDxIdeal
    ∧ algebraic_ProjDxIdeal_ProjDxRefIdeal (hProjDxIdeal := hProjDxIdeal) (hProjDxRefIdeal := hProjDxRefIdeal)
    ∧ preserves_Proj_ProjIdeal
    ∧ algebraic_ProjIdeal_ProjRefIdeal (hProjIdeal := hProjIdeal) (hProjRefIdeal := hProjRefIdeal)
    ∧ preserves_OutProj_OutProjIdeal
    ∧ algebraic_OutProjIdeal_OutProjRefIdeal (hOutProjIdeal := hOutProjIdeal) (hOutProjRefIdeal := hOutProjRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_FfnOutDx_FfnOutDxIdeal
    ∧ algebraic_FfnOutDxIdeal_FfnOutDxRefIdeal (hFfnOutDxIdeal := hFfnOutDxIdeal) (hFfnOutDxRefIdeal := hFfnOutDxRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_FfnInDx_FfnInDxIdeal
    ∧ algebraic_FfnInDxIdeal_FfnInDxRefIdeal (hFfnInDxIdeal := hFfnInDxIdeal) (hFfnInDxRefIdeal := hFfnInDxRefIdeal)
    ∧ preserves_FfnOutDw_FfnOutDwIdeal
    ∧ algebraic_FfnOutDwIdeal_FfnOutDwRefIdeal (hFfnOutDwIdeal := hFfnOutDwIdeal) (hFfnOutDwRefIdeal := hFfnOutDwRefIdeal)
    ∧ preserves_FfnInDw_FfnInDwIdeal
    ∧ algebraic_FfnInDwIdeal_FfnInDwRefIdeal (hFfnInDwIdeal := hFfnInDwIdeal) (hFfnInDwRefIdeal := hFfnInDwRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_ProjDw_ProjDwIdeal
    ∧ algebraic_ProjDwIdeal_ProjDwRefIdeal (hProjDwIdeal := hProjDwIdeal) (hProjDwRefIdeal := hProjDwRefIdeal)
    ∧ preserves_SwiF_SwiFIdeal
    ∧ algebraic_SwiFIdeal_SwiFRefIdeal (hSwiFIdeal := hSwiFIdeal) (hSwiFRefIdeal := hSwiFRefIdeal)
    ∧ preserves_SwiB_SwiBIdeal
    ∧ algebraic_SwiBIdeal_SwiBRefIdeal (hSwiBIdeal := hSwiBIdeal) (hSwiBRefIdeal := hSwiBRefIdeal)
    ∧ preserves_LnF_LnFIdeal
    ∧ algebraic_LnFIdeal_LnFRefIdeal (hLnFIdeal := hLnFIdeal) (hLnFRefIdeal := hLnFRefIdeal)
    ∧ preserves_LnB_LnBIdeal
    ∧ algebraic_LnBIdeal_LnBRefIdeal (hLnBIdeal := hLnBIdeal) (hLnBRefIdeal := hLnBRefIdeal)
    ∧ preserves_Loss_LossIdeal
    ∧ algebraic_LossIdeal_LossRefIdeal (hLossIdeal := hLossIdeal) (hLossRefIdeal := hLossRefIdeal)
    ∧ preserves_ConvF_ConvFIdeal
    ∧ algebraic_ConvFIdeal_ConvFRefIdeal (hConvFIdeal := hConvFIdeal) (hConvFRefIdeal := hConvFRefIdeal)
    ∧ preserves_ConvB_ConvBIdeal
    ∧ algebraic_ConvBIdeal_ConvBRefIdeal (hConvBIdeal := hConvBIdeal) (hConvBRefIdeal := hConvBRefIdeal)
    ∧ preserves_DilD_DilDIdeal
    ∧ algebraic_DilDIdeal_DilDRefIdeal (hDilDIdeal := hDilDIdeal) (hDilDRefIdeal := hDilDRefIdeal)
    ∧ preserves_DilM_DilMIdeal
    ∧ algebraic_DilMIdeal_DilMRefIdeal (hDilMIdeal := hDilMIdeal) (hDilMRefIdeal := hDilMRefIdeal)
    ∧ preserves_FoxF_FoxFIdeal
    ∧ algebraic_FoxFIdeal_FoxFRefIdeal (hFoxFIdeal := hFoxFIdeal) (hFoxFRefIdeal := hFoxFRefIdeal)
    ∧ preserves_FoxB_FoxBIdeal
    ∧ algebraic_FoxBIdeal_FoxBRefIdeal_pre_below_infinity (hFoxBIdeal := hFoxBIdeal) (hFoxBRefIdeal := hFoxBRefIdeal) (hPre_below_infinity := hPre_below_infinity)
    ∧ preserves_DilB_DilBIdeal
    ∧ algebraic_DilBIdeal_DilBRefIdeal (hDilBIdeal := hDilBIdeal) (hDilBRefIdeal := hDilBRefIdeal)
    ∧ preserves_DilG_DilGIdeal
    ∧ algebraic_DilGIdeal_DilGRefIdeal (hDilGIdeal := hDilGIdeal) (hDilGRefIdeal := hDilGRefIdeal)
    ∧ preserves_AdamIn_AdamInIdeal
    ∧ algebraic_AdamInIdeal_AdamInRefIdeal (hAdamInIdeal := hAdamInIdeal) (hAdamInRefIdeal := hAdamInRefIdeal)
    ∧ preserves_AdamOut_AdamOutIdeal
    ∧ algebraic_AdamOutIdeal_AdamOutRefIdeal (hAdamOutIdeal := hAdamOutIdeal) (hAdamOutRefIdeal := hAdamOutRefIdeal)
    ∧ preserves_AdamGate_AdamGateIdeal
    ∧ algebraic_AdamGateIdeal_AdamGateRefIdeal (hAdamGateIdeal := hAdamGateIdeal) (hAdamGateRefIdeal := hAdamGateRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamSmall_AdamSmallIdeal
    ∧ algebraic_AdamSmallIdeal_AdamSmallRefIdeal (hAdamSmallIdeal := hAdamSmallIdeal) (hAdamSmallRefIdeal := hAdamSmallRefIdeal)
-- ==== Pre_below_infinity.lean ====
abbrev S4096x128 : Shape := ⟨2, ![4096, 128]⟩
abbrev S4096x3200 : Shape := ⟨2, ![4096, 3200]⟩
abbrev S8x128 : Shape := ⟨2, ![8, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel

variable [Facts]

def fn {F : FTy → Type} [FloatOps F] (main_arg0 : FVec F S4096x128 .f32) (main_arg1 : FVec F S4096x3200 .f32) (main_arg2 : FVec F S8x128 .f32) : IVec S_ 1 :=
  let main_cst : FVec F S_ .f32 := constant S_ .f32 0x7F800000#32
  let main_v0 : FVec F S4096x128 .f32 := broadcastInDim S4096x128 ![] bcast_S_S4096x128 main_cst
  let main_v1 : IVec S4096x128 1 := cmpf .olt main_arg0 main_v0
  let main_c : IVec S_ 1 := constantI S_ 1 1#1
  let main_v2 : IVec S_ 1 := (fun x v => Host.reduce IntOp.andi x v reducesTo_S4096x128_S_d0_1 h_S_) main_v1 main_c
  main_v2
-- ==== Gather.lean ====
abbrev S2x3137x1024 : Shape := ⟨3, ![2, 3137, 1024]⟩
abbrev S4x2x3137x1024 : Shape := ⟨4, ![4, 2, 3137, 1024]⟩
abbrev S6 : Shape := ⟨1, ![6]⟩
abbrev S_ : Shape := ⟨0, ![]⟩
abbrev S1x2x3137x1024 : Shape := ⟨4, ![1, 2, 3137, 1024]⟩
abbrev S1 : Shape := ⟨1, ![1]⟩
abbrev S1x1x3137x1024 : Shape := ⟨4, ![1, 1, 3137, 1024]⟩
abbrev S3137x1024 : Shape := ⟨2, ![3137, 1024]⟩
abbrev S1x3137x1024 : Shape := ⟨3, ![1, 3137, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x3137x1024, .bf16⟩
  | .hbm, ⟨1, _⟩ => ⟨S4x2x3137x1024, .bf16⟩
  | _, _ => ⟨S2x3137x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_9 : BitVec 32 := 0#32
  let c0_i32_10 : BitVec 32 := 0#32
  ![v14.toNat, 0, 0, 0]
def k0_off2 (d0 : Dev nD) : Fin 4 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_17 : BitVec 32 := 0#32
  let c0_i32_18 : BitVec 32 := 0#32
  ![v14.toNat, v8.toNat, 0, 0]
def k0_off3 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_19 : BitVec 32 := 0#32
  let c0_i32_20 : BitVec 32 := 0#32
  ![v8.toNat, 0, 0]
def k0_dev1 (d0 : Dev nD) : Nat :=
  let c0_i32_14 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_13 : BitVec 32 := 4#32
  let v18 : BitVec 32 := Scalar.muli v9 c4_i32_13
  let v19 : BitVec 32 := Scalar.addi c0_i32_14 v18
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_15 : BitVec 32 := 2#32
  let v20 : BitVec 32 := Scalar.muli v5 c2_i32_15
  let v21 : BitVec 32 := Scalar.addi v19 v20
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_16 : BitVec 32 := 1#32
  let v22 : BitVec 32 := Scalar.muli v8 c1_i32_16
  let v23 : BitVec 32 := Scalar.addi v21 v22
  v23.toNat
def k0_dev2 (d0 : Dev nD) : Nat :=
  let c0_i32_24 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_23 : BitVec 32 := 4#32
  let v32 : BitVec 32 := Scalar.muli v2 c4_i32_23
  let v33 : BitVec 32 := Scalar.addi c0_i32_24 v32
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_25 : BitVec 32 := 2#32
  let v34 : BitVec 32 := Scalar.muli v10 c2_i32_25
  let v35 : BitVec 32 := Scalar.addi v33 v34
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_26 : BitVec 32 := 1#32
  let v36 : BitVec 32 := Scalar.muli v8 c1_i32_26
  let v37 : BitVec 32 := Scalar.addi v35 v36
  v37.toNat
def k0_dev3 (d0 : Dev nD) : Nat :=
  let c0_i32_34 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_33 : BitVec 32 := 4#32
  let v46 : BitVec 32 := Scalar.muli v11 c4_i32_33
  let v47 : BitVec 32 := Scalar.addi c0_i32_34 v46
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_35 : BitVec 32 := 2#32
  let v48 : BitVec 32 := Scalar.muli v12 c2_i32_35
  let v49 : BitVec 32 := Scalar.addi v47 v48
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_36 : BitVec 32 := 1#32
  let v50 : BitVec 32 := Scalar.muli v8 c1_i32_36
  let v51 : BitVec 32 := Scalar.addi v49 v50
  v51.toNat
def k0_off4 (d0 : Dev nD) : Fin 4 → Nat :=
  let c2_i32_41 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v60 : BitVec 32 := Scalar.muli c2_i32_41 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v61 : BitVec 32 := Scalar.addi v60 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_48 : BitVec 32 := 0#32
  let c0_i32_49 : BitVec 32 := 0#32
  ![v61.toNat, v8.toNat, 0, 0]
def k0_dev4 (d0 : Dev nD) : Nat :=
  let c0_i32_54 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_53 : BitVec 32 := 4#32
  let v74 : BitVec 32 := Scalar.muli v2 c4_i32_53
  let v75 : BitVec 32 := Scalar.addi c0_i32_54 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_55 : BitVec 32 := 2#32
  let v76 : BitVec 32 := Scalar.muli v5 c2_i32_55
  let v77 : BitVec 32 := Scalar.addi v75 v76
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_56 : BitVec 32 := 1#32
  let v78 : BitVec 32 := Scalar.muli v15 c1_i32_56
  let v79 : BitVec 32 := Scalar.addi v77 v78
  v79.toNat
def k0_off5 (d0 : Dev nD) : Fin 4 → Nat :=
  let c2_i32_61 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v88 : BitVec 32 := Scalar.muli c2_i32_61 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v89 : BitVec 32 := Scalar.addi v88 v10
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_68 : BitVec 32 := 0#32
  let c0_i32_69 : BitVec 32 := 0#32
  ![v89.toNat, v8.toNat, 0, 0]
def k0_dev5 (d0 : Dev nD) : Nat :=
  let c0_i32_75 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_74 : BitVec 32 := 4#32
  let v102 : BitVec 32 := Scalar.muli v2 c4_i32_74
  let v103 : BitVec 32 := Scalar.addi c0_i32_75 v102
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_76 : BitVec 32 := 2#32
  let v104 : BitVec 32 := Scalar.muli v5 c2_i32_76
  let v105 : BitVec 32 := Scalar.addi v103 v104
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_77 : BitVec 32 := 1#32
  let v106 : BitVec 32 := Scalar.muli v15 c1_i32_77
  let v107 : BitVec 32 := Scalar.addi v105 v106
  v107.toNat
def k0_off6 (d0 : Dev nD) : Fin 4 → Nat :=
  let c2_i32_82 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v116 : BitVec 32 := Scalar.muli c2_i32_82 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v117 : BitVec 32 := Scalar.addi v116 v12
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32_89 : BitVec 32 := 0#32
  let c0_i32_90 : BitVec 32 := 0#32
  ![v117.toNat, v8.toNat, 0, 0]
def k0_dev6 (d0 : Dev nD) : Nat :=
  let c0_i32_95 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_94 : BitVec 32 := 4#32
  let v130 : BitVec 32 := Scalar.muli v2 c4_i32_94
  let v131 : BitVec 32 := Scalar.addi c0_i32_95 v130
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_96 : BitVec 32 := 2#32
  let v132 : BitVec 32 := Scalar.muli v5 c2_i32_96
  let v133 : BitVec 32 := Scalar.addi v131 v132
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1_i32_97 : BitVec 32 := 1#32
  let v134 : BitVec 32 := Scalar.muli v15 c1_i32_97
  let v135 : BitVec 32 := Scalar.addi v133 v134
  v135.toNat
def k0_off7 (d0 : Dev nD) : Fin 4 → Nat :=
  let c2_i32_102 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v144 : BitVec 32 := Scalar.muli c2_i32_102 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v145 : BitVec 32 := Scalar.addi v144 v5
  let c1_i32_103 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v146 : BitVec 32 := Scalar.subi c1_i32_103 v8
  let c0_i32_110 : BitVec 32 := 0#32
  let c0_i32_111 : BitVec 32 := 0#32
  ![v145.toNat, v146.toNat, 0, 0]
def k0_off8 (d0 : Dev nD) : Fin 4 → Nat :=
  let c2_i32_114 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v159 : BitVec 32 := Scalar.muli c2_i32_114 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v160 : BitVec 32 := Scalar.addi v159 v10
  let c1_i32_115 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v161 : BitVec 32 := Scalar.subi c1_i32_115 v8
  let c0_i32_122 : BitVec 32 := 0#32
  let c0_i32_123 : BitVec 32 := 0#32
  ![v160.toNat, v161.toNat, 0, 0]
def k0_off9 (d0 : Dev nD) : Fin 4 → Nat :=
  let c2_i32_126 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v174 : BitVec 32 := Scalar.muli c2_i32_126 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v175 : BitVec 32 := Scalar.addi v174 v12
  let c1_i32_127 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v176 : BitVec 32 := Scalar.subi c1_i32_127 v8
  let c0_i32_134 : BitVec 32 := 0#32
  let c0_i32_135 : BitVec 32 := 0#32
  ![v175.toNat, v176.toNat, 0, 0]
-- ==== GatherRef.lean ====
abbrev S8x3137x1024 : Shape := ⟨3, ![8, 3137, 1024]⟩
abbrev S4x2x3137x1024 : Shape := ⟨4, ![4, 2, 3137, 1024]⟩

abbrev nBuf : Space → Nat
  | .hbm => 2
  | .vmem => 0
  | .smem => 0
  | _ => 0

abbrev bufTy : (tb : Table) → Fin (tcTables nBuf tb) → BufTy
  | .hbm, ⟨0, _⟩ => ⟨S8x3137x1024, .bf16⟩
  | .hbm, ⟨1, _⟩ => ⟨S4x2x3137x1024, .bf16⟩
  | _, _ => ⟨S8x3137x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Swap.lean ====
abbrev S2x4x3137x1024 : Shape := ⟨4, ![2, 4, 3137, 1024]⟩
abbrev S4x3137x1024 : Shape := ⟨3, ![4, 3137, 1024]⟩
abbrev S_ : Shape := ⟨0, ![]⟩
abbrev S1x4x3137x1024 : Shape := ⟨4, ![1, 4, 3137, 1024]⟩

abbrev nBuf : Space → Nat
  | .hbm => 2
  | .vmem => 0
  | .smem => 0
  | _ => 0

abbrev bufTy : (tb : Table) → Fin (tcTables nBuf tb) → BufTy
  | .hbm, ⟨0, _⟩ => ⟨S2x4x3137x1024, .f32⟩
  | .hbm, ⟨1, _⟩ => ⟨S4x3137x1024, .f32⟩
  | _, _ => ⟨S2x4x3137x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 4 → Nat :=
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c0_i32_8 : BitVec 32 := 0#32
  let c0_i32_9 : BitVec 32 := 0#32
  let c0_i32_10 : BitVec 32 := 0#32
  ![v9.toNat, 0, 0, 0]
def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v10 : BitVec 32 := Scalar.subi c1_i32_4 v8
  let c1_i32_7 : BitVec 32 := 1#32
  let v15 : BitVec 32 := Scalar.muli v10 c1_i32_7
  let v16 : BitVec 32 := Scalar.addi v14 v15
  v16.toNat
-- ==== SwapRef.lean ====
abbrev S16x4x3137x1024 : Shape := ⟨4, ![16, 4, 3137, 1024]⟩
abbrev S4x2x2x4x3137x1024 : Shape := ⟨6, ![4, 2, 2, 4, 3137, 1024]⟩
abbrev S4x1x1x4x3137x1024 : Shape := ⟨6, ![4, 1, 1, 4, 3137, 1024]⟩
abbrev S4x4x3137x1024 : Shape := ⟨4, ![4, 4, 3137, 1024]⟩
abbrev S4x1x4x3137x1024 : Shape := ⟨5, ![4, 1, 4, 3137, 1024]⟩
abbrev S4x2x4x3137x1024 : Shape := ⟨5, ![4, 2, 4, 3137, 1024]⟩
abbrev S32x3137x1024 : Shape := ⟨3, ![32, 3137, 1024]⟩

abbrev nBuf : Space → Nat
  | .hbm => 10
  | .vmem => 0
  | .smem => 0
  | _ => 0

abbrev bufTy : (tb : Table) → Fin (tcTables nBuf tb) → BufTy
  | .hbm, ⟨0, _⟩ => ⟨S16x4x3137x1024, .f32⟩
  | .hbm, ⟨1, _⟩ => ⟨S4x2x2x4x3137x1024, .f32⟩
  | .hbm, ⟨2, _⟩ => ⟨S4x1x1x4x3137x1024, .f32⟩
  | .hbm, ⟨3, _⟩ => ⟨S4x4x3137x1024, .f32⟩
  | .hbm, ⟨4, _⟩ => ⟨S4x1x1x4x3137x1024, .f32⟩
  | .hbm, ⟨5, _⟩ => ⟨S4x4x3137x1024, .f32⟩
  | .hbm, ⟨6, _⟩ => ⟨S4x1x4x3137x1024, .f32⟩
  | .hbm, ⟨7, _⟩ => ⟨S4x1x4x3137x1024, .f32⟩
  | .hbm, ⟨8, _⟩ => ⟨S4x2x4x3137x1024, .f32⟩
  | .hbm, ⟨9, _⟩ => ⟨S32x3137x1024, .f32⟩
  | _, _ => ⟨S16x4x3137x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩

abbrev nD : Nat := 1
abbrev τ : Topo := Topo.v7x

variable {F : FTy → Type} [FloatOps F]
-- ==== Scatter.lean ====
abbrev S4x3137x1024 : Shape := ⟨3, ![4, 3137, 1024]⟩
abbrev S3 : Shape := ⟨1, ![3]⟩
abbrev S_ : Shape := ⟨0, ![]⟩
abbrev S1x3137x1024 : Shape := ⟨3, ![1, 3137, 1024]⟩
abbrev S3137x1024 : Shape := ⟨2, ![3137, 1024]⟩
abbrev S1 : Shape := ⟨1, ![1]⟩

abbrev nBuf : Space → Nat
  | .hbm => 2
  | .vmem => 0
  | .smem => 0
  | _ => 0

abbrev bufTy : (tb : Table) → Fin (tcTables nBuf tb) → BufTy
  | .hbm, ⟨0, _⟩ => ⟨S4x3137x1024, .bf16⟩
  | .hbm, ⟨1, _⟩ => ⟨S4x3137x1024, .bf16⟩
  | _, _ => ⟨S4x3137x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let c2_i32_7 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v13 : BitVec 32 := Scalar.muli c2_i32_7 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.addi v13 v5
  let c0_i32 : BitVec 32 := 0#32
  let c0_i32_8 : BitVec 32 := 0#32
  ![v14.toNat, 0, 0]
def k0_off2 (d0 : Dev nD) : Fin 3 → Nat :=
  let c2_i32_11 : BitVec 32 := 2#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let v19 : BitVec 32 := Scalar.muli c2_i32_11 v9
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.addi v19 v5
  let c0_i32_22 : BitVec 32 := 0#32
  let c0_i32_23 : BitVec 32 := 0#32
  ![v20.toNat, 0, 0]
def k0_dev1 (d0 : Dev nD) : Nat :=
  let c0_i32_17 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_16 : BitVec 32 := 4#32
  let v25 : BitVec 32 := Scalar.muli v9 c4_i32_16
  let v26 : BitVec 32 := Scalar.addi c0_i32_17 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_18 : BitVec 32 := 2#32
  let v27 : BitVec 32 := Scalar.muli v5 c2_i32_18
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_19 : BitVec 32 := 1#32
  let v29 : BitVec 32 := Scalar.muli v8 c1_i32_19
  let v30 : BitVec 32 := Scalar.addi v28 v29
  v30.toNat
def k0_off3 (d0 : Dev nD) : Fin 3 → Nat :=
  let c2_i32_12 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v21 : BitVec 32 := Scalar.muli c2_i32_12 v2
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let v22 : BitVec 32 := Scalar.addi v21 v10
  let c0_i32_32 : BitVec 32 := 0#32
  let c0_i32_33 : BitVec 32 := 0#32
  ![v22.toNat, 0, 0]
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v39 : BitVec 32 := Scalar.muli v2 c4_i32_26
  let v40 : BitVec 32 := Scalar.addi c0_i32_27 v39
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_28 : BitVec 32 := 2#32
  let v41 : BitVec 32 := Scalar.muli v10 c2_i32_28
  let v42 : BitVec 32 := Scalar.addi v40 v41
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v43 : BitVec 32 := Scalar.muli v8 c1_i32_29
  let v44 : BitVec 32 := Scalar.addi v42 v43
  v44.toNat
def k0_off4 (d0 : Dev nD) : Fin 3 → Nat :=
  let c2_i32_13 : BitVec 32 := 2#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let v23 : BitVec 32 := Scalar.muli c2_i32_13 v11
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let v24 : BitVec 32 := Scalar.addi v23 v12
  let c0_i32_42 : BitVec 32 := 0#32
  let c0_i32_43 : BitVec 32 := 0#32
  ![v24.toNat, 0, 0]
def k0_dev3 (d0 : Dev nD) : Nat :=
  let c0_i32_37 : BitVec 32 := 0#32
  let c1_i32_5 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v11 : BitVec 32 := Scalar.subi c1_i32_5 v2
  let c4_i32_36 : BitVec 32 := 4#32
  let v53 : BitVec 32 := Scalar.muli v11 c4_i32_36
  let v54 : BitVec 32 := Scalar.addi c0_i32_37 v53
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.subi c1_i32_6 v5
  let c2_i32_38 : BitVec 32 := 2#32
  let v55 : BitVec 32 := Scalar.muli v12 c2_i32_38
  let v56 : BitVec 32 := Scalar.addi v54 v55
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_39 : BitVec 32 := 1#32
  let v57 : BitVec 32 := Scalar.muli v8 c1_i32_39
  let v58 : BitVec 32 := Scalar.addi v56 v57
  v58.toNat
-- ==== ScatterRef.lean ====
abbrev S32x3137x1024 : Shape := ⟨3, ![32, 3137, 1024]⟩
abbrev S4x2x4x3137x1024 : Shape := ⟨5, ![4, 2, 4, 3137, 1024]⟩

abbrev nBuf : Space → Nat
  | .hbm => 4
  | .vmem => 0
  | .smem => 0
  | _ => 0

abbrev bufTy : (tb : Table) → Fin (tcTables nBuf tb) → BufTy
  | .hbm, ⟨0, _⟩ => ⟨S32x3137x1024, .bf16⟩
  | .hbm, ⟨1, _⟩ => ⟨S4x2x4x3137x1024, .bf16⟩
  | .hbm, ⟨2, _⟩ => ⟨S4x2x4x3137x1024, .bf16⟩
  | .hbm, ⟨3, _⟩ => ⟨S32x3137x1024, .bf16⟩
  | _, _ => ⟨S32x3137x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== Share.lean ====
abbrev S3137x1024 : Shape := ⟨2, ![3137, 1024]⟩
abbrev S2x3137x1024 : Shape := ⟨3, ![2, 3137, 1024]⟩
abbrev S_ : Shape := ⟨0, ![]⟩
abbrev S1x3137x1024 : Shape := ⟨3, ![1, 3137, 1024]⟩

abbrev nBuf : Space → Nat
  | .hbm => 2
  | .vmem => 0
  | .smem => 0
  | _ => 0

abbrev bufTy : (tb : Table) → Fin (tcTables nBuf tb) → BufTy
  | .hbm, ⟨0, _⟩ => ⟨S3137x1024, .f32⟩
  | .hbm, ⟨1, _⟩ => ⟨S2x3137x1024, .f32⟩
  | _, _ => ⟨S3137x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_v1 : Ref sig .tc := ⟨.hbm, 1, rfl⟩

abbrev nD : Nat := 8
abbrev τ : Topo := Topo.v7x

variable {F : FTy → Type} [FloatOps F]

abbrev grid0 : Pipeline.Grid := .none

def k0_off1 (d0 : Dev nD) : Fin 3 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c0_i32 : BitVec 32 := 0#32
  let c0_i32_3 : BitVec 32 := 0#32
  ![v8.toNat, 0, 0]
def k0_dev1 (d0 : Dev nD) : Nat :=
  let c0_i32_6 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v12 : BitVec 32 := Scalar.muli v2 c4_i32_5
  let v13 : BitVec 32 := Scalar.addi c0_i32_6 v12
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_7 : BitVec 32 := 2#32
  let v14 : BitVec 32 := Scalar.muli v5 c2_i32_7
  let v15 : BitVec 32 := Scalar.addi v13 v14
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_8 : BitVec 32 := 1#32
  let v16 : BitVec 32 := Scalar.muli v11 c1_i32_8
  let v17 : BitVec 32 := Scalar.addi v15 v16
  v17.toNat
def k0_off2 (d0 : Dev nD) : Fin 3 → Nat :=
  let c1_i32_14 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_14 v8
  let c0_i32_20 : BitVec 32 := 0#32
  let c0_i32_21 : BitVec 32 := 0#32
  ![v22.toNat, 0, 0]
-- ==== ShareRef.lean ====
abbrev S25096x1024 : Shape := ⟨2, ![25096, 1024]⟩
abbrev S8x3137x1024 : Shape := ⟨3, ![8, 3137, 1024]⟩

abbrev nBuf : Space → Nat
  | .hbm => 2
  | .vmem => 0
  | .smem => 0
  | _ => 0

abbrev bufTy : (tb : Table) → Fin (tcTables nBuf tb) → BufTy
  | .hbm, ⟨0, _⟩ => ⟨S25096x1024, .f32⟩
  | .hbm, ⟨1, _⟩ => ⟨S8x3137x1024, .f32⟩
  | _, _ => ⟨S25096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Chip.lean ====
abbrev S4x3137x1024 : Shape := ⟨3, ![4, 3137, 1024]⟩
abbrev S3137x1024 : Shape := ⟨2, ![3137, 1024]⟩
abbrev S4x3137x128 : Shape := ⟨3, ![4, 3137, 128]⟩
abbrev S3137x128 : Shape := ⟨2, ![3137, 128]⟩
abbrev S1x3137x128 : Shape := ⟨3, ![1, 3137, 128]⟩

abbrev nBuf : Space → Nat
  | .hbm => 2
  | .vmem => 4
  | .smem => 0
  | _ => 0

abbrev bufTy : (tb : Table) → Fin (tcTables nBuf tb) → BufTy
  | .hbm, ⟨0, _⟩ => ⟨S4x3137x1024, .bf16⟩
  | .hbm, ⟨1, _⟩ => ⟨S3137x1024, .f32⟩
  | .local _ .vmem, ⟨0, _⟩ => ⟨S4x3137x128, .bf16⟩
  | .local _ .vmem, ⟨1, _⟩ => ⟨S4x3137x128, .bf16⟩
  | .local _ .vmem, ⟨2, _⟩ => ⟨S3137x128, .f32⟩
  | .local _ .vmem, ⟨3, _⟩ => ⟨S3137x128, .f32⟩
  | _, _ => ⟨S4x3137x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4x3137x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3137x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ChipRefIdeal.lean ====
abbrev S4x3137x1024 : Shape := ⟨3, ![4, 3137, 1024]⟩
abbrev S_ : Shape := ⟨0, ![]⟩
abbrev S3137x1024 : Shape := ⟨2, ![3137, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4x3137x1024, .bf16⟩
  | .hbm, ⟨1, _⟩ => ⟨S4x3137x1024, .f32⟩
  | .hbm, ⟨2, _⟩ => ⟨S_, .f32⟩
  | .hbm, ⟨3, _⟩ => ⟨S3137x1024, .f32⟩
  | _, _ => ⟨S4x3137x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== ProjDx.lean ====
abbrev S4096x3200 : Shape := ⟨2, ![4096, 3200]⟩
abbrev S1024x3200 : Shape := ⟨2, ![1024, 3200]⟩
abbrev S4096x1024 : Shape := ⟨2, ![4096, 1024]⟩
abbrev S512x640 : Shape := ⟨2, ![512, 640]⟩
abbrev S1024x640 : Shape := ⟨2, ![1024, 640]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .hbm, ⟨3, _⟩ => ⟨S4096x1024, .f32⟩
  | .local _ .vmem, ⟨0, _⟩ => ⟨S512x640, .bf16⟩
  | .local _ .vmem, ⟨1, _⟩ => ⟨S512x640, .bf16⟩
  | .local _ .vmem, ⟨2, _⟩ => ⟨S1024x640, .bf16⟩
  | .local _ .vmem, ⟨3, _⟩ => ⟨S1024x640, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 5], ![false, false, false]⟩

def k0_cond3 (i : grid0.Coords) : BitVec 1 :=
  let arg2 : BitVec 32 := BitVec.ofNat 32 (i 2).val
  let c4_i32 : BitVec 32 := 4#32
  let v9 : BitVec 1 := Scalar.cmpi .eq arg2 c4_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjDxRefIdeal.lean ====
abbrev S4096x3200 : Shape := ⟨2, ![4096, 3200]⟩
abbrev S1024x3200 : Shape := ⟨2, ![1024, 3200]⟩
abbrev S4096x1024 : Shape := ⟨2, ![4096, 1024]⟩
abbrev S3200x1024 : Shape := ⟨2, ![3200, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x3200, .bf16⟩
  | .hbm, ⟨1, _⟩ => ⟨S1024x3200, .bf16⟩
  | .hbm, ⟨2, _⟩ => ⟨S4096x1024, .f32⟩
  | .hbm, ⟨3, _⟩ => ⟨S4096x3200, .f32⟩
  | .hbm, ⟨4, _⟩ => ⟨S1024x3200, .f32⟩
  | .hbm, ⟨5, _⟩ => ⟨S3200x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Proj.lean ====
abbrev S4096x1024 : Shape := ⟨2, ![4096, 1024]⟩
abbrev S1024x3200 : Shape := ⟨2, ![1024, 3200]⟩
abbrev S4096x3200 : Shape := ⟨2, ![4096, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x3200, .bf16⟩
  | .hbm, ⟨2, _⟩ => ⟨S4096x3200, .f32⟩
  | .local _ .vmem, ⟨0, _⟩ => ⟨S512x1024, .f32⟩
  | .local _ .vmem, ⟨1, _⟩ => ⟨S512x1024, .f32⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x3200 : Shape := ⟨2, ![1024, 3200]⟩
abbrev S4096x3200 : Shape := ⟨2, ![4096, 3200]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x3200, .bf16⟩
  | .hbm, ⟨2, _⟩ => ⟨S1024x3200, .f32⟩
  | .hbm, ⟨3, _⟩ => ⟨S4096x3200, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnIn.lean ====
abbrev S4096x1024 : Shape := ⟨2, ![4096, 1024]⟩
abbrev S1024x5632 : Shape := ⟨2, ![1024, 5632]⟩
abbrev S4096x5632 : Shape := ⟨2, ![4096, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S4096x5632, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInRefIdeal.lean ====
abbrev S4096x1024 : Shape := ⟨2, ![4096, 1024]⟩
abbrev S1024x5632 : Shape := ⟨2, ![1024, 5632]⟩
abbrev S4096x5632 : Shape := ⟨2, ![4096, 5632]⟩

abbrev nBuf : Space → Nat
  | .hbm => 4
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .bf16⟩
  | .hbm, ⟨2, _⟩ => ⟨S1024x5632, .f32⟩
  | .hbm, ⟨3, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== FfnOut.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutRefIdeal.lean ====
abbrev S4096x2816 : Shape := ⟨2, ![4096, 2816]⟩
abbrev S2816x1024 : Shape := ⟨2, ![2816, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x2816, .f32⟩
  | .hbm, ⟨3, _⟩ => ⟨S2816x1024, .f32⟩
  | .hbm, ⟨4, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnOutDx.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDxRefIdeal.lean ====
abbrev S4096x1024 : Shape := ⟨2, ![4096, 1024]⟩
abbrev S2816x1024 : Shape := ⟨2, ![2816, 1024]⟩
abbrev S1024x2816 : Shape := ⟨2, ![1024, 2816]⟩
abbrev S4096x2816 : Shape := ⟨2, ![4096, 2816]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x1024, .f32⟩
  | .hbm, ⟨3, _⟩ => ⟨S2816x1024, .f32⟩
  | .hbm, ⟨4, _⟩ => ⟨S1024x2816, .f32⟩
  | .hbm, ⟨5, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S1024x1024, .f32⟩
  | .hbm, ⟨5, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnInDx.lean ====
abbrev S4096x5632 : Shape := ⟨2, ![4096, 5632]⟩
abbrev S1024x5632 : Shape := ⟨2, ![1024, 5632]⟩
abbrev S4096x1024 : Shape := ⟨2, ![4096, 1024]⟩
abbrev S512x1408 : Shape := ⟨2, ![512, 1408]⟩
abbrev S1024x1408 : Shape := ⟨2, ![1024, 1408]⟩
abbrev S512x1024 : Shape := ⟨2, ![512, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x1024, .f32⟩
  | .local _ .vmem, ⟨0, _⟩ => ⟨S512x1408, .bf16⟩
  | .local _ .vmem, ⟨1, _⟩ => ⟨S512x1408, .bf16⟩
  | .local _ .vmem, ⟨2, _⟩ => ⟨S1024x1408, .bf16⟩
  | .local _ .vmem, ⟨3, _⟩ => ⟨S1024x1408, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnInDxRefIdeal.lean ====
abbrev S4096x5632 : Shape := ⟨2, ![4096, 5632]⟩
abbrev S1024x5632 : Shape := ⟨2, ![1024, 5632]⟩
abbrev S4096x1024 : Shape := ⟨2, ![4096, 1024]⟩
abbrev S5632x1024 : Shape := ⟨2, ![5632, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S1024x5632, .bf16⟩
  | .hbm, ⟨2, _⟩ => ⟨S4096x1024, .f32⟩
  | .hbm, ⟨3, _⟩ => ⟨S4096x5632, .f32⟩
  | .hbm, ⟨4, _⟩ => ⟨S1024x5632, .f32⟩
  | .hbm, ⟨5, _⟩ => ⟨S5632x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== FfnOutDw.lean ====
abbrev S2816x4096 : Shape := ⟨2, ![2816, 4096]⟩
abbrev S4096x1024 : Shape := ⟨2, ![4096, 1024]⟩
abbrev S2816x1024 : Shape := ⟨2, ![2816, 1024]⟩
abbrev S704x1024 : Shape := ⟨2, ![704, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S2816x1024, .f32⟩
  | .local _ .vmem, ⟨0, _⟩ => ⟨S704x1024, .bf16⟩
  | .local _ .vmem, ⟨1, _⟩ => ⟨S704x1024, .bf16⟩
  | .local _ .vmem, ⟨2, _⟩ => ⟨S1024x1024, .bf16⟩
  | .local _ .vmem, ⟨3, _⟩ => ⟨S1024x1024, .bf16⟩
  | .local _ .vmem, ⟨4, _⟩ => ⟨S704x1024, .f32⟩
  | .local _ .vmem, ⟨5, _⟩ => ⟨S704x1024, .f32⟩
  | .local _ .vmem, ⟨6, _⟩ => ⟨S704x1024, .f32⟩
  | _, _ => ⟨S2816x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S704x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnOutDwRefIdeal.lean ====
abbrev S2816x4096 : Shape := ⟨2, ![2816, 4096]⟩
abbrev S4096x1024 : Shape := ⟨2, ![4096, 1024]⟩
abbrev S2816x1024 : Shape := ⟨2, ![2816, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2816x4096, .bf16⟩
  | .hbm, ⟨1, _⟩ => ⟨S4096x1024, .bf16⟩
  | .hbm, ⟨2, _⟩ => ⟨S2816x4096, .f32⟩
  | .hbm, ⟨3, _⟩ => ⟨S4096x1024, .f32⟩
  | .hbm, ⟨4, _⟩ => ⟨S2816x1024, .f32⟩
  | _, _ => ⟨S2816x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnInDw.lean ====
abbrev S1024x4096 : Shape := ⟨2, ![1024, 4096]⟩
abbrev S4096x5632 : Shape := ⟨2, ![4096, 5632]⟩
abbrev S1024x5632 : Shape := ⟨2, ![1024, 5632]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x5632, .bf16⟩
  | .hbm, ⟨2, _⟩ => ⟨S1024x5632, .f32⟩
  | .local _ .vmem, ⟨0, _⟩ => ⟨S512x1024, .bf16⟩
  | .local _ .vmem, ⟨1, _⟩ => ⟨S512x1024, .bf16⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnInDwRefIdeal.lean ====
abbrev S1024x4096 : Shape := ⟨2, ![1024, 4096]⟩
abbrev S4096x5632 : Shape := ⟨2, ![4096, 5632]⟩
abbrev S1024x5632 : Shape := ⟨2, ![1024, 5632]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x5632, .bf16⟩
  | .hbm, ⟨2, _⟩ => ⟨S1024x4096, .f32⟩
  | .hbm, ⟨3, _⟩ => ⟨S4096x5632, .f32⟩
  | .hbm, ⟨4, _⟩ => ⟨S1024x5632, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProjDw.lean ====
abbrev S1024x4096 : Shape := ⟨2, ![1024, 4096]⟩
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x1024, .bf16⟩
  | .hbm, ⟨2, _⟩ => ⟨S1024x4096, .f32⟩
  | .hbm, ⟨3, _⟩ => ⟨S4096x1024, .f32⟩
  | .hbm, ⟨4, _⟩ => ⟨S1024x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjDw.lean ====
abbrev S1024x4096 : Shape := ⟨2, ![1024, 4096]⟩
abbrev S4096x3200 : Shape := ⟨2, ![4096, 3200]⟩
abbrev S1024x3200 : Shape := ⟨2, ![1024, 3200]⟩
abbrev S512x1024 : Shape := ⟨2, ![512, 1024]⟩
abbrev S1024x640 : Shape := ⟨2, ![1024, 640]⟩
abbrev S512x640 : Shape := ⟨2, ![512, 640]⟩

abbrev nBuf : Space → Nat
  | .hbm => 3
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x3200, .bf16⟩
  | .hbm, ⟨2, _⟩ => ⟨S1024x3200, .f32⟩
  | .local _ .vmem, ⟨0, _⟩ => ⟨S512x1024, .bf16⟩
  | .local _ .vmem, ⟨1, _⟩ => ⟨S512x1024, .bf16⟩
  | .local _ .vmem, ⟨2, _⟩ => ⟨S1024x640, .bf16⟩
  | .local _ .vmem, ⟨3, _⟩ => ⟨S1024x640, .bf16⟩
  | .local _ .vmem, ⟨4, _⟩ => ⟨S512x640, .f32⟩
  | .local _ .vmem, ⟨5, _⟩ => ⟨S512x640, .f32⟩
  | .local _ .vmem, ⟨6, _⟩ => ⟨S512x640, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 5, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x640 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDwRefIdeal.lean ====
abbrev S1024x4096 : Shape := ⟨2, ![1024, 4096]⟩
abbrev S4096x3200 : Shape := ⟨2, ![4096, 3200]⟩
abbrev S1024x3200 : Shape := ⟨2, ![1024, 3200]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x3200, .bf16⟩
  | .hbm, ⟨2, _⟩ => ⟨S1024x4096, .f32⟩
  | .hbm, ⟨3, _⟩ => ⟨S4096x3200, .f32⟩
  | .hbm, ⟨4, _⟩ => ⟨S1024x3200, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== SwiF.lean ====
abbrev S4096x5632 : Shape := ⟨2, ![4096, 5632]⟩
abbrev S4096x2816 : Shape := ⟨2, ![4096, 2816]⟩
abbrev S256x5632 : Shape := ⟨2, ![256, 5632]⟩
abbrev S256x2816 : Shape := ⟨2, ![256, 2816]⟩

abbrev nBuf : Space → Nat
  | .hbm => 2
  | .vmem => 4
  | .smem => 0
  | _ => 0

abbrev bufTy : (tb : Table) → Fin (tcTables nBuf tb) → BufTy
  | .hbm, ⟨0, _⟩ => ⟨S4096x5632, .f32⟩
  | .hbm, ⟨1, _⟩ => ⟨S4096x2816, .bf16⟩
  | .local _ .vmem, ⟨0, _⟩ => ⟨S256x5632, .f32⟩
  | .local _ .vmem, ⟨1, _⟩ => ⟨S256x5632, .f32⟩
  | .local _ .vmem, ⟨2, _⟩ => ⟨S256x2816, .bf16⟩
  | .local _ .vmem, ⟨3, _⟩ => ⟨S256x2816, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SwiFRefIdeal.lean ====
abbrev S4096x5632 : Shape := ⟨2, ![4096, 5632]⟩
abbrev S4096x2816 : Shape := ⟨2, ![4096, 2816]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S4096x2816, .f32⟩
  | .hbm, ⟨2, _⟩ => ⟨S4096x2816, .f32⟩
  | .hbm, ⟨3, _⟩ => ⟨S4096x2816, .f32⟩
  | .hbm, ⟨4, _⟩ => ⟨S_, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_cst_0 : Ref sig .tc := ⟨.hbm, 7, rfl⟩
abbrev main_call0_v4 : Ref sig .tc := ⟨.hbm, 8, rfl⟩
abbrev main_call0_v5 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩

abbrev nD : Nat := 1
abbrev τ : Topo := Topo.v7x

variable {F : FTy → Type} [FloatOps F]
-- ==== SwiB.lean ====
abbrev S4096x2816 : Shape := ⟨2, ![4096, 2816]⟩
abbrev S4096x5632 : Shape := ⟨2, ![4096, 5632]⟩
abbrev S256x2816 : Shape := ⟨2, ![256, 2816]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S4096x5632, .bf16⟩
  | .local _ .vmem, ⟨0, _⟩ => ⟨S256x2816, .f32⟩
  | .local _ .vmem, ⟨1, _⟩ => ⟨S256x2816, .f32⟩
  | .local _ .vmem, ⟨2, _⟩ => ⟨S256x5632, .f32⟩
  | .local _ .vmem, ⟨3, _⟩ => ⟨S256x5632, .f32⟩
  | .local _ .vmem, ⟨4, _⟩ => ⟨S256x5632, .bf16⟩
  | .local _ .vmem, ⟨5, _⟩ => ⟨S256x5632, .bf16⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== SwiBRefIdeal.lean ====
abbrev S4096x2816 : Shape := ⟨2, ![4096, 2816]⟩
abbrev S4096x5632 : Shape := ⟨2, ![4096, 5632]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S4096x5632, .f32⟩
  | .hbm, ⟨2, _⟩ => ⟨S4096x2816, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S_, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S_, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x5632, .f32⟩
  | .hbm, ⟨25, _⟩ => ⟨S4096x5632, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== LnF.lean ====
abbrev S4096x1024 : Shape := ⟨2, ![4096, 1024]⟩
abbrev S1024 : Shape := ⟨1, ![1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== LnFRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x1024, .f32⟩
  | .hbm, ⟨30, _⟩ => ⟨S4096x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]
-- ==== LnB.lean ====
abbrev S4096x1024 : Shape := ⟨2, ![4096, 1024]⟩
abbrev S1024 : Shape := ⟨1, ![1024]⟩
abbrev S1x1024 : Shape := ⟨2, ![1, 1024]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1x1024, .f32⟩
  | .hbm, ⟨4, _⟩ => ⟨S4096x1024, .f32⟩
  | .hbm, ⟨5, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== LnBRefIdeal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S6x1024 : Shape := ⟨2, ![6, 1024]⟩
abbrev S8x1024 : Shape := ⟨2, ![8, 1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S_, .f32⟩
  | .hbm, ⟨57, _⟩ => ⟨S6x1024, .f32⟩
  | .hbm, ⟨58, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_cst_3 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_8 : Ref sig .tc := ⟨.hbm, 50, rfl⟩
abbrev main_v38 : Ref sig .tc := ⟨.hbm, 51, rfl⟩
abbrev main_v39 : Ref sig .tc := ⟨.hbm, 52, rfl⟩
abbrev main_cst_9 : Ref sig .tc := ⟨.hbm, 53, rfl⟩
abbrev main_v40 : Ref sig .tc := ⟨.hbm, 54, rfl⟩
abbrev main_v41 : Ref sig .tc := ⟨.hbm, 55, rfl⟩
abbrev main_cst_10 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S1x512x1024 : Shape := ⟨3, ![1, 512, 1024]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S8x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 17
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== ConvF.lean ====
abbrev S4096x3200 : Shape := ⟨2, ![4096, 3200]⟩
abbrev S8x256 : Shape := ⟨2, ![8, 256]⟩
abbrev S4096x256 : Shape := ⟨2, ![4096, 256]⟩
abbrev S2048x256 : Shape := ⟨2, ![2048, 256]⟩
abbrev S1x256 : Shape := ⟨2, ![1, 256]⟩

abbrev nBuf : Space → Nat
  | .hbm => 3
  | .vmem => 9
  | .smem => 0
  | _ => 0

abbrev bufTy : (tb : Table) → Fin (tcTables nBuf tb) → BufTy
  | .hbm, ⟨0, _⟩ => ⟨S4096x3200, .f32⟩
  | .hbm, ⟨1, _⟩ => ⟨S8x256, .f32⟩
  | .hbm, ⟨2, _⟩ => ⟨S4096x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S8x256, .f32⟩
  | .local _ .vmem, ⟨7, _⟩ => ⟨S2048x256, .f32⟩
  | .local _ .vmem, ⟨8, _⟩ => ⟨S2048x256, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFRefIdeal.lean ====
abbrev S4096x3200 : Shape := ⟨2, ![4096, 3200]⟩
abbrev S8x256 : Shape := ⟨2, ![8, 256]⟩
abbrev S4096x256 : Shape := ⟨2, ![4096, 256]⟩
abbrev S2x2048x256 : Shape := ⟨3, ![2, 2048, 256]⟩
abbrev S1x256 : Shape := ⟨2, ![1, 256]⟩
abbrev S256 : Shape := ⟨1, ![256]⟩
abbrev S_ : Shape := ⟨0, ![]⟩
abbrev S2x2x256 : Shape := ⟨3, ![2, 2, 256]⟩
abbrev S2x2046x256 : Shape := ⟨3, ![2, 2046, 256]⟩
abbrev S1x1x256 : Shape := ⟨3, ![1, 1, 256]⟩
abbrev S2x1x256 : Shape := ⟨3, ![2, 1, 256]⟩
abbrev S2x2047x256 : Shape := ⟨3, ![2, 2047, 256]⟩

abbrev nBuf : Space → Nat
  | .hbm => 36
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S8x256, .f32⟩
  | .hbm, ⟨2, _⟩ => ⟨S4096x256, .f32⟩
  | .hbm, ⟨3, _⟩ => ⟨S2x2048x256, .f32⟩
  | .hbm, ⟨4, _⟩ => ⟨S4096x256, .f32⟩
  | .hbm, ⟨5, _⟩ => ⟨S2x2048x256, .f32⟩
  | .hbm, ⟨6, _⟩ => ⟨S4096x256, .f32⟩
  | .hbm, ⟨7, _⟩ => ⟨S2x2048x256, .f32⟩
  | .hbm, ⟨8, _⟩ => ⟨S2x2048x256, .f32⟩
  | .hbm, ⟨9, _⟩ => ⟨S1x256, .f32⟩
  | .hbm, ⟨10, _⟩ => ⟨S256, .f32⟩
  | .hbm, ⟨11, _⟩ => ⟨S_, .f32⟩
  | .hbm, ⟨12, _⟩ => ⟨S2x2x256, .f32⟩
  | .hbm, ⟨13, _⟩ => ⟨S2x2046x256, .f32⟩
  | .hbm, ⟨14, _⟩ => ⟨S2x2048x256, .f32⟩
  | .hbm, ⟨15, _⟩ => ⟨S1x1x256, .f32⟩
  | .hbm, ⟨16, _⟩ => ⟨S2x2048x256, .f32⟩
  | .hbm, ⟨17, _⟩ => ⟨S2x2048x256, .f32⟩
  | .hbm, ⟨18, _⟩ => ⟨S1x256, .f32⟩
  | .hbm, ⟨19, _⟩ => ⟨S256, .f32⟩
  | .hbm, ⟨20, _⟩ => ⟨S_, .f32⟩
  | .hbm, ⟨21, _⟩ => ⟨S2x1x256, .f32⟩
  | .hbm, ⟨22, _⟩ => ⟨S2x2047x256, .f32⟩
  | .hbm, ⟨23, _⟩ => ⟨S2x2048x256, .f32⟩
  | .hbm, ⟨24, _⟩ => ⟨S1x1x256, .f32⟩
  | .hbm, ⟨25, _⟩ => ⟨S2x2048x256, .f32⟩
  | .hbm, ⟨26, _⟩ => ⟨S2x2048x256, .f32⟩
  | .hbm, ⟨27, _⟩ => ⟨S2x2048x256, .f32⟩
  | .hbm, ⟨28, _⟩ => ⟨S1x256, .f32⟩
  | .hbm, ⟨29, _⟩ => ⟨S256, .f32⟩
  | .hbm, ⟨30, _⟩ => ⟨S1x1x256, .f32⟩
  | .hbm, ⟨31, _⟩ => ⟨S2x2048x256, .f32⟩
  | .hbm, ⟨32, _⟩ => ⟨S2x2048x256, .f32⟩
  | .hbm, ⟨33, _⟩ => ⟨S2x2048x256, .f32⟩
  | .hbm, ⟨34, _⟩ => ⟨S2x2048x256, .f32⟩
  | .hbm, ⟨35, _⟩ => ⟨S4096x256, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩

abbrev nD : Nat := 1
abbrev τ : Topo := Topo.v7x

variable {F : FTy → Type} [FloatOps F]
-- ==== ConvB.lean ====
abbrev S4096x1024 : Shape := ⟨2, ![4096, 1024]⟩
abbrev S4096x3200 : Shape := ⟨2, ![4096, 3200]⟩
abbrev S8x256 : Shape := ⟨2, ![8, 256]⟩
abbrev S4096x768 : Shape := ⟨2, ![4096, 768]⟩
abbrev S2048x256 : Shape := ⟨2, ![2048, 256]⟩
abbrev S2048x768 : Shape := ⟨2, ![2048, 768]⟩
abbrev S1x256 : Shape := ⟨2, ![1, 256]⟩
abbrev S256 : Shape := ⟨1, ![256]⟩

abbrev nBuf : Space → Nat
  | .hbm => 5
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S8x256, .f32⟩
  | .hbm, ⟨3, _⟩ => ⟨S4096x768, .f32⟩
  | .hbm, ⟨4, _⟩ => ⟨S8x256, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S8x256, .f32⟩
  | .local _ .vmem, ⟨9, _⟩ => ⟨S2048x768, .f32⟩
  | .local _ .vmem, ⟨10, _⟩ => ⟨S2048x768, .f32⟩
  | .local _ .vmem, ⟨11, _⟩ => ⟨S8x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_2 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_3 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2048x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ConvBRefIdeal.lean ====
abbrev S4096x1024 : Shape := ⟨2, ![4096, 1024]⟩
abbrev S4096x3200 : Shape := ⟨2, ![4096, 3200]⟩
abbrev S8x256 : Shape := ⟨2, ![8, 256]⟩
abbrev S4096x256 : Shape := ⟨2, ![4096, 256]⟩
abbrev S2x2048x256 : Shape := ⟨3, ![2, 2048, 256]⟩
abbrev S1x256 : Shape := ⟨2, ![1, 256]⟩
abbrev S256 : Shape := ⟨1, ![256]⟩
abbrev S2x2046x256 : Shape := ⟨3, ![2, 2046, 256]⟩
abbrev S_ : Shape := ⟨0, ![]⟩
abbrev S2x2x256 : Shape := ⟨3, ![2, 2, 256]⟩
abbrev S1x1x256 : Shape := ⟨3, ![1, 1, 256]⟩
abbrev S2x2047x256 : Shape := ⟨3, ![2, 2047, 256]⟩
abbrev S2x1x256 : Shape := ⟨3, ![2, 1, 256]⟩
abbrev S3x256 : Shape := ⟨2, ![3, 256]⟩
abbrev S2x2048x768 : Shape := ⟨3, ![2, 2048, 768]⟩
abbrev S4096x768 : Shape := ⟨2, ![4096, 768]⟩
abbrev S5x256 : Shape := ⟨2, ![5, 256]⟩

abbrev nBuf : Space → Nat
  | .hbm => 95
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3200, .f32⟩
  | .hbm, ⟨2, _⟩ => ⟨S8x256, .f32⟩
  | .hbm, ⟨3, _⟩ => ⟨S4096x256, .f32⟩
  | .hbm, ⟨4, _⟩ => ⟨S2x2048x256, .f32⟩
  | .hbm, ⟨5, _⟩ => ⟨S4096x256, .f32⟩
  | .hbm, ⟨6, _⟩ => ⟨S2x2048x256, .f32⟩
  | .hbm, ⟨7, _⟩ => ⟨S4096x256, .f32⟩
  | .hbm, ⟨8, _⟩ => ⟨S2x2048x256, .f32⟩
  | .hbm, ⟨9, _⟩ => ⟨S4096x256, .f32⟩
  | .hbm, ⟨10, _⟩ => ⟨S2x2048x256, .f32⟩
  | .hbm, ⟨11, _⟩ => ⟨S2x2048x256, .f32⟩
  | .hbm, ⟨12, _⟩ => ⟨S2x2048x256, .f32⟩
  | .hbm, ⟨13, _⟩ => ⟨S1x256, .f32⟩
  | .hbm, ⟨14, _⟩ => ⟨S256, .f32⟩
  | .hbm, ⟨15, _⟩ => ⟨S2x2046x256, .f32⟩
  | .hbm, ⟨16, _⟩ => ⟨S_, .f32⟩
  | .hbm, ⟨17, _⟩ => ⟨S2x2x256, .f32⟩
  | .hbm, ⟨18, _⟩ => ⟨S2x2048x256, .f32⟩
  | .hbm, ⟨19, _⟩ => ⟨S1x1x256, .f32⟩
  | .hbm, ⟨20, _⟩ => ⟨S2x2048x256, .f32⟩
  | .hbm, ⟨21, _⟩ => ⟨S2x2048x256, .f32⟩
  | .hbm, ⟨22, _⟩ => ⟨S1x256, .f32⟩
  | .hbm, ⟨23, _⟩ => ⟨S256, .f32⟩
  | .hbm, ⟨24, _⟩ => ⟨S2x2047x256, .f32⟩
  | .hbm, ⟨25, _⟩ => ⟨S_, .f32⟩
  | .hbm, ⟨26, _⟩ => ⟨S2x1x256, .f32⟩
  | .hbm, ⟨27, _⟩ => ⟨S2x2048x256, .f32⟩
  | .hbm, ⟨28, _⟩ => ⟨S1x1x256, .f32⟩
  | .hbm, ⟨29, _⟩ => ⟨S2x2048x256, .f32⟩
  | .hbm, ⟨30, _⟩ => ⟨S2x2048x256, .f32⟩
  | .hbm, ⟨31, _⟩ => ⟨S2x2048x256, .f32⟩
  | .hbm, ⟨32, _⟩ => ⟨S1x256, .f32⟩
  | .hbm, ⟨33, _⟩ => ⟨S256, .f32⟩
  | .hbm, ⟨34, _⟩ => ⟨S1x1x256, .f32⟩
  | .hbm, ⟨35, _⟩ => ⟨S2x2048x256, .f32⟩
  | .hbm, ⟨36, _⟩ => ⟨S2x2048x256, .f32⟩
  | .hbm, ⟨37, _⟩ => ⟨S2x2048x256, .f32⟩
  | .hbm, ⟨38, _⟩ => ⟨S_, .f32⟩
  | .hbm, ⟨39, _⟩ => ⟨S2x2x256, .f32⟩
  | .hbm, ⟨40, _⟩ => ⟨S2x2046x256, .f32⟩
  | .hbm, ⟨41, _⟩ => ⟨S2x2048x256, .f32⟩
  | .hbm, ⟨42, _⟩ => ⟨S2x2048x256, .f32⟩
  | .hbm, ⟨43, _⟩ => ⟨S4096x256, .f32⟩
  | .hbm, ⟨44, _⟩ => ⟨S_, .f32⟩
  | .hbm, ⟨45, _⟩ => ⟨S256, .f32⟩
  | .hbm, ⟨46, _⟩ => ⟨S_, .f32⟩
  | .hbm, ⟨47, _⟩ => ⟨S2x1x256, .f32⟩
  | .hbm, ⟨48, _⟩ => ⟨S2x2047x256, .f32⟩
  | .hbm, ⟨49, _⟩ => ⟨S2x2048x256, .f32⟩
  | .hbm, ⟨50, _⟩ => ⟨S2x2048x256, .f32⟩
  | .hbm, ⟨51, _⟩ => ⟨S4096x256, .f32⟩
  | .hbm, ⟨52, _⟩ => ⟨S_, .f32⟩
  | .hbm, ⟨53, _⟩ => ⟨S256, .f32⟩
  | .hbm, ⟨54, _⟩ => ⟨S2x2048x256, .f32⟩
  | .hbm, ⟨55, _⟩ => ⟨S4096x256, .f32⟩
  | .hbm, ⟨56, _⟩ => ⟨S_, .f32⟩
  | .hbm, ⟨57, _⟩ => ⟨S256, .f32⟩
  | .hbm, ⟨58, _⟩ => ⟨S1x256, .f32⟩
  | .hbm, ⟨59, _⟩ => ⟨S1x256, .f32⟩
  | .hbm, ⟨60, _⟩ => ⟨S1x256, .f32⟩
  | .hbm, ⟨61, _⟩ => ⟨S3x256, .f32⟩
  | .hbm, ⟨62, _⟩ => ⟨S1x256, .f32⟩
  | .hbm, ⟨63, _⟩ => ⟨S256, .f32⟩
  | .hbm, ⟨64, _⟩ => ⟨S_, .f32⟩
  | .hbm, ⟨65, _⟩ => ⟨S2x2x256, .f32⟩
  | .hbm, ⟨66, _⟩ => ⟨S2x2046x256, .f32⟩
  | .hbm, ⟨67, _⟩ => ⟨S2x2048x256, .f32⟩
  | .hbm, ⟨68, _⟩ => ⟨S1x1x256, .f32⟩
  | .hbm, ⟨69, _⟩ => ⟨S2x2048x256, .f32⟩
  | .hbm, ⟨70, _⟩ => ⟨S2x2048x256, .f32⟩
  | .hbm, ⟨71, _⟩ => ⟨S1x256, .f32⟩
  | .hbm, ⟨72, _⟩ => ⟨S256, .f32⟩
  | .hbm, ⟨73, _⟩ => ⟨S_, .f32⟩
  | .hbm, ⟨74, _⟩ => ⟨S2x1x256, .f32⟩
  | .hbm, ⟨75, _⟩ => ⟨S2x2047x256, .f32⟩
  | .hbm, ⟨76, _⟩ => ⟨S2x2048x256, .f32⟩
  | .hbm, ⟨77, _⟩ => ⟨S1x1x256, .f32⟩
  | .hbm, ⟨78, _⟩ => ⟨S2x2048x256, .f32⟩
  | .hbm, ⟨79, _⟩ => ⟨S2x2048x256, .f32⟩
  | .hbm, ⟨80, _⟩ => ⟨S2x2048x256, .f32⟩
  | .hbm, ⟨81, _⟩ => ⟨S1x256, .f32⟩
  | .hbm, ⟨82, _⟩ => ⟨S256, .f32⟩
  | .hbm, ⟨83, _⟩ => ⟨S1x1x256, .f32⟩
  | .hbm, ⟨84, _⟩ => ⟨S2x2048x256, .f32⟩
  | .hbm, ⟨85, _⟩ => ⟨S2x2048x256, .f32⟩
  | .hbm, ⟨86, _⟩ => ⟨S2x2048x256, .f32⟩
  | .hbm, ⟨87, _⟩ => ⟨S2x2048x256, .f32⟩
  | .hbm, ⟨88, _⟩ => ⟨S2x2048x256, .f32⟩
  | .hbm, ⟨89, _⟩ => ⟨S2x2048x256, .f32⟩
  | .hbm, ⟨90, _⟩ => ⟨S2x2048x768, .f32⟩
  | .hbm, ⟨91, _⟩ => ⟨S4096x768, .f32⟩
  | .hbm, ⟨92, _⟩ => ⟨S_, .f32⟩
  | .hbm, ⟨93, _⟩ => ⟨S5x256, .f32⟩
  | .hbm, ⟨94, _⟩ => ⟨S8x256, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_cst_2 : Ref sig .tc := ⟨.hbm, 44, rfl⟩
abbrev main_v38 : Ref sig .tc := ⟨.hbm, 45, rfl⟩
abbrev main_cst_3 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_cst_4 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_5 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_cst_7 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_8 : Ref sig .tc := ⟨.hbm, 92, rfl⟩
abbrev main_v80 : Ref sig .tc := ⟨.hbm, 93, rfl⟩
abbrev main_v81 : Ref sig .tc := ⟨.hbm, 94, rfl⟩

abbrev nD : Nat := 1
abbrev τ : Topo := Topo.v7x

variable {F : FTy → Type} [FloatOps F]
-- ==== DilD.lean ====
abbrev S4096x1024 : Shape := ⟨2, ![4096, 1024]⟩
abbrev S4096x256 : Shape := ⟨2, ![4096, 256]⟩
abbrev S2x4x2048x128 : Shape := ⟨4, ![2, 4, 2048, 128]⟩
abbrev S2048x128 : Shape := ⟨2, ![2048, 128]⟩
abbrev S1x2x2048x128 : Shape := ⟨4, ![1, 2, 2048, 128]⟩
abbrev S1x128 : Shape := ⟨2, ![1, 128]⟩
abbrev S2048 : Shape := ⟨1, ![2048]⟩
abbrev S2048x1 : Shape := ⟨2, ![2048, 1]⟩
abbrev S1x1x2048x128 : Shape := ⟨4, ![1, 1, 2048, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S2x4x2048x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S1x2x2048x128, .f32⟩
  | .local _ .vmem, ⟨5, _⟩ => ⟨S1x2x2048x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DilDRefIdeal.lean ====
abbrev S4096x1024 : Shape := ⟨2, ![4096, 1024]⟩
abbrev S4096x256 : Shape := ⟨2, ![4096, 256]⟩
abbrev S2x2048x4x64 : Shape := ⟨4, ![2, 2048, 4, 64]⟩
abbrev S_ : Shape := ⟨0, ![]⟩
abbrev S2x2048x4 : Shape := ⟨3, ![2, 2048, 4]⟩
abbrev S2x4x2048 : Shape := ⟨3, ![2, 4, 2048]⟩
abbrev S2x4x2048x1 : Shape := ⟨4, ![2, 4, 2048, 1]⟩
abbrev S2x4x2048x128 : Shape := ⟨4, ![2, 4, 2048, 128]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x256, .f32⟩
  | .hbm, ⟨2, _⟩ => ⟨S4096x256, .f32⟩
  | .hbm, ⟨3, _⟩ => ⟨S4096x256, .f32⟩
  | .hbm, ⟨4, _⟩ => ⟨S2x2048x4x64, .f32⟩
  | .hbm, ⟨5, _⟩ => ⟨S_, .f32⟩
  | .hbm, ⟨6, _⟩ => ⟨S2x2048x4, .f32⟩
  | .hbm, ⟨7, _⟩ => ⟨S2x4x2048, .f32⟩
  | .hbm, ⟨8, _⟩ => ⟨S2x4x2048x1, .f32⟩
  | .hbm, ⟨9, _⟩ => ⟨S2x4x2048x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DilM.lean ====
abbrev S3x2x2048x256 : Shape := ⟨4, ![3, 2, 2048, 256]⟩
abbrev S3x2x4x2048x128 : Shape := ⟨5, ![3, 2, 4, 2048, 128]⟩
abbrev S4096x256 : Shape := ⟨2, ![4096, 256]⟩
abbrev S2x4x2048x128 : Shape := ⟨4, ![2, 4, 2048, 128]⟩
abbrev S3x1x2048x128 : Shape := ⟨4, ![3, 1, 2048, 128]⟩
abbrev S3x1x2x2048x128 : Shape := ⟨5, ![3, 1, 2, 2048, 128]⟩
abbrev S2048x128 : Shape := ⟨2, ![2048, 128]⟩
abbrev S1x2x2048x128 : Shape := ⟨4, ![1, 2, 2048, 128]⟩
abbrev S1x128 : Shape := ⟨2, ![1, 128]⟩
abbrev S1x1x1x2048x128 : Shape := ⟨5, ![1, 1, 1, 2048, 128]⟩
abbrev S1x1x2048x128 : Shape := ⟨4, ![1, 1, 2048, 128]⟩

abbrev nBuf : Space → Nat
  | .hbm => 4
  | .vmem => 8
  | .smem => 0
  | _ => 0

abbrev bufTy : (tb : Table) → Fin (tcTables nBuf tb) → BufTy
  | .hbm, ⟨0, _⟩ => ⟨S3x2x2048x256, .f32⟩
  | .hbm, ⟨1, _⟩ => ⟨S3x2x4x2048x128, .f32⟩
  | .hbm, ⟨2, _⟩ => ⟨S4096x256, .f32⟩
  | .hbm, ⟨3, _⟩ => ⟨S2x4x2048x128, .f32⟩
  | .local _ .vmem, ⟨0, _⟩ => ⟨S3x1x2048x128, .f32⟩
  | .local _ .vmem, ⟨1, _⟩ => ⟨S3x1x2048x128, .f32⟩
  | .local _ .vmem, ⟨2, _⟩ => ⟨S3x1x2x2048x128, .f32⟩
  | .local _ .vmem, ⟨3, _⟩ => ⟨S3x1x2x2048x128, .f32⟩
  | .local _ .vmem, ⟨4, _⟩ => ⟨S2048x128, .f32⟩
  | .local _ .vmem, ⟨5, _⟩ => ⟨S2048x128, .f32⟩
  | .local _ .vmem, ⟨6, _⟩ => ⟨S1x2x2048x128, .f32⟩
  | .local _ .vmem, ⟨7, _⟩ => ⟨S1x2x2048x128, .f32⟩
  | _, _ => ⟨S3x2x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  let c0_i32_2 : BitVec 32 := 0#32
  ![c0_i32_0.toNat, arg0.toNat, c0_i32_1.toNat, v0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S3x1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x1x2x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DilMRefIdeal.lean ====
abbrev S3x2x2048x256 : Shape := ⟨4, ![3, 2, 2048, 256]⟩
abbrev S3x2x4x2048x128 : Shape := ⟨5, ![3, 2, 4, 2048, 128]⟩
abbrev S_ : Shape := ⟨0, ![]⟩
abbrev S2x4x2048x128 : Shape := ⟨4, ![2, 4, 2048, 128]⟩
abbrev S1x2x4x2048x128 : Shape := ⟨5, ![1, 2, 4, 2048, 128]⟩
abbrev S3x2x1x2048x64 : Shape := ⟨5, ![3, 2, 1, 2048, 64]⟩
abbrev S3x2x2048x64 : Shape := ⟨4, ![3, 2, 2048, 64]⟩
abbrev S2x2048x256 : Shape := ⟨3, ![2, 2048, 256]⟩
abbrev S2x1x2048x64 : Shape := ⟨4, ![2, 1, 2048, 64]⟩
abbrev S2x2048x64 : Shape := ⟨3, ![2, 2048, 64]⟩
abbrev S4096x256 : Shape := ⟨2, ![4096, 256]⟩

abbrev nBuf : Space → Nat
  | .hbm => 35
  | .vmem => 0
  | .smem => 0
  | _ => 0

abbrev bufTy : (tb : Table) → Fin (tcTables nBuf tb) → BufTy
  | .hbm, ⟨0, _⟩ => ⟨S3x2x2048x256, .f32⟩
  | .hbm, ⟨1, _⟩ => ⟨S3x2x4x2048x128, .f32⟩
  | .hbm, ⟨2, _⟩ => ⟨S_, .f32⟩
  | .hbm, ⟨3, _⟩ => ⟨S2x4x2048x128, .f32⟩
  | .hbm, ⟨4, _⟩ => ⟨S1x2x4x2048x128, .f32⟩
  | .hbm, ⟨5, _⟩ => ⟨S3x2x4x2048x128, .f32⟩
  | .hbm, ⟨6, _⟩ => ⟨S3x2x4x2048x128, .f32⟩
  | .hbm, ⟨7, _⟩ => ⟨S3x2x4x2048x128, .f32⟩
  | .hbm, ⟨8, _⟩ => ⟨S_, .f32⟩
  | .hbm, ⟨9, _⟩ => ⟨S2x4x2048x128, .f32⟩
  | .hbm, ⟨10, _⟩ => ⟨S3x2x1x2048x64, .f32⟩
  | .hbm, ⟨11, _⟩ => ⟨S3x2x2048x64, .f32⟩
  | .hbm, ⟨12, _⟩ => ⟨S3x2x1x2048x64, .f32⟩
  | .hbm, ⟨13, _⟩ => ⟨S3x2x2048x64, .f32⟩
  | .hbm, ⟨14, _⟩ => ⟨S3x2x1x2048x64, .f32⟩
  | .hbm, ⟨15, _⟩ => ⟨S3x2x2048x64, .f32⟩
  | .hbm, ⟨16, _⟩ => ⟨S3x2x1x2048x64, .f32⟩
  | .hbm, ⟨17, _⟩ => ⟨S3x2x2048x64, .f32⟩
  | .hbm, ⟨18, _⟩ => ⟨S3x2x2048x256, .f32⟩
  | .hbm, ⟨19, _⟩ => ⟨S3x2x2048x256, .f32⟩
  | .hbm, ⟨20, _⟩ => ⟨S_, .f32⟩
  | .hbm, ⟨21, _⟩ => ⟨S2x2048x256, .f32⟩
  | .hbm, ⟨22, _⟩ => ⟨S2x1x2048x64, .f32⟩
  | .hbm, ⟨23, _⟩ => ⟨S2x2048x64, .f32⟩
  | .hbm, ⟨24, _⟩ => ⟨S2x1x2048x64, .f32⟩
  | .hbm, ⟨25, _⟩ => ⟨S2x2048x64, .f32⟩
  | .hbm, ⟨26, _⟩ => ⟨S2x1x2048x64, .f32⟩
  | .hbm, ⟨27, _⟩ => ⟨S2x2048x64, .f32⟩
  | .hbm, ⟨28, _⟩ => ⟨S2x1x2048x64, .f32⟩
  | .hbm, ⟨29, _⟩ => ⟨S2x2048x64, .f32⟩
  | .hbm, ⟨30, _⟩ => ⟨S2x2048x256, .f32⟩
  | .hbm, ⟨31, _⟩ => ⟨S2x2048x256, .f32⟩
  | .hbm, ⟨32, _⟩ => ⟨S4096x256, .f32⟩
  | .hbm, ⟨33, _⟩ => ⟨S2x4x2048x128, .f32⟩
  | .hbm, ⟨34, _⟩ => ⟨S2x4x2048x128, .f32⟩
  | _, _ => ⟨S3x2x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩

abbrev nD : Nat := 1
abbrev τ : Topo := Topo.v7x

variable {F : FTy → Type} [FloatOps F]
-- ==== FoxF.lean ====
abbrev S4096x3200 : Shape := ⟨2, ![4096, 3200]⟩
abbrev S8x128 : Shape := ⟨2, ![8, 128]⟩
abbrev S4096x128 : Shape := ⟨2, ![4096, 128]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩

abbrev nBuf : Space → Nat
  | .hbm => 3
  | .vmem => 5
  | .smem => 0
  | _ => 0

abbrev bufTy : (tb : Table) → Fin (tcTables nBuf tb) → BufTy
  | .hbm, ⟨0, _⟩ => ⟨S4096x3200, .f32⟩
  | .hbm, ⟨1, _⟩ => ⟨S8x128, .f32⟩
  | .hbm, ⟨2, _⟩ => ⟨S4096x128, .f32⟩
  | .local _ .vmem, ⟨0, _⟩ => ⟨S2048x128, .f32⟩
  | .local _ .vmem, ⟨1, _⟩ => ⟨S2048x128, .f32⟩
  | .local _ .vmem, ⟨2, _⟩ => ⟨S8x128, .f32⟩
  | .local _ .vmem, ⟨3, _⟩ => ⟨S2048x128, .f32⟩
  | .local _ .vmem, ⟨4, _⟩ => ⟨S2048x128, .f32⟩
  | _, _ => ⟨S4096x3200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FoxFRefIdeal.lean ====
abbrev S4096x3200 : Shape := ⟨2, ![4096, 3200]⟩
abbrev S8x128 : Shape := ⟨2, ![8, 128]⟩
abbrev S4096x128 : Shape := ⟨2, ![4096, 128]⟩
abbrev S2x2048x128 : Shape := ⟨3, ![2, 2048, 128]⟩
abbrev S1x128 : Shape := ⟨2, ![1, 128]⟩
abbrev S128 : Shape := ⟨1, ![128]⟩
abbrev S1x1x128 : Shape := ⟨3, ![1, 1, 128]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x3200, .f32⟩
  | .hbm, ⟨1, _⟩ => ⟨S8x128, .f32⟩
  | .hbm, ⟨2, _⟩ => ⟨S4096x128, .f32⟩
  | .hbm, ⟨3, _⟩ => ⟨S2x2048x128, .f32⟩
  | .hbm, ⟨4, _⟩ => ⟨S1x128, .f32⟩
  | .hbm, ⟨5, _⟩ => ⟨S128, .f32⟩
  | .hbm, ⟨6, _⟩ => ⟨S1x1x128, .f32⟩
  | .hbm, ⟨7, _⟩ => ⟨S2x2048x128, .f32⟩
  | .hbm, ⟨8, _⟩ => ⟨S2x2048x128, .f32⟩
  | .hbm, ⟨9, _⟩ => ⟨S2x2048x128, .f32⟩
  | .hbm, ⟨10, _⟩ => ⟨S_, .f32⟩
  | .hbm, ⟨11, _⟩ => ⟨S2x2048x128, .f32⟩
  | .hbm, ⟨12, _⟩ => ⟨S2x2048x128, .f32⟩
  | .hbm, ⟨13, _⟩ => ⟨S2x2048x128, .f32⟩
  | .hbm, ⟨14, _⟩ => ⟨S2x2048x128, .f32⟩
  | .hbm, ⟨15, _⟩ => ⟨S2x2048x128, .i1⟩
  | .hbm, ⟨16, _⟩ => ⟨S2x2048x128, .f32⟩
  | .hbm, ⟨17, _⟩ => ⟨S2x2048x128, .f32⟩
  | .hbm, ⟨18, _⟩ => ⟨S2x2048x128, .f32⟩
  | .hbm, ⟨19, _⟩ => ⟨S2x2048x128, .f32⟩
  | .hbm, ⟨20, _⟩ => ⟨S2x2048x128, .f32⟩
  | .hbm, ⟨21, _⟩ => ⟨S2x2048x128, .f32⟩
  | .hbm, ⟨22, _⟩ => ⟨S2x2048x128, .f32⟩
  | .hbm, ⟨23, _⟩ => ⟨S2x2048x128, .f32⟩
  | .hbm, ⟨24, _⟩ => ⟨S2x2048x128, .f32⟩
  | .hbm, ⟨25, _⟩ => ⟨S_, .f32⟩
  | .hbm, ⟨26, _⟩ => ⟨S_, .f32⟩
  | .hbm, ⟨27, _⟩ => ⟨S2x2048x128, .f32⟩
  | .hbm, ⟨28, _⟩ => ⟨S4096x128, .f32⟩
  | _, _ => ⟨S4096x3200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_call0_v0 : Ref sig .tc := ⟨.hbm, 9, rfl⟩
abbrev main_call0_call0_cst : Ref sig .tc := ⟨.hbm, 10, rfl⟩
abbrev main_call0_call0_v0 : Ref sig .tc := ⟨.hbm, 11, rfl⟩
abbrev main_call0_call0_v1 : Ref sig .tc := ⟨.hbm, 12, rfl⟩
abbrev main_call0_call0_v2 : Ref sig .tc := ⟨.hbm, 13, rfl⟩
abbrev main_call0_call0_v3 : Ref sig .tc := ⟨.hbm, 14, rfl⟩
abbrev main_call0_call0_v4 : Ref sig .tc := ⟨.hbm, 15, rfl⟩
abbrev main_call0_call0_v5 : Ref sig .tc := ⟨.hbm, 16, rfl⟩
abbrev main_call0_call0_v6 : Ref sig .tc := ⟨.hbm, 17, rfl⟩
abbrev main_call0_call0_v7 : Ref sig .tc := ⟨.hbm, 18, rfl⟩
abbrev main_call0_call0_v8 : Ref sig .tc := ⟨.hbm, 19, rfl⟩
abbrev main_call0_call0_v9 : Ref sig .tc := ⟨.hbm, 20, rfl⟩
abbrev main_call0_call0_v10 : Ref sig .tc := ⟨.hbm, 21, rfl⟩
abbrev main_call0_call0_v11 : Ref sig .tc := ⟨.hbm, 22, rfl⟩
abbrev main_call0_v1 : Ref sig .tc := ⟨.hbm, 23, rfl⟩
abbrev main_v7 : Ref sig .tc := ⟨.hbm, 24, rfl⟩
abbrev main_call1_call0_cst : Ref sig .tc := ⟨.hbm, 25, rfl⟩
abbrev main_call1_call0_v0 : Ref sig .tc := ⟨.hbm, 26, rfl⟩
abbrev main_v8 : Ref sig .tc := ⟨.hbm, 27, rfl⟩
abbrev main_v9 : Ref sig .tc := ⟨.hbm, 28, rfl⟩

abbrev nD : Nat := 1
abbrev τ : Topo := Topo.v7x

variable {F : FTy → Type} [FloatOps F]
-- ==== FoxB.lean ====
abbrev S4096x128 : Shape := ⟨2, ![4096, 128]⟩
abbrev S4096x3200 : Shape := ⟨2, ![4096, 3200]⟩
abbrev S8x128 : Shape := ⟨2, ![8, 128]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S128 : Shape := ⟨1, ![128]⟩

abbrev nBuf : Space → Nat
  | .hbm => 5
  | .vmem => 8
  | .smem => 0
  | _ => 0

abbrev bufTy : (tb : Table) → Fin (tcTables nBuf tb) → BufTy
  | .hbm, ⟨0, _⟩ => ⟨S4096x128, .f32⟩
  | .hbm, ⟨1, _⟩ => ⟨S4096x3200, .f32⟩
  | .hbm, ⟨2, _⟩ => ⟨S8x128, .f32⟩
  | .hbm, ⟨3, _⟩ => ⟨S4096x128, .f32⟩
  | .hbm, ⟨4, _⟩ => ⟨S8x128, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S8x128, .f32⟩
  | .local _ .vmem, ⟨5, _⟩ => ⟨S2048x128, .f32⟩
  | .local _ .vmem, ⟨6, _⟩ => ⟨S2048x128, .f32⟩
  | .local _ .vmem, ⟨7, _⟩ => ⟨S8x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== FoxBRefIdeal.lean ====
abbrev S4096x128 : Shape := ⟨2, ![4096, 128]⟩
abbrev S4096x3200 : Shape := ⟨2, ![4096, 3200]⟩
abbrev S8x128 : Shape := ⟨2, ![8, 128]⟩
abbrev S2x2048x128 : Shape := ⟨3, ![2, 2048, 128]⟩
abbrev S_ : Shape := ⟨0, ![]⟩
abbrev S1x128 : Shape := ⟨2, ![1, 128]⟩
abbrev S128 : Shape := ⟨1, ![128]⟩
abbrev S1x1x128 : Shape := ⟨3, ![1, 1, 128]⟩
abbrev S7x128 : Shape := ⟨2, ![7, 128]⟩

abbrev nBuf : Space → Nat
  | .hbm => 34
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x3200, .f32⟩
  | .hbm, ⟨2, _⟩ => ⟨S8x128, .f32⟩
  | .hbm, ⟨3, _⟩ => ⟨S2x2048x128, .f32⟩
  | .hbm, ⟨4, _⟩ => ⟨S2x2048x128, .f32⟩
  | .hbm, ⟨5, _⟩ => ⟨S_, .f32⟩
  | .hbm, ⟨6, _⟩ => ⟨S_, .f32⟩
  | .hbm, ⟨7, _⟩ => ⟨S2x2048x128, .f32⟩
  | .hbm, ⟨8, _⟩ => ⟨S2x2048x128, .f32⟩
  | .hbm, ⟨9, _⟩ => ⟨S4096x128, .f32⟩
  | .hbm, ⟨10, _⟩ => ⟨S2x2048x128, .f32⟩
  | .hbm, ⟨11, _⟩ => ⟨S1x128, .f32⟩
  | .hbm, ⟨12, _⟩ => ⟨S128, .f32⟩
  | .hbm, ⟨13, _⟩ => ⟨S1x1x128, .f32⟩
  | .hbm, ⟨14, _⟩ => ⟨S2x2048x128, .f32⟩
  | .hbm, ⟨15, _⟩ => ⟨S2x2048x128, .f32⟩
  | .hbm, ⟨16, _⟩ => ⟨S2x2048x128, .f32⟩
  | .hbm, ⟨17, _⟩ => ⟨S2x2048x128, .f32⟩
  | .hbm, ⟨18, _⟩ => ⟨S2x2048x128, .f32⟩
  | .hbm, ⟨19, _⟩ => ⟨S_, .f32⟩
  | .hbm, ⟨20, _⟩ => ⟨S2x2048x128, .f32⟩
  | .hbm, ⟨21, _⟩ => ⟨S2x2048x128, .f32⟩
  | .hbm, ⟨22, _⟩ => ⟨S_, .f32⟩
  | .hbm, ⟨23, _⟩ => ⟨S2x2048x128, .f32⟩
  | .hbm, ⟨24, _⟩ => ⟨S2x2048x128, .f32⟩
  | .hbm, ⟨25, _⟩ => ⟨S2x2048x128, .f32⟩
  | .hbm, ⟨26, _⟩ => ⟨S4096x128, .f32⟩
  | .hbm, ⟨27, _⟩ => ⟨S_, .f32⟩
  | .hbm, ⟨28, _⟩ => ⟨S128, .f32⟩
  | .hbm, ⟨29, _⟩ => ⟨S1x128, .f32⟩
  | .hbm, ⟨30, _⟩ => ⟨S4096x128, .f32⟩
  | .hbm, ⟨31, _⟩ => ⟨S_, .f32⟩
  | .hbm, ⟨32, _⟩ => ⟨S7x128, .f32⟩
  | .hbm, ⟨33, _⟩ => ⟨S8x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call1_call0_cst : Ref sig .tc := ⟨.hbm, 5, rfl⟩
abbrev main_call1_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== DilB.lean ====
abbrev S32x4 : Shape := ⟨2, ![32, 4]⟩
abbrev S3x128x256 : Shape := ⟨3, ![3, 128, 256]⟩
abbrev S3x4x128x256 : Shape := ⟨4, ![3, 4, 128, 256]⟩
abbrev S1x128x256 : Shape := ⟨3, ![1, 128, 256]⟩
abbrev S128x256 : Shape := ⟨2, ![128, 256]⟩
abbrev S1x1 : Shape := ⟨2, ![1, 1]⟩
abbrev S1x1x128x256 : Shape := ⟨4, ![1, 1, 128, 256]⟩

abbrev nBuf : Space → Nat
  | .hbm => 3
  | .vmem => 2
  | .smem => 1
  | _ => 0

abbrev bufTy : (tb : Table) → Fin (tcTables nBuf tb) → BufTy
  | .hbm, ⟨0, _⟩ => ⟨S32x4, .f32⟩
  | .hbm, ⟨1, _⟩ => ⟨S3x128x256, .i32⟩
  | .hbm, ⟨2, _⟩ => ⟨S3x4x128x256, .f32⟩
  | .local _ .vmem, ⟨0, _⟩ => ⟨S3x128x256, .i32⟩
  | .local _ .vmem, ⟨1, _⟩ => ⟨S3x4x128x256, .f32⟩
  | .local _ .smem, ⟨0, _⟩ => ⟨S32x4, .f32⟩
  | _, _ => ⟨S32x4, .f32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg2_0 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v6 : BitVec 32 := Scalar.addi c0_i32 c32_i32
  let c1_i32 : BitVec 32 := 1#32
  ⟨c0_i32, v6, c1_i32⟩
def k0_off1 (k0_t1 : Fin k0_t1_loop.trips) : Fin 2 → Nat :=
  let c0_i32 : BitVec 32 := 0#32
  let c1_i32 : BitVec 32 := 1#32
  let arg3 : BitVec 32 := Scf.iv c0_i32 c1_i32 k0_t1
  let v62 : Index := Scalar.indexCast arg3
  let c0_73 : Index := 0#32
  ![v62.toNat, 0]
def k0_off2 (k0_t1 : Fin k0_t1_loop.trips) : Fin 2 → Nat :=
  let c0_i32 : BitVec 32 := 0#32
  let c1_i32 : BitVec 32 := 1#32
  let arg3 : BitVec 32 := Scf.iv c0_i32 c1_i32 k0_t1
  let v68 : Index := Scalar.indexCast arg3
  let c1_74 : Index := 1#32
  ![v68.toNat, 1]
def k0_off3 (k0_t1 : Fin k0_t1_loop.trips) : Fin 2 → Nat :=
  let c0_i32 : BitVec 32 := 0#32
  let c1_i32 : BitVec 32 := 1#32
  let arg3 : BitVec 32 := Scf.iv c0_i32 c1_i32 k0_t1
  let v74 : Index := Scalar.indexCast arg3
  let c2_75 : Index := 2#32
  ![v74.toNat, 2]
def k0_off4 (k0_t1 : Fin k0_t1_loop.trips) : Fin 2 → Nat :=
  let c0_i32 : BitVec 32 := 0#32
  let c1_i32 : BitVec 32 := 1#32
  let arg3 : BitVec 32 := Scf.iv c0_i32 c1_i32 k0_t1
  let v80 : Index := Scalar.indexCast arg3
  let c3_76 : Index := 3#32
  ![v80.toNat, 3]
@[reducible] def k0_t2_loop : Scf.Loop 32 :=
  let c0_i32_26 : BitVec 32 := 0#32
  let c32_i32_27 : BitVec 32 := 32#32
  let v26 : BitVec 32 := Scalar.addi c0_i32_26 c32_i32_27
  let c1_i32_28 : BitVec 32 := 1#32
  ⟨c0_i32_26, v26, c1_i32_28⟩
def k0_off5 (k0_t2 : Fin k0_t2_loop.trips) : Fin 2 → Nat :=
  let c0_i32_26 : BitVec 32 := 0#32
  let c1_i32_28 : BitVec 32 := 1#32
  let arg3 : BitVec 32 := Scf.iv c0_i32_26 c1_i32_28 k0_t2
  let v62 : Index := Scalar.indexCast arg3
  let c0_73 : Index := 0#32
  ![v62.toNat, 0]
def k0_off6 (k0_t2 : Fin k0_t2_loop.trips) : Fin 2 → Nat :=
  let c0_i32_26 : BitVec 32 := 0#32
  let c1_i32_28 : BitVec 32 := 1#32
  let arg3 : BitVec 32 := Scf.iv c0_i32_26 c1_i32_28 k0_t2
  let v68 : Index := Scalar.indexCast arg3
  let c1_74 : Index := 1#32
  ![v68.toNat, 1]
def k0_off7 (k0_t2 : Fin k0_t2_loop.trips) : Fin 2 → Nat :=
  let c0_i32_26 : BitVec 32 := 0#32
  let c1_i32_28 : BitVec 32 := 1#32
  let arg3 : BitVec 32 := Scf.iv c0_i32_26 c1_i32_28 k0_t2
  let v74 : Index := Scalar.indexCast arg3
  let c2_75 : Index := 2#32
  ![v74.toNat, 2]
def k0_off8 (k0_t2 : Fin k0_t2_loop.trips) : Fin 2 → Nat :=
  let c0_i32_26 : BitVec 32 := 0#32
  let c1_i32_28 : BitVec 32 := 1#32
  let arg3 : BitVec 32 := Scf.iv c0_i32_26 c1_i32_28 k0_t2
  let v80 : Index := Scalar.indexCast arg3
  let c3_76 : Index := 3#32
  ![v80.toNat, 3]
@[reducible] def k0_t3_loop : Scf.Loop 32 :=
  let c0_i32_53 : BitVec 32 := 0#32
  let c32_i32_54 : BitVec 32 := 32#32
  let v46 : BitVec 32 := Scalar.addi c0_i32_53 c32_i32_54
  let c1_i32_55 : BitVec 32 := 1#32
  ⟨c0_i32_53, v46, c1_i32_55⟩
def k0_off9 (k0_t3 : Fin k0_t3_loop.trips) : Fin 2 → Nat :=
  let c0_i32_53 : BitVec 32 := 0#32
  let c1_i32_55 : BitVec 32 := 1#32
  let arg3 : BitVec 32 := Scf.iv c0_i32_53 c1_i32_55 k0_t3
  let v62 : Index := Scalar.indexCast arg3
  let c0_73 : Index := 0#32
  ![v62.toNat, 0]
def k0_off10 (k0_t3 : Fin k0_t3_loop.trips) : Fin 2 → Nat :=
  let c0_i32_53 : BitVec 32 := 0#32
  let c1_i32_55 : BitVec 32 := 1#32
  let arg3 : BitVec 32 := Scf.iv c0_i32_53 c1_i32_55 k0_t3
  let v68 : Index := Scalar.indexCast arg3
  let c1_74 : Index := 1#32
  ![v68.toNat, 1]
def k0_off11 (k0_t3 : Fin k0_t3_loop.trips) : Fin 2 → Nat :=
  let c0_i32_53 : BitVec 32 := 0#32
  let c1_i32_55 : BitVec 32 := 1#32
  let arg3 : BitVec 32 := Scf.iv c0_i32_53 c1_i32_55 k0_t3
  let v74 : Index := Scalar.indexCast arg3
  let c2_75 : Index := 2#32
  ![v74.toNat, 2]
def k0_off12 (k0_t3 : Fin k0_t3_loop.trips) : Fin 2 → Nat :=
  let c0_i32_53 : BitVec 32 := 0#32
  let c1_i32_55 : BitVec 32 := 1#32
  let arg3 : BitVec 32 := Scf.iv c0_i32_53 c1_i32_55 k0_t3
  let v80 : Index := Scalar.indexCast arg3
  let c3_76 : Index := 3#32
  ![v80.toNat, 3]
abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x4x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DilBRefIdeal.lean ====
abbrev S32x4 : Shape := ⟨2, ![32, 4]⟩
abbrev S3x128x256 : Shape := ⟨3, ![3, 128, 256]⟩
abbrev S_ : Shape := ⟨0, ![]⟩
abbrev S3x128x256x1 : Shape := ⟨4, ![3, 128, 256, 1]⟩
abbrev S3x128x256x4 : Shape := ⟨4, ![3, 128, 256, 4]⟩
abbrev S3x4x128x256 : Shape := ⟨4, ![3, 4, 128, 256]⟩
abbrev S3x1x128x256 : Shape := ⟨4, ![3, 1, 128, 256]⟩

abbrev nBuf : Space → Nat
  | .hbm => 33
  | .vmem => 0
  | .smem => 0
  | _ => 0

abbrev bufTy : (tb : Table) → Fin (tcTables nBuf tb) → BufTy
  | .hbm, ⟨0, _⟩ => ⟨S32x4, .f32⟩
  | .hbm, ⟨1, _⟩ => ⟨S3x128x256, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S3x128x256, .i32⟩
  | .hbm, ⟨6, _⟩ => ⟨S3x128x256, .i32⟩
  | .hbm, ⟨7, _⟩ => ⟨S_, .i32⟩
  | .hbm, ⟨8, _⟩ => ⟨S3x128x256, .i32⟩
  | .hbm, ⟨9, _⟩ => ⟨S3x128x256, .i32⟩
  | .hbm, ⟨10, _⟩ => ⟨S_, .i32⟩
  | .hbm, ⟨11, _⟩ => ⟨S3x128x256, .i32⟩
  | .hbm, ⟨12, _⟩ => ⟨S3x128x256, .i1⟩
  | .hbm, ⟨13, _⟩ => ⟨S_, .i32⟩
  | .hbm, ⟨14, _⟩ => ⟨S3x128x256, .i32⟩
  | .hbm, ⟨15, _⟩ => ⟨S3x128x256, .i32⟩
  | .hbm, ⟨16, _⟩ => ⟨S3x128x256, .i32⟩
  | .hbm, ⟨17, _⟩ => ⟨S3x128x256x1, .i32⟩
  | .hbm, ⟨18, _⟩ => ⟨S3x128x256x4, .f32⟩
  | .hbm, ⟨19, _⟩ => ⟨S3x4x128x256, .f32⟩
  | .hbm, ⟨20, _⟩ => ⟨S_, .i32⟩
  | .hbm, ⟨21, _⟩ => ⟨S3x128x256, .i32⟩
  | .hbm, ⟨22, _⟩ => ⟨S3x128x256, .i1⟩
  | .hbm, ⟨23, _⟩ => ⟨S_, .i32⟩
  | .hbm, ⟨24, _⟩ => ⟨S3x128x256, .i32⟩
  | .hbm, ⟨25, _⟩ => ⟨S3x128x256, .i1⟩
  | .hbm, ⟨26, _⟩ => ⟨S3x128x256, .i1⟩
  | .hbm, ⟨27, _⟩ => ⟨S3x1x128x256, .i1⟩
  | .hbm, ⟨28, _⟩ => ⟨S_, .f32⟩
  | .hbm, ⟨29, _⟩ => ⟨S_, .f32⟩
  | .hbm, ⟨30, _⟩ => ⟨S3x4x128x256, .i1⟩
  | .hbm, ⟨31, _⟩ => ⟨S3x4x128x256, .f32⟩
  | .hbm, ⟨32, _⟩ => ⟨S3x4x128x256, .f32⟩
  | _, _ => ⟨S32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v0 : Ref sig .tc := ⟨.hbm, 9, rfl⟩
abbrev main_c_1 : Ref sig .tc := ⟨.hbm, 10, rfl⟩
abbrev main_v1 : Ref sig .tc := ⟨.hbm, 11, rfl⟩
abbrev main_v2 : Ref sig .tc := ⟨.hbm, 12, rfl⟩
abbrev main_c_2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c_3 : Ref sig .tc := ⟨.hbm, 20, rfl⟩
abbrev main_v9 : Ref sig .tc := ⟨.hbm, 21, rfl⟩
abbrev main_v10 : Ref sig .tc := ⟨.hbm, 22, rfl⟩
abbrev main_c_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== DilG.lean ====
abbrev S2x4x3x128x256 : Shape := ⟨5, ![2, 4, 3, 128, 256]⟩
abbrev S3x128x256 : Shape := ⟨3, ![3, 128, 256]⟩
abbrev S8x128 : Shape := ⟨2, ![8, 128]⟩
abbrev S1x1x1x128x256 : Shape := ⟨5, ![1, 1, 1, 128, 256]⟩
abbrev S128x256 : Shape := ⟨2, ![128, 256]⟩
abbrev S1x128x256 : Shape := ⟨3, ![1, 128, 256]⟩
abbrev S1 : Shape := ⟨1, ![1]⟩
abbrev S1x1x1 : Shape := ⟨3, ![1, 1, 1]⟩

abbrev nBuf : Space → Nat
  | .hbm => 3
  | .vmem => 3
  | .smem => 0
  | _ => 0

abbrev bufTy : (tb : Table) → Fin (tcTables nBuf tb) → BufTy
  | .hbm, ⟨0, _⟩ => ⟨S2x4x3x128x256, .f32⟩
  | .hbm, ⟨1, _⟩ => ⟨S3x128x256, .i32⟩
  | .hbm, ⟨2, _⟩ => ⟨S8x128, .f32⟩
  | .local _ .vmem, ⟨0, _⟩ => ⟨S2x4x3x128x256, .f32⟩
  | .local _ .vmem, ⟨1, _⟩ => ⟨S3x128x256, .i32⟩
  | .local _ .vmem, ⟨2, _⟩ => ⟨S8x128, .f32⟩
  | _, _ => ⟨S2x4x3x128x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c32_i32 : BitVec 32 := 32#32
  let v87 : BitVec 32 := Scalar.addi c0_i32 c32_i32
  let c1_i32 : BitVec 32 := 1#32
  ⟨c0_i32, v87, c1_i32⟩
abbrev stage0_0 : Fin 1 → Memref sig .tc .vmem S2x4x3x128x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x128x256 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== DilGRefIdeal.lean ====
abbrev S2x4x3x128x256 : Shape := ⟨5, ![2, 4, 3, 128, 256]⟩
abbrev S3x128x256 : Shape := ⟨3, ![3, 128, 256]⟩
abbrev S1x1x3x128x256 : Shape := ⟨5, ![1, 1, 3, 128, 256]⟩
abbrev S32 : Shape := ⟨1, ![32]⟩
abbrev S1x32x1x1x1 : Shape := ⟨5, ![1, 32, 1, 1, 1]⟩
abbrev S1x32x3x128x256 : Shape := ⟨5, ![1, 32, 3, 128, 256]⟩
abbrev S_ : Shape := ⟨0, ![]⟩
abbrev S4x3x128x256 : Shape := ⟨4, ![4, 3, 128, 256]⟩
abbrev S4x1x3x128x256 : Shape := ⟨5, ![4, 1, 3, 128, 256]⟩
abbrev S4x32x3x128x256 : Shape := ⟨5, ![4, 32, 3, 128, 256]⟩
abbrev S4x32 : Shape := ⟨2, ![4, 32]⟩
abbrev S4x96 : Shape := ⟨2, ![4, 96]⟩
abbrev S4x128 : Shape := ⟨2, ![4, 128]⟩
abbrev S8x128 : Shape := ⟨2, ![8, 128]⟩

abbrev nBuf : Space → Nat
  | .hbm => 25
  | .vmem => 0
  | .smem => 0
  | _ => 0

abbrev bufTy : (tb : Table) → Fin (tcTables nBuf tb) → BufTy
  | .hbm, ⟨0, _⟩ => ⟨S2x4x3x128x256, .f32⟩
  | .hbm, ⟨1, _⟩ => ⟨S3x128x256, .i32⟩
  | .hbm, ⟨2, _⟩ => ⟨S1x1x3x128x256, .i32⟩
  | .hbm, ⟨3, _⟩ => ⟨S32, .i32⟩
  | .hbm, ⟨4, _⟩ => ⟨S1x32x1x1x1, .i32⟩
  | .hbm, ⟨5, _⟩ => ⟨S1x32x3x128x256, .i32⟩
  | .hbm, ⟨6, _⟩ => ⟨S1x32x3x128x256, .i32⟩
  | .hbm, ⟨7, _⟩ => ⟨S1x32x3x128x256, .i1⟩
  | .hbm, ⟨8, _⟩ => ⟨S_, .f32⟩
  | .hbm, ⟨9, _⟩ => ⟨S4x3x128x256, .f32⟩
  | .hbm, ⟨10, _⟩ => ⟨S4x1x3x128x256, .f32⟩
  | .hbm, ⟨11, _⟩ => ⟨S_, .f32⟩
  | .hbm, ⟨12, _⟩ => ⟨S_, .f32⟩
  | .hbm, ⟨13, _⟩ => ⟨S4x32x3x128x256, .i1⟩
  | .hbm, ⟨14, _⟩ => ⟨S4x32x3x128x256, .f32⟩
  | .hbm, ⟨15, _⟩ => ⟨S4x32x3x128x256, .f32⟩
  | .hbm, ⟨16, _⟩ => ⟨S4x32x3x128x256, .f32⟩
  | .hbm, ⟨17, _⟩ => ⟨S_, .f32⟩
  | .hbm, ⟨18, _⟩ => ⟨S4x32, .f32⟩
  | .hbm, ⟨19, _⟩ => ⟨S_, .f32⟩
  | .hbm, ⟨20, _⟩ => ⟨S4x96, .f32⟩
  | .hbm, ⟨21, _⟩ => ⟨S4x128, .f32⟩
  | .hbm, ⟨22, _⟩ => ⟨S_, .f32⟩
  | .hbm, ⟨23, _⟩ => ⟨S4x128, .f32⟩
  | .hbm, ⟨24, _⟩ => ⟨S8x128, .f32⟩
  | _, _ => ⟨S2x4x3x128x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_cst_3 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== AdamIn.lean ====
abbrev S2x1024x769 : Shape := ⟨3, ![2, 1024, 769]⟩
abbrev S1x256x769 : Shape := ⟨3, ![1, 256, 769]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x769, .f32⟩
  | .hbm, ⟨1, _⟩ => ⟨S2x1024x769, .f32⟩
  | .hbm, ⟨2, _⟩ => ⟨S2x1024x769, .f32⟩
  | .hbm, ⟨3, _⟩ => ⟨S2x1024x769, .f32⟩
  | .hbm, ⟨4, _⟩ => ⟨S2x1024x769, .f32⟩
  | .hbm, ⟨5, _⟩ => ⟨S2x1024x769, .f32⟩
  | .hbm, ⟨6, _⟩ => ⟨S2x1024x769, .f32⟩
  | .local _ .vmem, ⟨0, _⟩ => ⟨S1x256x769, .f32⟩
  | .local _ .vmem, ⟨1, _⟩ => ⟨S1x256x769, .f32⟩
  | .local _ .vmem, ⟨2, _⟩ => ⟨S1x256x769, .f32⟩
  | .local _ .vmem, ⟨3, _⟩ => ⟨S1x256x769, .f32⟩
  | .local _ .vmem, ⟨4, _⟩ => ⟨S1x256x769, .f32⟩
  | .local _ .vmem, ⟨5, _⟩ => ⟨S1x256x769, .f32⟩
  | .local _ .vmem, ⟨6, _⟩ => ⟨S1x256x769, .f32⟩
  | .local _ .vmem, ⟨7, _⟩ => ⟨S1x256x769, .f32⟩
  | .local _ .vmem, ⟨8, _⟩ => ⟨S1x256x769, .f32⟩
  | .local _ .vmem, ⟨9, _⟩ => ⟨S1x256x769, .f32⟩
  | .local _ .vmem, ⟨10, _⟩ => ⟨S1x256x769, .f32⟩
  | .local _ .vmem, ⟨11, _⟩ => ⟨S1x256x769, .f32⟩
  | .local _ .vmem, ⟨12, _⟩ => ⟨S1x256x769, .f32⟩
  | .local _ .vmem, ⟨13, _⟩ => ⟨S1x256x769, .f32⟩
  | _, _ => ⟨S2x1024x769, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x769 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x769 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x769 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x769 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x769 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x769 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x769 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamInRefIdeal.lean ====
abbrev S2x1024x769 : Shape := ⟨3, ![2, 1024, 769]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x769, .f32⟩
  | .hbm, ⟨1, _⟩ => ⟨S2x1024x769, .f32⟩
  | .hbm, ⟨2, _⟩ => ⟨S2x1024x769, .f32⟩
  | .hbm, ⟨3, _⟩ => ⟨S2x1024x769, .f32⟩
  | .hbm, ⟨4, _⟩ => ⟨S_, .f32⟩
  | .hbm, ⟨5, _⟩ => ⟨S2x1024x769, .f32⟩
  | .hbm, ⟨6, _⟩ => ⟨S2x1024x769, .f32⟩
  | .hbm, ⟨7, _⟩ => ⟨S_, .f32⟩
  | .hbm, ⟨8, _⟩ => ⟨S2x1024x769, .f32⟩
  | .hbm, ⟨9, _⟩ => ⟨S2x1024x769, .f32⟩
  | .hbm, ⟨10, _⟩ => ⟨S2x1024x769, .f32⟩
  | .hbm, ⟨11, _⟩ => ⟨S_, .f32⟩
  | .hbm, ⟨12, _⟩ => ⟨S2x1024x769, .f32⟩
  | .hbm, ⟨13, _⟩ => ⟨S2x1024x769, .f32⟩
  | .hbm, ⟨14, _⟩ => ⟨S2x1024x769, .f32⟩
  | .hbm, ⟨15, _⟩ => ⟨S_, .f32⟩
  | .hbm, ⟨16, _⟩ => ⟨S2x1024x769, .f32⟩
  | .hbm, ⟨17, _⟩ => ⟨S2x1024x769, .f32⟩
  | .hbm, ⟨18, _⟩ => ⟨S2x1024x769, .f32⟩
  | .hbm, ⟨19, _⟩ => ⟨S_, .f32⟩
  | .hbm, ⟨20, _⟩ => ⟨S2x1024x769, .f32⟩
  | .hbm, ⟨21, _⟩ => ⟨S2x1024x769, .f32⟩
  | .hbm, ⟨22, _⟩ => ⟨S_, .f32⟩
  | .hbm, ⟨23, _⟩ => ⟨S2x1024x769, .f32⟩
  | .hbm, ⟨24, _⟩ => ⟨S2x1024x769, .f32⟩
  | .hbm, ⟨25, _⟩ => ⟨S2x1024x769, .f32⟩
  | .hbm, ⟨26, _⟩ => ⟨S_, .f32⟩
  | .hbm, ⟨27, _⟩ => ⟨S2x1024x769, .f32⟩
  | .hbm, ⟨28, _⟩ => ⟨S2x1024x769, .f32⟩
  | .hbm, ⟨29, _⟩ => ⟨S2x1024x769, .f32⟩
  | .hbm, ⟨30, _⟩ => ⟨S_, .f32⟩
  | .hbm, ⟨31, _⟩ => ⟨S2x1024x769, .f32⟩
  | .hbm, ⟨32, _⟩ => ⟨S2x1024x769, .f32⟩
  | .hbm, ⟨33, _⟩ => ⟨S2x1024x769, .f32⟩
  | .hbm, ⟨34, _⟩ => ⟨S_, .f32⟩
  | .hbm, ⟨35, _⟩ => ⟨S2x1024x769, .f32⟩
  | .hbm, ⟨36, _⟩ => ⟨S2x1024x769, .f32⟩
  | _, _ => ⟨S2x1024x769, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S2x256x1024 : Shape := ⟨3, ![2, 256, 1024]⟩
abbrev S1x256x1024 : Shape := ⟨3, ![1, 256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamOutRefIdeal.lean ====
abbrev S2x256x1024 : Shape := ⟨3, ![2, 256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S2x256x1024, .f32⟩
  | .hbm, ⟨2, _⟩ => ⟨S2x256x1024, .f32⟩
  | .hbm, ⟨3, _⟩ => ⟨S2x256x1024, .f32⟩
  | .hbm, ⟨4, _⟩ => ⟨S_, .f32⟩
  | .hbm, ⟨5, _⟩ => ⟨S2x256x1024, .f32⟩
  | .hbm, ⟨6, _⟩ => ⟨S2x256x1024, .f32⟩
  | .hbm, ⟨7, _⟩ => ⟨S_, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S_, .f32⟩
  | .hbm, ⟨12, _⟩ => ⟨S2x256x1024, .f32⟩
  | .hbm, ⟨13, _⟩ => ⟨S2x256x1024, .f32⟩
  | .hbm, ⟨14, _⟩ => ⟨S2x256x1024, .f32⟩
  | .hbm, ⟨15, _⟩ => ⟨S_, .f32⟩
  | .hbm, ⟨16, _⟩ => ⟨S2x256x1024, .f32⟩
  | .hbm, ⟨17, _⟩ => ⟨S2x256x1024, .f32⟩
  | .hbm, ⟨18, _⟩ => ⟨S2x256x1024, .f32⟩
  | .hbm, ⟨19, _⟩ => ⟨S_, .f32⟩
  | .hbm, ⟨20, _⟩ => ⟨S2x256x1024, .f32⟩
  | .hbm, ⟨21, _⟩ => ⟨S2x256x1024, .f32⟩
  | .hbm, ⟨22, _⟩ => ⟨S_, .f32⟩
  | .hbm, ⟨23, _⟩ => ⟨S2x256x1024, .f32⟩
  | .hbm, ⟨24, _⟩ => ⟨S2x256x1024, .f32⟩
  | .hbm, ⟨25, _⟩ => ⟨S2x256x1024, .f32⟩
  | .hbm, ⟨26, _⟩ => ⟨S_, .f32⟩
  | .hbm, ⟨27, _⟩ => ⟨S2x256x1024, .f32⟩
  | .hbm, ⟨28, _⟩ => ⟨S2x256x1024, .f32⟩
  | .hbm, ⟨29, _⟩ => ⟨S2x256x1024, .f32⟩
  | .hbm, ⟨30, _⟩ => ⟨S_, .f32⟩
  | .hbm, ⟨31, _⟩ => ⟨S2x256x1024, .f32⟩
  | .hbm, ⟨32, _⟩ => ⟨S2x256x1024, .f32⟩
  | .hbm, ⟨33, _⟩ => ⟨S2x256x1024, .f32⟩
  | .hbm, ⟨34, _⟩ => ⟨S_, .f32⟩
  | .hbm, ⟨35, _⟩ => ⟨S2x256x1024, .f32⟩
  | .hbm, ⟨36, _⟩ => ⟨S2x256x1024, .f32⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamGate.lean ====
abbrev S2x1024x704 : Shape := ⟨3, ![2, 1024, 704]⟩
abbrev S1x256x704 : Shape := ⟨3, ![1, 256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamGateRefIdeal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamUp.lean ====
abbrev S2x1024x704 : Shape := ⟨3, ![2, 1024, 704]⟩
abbrev S1x256x704 : Shape := ⟨3, ![1, 256, 704]⟩

abbrev nBuf : Space → Nat
  | .hbm => 7
  | .vmem => 14
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x1024x704, .f32⟩
  | .hbm, ⟨6, _⟩ => ⟨S2x1024x704, .f32⟩
  | .local _ .vmem, ⟨0, _⟩ => ⟨S1x256x704, .f32⟩
  | .local _ .vmem, ⟨1, _⟩ => ⟨S1x256x704, .f32⟩
  | .local _ .vmem, ⟨2, _⟩ => ⟨S1x256x704, .f32⟩
  | .local _ .vmem, ⟨3, _⟩ => ⟨S1x256x704, .f32⟩
  | .local _ .vmem, ⟨4, _⟩ => ⟨S1x256x704, .f32⟩
  | .local _ .vmem, ⟨5, _⟩ => ⟨S1x256x704, .f32⟩
  | .local _ .vmem, ⟨6, _⟩ => ⟨S1x256x704, .f32⟩
  | .local _ .vmem, ⟨7, _⟩ => ⟨S1x256x704, .f32⟩
  | .local _ .vmem, ⟨8, _⟩ => ⟨S1x256x704, .f32⟩
  | .local _ .vmem, ⟨9, _⟩ => ⟨S1x256x704, .f32⟩
  | .local _ .vmem, ⟨10, _⟩ => ⟨S1x256x704, .f32⟩
  | .local _ .vmem, ⟨11, _⟩ => ⟨S1x256x704, .f32⟩
  | .local _ .vmem, ⟨12, _⟩ => ⟨S1x256x704, .f32⟩
  | .local _ .vmem, ⟨13, _⟩ => ⟨S1x256x704, .f32⟩
  | _, _ => ⟨S2x1024x704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamUpRefIdeal.lean ====
abbrev S2x1024x704 : Shape := ⟨3, ![2, 1024, 704]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024x704, .f32⟩
  | .hbm, ⟨1, _⟩ => ⟨S2x1024x704, .f32⟩
  | .hbm, ⟨2, _⟩ => ⟨S2x1024x704, .f32⟩
  | .hbm, ⟨3, _⟩ => ⟨S2x1024x704, .f32⟩
  | .hbm, ⟨4, _⟩ => ⟨S_, .f32⟩
  | .hbm, ⟨5, _⟩ => ⟨S2x1024x704, .f32⟩
  | .hbm, ⟨6, _⟩ => ⟨S2x1024x704, .f32⟩
  | .hbm, ⟨7, _⟩ => ⟨S_, .f32⟩
  | .hbm, ⟨8, _⟩ => ⟨S2x1024x704, .f32⟩
  | .hbm, ⟨9, _⟩ => ⟨S2x1024x704, .f32⟩
  | .hbm, ⟨10, _⟩ => ⟨S2x1024x704, .f32⟩
  | .hbm, ⟨11, _⟩ => ⟨S_, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S2x1024x704, .f32⟩
  | .hbm, ⟨19, _⟩ => ⟨S_, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S2x1024x704, .f32⟩
  | .hbm, ⟨34, _⟩ => ⟨S_, .f32⟩
  | .hbm, ⟨35, _⟩ => ⟨S2x1024x704, .f32⟩
  | .hbm, ⟨36, _⟩ => ⟨S2x1024x704, .f32⟩
  | _, _ => ⟨S2x1024x704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamDown.lean ====
abbrev S2x704x1024 : Shape := ⟨3, ![2, 704, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S2x704x1024, .f32⟩
  | .hbm, ⟨5, _⟩ => ⟨S2x704x1024, .f32⟩
  | .hbm, ⟨6, _⟩ => ⟨S2x704x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x704x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AdamDownRefIdeal.lean ====
abbrev S2x704x1024 : Shape := ⟨3, ![2, 704, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x704x1024, .f32⟩
  | .hbm, ⟨1, _⟩ => ⟨S2x704x1024, .f32⟩
  | .hbm, ⟨2, _⟩ => ⟨S2x704x1024, .f32⟩
  | .hbm, ⟨3, _⟩ => ⟨S2x704x1024, .f32⟩
  | .hbm, ⟨4, _⟩ => ⟨S_, .f32⟩
  | .hbm, ⟨5, _⟩ => ⟨S2x704x1024, .f32⟩
  | .hbm, ⟨6, _⟩ => ⟨S2x704x1024, .f32⟩
  | .hbm, ⟨7, _⟩ => ⟨S_, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S_, .f32⟩
  | .hbm, ⟨12, _⟩ => ⟨S2x704x1024, .f32⟩
  | .hbm, ⟨13, _⟩ => ⟨S2x704x1024, .f32⟩
  | .hbm, ⟨14, _⟩ => ⟨S2x704x1024, .f32⟩
  | .hbm, ⟨15, _⟩ => ⟨S_, .f32⟩
  | .hbm, ⟨16, _⟩ => ⟨S2x704x1024, .f32⟩
  | .hbm, ⟨17, _⟩ => ⟨S2x704x1024, .f32⟩
  | .hbm, ⟨18, _⟩ => ⟨S2x704x1024, .f32⟩
  | .hbm, ⟨19, _⟩ => ⟨S_, .f32⟩
  | .hbm, ⟨20, _⟩ => ⟨S2x704x1024, .f32⟩
  | .hbm, ⟨21, _⟩ => ⟨S2x704x1024, .f32⟩
  | .hbm, ⟨22, _⟩ => ⟨S_, .f32⟩
  | .hbm, ⟨23, _⟩ => ⟨S2x704x1024, .f32⟩
  | .hbm, ⟨24, _⟩ => ⟨S2x704x1024, .f32⟩
  | .hbm, ⟨25, _⟩ => ⟨S2x704x1024, .f32⟩
  | .hbm, ⟨26, _⟩ => ⟨S_, .f32⟩
  | .hbm, ⟨27, _⟩ => ⟨S2x704x1024, .f32⟩
  | .hbm, ⟨28, _⟩ => ⟨S2x704x1024, .f32⟩
  | .hbm, ⟨29, _⟩ => ⟨S2x704x1024, .f32⟩
  | .hbm, ⟨30, _⟩ => ⟨S_, .f32⟩
  | .hbm, ⟨31, _⟩ => ⟨S2x704x1024, .f32⟩
  | .hbm, ⟨32, _⟩ => ⟨S2x704x1024, .f32⟩
  | .hbm, ⟨33, _⟩ => ⟨S2x704x1024, .f32⟩
  | .hbm, ⟨34, _⟩ => ⟨S_, .f32⟩
  | .hbm, ⟨35, _⟩ => ⟨S2x704x1024, .f32⟩
  | .hbm, ⟨36, _⟩ => ⟨S2x704x1024, .f32⟩
  | _, _ => ⟨S2x704x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSmall.lean ====
abbrev S1x16x1024 : Shape := ⟨3, ![1, 16, 1024]⟩

abbrev nBuf : Space → Nat
  | .hbm => 7
  | .vmem => 7
  | .smem => 0
  | _ => 0

abbrev bufTy : (tb : Table) → Fin (tcTables nBuf tb) → BufTy
  | .hbm, ⟨0, _⟩ => ⟨S1x16x1024, .f32⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S1x16x1024, .f32⟩
  | .hbm, ⟨5, _⟩ => ⟨S1x16x1024, .f32⟩
  | .hbm, ⟨6, _⟩ => ⟨S1x16x1024, .f32⟩
  | .local _ .vmem, ⟨0, _⟩ => ⟨S1x16x1024, .f32⟩
  | .local _ .vmem, ⟨1, _⟩ => ⟨S1x16x1024, .f32⟩
  | .local _ .vmem, ⟨2, _⟩ => ⟨S1x16x1024, .f32⟩
  | .local _ .vmem, ⟨3, _⟩ => ⟨S1x16x1024, .f32⟩
  | .local _ .vmem, ⟨4, _⟩ => ⟨S1x16x1024, .f32⟩
  | .local _ .vmem, ⟨5, _⟩ => ⟨S1x16x1024, .f32⟩
  | .local _ .vmem, ⟨6, _⟩ => ⟨S1x16x1024, .f32⟩
  | _, _ => ⟨S1x16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x16x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x16x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x16x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S1x16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S1x16x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== AdamSmallRefIdeal.lean ====
abbrev S1x16x1024 : Shape := ⟨3, ![1, 16, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x16x1024, .f32⟩
  | .hbm, ⟨1, _⟩ => ⟨S1x16x1024, .f32⟩
  | .hbm, ⟨2, _⟩ => ⟨S1x16x1024, .f32⟩
  | .hbm, ⟨3, _⟩ => ⟨S1x16x1024, .f32⟩
  | .hbm, ⟨4, _⟩ => ⟨S_, .f32⟩
  | .hbm, ⟨5, _⟩ => ⟨S1x16x1024, .f32⟩
  | .hbm, ⟨6, _⟩ => ⟨S1x16x1024, .f32⟩
  | .hbm, ⟨7, _⟩ => ⟨S_, .f32⟩
  | .hbm, ⟨8, _⟩ => ⟨S1x16x1024, .f32⟩
  | .hbm, ⟨9, _⟩ => ⟨S1x16x1024, .f32⟩
  | .hbm, ⟨10, _⟩ => ⟨S1x16x1024, .f32⟩
  | .hbm, ⟨11, _⟩ => ⟨S_, .f32⟩
  | .hbm, ⟨12, _⟩ => ⟨S1x16x1024, .f32⟩
  | .hbm, ⟨13, _⟩ => ⟨S1x16x1024, .f32⟩
  | .hbm, ⟨14, _⟩ => ⟨S1x16x1024, .f32⟩
  | .hbm, ⟨15, _⟩ => ⟨S_, .f32⟩
  | .hbm, ⟨16, _⟩ => ⟨S1x16x1024, .f32⟩
  | .hbm, ⟨17, _⟩ => ⟨S1x16x1024, .f32⟩
  | .hbm, ⟨18, _⟩ => ⟨S1x16x1024, .f32⟩
  | .hbm, ⟨19, _⟩ => ⟨S_, .f32⟩
  | .hbm, ⟨20, _⟩ => ⟨S1x16x1024, .f32⟩
  | .hbm, ⟨21, _⟩ => ⟨S1x16x1024, .f32⟩
  | .hbm, ⟨22, _⟩ => ⟨S_, .f32⟩
  | .hbm, ⟨23, _⟩ => ⟨S1x16x1024, .f32⟩
  | .hbm, ⟨24, _⟩ => ⟨S1x16x1024, .f32⟩
  | .hbm, ⟨25, _⟩ => ⟨S1x16x1024, .f32⟩
  | .hbm, ⟨26, _⟩ => ⟨S_, .f32⟩
  | .hbm, ⟨27, _⟩ => ⟨S1x16x1024, .f32⟩
  | .hbm, ⟨28, _⟩ => ⟨S1x16x1024, .f32⟩
  | .hbm, ⟨29, _⟩ => ⟨S1x16x1024, .f32⟩
  | .hbm, ⟨30, _⟩ => ⟨S_, .f32⟩
  | .hbm, ⟨31, _⟩ => ⟨S1x16x1024, .f32⟩
  | .hbm, ⟨32, _⟩ => ⟨S1x16x1024, .f32⟩
  | .hbm, ⟨33, _⟩ => ⟨S1x16x1024, .f32⟩
  | .hbm, ⟨34, _⟩ => ⟨S_, .f32⟩
  | .hbm, ⟨35, _⟩ => ⟨S1x16x1024, .f32⟩
  | .hbm, ⟨36, _⟩ => ⟨S1x16x1024, .f32⟩
  | _, _ => ⟨S1x16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.ChipClaims.lean ====
/-
The claims about the sum of the four chips' gradients of one shard. The grid walks over the columns in blocks of 128; a
block of the result is the sum of the four chips' blocks of these columns, added from the first to the last.
-/
module

public import proofs.«01_k».proof.Defs
public import proofs.«01_k».proof.Proof.Gen.Chip.Frame
public import proofs.«01_k».proof.Proof.Gen.ChipIdeal.Frame
public import proofs.«01_k».proof.Proof.Gen.ChipIdeal.Value
public import proofs.«01_k».proof.Proof.Gen.ChipRefIdeal.Run
public import Idealize.ShloMosaic.Lib.Pointwise.Reduce
public import Idealize.ShloMosaic.Lib.IdealHost
public import Idealize.ShloMosaic.Lib.Quiescent

@[expose] public section

set_option Elab.async false

noncomputable section

namespace Cert.ChipProof

open Cert.ChipIdeal Cert.ChipIdeal.Gen Cert.ChipIdeal.Value
open Idealize.ShloMosaic Idealize.ShloMosaic.TcCoe Idealize.SL.Sem

variable {F : FTy → Type} [FloatOps F]
variable (m : (ℓ : Loc nD τ sig) → Buf (Elt F) ℓ) (ρ : Dev nD → PrngReg)

/-- Element `i` of chip `k`'s gradients. -/
def chipAt (q : S4x3137x1024.Idx → Elt F .bf16) (k : Fin 4) (i : S3137x1024.Idx) : F .f32 :=
  FloatOps.extf .f32 bitsLt_bf16_f32 (q (ix3 k (i 0) (i 1)))

/-- The four chips' gradients added in the order of the chips. -/
def total (q : S4x3137x1024.Idx → Elt F .bf16) : S3137x1024.Idx → Elt F .f32 := fun i =>
  FloatOps.addf (FloatOps.addf (FloatOps.addf (chipAt q 0 i) (chipAt q 1 i)) (chipAt q 2 i)) (chipAt q 3 i)

/-- Every point reads all chips and all rows of its own columns. -/
theorem idx_facts : ∀ t : Fin cfg0.N, win0_0.index t (0 : Fin 3) = 0 ∧ win0_0.index t (1 : Fin 3) = 0
    ∧ win0_0.index t (2 : Fin 3) = t.val ∧ win0_1.index t (0 : Fin 2) = 0 ∧ win0_1.index t (1 : Fin 2) = t.val :=
  (by decide +kernel : ∀ t : Fin grid0.N, _)

/-- What a point writes back is its block of the total. -/
theorem flushed_eq (c : Dev nD) (t : Fin cfg0.N) :
    (dats m 0 c).flushed 1 t = ((cfg0.win 1).blk t).view.read (Elt F) (total (V m c main_arg0)) := by
  rw [flushed1]
  obtain ⟨e0, e1, e2, e3, e4⟩ := idx_facts t
  funext j
  refine (canon1_eq _ _ _ _ j).trans ?_
  have key : ∀ k : Fin 4, ((cfg0.win 0).blk t).view.emb (ix3 k (j 0) (j 1) : S4x3137x128.Idx)
      = (ix3 k (((cfg0.win 1).blk t).view.emb j 0) (((cfg0.win 1).blk t).view.emb j 1) : S4x3137x1024.Idx) := fun k => by
    funext a; apply Fin.ext
    match a with
    | ⟨0, _⟩ => show win0_0.index t (0 : Fin 3) * 4 + 1 * k.val = k.val; omega
    | ⟨1, _⟩ => show win0_0.index t (1 : Fin 3) * 3137 + 1 * (j 0).val = win0_1.index t (0 : Fin 2) * 3137 + 1 * (j 0).val; omega
    | ⟨2, _⟩ => show win0_0.index t (2 : Fin 3) * 128 + 1 * (j 1).val = win0_1.index t (1 : Fin 2) * 128 + 1 * (j 1).val; omega
  have piece : ∀ (k : Fin 4) (z : S4x3137x128.Idx), (z 0).val = k.val → (z 1).val = (j 0).val → (z 2).val = (j 1).val →
      V m c main_arg0 (((cfg0.win 0).blk t).view.emb z)
        = V m c main_arg0 (ix3 k (((cfg0.win 1).blk t).view.emb j 0) (((cfg0.win 1).blk t).view.emb j 1) : S4x3137x1024.Idx) := by
    intro k z h0 h1 h2
    rw [show z = (ix3 k (j 0) (j 1) : S4x3137x128.Idx) from funext fun a => Fin.ext (by
      match a with
      | ⟨0, _⟩ => exact h0
      | ⟨1, _⟩ => exact h1
      | ⟨2, _⟩ => exact h2), key k]
  have p0 := piece 0 (r0_0.idx (ix1_0 j)) (by show 0 + 1 * 0 = 0; rfl) (by show 0 + 1 * (j 0).val = _; omega) (by show 0 + 1 * (j 1).val = _; omega)
  have p1 := piece 1 (r0_1.idx (ix1_1 j)) (by show 1 + 1 * 0 = 1; rfl) (by show 0 + 1 * (j 0).val = _; omega) (by show 0 + 1 * (j 1).val = _; omega)
  have p2 := piece 2 (r0_2.idx (ix1_2 j)) (by show 2 + 1 * 0 = 2; rfl) (by show 0 + 1 * (j 0).val = _; omega) (by show 0 + 1 * (j 1).val = _; omega)
  have p3 := piece 3 (r0_3.idx (ix1_3 j)) (by show 3 + 1 * 0 = 3; rfl) (by show 0 + 1 * (j 0).val = _; omega) (by show 0 + 1 * (j 1).val = _; omega)
  show FloatOps.addf (FloatOps.addf (FloatOps.addf (FloatOps.extf .f32 bitsLt_bf16_f32 (V m c main_arg0 (((cfg0.win 0).blk t).view.emb (r0_0.idx (ix1_0 j)))))
      (FloatOps.extf .f32 bitsLt_bf16_f32 (V m c main_arg0 (((cfg0.win 0).blk t).view.emb (r0_1.idx (ix1_1 j))))))
      (FloatOps.extf .f32 bitsLt_bf16_f32 (V m c main_arg0 (((cfg0.win 0).blk t).view.emb (r0_2.idx (ix1_2 j))))))
      (FloatOps.extf .f32 bitsLt_bf16_f32 (V m c main_arg0 (((cfg0.win 0).blk t).view.emb (r0_3.idx (ix1_3 j)))))
    = total (V m c main_arg0) (((cfg0.win 1).blk t).view.emb j)
  rw [p0, p1, p2, p3]
  rfl

/-- The columns of the points cover the result. -/
theorem covered (i : S3137x1024.Idx) : ∃ t : Fin cfg0.N, (cfg0.win 1).flush t = true ∧ i ∈ ((cfg0.win 1).blk t).view.set := by
  have h0 : (i 0).val < 3137 := (i 0).isLt
  have h1 : (i 1).val < 1024 := (i 1).isLt
  let t : Fin cfg0.N := ⟨(i 1).val / 128, by show (i 1).val / 128 < 8; omega⟩
  obtain ⟨e0, e1, e2, e3, e4⟩ := idx_facts t
  have et : t.val = (i 1).val / 128 := rfl
  refine ⟨t, flush0_1 t, ?_⟩
  show i ∈ ((View.whole main_v0).slice (win0_1.rect t)).set
  rw [View.set_slice_whole, Rect.mem_set_unit]
  intro a
  match a with
  | ⟨0, _⟩ => show win0_1.index t (0 : Fin 2) * 3137 ≤ (i 0).val ∧ (i 0).val < win0_1.index t (0 : Fin 2) * 3137 + 3137; omega
  | ⟨1, _⟩ => show win0_1.index t (1 : Fin 2) * 128 ≤ (i 1).val ∧ (i 1).val < win0_1.index t (1 : Fin 2) * 128 + 128; omega

/-- The call leaves the total in its result, and its argument unchanged. -/
theorem run : θ_run defs (onTc (τ := τ) (main (F := F))) ⟨m, fun _ => 0, ρ⟩ fun r => ∀ c : Dev nD,
    r.2.mem ((c : Thread nD τ).loc main_v0) = total (m ((c : Thread nD τ).loc main_arg0))
      ∧ r.2.mem ((c : Thread nD τ).loc main_arg0) = m ((c : Thread nD τ).loc main_arg0) :=
  (θ_run defs _ _).mono (fun r h c => ⟨(h c).1.trans (((dats m 0 c).arrAt_eq_of_cover 1 _ (fun t _ => flushed_eq m c t) covered).trans
    (congrArg total (V_main_arg0 m c))), (h c).2⟩) (run_blocks m ρ)

/-- Over the extended reals the host's sum over the chips is the total. -/
theorem sum_eq (q : S4x3137x1024.Idx → Elt Ideal .bf16) :
    Host.reduceAdd (F := Ideal) (extf .f32 q bitsLt_bf16_f32) (constant Cert.ChipRefIdeal.S_ .f32 0x00000000#32)
      Cert.ChipRefIdeal.Gen.reducesTo_S4x3137x1024_S3137x1024_d0 Cert.ChipRefIdeal.Gen.h_S_ = total (F := Ideal) q := by
  funext i
  rw [ValueIdx.hostReduceAdd_apply, Ideal.hostReduceAdd_r3_a0, Fin.sum_univ_four]
  have z : (constant (F := Ideal) Cert.ChipRefIdeal.S_ .f32 0x00000000#32 (Shape.Idx.first Cert.ChipRefIdeal.Gen.h_S_) : EReal) = 0 :=
    Ideal.ofBits_zero_f32
  refine (congrArg (· + _) z).trans ((zero_add _).trans ?_)
  rfl

theorem frame : Cert.quiescent_Chip := fun m g _ => Cert.Chip.Gen.frame m g

theorem frame_ideal : Cert.quiescent_ChipIdeal := fun m g _ => Cert.ChipIdeal.Gen.frame m g

theorem frame_ref_ideal : Cert.quiescent_ChipRefIdeal := fun m g _ =>
  (θ_run (Cert.ChipRefIdeal.defs (F := Ideal)) _ _).mono (fun r h => ⟨fun c => (h c).2, sem_eq_zero_of_no_sems rfl r.2⟩)
    (Cert.ChipRefIdeal.Value.run (F := Ideal) m g)

/-- Over the extended reals the call computes the reference's sum. -/
theorem value_ideal : Cert.algebraic_ChipIdeal_ChipRefIdeal := fun m g m' g' _ hx =>
  ⟨_, run (F := Ideal) m g,
    (θ_run (Cert.ChipRefIdeal.defs (F := Ideal)) _ _).mono
      (fun r h c => ⟨(h c).1.trans ((sum_eq _).trans (congrArg total (hx c))), (h c).2⟩) (Cert.ChipRefIdeal.Value.run (F := Ideal) m' g')⟩

end Cert.ChipProof

end
-- ==== Proof.AdamClaims.lean ====
/-
The claims about the optimizer's calls. Each call's grid walks over the blocks of one weight; the blocks cover the arrays,
and each element of the three results is the AdamW step of the four elements at its place. The reference takes the same step
of whole arrays, so over the extended reals the two are equal element by element.
-/
module

public import proofs.«01_k».proof.Defs
public import proofs.«01_k».proof.Proof.Gen.AdamIn.Frame
public import proofs.«01_k».proof.Proof.Gen.AdamInIdeal.Frame
public import proofs.«01_k».proof.Proof.Gen.AdamInIdeal.Value
public import proofs.«01_k».proof.Proof.Gen.AdamInRefIdeal.Run
public import proofs.«01_k».proof.Proof.Gen.AdamOut.Frame
public import proofs.«01_k».proof.Proof.Gen.AdamOutIdeal.Frame
public import proofs.«01_k».proof.Proof.Gen.AdamOutIdeal.Value
public import proofs.«01_k».proof.Proof.Gen.AdamOutRefIdeal.Run
public import proofs.«01_k».proof.Proof.Gen.AdamGate.Frame
public import proofs.«01_k».proof.Proof.Gen.AdamGateIdeal.Frame
public import proofs.«01_k».proof.Proof.Gen.AdamGateIdeal.Value
public import proofs.«01_k».proof.Proof.Gen.AdamGateRefIdeal.Run
public import proofs.«01_k».proof.Proof.Gen.AdamUp.Frame
public import proofs.«01_k».proof.Proof.Gen.AdamUpIdeal.Frame
public import proofs.«01_k».proof.Proof.Gen.AdamUpIdeal.Value
public import proofs.«01_k».proof.Proof.Gen.AdamUpRefIdeal.Run
public import proofs.«01_k».proof.Proof.Gen.AdamDown.Frame
public import proofs.«01_k».proof.Proof.Gen.AdamDownIdeal.Frame
public import proofs.«01_k».proof.Proof.Gen.AdamDownIdeal.Value
public import proofs.«01_k».proof.Proof.Gen.AdamDownRefIdeal.Run
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import Idealize.ShloMosaic.Lib.Quiescent

@[expose] public section

set_option Elab.async false

noncomputable section

namespace Cert.AdamProof

open Idealize.ShloMosaic Idealize.ShloMosaic.TcCoe Idealize.SL.Sem

variable {F : FTy → Type} [FloatOps F] {s : Shape}

/-- The new first moment of each element. -/
def newM (g mo : s.Idx → Elt F .f32) : s.Idx → Elt F .f32 := fun i =>
  FloatOps.addf (FloatOps.mulf (Scalar.ofBits .f32 0x3F666666#32) (mo i)) (FloatOps.mulf (Scalar.ofBits .f32 0x3DCCCCCD#32) (g i))

/-- The new second moment of each element. -/
def newV (g vo : s.Idx → Elt F .f32) : s.Idx → Elt F .f32 := fun i =>
  FloatOps.addf (FloatOps.mulf (Scalar.ofBits .f32 0x3F7FBE77#32) (vo i))
    (FloatOps.mulf (Scalar.ofBits .f32 0x3A83126F#32) (FloatOps.mulf (g i) (g i)))

/-- The change of each element: its corrected first moment over the root of its corrected second one, and the decay. -/
def delta (w g mo vo : s.Idx → Elt F .f32) : s.Idx → Elt F .f32 := fun i =>
  FloatOps.mulf (Scalar.ofBits .f32 0xBA83126F#32)
    (FloatOps.addf
      (FloatOps.divf (FloatOps.divf (newM g mo i) (Scalar.ofBits .f32 0x3F26BD02#32))
        (FloatOps.addf (FloatOps.sqrt (FloatOps.divf (newV g vo i) (Scalar.ofBits .f32 0x3C231ACC#32)))
          (Scalar.ofBits .f32 0x322BCC77#32)))
      (FloatOps.mulf (Scalar.ofBits .f32 0x3C23D70A#32) (w i)))

variable {w g mo vo w' g' mo' vo' : s.Idx → Elt F .f32}

/-- The three results of a step at equal arguments. -/
theorem step_eq (e : w' = w ∧ g' = g ∧ mo' = mo ∧ vo' = vo) :
    delta w' g' mo' vo' = delta w g mo vo ∧ newM g' mo' = newM g mo ∧ newV g' vo' = newV g vo := by
  obtain ⟨rfl, rfl, rfl, rfl⟩ := e
  exact ⟨rfl, rfl, rfl⟩

/-! ## The first input projection's shard -/

theorem frame_in : Cert.quiescent_AdamIn := fun m g _ => Cert.AdamIn.Gen.frame m g

theorem frame_ideal_in : Cert.quiescent_AdamInIdeal := fun m g _ => Cert.AdamInIdeal.Gen.frame m g

theorem frame_ref_in : Cert.quiescent_AdamInRefIdeal := fun m g _ =>
  (θ_run (Cert.AdamInRefIdeal.defs (F := Ideal)) _ _).mono (fun r h => ⟨fun c => (h c).2.2.2, sem_eq_zero_of_no_sems rfl r.2⟩)
    (Cert.AdamInRefIdeal.Value.run (F := Ideal) m g)

theorem value_in : Cert.algebraic_AdamInIdeal_AdamInRefIdeal := fun m g m' g' _ hx =>
  ⟨_, _, _, Cert.AdamInIdeal.Value.run (F := Ideal) m g,
    (θ_run (Cert.AdamInRefIdeal.defs (F := Ideal)) _ _).mono (fun r h c =>
      ⟨(h c).1.trans (step_eq (F := Ideal) (hx c)).1, (h c).2.1.trans (step_eq (F := Ideal) (hx c)).2.1, (h c).2.2.1.trans (step_eq (F := Ideal) (hx c)).2.2, (h c).2.2.2⟩)
      (Cert.AdamInRefIdeal.Value.run (F := Ideal) m' g')⟩

/-! ## The output projection's shard -/

theorem frame_out : Cert.quiescent_AdamOut := fun m g _ => Cert.AdamOut.Gen.frame m g

theorem frame_ideal_out : Cert.quiescent_AdamOutIdeal := fun m g _ => Cert.AdamOutIdeal.Gen.frame m g

theorem frame_ref_out : Cert.quiescent_AdamOutRefIdeal := fun m g _ =>
  (θ_run (Cert.AdamOutRefIdeal.defs (F := Ideal)) _ _).mono (fun r h => ⟨fun c => (h c).2.2.2, sem_eq_zero_of_no_sems rfl r.2⟩)
    (Cert.AdamOutRefIdeal.Value.run (F := Ideal) m g)

theorem value_out : Cert.algebraic_AdamOutIdeal_AdamOutRefIdeal := fun m g m' g' _ hx =>
  ⟨_, _, _, Cert.AdamOutIdeal.Value.run (F := Ideal) m g,
    (θ_run (Cert.AdamOutRefIdeal.defs (F := Ideal)) _ _).mono (fun r h c =>
      ⟨(h c).1.trans (step_eq (F := Ideal) (hx c)).1, (h c).2.1.trans (step_eq (F := Ideal) (hx c)).2.1, (h c).2.2.1.trans (step_eq (F := Ideal) (hx c)).2.2, (h c).2.2.2⟩)
      (Cert.AdamOutRefIdeal.Value.run (F := Ideal) m' g')⟩

/-! ## The gate matrix's shard -/

theorem frame_gate : Cert.quiescent_AdamGate := fun m g _ => Cert.AdamGate.Gen.frame m g

theorem frame_ideal_gate : Cert.quiescent_AdamGateIdeal := fun m g _ => Cert.AdamGateIdeal.Gen.frame m g

theorem frame_ref_gate : Cert.quiescent_AdamGateRefIdeal := fun m g _ =>
  (θ_run (Cert.AdamGateRefIdeal.defs (F := Ideal)) _ _).mono (fun r h => ⟨fun c => (h c).2.2.2, sem_eq_zero_of_no_sems rfl r.2⟩)
    (Cert.AdamGateRefIdeal.Value.run (F := Ideal) m g)

theorem value_gate : Cert.algebraic_AdamGateIdeal_AdamGateRefIdeal := fun m g m' g' _ hx =>
  ⟨_, _, _, Cert.AdamGateIdeal.Value.run (F := Ideal) m g,
    (θ_run (Cert.AdamGateRefIdeal.defs (F := Ideal)) _ _).mono (fun r h c =>
      ⟨(h c).1.trans (step_eq (F := Ideal) (hx c)).1, (h c).2.1.trans (step_eq (F := Ideal) (hx c)).2.1, (h c).2.2.1.trans (step_eq (F := Ideal) (hx c)).2.2, (h c).2.2.2⟩)
      (Cert.AdamGateRefIdeal.Value.run (F := Ideal) m' g')⟩

/-! ## The up matrix's shard -/

theorem frame_up : Cert.quiescent_AdamUp := fun m g _ => Cert.AdamUp.Gen.frame m g

theorem frame_ideal_up : Cert.quiescent_AdamUpIdeal := fun m g _ => Cert.AdamUpIdeal.Gen.frame m g

theorem frame_ref_up : Cert.quiescent_AdamUpRefIdeal := fun m g _ =>
  (θ_run (Cert.AdamUpRefIdeal.defs (F := Ideal)) _ _).mono (fun r h => ⟨fun c => (h c).2.2.2, sem_eq_zero_of_no_sems rfl r.2⟩)
    (Cert.AdamUpRefIdeal.Value.run (F := Ideal) m g)

theorem value_up : Cert.algebraic_AdamUpIdeal_AdamUpRefIdeal := fun m g m' g' _ hx =>
  ⟨_, _, _, Cert.AdamUpIdeal.Value.run (F := Ideal) m g,
    (θ_run (Cert.AdamUpRefIdeal.defs (F := Ideal)) _ _).mono (fun r h c =>
      ⟨(h c).1.trans (step_eq (F := Ideal) (hx c)).1, (h c).2.1.trans (step_eq (F := Ideal) (hx c)).2.1, (h c).2.2.1.trans (step_eq (F := Ideal) (hx c)).2.2, (h c).2.2.2⟩)
      (Cert.AdamUpRefIdeal.Value.run (F := Ideal) m' g')⟩

/-! ## The down matrix's shard -/

theorem frame_down : Cert.quiescent_AdamDown := fun m g _ => Cert.AdamDown.Gen.frame m g

theorem frame_ideal_down : Cert.quiescent_AdamDownIdeal := fun m g _ => Cert.AdamDownIdeal.Gen.frame m g

theorem frame_ref_down : Cert.quiescent_AdamDownRefIdeal := fun m g _ =>
  (θ_run (Cert.AdamDownRefIdeal.defs (F := Ideal)) _ _).mono (fun r h => ⟨fun c => (h c).2.2.2, sem_eq_zero_of_no_sems rfl r.2⟩)
    (Cert.AdamDownRefIdeal.Value.run (F := Ideal) m g)

theorem value_down : Cert.algebraic_AdamDownIdeal_AdamDownRefIdeal := fun m g m' g' _ hx =>
  ⟨_, _, _, Cert.AdamDownIdeal.Value.run (F := Ideal) m g,
    (θ_run (Cert.AdamDownRefIdeal.defs (F := Ideal)) _ _).mono (fun r h c =>
      ⟨(h c).1.trans (step_eq (F := Ideal) (hx c)).1, (h c).2.1.trans (step_eq (F := Ideal) (hx c)).2.1, (h c).2.2.1.trans (step_eq (F := Ideal) (hx c)).2.2, (h c).2.2.2⟩)
      (Cert.AdamDownRefIdeal.Value.run (F := Ideal) m' g')⟩

/-! ## The small weights, packed in one array of rows -/

theorem frame_small : Cert.quiescent_AdamSmall := fun m g _ => Cert.AdamSmall.Gen.frame m g

theorem frame_ideal_small : Cert.quiescent_AdamSmallIdeal := fun m g _ => Cert.AdamSmallIdeal.Gen.frame m g

theorem frame_ref_small : Cert.quiescent_AdamSmallRefIdeal := fun m g _ =>
  (θ_run (Cert.AdamSmallRefIdeal.defs (F := Ideal)) _ _).mono (fun r h => ⟨fun c => (h c).2.2.2, sem_eq_zero_of_no_sems rfl r.2⟩)
    (Cert.AdamSmallRefIdeal.Value.run (F := Ideal) m g)

theorem value_small : Cert.algebraic_AdamSmallIdeal_AdamSmallRefIdeal := fun m g m' g' _ hx =>
  ⟨_, _, _, Cert.AdamSmallIdeal.Value.run (F := Ideal) m g,
    (θ_run (Cert.AdamSmallRefIdeal.defs (F := Ideal)) _ _).mono (fun r h c =>
      ⟨(h c).1.trans (step_eq (F := Ideal) (hx c)).1, (h c).2.1.trans (step_eq (F := Ideal) (hx c)).2.1, (h c).2.2.1.trans (step_eq (F := Ideal) (hx c)).2.2, (h c).2.2.2⟩)
      (Cert.AdamSmallRefIdeal.Value.run (F := Ideal) m' g')⟩

end Cert.AdamProof

end
-- ==== Proof.ProjDxClaims.lean ====
/-
The claims about the gradient of the input: the gradient of the projected rows times the transposed weights, plus a
multiple of the gradient that reached the rows directly. The grid takes 512 rows at a time and walks over the 3200
contracted columns in five blocks of 640, adding the partial products in a scratch block.
-/
module

public import proofs.«01_k».proof.Defs
public import proofs.«01_k».proof.Proof.Gen.ProjDx.Frame
public import proofs.«01_k».proof.Proof.Gen.ProjDxIdeal.Frame
public import proofs.«01_k».proof.Proof.Gen.ProjDxIdeal.Value
public import proofs.«01_k».proof.Proof.Gen.ProjDxRefIdeal.Run
public import Idealize.ShloMosaic.Lib.Pipeline.ValueKit.Point
public import Idealize.ShloMosaic.Lib.Quiescent

@[expose] public section

set_option Elab.async false

noncomputable section

namespace Cert.ProjDxProof

open Cert.ProjDxIdeal Cert.ProjDxIdeal.Gen Cert.ProjDxIdeal.Value
open Idealize.ShloMosaic Idealize.ShloMosaic.TcCoe Idealize.SL.Sem

variable (m : (ℓ : Loc nD τ sig) → Buf (Elt Ideal) ℓ) (ρ : Dev nD → PrngReg)

/-- After the last of the five points the scratch holds the five partial products. -/
theorem scratch (c : Dev nD) (t : Fin cfg0.N) (hr : t.val % 5 = 5 - 1) (i : S512x1024.Idx) :
    (outsAt0 m c t.val t.isLt).2 i = (0 : EReal) + ∑ s : Fin 5,
      (k0_pay2 (iblk m c 0 ⟨5 * (t.val / 5) + s.val, Pipeline.run_point_lt_of_flush t hr s⟩)
        (iblk m c 1 ⟨5 * (t.val / 5) + s.val, Pipeline.run_point_lt_of_flush t hr s⟩) i : EReal) := by
  refine Pipeline.eq_sum_fin_of_reset_step_apply_of_flush (M := EReal) (fun n h => (outsAt0 m c n h).2) 5 (fun _ => (0 : EReal)) (fun t i => k0_pay2 (iblk m c 0 t) (iblk m c 1 t) i) ?_ ?_ t hr i
  · intro t h i
    have e := outsAt0_A m c t h (by omega) (by omega)
    show (outsAt0 m c t.val t.isLt).2 i = _
    rw [e]; frame_out
    exact (zero_add _).symm
  · intro t h i
    show (outsAt0 m c t.val t.isLt).2 i = (outsAt0 m c (t.val - 1) _).2 i + _
    by_cases h2 : t.val % 5 = 4
    · rw [outsAt0_C m c t h (by omega) h2]; frame_out
      pointwise [k0_pay3, k0_pay2]
      exact congrArg (· + _) (congrFun (Memref.IsWhole.read_unread _ _) i)
    · rw [outsAt0_B m c t h (by omega) h2]; frame_out
      pointwise [k0_pay3, k0_pay2]
      exact congrArg (· + _) (congrFun (Memref.IsWhole.read_unread _ _) i)

/-- What the last of the five points writes back. -/
theorem out_eq (c : Dev nD) (t : Fin cfg0.N) (h : t.val % 5 = 4) (i : S512x1024.Idx) :
    (outsAt0 m c t.val t.isLt).1 i = k0_pay4 (outsAt0 m c t.val t.isLt).2 (iblk m c 2 t) i := by
  rw [outsAt0_C m c t (by omega) (by omega) h]; frame_out

/-- The reference's term of the arguments. -/
def want {F : FTy → Type} [FloatOps F] (a : S4096x3200.Idx → Elt F .bf16) (b : S1024x3200.Idx → Elt F .bf16) (d : S4096x1024.Idx → Elt F .f32) :
    S4096x1024.Idx → Elt F .f32 :=
  addf (Host.dotGeneral Cert.ProjDxRefIdeal.dot_S4096x3200_S3200x1024_S4096x1024_1_0_0_1_n_n none (extf .f32 a Cert.ProjDxRefIdeal.Gen.bitsLt_bf16_f32)
      (transpose Cert.ProjDxRefIdeal.S3200x1024 [1, 0] (extf .f32 b Cert.ProjDxRefIdeal.Gen.bitsLt_bf16_f32) Cert.ProjDxRefIdeal.Gen.transposes_S1024x3200_S3200x1024_1_0))
    (mulf (broadcastInDim S4096x1024 ![] Cert.ProjDxRefIdeal.Gen.bcast_S_S4096x1024 (constant Cert.ProjDxRefIdeal.S_ .f32 0x3FB504F3#32)) d)

/-- The blocks of a point: rows by the point's quotient, contracted columns by its remainder. -/
theorem idx : ∀ t : Fin cfg0.N, win0_0.index t (0 : Fin 2) = t.val / 5 ∧ win0_0.index t (1 : Fin 2) = t.val % 5
    ∧ win0_1.index t (0 : Fin 2) = 0 ∧ win0_1.index t (1 : Fin 2) = t.val % 5
    ∧ win0_2.index t (0 : Fin 2) = t.val / 5 ∧ win0_2.index t (1 : Fin 2) = 0 :=
  (by decide +kernel : ∀ t : Fin grid0.N, _)

/-- The array after the run is the reference's term. -/
theorem final (c : Dev nD) : G3 m c = want (F := Ideal) (m ((c : Thread nD τ).loc main_arg0)) (m ((c : Thread nD τ).loc main_arg1)) (m ((c : Thread nD τ).loc main_arg2)) := by
  funext i
  have h0 : (i 0).val < 4096 := (i 0).isLt
  have h1 : (i 1).val < 1024 := (i 1).isLt
  have hp : pt3Of i < cfg0.N := by show 5 * (1 * ((i 0).val / 512 - 0) + 1 * ((i 1).val / 1024 - 0)) + 4 < 40; omega
  have hr : pt3Of i % 5 = 4 := by show (5 * run3Of i + 4) % 5 = 4; omega
  have hq : pt3Of i / 5 = (i 0).val / 512 := by show (5 * (1 * ((i 0).val / 512 - 0) + 1 * ((i 1).val / 1024 - 0)) + 4) / 5 = _; omega
  unfold G3
  rw [dif_pos hp, ← outsAt0_sweep m c _ hp, out_eq m c ⟨_, hp⟩ hr]
  pointwise [k0_pay4, want]
  rw [scratch m c ⟨_, hp⟩ hr]
  pointwise [k0_pay2, k0_pay1]
  congr 1
  · refine Fin.sum_mul_add_congr fun s k hl => ?_
    blk_point [iblk, V, idx ⟨_, Pipeline.run_point_lt_of_flush ⟨_, hp⟩ hr s⟩]
  · blk_point [iblk, V, idx ⟨_, hp⟩, hq]

/-- The call leaves the reference's term in its result, and its arguments unchanged. -/
theorem run : θ_run defs (onTc (τ := τ) (main (F := Ideal))) ⟨m, fun _ => 0, ρ⟩ fun r => ∀ c : Dev nD,
    r.2.mem ((c : Thread nD τ).loc main_v0)
        = want (F := Ideal) (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run m ρ)

theorem frame : Cert.quiescent_ProjDx := fun m g _ => Cert.ProjDx.Gen.frame m g

theorem frame_ideal : Cert.quiescent_ProjDxIdeal := fun m g _ => Cert.ProjDxIdeal.Gen.frame m g

theorem frame_ref_ideal : Cert.quiescent_ProjDxRefIdeal := fun m g _ =>
  (θ_run (Cert.ProjDxRefIdeal.defs (F := Ideal)) _ _).mono (fun r h => ⟨fun c => (h c).2, sem_eq_zero_of_no_sems rfl r.2⟩)
    (Cert.ProjDxRefIdeal.Value.run (F := Ideal) m g)

/-- Over the extended reals the call computes the reference's product and sum. -/
theorem value_ideal : Cert.algebraic_ProjDxIdeal_ProjDxRefIdeal := fun m g m' g' _ hx =>
  ⟨_, run m g,
    (θ_run (Cert.ProjDxRefIdeal.defs (F := Ideal)) _ _).mono
      (fun r h c => ⟨(h c).1.trans (by rw [(hx c).1, (hx c).2.1, (hx c).2.2]; rfl), (h c).2⟩) (Cert.ProjDxRefIdeal.Value.run (F := Ideal) m' g')⟩

end Cert.ProjDxProof

end
-- ==== Proof.ProductClaims.lean ====
/-
The claims about the products of the forward and backward pass whose contracted axis is taken in one piece: the grid
walks over the blocks of the result, and a block is the product of the rows and the columns it lies in.
-/
module

public import proofs.«01_k».proof.Defs
public import proofs.«01_k».proof.Proof.Gen.Proj.Frame
public import proofs.«01_k».proof.Proof.Gen.ProjIdeal.Frame
public import proofs.«01_k».proof.Proof.Gen.ProjIdeal.Value
public import proofs.«01_k».proof.Proof.Gen.ProjRefIdeal.Run
public import proofs.«01_k».proof.Proof.Gen.OutProj.Frame
public import proofs.«01_k».proof.Proof.Gen.OutProjIdeal.Frame
public import proofs.«01_k».proof.Proof.Gen.OutProjIdeal.Value
public import proofs.«01_k».proof.Proof.Gen.OutProjRefIdeal.Run
public import proofs.«01_k».proof.Proof.Gen.FfnIn.Frame
public import proofs.«01_k».proof.Proof.Gen.FfnInIdeal.Frame
public import proofs.«01_k».proof.Proof.Gen.FfnInIdeal.Value
public import proofs.«01_k».proof.Proof.Gen.FfnInRefIdeal.Run
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutDx.Frame
public import proofs.«01_k».proof.Proof.Gen.FfnOutDxIdeal.Frame
public import proofs.«01_k».proof.Proof.Gen.FfnOutDxIdeal.Value
public import proofs.«01_k».proof.Proof.Gen.FfnOutDxRefIdeal.Run
public import proofs.«01_k».proof.Proof.Gen.OutProjDx.Frame
public import proofs.«01_k».proof.Proof.Gen.OutProjDxIdeal.Frame
public import proofs.«01_k».proof.Proof.Gen.OutProjDxIdeal.Value
public import proofs.«01_k».proof.Proof.Gen.OutProjDxRefIdeal.Run
public import Idealize.ShloMosaic.Lib.Pipeline.ValueKit.Point
public import Idealize.ShloMosaic.Lib.Quiescent

@[expose] public section

set_option Elab.async false

noncomputable section

open Idealize.ShloMosaic Idealize.ShloMosaic.TcCoe Idealize.SL.Sem

namespace Cert.ProjProof

open Cert.ProjIdeal Cert.ProjIdeal.Gen Cert.ProjIdeal.Value

/-- The reference's term of the arguments. -/
def want {F : FTy → Type} [FloatOps F] (a : S4096x1024.Idx → Elt F .f32) (b : S1024x3200.Idx → Elt F .bf16) : S4096x3200.Idx → Elt F .f32 :=
  Host.dotGeneral Cert.ProjRefIdeal.dot_S4096x1024_S1024x3200_S4096x3200_1_0_0_1_n_n none a (extf .f32 b Cert.ProjRefIdeal.Gen.bitsLt_bf16_f32)

/-- The blocks of a point. -/
theorem idx : ∀ t : Fin cfg0.N, win0_0.index t (0 : Fin 2) = t.val / 5 ∧ win0_0.index t (1 : Fin 2) = 0
    ∧ win0_1.index t (0 : Fin 2) = 0 ∧ win0_1.index t (1 : Fin 2) = t.val % 5
    ∧ win0_2.index t (0 : Fin 2) = t.val / 5 ∧ win0_2.index t (1 : Fin 2) = t.val % 5 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, want]
  blk_point [iblk, V, idx t]

theorem frame : Cert.quiescent_Proj := fun m g _ => Cert.Proj.Gen.frame m g

theorem frame_ideal : Cert.quiescent_ProjIdeal := fun m g _ => Cert.ProjIdeal.Gen.frame m g

theorem frame_ref_ideal : Cert.quiescent_ProjRefIdeal := fun m g _ =>
  (θ_run (Cert.ProjRefIdeal.defs (F := Ideal)) _ _).mono (fun r h => ⟨fun c => (h c).2, sem_eq_zero_of_no_sems rfl r.2⟩)
    (Cert.ProjRefIdeal.Value.run (F := Ideal) m g)

/-- Over the extended reals the call computes the reference's product. -/
theorem value_ideal : Cert.algebraic_ProjIdeal_ProjRefIdeal := fun m g m' g' _ hx =>
  ⟨_, (θ_run defs _ _).mono (fun r h c => ⟨(h c).1.trans (final m c), (h c).2⟩) (run_blocks m g),
    (θ_run (Cert.ProjRefIdeal.defs (F := Ideal)) _ _).mono
      (fun r h c => ⟨(h c).1.trans (by rw [(hx c).1, (hx c).2]; rfl), (h c).2⟩) (Cert.ProjRefIdeal.Value.run (F := Ideal) m' g')⟩

end Cert.ProjProof

namespace Cert.OutProjProof

open Cert.OutProjIdeal Cert.OutProjIdeal.Gen Cert.OutProjIdeal.Value

/-- The reference's term of the arguments. -/
def want {F : FTy → Type} [FloatOps F] (a : S4096x1024.Idx → Elt F .bf16) (b : S1024x1024.Idx → Elt F .bf16) : S4096x1024.Idx → Elt F .f32 :=
  Host.dotGeneral Cert.OutProjRefIdeal.dot_S4096x1024_S1024x1024_S4096x1024_1_0_0_1_n_n none (extf .f32 a Cert.OutProjRefIdeal.Gen.bitsLt_bf16_f32)
    (extf .f32 b Cert.OutProjRefIdeal.Gen.bitsLt_bf16_f32)

/-- The blocks of a point. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, want]
  blk_point [iblk, V, idx t]

theorem frame : Cert.quiescent_OutProj := fun m g _ => Cert.OutProj.Gen.frame m g

theorem frame_ideal : Cert.quiescent_OutProjIdeal := fun m g _ => Cert.OutProjIdeal.Gen.frame m g

theorem frame_ref_ideal : Cert.quiescent_OutProjRefIdeal := fun m g _ =>
  (θ_run (Cert.OutProjRefIdeal.defs (F := Ideal)) _ _).mono (fun r h => ⟨fun c => (h c).2, sem_eq_zero_of_no_sems rfl r.2⟩)
    (Cert.OutProjRefIdeal.Value.run (F := Ideal) m g)

/-- Over the extended reals the call computes the reference's product. -/
theorem value_ideal : Cert.algebraic_OutProjIdeal_OutProjRefIdeal := fun m g m' g' _ hx =>
  ⟨_, (θ_run defs _ _).mono (fun r h c => ⟨(h c).1.trans (final m c), (h c).2⟩) (run_blocks m g),
    (θ_run (Cert.OutProjRefIdeal.defs (F := Ideal)) _ _).mono
      (fun r h c => ⟨(h c).1.trans (by rw [(hx c).1, (hx c).2]; rfl), (h c).2⟩) (Cert.OutProjRefIdeal.Value.run (F := Ideal) m' g')⟩

end Cert.OutProjProof

namespace Cert.FfnInProof

open Cert.FfnInIdeal Cert.FfnInIdeal.Gen Cert.FfnInIdeal.Value

/-- The reference's term of the arguments. -/
def want {F : FTy → Type} [FloatOps F] (a : S4096x1024.Idx → Elt F .f32) (b : S1024x5632.Idx → Elt F .bf16) : S4096x5632.Idx → Elt F .f32 :=
  Host.dotGeneral Cert.FfnInRefIdeal.dot_S4096x1024_S1024x5632_S4096x5632_1_0_0_1_n_n none a (extf .f32 b Cert.FfnInRefIdeal.Gen.bitsLt_bf16_f32)

/-- The blocks of a point. -/
theorem idx : ∀ t : Fin cfg0.N, win0_0.index t (0 : Fin 2) = t.val / 11 ∧ win0_0.index t (1 : Fin 2) = 0
    ∧ win0_1.index t (0 : Fin 2) = 0 ∧ win0_1.index t (1 : Fin 2) = t.val % 11
    ∧ win0_2.index t (0 : Fin 2) = t.val / 11 ∧ win0_2.index t (1 : Fin 2) = t.val % 11 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, want]
  blk_point [iblk, V, idx t]

theorem frame : Cert.quiescent_FfnIn := fun m g _ => Cert.FfnIn.Gen.frame m g

theorem frame_ideal : Cert.quiescent_FfnInIdeal := fun m g _ => Cert.FfnInIdeal.Gen.frame m g

theorem frame_ref_ideal : Cert.quiescent_FfnInRefIdeal := fun m g _ =>
  (θ_run (Cert.FfnInRefIdeal.defs (F := Ideal)) _ _).mono (fun r h => ⟨fun c => (h c).2, sem_eq_zero_of_no_sems rfl r.2⟩)
    (Cert.FfnInRefIdeal.Value.run (F := Ideal) m g)

/-- Over the extended reals the call computes the reference's product. -/
theorem value_ideal : Cert.algebraic_FfnInIdeal_FfnInRefIdeal := fun m g m' g' _ hx =>
  ⟨_, (θ_run defs _ _).mono (fun r h c => ⟨(h c).1.trans (final m c), (h c).2⟩) (run_blocks m g),
    (θ_run (Cert.FfnInRefIdeal.defs (F := Ideal)) _ _).mono
      (fun r h c => ⟨(h c).1.trans (by rw [(hx c).1, (hx c).2]; rfl), (h c).2⟩) (Cert.FfnInRefIdeal.Value.run (F := Ideal) m' g')⟩

end Cert.FfnInProof

namespace Cert.FfnOutProof

open Cert.FfnOutIdeal Cert.FfnOutIdeal.Gen Cert.FfnOutIdeal.Value

/-- The reference's term of the arguments. -/
def want {F : FTy → Type} [FloatOps F] (a : S4096x2816.Idx → Elt F .bf16) (b : S2816x1024.Idx → Elt F .bf16) : S4096x1024.Idx → Elt F .f32 :=
  Host.dotGeneral Cert.FfnOutRefIdeal.dot_S4096x2816_S2816x1024_S4096x1024_1_0_0_1_n_n none (extf .f32 a Cert.FfnOutRefIdeal.Gen.bitsLt_bf16_f32)
    (extf .f32 b Cert.FfnOutRefIdeal.Gen.bitsLt_bf16_f32)

/-- The blocks of a point. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, want]
  blk_point [iblk, V, idx t]

theorem frame : Cert.quiescent_FfnOut := fun m g _ => Cert.FfnOut.Gen.frame m g

theorem frame_ideal : Cert.quiescent_FfnOutIdeal := fun m g _ => Cert.FfnOutIdeal.Gen.frame m g

theorem frame_ref_ideal : Cert.quiescent_FfnOutRefIdeal := fun m g _ =>
  (θ_run (Cert.FfnOutRefIdeal.defs (F := Ideal)) _ _).mono (fun r h => ⟨fun c => (h c).2, sem_eq_zero_of_no_sems rfl r.2⟩)
    (Cert.FfnOutRefIdeal.Value.run (F := Ideal) m g)

/-- Over the extended reals the call computes the reference's product. -/
theorem value_ideal : Cert.algebraic_FfnOutIdeal_FfnOutRefIdeal := fun m g m' g' _ hx =>
  ⟨_, (θ_run defs _ _).mono (fun r h c => ⟨(h c).1.trans (final m c), (h c).2⟩) (run_blocks m g),
    (θ_run (Cert.FfnOutRefIdeal.defs (F := Ideal)) _ _).mono
      (fun r h c => ⟨(h c).1.trans (by rw [(hx c).1, (hx c).2]; rfl), (h c).2⟩) (Cert.FfnOutRefIdeal.Value.run (F := Ideal) m' g')⟩

end Cert.FfnOutProof

/-! ## Against the transposed weights -/

namespace Cert.FfnOutDxProof

open Cert.FfnOutDxIdeal Cert.FfnOutDxIdeal.Gen Cert.FfnOutDxIdeal.Value

/-- The reference's term of the arguments. -/
def want {F : FTy → Type} [FloatOps F] (a : S4096x1024.Idx → Elt F .bf16) (b : S2816x1024.Idx → Elt F .bf16) : S4096x2816.Idx → Elt F .f32 :=
  Host.dotGeneral Cert.FfnOutDxRefIdeal.dot_S4096x1024_S1024x2816_S4096x2816_1_0_0_1_n_n none (extf .f32 a Cert.FfnOutDxRefIdeal.Gen.bitsLt_bf16_f32)
    (transpose Cert.FfnOutDxRefIdeal.S1024x2816 [1, 0] (extf .f32 b Cert.FfnOutDxRefIdeal.Gen.bitsLt_bf16_f32) Cert.FfnOutDxRefIdeal.Gen.transposes_S2816x1024_S1024x2816_1_0)

/-- The blocks of a point. -/
theorem idx : ∀ t : Fin cfg0.N, win0_0.index t (0 : Fin 2) = t.val / 2 ∧ win0_0.index t (1 : Fin 2) = 0
    ∧ win0_1.index t (0 : Fin 2) = t.val % 2 ∧ win0_1.index t (1 : Fin 2) = 0
    ∧ win0_2.index t (0 : Fin 2) = t.val / 2 ∧ win0_2.index t (1 : Fin 2) = t.val % 2 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, want]
  blk_point [iblk, V, idx t]

theorem frame : Cert.quiescent_FfnOutDx := fun m g _ => Cert.FfnOutDx.Gen.frame m g

theorem frame_ideal : Cert.quiescent_FfnOutDxIdeal := fun m g _ => Cert.FfnOutDxIdeal.Gen.frame m g

theorem frame_ref_ideal : Cert.quiescent_FfnOutDxRefIdeal := fun m g _ =>
  (θ_run (Cert.FfnOutDxRefIdeal.defs (F := Ideal)) _ _).mono (fun r h => ⟨fun c => (h c).2, sem_eq_zero_of_no_sems rfl r.2⟩)
    (Cert.FfnOutDxRefIdeal.Value.run (F := Ideal) m g)

/-- Over the extended reals the call computes the reference's product. -/
theorem value_ideal : Cert.algebraic_FfnOutDxIdeal_FfnOutDxRefIdeal := fun m g m' g' _ hx =>
  ⟨_, (θ_run defs _ _).mono (fun r h c => ⟨(h c).1.trans (final m c), (h c).2⟩) (run_blocks m g),
    (θ_run (Cert.FfnOutDxRefIdeal.defs (F := Ideal)) _ _).mono
      (fun r h c => ⟨(h c).1.trans (by rw [(hx c).1, (hx c).2]; rfl), (h c).2⟩) (Cert.FfnOutDxRefIdeal.Value.run (F := Ideal) m' g')⟩

end Cert.FfnOutDxProof

namespace Cert.OutProjDxProof

open Cert.OutProjDxIdeal Cert.OutProjDxIdeal.Gen Cert.OutProjDxIdeal.Value

/-- The reference's term of the arguments. -/
def want {F : FTy → Type} [FloatOps F] (a : S4096x1024.Idx → Elt F .bf16) (b : S1024x1024.Idx → Elt F .bf16) : S4096x1024.Idx → Elt F .f32 :=
  Host.dotGeneral Cert.OutProjDxRefIdeal.dot_S4096x1024_S1024x1024_S4096x1024_1_0_0_1_n_n none (extf .f32 a Cert.OutProjDxRefIdeal.Gen.bitsLt_bf16_f32)
    (transpose Cert.OutProjDxRefIdeal.S1024x1024 [1, 0] (extf .f32 b Cert.OutProjDxRefIdeal.Gen.bitsLt_bf16_f32) Cert.OutProjDxRefIdeal.Gen.transposes_S1024x1024_S1024x1024_1_0)

/-- The blocks of a point. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]; frame_out
  pointwise [k0_pay1, want]
  blk_point [iblk, V, idx t]

theorem frame : Cert.quiescent_OutProjDx := fun m g _ => Cert.OutProjDx.Gen.frame m g

theorem frame_ideal : Cert.quiescent_OutProjDxIdeal := fun m g _ => Cert.OutProjDxIdeal.Gen.frame m g

theorem frame_ref_ideal : Cert.quiescent_OutProjDxRefIdeal := fun m g _ =>
  (θ_run (Cert.OutProjDxRefIdeal.defs (F := Ideal)) _ _).mono (fun r h => ⟨fun c => (h c).2, sem_eq_zero_of_no_sems rfl r.2⟩)
    (Cert.OutProjDxRefIdeal.Value.run (F := Ideal) m g)

/-- Over the extended reals the call computes the reference's product. -/
theorem value_ideal : Cert.algebraic_OutProjDxIdeal_OutProjDxRefIdeal := fun m g m' g' _ hx =>
  ⟨_, (θ_run defs _ _).mono (fun r h c => ⟨(h c).1.trans (final m c), (h c).2⟩) (run_blocks m g),
    (θ_run (Cert.OutProjDxRefIdeal.defs (F := Ideal)) _ _).mono
      (fun r h c => ⟨(h c).1.trans (by rw [(hx c).1, (hx c).2]; rfl), (h c).2⟩) (Cert.OutProjDxRefIdeal.Value.run (F := Ideal) m' g')⟩

end Cert.OutProjDxProof

end
-- ==== Proof.WeightClaims.lean ====
/-
The claims about the products whose contracted axis is taken in four pieces: the gradients of the weights, and the
gradient of the feed-forward block's input. Four points in a row take the same block of the result; they add their partial
products in a scratch block, and the last one writes the block.
-/
module

public import proofs.«01_k».proof.Defs
public import proofs.«01_k».proof.Proof.Gen.FfnOutDw.Frame
public import proofs.«01_k».proof.Proof.Gen.FfnOutDwIdeal.Frame
public import proofs.«01_k».proof.Proof.Gen.FfnOutDwIdeal.Value
public import proofs.«01_k».proof.Proof.Gen.FfnOutDwRefIdeal.Run
public import proofs.«01_k».proof.Proof.Gen.FfnInDw.Frame
public import proofs.«01_k».proof.Proof.Gen.FfnInDwIdeal.Frame
public import proofs.«01_k».proof.Proof.Gen.FfnInDwIdeal.Value
public import proofs.«01_k».proof.Proof.Gen.FfnInDwRefIdeal.Run
public import proofs.«01_k».proof.Proof.Gen.OutProjDw.Frame
public import proofs.«01_k».proof.Proof.Gen.OutProjDwIdeal.Frame
public import proofs.«01_k».proof.Proof.Gen.OutProjDwIdeal.Value
public import proofs.«01_k».proof.Proof.Gen.OutProjDwRefIdeal.Run
public import proofs.«01_k».proof.Proof.Gen.ProjDw.Frame
public import proofs.«01_k».proof.Proof.Gen.ProjDwIdeal.Frame
public import proofs.«01_k».proof.Proof.Gen.ProjDwIdeal.Value
public import proofs.«01_k».proof.Proof.Gen.ProjDwRefIdeal.Run
public import proofs.«01_k».proof.Proof.Gen.FfnInDx.Frame
public import proofs.«01_k».proof.Proof.Gen.FfnInDxIdeal.Frame
public import proofs.«01_k».proof.Proof.Gen.FfnInDxIdeal.Value
public import proofs.«01_k».proof.Proof.Gen.FfnInDxRefIdeal.Run
public import Idealize.ShloMosaic.Lib.Pipeline.ValueKit.Point
public import Idealize.ShloMosaic.Lib.Quiescent

@[expose] public section

set_option Elab.async false

noncomputable section

open Idealize.ShloMosaic Idealize.ShloMosaic.TcCoe Idealize.SL.Sem

/-- What is set at the first of four points and added into at the other three is the sum of the four. -/
theorem Cert.sum_of_four {N : ℕ} {ι : Type} (f : (n : ℕ) → n < N → ι → EReal) (term : Fin N → ι → EReal) (t : Fin N) (hr : t.val % 4 = 4 - 1)
    (first : ∀ (t : Fin N), t.val % 4 = 0 → ∀ i, f t.val t.isLt i = term t i)
    (next : ∀ (t : Fin N), ¬t.val % 4 = 0 → ∀ i, f t.val t.isLt i = f (t.val - 1) (Nat.lt_of_le_of_lt (Nat.sub_le _ _) t.isLt) i + term t i)
    (i : ι) : f t.val t.isLt i = ∑ s : Fin 4, term ⟨4 * (t.val / 4) + s.val, Pipeline.run_point_lt_of_flush t hr s⟩ i :=
  (Pipeline.eq_sum_fin_of_reset_step_apply_of_flush f 4 (fun _ => 0) term (fun t h i => (first t h i).trans (zero_add _).symm) next t hr i).trans (zero_add _)

/-! ## The gradient of the down projection's weights -/

namespace Cert.FfnOutDwProof

open Cert.FfnOutDwIdeal Cert.FfnOutDwIdeal.Gen Cert.FfnOutDwIdeal.Value

variable (m : (ℓ : Loc nD τ sig) → Buf (Elt Ideal) ℓ)

/-- After the last of four points the scratch holds the four partial products. -/
theorem scratch (c : Dev nD) (t : Fin cfg0.N) (hr : t.val % 4 = 4 - 1) (i : S704x1024.Idx) :
    (outsAt0 m c t.val t.isLt).2 i = ∑ s : Fin 4,
      (k0_pay2 (iblk m c 0 ⟨4 * (t.val / 4) + s.val, Pipeline.run_point_lt_of_flush t hr s⟩)
        (iblk m c 1 ⟨4 * (t.val / 4) + s.val, Pipeline.run_point_lt_of_flush t hr s⟩) i : EReal) := by
  refine sum_of_four (fun n h => (outsAt0 m c n h).2) (fun t => k0_pay2 (iblk m c 0 t) (iblk m c 1 t)) t hr (fun t h i => ?_) (fun t h i => ?_) i
  · rw [outsAt0_A m c t h (by omega) (by omega)]; frame_out
  · by_cases h2 : t.val % 4 = 3 <;> [rw [outsAt0_C m c t h (by omega) h2]; rw [outsAt0_B m c t h (by omega) h2]] <;> frame_out <;>
      (pointwise [k0_pay3, k0_pay2]; exact congrArg (· + _) (congrFun (Memref.IsWhole.read_unread _ _) i))

/-- The last of four points writes back what the scratch then holds. -/
theorem out_eq (c : Dev nD) (t : Fin cfg0.N) (h : t.val % 4 = 3) (i : S704x1024.Idx) :
    (outsAt0 m c t.val t.isLt).1 i = (outsAt0 m c t.val t.isLt).2 i := by
  rw [outsAt0_C m c t (by omega) (by omega) h]; frame_out

/-- The reference's term of the arguments. -/
def want {F : FTy → Type} [FloatOps F] (a : S2816x4096.Idx → Elt F .bf16) (b : S4096x1024.Idx → Elt F .bf16) : S2816x1024.Idx → Elt F .f32 :=
  Host.dotGeneral Cert.FfnOutDwRefIdeal.dot_S2816x4096_S4096x1024_S2816x1024_1_0_0_1_n_n none (extf .f32 a Cert.FfnOutDwRefIdeal.Gen.bitsLt_bf16_f32)
    (extf .f32 b Cert.FfnOutDwRefIdeal.Gen.bitsLt_bf16_f32)

/-- The blocks of a point. -/
theorem idx : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Only the last of four points writes its block back. -/
theorem last : ∀ t : Fin cfg0.N, (cfg0.win 2).flush t = true → t.val % 4 = 3 :=
  (by decide +kernel : ∀ t : Fin grid0.N, (cfg0.win 2).flush t = true → t.val % 4 = 3)

/-- The array after the run is the reference's term. -/
theorem final (c : Dev nD) : (dats m 0 c).arrAt 2 cfg0.N
    = want (F := Ideal) (m ((c : Thread nD τ).loc main_arg0)) (m ((c : Thread nD τ).loc main_arg1)) := by
  refine (dats m 0 c).arrAt_eq_of_covers 2 _ (by decide +kernel) fun t hf y => ?_
  have hr := last t hf
  blk_simp
  rw [after0_2, out_eq m c t hr, scratch m c t hr]
  pointwise [k0_pay2, k0_pay1, want]
  refine Fin.sum_mul_add_congr fun s k hl => ?_
  blk_point [iblk, V, idx t, idx ⟨_, Pipeline.run_point_lt_of_flush t hr s⟩]

theorem frame : Cert.quiescent_FfnOutDw := fun m g _ => Cert.FfnOutDw.Gen.frame m g

theorem frame_ideal : Cert.quiescent_FfnOutDwIdeal := fun m g _ => Cert.FfnOutDwIdeal.Gen.frame m g

theorem frame_ref_ideal : Cert.quiescent_FfnOutDwRefIdeal := fun m g _ =>
  (θ_run (Cert.FfnOutDwRefIdeal.defs (F := Ideal)) _ _).mono (fun r h => ⟨fun c => (h c).2, sem_eq_zero_of_no_sems rfl r.2⟩)
    (Cert.FfnOutDwRefIdeal.Value.run (F := Ideal) m g)

/-- Over the extended reals the call computes the reference's product. -/
theorem value_ideal : Cert.algebraic_FfnOutDwIdeal_FfnOutDwRefIdeal := fun m g m' g' _ hx =>
  ⟨_, (θ_run defs _ _).mono (fun r h c => ⟨(h c).1.trans (final m c), (h c).2⟩) (run_blocks m g),
    (θ_run (Cert.FfnOutDwRefIdeal.defs (F := Ideal)) _ _).mono
      (fun r h c => ⟨(h c).1.trans (by rw [(hx c).1, (hx c).2]; rfl), (h c).2⟩) (Cert.FfnOutDwRefIdeal.Value.run (F := Ideal) m' g')⟩

end Cert.FfnOutDwProof

/-! ## The gradient of the gate's and up projection's weights -/

namespace Cert.FfnInDwProof

open Cert.FfnInDwIdeal Cert.FfnInDwIdeal.Gen Cert.FfnInDwIdeal.Value

variable (m : (ℓ : Loc nD τ sig) → Buf (Elt Ideal) ℓ)

/-- After the last of four points the scratch holds the four partial products. -/
theorem scratch (c : Dev nD) (t : Fin cfg0.N) (hr : t.val % 4 = 4 - 1) (i : S512x512.Idx) :
    (outsAt0 m c t.val t.isLt).2 i = ∑ s : Fin 4,
      (k0_pay2 (iblk m c 0 ⟨4 * (t.val / 4) + s.val, Pipeline.run_point_lt_of_flush t hr s⟩)
        (iblk m c 1 ⟨4 * (t.val / 4) + s.val, Pipeline.run_point_lt_of_flush t hr s⟩) i : EReal) := by
  refine sum_of_four (fun n h => (outsAt0 m c n h).2) (fun t => k0_pay2 (iblk m c 0 t) (iblk m c 1 t)) t hr (fun t h i => ?_) (fun t h i => ?_) i
  · rw [outsAt0_A m c t h (by omega) (by omega)]; frame_out
  · by_cases h2 : t.val % 4 = 3 <;> [rw [outsAt0_C m c t h (by omega) h2]; rw [outsAt0_B m c t h (by omega) h2]] <;> frame_out <;>
      (pointwise [k0_pay3, k0_pay2]; exact congrArg (· + _) (congrFun (Memref.IsWhole.read_unread _ _) i))

/-- The last of four points writes back what the scratch then holds. -/
theorem out_eq (c : Dev nD) (t : Fin cfg0.N) (h : t.val % 4 = 3) (i : S512x512.Idx) :
    (outsAt0 m c t.val t.isLt).1 i = (outsAt0 m c t.val t.isLt).2 i := by
  rw [outsAt0_C m c t (by omega) (by omega) h]; frame_out

/-- The reference's term of the arguments. -/
def want {F : FTy → Type} [FloatOps F] (a : S1024x4096.Idx → Elt F .bf16) (b : S4096x5632.Idx → Elt F .bf16) : S1024x5632.Idx → Elt F .f32 :=
  Host.dotGeneral Cert.FfnInDwRefIdeal.dot_S1024x4096_S4096x5632_S1024x5632_1_0_0_1_n_n none (extf .f32 a Cert.FfnInDwRefIdeal.Gen.bitsLt_bf16_f32)
    (extf .f32 b Cert.FfnInDwRefIdeal.Gen.bitsLt_bf16_f32)

/-- The blocks of a point. -/
theorem idx : ∀ t : Fin cfg0.N, win0_0.index t (0 : Fin 2) = t.val / 44 ∧ win0_0.index t (1 : Fin 2) = t.val % 4
    ∧ win0_1.index t (0 : Fin 2) = t.val % 4 ∧ win0_1.index t (1 : Fin 2) = t.val / 4 % 11
    ∧ win0_2.index t (0 : Fin 2) = t.val / 44 ∧ win0_2.index t (1 : Fin 2) = t.val / 4 % 11 :=
  (by decide +kernel : ∀ t : Fin grid0.N, _)

/-- Only the last of four points writes its block back. -/
theorem last : ∀ t : Fin cfg0.N, (cfg0.win 2).flush t = true → t.val % 4 = 3 :=
  (by decide +kernel : ∀ t : Fin grid0.N, (cfg0.win 2).flush t = true → t.val % 4 = 3)

/-- The array after the run is the reference's term. -/
theorem final (c : Dev nD) : (dats m 0 c).arrAt 2 cfg0.N
    = want (F := Ideal) (m ((c : Thread nD τ).loc main_arg0)) (m ((c : Thread nD τ).loc main_arg1)) := by
  refine (dats m 0 c).arrAt_eq_of_covers 2 _ (by decide +kernel) fun t hf y => ?_
  have hr := last t hf
  blk_simp
  rw [after0_2, out_eq m c t hr, scratch m c t hr]
  pointwise [k0_pay2, k0_pay1, want]
  refine Fin.sum_mul_add_congr fun s k hl => ?_
  blk_point [iblk, V, idx t, idx ⟨_, Pipeline.run_point_lt_of_flush t hr s⟩]

theorem frame : Cert.quiescent_FfnInDw := fun m g _ => Cert.FfnInDw.Gen.frame m g

theorem frame_ideal : Cert.quiescent_FfnInDwIdeal := fun m g _ => Cert.FfnInDwIdeal.Gen.frame m g

theorem frame_ref_ideal : Cert.quiescent_FfnInDwRefIdeal := fun m g _ =>
  (θ_run (Cert.FfnInDwRefIdeal.defs (F := Ideal)) _ _).mono (fun r h => ⟨fun c => (h c).2, sem_eq_zero_of_no_sems rfl r.2⟩)
    (Cert.FfnInDwRefIdeal.Value.run (F := Ideal) m g)

/-- Over the extended reals the call computes the reference's product. -/
theorem value_ideal : Cert.algebraic_FfnInDwIdeal_FfnInDwRefIdeal := fun m g m' g' _ hx =>
  ⟨_, (θ_run defs _ _).mono (fun r h c => ⟨(h c).1.trans (final m c), (h c).2⟩) (run_blocks m g),
    (θ_run (Cert.FfnInDwRefIdeal.defs (F := Ideal)) _ _).mono
      (fun r h c => ⟨(h c).1.trans (by rw [(hx c).1, (hx c).2]; rfl), (h c).2⟩) (Cert.FfnInDwRefIdeal.Value.run (F := Ideal) m' g')⟩

end Cert.FfnInDwProof

/-! ## The gradient of the output projection's weights -/

namespace Cert.OutProjDwProof

open Cert.OutProjDwIdeal Cert.OutProjDwIdeal.Gen Cert.OutProjDwIdeal.Value

variable (m : (ℓ : Loc nD τ sig) → Buf (Elt Ideal) ℓ)

/-- After the last of four points the scratch holds the four partial products. -/
theorem scratch (c : Dev nD) (t : Fin cfg0.N) (hr : t.val % 4 = 4 - 1) (i : S512x1024.Idx) :
    (outsAt0 m c t.val t.isLt).2 i = ∑ s : Fin 4,
      (k0_pay2 (iblk m c 0 ⟨4 * (t.val / 4) + s.val, Pipeline.run_point_lt_of_flush t hr s⟩)
        (iblk m c 1 ⟨4 * (t.val / 4) + s.val, Pipeline.run_point_lt_of_flush t hr s⟩) i : EReal) := by
  refine sum_of_four (fun n h => (outsAt0 m c n h).2) (fun t => k0_pay2 (iblk m c 0 t) (iblk m c 1 t)) t hr (fun t h i => ?_) (fun t h i => ?_) i
  · rw [outsAt0_A m c t h (by omega) (by omega)]; frame_out
  · by_cases h2 : t.val % 4 = 3 <;> [rw [outsAt0_C m c t h (by omega) h2]; rw [outsAt0_B m c t h (by omega) h2]] <;> frame_out <;>
      (pointwise [k0_pay3, k0_pay2]; exact congrArg (· + _) (congrFun (Memref.IsWhole.read_unread _ _) i))

/-- The last of four points writes back what the scratch then holds. -/
theorem out_eq (c : Dev nD) (t : Fin cfg0.N) (h : t.val % 4 = 3) (i : S512x1024.Idx) :
    (outsAt0 m c t.val t.isLt).1 i = (outsAt0 m c t.val t.isLt).2 i := by
  rw [outsAt0_C m c t (by omega) (by omega) h]; frame_out

/-- The reference's term of the arguments. -/
def want {F : FTy → Type} [FloatOps F] (a : S1024x4096.Idx → Elt F .bf16) (b : S4096x1024.Idx → Elt F .bf16) : S1024x1024.Idx → Elt F .f32 :=
  Host.dotGeneral Cert.OutProjDwRefIdeal.dot_S1024x4096_S4096x1024_S1024x1024_1_0_0_1_n_n none (extf .f32 a Cert.OutProjDwRefIdeal.Gen.bitsLt_bf16_f32)
    (extf .f32 b Cert.OutProjDwRefIdeal.Gen.bitsLt_bf16_f32)

/-- The blocks of a point. -/
theorem idx : ∀ t : Fin cfg0.N, win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = t.val / 4 ∧ win0_2.index t (1 : Fin 2) = 0 :=
  (by decide +kernel : ∀ t : Fin grid0.N, _)

/-- Only the last of four points writes its block back. -/
theorem last : ∀ t : Fin cfg0.N, (cfg0.win 2).flush t = true → t.val % 4 = 3 :=
  (by decide +kernel : ∀ t : Fin grid0.N, (cfg0.win 2).flush t = true → t.val % 4 = 3)

/-- The array after the run is the reference's term. -/
theorem final (c : Dev nD) : (dats m 0 c).arrAt 2 cfg0.N
    = want (F := Ideal) (m ((c : Thread nD τ).loc main_arg0)) (m ((c : Thread nD τ).loc main_arg1)) := by
  refine (dats m 0 c).arrAt_eq_of_covers 2 _ (by decide +kernel) fun t hf y => ?_
  have hr := last t hf
  blk_simp
  rw [after0_2, out_eq m c t hr, scratch m c t hr]
  pointwise [k0_pay2, k0_pay1, want]
  refine Fin.sum_mul_add_congr fun s k hl => ?_
  blk_point [iblk, V, idx t, idx ⟨_, Pipeline.run_point_lt_of_flush t hr s⟩]

theorem frame : Cert.quiescent_OutProjDw := fun m g _ => Cert.OutProjDw.Gen.frame m g

theorem frame_ideal : Cert.quiescent_OutProjDwIdeal := fun m g _ => Cert.OutProjDwIdeal.Gen.frame m g

theorem frame_ref_ideal : Cert.quiescent_OutProjDwRefIdeal := fun m g _ =>
  (θ_run (Cert.OutProjDwRefIdeal.defs (F := Ideal)) _ _).mono (fun r h => ⟨fun c => (h c).2, sem_eq_zero_of_no_sems rfl r.2⟩)
    (Cert.OutProjDwRefIdeal.Value.run (F := Ideal) m g)

/-- Over the extended reals the call computes the reference's product. -/
theorem value_ideal : Cert.algebraic_OutProjDwIdeal_OutProjDwRefIdeal := fun m g m' g' _ hx =>
  ⟨_, (θ_run defs _ _).mono (fun r h c => ⟨(h c).1.trans (final m c), (h c).2⟩) (run_blocks m g),
    (θ_run (Cert.OutProjDwRefIdeal.defs (F := Ideal)) _ _).mono
      (fun r h c => ⟨(h c).1.trans (by rw [(hx c).1, (hx c).2]; rfl), (h c).2⟩) (Cert.OutProjDwRefIdeal.Value.run (F := Ideal) m' g')⟩

end Cert.OutProjDwProof

/-! ## The gradient of the input projection's weights -/

namespace Cert.ProjDwProof

open Cert.ProjDwIdeal Cert.ProjDwIdeal.Gen Cert.ProjDwIdeal.Value

variable (m : (ℓ : Loc nD τ sig) → Buf (Elt Ideal) ℓ)

/-- After the last of four points the scratch holds the four partial products. -/
theorem scratch (c : Dev nD) (t : Fin cfg0.N) (hr : t.val % 4 = 4 - 1) (i : S512x640.Idx) :
    (outsAt0 m c t.val t.isLt).2 i = ∑ s : Fin 4,
      (k0_pay2 (iblk m c 0 ⟨4 * (t.val / 4) + s.val, Pipeline.run_point_lt_of_flush t hr s⟩)
        (iblk m c 1 ⟨4 * (t.val / 4) + s.val, Pipeline.run_point_lt_of_flush t hr s⟩) i : EReal) := by
  refine sum_of_four (fun n h => (outsAt0 m c n h).2) (fun t => k0_pay2 (iblk m c 0 t) (iblk m c 1 t)) t hr (fun t h i => ?_) (fun t h i => ?_) i
  · rw [outsAt0_A m c t h (by omega) (by omega)]; frame_out
  · by_cases h2 : t.val % 4 = 3 <;> [rw [outsAt0_C m c t h (by omega) h2]; rw [outsAt0_B m c t h (by omega) h2]] <;> frame_out <;>
      (pointwise [k0_pay3, k0_pay2]; exact congrArg (· + _) (congrFun (Memref.IsWhole.read_unread _ _) i))

/-- The last of four points writes back what the scratch then holds. -/
theorem out_eq (c : Dev nD) (t : Fin cfg0.N) (h : t.val % 4 = 3) (i : S512x640.Idx) :
    (outsAt0 m c t.val t.isLt).1 i = (outsAt0 m c t.val t.isLt).2 i := by
  rw [outsAt0_C m c t (by omega) (by omega) h]; frame_out

/-- The reference's term of the arguments. -/
def want {F : FTy → Type} [FloatOps F] (a : S1024x4096.Idx → Elt F .bf16) (b : S4096x3200.Idx → Elt F .bf16) : S1024x3200.Idx → Elt F .f32 :=
  Host.dotGeneral Cert.ProjDwRefIdeal.dot_S1024x4096_S4096x3200_S1024x3200_1_0_0_1_n_n none (extf .f32 a Cert.ProjDwRefIdeal.Gen.bitsLt_bf16_f32)
    (extf .f32 b Cert.ProjDwRefIdeal.Gen.bitsLt_bf16_f32)

/-- The blocks of a point. -/
theorem idx : ∀ t : Fin cfg0.N, win0_0.index t (0 : Fin 2) = t.val / 20 ∧ win0_0.index t (1 : Fin 2) = t.val % 4
    ∧ win0_1.index t (0 : Fin 2) = t.val % 4 ∧ win0_1.index t (1 : Fin 2) = t.val / 4 % 5
    ∧ win0_2.index t (0 : Fin 2) = t.val / 20 ∧ win0_2.index t (1 : Fin 2) = t.val / 4 % 5 :=
  (by decide +kernel : ∀ t : Fin grid0.N, _)

/-- Only the last of four points writes its block back. -/
theorem last : ∀ t : Fin cfg0.N, (cfg0.win 2).flush t = true → t.val % 4 = 3 :=
  (by decide +kernel : ∀ t : Fin grid0.N, (cfg0.win 2).flush t = true → t.val % 4 = 3)

/-- The array after the run is the reference's term. -/
theorem final (c : Dev nD) : (dats m 0 c).arrAt 2 cfg0.N
    = want (F := Ideal) (m ((c : Thread nD τ).loc main_arg0)) (m ((c : Thread nD τ).loc main_arg1)) := by
  refine (dats m 0 c).arrAt_eq_of_covers 2 _ (by decide +kernel) fun t hf y => ?_
  have hr := last t hf
  blk_simp
  rw [after0_2, out_eq m c t hr, scratch m c t hr]
  pointwise [k0_pay2, k0_pay1, want]
  refine Fin.sum_mul_add_congr fun s k hl => ?_
  blk_point [iblk, V, idx t, idx ⟨_, Pipeline.run_point_lt_of_flush t hr s⟩]

theorem frame : Cert.quiescent_ProjDw := fun m g _ => Cert.ProjDw.Gen.frame m g

theorem frame_ideal : Cert.quiescent_ProjDwIdeal := fun m g _ => Cert.ProjDwIdeal.Gen.frame m g

theorem frame_ref_ideal : Cert.quiescent_ProjDwRefIdeal := fun m g _ =>
  (θ_run (Cert.ProjDwRefIdeal.defs (F := Ideal)) _ _).mono (fun r h => ⟨fun c => (h c).2, sem_eq_zero_of_no_sems rfl r.2⟩)
    (Cert.ProjDwRefIdeal.Value.run (F := Ideal) m g)

/-- Over the extended reals the call computes the reference's product. -/
theorem value_ideal : Cert.algebraic_ProjDwIdeal_ProjDwRefIdeal := fun m g m' g' _ hx =>
  ⟨_, (θ_run defs _ _).mono (fun r h c => ⟨(h c).1.trans (final m c), (h c).2⟩) (run_blocks m g),
    (θ_run (Cert.ProjDwRefIdeal.defs (F := Ideal)) _ _).mono
      (fun r h c => ⟨(h c).1.trans (by rw [(hx c).1, (hx c).2]; rfl), (h c).2⟩) (Cert.ProjDwRefIdeal.Value.run (F := Ideal) m' g')⟩

end Cert.ProjDwProof

/-! ## The gradient of the feed-forward block's input -/

namespace Cert.FfnInDxProof

open Cert.FfnInDxIdeal Cert.FfnInDxIdeal.Gen Cert.FfnInDxIdeal.Value

variable (m : (ℓ : Loc nD τ sig) → Buf (Elt Ideal) ℓ)

/-- After the last of four points the scratch holds the four partial products. -/
theorem scratch (c : Dev nD) (t : Fin cfg0.N) (hr : t.val % 4 = 4 - 1) (i : S512x1024.Idx) :
    (outsAt0 m c t.val t.isLt).2 i = ∑ s : Fin 4,
      (k0_pay2 (iblk m c 0 ⟨4 * (t.val / 4) + s.val, Pipeline.run_point_lt_of_flush t hr s⟩)
        (iblk m c 1 ⟨4 * (t.val / 4) + s.val, Pipeline.run_point_lt_of_flush t hr s⟩) i : EReal) := by
  refine sum_of_four (fun n h => (outsAt0 m c n h).2) (fun t => k0_pay2 (iblk m c 0 t) (iblk m c 1 t)) t hr (fun t h i => ?_) (fun t h i => ?_) i
  · rw [outsAt0_A m c t h (by omega) (by omega)]; frame_out
  · by_cases h2 : t.val % 4 = 3 <;> [rw [outsAt0_C m c t h (by omega) h2]; rw [outsAt0_B m c t h (by omega) h2]] <;> frame_out <;>
      (pointwise [k0_pay3, k0_pay2]; exact congrArg (· + _) (congrFun (Memref.IsWhole.read_unread _ _) i))

/-- The last of four points adds the multiple of the gradient that reached the rows directly, and writes back. -/
theorem out_eq (c : Dev nD) (t : Fin cfg0.N) (h : t.val % 4 = 3) (i : S512x1024.Idx) :
    (outsAt0 m c t.val t.isLt).1 i = k0_pay4 (outsAt0 m c t.val t.isLt).2 (iblk m c 2 t) i := by
  rw [outsAt0_C m c t (by omega) (by omega) h]; frame_out

/-- The reference's term of the arguments. -/
def want {F : FTy → Type} [FloatOps F] (a : S4096x5632.Idx → Elt F .bf16) (b : S1024x5632.Idx → Elt F .bf16) (d : S4096x1024.Idx → Elt F .f32) :
    S4096x1024.Idx → Elt F .f32 :=
  addf (Host.dotGeneral Cert.FfnInDxRefIdeal.dot_S4096x5632_S5632x1024_S4096x1024_1_0_0_1_n_n none (extf .f32 a Cert.FfnInDxRefIdeal.Gen.bitsLt_bf16_f32)
      (transpose Cert.FfnInDxRefIdeal.S5632x1024 [1, 0] (extf .f32 b Cert.FfnInDxRefIdeal.Gen.bitsLt_bf16_f32) Cert.FfnInDxRefIdeal.Gen.transposes_S1024x5632_S5632x1024_1_0))
    (mulf (broadcastInDim S4096x1024 ![] Cert.FfnInDxRefIdeal.Gen.bcast_S_S4096x1024 (constant Cert.FfnInDxRefIdeal.S_ .f32 0x3FB504F3#32)) d)

/-- The blocks of a point. -/
theorem idx : ∀ t : Fin cfg0.N, win0_0.index t (0 : Fin 2) = t.val / 4 ∧ win0_0.index t (1 : Fin 2) = t.val % 4
    ∧ win0_1.index t (0 : Fin 2) = 0 ∧ win0_1.index t (1 : Fin 2) = t.val % 4
    ∧ win0_2.index t (0 : Fin 2) = t.val / 4 ∧ win0_2.index t (1 : Fin 2) = 0
    ∧ win0_3.index t (0 : Fin 2) = t.val / 4 ∧ win0_3.index t (1 : Fin 2) = 0 :=
  (by decide +kernel : ∀ t : Fin grid0.N, _)

/-- Only the last of four points writes its block back. -/
theorem last : ∀ t : Fin cfg0.N, (cfg0.win 3).flush t = true → t.val % 4 = 3 :=
  (by decide +kernel : ∀ t : Fin grid0.N, (cfg0.win 3).flush t = true → t.val % 4 = 3)

/-- The array after the run is the reference's term. -/
theorem final (c : Dev nD) : (dats m 0 c).arrAt 3 cfg0.N
    = want (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  have hr := last t hf
  blk_simp
  rw [after0_3, out_eq m c t hr]
  pointwise [k0_pay4, want]
  rw [scratch m c t hr]
  pointwise [k0_pay2, k0_pay1]
  refine congrArg₂ (· + ·) ?_ ?_
  · refine Fin.sum_mul_add_congr fun s k hl => ?_
    blk_point [iblk, V, idx t, idx ⟨_, Pipeline.run_point_lt_of_flush t hr s⟩]
  · blk_point [iblk, V, idx t]

theorem frame : Cert.quiescent_FfnInDx := fun m g _ => Cert.FfnInDx.Gen.frame m g

theorem frame_ideal : Cert.quiescent_FfnInDxIdeal := fun m g _ => Cert.FfnInDxIdeal.Gen.frame m g

theorem frame_ref_ideal : Cert.quiescent_FfnInDxRefIdeal := fun m g _ =>
  (θ_run (Cert.FfnInDxRefIdeal.defs (F := Ideal)) _ _).mono (fun r h => ⟨fun c => (h c).2, sem_eq_zero_of_no_sems rfl r.2⟩)
    (Cert.FfnInDxRefIdeal.Value.run (F := Ideal) m g)

/-- Over the extended reals the call computes the reference's product and sum. -/
theorem value_ideal : Cert.algebraic_FfnInDxIdeal_FfnInDxRefIdeal := fun m g m' g' _ hx =>
  ⟨_, (θ_run defs _ _).mono (fun r h c => ⟨(h c).1.trans (final m c), (h c).2⟩) (run_blocks m g),
    (θ_run (Cert.FfnInDxRefIdeal.defs (F := Ideal)) _ _).mono
      (fun r h c => ⟨(h c).1.trans (by rw [(hx c).1, (hx c).2.1, (hx c).2.2]; rfl), (h c).2⟩) (Cert.FfnInDxRefIdeal.Value.run (F := Ideal) m' g')⟩

end Cert.FfnInDxProof

end
-- ==== Proof.RowClaims.lean ====
/-
The claims about the calls that treat each row of the activations by itself: the gated product of the feed-forward block
and its derivative, and the layer norm.
-/
module

public import proofs.«01_k».proof.Defs
public import proofs.«01_k».proof.Proof.Gen.SwiF.Frame
public import proofs.«01_k».proof.Proof.Gen.SwiFIdeal.Frame
public import proofs.«01_k».proof.Proof.Gen.SwiFIdeal.Value
public import proofs.«01_k».proof.Proof.Gen.SwiFRefIdeal.Run
public import proofs.«01_k».proof.Proof.Gen.SwiB.Frame
public import proofs.«01_k».proof.Proof.Gen.SwiBIdeal.Frame
public import proofs.«01_k».proof.Proof.Gen.SwiBIdeal.Value
public import proofs.«01_k».proof.Proof.Gen.SwiBRefIdeal.Run
public import proofs.«01_k».proof.Proof.Gen.LnF.Frame
public import proofs.«01_k».proof.Proof.Gen.LnFIdeal.Frame
public import proofs.«01_k».proof.Proof.Gen.LnFIdeal.Value
public import proofs.«01_k».proof.Proof.Gen.LnFRefIdeal.Run
public import Idealize.ShloMosaic.Lib.Pipeline.ValueKit.Point
public import Idealize.ShloMosaic.Lib.Quiescent

@[expose] public section

set_option Elab.async false

noncomputable section

open Idealize.ShloMosaic Idealize.ShloMosaic.TcCoe Idealize.SL.Sem

/-! ## The gated product -/

namespace Cert.SwiFProof

open Cert.SwiFIdeal Cert.SwiFIdeal.Gen Cert.SwiFIdeal.Value

/-- The gate's columns, and the logistic function of them. -/
def gate {F : FTy → Type} [FloatOps F] (x : S4096x5632.Idx → Elt F .f32) : S4096x2816.Idx → Elt F .f32 :=
  extractStridedSlice S4096x2816 ![0, 0] x Cert.SwiFRefIdeal.Gen.slices_S4096x5632_S4096x2816_0_0

/-- The reference's term of the argument. -/
def want {F : FTy → Type} [FloatOps F] (x : S4096x5632.Idx → Elt F .f32) : S4096x2816.Idx → Elt F .bf16 :=
  truncf .bf16 (mulf (mulf (gate x) (Host.divf (broadcastInDim S4096x2816 ![] Cert.SwiFRefIdeal.Gen.bcast_S_S4096x2816 (constant Cert.SwiFRefIdeal.S_ .f32 0x3F800000#32))
      (addf (broadcastInDim S4096x2816 ![] Cert.SwiFRefIdeal.Gen.bcast_S_S4096x2816 (constant Cert.SwiFRefIdeal.S_ .f32 0x3F800000#32)) (Host.exp (Host.negf (gate x))))))
    (extractStridedSlice S4096x2816 ![0, 2816] x Cert.SwiFRefIdeal.Gen.slices_S4096x5632_S4096x2816_0_2816)) Cert.SwiFRefIdeal.Gen.bitsLt_bf16_f32

/-- The blocks of a point. -/
theorem idx : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The array after the run is the reference's term. -/
theorem final (m : (ℓ : Loc nD τ sig) → Buf (Elt Ideal) ℓ) (c : Dev nD) :
    (dats m 0 c).arrAt 1 cfg0.N = want (F := Ideal) (m ((c : Thread nD τ).loc main_arg0)) := by
  refine (dats m 0 c).arrAt_eq_of_covers 1 _ (by decide +kernel) fun t hf y => ?_
  blk_simp
  rw [after0_1]; frame_out
  pointwise [k0_pay1, want, gate]
  simp only [zero_sub]
  blk_point [iblk, V, idx t]

theorem frame : Cert.quiescent_SwiF := fun m g _ => Cert.SwiF.Gen.frame m g

theorem frame_ideal : Cert.quiescent_SwiFIdeal := fun m g _ => Cert.SwiFIdeal.Gen.frame m g

theorem frame_ref_ideal : Cert.quiescent_SwiFRefIdeal := fun m g _ =>
  (θ_run (Cert.SwiFRefIdeal.defs (F := Ideal)) _ _).mono (fun r h => ⟨fun c => (h c).2, sem_eq_zero_of_no_sems rfl r.2⟩)
    (Cert.SwiFRefIdeal.Value.run (F := Ideal) m g)

/-- Over the extended reals the call computes the reference's gated product. -/
theorem value_ideal : Cert.algebraic_SwiFIdeal_SwiFRefIdeal := fun m g m' g' _ hx =>
  ⟨_, (θ_run defs _ _).mono (fun r h c => ⟨(h c).1.trans (final m c), (h c).2⟩) (run_blocks m g),
    (θ_run (Cert.SwiFRefIdeal.defs (F := Ideal)) _ _).mono
      (fun r h c => ⟨(h c).1.trans (by rw [hx c]; rfl), (h c).2⟩) (Cert.SwiFRefIdeal.Value.run (F := Ideal) m' g')⟩

end Cert.SwiFProof

namespace Cert.SwiBProof

open Cert.SwiBIdeal Cert.SwiBIdeal.Gen Cert.SwiBIdeal.Value

/-- The gate's columns. -/
def gate {F : FTy → Type} [FloatOps F] (x : S4096x5632.Idx → Elt F .f32) : S4096x2816.Idx → Elt F .f32 :=
  extractStridedSlice S4096x2816 ![0, 0] x Cert.SwiBRefIdeal.Gen.slices_S4096x5632_S4096x2816_0_0

/-- One, in every place. -/
def one {F : FTy → Type} [FloatOps F] : S4096x2816.Idx → Elt F .f32 :=
  broadcastInDim S4096x2816 ![] Cert.SwiBRefIdeal.Gen.bcast_S_S4096x2816 (constant Cert.SwiBRefIdeal.S_ .f32 0x3F800000#32)

/-- The logistic function of the gate's columns. -/
def logistic {F : FTy → Type} [FloatOps F] (x : S4096x5632.Idx → Elt F .f32) : S4096x2816.Idx → Elt F .f32 :=
  Host.divf one (addf one (Host.exp (Host.negf (gate x))))

/-- The reference's term of the arguments. -/
def want {F : FTy → Type} [FloatOps F] (d : S4096x2816.Idx → Elt F .f32) (x : S4096x5632.Idx → Elt F .f32) : S4096x5632.Idx → Elt F .bf16 :=
  truncf .bf16 (concatenate S4096x5632 1
    [⟨S4096x2816, (mulf (mulf (mulf d (extractStridedSlice S4096x2816 ![0, 2816] x Cert.SwiBRefIdeal.Gen.slices_S4096x5632_S4096x2816_0_2816)) (logistic x))
        (addf one (mulf (gate x) (subf one (logistic x)))))⟩,
      ⟨S4096x2816, (mulf (mulf d (gate x)) (logistic x))⟩] Cert.SwiBRefIdeal.Gen.concatenates_S4096x2816_S4096x2816_S4096x5632_d1) Cert.SwiBRefIdeal.Gen.bitsLt_bf16_f32

/-- The blocks of a point. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The array after the run is the reference's term. -/
theorem final (m : (ℓ : Loc nD τ sig) → Buf (Elt Ideal) ℓ) (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2]
  canon_tiles x h
  · pointwise [k0_pay3, k0_pay1, want, gate, one, logistic]
    rw [dif_neg (by blk_simp [idx t]; omega)]
    simp only [zero_sub]
    blk_point [iblk, V, idx t]
  · pointwise [k0_pay2, k0_pay1, want, gate, one, logistic]
    rw [dif_pos (by blk_simp [idx t]; omega)]
    simp only [zero_sub]
    blk_point [iblk, V, idx t]

theorem frame : Cert.quiescent_SwiB := fun m g _ => Cert.SwiB.Gen.frame m g

theorem frame_ideal : Cert.quiescent_SwiBIdeal := fun m g _ => Cert.SwiBIdeal.Gen.frame m g

theorem frame_ref_ideal : Cert.quiescent_SwiBRefIdeal := fun m g _ =>
  (θ_run (Cert.SwiBRefIdeal.defs (F := Ideal)) _ _).mono (fun r h => ⟨fun c => (h c).2, sem_eq_zero_of_no_sems rfl r.2⟩)
    (Cert.SwiBRefIdeal.Value.run (F := Ideal) m g)

/-- Over the extended reals the call computes the reference's derivative. -/
theorem value_ideal : Cert.algebraic_SwiBIdeal_SwiBRefIdeal := fun m g m' g' _ hx =>
  ⟨_, (θ_run defs _ _).mono (fun r h c => ⟨(h c).1.trans (final m c), (h c).2⟩) (run_blocks m g),
    (θ_run (Cert.SwiBRefIdeal.defs (F := Ideal)) _ _).mono
      (fun r h c => ⟨(h c).1.trans (by rw [(hx c).1, (hx c).2]; rfl), (h c).2⟩) (Cert.SwiBRefIdeal.Value.run (F := Ideal) m' g')⟩

end Cert.SwiBProof

/-! ## The layer norm of a sum -/

namespace Cert.LnFProof

open Cert.LnFIdeal Cert.LnFIdeal.Gen Cert.LnFIdeal.Value

/-- The rows that are normed: the branch plus a multiple of the rows it started from. -/
def pre {F : FTy → Type} [FloatOps F] (x b : S4096x1024.Idx → Elt F .f32) : S4096x1024.Idx → Elt F .f32 :=
  addf (mulf (broadcastInDim S4096x1024 ![] Cert.LnFRefIdeal.Gen.bcast_S_S4096x1024 (constant Cert.LnFRefIdeal.S_ .f32 0x3FB504F3#32)) x) b

/-- The mean of every row. -/
def mean {F : FTy → Type} [FloatOps F] (x : S4096x1024.Idx → Elt F .f32) : Cert.LnFRefIdeal.S4096x1.Idx → Elt F .f32 :=
  Host.divf (broadcastInDim Cert.LnFRefIdeal.S4096x1 ![0] Cert.LnFRefIdeal.Gen.bcast_S4096_S4096x1_0
      (Host.reduceAdd x (constant Cert.LnFRefIdeal.S_ .f32 0x00000000#32) Cert.LnFRefIdeal.Gen.reducesTo_S4096x1024_S4096_d1 Cert.LnFRefIdeal.Gen.h_S_))
    (broadcastInDim Cert.LnFRefIdeal.S4096x1 ![] Cert.LnFRefIdeal.Gen.bcast_S_S4096x1 (constant Cert.LnFRefIdeal.S_ .f32 0x44800000#32))

/-- A row's number, in all its columns. -/
def wide {F : FTy → Type} [FloatOps F] (x : Cert.LnFRefIdeal.S4096x1.Idx → Elt F .f32) : S4096x1024.Idx → Elt F .f32 :=
  broadcastInDim S4096x1024 ![0, 1] Cert.LnFRefIdeal.Gen.bcast_S4096x1_S4096x1024_0_1 x

/-- A column's number, in all its rows. -/
def tall {F : FTy → Type} [FloatOps F] (x : S1024.Idx → Elt F .f32) : S4096x1024.Idx → Elt F .f32 :=
  broadcastInDim S4096x1024 ![0, 1] Cert.LnFRefIdeal.Gen.bcast_S1x1024_S4096x1024_0_1 (broadcastInDim S1x1024 ![1] Cert.LnFRefIdeal.Gen.bcast_S1024_S1x1024_1 x)

/-- Every row less its mean. -/
def dev {F : FTy → Type} [FloatOps F] (x : S4096x1024.Idx → Elt F .f32) : S4096x1024.Idx → Elt F .f32 := subf x (wide (mean x))

/-- The rows normed, times the scale, plus the shift. -/
def normed {F : FTy → Type} [FloatOps F] (x : S4096x1024.Idx → Elt F .f32) (g b : S1024.Idx → Elt F .f32) : S4096x1024.Idx → Elt F .f32 :=
  addf (mulf (mulf (dev x) (wide (Host.rsqrt (addf (mean (mulf (dev x) (dev x)))
    (broadcastInDim Cert.LnFRefIdeal.S4096x1 ![] Cert.LnFRefIdeal.Gen.bcast_S_S4096x1 (constant Cert.LnFRefIdeal.S_ .f32 0x3727C5AC#32)))))) (tall g)) (tall b)

/-- The blocks of a point. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The first array after the run holds the rows that are normed. -/
theorem final_pre (m : (ℓ : Loc nD τ sig) → Buf (Elt Ideal) ℓ) (c : Dev nD) :
    (dats m 0 c).arrAt 4 cfg0.N = pre (F := Ideal) (m ((c : Thread nD τ).loc main_arg0)) (m ((c : Thread nD τ).loc main_arg1)) := by
  refine (dats m 0 c).arrAt_eq_of_covers 4 _ (by decide +kernel) fun t hf y => ?_
  blk_simp
  rw [after0_4]; frame_out
  pointwise [k0_pay1, pre]
  blk_point [iblk, V_main_arg0, V_main_arg1, idx t]

/-- The second array after the run holds the normed rows. -/
theorem final_normed (m : (ℓ : Loc nD τ sig) → Buf (Elt Ideal) ℓ) (c : Dev nD) :
    (dats m 0 c).arrAt 5 cfg0.N = normed (F := Ideal) (pre (F := Ideal) (m ((c : Thread nD τ).loc main_arg0)) (m ((c : Thread nD τ).loc main_arg1)))
      (m ((c : Thread nD τ).loc main_arg2)) (m ((c : Thread nD τ).loc main_arg3)) := by
  refine (dats m 0 c).arrAt_eq_of_covers 5 _ (by decide +kernel) fun t hf y => ?_
  blk_simp
  rw [after0_5]; frame_out
  pointwise [k0_pay2, k0_pay1, normed, pre, dev, mean, wide, tall]
  blk_point [iblk, V_main_arg0, V_main_arg1, idx t]

theorem frame : Cert.quiescent_LnF := fun m g _ => Cert.LnF.Gen.frame m g

theorem frame_ideal : Cert.quiescent_LnFIdeal := fun m g _ => Cert.LnFIdeal.Gen.frame m g

theorem frame_ref_ideal : Cert.quiescent_LnFRefIdeal := fun m g _ =>
  (θ_run (Cert.LnFRefIdeal.defs (F := Ideal)) _ _).mono (fun r h => ⟨fun c => (h c).2.2, sem_eq_zero_of_no_sems rfl r.2⟩)
    (Cert.LnFRefIdeal.Value.run (F := Ideal) m g)

/-- Over the extended reals the call computes the reference's sum and its layer norm. -/
theorem value_ideal : Cert.algebraic_LnFIdeal_LnFRefIdeal := fun m g m' g' _ hx =>
  ⟨_, _, (θ_run defs _ _).mono (fun r h c => ⟨(h c).1.trans (final_pre m c), (h c).2.1.trans (final_normed m c), (h c).2.2⟩) (run_blocks m g),
    (θ_run (Cert.LnFRefIdeal.defs (F := Ideal)) _ _).mono
      (fun r h c => ⟨(h c).1.trans (by rw [(hx c).1, (hx c).2.1]; rfl),
        (h c).2.1.trans (by rw [(hx c).1, (hx c).2.1, (hx c).2.2.1, (hx c).2.2.2]; rfl), (h c).2.2⟩) (Cert.LnFRefIdeal.Value.run (F := Ideal) m' g')⟩

end Cert.LnFProof

end
-- ==== Proof.SumClaims.lean ====
/-
The claims about the loss and about the derivative of the layer norm. Each of the two calls writes an array block by block
and adds sums over the rows into one small block that all its points share.
-/
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.Gen.LnB.Frame
public import proofs.«01_k».proof.Proof.Gen.LnBIdeal.Frame
public import proofs.«01_k».proof.Proof.Gen.LnBIdeal.Value
public import proofs.«01_k».proof.Proof.Gen.LnBRefIdeal.Run
public import Idealize.ShloMosaic.Lib.Pipeline.ValueKit.Point
public import Idealize.ShloMosaic.Lib.WritesUnit
public import Idealize.ShloMosaic.Lib.Quiescent

@[expose] public section

set_option Elab.async false

noncomputable section

open Idealize.ShloMosaic Idealize.ShloMosaic.TcCoe Idealize.SL.Sem

/-! ## The loss -/

namespace Cert.LossProof

open Cert.LossIdeal Cert.LossIdeal.Gen Cert.LossIdeal.Value

theorem bits_1024 : Ideal.ofBits .f32 0x44800000#32 = ((1024 : ℝ) : EReal) := by
  simp [Ideal.ofBits, Ideal.ieee, -EReal.coe_mul]; norm_num

theorem bits_inv_1024 : Ideal.ofBits .f32 0x3A800000#32 = ((1 / 1024 : ℝ) : EReal) := by
  simp [Ideal.ofBits, Ideal.ieee, -EReal.coe_mul]; norm_num

theorem bits_inv_2048 : Ideal.ofBits .f32 0x3A000000#32 = ((1 / 2048 : ℝ) : EReal) := by
  simp [Ideal.ofBits, Ideal.ieee, -EReal.coe_mul]; norm_num

theorem bits_half : Ideal.ofBits .f32 0x3F000000#32 = ((1 / 2 : ℝ) : EReal) := by
  simp [Ideal.ofBits, Ideal.ieee, -EReal.coe_mul]; norm_num

/-- A finite number that is not negative multiplies a sum term by term, whatever is infinite in it. -/
theorem mul_sum {n : ℕ} (r : ℝ) (hr : 0 ≤ r) (f : Fin n → EReal) : (r : EReal) * ∑ i, f i = ∑ i, (r : EReal) * f i := by
  induction n with
  | zero => simp
  | succ n ih =>
    rw [Fin.sum_univ_succ, Fin.sum_univ_succ, EReal.left_distrib_of_nonneg_of_ne_top (EReal.coe_nonneg.mpr hr) (EReal.coe_ne_top r), ih]

/-- The error. -/
def err {F : FTy → Type} [FloatOps F] (x y : S4096x1024.Idx → Elt F .f32) : S4096x1024.Idx → Elt F .f32 := subf x y

/-- The reference's derivative. -/
def grad {F : FTy → Type} [FloatOps F] (x y : S4096x1024.Idx → Elt F .f32) : S4096x1024.Idx → Elt F .f32 :=
  Host.divf (err x y) (broadcastInDim S4096x1024 ![] Cert.LossRefIdeal.Gen.bcast_S_S4096x1024 (constant Cert.LossRefIdeal.S_ .f32 0x44800000#32))

/-- The reference's loss, in every place of a block. -/
def loss {F : FTy → Type} [FloatOps F] (x y : S4096x1024.Idx → Elt F .f32) : S8x128.Idx → Elt F .f32 :=
  broadcastInDim S8x128 ![] Cert.LossRefIdeal.Gen.bcast_S_S8x128 (mulf (constant Cert.LossRefIdeal.S_ .f32 0x3F000000#32)
    (Host.reduceAdd (Host.divf (Host.reduceAdd (mulf (err x y) (err x y)) (constant Cert.LossRefIdeal.S_ .f32 0x00000000#32) Cert.LossRefIdeal.Gen.reducesTo_S4096x1024_S4096_d1 Cert.LossRefIdeal.Gen.h_S_)
      (broadcastInDim Cert.LossRefIdeal.S4096 ![] Cert.LossRefIdeal.Gen.bcast_S_S4096 (constant Cert.LossRefIdeal.S_ .f32 0x44800000#32)))
      (constant Cert.LossRefIdeal.S_ .f32 0x00000000#32) Cert.LossRefIdeal.Gen.reducesTo_S4096_S_d0 Cert.LossRefIdeal.Gen.h_S_))

/-- The blocks of a point. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

variable (m : (ℓ : Loc nD τ sig) → Buf (Elt Ideal) ℓ)

/-- Every point leaves its rows' derivative. -/
theorem out_grad (c : Dev nD) (t : Fin cfg0.N) (i : S512x1024.Idx) :
    (outsAt0 m c t.val t.isLt).1 i = k0_pay2 (iblk m c 0 t) (iblk m c 1 t) i := by
  by_cases h : t.val % 8 = 0 <;> [rw [outsAt0_A m c t h]; rw [outsAt0_B m c t h]] <;> frame_out

/-- The first array after the run is the reference's derivative. -/
theorem final_grad (c : Dev nD) :
    (dats m 0 c).arrAt 2 cfg0.N = grad (F := Ideal) (m ((c : Thread nD τ).loc main_arg0)) (m ((c : Thread nD τ).loc main_arg1)) := by
  refine (dats m 0 c).arrAt_eq_of_covers 2 _ (by decide +kernel) fun t hf y => ?_
  blk_simp
  rw [after0_2, out_grad]
  pointwise [k0_pay2, k0_pay1, grad, err]
  rw [bits_inv_1024, bits_1024, Ideal.div_coe (by norm_num : (1024 : ℝ) ≠ 0)]
  blk_point [iblk, V, idx t]

/-- The second array after the run is the reference's loss. -/
theorem final_loss (c : Dev nD) :
    (dats m 0 c).arrAt 3 cfg0.N = loss (F := Ideal) (m ((c : Thread nD τ).loc main_arg0)) (m ((c : Thread nD τ).loc main_arg1)) := by
  refine (dats m 0 c).arrAt_eq_of_covers 3 _ (by decide +kernel) fun t hf y => ?_
  have hl := (flush0_3 t).mp hf
  have hN : cfg0.N = 8 := N_0
  blk_simp
  rw [after0_3, Pipeline.eq_sum_fin_of_reset_step_apply_last (fun n h => (outsAt0 m c n h).2) 8 (fun _ => 0)
      (fun t i => (k0_pay4 (iblk m c 0 t) (iblk m c 1 t) (fun _ => 0) i : EReal))
      (fun t h i => by rw [outsAt0_A m c t h]; frame_out; pointwise [k0_pay4, k0_pay3])
      (fun t h i => by rw [outsAt0_B m c t h]; frame_out; pointwise [k0_pay4])
      (le_of_eq N_0) t (by have := t.isLt; omega), zero_add]
  pointwise [k0_pay4, k0_pay1, loss, err]
  simp only [bits_inv_2048, bits_half, bits_1024, Ideal.div_coe (by norm_num : (1024 : ℝ) ≠ 0)]
  rw [mul_sum _ (by norm_num)]
  simp only [mul_comm _ ((1 / 2048 : ℝ) : EReal), mul_sum (1 / 2048) (by norm_num)]
  refine Fin.sum_mul_add_congr (n := 512) (S := cfg0.N) fun s k hl => ?_
  rw [← mul_sum (1 / 2048) (by norm_num), mul_comm _ ((1 / 1024 : ℝ) : EReal), ← mul_assoc, ← EReal.coe_mul]
  refine congrArg₂ (· * ·) (by norm_num) (Finset.sum_congr rfl fun j _ => ?_)
  blk_point [iblk, V, idx s]

theorem frame : Cert.quiescent_Loss := fun m g _ => Cert.Loss.Gen.frame m g

theorem frame_ideal : Cert.quiescent_LossIdeal := fun m g _ => Cert.LossIdeal.Gen.frame m g

theorem frame_ref_ideal : Cert.quiescent_LossRefIdeal := fun m g _ =>
  (θ_run (Cert.LossRefIdeal.defs (F := Ideal)) _ _).mono (fun r h => ⟨fun c => (h c).2.2, sem_eq_zero_of_no_sems rfl r.2⟩)
    (Cert.LossRefIdeal.Value.run (F := Ideal) m g)

/-- Over the extended reals the call computes the reference's derivative and its loss. -/
theorem value_ideal : Cert.algebraic_LossIdeal_LossRefIdeal := fun m g m' g' _ hx =>
  ⟨_, _, (θ_run defs _ _).mono (fun r h c => ⟨(h c).1.trans (final_grad m c), (h c).2.1.trans (final_loss m c), (h c).2.2⟩) (run_blocks m g),
    (θ_run (Cert.LossRefIdeal.defs (F := Ideal)) _ _).mono
      (fun r h c => ⟨(h c).1.trans (by rw [(hx c).1, (hx c).2]; rfl),
        (h c).2.1.trans (by rw [(hx c).1, (hx c).2]; rfl), (h c).2.2⟩) (Cert.LossRefIdeal.Value.run (F := Ideal) m' g')⟩

end Cert.LossProof

/-! ## The derivative of the layer norm -/

namespace Cert.LnBProof

open Cert.LnBIdeal Cert.LnBIdeal.Gen Cert.LnBIdeal.Value

/-- The mean of every row. -/
def mean {F : FTy → Type} [FloatOps F] (x : S4096x1024.Idx → Elt F .f32) : Cert.LnBRefIdeal.S4096x1.Idx → Elt F .f32 :=
  Host.divf (broadcastInDim Cert.LnBRefIdeal.S4096x1 ![0] Cert.LnBRefIdeal.Gen.bcast_S4096_S4096x1_0
      (Host.reduceAdd x (constant Cert.LnBRefIdeal.S_ .f32 0x00000000#32) Cert.LnBRefIdeal.Gen.reducesTo_S4096x1024_S4096_d1 Cert.LnBRefIdeal.Gen.h_S_))
    (broadcastInDim Cert.LnBRefIdeal.S4096x1 ![] Cert.LnBRefIdeal.Gen.bcast_S_S4096x1 (constant Cert.LnBRefIdeal.S_ .f32 0x44800000#32))

/-- A row's number, in all its columns. -/
def wide {F : FTy → Type} [FloatOps F] (x : Cert.LnBRefIdeal.S4096x1.Idx → Elt F .f32) : S4096x1024.Idx → Elt F .f32 :=
  broadcastInDim S4096x1024 ![0, 1] Cert.LnBRefIdeal.Gen.bcast_S4096x1_S4096x1024_0_1 x

/-- A column's number, in all its rows. -/
def tall {F : FTy → Type} [FloatOps F] (x : S1024.Idx → Elt F .f32) : S4096x1024.Idx → Elt F .f32 :=
  broadcastInDim S4096x1024 ![0, 1] Cert.LnBRefIdeal.Gen.bcast_S1x1024_S4096x1024_0_1 (broadcastInDim S1x1024 ![1] Cert.LnBRefIdeal.Gen.bcast_S1024_S1x1024_1 x)

/-- Every row less its mean. -/
def dev {F : FTy → Type} [FloatOps F] (x : S4096x1024.Idx → Elt F .f32) : S4096x1024.Idx → Elt F .f32 := subf x (wide (mean x))

/-- What every row is multiplied by. -/
def rstd {F : FTy → Type} [FloatOps F] (x : S4096x1024.Idx → Elt F .f32) : Cert.LnBRefIdeal.S4096x1.Idx → Elt F .f32 :=
  Host.rsqrt (addf (mean (mulf (dev x) (dev x))) (broadcastInDim Cert.LnBRefIdeal.S4096x1 ![] Cert.LnBRefIdeal.Gen.bcast_S_S4096x1 (constant Cert.LnBRefIdeal.S_ .f32 0x3727C5AC#32)))

/-- The normed rows. -/
def xhat {F : FTy → Type} [FloatOps F] (x : S4096x1024.Idx → Elt F .f32) : S4096x1024.Idx → Elt F .f32 := mulf (dev x) (wide (rstd x))

/-- The reference's derivative with respect to the rows. -/
def grad {F : FTy → Type} [FloatOps F] (d x : S4096x1024.Idx → Elt F .f32) (g : S1024.Idx → Elt F .f32) : S4096x1024.Idx → Elt F .f32 :=
  mulf (wide (rstd x)) (subf (subf (mulf d (tall g)) (wide (mean (mulf d (tall g))))) (mulf (xhat x) (wide (mean (mulf (mulf d (tall g)) (xhat x))))))

/-- The sum of every column, as a row. -/
def col {F : FTy → Type} [FloatOps F] (x : S4096x1024.Idx → Elt F .f32) : S1x1024.Idx → Elt F .f32 :=
  broadcastInDim S1x1024 ![1] Cert.LnBRefIdeal.Gen.bcast_S1024_S1x1024_1
    (Host.reduceAdd x (constant Cert.LnBRefIdeal.S_ .f32 0x00000000#32) Cert.LnBRefIdeal.Gen.reducesTo_S4096x1024_S1024_d0 Cert.LnBRefIdeal.Gen.h_S_)

/-- The reference's derivative with respect to the scale and the shift, and six rows of zeros. -/
def sums {F : FTy → Type} [FloatOps F] (d x : S4096x1024.Idx → Elt F .f32) : S8x1024.Idx → Elt F .f32 :=
  concatenate S8x1024 0 [⟨S1x1024, col (mulf d (xhat x))⟩, ⟨S1x1024, col d⟩,
    ⟨Cert.LnBRefIdeal.S6x1024, broadcastInDim Cert.LnBRefIdeal.S6x1024 ![] Cert.LnBRefIdeal.Gen.bcast_S_S6x1024 (constant Cert.LnBRefIdeal.S_ .f32 0x00000000#32)⟩]
    Cert.LnBRefIdeal.Gen.concatenates_S1x1024_S1x1024_S6x1024_S8x1024_d0

/-- The blocks of a point. -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

variable (m : (ℓ : Loc nD τ sig) → Buf (Elt Ideal) ℓ)

/-- Every point leaves its rows' derivative. -/
theorem out_grad (c : Dev nD) (t : Fin cfg0.N) (i : S256x1024.Idx) :
    (outsAt0 m c t.val t.isLt).1 i = k0_pay7 (iblk m c 0 t) (iblk m c 1 t) (iblk m c 2 t) i := by
  by_cases h : t.val % 16 = 0 <;> [rw [outsAt0_A m c t h]; rw [outsAt0_B m c t h]] <;> frame_out

/-- The first array after the run is the reference's derivative with respect to the rows. -/
theorem final_grad (c : Dev nD) : (dats m 0 c).arrAt 3 cfg0.N
    = grad (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_grad]
  pointwise [k0_pay7, k0_pay6, k0_pay5, k0_pay4, grad, xhat, rstd, dev, mean, wide, tall]
  blk_point [iblk, V_main_arg0, V_main_arg1, idx t]

/-- At an index a store takes, the contents are what is stored. -/
theorem canon_at {Val : EltTy → Type} [∀ e, Nonempty (Val e)] {o : ℕ} (inb : ∀ a : Fin 2, ![o, 0] a + ![1, 1024] a ≤ S8x1024.size a) (w : S1x1024.Idx → Val .f32)
    (L : List (View.Piece Val S8x1024 .f32)) (i : S8x1024.Idx) (x : (Rect.unit (s := S8x1024) ![o, 0] ![1, 1024] inb).shape.Idx) (e : (Rect.unit (s := S8x1024) ![o, 0] ![1, 1024] inb).emb x = i) :
    View.canon ((⟨Rect.unit (s := S8x1024) ![o, 0] ![1, 1024] inb, w⟩ : View.Piece Val S8x1024 .f32) :: L) i = w x := by
  subst e
  exact View.canon_cons_emb _ w L x

/-- Under a store to row `o` the contents are the row stored; -/
theorem canon_row {Val : EltTy → Type} [∀ e, Nonempty (Val e)] {o : ℕ} (inb : ∀ a : Fin 2, ![o, 0] a + ![1, 1024] a ≤ S8x1024.size a) (w : S1x1024.Idx → Val .f32)
    (L : List (View.Piece Val S8x1024 .f32)) (i : S8x1024.Idx) (h : (i (0 : Fin 2)).val = o) :
    View.canon ((⟨Rect.unit (s := S8x1024) ![o, 0] ![1, 1024] inb, w⟩ : View.Piece Val S8x1024 .f32) :: L) i = w (ix2 0 (i 1)) := by
  have e : (Rect.unit (s := S8x1024) ![o, 0] ![1, 1024] inb).emb (ix2 0 (i 1)) = i := by
    funext a
    refine Fin.ext ?_
    revert a
    rw [Fin.forall_fin_two]
    refine ⟨?_, ?_⟩
    · show o + 1 * 0 = (i (0 : Fin 2)).val
      omega
    · show 0 + 1 * (i (1 : Fin 2)).val = (i (1 : Fin 2)).val
      omega
  exact canon_at inb w L i _ e

/-- at another row they are what they were. -/
theorem canon_other {Val : EltTy → Type} [∀ e, Nonempty (Val e)] {o : ℕ} (inb : ∀ a : Fin 2, ![o, 0] a + ![1, 1024] a ≤ S8x1024.size a) (w : S1x1024.Idx → Val .f32)
    (L : List (View.Piece Val S8x1024 .f32)) (i : S8x1024.Idx) (h : (i (0 : Fin 2)).val ≠ o) :
    View.canon ((⟨Rect.unit (s := S8x1024) ![o, 0] ![1, 1024] inb, w⟩ : View.Piece Val S8x1024 .f32) :: L) i = View.canon L i := by
  refine View.canon_cons_of_not_mem _ L ?_
  rw [Rect.mem_set_unit]
  intro hall
  have h0 : o ≤ (i (0 : Fin 2)).val ∧ (i (0 : Fin 2)).val < o + 1 := hall (0 : Fin 2)
  omega

/-- The same of contents read back: under the store the row stored; -/
theorem read_row {Val : EltTy → Type} {sig : RefSig} {κ : Kind} {sp : Space} (v : View sig κ sp S8x1024 .f32) (f : v.ty.Contents Val) {o : ℕ}
    (inb : ∀ a : Fin 2, ![o, 0] a + ![1, 1024] a ≤ S8x1024.size a) (w : S1x1024.Idx → Val .f32) (L : List (View.Piece Val S8x1024 .f32)) (i : S8x1024.Idx)
    (h : (i (0 : Fin 2)).val = o) :
    v.read Val (v.writes Val f ((⟨Rect.unit (s := S8x1024) ![o, 0] ![1, 1024] inb, w⟩ : View.Piece Val S8x1024 .f32) :: L)) i = w (ix2 0 (i 1)) :=
  View.read_writes_cons_rows_of_mem v f inb w L i (ix2 0 (i 1)) rfl h rfl

/-- at another row what was there. -/
theorem read_other {Val : EltTy → Type} {sig : RefSig} {κ : Kind} {sp : Space} (v : View sig κ sp S8x1024 .f32) (f : v.ty.Contents Val) {o : ℕ}
    (inb : ∀ a : Fin 2, ![o, 0] a + ![1, 1024] a ≤ S8x1024.size a) (w : S1x1024.Idx → Val .f32) (L : List (View.Piece Val S8x1024 .f32)) (i : S8x1024.Idx)
    (h : (i (0 : Fin 2)).val ≠ o) :
    v.read Val (v.writes Val f ((⟨Rect.unit (s := S8x1024) ![o, 0] ![1, 1024] inb, w⟩ : View.Piece Val S8x1024 .f32) :: L)) i = v.read Val (v.writes Val f L) i :=
  View.read_writes_cons_rows_of_not_mem v f inb w L i (W := 1) rfl rfl (by omega)

/-- An index from its row and its column. -/
theorem row_eq (i : S8x1024.Idx) (o : Fin 8) (h : (i (0 : Fin 2)).val = o.val) : (ix2 o (i 1) : S8x1024.Idx) = i := by
  funext a
  revert a
  rw [Fin.forall_fin_two]
  exact ⟨Fin.ext h.symm, rfl⟩

/-- What a point adds: to the first row the products' column sums, to the second the columns' own sums. -/
def part (d h : S256x1024.Idx → EReal) : S8x1024.Idx → EReal := fun i =>
  if (i (0 : Fin 2)).val = 0 then ∑ r : Fin 256, d (ix2 r (i 1)) * h (ix2 r (i 1))
  else if (i (0 : Fin 2)).val = 1 then ∑ r : Fin 256, d (ix2 r (i 1)) else 0

/-- The first point starts at zero. -/
theorem sums_first (c : Dev nD) (t : Fin cfg0.N) (h : t.val % 16 = 0) (i : S8x1024.Idx) :
    (outsAt0 m c t.val t.isLt).2 i = (0 : EReal) + part (iblk m c 0 t) (k0_pay6 (F := Ideal) (iblk m c 1 t)) i := by
  rw [outsAt0_A m c t h]; frame_out
  unfold part
  by_cases h0 : (i (0 : Fin 2)).val = 0
  · rw [canon_other _ _ _ _ (by omega), canon_row _ _ _ _ h0, if_pos h0, View.readCov_eq_canon']
    pointwise [k0_pay2]
    rw [View.canon_cons_unit_lit _ _ _ (by decide)]
    pointwise [k0_pay1]
  by_cases h1 : (i (0 : Fin 2)).val = 1
  · rw [canon_row _ _ _ _ h1, if_neg h0, if_pos h1, View.readCov_eq_canon']
    pointwise [k0_pay3]
    rw [canon_other _ _ _ _ (show (1 : ℕ) ≠ 0 by decide), View.canon_cons_unit_lit _ _ _ (by decide)]
    pointwise [k0_pay1]
  · rw [canon_other _ _ _ _ h1, canon_other _ _ _ _ h0, if_neg h0, if_neg h1]
    frame_out
    pointwise [k0_pay1]

/-- Every later point adds to what the one before left. -/
theorem sums_next (c : Dev nD) (t : Fin cfg0.N) (h : ¬t.val % 16 = 0) (i : S8x1024.Idx) :
    (outsAt0 m c t.val t.isLt).2 i = (outsAt0 m c (t.val - 1) (Nat.lt_of_le_of_lt (Nat.sub_le _ _) t.isLt)).2 i
      + part (iblk m c 0 t) (k0_pay6 (F := Ideal) (iblk m c 1 t)) i := by
  rw [outsAt0_B m c t h]; frame_out
  unfold part
  by_cases h0 : (i (0 : Fin 2)).val = 0
  · rw [read_other _ _ _ _ _ _ (by omega), read_row _ _ _ _ _ _ h0, if_pos h0]
    pointwise [k0_pay2]
    exact congrArg₂ (· + ·) (congrArg _ (row_eq i 0 h0)) rfl
  by_cases h1 : (i (0 : Fin 2)).val = 1
  · rw [read_row _ _ _ _ _ _ h1, if_neg h0, if_pos h1]
    pointwise [k0_pay3]
    exact congrArg₂ (· + ·) (congrArg _ (row_eq i 1 h1)) rfl
  · rw [read_other _ _ _ _ _ _ h1, read_other _ _ _ _ _ _ h0, if_neg h0, if_neg h1, add_zero]
    exact congrFun (Memref.IsWhole.read_unread _ _) i

/-- The second array after the run holds the reference's derivatives with respect to the scale and the shift. -/
theorem final_sums (c : Dev nD) : (dats m 0 c).arrAt 4 cfg0.N
    = sums (F := Ideal) (m ((c : Thread nD τ).loc main_arg0)) (m ((c : Thread nD τ).loc main_arg1)) := by
  refine (dats m 0 c).arrAt_eq_of_covers 4 _ (by decide +kernel) fun t hf y => ?_
  have hl := (flush0_4 t).mp hf
  have hN : cfg0.N = 16 := N_0
  blk_simp
  rw [after0_4, Pipeline.eq_sum_fin_of_reset_step_apply_last (fun n h => (outsAt0 m c n h).2) 16 (fun _ => 0)
      (fun t i => part (iblk m c 0 t) (k0_pay6 (F := Ideal) (iblk m c 1 t)) i) (sums_first m c) (sums_next m c)
      (le_of_eq N_0) t (by have := t.isLt; omega), zero_add]
  pointwise [part, k0_pay6, k0_pay5, k0_pay4, sums, col, xhat, rstd, dev, mean, wide]
  by_cases h0 : ((y : S8x1024.Idx) (0 : Fin 2)).val = 0
  · simp only [if_pos h0]
    rw [dif_pos (by blk_simp [idx t]; omega)]
    refine Fin.sum_mul_add_congr (n := 256) (S := cfg0.N) fun s k hs => ?_
    blk_point [iblk, V_main_arg0, V_main_arg1, idx t, idx s]
  by_cases h1 : ((y : S8x1024.Idx) (0 : Fin 2)).val = 1
  · simp only [if_neg h0, if_pos h1]
    rw [dif_neg (by blk_simp [idx t]; omega), dif_pos (by blk_simp [idx t]; omega)]
    refine Fin.sum_mul_add_congr (n := 256) (S := cfg0.N) fun s k hs => ?_
    blk_point [iblk, V_main_arg0, V_main_arg1, idx t, idx s]
  · simp only [if_neg h0, if_neg h1]
    rw [dif_neg (by blk_simp [idx t]; omega), dif_neg (by blk_simp [idx t]; omega)]
    exact (Finset.sum_const_zero : ∑ _s : Fin cfg0.N, (0 : EReal) = 0)

theorem frame : Cert.quiescent_LnB := fun m g _ => Cert.LnB.Gen.frame m g

theorem frame_ideal : Cert.quiescent_LnBIdeal := fun m g _ => Cert.LnBIdeal.Gen.frame m g

theorem frame_ref_ideal : Cert.quiescent_LnBRefIdeal := fun m g _ =>
  (θ_run (Cert.LnBRefIdeal.defs (F := Ideal)) _ _).mono (fun r h => ⟨fun c => (h c).2.2, sem_eq_zero_of_no_sems rfl r.2⟩)
    (Cert.LnBRefIdeal.Value.run (F := Ideal) m g)

/-- Over the extended reals the call computes the reference's derivatives. -/
theorem value_ideal : Cert.algebraic_LnBIdeal_LnBRefIdeal := fun m g m' g' _ hx =>
  ⟨_, _, (θ_run defs _ _).mono (fun r h c => ⟨(h c).1.trans (final_grad m c), (h c).2.1.trans (final_sums m c), (h c).2.2⟩) (run_blocks m g),
    (θ_run (Cert.LnBRefIdeal.defs (F := Ideal)) _ _).mono
      (fun r h c => ⟨(h c).1.trans (by unfold Cert.LnBRefIdeal.Value.res_main_v36; rw [(hx c).1, (hx c).2.1, (hx c).2.2]; rfl),
        (h c).2.1.trans (by rw [(hx c).1, (hx c).2.1]; rfl), (h c).2.2⟩) (Cert.LnBRefIdeal.Value.run (F := Ideal) m' g')⟩

end Cert.LnBProof

end
-- ==== Proof.ConvClaims.lean ====
/-
The claims about the short convolution and its derivative. A call takes one sequence at a point and turns its rows by one and
by two, with zeros at the end that has nothing before it; the reference joins zeros and a slice.
-/
module

public import proofs.«01_k».proof.Defs
public import proofs.«01_k».proof.Proof.Gen.ConvF.Frame
public import proofs.«01_k».proof.Proof.Gen.ConvFIdeal.Frame
public import proofs.«01_k».proof.Proof.Gen.ConvFIdeal.Value
public import proofs.«01_k».proof.Proof.Gen.ConvFRefIdeal.Run
public import Idealize.ShloMosaic.Lib.Pipeline.ValueKit.Point
public import Idealize.ShloMosaic.Lib.Quiescent

@[expose] public section

set_option Elab.async false

noncomputable section

open Idealize.ShloMosaic Idealize.ShloMosaic.TcCoe Idealize.SL.Sem

namespace Cert.ConvLemmas

/-- Which rows a turn leaves as they are. -/
theorem select_ge {α : Type} (r k : ℕ) (a b : α) (hr : r < 2147483648) (hk : k < 2147483648) :
    Scalar.select (IntOp.cmpi .sge (BitVec.ofNat 32 r) (BitVec.ofNat 32 k)) a b = if k ≤ r then a else b := by
  have e1 : (BitVec.ofNat 32 r).toInt = r := by
    rw [BitVec.toInt_eq_toNat_of_lt (by rw [BitVec.toNat_ofNat]; omega), BitVec.toNat_ofNat, Nat.mod_eq_of_lt (by omega)]
  have e2 : (BitVec.ofNat 32 k).toInt = k := by
    rw [BitVec.toInt_eq_toNat_of_lt (by rw [BitVec.toNat_ofNat]; omega), BitVec.toNat_ofNat, Nat.mod_eq_of_lt (by omega)]
  by_cases h : k ≤ r <;> simp [Scalar.select, IntOp.cmpi, BitVec.sle, e1, e2, h]

/-- Equal products of equal sums, the one from its other end. -/
theorem mul_rev {g g' a a' b b' c c' : EReal} (hg : g = g') (hc : c = c') (hb : b = b') (ha : a = a') : g * (a + b + c) = g' * (c' + b' + a') := by
  rw [hg, ha, hb, hc, add_comm (a' + b'), add_comm a', add_assoc]

/-- A row of all sequences that is one of the first of its own. -/
theorem lt_iff {t r k : ℕ} (hr : r < 2048) (hk : k < 2048) : (t * 2048 + r) % 2048 < k ↔ ¬k ≤ r := by omega

/-- Equal weights of equal elements, or of zeros. -/
theorem mul_ite {w w' u : EReal} {p q : Prop} [Decidable p] [Decidable q] {u' : ¬q → EReal} (hw : w = w') (hpq : q ↔ ¬p)
    (hu : ∀ h : ¬q, u = u' h) : w * (if p then u else 0) = w' * (if h : q then 0 else u' h) := by
  by_cases h : q
  · rw [dif_pos h, if_neg (hpq.mp h), hw]
  · rw [dif_neg h, if_pos (not_not.mp fun hp => h (hpq.mpr hp)), hw, hu h]

end Cert.ConvLemmas

/-! ## The convolution -/

namespace Cert.ConvFProof

open Cert.ConvLemmas Cert.ConvFIdeal Cert.ConvFIdeal.Gen Cert.ConvFIdeal.Value

/-- Columns of the projection, as sequences. -/
def gate {F : FTy → Type} [FloatOps F] (x : S4096x3200.Idx → Elt F .f32) : Cert.ConvFRefIdeal.S2x2048x256.Idx → Elt F .f32 :=
  shapeCast _ (extractStridedSlice S4096x256 ![0, 2304] x Cert.ConvFRefIdeal.Gen.slices_S4096x3200_S4096x256_0_2304) Cert.ConvFRefIdeal.Gen.shapeCasts_S4096x256_S2x2048x256

/-- What is convolved. -/
def prod {F : FTy → Type} [FloatOps F] (x : S4096x3200.Idx → Elt F .f32) : Cert.ConvFRefIdeal.S2x2048x256.Idx → Elt F .f32 :=
  mulf (shapeCast _ (extractStridedSlice S4096x256 ![0, 2560] x Cert.ConvFRefIdeal.Gen.slices_S4096x3200_S4096x256_0_2560) Cert.ConvFRefIdeal.Gen.shapeCasts_S4096x256_S2x2048x256)
    (shapeCast _ (extractStridedSlice S4096x256 ![0, 2816] x Cert.ConvFRefIdeal.Gen.slices_S4096x3200_S4096x256_0_2816) Cert.ConvFRefIdeal.Gen.shapeCasts_S4096x256_S2x2048x256)

/-- A row of weights, in all rows. -/
def tap {F : FTy → Type} [FloatOps F] (w : S8x256.Idx → Elt F .f32) (k : ℕ) (h : S8x256.Slices ![k, 0] S1x256) : Cert.ConvFRefIdeal.S2x2048x256.Idx → Elt F .f32 :=
  broadcastInDim Cert.ConvFRefIdeal.S2x2048x256 ![0, 1, 2] Cert.ConvFRefIdeal.Gen.bcast_S1x1x256_S2x2048x256_0_1_2
    (broadcastInDim Cert.ConvFRefIdeal.S1x1x256 ![2] Cert.ConvFRefIdeal.Gen.bcast_S256_S1x1x256_2 (shapeCast _ (extractStridedSlice S1x256 ![k, 0] w h) Cert.ConvFRefIdeal.Gen.shapeCasts_S1x256_S256))

/-- The reference's convolution. -/
def conv {F : FTy → Type} [FloatOps F] (x : S4096x3200.Idx → Elt F .f32) (w : S8x256.Idx → Elt F .f32) : S4096x256.Idx → Elt F .f32 :=
  shapeCast _ (mulf (gate x) (addf (addf
    (mulf (tap w 0 Cert.ConvFRefIdeal.Gen.slices_S8x256_S1x256_0_0) (concatenate Cert.ConvFRefIdeal.S2x2048x256 1
      [⟨Cert.ConvFRefIdeal.S2x2x256, broadcastInDim Cert.ConvFRefIdeal.S2x2x256 ![] Cert.ConvFRefIdeal.Gen.bcast_S_S2x2x256 (constant Cert.ConvFRefIdeal.S_ .f32 0x00000000#32)⟩,
        ⟨Cert.ConvFRefIdeal.S2x2046x256, extractStridedSlice Cert.ConvFRefIdeal.S2x2046x256 ![0, 0, 0] (prod x) Cert.ConvFRefIdeal.Gen.slices_S2x2048x256_S2x2046x256_0_0_0⟩]
      Cert.ConvFRefIdeal.Gen.concatenates_S2x2x256_S2x2046x256_S2x2048x256_d1))
    (mulf (tap w 1 Cert.ConvFRefIdeal.Gen.slices_S8x256_S1x256_1_0) (concatenate Cert.ConvFRefIdeal.S2x2048x256 1
      [⟨Cert.ConvFRefIdeal.S2x1x256, broadcastInDim Cert.ConvFRefIdeal.S2x1x256 ![] Cert.ConvFRefIdeal.Gen.bcast_S_S2x1x256 (constant Cert.ConvFRefIdeal.S_ .f32 0x00000000#32)⟩,
        ⟨Cert.ConvFRefIdeal.S2x2047x256, extractStridedSlice Cert.ConvFRefIdeal.S2x2047x256 ![0, 0, 0] (prod x) Cert.ConvFRefIdeal.Gen.slices_S2x2048x256_S2x2047x256_0_0_0⟩]
      Cert.ConvFRefIdeal.Gen.concatenates_S2x1x256_S2x2047x256_S2x2048x256_d1)))
    (mulf (tap w 2 Cert.ConvFRefIdeal.Gen.slices_S8x256_S1x256_2_0) (prod x)))) Cert.ConvFRefIdeal.Gen.shapeCasts_S2x2048x256_S4096x256

/-- `k` rows up. -/
def up (k : ℕ) (i : S2048x256.Idx) : S2048x256.Idx := ix2 ⟨(i (0 : Fin 2)).val - k, Nat.lt_of_le_of_lt (Nat.sub_le _ _) (i (0 : Fin 2)).isLt⟩ (i 1)

/-- The blocks of a point. -/
theorem idx : ∀ t : Fin cfg0.N, win0_0.index t (0 : Fin 2) = t.val ∧ win0_0.index t (1 : Fin 2) = 9
    ∧ win0_1.index t (0 : Fin 2) = t.val ∧ win0_1.index t (1 : Fin 2) = 10
    ∧ win0_2.index t (0 : Fin 2) = t.val ∧ win0_2.index t (1 : Fin 2) = 11
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

variable (m : (ℓ : Loc nD τ sig) → Buf (Elt Ideal) ℓ)

/-- Where in the projection an element of a block stands, whose columns start at `o`. -/
def at0 (o : ℕ) (ho : o ≤ 2944) (t : Fin cfg0.N) (i : S2048x256.Idx) : S4096x3200.Idx :=
  ix2 ⟨t.val * 2048 + (i (0 : Fin 2)).val, by have := t.isLt; have : cfg0.N = 2 := N_0; have : (i (0 : Fin 2)).val < 2048 := (i (0 : Fin 2)).isLt; omega⟩
    ⟨o + (i (1 : Fin 2)).val, by have : (i (1 : Fin 2)).val < 256 := (i (1 : Fin 2)).isLt; omega⟩

/-- The blocks of the projection. -/
theorem fill0 (c : Dev nD) (t : Fin cfg0.N) (i : S2048x256.Idx) : X0_0 m c t i
    = m ((c : Thread nD τ).loc main_arg0) (at0 2304 (by decide) t i) := by
  unfold X0_0 Pipeline.Window.fill
  rw [dif_pos (moved0_0 t i)]
  blk_point [iblk, V, idx t, at0]

theorem fill1 (c : Dev nD) (t : Fin cfg0.N) (i : S2048x256.Idx) : X0_1 m c t i
    = m ((c : Thread nD τ).loc main_arg0) (at0 2560 (by decide) t i) := by
  unfold X0_1 Pipeline.Window.fill
  rw [dif_pos (moved0_1 t i)]
  blk_point [iblk, V, idx t, at0]

theorem fill2 (c : Dev nD) (t : Fin cfg0.N) (i : S2048x256.Idx) : X0_2 m c t i
    = m ((c : Thread nD τ).loc main_arg0) (at0 2816 (by decide) t i) := by
  unfold X0_2 Pipeline.Window.fill
  rw [dif_pos (moved0_2 t i)]
  blk_point [iblk, V, idx t, at0]

/-- What a point computes, at a row and a column. -/
theorem pay_apply (v1 v2 : Vec Ideal S2048x256 .f32) (v4 v7 v16 : Vec Ideal S1x256 .f32) (v25 : Vec Ideal S2048x256 .f32) (i : S2048x256.Idx) :
    k0_pay1 v1 v2 v4 v7 v16 v25 i = ((v25 i : EReal) * ((v4 (ix2 0 (i 1)) : EReal) * ((v1 i : EReal) * v2 i)
      + (v7 (ix2 0 (i 1)) : EReal) * (if 1 ≤ (i (0 : Fin 2)).val then ((v1 (up 1 i) : EReal) * v2 (up 1 i)) else 0)
      + (v16 (ix2 0 (i 1)) : EReal) * (if 2 ≤ (i (0 : Fin 2)).val then ((v1 (up 2 i) : EReal) * v2 (up 2 i)) else 0)) : EReal) := by
  have hi : (i (0 : Fin 2)).val < 2048 := (i (0 : Fin 2)).isLt
  pointwise [k0_pay1]
  rw [select_ge _ 1 _ _ (Nat.lt_trans hi (by norm_num)) (by norm_num), select_ge _ 2 _ _ (Nat.lt_trans hi (by norm_num)) (by norm_num)]
  have e1 : 1 ≤ (i (0 : Fin 2)).val → (ix2 ⟨((i (0 : Fin 2)).val + 2048 - 1) % 2048, Nat.mod_lt _ (by norm_num)⟩ (i 1) : S2048x256.Idx) = up 1 i :=
    fun h => congrArg (fun r => (ix2 r (i 1) : S2048x256.Idx)) (Fin.ext (by show _ % 2048 = _ - 1; omega))
  have e2 : 2 ≤ (i (0 : Fin 2)).val → (ix2 ⟨((i (0 : Fin 2)).val + 2048 - 2) % 2048, Nat.mod_lt _ (by norm_num)⟩ (i 1) : S2048x256.Idx) = up 2 i :=
    fun h => congrArg (fun r => (ix2 r (i 1) : S2048x256.Idx)) (Fin.ext (by show _ % 2048 = _ - 2; omega))
  refine congrArg₂ (· * ·) rfl (congrArg₂ (· + ·) (congrArg₂ (· + ·) rfl ?_) ?_)
  · by_cases h : 1 ≤ (i (0 : Fin 2)).val
    · rw [if_pos h, if_pos h, e1 h]
    · rw [if_neg h, if_neg h, mul_zero]
  · by_cases h : 2 ≤ (i (0 : Fin 2)).val
    · rw [if_pos h, if_pos h, e2 h]
    · rw [if_neg h, if_neg h, mul_zero]

/-- The array after the run is the reference's convolution. -/
theorem final (c : Dev nD) :
    (dats m 0 c).arrAt 4 cfg0.N = conv (F := Ideal) (m ((c : Thread nD τ).loc main_arg0)) (m ((c : Thread nD τ).loc main_arg1)) := by
  refine (dats m 0 c).arrAt_eq_of_covers 4 _ (by decide +kernel) fun t hf y => ?_
  blk_simp
  rw [after0_4]
  unfold outsAt0
  frame_out
  revert y
  change ∀ y : S2048x256.Idx, _
  intro y
  rw [pay_apply]
  pointwise [conv, gate, prod, tap]
  simp only [fill0, fill1, fill2, at0, up]
  have hy : (y (0 : Fin 2)).val < 2048 := (y (0 : Fin 2)).isLt
  refine mul_rev ?_ (mul_ite ?_ ?_ fun h => ?_) (mul_ite ?_ ?_ fun h => ?_) ?_
  · blk_point [idx t]
  · blk_point [iblk, V, idx t]
  · blk_simp [idx t]; exact lt_iff hy (by norm_num)
  · blk_point [idx t]
  · blk_point [iblk, V, idx t]
  · blk_simp [idx t]; exact lt_iff hy (by norm_num)
  · blk_point [idx t]
  · blk_point [iblk, V, idx t]

theorem frame : Cert.quiescent_ConvF := fun m g _ => Cert.ConvF.Gen.frame m g

theorem frame_ideal : Cert.quiescent_ConvFIdeal := fun m g _ => Cert.ConvFIdeal.Gen.frame m g

theorem frame_ref_ideal : Cert.quiescent_ConvFRefIdeal := fun m g _ =>
  (θ_run (Cert.ConvFRefIdeal.defs (F := Ideal)) _ _).mono (fun r h => ⟨fun c => (h c).2, sem_eq_zero_of_no_sems rfl r.2⟩)
    (Cert.ConvFRefIdeal.Value.run (F := Ideal) m g)

/-- Over the extended reals the call computes the reference's convolution. -/
theorem value_ideal : Cert.algebraic_ConvFIdeal_ConvFRefIdeal := fun m g m' g' _ hx =>
  ⟨_, (θ_run defs _ _).mono (fun r h c => ⟨(h c).1.trans (final m c), (h c).2⟩) (run_blocks m g),
    (θ_run (Cert.ConvFRefIdeal.defs (F := Ideal)) _ _).mono
      (fun r h c => ⟨(h c).1.trans (by rw [(hx c).1, (hx c).2]; rfl), (h c).2⟩) (Cert.ConvFRefIdeal.Value.run (F := Ideal) m' g')⟩

end Cert.ConvFProof

end
-- ==== Proof.DilClaims.lean ====
/-
The claims about the dilated attention's two calls that are sums and products alone: the heads' row sums that its derivative
starts from, and the mixing of its three patterns. A call takes one sequence and two heads at a point.
-/
module

public import proofs.«01_k».proof.Defs
public import proofs.«01_k».proof.Proof.Gen.DilD.Frame
public import proofs.«01_k».proof.Proof.Gen.DilDIdeal.Frame
public import proofs.«01_k».proof.Proof.Gen.DilDIdeal.Value
public import proofs.«01_k».proof.Proof.Gen.DilDRefIdeal.Run
public import proofs.«01_k».proof.Proof.Gen.DilM.Frame
public import proofs.«01_k».proof.Proof.Gen.DilMIdeal.Frame
public import proofs.«01_k».proof.Proof.Gen.DilMIdeal.Value
public import proofs.«01_k».proof.Proof.Gen.DilMRefIdeal.Run
public import Idealize.ShloMosaic.Lib.Pipeline.ValueKit.Point
public import Idealize.ShloMosaic.Lib.Quiescent

@[expose] public section

set_option Elab.async false

noncomputable section

open Idealize.ShloMosaic Idealize.ShloMosaic.TcCoe Idealize.SL.Sem

namespace Cert.DilLemmas

/-- Whether a lane lies between two others. -/
theorem select_lane {α : Type} (l p q : ℕ) (a b : α) (hl : l < 2147483648) (hp : p < 2147483648) (hq : q < 2147483648) :
    Scalar.select (IntOp.andi (IntOp.cmpi .sge (BitVec.ofNat 32 l) (BitVec.ofNat 32 p)) (IntOp.cmpi .slt (BitVec.ofNat 32 l) (BitVec.ofNat 32 q))) a b
      = if p ≤ l ∧ l < q then a else b := by
  have e : ∀ n : ℕ, n < 2147483648 → (BitVec.ofNat 32 n).toInt = n := fun n hn => by
    rw [BitVec.toInt_eq_toNat_of_lt (by rw [BitVec.toNat_ofNat]; omega), BitVec.toNat_ofNat, Nat.mod_eq_of_lt (by omega)]
  by_cases h1 : p ≤ l <;> by_cases h2 : l < q <;>
    simp [Scalar.select, IntOp.andi, IntOp.cmpi, BitVec.sle, BitVec.slt, e l hl, e p hp, e q hq, h1, h2]

/-- A sum over 128 lanes of what the first 64 hold. -/
theorem sum_low (f : Fin 128 → EReal) :
    (∑ l : Fin 128, if 0 ≤ l.val ∧ l.val < 64 then f l else 0) = ∑ d : Fin 64, f ⟨d.val, by omega⟩ := by
  rw [show (∑ l : Fin 128, if 0 ≤ l.val ∧ l.val < 64 then f l else 0) = _ from Fin.sum_univ_add (a := 64) (b := 64) fun l : Fin (64 + 64) => if 0 ≤ l.val ∧ l.val < 64 then f l else 0]
  rw [Finset.sum_congr rfl fun d _ => if_pos ⟨Nat.zero_le _, d.isLt⟩,
    Finset.sum_congr rfl fun (d : Fin 64) _ => if_neg (show ¬(0 ≤ (Fin.natAdd 64 d).val ∧ (Fin.natAdd 64 d).val < 64) from fun h => by
      have := h.2; simp at this)]
  rw [Finset.sum_const_zero, add_zero]
  rfl

/-- A sum over 128 lanes of what the last 64 hold. -/
theorem sum_high (f : Fin 128 → EReal) :
    (∑ l : Fin 128, if 64 ≤ l.val ∧ l.val < 128 then f l else 0) = ∑ d : Fin 64, f ⟨64 + d.val, by omega⟩ := by
  rw [show (∑ l : Fin 128, if 64 ≤ l.val ∧ l.val < 128 then f l else 0) = _ from Fin.sum_univ_add (a := 64) (b := 64) fun l : Fin (64 + 64) => if 64 ≤ l.val ∧ l.val < 128 then f l else 0]
  rw [Finset.sum_congr rfl fun (d : Fin 64) _ => if_neg (show ¬(64 ≤ (Fin.castAdd 64 d).val ∧ (Fin.castAdd 64 d).val < 128) from fun h => by
      have := h.1; simp at this; omega),
    Finset.sum_congr rfl fun (d : Fin 64) _ => if_pos (show 64 ≤ (Fin.natAdd 64 d).val ∧ (Fin.natAdd 64 d).val < 128 from by simp; omega)]
  rw [Finset.sum_const_zero, zero_add]
  rfl

end Cert.DilLemmas

/-! ## The heads' row sums -/

namespace Cert.DilDProof

open Cert.DilDIdeal Cert.DilDIdeal.Gen Cert.DilDIdeal.Value Cert.DilLemmas

variable (m : (ℓ : Loc nD τ sig) → Buf (Elt Ideal) ℓ)

/-- The sum, over a head's columns, of the derivative times the output, in all 128 lanes. -/
def rows {F : FTy → Type} [FloatOps F] (d : S4096x1024.Idx → Elt F .f32) (o : S4096x256.Idx → Elt F .f32) : S2x4x2048x128.Idx → Elt F .f32 :=
  broadcastInDim S2x4x2048x128 ![0, 1, 2, 3] Cert.DilDRefIdeal.Gen.bcast_S2x4x2048x1_S2x4x2048x128_0_1_2_3
    (broadcastInDim Cert.DilDRefIdeal.S2x4x2048x1 ![0, 1, 2] Cert.DilDRefIdeal.Gen.bcast_S2x4x2048_S2x4x2048x1_0_1_2
      (transpose Cert.DilDRefIdeal.S2x4x2048 [0, 2, 1]
        (Host.reduceAdd (shapeCast _ (mulf (extractStridedSlice S4096x256 ![0, 256] d Cert.DilDRefIdeal.Gen.slices_S4096x1024_S4096x256_0_256) o)
            Cert.DilDRefIdeal.Gen.shapeCasts_S4096x256_S2x2048x4x64)
          (constant Cert.DilDRefIdeal.S_ .f32 0x00000000#32) Cert.DilDRefIdeal.Gen.reducesTo_S2x2048x4x64_S2x2048x4_d3 Cert.DilDRefIdeal.Gen.h_S_)
        Cert.DilDRefIdeal.Gen.transposes_S2x2048x4_S2x4x2048_0_2_1))

/-- The blocks of a point. -/
theorem idx : ∀ t : Fin cfg0.N, win0_0.index t (0 : Fin 2) = t.val / 2 ∧ win0_0.index t (1 : Fin 2) = 2 + t.val % 2
    ∧ win0_1.index t (0 : Fin 2) = t.val / 2 ∧ win0_1.index t (1 : Fin 2) = t.val % 2
    ∧ win0_2.index t (0 : Fin 4) = t.val / 2 ∧ win0_2.index t (1 : Fin 4) = t.val % 2
    ∧ win0_2.index t (2 : Fin 4) = 0 ∧ win0_2.index t (3 : Fin 4) = 0 :=
  (by decide +kernel : ∀ t : Fin grid0.N, _)

/-- What a point puts under its first head. -/
theorem low_apply (v0 v1 : Vec Ideal S2048x128 .f32) (x : S1x1x2048x128.Idx) :
    k0_pay2 v0 v1 x = (∑ d : Fin 64, (v0 (ix2 (x 2) ⟨d.val, by omega⟩) : EReal) * v1 (ix2 (x 2) ⟨d.val, by omega⟩) : EReal) := by
  pointwise [k0_pay2, k0_pay1]
  exact (Finset.sum_congr rfl fun l _ => select_lane l.val 0 64 _ _ (by omega) (by norm_num) (by norm_num)).trans
    (sum_low fun l => (v0 (ix2 (x 2) l) : EReal) * v1 (ix2 (x 2) l))

/-- What a point puts under its second head. -/
theorem high_apply (v0 v1 : Vec Ideal S2048x128 .f32) (x : S1x1x2048x128.Idx) :
    k0_pay3 v0 v1 x = (∑ d : Fin 64, (v0 (ix2 (x 2) ⟨64 + d.val, by omega⟩) : EReal) * v1 (ix2 (x 2) ⟨64 + d.val, by omega⟩) : EReal) := by
  pointwise [k0_pay3, k0_pay1]
  exact (Finset.sum_congr rfl fun l _ => select_lane l.val 64 128 _ _ (by omega) (by norm_num) (by norm_num)).trans
    (sum_high fun l => (v0 (ix2 (x 2) l) : EReal) * v1 (ix2 (x 2) l))

/-- A block of the derivative, at a row and a lane. -/
theorem blk0 (c : Dev nD) (t : Fin cfg0.N) (i : S2048x128.Idx) : View.ld (iblk m c 0 t) r0_0 i
    = m ((c : Thread nD τ).loc main_arg0) (ix2 ⟨t.val / 2 * 2048 + (i (0 : Fin 2)).val, by have := t.isLt; have e : cfg0.N = 4 := N_0; have := (i (0 : Fin 2)).isLt; simp at this; omega⟩
      ⟨(2 + t.val % 2) * 128 + (i (1 : Fin 2)).val, by have := (i (1 : Fin 2)).isLt; simp at this; omega⟩) := by
  blk_point [iblk, V, idx t]

/-- A block of the output, at a row and a lane. -/
theorem blk1 (c : Dev nD) (t : Fin cfg0.N) (i : S2048x128.Idx) : View.ld (iblk m c 1 t) r0_0 i
    = m ((c : Thread nD τ).loc main_arg1) (ix2 ⟨t.val / 2 * 2048 + (i (0 : Fin 2)).val, by have := t.isLt; have e : cfg0.N = 4 := N_0; have := (i (0 : Fin 2)).isLt; simp at this; omega⟩
      ⟨t.val % 2 * 128 + (i (1 : Fin 2)).val, by have := (i (1 : Fin 2)).isLt; simp at this; omega⟩) := by
  blk_point [iblk, V, idx t]

/-- The reference's row sums, at an index whose coordinates are known. -/
theorem rows_apply (d : S4096x1024.Idx → EReal) (o : S4096x256.Idx → EReal) (y : S2x4x2048x128.Idx) (b h r : ℕ) (hb : b < 2) (hh : h < 4) (hr : r < 2048)
    (h0 : (y (0 : Fin 4)).val = b) (h1 : (y (1 : Fin 4)).val = h) (h2 : (y (2 : Fin 4)).val = r) :
    rows (F := Ideal) d o y = (∑ l : Fin 64, d (ix2 ⟨b * 2048 + r, by omega⟩ ⟨256 + (h * 64 + l.val), by omega⟩)
      * o (ix2 ⟨b * 2048 + r, by omega⟩ ⟨h * 64 + l.val, by omega⟩) : EReal) := by
  subst h0 h1 h2
  pointwise [rows]

/-- The array after the run is the reference's row sums. -/
theorem final (c : Dev nD) :
    (dats m 0 c).arrAt 2 cfg0.N = rows (F := Ideal) (m ((c : Thread nD τ).loc main_arg0)) (m ((c : Thread nD τ).loc main_arg1)) := by
  refine (dats m 0 c).arrAt_eq_of_covers 2 _ (by decide +kernel) fun t hf y => ?_
  have ht : t.val < 4 := Nat.lt_of_lt_of_eq t.isLt N_0
  blk_simp
  rw [after0_2]
  canon_tiles x h
  · rw [high_apply, rows_apply _ _ _ (t.val / 2) (t.val % 2 * 2 + 1) (x 2).val (by omega) (by omega) x2_lt
      (by blk_simp [idx t]) (by blk_simp [idx t]; omega) (by blk_simp [idx t]; omega)]
    refine Finset.sum_congr rfl fun d _ => ?_
    rw [blk0, blk1]
    refine congrArg₂ (· * ·) (congrArg (m ((c : Thread nD τ).loc main_arg0)) ?_) (congrArg (m ((c : Thread nD τ).loc main_arg1)) ?_)
    · exact congrArg₂ ix2 (Fin.ext rfl) (Fin.ext (by show (2 + t.val % 2) * 128 + (64 + d.val) = 256 + ((t.val % 2 * 2 + 1) * 64 + d.val); omega))
    · exact congrArg₂ ix2 (Fin.ext rfl) (Fin.ext (by show t.val % 2 * 128 + (64 + d.val) = (t.val % 2 * 2 + 1) * 64 + d.val; omega))
  · rw [low_apply, rows_apply _ _ _ (t.val / 2) (t.val % 2 * 2) (x 2).val (by omega) (by omega) x2_lt
      (by blk_simp [idx t]) (by blk_simp [idx t]; omega) (by blk_simp [idx t]; omega)]
    refine Finset.sum_congr rfl fun d _ => ?_
    rw [blk0, blk1]
    refine congrArg₂ (· * ·) (congrArg (m ((c : Thread nD τ).loc main_arg0)) ?_) (congrArg (m ((c : Thread nD τ).loc main_arg1)) ?_)
    · exact congrArg₂ ix2 (Fin.ext rfl) (Fin.ext (by show (2 + t.val % 2) * 128 + d.val = 256 + (t.val % 2 * 2 * 64 + d.val); omega))
    · exact congrArg₂ ix2 (Fin.ext rfl) (Fin.ext (by show t.val % 2 * 128 + d.val = t.val % 2 * 2 * 64 + d.val; omega))

theorem frame : Cert.quiescent_DilD := fun m g _ => Cert.DilD.Gen.frame m g

theorem frame_ideal : Cert.quiescent_DilDIdeal := fun m g _ => Cert.DilDIdeal.Gen.frame m g

theorem frame_ref_ideal : Cert.quiescent_DilDRefIdeal := fun m g _ =>
  (θ_run (Cert.DilDRefIdeal.defs (F := Ideal)) _ _).mono (fun r h => ⟨fun c => (h c).2, sem_eq_zero_of_no_sems rfl r.2⟩)
    (Cert.DilDRefIdeal.Value.run (F := Ideal) m g)

/-- Over the extended reals the call computes the reference's row sums. -/
theorem value_ideal : Cert.algebraic_DilDIdeal_DilDRefIdeal := fun m g m' g' _ hx =>
  ⟨_, (θ_run defs _ _).mono (fun r h c => ⟨(h c).1.trans (final m c), (h c).2⟩) (run_blocks m g),
    (θ_run (Cert.DilDRefIdeal.defs (F := Ideal)) _ _).mono
      (fun r h c => ⟨(h c).1.trans (by rw [(hx c).1, (hx c).2]; rfl), (h c).2⟩) (Cert.DilDRefIdeal.Value.run (F := Ideal) m' g')⟩

end Cert.DilDProof

/-! ## The mixing -/

namespace Cert.DilMProof

open Cert.DilMIdeal Cert.DilMIdeal.Gen Cert.DilMIdeal.Value Cert.DilLemmas

variable (m : (ℓ : Loc nD τ sig) → Buf (Elt Ideal) ℓ)

/-- The largest of the three patterns' numbers. -/
def top {F : FTy → Type} [FloatOps F] (l : S3x2x4x2048x128.Idx → Elt F .f32) : S2x4x2048x128.Idx → Elt F .f32 :=
  Host.reduce FloatOps.maximumf l (constant Cert.DilMRefIdeal.S_ .f32 0xFF800000#32) Cert.DilMRefIdeal.Gen.reducesTo_S3x2x4x2048x128_S2x4x2048x128_d0 Cert.DilMRefIdeal.Gen.h_S_

/-- The patterns' weights. -/
def wts {F : FTy → Type} [FloatOps F] (l : S3x2x4x2048x128.Idx → Elt F .f32) : S3x2x4x2048x128.Idx → Elt F .f32 :=
  Host.exp (subf l (broadcastInDim S3x2x4x2048x128 ![0, 1, 2, 3, 4] Cert.DilMRefIdeal.Gen.bcast_S1x2x4x2048x128_S3x2x4x2048x128_0_1_2_3_4
    (broadcastInDim Cert.DilMRefIdeal.S1x2x4x2048x128 ![1, 2, 3, 4] Cert.DilMRefIdeal.Gen.bcast_S2x4x2048x128_S1x2x4x2048x128_1_2_3_4 (top l))))

/-- Their sum. -/
def den {F : FTy → Type} [FloatOps F] (l : S3x2x4x2048x128.Idx → Elt F .f32) : S2x4x2048x128.Idx → Elt F .f32 :=
  Host.reduceAdd (wts l) (constant Cert.DilMRefIdeal.S_ .f32 0x00000000#32) Cert.DilMRefIdeal.Gen.reducesTo_S3x2x4x2048x128_S2x4x2048x128_d0 Cert.DilMRefIdeal.Gen.h_S_

/-- The mixed patterns' numbers. -/
def mixed {F : FTy → Type} [FloatOps F] (l : S3x2x4x2048x128.Idx → Elt F .f32) : S2x4x2048x128.Idx → Elt F .f32 :=
  addf (top l) (Host.log (den l))

/-- The columns of the four heads side by side, from each head's own 64 lanes of every pattern. -/
def lanes3 {F : FTy → Type} [FloatOps F] (w : S3x2x4x2048x128.Idx → Elt F .f32) : Cert.DilMRefIdeal.S3x2x2048x256.Idx → Elt F .f32 :=
  concatenate Cert.DilMRefIdeal.S3x2x2048x256 3
    [⟨Cert.DilMRefIdeal.S3x2x2048x64, shapeCast _ (extractStridedSlice Cert.DilMRefIdeal.S3x2x1x2048x64 ![0, 0, 0, 0, 0] w
        Cert.DilMRefIdeal.Gen.slices_S3x2x4x2048x128_S3x2x1x2048x64_0_0_0_0_0) Cert.DilMRefIdeal.Gen.shapeCasts_S3x2x1x2048x64_S3x2x2048x64⟩,
      ⟨Cert.DilMRefIdeal.S3x2x2048x64, shapeCast _ (extractStridedSlice Cert.DilMRefIdeal.S3x2x1x2048x64 ![0, 0, 1, 0, 64] w
        Cert.DilMRefIdeal.Gen.slices_S3x2x4x2048x128_S3x2x1x2048x64_0_0_1_0_64) Cert.DilMRefIdeal.Gen.shapeCasts_S3x2x1x2048x64_S3x2x2048x64⟩,
      ⟨Cert.DilMRefIdeal.S3x2x2048x64, shapeCast _ (extractStridedSlice Cert.DilMRefIdeal.S3x2x1x2048x64 ![0, 0, 2, 0, 0] w
        Cert.DilMRefIdeal.Gen.slices_S3x2x4x2048x128_S3x2x1x2048x64_0_0_2_0_0) Cert.DilMRefIdeal.Gen.shapeCasts_S3x2x1x2048x64_S3x2x2048x64⟩,
      ⟨Cert.DilMRefIdeal.S3x2x2048x64, shapeCast _ (extractStridedSlice Cert.DilMRefIdeal.S3x2x1x2048x64 ![0, 0, 3, 0, 64] w
        Cert.DilMRefIdeal.Gen.slices_S3x2x4x2048x128_S3x2x1x2048x64_0_0_3_0_64) Cert.DilMRefIdeal.Gen.shapeCasts_S3x2x1x2048x64_S3x2x2048x64⟩]
    Cert.DilMRefIdeal.Gen.concatenates_S3x2x2048x64_S3x2x2048x64_S3x2x2048x64_S3x2x2048x64_S3x2x2048x256_d3

/-- The same columns, from an array that has no patterns. -/
def lanes {F : FTy → Type} [FloatOps F] (w : S2x4x2048x128.Idx → Elt F .f32) : Cert.DilMRefIdeal.S2x2048x256.Idx → Elt F .f32 :=
  concatenate Cert.DilMRefIdeal.S2x2048x256 2
    [⟨Cert.DilMRefIdeal.S2x2048x64, shapeCast _ (extractStridedSlice Cert.DilMRefIdeal.S2x1x2048x64 ![0, 0, 0, 0] w
        Cert.DilMRefIdeal.Gen.slices_S2x4x2048x128_S2x1x2048x64_0_0_0_0) Cert.DilMRefIdeal.Gen.shapeCasts_S2x1x2048x64_S2x2048x64⟩,
      ⟨Cert.DilMRefIdeal.S2x2048x64, shapeCast _ (extractStridedSlice Cert.DilMRefIdeal.S2x1x2048x64 ![0, 1, 0, 64] w
        Cert.DilMRefIdeal.Gen.slices_S2x4x2048x128_S2x1x2048x64_0_1_0_64) Cert.DilMRefIdeal.Gen.shapeCasts_S2x1x2048x64_S2x2048x64⟩,
      ⟨Cert.DilMRefIdeal.S2x2048x64, shapeCast _ (extractStridedSlice Cert.DilMRefIdeal.S2x1x2048x64 ![0, 2, 0, 0] w
        Cert.DilMRefIdeal.Gen.slices_S2x4x2048x128_S2x1x2048x64_0_2_0_0) Cert.DilMRefIdeal.Gen.shapeCasts_S2x1x2048x64_S2x2048x64⟩,
      ⟨Cert.DilMRefIdeal.S2x2048x64, shapeCast _ (extractStridedSlice Cert.DilMRefIdeal.S2x1x2048x64 ![0, 3, 0, 64] w
        Cert.DilMRefIdeal.Gen.slices_S2x4x2048x128_S2x1x2048x64_0_3_0_64) Cert.DilMRefIdeal.Gen.shapeCasts_S2x1x2048x64_S2x2048x64⟩]
    Cert.DilMRefIdeal.Gen.concatenates_S2x2048x64_S2x2048x64_S2x2048x64_S2x2048x64_S2x2048x256_d2

/-- The patterns' outputs, weighted, summed and divided by the weights' sum. -/
def out {F : FTy → Type} [FloatOps F] (o : S3x2x2048x256.Idx → Elt F .f32) (l : S3x2x4x2048x128.Idx → Elt F .f32) : S4096x256.Idx → Elt F .f32 :=
  shapeCast _ (Host.divf (Host.reduceAdd (mulf (lanes3 (wts l)) o) (constant Cert.DilMRefIdeal.S_ .f32 0x00000000#32)
    Cert.DilMRefIdeal.Gen.reducesTo_S3x2x2048x256_S2x2048x256_d0 Cert.DilMRefIdeal.Gen.h_S_) (lanes (den l))) Cert.DilMRefIdeal.Gen.shapeCasts_S2x2048x256_S4096x256

/-- The largest of three. -/
def big (a b c : EReal) : EReal := max (max a b) c

/-- The weighted mean of three. -/
def mean (a b c p q r : EReal) : EReal :=
  Ideal.div (Ideal.exp (a - big a b c) * p + Ideal.exp (b - big a b c) * q + Ideal.exp (c - big a b c) * r)
    (Ideal.exp (a - big a b c) + Ideal.exp (b - big a b c) + Ideal.exp (c - big a b c))

/-- The sum of three weights. -/
def tot (a b c : EReal) : EReal := Ideal.exp (a - big a b c) + Ideal.exp (b - big a b c) + Ideal.exp (c - big a b c)

theorem top_apply (l : S3x2x4x2048x128.Idx → EReal) (b : Fin 2) (h : Fin 4) (r : Fin 2048) (e : Fin 128) :
   top (F := Ideal) l (ix4 b h r e) = big (l (ix5 0 b h r e)) (l (ix5 1 b h r e)) (l (ix5 2 b h r e)) := by
  pointwise [top]
  rw [show Ideal.ofBits .f32 4286578688#32 = (⊥ : EReal) from by simp [Ideal.ofBits, Ideal.ieee]]
  show Finset.univ.sup (fun x : Fin 3 => l (ix5 x b h r e)) = _
  simp [Fin.univ_succ, big, max_assoc]

theorem wts_apply (l : S3x2x4x2048x128.Idx → EReal) (q : Fin 3) (b : Fin 2) (h : Fin 4) (r : Fin 2048) (e : Fin 128) :
   wts (F := Ideal) l (ix5 q b h r e) = (Ideal.exp (l (ix5 q b h r e) - top (F := Ideal) l (ix4 b h r e)) : EReal) := by
  pointwise [wts]

theorem den_apply (l : S3x2x4x2048x128.Idx → EReal) (b : Fin 2) (h : Fin 4) (r : Fin 2048) (e : Fin 128) :
   den (F := Ideal) l (ix4 b h r e) = tot (l (ix5 0 b h r e)) (l (ix5 1 b h r e)) (l (ix5 2 b h r e)) := by
  have e1 : den (F := Ideal) l (ix4 b h r e) = (wts (F := Ideal) l (ix5 0 b h r e) + wts (F := Ideal) l (ix5 1 b h r e)
     + wts (F := Ideal) l (ix5 2 b h r e) : EReal) := by
    pointwise [den]
    exact Fin.sum_univ_three _
  rw [e1, wts_apply, wts_apply, wts_apply, top_apply]
  rfl

theorem add_log (a b : S2x4x2048x128.Idx → EReal) (y : S2x4x2048x128.Idx) :
    addf (F := Ideal) (φ := .f32) a (Host.log (F := Ideal) (φ := .f32) b) y = (a y + Ideal.log (b y) : EReal) := by
  pointwise

theorem mixed_apply (l : S3x2x4x2048x128.Idx → EReal) (b : Fin 2) (h : Fin 4) (r : Fin 2048) (e : Fin 128) :
    mixed (F := Ideal) l (ix4 b h r e) = (big (l (ix5 0 b h r e)) (l (ix5 1 b h r e)) (l (ix5 2 b h r e))
      + Ideal.log (tot (l (ix5 0 b h r e)) (l (ix5 1 b h r e)) (l (ix5 2 b h r e))) : EReal) := by
  unfold mixed
  rw [add_log, top_apply, den_apply]

theorem lanes3_apply (w : S3x2x4x2048x128.Idx → EReal) (q : Fin 3) (b : Fin 2) (r : Fin 2048) (k : Fin 256) :
    lanes3 (F := Ideal) w (ix4 q b r k) = w (ix5 q b ⟨k.val / 64, by omega⟩ r ⟨k.val % 128, by omega⟩) := by
  pointwise [lanes3]
  split_ifs with h1 h2 h3 <;>
    exact congrArg₂ (fun h e => w (ix5 q b h r e)) (Fin.ext (by simp only [Fin.val_ofNat, Fin.val_zero, Fin.val_one]; omega)) (Fin.ext (by simp only []; omega))

theorem lanes_apply (w : S2x4x2048x128.Idx → EReal) (b : Fin 2) (r : Fin 2048) (k : Fin 256) :
    lanes (F := Ideal) w (ix3 b r k) = w (ix4 b ⟨k.val / 64, by omega⟩ r ⟨k.val % 128, by omega⟩) := by
  pointwise [lanes]
  split_ifs with h1 h2 h3 <;>
    exact congrArg₂ (fun h e => w (ix4 b h r e)) (Fin.ext (by simp only [Fin.val_ofNat, Fin.val_zero, Fin.val_one]; omega)) (Fin.ext (by simp only []; omega))

theorem out_apply (o : S3x2x2048x256.Idx → EReal) (l : S3x2x4x2048x128.Idx → EReal) (b : Fin 2) (r : Fin 2048) (k : Fin 256) (h : Fin 4) (e : Fin 128)
    (hh : k.val / 64 = h.val) (he : k.val % 128 = e.val) :
    out (F := Ideal) o l (ix2 ⟨b.val * 2048 + r.val, by omega⟩ k)
      = mean (l (ix5 0 b h r e)) (l (ix5 1 b h r e)) (l (ix5 2 b h r e)) (o (ix4 0 b r k)) (o (ix4 1 b r k)) (o (ix4 2 b r k)) := by
  have e1 : out (F := Ideal) o l (ix2 ⟨b.val * 2048 + r.val, by omega⟩ k)
      = (Ideal.div (lanes3 (F := Ideal) (wts (F := Ideal) l) (ix4 0 b r k) * o (ix4 0 b r k) + lanes3 (F := Ideal) (wts (F := Ideal) l) (ix4 1 b r k) * o (ix4 1 b r k)
        + lanes3 (F := Ideal) (wts (F := Ideal) l) (ix4 2 b r k) * o (ix4 2 b r k)) (lanes (F := Ideal) (den (F := Ideal) l) (ix3 b r k)) : EReal) := by
    pointwise [out]
    exact congrArg (fun s => Ideal.div s _) (Fin.sum_univ_three _)
  have eh : (⟨k.val / 64, by omega⟩ : Fin 4) = h := Fin.ext hh
  have ee : (⟨k.val % 128, by omega⟩ : Fin 128) = e := Fin.ext he
  rw [e1, lanes3_apply, lanes3_apply, lanes3_apply, lanes_apply, eh, ee, wts_apply, wts_apply, wts_apply, top_apply, den_apply]
  rfl

/-- The blocks of a point. -/
theorem idx : ∀ t : Fin cfg0.N, win0_0.index t (0 : Fin 4) = 0 ∧ win0_0.index t (1 : Fin 4) = t.val / 2
    ∧ win0_0.index t (2 : Fin 4) = 0 ∧ win0_0.index t (3 : Fin 4) = t.val % 2
    ∧ win0_1.index t (0 : Fin 5) = 0 ∧ win0_1.index t (1 : Fin 5) = t.val / 2 ∧ win0_1.index t (2 : Fin 5) = t.val % 2
    ∧ win0_1.index t (3 : Fin 5) = 0 ∧ win0_1.index t (4 : Fin 5) = 0
    ∧ win0_2.index t (0 : Fin 2) = t.val / 2 ∧ win0_2.index t (1 : Fin 2) = t.val % 2
    ∧ win0_3.index t (0 : Fin 4) = t.val / 2 ∧ win0_3.index t (1 : Fin 4) = t.val % 2
    ∧ win0_3.index t (2 : Fin 4) = 0 ∧ win0_3.index t (3 : Fin 4) = 0 :=
  (by decide +kernel : ∀ t : Fin grid0.N, _)

/-- What a point puts under its first head. -/
theorem low_apply (v6 v8 v11 : Vec Ideal S1x1x1x2048x128 .f32) (x : S1x1x2048x128.Idx) :
    k0_pay11 (k0_pay6 v6 v8 v11) (k0_pay7 v6 v8 v11 v6) (k0_pay8 v6 v8 v11 v8) (k0_pay9 v6 v8 v11 v11) x
      = (big (v6 (ix5 0 0 0 (x 2) (x 3))) (v8 (ix5 0 0 0 (x 2) (x 3))) (v11 (ix5 0 0 0 (x 2) (x 3)))
        + Ideal.log (tot (v6 (ix5 0 0 0 (x 2) (x 3))) (v8 (ix5 0 0 0 (x 2) (x 3))) (v11 (ix5 0 0 0 (x 2) (x 3)))) : EReal) := by
  pointwise [k0_pay11, k0_pay10, k0_pay9, k0_pay8, k0_pay7, k0_pay6]
  rfl

/-- What a point puts under its second head. -/
theorem high_apply (v6 v8 v11 : Vec Ideal S1x1x1x2048x128 .f32) (x : S1x1x2048x128.Idx) :
    k0_pay3 (k0_pay12 v6 v8 v11) (k0_pay13 v6 v8 v11 v6) (k0_pay14 v6 v8 v11 v8) (k0_pay15 v11) x
      = (big (v6 (ix5 0 0 0 (x 2) (x 3))) (v8 (ix5 0 0 0 (x 2) (x 3))) (v11 (ix5 0 0 0 (x 2) (x 3)))
        + Ideal.log (tot (v6 (ix5 0 0 0 (x 2) (x 3))) (v8 (ix5 0 0 0 (x 2) (x 3))) (v11 (ix5 0 0 0 (x 2) (x 3)))) : EReal) := by
  pointwise [k0_pay3, k0_pay2, k0_pay1, k0_pay12, k0_pay13, k0_pay14, k0_pay15]
  rfl

/-- What a point puts into its columns. -/
theorem pay_apply (v6 v8 v11 v33 v35 v38 : Vec Ideal S1x1x1x2048x128 .f32) (v63 v71 v78 : Vec Ideal S1x1x2048x128 .f32) (x : S2048x128.Idx) :
    k0_pay4 (F := Ideal) k0_pay5 (k0_pay7 v6 v8 v11 v6) (k0_pay8 v6 v8 v11 v8) (k0_pay9 v6 v8 v11 v11)
      (k0_pay10 (k0_pay7 v6 v8 v11 v6) (k0_pay8 v6 v8 v11 v8) (k0_pay9 v6 v8 v11 v11))
      (k0_pay12 v33 v35 v38) (k0_pay13 v33 v35 v38 v33) (k0_pay14 v33 v35 v38 v35) (k0_pay15 v38) v63 v71 v78 x
      = if (x (1 : Fin 2)).val < 64 then mean (v6 (ix5 0 0 0 (x 0) (x 1))) (v8 (ix5 0 0 0 (x 0) (x 1))) (v11 (ix5 0 0 0 (x 0) (x 1)))
          (v63 (ix4 0 0 (x 0) (x 1))) (v71 (ix4 0 0 (x 0) (x 1))) (v78 (ix4 0 0 (x 0) (x 1)))
        else mean (v33 (ix5 0 0 0 (x 0) (x 1))) (v35 (ix5 0 0 0 (x 0) (x 1))) (v38 (ix5 0 0 0 (x 0) (x 1)))
          (v63 (ix4 0 0 (x 0) (x 1))) (v71 (ix4 0 0 (x 0) (x 1))) (v78 (ix4 0 0 (x 0) (x 1))) := by
  have hx : (x (1 : Fin 2)).val < 128 := (x (1 : Fin 2)).isLt
  pointwise [k0_pay4, k0_pay5, k0_pay1, k0_pay2, k0_pay10, k0_pay9, k0_pay8, k0_pay7, k0_pay6, k0_pay12, k0_pay13, k0_pay14, k0_pay15]
  have hs : ∀ a b : EReal, Scalar.select (IntOp.andi (IntOp.cmpi .sge (BitVec.ofNat 32 (x (1 : Fin 2)).val) 0#32)
      (IntOp.cmpi .slt (BitVec.ofNat 32 (x (1 : Fin 2)).val) 64#32)) a b = if (x (1 : Fin 2)).val < 64 then a else b := fun a b =>
    (select_lane (x (1 : Fin 2)).val 0 64 a b (by omega) (by norm_num) (by norm_num)).trans (if_congr (by omega) rfl rfl)
  rw [hs, hs, hs, hs]
  by_cases h : (x (1 : Fin 2)).val < 64
  · rw [if_pos h, if_pos h, if_pos h, if_pos h, if_pos h]
    rfl
  · rw [if_neg h, if_neg h, if_neg h, if_neg h, if_neg h]
    rfl

/-- The block of the patterns' outputs, at a pattern, a row and a lane. -/
theorem blk0 (c : Dev nD) (t : Fin cfg0.N) (q : Fin 3) (inb) (x : S1x1x2048x128.Idx) :
    View.ld (iblk m c 0 t) (Rect.unit (s := S3x1x2048x128) ![q.val, 0, 0, 0] S1x1x2048x128.size inb) x
      = m ((c : Thread nD τ).loc main_arg0) (ix4 q ⟨t.val / 2, by have := t.isLt; have e : cfg0.N = 4 := N_0; omega⟩ (x 2)
        ⟨t.val % 2 * 128 + (x (3 : Fin 4)).val, by have : (x (3 : Fin 4)).val < 128 := (x (3 : Fin 4)).isLt; omega⟩) := by
  blk_point [iblk, V, idx t]

/-- The block of the patterns' numbers, at a pattern, a head, a row and a lane. -/
theorem blk1 (c : Dev nD) (t : Fin cfg0.N) (q : Fin 3) (h : Fin 2) (inb) (x : S1x1x1x2048x128.Idx) :
    View.ld (iblk m c 1 t) (Rect.unit (s := S3x1x2x2048x128) ![q.val, 0, h.val, 0, 0] S1x1x1x2048x128.size inb) x
      = m ((c : Thread nD τ).loc main_arg1) (ix5 q ⟨t.val / 2, by have := t.isLt; have e : cfg0.N = 4 := N_0; omega⟩
        ⟨t.val % 2 * 2 + h.val, by omega⟩ (x 3) (x 4)) := by
  blk_point [iblk, V, idx t]

/-- The reference's mixed outputs, at an index whose coordinates are known. -/
theorem out_at (o : S3x2x2048x256.Idx → EReal) (l : S3x2x4x2048x128.Idx → EReal) (z : S4096x256.Idx) (b : Fin 2) (r : Fin 2048) (k : Fin 256) (h : Fin 4) (e : Fin 128)
    (h0 : (z (0 : Fin 2)).val = b.val * 2048 + r.val) (h1 : (z (1 : Fin 2)).val = k.val) (hh : k.val / 64 = h.val) (he : k.val % 128 = e.val) :
    out (F := Ideal) o l z
      = mean (l (ix5 0 b h r e)) (l (ix5 1 b h r e)) (l (ix5 2 b h r e)) (o (ix4 0 b r k)) (o (ix4 1 b r k)) (o (ix4 2 b r k)) := by
  have hz : z = ix2 ⟨b.val * 2048 + r.val, by omega⟩ k := by
    funext a
    refine Fin.cases ?_ (fun a => Fin.cases ?_ (fun a => a.elim0) a) a
    · exact Fin.ext h0
    · exact Fin.ext h1
  rw [hz]
  exact out_apply o l b r k h e hh he

/-- The reference's mixed numbers, at an index whose coordinates are known. -/
theorem mixed_at (l : S3x2x4x2048x128.Idx → EReal) (z : S2x4x2048x128.Idx) (b : Fin 2) (h : Fin 4) (r : Fin 2048) (e : Fin 128)
    (h0 : (z (0 : Fin 4)).val = b.val) (h1 : (z (1 : Fin 4)).val = h.val) (h2 : (z (2 : Fin 4)).val = r.val) (h3 : (z (3 : Fin 4)).val = e.val) :
    mixed (F := Ideal) l z = (big (l (ix5 0 b h r e)) (l (ix5 1 b h r e)) (l (ix5 2 b h r e))
      + Ideal.log (tot (l (ix5 0 b h r e)) (l (ix5 1 b h r e)) (l (ix5 2 b h r e))) : EReal) := by
  have hz : z = ix4 b h r e := by
    funext a
    refine Fin.cases ?_ (fun a => Fin.cases ?_ (fun a => Fin.cases ?_ (fun a => Fin.cases ?_ (fun a => a.elim0) a) a) a) a
    · exact Fin.ext h0
    · exact Fin.ext h1
    · exact Fin.ext h2
    · exact Fin.ext h3
  rw [hz]
  exact mixed_apply l b h r e

/-- The mixed outputs after the run are the reference's. -/
theorem final_out (c : Dev nD) :
    (dats m 0 c).arrAt 2 cfg0.N = out (F := Ideal) (m ((c : Thread nD τ).loc main_arg0)) (m ((c : Thread nD τ).loc main_arg1)) := by
  refine (dats m 0 c).arrAt_eq_of_covers 2 _ (by decide +kernel) fun t hf y => ?_
  have ht : t.val < 4 := Nat.lt_of_lt_of_eq t.isLt N_0
  blk_simp
  rw [after0_2]
  canon_tiles x h
  refine (pay_apply _ _ _ _ _ _ _ _ _ x).trans ?_
  by_cases h : (x (1 : Fin 2)).val < 64
  · rw [if_pos h, out_at _ _ _ ⟨t.val / 2, by omega⟩ (x 0) ⟨t.val % 2 * 128 + (x (1 : Fin 2)).val, by omega⟩ ⟨t.val % 2 * 2 + (0 : Fin 2).val, by simp; omega⟩ (x 1)
      (by blk_simp [idx t]; dsimp only; omega) (by blk_simp [idx t]; dsimp only; omega)
      (by show (t.val % 2 * 128 + (x (1 : Fin 2)).val) / 64 = t.val % 2 * 2 + 0; omega) (by show (t.val % 2 * 128 + (x (1 : Fin 2)).val) % 128 = _; omega)]
    exact congr (congr (congr (congr (congr (congrArg mean (blk1 m c t 0 0 _ _)) (blk1 m c t 1 0 _ _)) (blk1 m c t 2 0 _ _)) (blk0 m c t 0 _ _)) (blk0 m c t 1 _ _)) (blk0 m c t 2 _ _)
  · rw [if_neg h, out_at _ _ _ ⟨t.val / 2, by omega⟩ (x 0) ⟨t.val % 2 * 128 + (x (1 : Fin 2)).val, by omega⟩ ⟨t.val % 2 * 2 + (1 : Fin 2).val, by simp; omega⟩ (x 1)
      (by blk_simp [idx t]; dsimp only; omega) (by blk_simp [idx t]; dsimp only; omega)
      (by show (t.val % 2 * 128 + (x (1 : Fin 2)).val) / 64 = t.val % 2 * 2 + 1; omega) (by show (t.val % 2 * 128 + (x (1 : Fin 2)).val) % 128 = _; omega)]
    exact congr (congr (congr (congr (congr (congrArg mean (blk1 m c t 0 1 _ _)) (blk1 m c t 1 1 _ _)) (blk1 m c t 2 1 _ _)) (blk0 m c t 0 _ _)) (blk0 m c t 1 _ _)) (blk0 m c t 2 _ _)

/-- Equal numbers are mixed to equal ones. -/
theorem big_congr {a a' b b' c c' : EReal} (h1 : a = a') (h2 : b = b') (h3 : c = c') :
    big a b c + Ideal.log (tot a b c) = big a' b' c' + Ideal.log (tot a' b' c') := by rw [h1, h2, h3]

/-- The mixed patterns' numbers after the run are the reference's. -/
theorem final_lse (c : Dev nD) :
    (dats m 0 c).arrAt 3 cfg0.N = mixed (F := Ideal) (m ((c : Thread nD τ).loc main_arg1)) := by
  refine (dats m 0 c).arrAt_eq_of_covers 3 _ (by decide +kernel) fun t hf y => ?_
  have ht : t.val < 4 := Nat.lt_of_lt_of_eq t.isLt N_0
  blk_simp
  rw [after0_3]
  canon_tiles x h
  · rw [mixed_at _ _ ⟨t.val / 2, by omega⟩ ⟨t.val % 2 * 2 + (1 : Fin 2).val, by simp; omega⟩ (x 2) (x 3) (by blk_simp [idx t]) (by blk_simp [idx t]; simp only [Fin.val_one]; omega)
      (by blk_simp [idx t]; omega) (by blk_simp [idx t]; omega)]
    exact (high_apply _ _ _ x).trans (big_congr (blk1 m c t 0 1 _ _) (blk1 m c t 1 1 _ _) (blk1 m c t 2 1 _ _))
  · rw [mixed_at _ _ ⟨t.val / 2, by omega⟩ ⟨t.val % 2 * 2 + (0 : Fin 2).val, by simp; omega⟩ (x 2) (x 3) (by blk_simp [idx t]) (by blk_simp [idx t]; simp only [Fin.val_zero]; omega)
      (by blk_simp [idx t]; omega) (by blk_simp [idx t]; omega)]
    exact (low_apply _ _ _ x).trans (big_congr (blk1 m c t 0 0 _ _) (blk1 m c t 1 0 _ _) (blk1 m c t 2 0 _ _))

theorem frame : Cert.quiescent_DilM := fun m g _ => Cert.DilM.Gen.frame m g

theorem frame_ideal : Cert.quiescent_DilMIdeal := fun m g _ => Cert.DilMIdeal.Gen.frame m g

theorem frame_ref_ideal : Cert.quiescent_DilMRefIdeal := fun m g _ =>
  (θ_run (Cert.DilMRefIdeal.defs (F := Ideal)) _ _).mono (fun r h => ⟨fun c => (h c).2.2, sem_eq_zero_of_no_sems rfl r.2⟩)
    (Cert.DilMRefIdeal.Value.run (F := Ideal) m g)

/-- Over the extended reals the call computes the reference's mixed outputs and numbers. -/
theorem value_ideal : Cert.algebraic_DilMIdeal_DilMRefIdeal := fun m g m' g' _ hx =>
  ⟨_, _, (θ_run defs _ _).mono (fun r h c => ⟨(h c).1.trans (final_out m c), (h c).2.1.trans (final_lse m c), (h c).2.2⟩) (run_blocks m g),
    (θ_run (Cert.DilMRefIdeal.defs (F := Ideal)) _ _).mono
      (fun r h c => ⟨(h c).1.trans (by unfold Cert.DilMRefIdeal.Value.res_main_v27; rw [(hx c).1, (hx c).2]; rfl),
        (h c).2.1.trans (by rw [(hx c).2]; rfl), (h c).2.2⟩) (Cert.DilMRefIdeal.Value.run (F := Ideal) m' g')⟩

end Cert.DilMProof

end
-- ==== Proof.ConvBackClaims.lean ====
/-
The claims about the derivative of the short convolution. A call takes one sequence at a point: it turns its rows both ways,
writes three columns of derivatives, and adds the sums for the weights into one small block that its points share.
-/
module

public import proofs.«01_k».proof.Defs
public import proofs.«01_k».proof.Proof.ConvClaims
public import proofs.«01_k».proof.Proof.Gen.ConvB.Frame
public import proofs.«01_k».proof.Proof.Gen.ConvBIdeal.Frame
public import proofs.«01_k».proof.Proof.Gen.ConvBIdeal.Value
public import proofs.«01_k».proof.Proof.Gen.ConvBRefIdeal.Run
public import Idealize.ShloMosaic.Lib.Pipeline.ValueKit.Point
public import Idealize.ShloMosaic.Lib.WritesUnit
public import Idealize.ShloMosaic.Lib.Quiescent

@[expose] public section

set_option Elab.async false

noncomputable section

open Idealize.ShloMosaic Idealize.ShloMosaic.TcCoe Idealize.SL.Sem

namespace Cert.ConvLemmas

/-- Which rows a turn the other way leaves as they are. -/
theorem select_lt {α : Type} (r k : ℕ) (a b : α) (hr : r < 2147483648) (hk : k < 2147483648) :
    Scalar.select (IntOp.cmpi .slt (BitVec.ofNat 32 r) (BitVec.ofNat 32 k)) a b = if r < k then a else b := by
  have e1 : (BitVec.ofNat 32 r).toInt = r := by
    rw [BitVec.toInt_eq_toNat_of_lt (by rw [BitVec.toNat_ofNat]; omega), BitVec.toNat_ofNat, Nat.mod_eq_of_lt (by omega)]
  have e2 : (BitVec.ofNat 32 k).toInt = k := by
    rw [BitVec.toInt_eq_toNat_of_lt (by rw [BitVec.toNat_ofNat]; omega), BitVec.toNat_ofNat, Nat.mod_eq_of_lt (by omega)]
  by_cases h : r < k <;> simp [Scalar.select, IntOp.cmpi, BitVec.slt, e1, e2, h]

/-- Equal sums, the one from its other end. -/
theorem add_rev {a a' b b' c c' : EReal} (hc : c = c') (hb : b = b') (ha : a = a') : a + b + c = c' + b' + a' := by
  rw [ha, hb, hc, add_comm (a' + b'), add_comm a', add_assoc]

/-- Equal weights of equal elements, or of zeros. -/
theorem mul_ite_same {w w' u : EReal} {p q : Prop} [Decidable p] [Decidable q] {u' : q → EReal} (hw : w = w') (hpq : q ↔ p)
    (hu : ∀ h : q, u = u' h) : w * (if p then u else 0) = w' * (if h : q then u' h else 0) := by
  by_cases h : q
  · rw [dif_pos h, if_pos (hpq.mp h), hw, hu h]
  · rw [dif_neg h, if_neg (fun hp => h (hpq.mpr hp)), hw]

end Cert.ConvLemmas

namespace Cert.ConvBProof

open Cert.ConvLemmas Cert.ConvBIdeal Cert.ConvBIdeal.Gen Cert.ConvBIdeal.Value

/-- What comes back to the convolution, as sequences. -/
def dout {F : FTy → Type} [FloatOps F] (d : S4096x1024.Idx → Elt F .f32) : Cert.ConvBRefIdeal.S2x2048x256.Idx → Elt F .f32 :=
  shapeCast _ (extractStridedSlice Cert.ConvBRefIdeal.S4096x256 ![0, 768] d Cert.ConvBRefIdeal.Gen.slices_S4096x1024_S4096x256_0_768) Cert.ConvBRefIdeal.Gen.shapeCasts_S4096x256_S2x2048x256

/-- Columns of the projection, as sequences. -/
def cols {F : FTy → Type} [FloatOps F] (x : S4096x3200.Idx → Elt F .f32) (o : ℕ) (h : S4096x3200.Slices ![0, o] Cert.ConvBRefIdeal.S4096x256) : Cert.ConvBRefIdeal.S2x2048x256.Idx → Elt F .f32 :=
  shapeCast _ (extractStridedSlice Cert.ConvBRefIdeal.S4096x256 ![0, o] x h) Cert.ConvBRefIdeal.Gen.shapeCasts_S4096x256_S2x2048x256

/-- What was convolved. -/
def prod {F : FTy → Type} [FloatOps F] (x : S4096x3200.Idx → Elt F .f32) : Cert.ConvBRefIdeal.S2x2048x256.Idx → Elt F .f32 :=
  mulf (cols x 2560 Cert.ConvBRefIdeal.Gen.slices_S4096x3200_S4096x256_0_2560) (cols x 2816 Cert.ConvBRefIdeal.Gen.slices_S4096x3200_S4096x256_0_2816)

/-- What comes back to the sum. -/
def dsum {F : FTy → Type} [FloatOps F] (d : S4096x1024.Idx → Elt F .f32) (x : S4096x3200.Idx → Elt F .f32) : Cert.ConvBRefIdeal.S2x2048x256.Idx → Elt F .f32 :=
  mulf (dout d) (cols x 2304 Cert.ConvBRefIdeal.Gen.slices_S4096x3200_S4096x256_0_2304)

/-- A row of weights, in all rows. -/
def tap {F : FTy → Type} [FloatOps F] (w : S8x256.Idx → Elt F .f32) (k : ℕ) (h : S8x256.Slices ![k, 0] S1x256) : Cert.ConvBRefIdeal.S2x2048x256.Idx → Elt F .f32 :=
  broadcastInDim Cert.ConvBRefIdeal.S2x2048x256 ![0, 1, 2] Cert.ConvBRefIdeal.Gen.bcast_S1x1x256_S2x2048x256_0_1_2
    (broadcastInDim Cert.ConvBRefIdeal.S1x1x256 ![2] Cert.ConvBRefIdeal.Gen.bcast_S256_S1x1x256_2 (shapeCast _ (extractStridedSlice S1x256 ![k, 0] w h) Cert.ConvBRefIdeal.Gen.shapeCasts_S1x256_S256))

/-- The rows one and two before, -/
def back1 {F : FTy → Type} [FloatOps F] (u : Cert.ConvBRefIdeal.S2x2048x256.Idx → Elt F .f32) : Cert.ConvBRefIdeal.S2x2048x256.Idx → Elt F .f32 :=
  concatenate Cert.ConvBRefIdeal.S2x2048x256 1
    [⟨Cert.ConvBRefIdeal.S2x1x256, broadcastInDim Cert.ConvBRefIdeal.S2x1x256 ![] Cert.ConvBRefIdeal.Gen.bcast_S_S2x1x256 (constant Cert.ConvBRefIdeal.S_ .f32 0x00000000#32)⟩,
      ⟨Cert.ConvBRefIdeal.S2x2047x256, extractStridedSlice Cert.ConvBRefIdeal.S2x2047x256 ![0, 0, 0] u Cert.ConvBRefIdeal.Gen.slices_S2x2048x256_S2x2047x256_0_0_0⟩]
    Cert.ConvBRefIdeal.Gen.concatenates_S2x1x256_S2x2047x256_S2x2048x256_d1

def back2 {F : FTy → Type} [FloatOps F] (u : Cert.ConvBRefIdeal.S2x2048x256.Idx → Elt F .f32) : Cert.ConvBRefIdeal.S2x2048x256.Idx → Elt F .f32 :=
  concatenate Cert.ConvBRefIdeal.S2x2048x256 1
    [⟨Cert.ConvBRefIdeal.S2x2x256, broadcastInDim Cert.ConvBRefIdeal.S2x2x256 ![] Cert.ConvBRefIdeal.Gen.bcast_S_S2x2x256 (constant Cert.ConvBRefIdeal.S_ .f32 0x00000000#32)⟩,
      ⟨Cert.ConvBRefIdeal.S2x2046x256, extractStridedSlice Cert.ConvBRefIdeal.S2x2046x256 ![0, 0, 0] u Cert.ConvBRefIdeal.Gen.slices_S2x2048x256_S2x2046x256_0_0_0⟩]
    Cert.ConvBRefIdeal.Gen.concatenates_S2x2x256_S2x2046x256_S2x2048x256_d1

/-- and the rows one and two after. -/
def next1 {F : FTy → Type} [FloatOps F] (u : Cert.ConvBRefIdeal.S2x2048x256.Idx → Elt F .f32) : Cert.ConvBRefIdeal.S2x2048x256.Idx → Elt F .f32 :=
  concatenate Cert.ConvBRefIdeal.S2x2048x256 1
    [⟨Cert.ConvBRefIdeal.S2x2047x256, extractStridedSlice Cert.ConvBRefIdeal.S2x2047x256 ![0, 1, 0] u Cert.ConvBRefIdeal.Gen.slices_S2x2048x256_S2x2047x256_0_1_0⟩,
      ⟨Cert.ConvBRefIdeal.S2x1x256, broadcastInDim Cert.ConvBRefIdeal.S2x1x256 ![] Cert.ConvBRefIdeal.Gen.bcast_S_S2x1x256 (constant Cert.ConvBRefIdeal.S_ .f32 0x00000000#32)⟩]
    Cert.ConvBRefIdeal.Gen.concatenates_S2x2047x256_S2x1x256_S2x2048x256_d1

def next2 {F : FTy → Type} [FloatOps F] (u : Cert.ConvBRefIdeal.S2x2048x256.Idx → Elt F .f32) : Cert.ConvBRefIdeal.S2x2048x256.Idx → Elt F .f32 :=
  concatenate Cert.ConvBRefIdeal.S2x2048x256 1
    [⟨Cert.ConvBRefIdeal.S2x2046x256, extractStridedSlice Cert.ConvBRefIdeal.S2x2046x256 ![0, 2, 0] u Cert.ConvBRefIdeal.Gen.slices_S2x2048x256_S2x2046x256_0_2_0⟩,
      ⟨Cert.ConvBRefIdeal.S2x2x256, broadcastInDim Cert.ConvBRefIdeal.S2x2x256 ![] Cert.ConvBRefIdeal.Gen.bcast_S_S2x2x256 (constant Cert.ConvBRefIdeal.S_ .f32 0x00000000#32)⟩]
    Cert.ConvBRefIdeal.Gen.concatenates_S2x2046x256_S2x2x256_S2x2048x256_d1

/-- The weighted sum of an array and its two moved copies. -/
def three {F : FTy → Type} [FloatOps F] (w : S8x256.Idx → Elt F .f32) (a b e : Cert.ConvBRefIdeal.S2x2048x256.Idx → Elt F .f32) : Cert.ConvBRefIdeal.S2x2048x256.Idx → Elt F .f32 :=
  addf (addf (mulf (tap w 0 Cert.ConvBRefIdeal.Gen.slices_S8x256_S1x256_0_0) a) (mulf (tap w 1 Cert.ConvBRefIdeal.Gen.slices_S8x256_S1x256_1_0) b))
    (mulf (tap w 2 Cert.ConvBRefIdeal.Gen.slices_S8x256_S1x256_2_0) e)

/-- What comes back to the array convolved. -/
def dprod {F : FTy → Type} [FloatOps F] (d : S4096x1024.Idx → Elt F .f32) (x : S4096x3200.Idx → Elt F .f32) (w : S8x256.Idx → Elt F .f32) : Cert.ConvBRefIdeal.S2x2048x256.Idx → Elt F .f32 :=
  three w (next2 (dsum d x)) (next1 (dsum d x)) (dsum d x)

/-- The reference's derivatives with respect to the projection's columns. -/
def grad {F : FTy → Type} [FloatOps F] (d : S4096x1024.Idx → Elt F .f32) (x : S4096x3200.Idx → Elt F .f32) (w : S8x256.Idx → Elt F .f32) : S4096x768.Idx → Elt F .f32 :=
  shapeCast _ (concatenate Cert.ConvBRefIdeal.S2x2048x768 2
    [⟨Cert.ConvBRefIdeal.S2x2048x256, mulf (dout d) (three w (back2 (prod x)) (back1 (prod x)) (prod x))⟩,
      ⟨Cert.ConvBRefIdeal.S2x2048x256, mulf (dprod d x w) (cols x 2816 Cert.ConvBRefIdeal.Gen.slices_S4096x3200_S4096x256_0_2816)⟩,
      ⟨Cert.ConvBRefIdeal.S2x2048x256, mulf (dprod d x w) (cols x 2560 Cert.ConvBRefIdeal.Gen.slices_S4096x3200_S4096x256_0_2560)⟩]
    Cert.ConvBRefIdeal.Gen.concatenates_S2x2048x256_S2x2048x256_S2x2048x256_S2x2048x768_d2) Cert.ConvBRefIdeal.Gen.shapeCasts_S2x2048x768_S4096x768

/-- The sum of every column, as a row. -/
def col {F : FTy → Type} [FloatOps F] (u : Cert.ConvBRefIdeal.S2x2048x256.Idx → Elt F .f32) : S1x256.Idx → Elt F .f32 :=
  broadcastInDim S1x256 ![1] Cert.ConvBRefIdeal.Gen.bcast_S256_S1x256_1
    (Host.reduceAdd (shapeCast _ u Cert.ConvBRefIdeal.Gen.shapeCasts_S2x2048x256_S4096x256) (constant Cert.ConvBRefIdeal.S_ .f32 0x00000000#32) Cert.ConvBRefIdeal.Gen.reducesTo_S4096x256_S256_d0 Cert.ConvBRefIdeal.Gen.h_S_)

/-- What is summed for each of the three weights. -/
def sent0 {F : FTy → Type} [FloatOps F] (d : S4096x1024.Idx → Elt F .f32) (x : S4096x3200.Idx → Elt F .f32) : Cert.ConvBRefIdeal.S2x2048x256.Idx → Elt F .f32 := mulf (dsum d x) (back2 (prod x))

def sent1 {F : FTy → Type} [FloatOps F] (d : S4096x1024.Idx → Elt F .f32) (x : S4096x3200.Idx → Elt F .f32) : Cert.ConvBRefIdeal.S2x2048x256.Idx → Elt F .f32 := mulf (dsum d x) (back1 (prod x))

def sent2 {F : FTy → Type} [FloatOps F] (d : S4096x1024.Idx → Elt F .f32) (x : S4096x3200.Idx → Elt F .f32) : Cert.ConvBRefIdeal.S2x2048x256.Idx → Elt F .f32 := mulf (dsum d x) (prod x)

/-- The reference's derivative with respect to the weights, and five rows of zeros. -/
def sums {F : FTy → Type} [FloatOps F] (d : S4096x1024.Idx → Elt F .f32) (x : S4096x3200.Idx → Elt F .f32) : S8x256.Idx → Elt F .f32 :=
  concatenate S8x256 0
    [⟨Cert.ConvBRefIdeal.S3x256, concatenate Cert.ConvBRefIdeal.S3x256 0
        [⟨S1x256, col (sent0 d x)⟩, ⟨S1x256, col (sent1 d x)⟩, ⟨S1x256, col (sent2 d x)⟩]
        Cert.ConvBRefIdeal.Gen.concatenates_S1x256_S1x256_S1x256_S3x256_d0⟩,
      ⟨Cert.ConvBRefIdeal.S5x256, broadcastInDim Cert.ConvBRefIdeal.S5x256 ![] Cert.ConvBRefIdeal.Gen.bcast_S_S5x256 (constant Cert.ConvBRefIdeal.S_ .f32 0x00000000#32)⟩]
    Cert.ConvBRefIdeal.Gen.concatenates_S3x256_S5x256_S8x256_d0

/-- `k` rows up, and down. -/
def up (k : ℕ) (i : S2048x256.Idx) : S2048x256.Idx := ix2 ⟨(i (0 : Fin 2)).val - k, Nat.lt_of_le_of_lt (Nat.sub_le _ _) (i (0 : Fin 2)).isLt⟩ (i 1)

def down (k : ℕ) (i : S2048x256.Idx) : S2048x256.Idx := ix2 ⟨min ((i (0 : Fin 2)).val + k) 2047, Nat.lt_of_le_of_lt (Nat.min_le_right _ _) (by norm_num)⟩ (i 1)

/-- The blocks of a point. -/
theorem idx : ∀ t : Fin cfg0.N, win0_0.index t (0 : Fin 2) = t.val ∧ win0_0.index t (1 : Fin 2) = 3
    ∧ win0_1.index t (0 : Fin 2) = t.val ∧ win0_1.index t (1 : Fin 2) = 9
    ∧ win0_2.index t (0 : Fin 2) = t.val ∧ win0_2.index t (1 : Fin 2) = 10
    ∧ win0_3.index t (0 : Fin 2) = t.val ∧ win0_3.index t (1 : Fin 2) = 11
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = 0 ∧ win0_6.index t (1 : Fin 2) = 0 :=
  (by decide +kernel : ∀ t : Fin grid0.N, _)

variable (m : (ℓ : Loc nD τ sig) → Buf (Elt Ideal) ℓ)

/-- Where in the projection an element of a block stands, whose columns start at `o`. -/
def at0 (o : ℕ) (ho : o ≤ 2944) (t : Fin cfg0.N) (i : S2048x256.Idx) : S4096x3200.Idx :=
  ix2 ⟨t.val * 2048 + (i (0 : Fin 2)).val, by have := t.isLt; have : cfg0.N = 2 := N_0; have : (i (0 : Fin 2)).val < 2048 := (i (0 : Fin 2)).isLt; omega⟩
    ⟨o + (i (1 : Fin 2)).val, by have : (i (1 : Fin 2)).val < 256 := (i (1 : Fin 2)).isLt; omega⟩

/-- The blocks of the projection, -/
theorem fill1 (c : Dev nD) (t : Fin cfg0.N) (i : S2048x256.Idx) : X0_1 m c t i
    = m ((c : Thread nD τ).loc main_arg1) (at0 2304 (by decide) t i) := by
  unfold X0_1 Pipeline.Window.fill
  rw [dif_pos (moved0_1 t i)]
  blk_point [iblk, V, idx t, at0]

theorem fill2 (c : Dev nD) (t : Fin cfg0.N) (i : S2048x256.Idx) : X0_2 m c t i
    = m ((c : Thread nD τ).loc main_arg1) (at0 2560 (by decide) t i) := by
  unfold X0_2 Pipeline.Window.fill
  rw [dif_pos (moved0_2 t i)]
  blk_point [iblk, V, idx t, at0]

theorem fill3 (c : Dev nD) (t : Fin cfg0.N) (i : S2048x256.Idx) : X0_3 m c t i
    = m ((c : Thread nD τ).loc main_arg1) (at0 2816 (by decide) t i) := by
  unfold X0_3 Pipeline.Window.fill
  rw [dif_pos (moved0_3 t i)]
  blk_point [iblk, V, idx t, at0]

/-- The rows one and two before. -/
theorem pay4_apply (v1 v2 : Vec Ideal S2048x256 .f32) (i : S2048x256.Idx) :
    k0_pay4 v1 v2 i = (if 1 ≤ (i (0 : Fin 2)).val then k0_pay3 v1 v2 (up 1 i) else 0 : EReal) := by
  have hi : (i (0 : Fin 2)).val < 2048 := (i (0 : Fin 2)).isLt
  pointwise [k0_pay4, k0_pay3]
  rw [select_ge _ 1 _ _ (Nat.lt_trans hi (by norm_num)) (by norm_num)]
  by_cases h : 1 ≤ (i (0 : Fin 2)).val
  · have e : (ix2 ⟨((i (0 : Fin 2)).val + 2048 - 1) % 2048, Nat.mod_lt _ (by norm_num)⟩ (i 1) : S2048x256.Idx) = up 1 i :=
      congrArg (fun r => (ix2 r (i 1) : S2048x256.Idx)) (Fin.ext (by show _ % 2048 = _ - 1; omega))
    rw [if_pos h, if_pos h, e]
  · rw [if_neg h, if_neg h]

theorem pay5_apply (v1 v2 : Vec Ideal S2048x256 .f32) (i : S2048x256.Idx) :
    k0_pay5 v1 v2 i = (if 2 ≤ (i (0 : Fin 2)).val then k0_pay3 v1 v2 (up 2 i) else 0 : EReal) := by
  have hi : (i (0 : Fin 2)).val < 2048 := (i (0 : Fin 2)).isLt
  pointwise [k0_pay5, k0_pay3]
  rw [select_ge _ 2 _ _ (Nat.lt_trans hi (by norm_num)) (by norm_num)]
  by_cases h : 2 ≤ (i (0 : Fin 2)).val
  · have e : (ix2 ⟨((i (0 : Fin 2)).val + 2048 - 2) % 2048, Nat.mod_lt _ (by norm_num)⟩ (i 1) : S2048x256.Idx) = up 2 i :=
      congrArg (fun r => (ix2 r (i 1) : S2048x256.Idx)) (Fin.ext (by show _ % 2048 = _ - 2; omega))
    rw [if_pos h, if_pos h, e]
  · rw [if_neg h, if_neg h]

/-- The convolution, at a row and a column. -/
theorem pay6_apply (v1 v2 : Vec Ideal S2048x256 .f32) (v16 v19 v23 : Vec Ideal S1x256 .f32) (i : S2048x256.Idx) :
    k0_pay6 v1 v2 v16 v19 v23 i = ((v16 (ix2 0 (i 1)) : EReal) * k0_pay3 v1 v2 i
      + (v19 (ix2 0 (i 1)) : EReal) * k0_pay4 v1 v2 i + (v23 (ix2 0 (i 1)) : EReal) * k0_pay5 v1 v2 i : EReal) := by
  pointwise [k0_pay6]

/-- What a turn the other way brings to a row that it leaves as it is. -/
theorem turn (k : ℕ) (n : BitVec 32) (hk : 0 < k) (hn : n.toNat % 2048 + k = 2048) (x : Vec Ideal S2048x256 .f32) (i : S2048x256.Idx)
    (h : (i (0 : Fin 2)).val + k < 2048) : dynamicRotate 0 n none x rotates_S2048x256_d0 i = x (down k i) := by
  refine congrArg x (funext fun b => ?_)
  revert b
  rw [Fin.forall_fin_two]
  refine ⟨?_, ?_⟩
  · rw [if_pos rfl]
    refine Fin.ext ?_
    show ((i (0 : Fin 2)).val + 2048 - (n.toNat + 0) % 2048) % 2048 = min ((i (0 : Fin 2)).val + k) 2047
    rw [Nat.add_zero]
    omega
  · exact if_neg (by decide)

/-- The convolution the other way, at a row and a column. -/
theorem pay10_apply (v3 v4 : Vec Ideal S2048x256 .f32) (v28 v31 v40 : Vec Ideal S1x256 .f32) (i : S2048x256.Idx) :
    k0_pay10 (iota .tc S2048x256 32 [0] iota_S2048x256_d0_w32) (k0_pay7 v3 v4) (k0_pay8 v3 v4 v28) v31 k0_pay9 v40 i
      = ((v28 (ix2 0 (i 1)) : EReal) * k0_pay7 v3 v4 i
      + (v31 (ix2 0 (i 1)) : EReal) * (if (i (0 : Fin 2)).val < 2047 then k0_pay7 v3 v4 (down 1 i) else 0)
      + (v40 (ix2 0 (i 1)) : EReal) * (if (i (0 : Fin 2)).val < 2046 then k0_pay7 v3 v4 (down 2 i) else 0) : EReal) := by
  have hi : (i (0 : Fin 2)).val < 2048 := (i (0 : Fin 2)).isLt
  have e1 : (i (0 : Fin 2)).val < 2047 → dynamicRotate 0 2047#32 none (k0_pay7 v3 v4) rotates_S2048x256_d0 i = k0_pay7 v3 v4 (down 1 i) :=
    fun h => turn 1 _ (by decide) (by decide) _ i (by omega)
  have e2 : (i (0 : Fin 2)).val < 2046 → dynamicRotate 0 2046#32 none (k0_pay7 v3 v4) rotates_S2048x256_d0 i = k0_pay7 v3 v4 (down 2 i) :=
    fun h => turn 2 _ (by decide) (by decide) _ i (by omega)
  unfold k0_pay10
  dsimp only
  generalize dynamicRotate 0 2047#32 none (k0_pay7 v3 v4) rotates_S2048x256_d0 = r1 at *
  generalize dynamicRotate 0 2046#32 none (k0_pay7 v3 v4) rotates_S2048x256_d0 = r2 at *
  pointwise [k0_pay9, k0_pay8]
  rw [select_lt _ 2047 _ _ (Nat.lt_trans hi (by norm_num)) (by norm_num), select_lt _ 2046 _ _ (Nat.lt_trans hi (by norm_num)) (by norm_num)]
  refine congrArg₂ (· + ·) (congrArg₂ (· + ·) rfl ?_) ?_
  · by_cases h : (i (0 : Fin 2)).val < 2047
    · rw [if_pos h, if_pos h, e1 h]
    · rw [if_neg h, if_neg h, mul_zero]
  · by_cases h : (i (0 : Fin 2)).val < 2046
    · rw [if_pos h, if_pos h, e2 h]
    · rw [if_neg h, if_neg h, mul_zero]

/-- Where in the sequences an element of a block stands. -/
def seq (t : Fin cfg0.N) (i : S2048x256.Idx) : Cert.ConvBRefIdeal.S2x2048x256.Idx := ix3 ⟨t.val, Nat.lt_of_lt_of_eq t.isLt N_0⟩ (i 0) (i 1)

/-- The reference's arrays, at such a place. -/
theorem dout_at (c : Dev nD) (t : Fin cfg0.N) (i : S2048x256.Idx) : dout (F := Ideal) (m ((c : Thread nD τ).loc main_arg0)) (seq t i) = iblk m c 0 t i := by
  pointwise [dout, seq]
  blk_point [iblk, V, idx t]

theorem cols_at (x : S4096x3200.Idx → EReal) (o : ℕ) (ho : o ≤ 2944) (h : S4096x3200.Slices ![0, o] Cert.ConvBRefIdeal.S4096x256) (t : Fin cfg0.N) (i : S2048x256.Idx) :
    cols (F := Ideal) x o h (seq t i) = x (at0 o ho t i) := by
  pointwise [cols, seq, at0]

theorem dsum_at (c : Dev nD) (t : Fin cfg0.N) (i : S2048x256.Idx) : dsum (F := Ideal) (m ((c : Thread nD τ).loc main_arg0)) (m ((c : Thread nD τ).loc main_arg1)) (seq t i)
    = k0_pay7 (F := Ideal) (X0_1 m c t) (iblk m c 0 t) i :=
  congrArg₂ (fun a b : EReal => a * b) (dout_at m c t i) ((cols_at _ 2304 (by decide) _ t i).trans (fill1 m c t i).symm)

theorem prod_at (c : Dev nD) (t : Fin cfg0.N) (i : S2048x256.Idx) : prod (F := Ideal) (m ((c : Thread nD τ).loc main_arg1)) (seq t i)
    = k0_pay3 (F := Ideal) (X0_2 m c t) (X0_3 m c t) i :=
  congrArg₂ (fun a b : EReal => a * b) ((cols_at _ 2560 (by decide) _ t i).trans (fill2 m c t i).symm) ((cols_at _ 2816 (by decide) _ t i).trans (fill3 m c t i).symm)

theorem back1_at (u : Cert.ConvBRefIdeal.S2x2048x256.Idx → EReal) (t : Fin cfg0.N) (i : S2048x256.Idx) :
    back1 (F := Ideal) u (seq t i) = (if 1 ≤ (i (0 : Fin 2)).val then u (seq t (up 1 i)) else 0 : EReal) := by
  pointwise [back1, seq, up]
  by_cases h : 1 ≤ (i (0 : Fin 2)).val
  · rw [if_pos h, dif_neg (by omega)]
  · rw [if_neg h, dif_pos (by omega)]

theorem back2_at (u : Cert.ConvBRefIdeal.S2x2048x256.Idx → EReal) (t : Fin cfg0.N) (i : S2048x256.Idx) :
    back2 (F := Ideal) u (seq t i) = (if 2 ≤ (i (0 : Fin 2)).val then u (seq t (up 2 i)) else 0 : EReal) := by
  pointwise [back2, seq, up]
  by_cases h : 2 ≤ (i (0 : Fin 2)).val
  · rw [if_pos h, dif_neg (by omega)]
  · rw [if_neg h, dif_pos (by omega)]

theorem next1_at (u : Cert.ConvBRefIdeal.S2x2048x256.Idx → EReal) (t : Fin cfg0.N) (i : S2048x256.Idx) :
    next1 (F := Ideal) u (seq t i) = (if (i (0 : Fin 2)).val < 2047 then u (seq t (down 1 i)) else 0 : EReal) := by
  pointwise [next1, seq, down]
  by_cases h : (i (0 : Fin 2)).val < 2047
  · rw [if_pos h, dif_pos h]
    exact congrArg (fun r => u (ix3 _ r (i 1))) (Fin.ext (by dsimp only; omega))
  · rw [if_neg h, dif_neg h]

theorem next2_at (u : Cert.ConvBRefIdeal.S2x2048x256.Idx → EReal) (t : Fin cfg0.N) (i : S2048x256.Idx) :
    next2 (F := Ideal) u (seq t i) = (if (i (0 : Fin 2)).val < 2046 then u (seq t (down 2 i)) else 0 : EReal) := by
  pointwise [next2, seq, down]
  by_cases h : (i (0 : Fin 2)).val < 2046
  · rw [if_pos h, dif_pos h]
    exact congrArg (fun r => u (ix3 _ r (i 1))) (Fin.ext (by dsimp only; omega))
  · rw [if_neg h, dif_neg h]

theorem back1_prod (c : Dev nD) (t : Fin cfg0.N) (i : S2048x256.Idx) : back1 (F := Ideal) (prod (m ((c : Thread nD τ).loc main_arg1))) (seq t i)
    = k0_pay4 (F := Ideal) (X0_2 m c t) (X0_3 m c t) i := by rw [back1_at, pay4_apply, prod_at]

theorem back2_prod (c : Dev nD) (t : Fin cfg0.N) (i : S2048x256.Idx) : back2 (F := Ideal) (prod (m ((c : Thread nD τ).loc main_arg1))) (seq t i)
    = k0_pay5 (F := Ideal) (X0_2 m c t) (X0_3 m c t) i := by rw [back2_at, pay5_apply, prod_at]

/-- A row of weights, in the block and in the reference. -/
theorem tap_at (c : Dev nD) (t : Fin cfg0.N) (k : ℕ) (h : S8x256.Slices ![k, 0] S1x256) (inb : ∀ a : Fin 2, ![k, 0] a + ![1, 256] a ≤ S8x256.size a) (i : S2048x256.Idx) :
    tap (F := Ideal) (m ((c : Thread nD τ).loc main_arg2)) k h (seq t i) = View.ld (Val := Elt Ideal) (iblk m c 4 t) (Rect.unit ![k, 0] ![1, 256] inb) (ix2 0 (i 1)) := by
  pointwise [tap, seq]
  blk_point [iblk, V, idx t]

/-- The convolution of a point's block, and its derivative. -/
theorem three_at (c : Dev nD) (t : Fin cfg0.N) (i : S2048x256.Idx) :
    three (F := Ideal) (m ((c : Thread nD τ).loc main_arg2)) (back2 (prod (m ((c : Thread nD τ).loc main_arg1)))) (back1 (prod (m ((c : Thread nD τ).loc main_arg1)))) (prod (m ((c : Thread nD τ).loc main_arg1))) (seq t i)
      = k0_pay6 (F := Ideal) (X0_2 m c t) (X0_3 m c t) (View.ld (iblk m c 4 t) (Rect.unit ![2, 0] ![1, 256] inb_S8x256_S1x256_2_0))
        (View.ld (iblk m c 4 t) (Rect.unit ![1, 0] ![1, 256] inb_S8x256_S1x256_1_0)) (View.ld (iblk m c 4 t) (Rect.unit ![0, 0] ![1, 256] inb_S8x256_S1x256_0_0)) i := by
  rw [pay6_apply, ← prod_at, ← back1_prod, ← back2_prod, ← tap_at m c t 0 Cert.ConvBRefIdeal.Gen.slices_S8x256_S1x256_0_0 _ i, ← tap_at m c t 1 Cert.ConvBRefIdeal.Gen.slices_S8x256_S1x256_1_0 _ i, ← tap_at m c t 2 Cert.ConvBRefIdeal.Gen.slices_S8x256_S1x256_2_0 _ i]
  exact add_rev rfl rfl rfl

theorem dprod_at (c : Dev nD) (t : Fin cfg0.N) (i : S2048x256.Idx) :
    dprod (F := Ideal) (m ((c : Thread nD τ).loc main_arg0)) (m ((c : Thread nD τ).loc main_arg1)) (m ((c : Thread nD τ).loc main_arg2)) (seq t i)
      = k0_pay10 (F := Ideal) (iota .tc S2048x256 32 [0] iota_S2048x256_d0_w32) (k0_pay7 (X0_1 m c t) (iblk m c 0 t))
        (k0_pay8 (X0_1 m c t) (iblk m c 0 t) (View.ld (iblk m c 4 t) (Rect.unit ![2, 0] ![1, 256] inb_S8x256_S1x256_2_0)))
        (View.ld (iblk m c 4 t) (Rect.unit ![1, 0] ![1, 256] inb_S8x256_S1x256_1_0)) k0_pay9 (View.ld (iblk m c 4 t) (Rect.unit ![0, 0] ![1, 256] inb_S8x256_S1x256_0_0)) i := by
  rw [pay10_apply, ← dsum_at, ← dsum_at, ← dsum_at, ← next1_at, ← next2_at, ← tap_at m c t 0 Cert.ConvBRefIdeal.Gen.slices_S8x256_S1x256_0_0 _ i, ← tap_at m c t 1 Cert.ConvBRefIdeal.Gen.slices_S8x256_S1x256_1_0 _ i, ← tap_at m c t 2 Cert.ConvBRefIdeal.Gen.slices_S8x256_S1x256_2_0 _ i]
  exact add_rev rfl rfl rfl

/-- Where in the reference's columns an element of a piece that starts at column `o` stands. -/
def at5 (o : ℕ) (ho : o ≤ 512) (t : Fin cfg0.N) (i : S2048x256.Idx) : S4096x768.Idx :=
  ix2 ⟨t.val * 2048 + (i (0 : Fin 2)).val, by have := t.isLt; have : cfg0.N = 2 := N_0; have : (i (0 : Fin 2)).val < 2048 := (i (0 : Fin 2)).isLt; omega⟩
    ⟨o + (i (1 : Fin 2)).val, by have : (i (1 : Fin 2)).val < 256 := (i (1 : Fin 2)).isLt; omega⟩

theorem at5_eq (o : ℕ) (ho : o ≤ 512) (t : Fin cfg0.N) (i : S2048x256.Idx) (z : S4096x768.Idx) (h0 : (z (0 : Fin 2)).val = t.val * 2048 + (i (0 : Fin 2)).val)
    (h1 : (z (1 : Fin 2)).val = o + (i (1 : Fin 2)).val) : z = at5 o ho t i := by
  funext a
  revert a
  rw [Fin.forall_fin_two]
  exact ⟨Fin.ext h0, Fin.ext h1⟩

/-- The reference's three columns. -/
theorem grad_gate (d : S4096x1024.Idx → EReal) (x : S4096x3200.Idx → EReal) (w : S8x256.Idx → EReal) (t : Fin cfg0.N) (i : S2048x256.Idx) :
    grad (F := Ideal) d x w (at5 0 (by decide) t i) = (dout (F := Ideal) d (seq t i) * three (F := Ideal) w (back2 (prod x)) (back1 (prod x)) (prod x) (seq t i) : EReal) := by
  pointwise [grad, at5, seq]

theorem grad_b (d : S4096x1024.Idx → EReal) (x : S4096x3200.Idx → EReal) (w : S8x256.Idx → EReal) (t : Fin cfg0.N) (i : S2048x256.Idx) :
    grad (F := Ideal) d x w (at5 256 (by decide) t i) = (dprod (F := Ideal) d x w (seq t i) * cols (F := Ideal) x 2816 Cert.ConvBRefIdeal.Gen.slices_S4096x3200_S4096x256_0_2816 (seq t i) : EReal) := by
  pointwise [grad, at5, seq]

theorem grad_c (d : S4096x1024.Idx → EReal) (x : S4096x3200.Idx → EReal) (w : S8x256.Idx → EReal) (t : Fin cfg0.N) (i : S2048x256.Idx) :
    grad (F := Ideal) d x w (at5 512 (by decide) t i) = (dprod (F := Ideal) d x w (seq t i) * cols (F := Ideal) x 2560 Cert.ConvBRefIdeal.Gen.slices_S4096x3200_S4096x256_0_2560 (seq t i) : EReal) := by
  pointwise [grad, at5, seq]
  rw [dif_neg (by omega), dif_neg (by omega)]
  have e : (⟨512 + (i (1 : Fin 2)).val - 256 - 256, by have : (i (1 : Fin 2)).val < 256 := (i (1 : Fin 2)).isLt; omega⟩ : Fin 256) = i 1 := Fin.ext (by show 512 + (i (1 : Fin 2)).val - 256 - 256 = _; omega)
  rw [e]

/-- The three columns of a point are the reference's. -/
theorem col_gate (c : Dev nD) (t : Fin cfg0.N) (i : S2048x256.Idx) :
    k0_pay11 (F := Ideal) (iblk m c 0 t) (k0_pay6 (X0_2 m c t) (X0_3 m c t) (View.ld (iblk m c 4 t) (Rect.unit ![2, 0] ![1, 256] inb_S8x256_S1x256_2_0))
        (View.ld (iblk m c 4 t) (Rect.unit ![1, 0] ![1, 256] inb_S8x256_S1x256_1_0)) (View.ld (iblk m c 4 t) (Rect.unit ![0, 0] ![1, 256] inb_S8x256_S1x256_0_0))) i
      = grad (F := Ideal) (m ((c : Thread nD τ).loc main_arg0)) (m ((c : Thread nD τ).loc main_arg1)) (m ((c : Thread nD τ).loc main_arg2)) (at5 0 (by decide) t i) := by
  rw [grad_gate, dout_at, three_at]
  rfl

theorem col_b (c : Dev nD) (t : Fin cfg0.N) (i : S2048x256.Idx) :
    k0_pay12 (F := Ideal) (iota .tc S2048x256 32 [0] iota_S2048x256_d0_w32) (X0_3 m c t) (k0_pay7 (X0_1 m c t) (iblk m c 0 t))
        (k0_pay8 (X0_1 m c t) (iblk m c 0 t) (View.ld (iblk m c 4 t) (Rect.unit ![2, 0] ![1, 256] inb_S8x256_S1x256_2_0)))
        (View.ld (iblk m c 4 t) (Rect.unit ![1, 0] ![1, 256] inb_S8x256_S1x256_1_0)) k0_pay9 (View.ld (iblk m c 4 t) (Rect.unit ![0, 0] ![1, 256] inb_S8x256_S1x256_0_0)) i
      = grad (F := Ideal) (m ((c : Thread nD τ).loc main_arg0)) (m ((c : Thread nD τ).loc main_arg1)) (m ((c : Thread nD τ).loc main_arg2)) (at5 256 (by decide) t i) := by
  rw [grad_b, dprod_at, cols_at _ 2816 (by decide), ← fill3 m c t i]
  rfl

theorem col_c (c : Dev nD) (t : Fin cfg0.N) (i : S2048x256.Idx) :
    k0_pay13 (F := Ideal) (iota .tc S2048x256 32 [0] iota_S2048x256_d0_w32) (X0_2 m c t) (k0_pay7 (X0_1 m c t) (iblk m c 0 t))
        (k0_pay8 (X0_1 m c t) (iblk m c 0 t) (View.ld (iblk m c 4 t) (Rect.unit ![2, 0] ![1, 256] inb_S8x256_S1x256_2_0)))
        (View.ld (iblk m c 4 t) (Rect.unit ![1, 0] ![1, 256] inb_S8x256_S1x256_1_0)) k0_pay9 (View.ld (iblk m c 4 t) (Rect.unit ![0, 0] ![1, 256] inb_S8x256_S1x256_0_0)) i
      = grad (F := Ideal) (m ((c : Thread nD τ).loc main_arg0)) (m ((c : Thread nD τ).loc main_arg1)) (m ((c : Thread nD τ).loc main_arg2)) (at5 512 (by decide) t i) := by
  rw [grad_c, dprod_at, cols_at _ 2560 (by decide), ← fill2 m c t i]
  rfl

/-- The first array after the run is the reference's derivatives with respect to the columns. -/
theorem final_grad (c : Dev nD) : (dats m 0 c).arrAt 5 cfg0.N
    = grad (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  have ht : t.val < 2 := Nat.lt_of_lt_of_eq t.isLt N_0
  blk_simp
  rw [after0_5]
  by_cases h : t.val % 2 = 0 <;> [rw [outsAt0_A m c t h]; rw [outsAt0_B m c t h]] <;> frame_out <;> canon_tiles x h'
  · refine (col_c m c t x).trans (congrArg _ ?_)
    exact (at5_eq 512 (by decide) t x _ (by blk_simp [idx t]; omega) (by blk_simp [idx t]; omega)).symm
  · refine (col_b m c t x).trans (congrArg _ ?_)
    exact (at5_eq 256 (by decide) t x _ (by blk_simp [idx t]; omega) (by blk_simp [idx t]; omega)).symm
  · refine (col_gate m c t x).trans (congrArg _ ?_)
    exact (at5_eq 0 (by decide) t x _ (by blk_simp [idx t]; omega) (by blk_simp [idx t]; omega)).symm
  · refine (col_c m c t x).trans (congrArg _ ?_)
    exact (at5_eq 512 (by decide) t x _ (by blk_simp [idx t]; omega) (by blk_simp [idx t]; omega)).symm
  · refine (col_b m c t x).trans (congrArg _ ?_)
    exact (at5_eq 256 (by decide) t x _ (by blk_simp [idx t]; omega) (by blk_simp [idx t]; omega)).symm
  · refine (col_gate m c t x).trans (congrArg _ ?_)
    exact (at5_eq 0 (by decide) t x _ (by blk_simp [idx t]; omega) (by blk_simp [idx t]; omega)).symm

/-- At an index a store takes, the contents are what is stored. -/
theorem canon_at {Val : EltTy → Type} [∀ e, Nonempty (Val e)] {o : ℕ} (inb : ∀ a : Fin 2, ![o, 0] a + ![1, 256] a ≤ S8x256.size a) (w : S1x256.Idx → Val .f32)
    (L : List (View.Piece Val S8x256 .f32)) (i : S8x256.Idx) (x : (Rect.unit (s := S8x256) ![o, 0] ![1, 256] inb).shape.Idx) (e : (Rect.unit (s := S8x256) ![o, 0] ![1, 256] inb).emb x = i) :
    View.canon ((⟨Rect.unit (s := S8x256) ![o, 0] ![1, 256] inb, w⟩ : View.Piece Val S8x256 .f32) :: L) i = w x := by
  subst e
  exact View.canon_cons_emb _ w L x

/-- Under a store to row `o` the contents are the row stored; -/
theorem canon_row {Val : EltTy → Type} [∀ e, Nonempty (Val e)] {o : ℕ} (inb : ∀ a : Fin 2, ![o, 0] a + ![1, 256] a ≤ S8x256.size a) (w : S1x256.Idx → Val .f32)
    (L : List (View.Piece Val S8x256 .f32)) (i : S8x256.Idx) (h : (i (0 : Fin 2)).val = o) :
    View.canon ((⟨Rect.unit (s := S8x256) ![o, 0] ![1, 256] inb, w⟩ : View.Piece Val S8x256 .f32) :: L) i = w (ix2 0 (i 1)) := by
  have e : (Rect.unit (s := S8x256) ![o, 0] ![1, 256] inb).emb (ix2 0 (i 1)) = i := by
    funext a
    refine Fin.ext ?_
    revert a
    rw [Fin.forall_fin_two]
    refine ⟨?_, ?_⟩
    · show o + 1 * 0 = (i (0 : Fin 2)).val
      omega
    · show 0 + 1 * (i (1 : Fin 2)).val = (i (1 : Fin 2)).val
      omega
  exact canon_at inb w L i _ e

/-- at another row they are what they were. -/
theorem canon_other {Val : EltTy → Type} [∀ e, Nonempty (Val e)] {o : ℕ} (inb : ∀ a : Fin 2, ![o, 0] a + ![1, 256] a ≤ S8x256.size a) (w : S1x256.Idx → Val .f32)
    (L : List (View.Piece Val S8x256 .f32)) (i : S8x256.Idx) (h : (i (0 : Fin 2)).val ≠ o) :
    View.canon ((⟨Rect.unit (s := S8x256) ![o, 0] ![1, 256] inb, w⟩ : View.Piece Val S8x256 .f32) :: L) i = View.canon L i := by
  refine View.canon_cons_of_not_mem _ L ?_
  rw [Rect.mem_set_unit]
  intro hall
  have h0 : o ≤ (i (0 : Fin 2)).val ∧ (i (0 : Fin 2)).val < o + 1 := hall (0 : Fin 2)
  omega

/-- The same of contents read back: under the store the row stored; -/
theorem read_row {Val : EltTy → Type} {sig : RefSig} {κ : Kind} {sp : Space} (v : View sig κ sp S8x256 .f32) (f : v.ty.Contents Val) {o : ℕ}
    (inb : ∀ a : Fin 2, ![o, 0] a + ![1, 256] a ≤ S8x256.size a) (w : S1x256.Idx → Val .f32) (L : List (View.Piece Val S8x256 .f32)) (i : S8x256.Idx)
    (h : (i (0 : Fin 2)).val = o) :
    v.read Val (v.writes Val f ((⟨Rect.unit (s := S8x256) ![o, 0] ![1, 256] inb, w⟩ : View.Piece Val S8x256 .f32) :: L)) i = w (ix2 0 (i 1)) :=
  View.read_writes_cons_rows_of_mem v f inb w L i (ix2 0 (i 1)) rfl h rfl

/-- at another row what was there. -/
theorem read_other {Val : EltTy → Type} {sig : RefSig} {κ : Kind} {sp : Space} (v : View sig κ sp S8x256 .f32) (f : v.ty.Contents Val) {o : ℕ}
    (inb : ∀ a : Fin 2, ![o, 0] a + ![1, 256] a ≤ S8x256.size a) (w : S1x256.Idx → Val .f32) (L : List (View.Piece Val S8x256 .f32)) (i : S8x256.Idx)
    (h : (i (0 : Fin 2)).val ≠ o) :
    v.read Val (v.writes Val f ((⟨Rect.unit (s := S8x256) ![o, 0] ![1, 256] inb, w⟩ : View.Piece Val S8x256 .f32) :: L)) i = v.read Val (v.writes Val f L) i :=
  View.read_writes_cons_rows_of_not_mem v f inb w L i (W := 1) rfl rfl (by omega)

/-- An index from its row and its column. -/
theorem row_eq (i : S8x256.Idx) (o : Fin 8) (h : (i (0 : Fin 2)).val = o.val) : (ix2 o (i 1) : S8x256.Idx) = i := by
  funext a
  revert a
  rw [Fin.forall_fin_two]
  exact ⟨Fin.ext h.symm, rfl⟩

/-- Indices with equal coordinates. -/
theorem idx_eq (i z : S8x256.Idx) (h0 : (i (0 : Fin 2)).val = (z (0 : Fin 2)).val) (h1 : (i (1 : Fin 2)).val = (z (1 : Fin 2)).val) : i = z := by
  funext a
  revert a
  rw [Fin.forall_fin_two]
  exact ⟨Fin.ext h0, Fin.ext h1⟩

/-- What a point adds: to each of the first three rows the column sums of the products with one of the arrays. -/
def part (d u0 u1 u2 : S2048x256.Idx → EReal) : S8x256.Idx → EReal := fun i =>
  if (i (0 : Fin 2)).val = 0 then ∑ r : Fin 2048, d (ix2 r (i 1)) * u0 (ix2 r (i 1))
  else if (i (0 : Fin 2)).val = 1 then ∑ r : Fin 2048, d (ix2 r (i 1)) * u1 (ix2 r (i 1))
  else if (i (0 : Fin 2)).val = 2 then ∑ r : Fin 2048, d (ix2 r (i 1)) * u2 (ix2 r (i 1)) else 0

/-- The same of a point's blocks. -/
def added (c : Dev nD) (t : Fin cfg0.N) : S8x256.Idx → EReal :=
  part (k0_pay7 (F := Ideal) (X0_1 m c t) (iblk m c 0 t)) (k0_pay5 (F := Ideal) (X0_2 m c t) (X0_3 m c t)) (k0_pay4 (F := Ideal) (X0_2 m c t) (X0_3 m c t))
    (k0_pay3 (F := Ideal) (X0_2 m c t) (X0_3 m c t))

/-- What a point stores in a row: what was there and the column sums. -/
theorem pay15_apply (v15 v27 : Vec Ideal S2048x256 .f32) (v58 : Vec Ideal S1x256 .f32) (i : S1x256.Idx) :
    k0_pay15 v15 v27 v58 i = ((v58 i : EReal) + ∑ r : Fin 2048, (v27 (ix2 r (i 1)) : EReal) * v15 (ix2 r (i 1)) : EReal) := by
  pointwise [k0_pay15]

theorem pay1_apply (v10 v27 : Vec Ideal S2048x256 .f32) (v65 : Vec Ideal S1x256 .f32) (i : S1x256.Idx) :
    k0_pay1 v10 v27 (k0_pay16 v65) i = ((v65 i : EReal) + ∑ r : Fin 2048, (v27 (ix2 r (i 1)) : EReal) * v10 (ix2 r (i 1)) : EReal) := by
  pointwise [k0_pay1, k0_pay16]

theorem pay2_apply (v5 v27 : Vec Ideal S2048x256 .f32) (v72 : Vec Ideal S1x256 .f32) (i : S1x256.Idx) :
    k0_pay2 v5 v27 v72 i = ((v72 i : EReal) + ∑ r : Fin 2048, (v27 (ix2 r (i 1)) : EReal) * v5 (ix2 r (i 1)) : EReal) := by
  pointwise [k0_pay2]

/-- The first point starts at zero. -/
theorem sums_first (c : Dev nD) (t : Fin cfg0.N) (h : t.val % 2 = 0) (i : S8x256.Idx) :
    (outsAt0 m c t.val t.isLt).2 i = (0 : EReal) + added m c t i := by
  rw [outsAt0_A m c t h]; frame_out
  unfold added part
  by_cases h0 : (i (0 : Fin 2)).val = 0
  · rw [canon_other _ _ _ _ (by omega), canon_other _ _ _ _ (by omega), canon_row _ _ _ _ h0, if_pos h0, pay15_apply, View.readCov_eq_canon']
    refine congrArg₂ (· + ·) ?_ rfl
    pointwise []
    rw [View.canon_cons_unit_lit _ _ _ (by decide)]
    pointwise [k0_pay14]
  by_cases h1 : (i (0 : Fin 2)).val = 1
  · rw [canon_other _ _ _ _ (by omega), canon_row _ _ _ _ h1, if_neg h0, if_pos h1, pay1_apply, View.readCov_eq_canon']
    refine congrArg₂ (· + ·) ?_ rfl
    pointwise []
    rw [canon_other _ _ _ _ (show (1 : ℕ) ≠ 0 by decide), View.canon_cons_unit_lit _ _ _ (by decide)]
    pointwise [k0_pay14]
  by_cases h2 : (i (0 : Fin 2)).val = 2
  · rw [canon_row _ _ _ _ h2, if_neg h0, if_neg h1, if_pos h2, pay2_apply, View.readCov_eq_canon']
    refine congrArg₂ (· + ·) ?_ rfl
    pointwise []
    rw [canon_other _ _ _ _ (show (2 : ℕ) ≠ 1 by decide), canon_other _ _ _ _ (show (2 : ℕ) ≠ 0 by decide), View.canon_cons_unit_lit _ _ _ (by decide)]
    pointwise [k0_pay14]
  · rw [canon_other _ _ _ _ h2, canon_other _ _ _ _ h1, canon_other _ _ _ _ h0, if_neg h0, if_neg h1, if_neg h2]
    frame_out
    pointwise [k0_pay14]

/-- Every later point adds to what the one before left. -/
theorem sums_next (c : Dev nD) (t : Fin cfg0.N) (h : ¬t.val % 2 = 0) (i : S8x256.Idx) :
    (outsAt0 m c t.val t.isLt).2 i = (outsAt0 m c (t.val - 1) (Nat.lt_of_le_of_lt (Nat.sub_le _ _) t.isLt)).2 i + added m c t i := by
  rw [outsAt0_B m c t h]; frame_out
  unfold added part
  by_cases h0 : (i (0 : Fin 2)).val = 0
  · rw [read_other _ _ _ _ _ _ (by omega), read_other _ _ _ _ _ _ (by omega), read_row _ _ _ _ _ _ h0, if_pos h0, pay15_apply]
    refine congrArg₂ (· + ·) ?_ rfl
    pointwise []
    exact congrArg _ (row_eq i 0 h0)
  by_cases h1 : (i (0 : Fin 2)).val = 1
  · rw [read_other _ _ _ _ _ _ (by omega), read_row _ _ _ _ _ _ h1, if_neg h0, if_pos h1, pay1_apply]
    refine congrArg₂ (· + ·) ?_ rfl
    pointwise []
    exact congrArg _ (row_eq i 1 h1)
  by_cases h2 : (i (0 : Fin 2)).val = 2
  · rw [read_row _ _ _ _ _ _ h2, if_neg h0, if_neg h1, if_pos h2, pay2_apply]
    refine congrArg₂ (· + ·) ?_ rfl
    pointwise []
    exact congrArg _ (row_eq i 2 h2)
  · rw [read_other _ _ _ _ _ _ h2, read_other _ _ _ _ _ _ h1, read_other _ _ _ _ _ _ h0, if_neg h0, if_neg h1, if_neg h2, add_zero]
    exact congrFun (Memref.IsWhole.read_unread _ _) i

/-- A row of the reference's sums, point by point. -/
theorem col_apply (u : Cert.ConvBRefIdeal.S2x2048x256.Idx → EReal) (j : Fin 256) :
    col (F := Ideal) u (ix2 0 j) = (∑ s : Fin cfg0.N, ∑ r : Fin 2048, u (seq s (ix2 r j)) : EReal) := by
  pointwise [col, seq]
  symm
  refine Fin.sum_mul_add_congr (n := 2048) (S := cfg0.N) fun s k hs => ?_
  have hk := k.isLt
  exact congrArg₂ (fun a b => u (ix3 a b j)) (Fin.ext (by dsimp only; omega)) (Fin.ext (by dsimp only; omega))

/-- The reference's rows of sums. -/
theorem sums_at (d : S4096x1024.Idx → EReal) (x : S4096x3200.Idx → EReal) (z : S8x256.Idx) : sums (F := Ideal) d x z
    = if (z (0 : Fin 2)).val = 0 then col (F := Ideal) (sent0 d x) (ix2 0 (z 1))
      else if (z (0 : Fin 2)).val = 1 then col (F := Ideal) (sent1 d x) (ix2 0 (z 1))
      else if (z (0 : Fin 2)).val = 2 then col (F := Ideal) (sent2 d x) (ix2 0 (z 1)) else (0 : EReal) := by
  pointwise [sums]
  by_cases h0 : (z (0 : Fin 2)).val = 0
  · rw [if_pos h0, dif_pos (by omega), dif_pos (by omega)]
    exact congrArg (fun a => col (F := Ideal) _ (ix2 a (z 1))) (Subsingleton.elim _ _)
  by_cases h1 : (z (0 : Fin 2)).val = 1
  · rw [if_neg h0, if_pos h1, dif_pos (by omega), dif_neg (by omega), dif_pos (by omega)]
    exact congrArg (fun a => col (F := Ideal) _ (ix2 a (z 1))) (Subsingleton.elim _ _)
  by_cases h2 : (z (0 : Fin 2)).val = 2
  · rw [if_neg h0, if_neg h1, if_pos h2, dif_pos (by omega), dif_neg (by omega), dif_neg (by omega)]
    exact congrArg (fun a => col (F := Ideal) _ (ix2 a (z 1))) (Subsingleton.elim _ _)
  · rw [if_neg h0, if_neg h1, if_neg h2, dif_neg (by omega)]

/-- The points' parts add up to the reference's rows. -/
theorem sums_eq (c : Dev nD) (z : S8x256.Idx) :
    ∑ p : Fin cfg0.N, added m c p z = sums (F := Ideal) (m ((c : Thread nD τ).loc main_arg0)) (m ((c : Thread nD τ).loc main_arg1)) z := by
  rw [sums_at]
  unfold added part
  by_cases h0 : (z (0 : Fin 2)).val = 0
  · simp only [if_pos h0]
    refine Eq.trans ?_ (col_apply _ (z 1)).symm
    exact Finset.sum_congr rfl fun p _ => Finset.sum_congr rfl fun r _ => (congrArg₂ (fun a b : EReal => a * b) (dsum_at m c p _) (back2_prod m c p _)).symm
  by_cases h1 : (z (0 : Fin 2)).val = 1
  · simp only [if_neg h0, if_pos h1]
    refine Eq.trans ?_ (col_apply _ (z 1)).symm
    exact Finset.sum_congr rfl fun p _ => Finset.sum_congr rfl fun r _ => (congrArg₂ (fun a b : EReal => a * b) (dsum_at m c p _) (back1_prod m c p _)).symm
  by_cases h2 : (z (0 : Fin 2)).val = 2
  · simp only [if_neg h0, if_neg h1, if_pos h2]
    refine Eq.trans ?_ (col_apply _ (z 1)).symm
    exact Finset.sum_congr rfl fun p _ => Finset.sum_congr rfl fun r _ => (congrArg₂ (fun a b : EReal => a * b) (dsum_at m c p _) (prod_at m c p _)).symm
  · simp only [if_neg h0, if_neg h1, if_neg h2]
    exact (Finset.sum_const_zero : ∑ _s : Fin cfg0.N, (0 : EReal) = 0)

/-- The second array after the run is the reference's derivative with respect to the weights. -/
theorem final_sums (c : Dev nD) : (dats m 0 c).arrAt 6 cfg0.N
    = sums (F := Ideal) (m ((c : Thread nD τ).loc main_arg0)) (m ((c : Thread nD τ).loc main_arg1)) := by
  refine (dats m 0 c).arrAt_eq_of_covers 6 _ (by decide +kernel) fun t hf y => ?_
  have hl := (flush0_6 t).mp hf
  have hN : cfg0.N = 2 := N_0
  blk_simp
  rw [after0_6, Pipeline.eq_sum_fin_of_reset_step_apply_last (fun n h => (outsAt0 m c n h).2) 2 (fun _ => 0)
      (added m c) (sums_first m c) (sums_next m c) (le_of_eq N_0) t (by have := t.isLt; omega), zero_add]
  refine (sums_eq m c y).trans (congrArg _ ?_)
  exact idx_eq _ _ (by blk_simp [idx t]) (by blk_simp [idx t])

theorem frame : Cert.quiescent_ConvB := fun m g _ => Cert.ConvB.Gen.frame m g

theorem frame_ideal : Cert.quiescent_ConvBIdeal := fun m g _ => Cert.ConvBIdeal.Gen.frame m g

theorem frame_ref_ideal : Cert.quiescent_ConvBRefIdeal := fun m g _ =>
  (θ_run (Cert.ConvBRefIdeal.defs (F := Ideal)) _ _).mono (fun r h => ⟨fun c => (h c).2.2, sem_eq_zero_of_no_sems rfl r.2⟩)
    (Cert.ConvBRefIdeal.Value.run (F := Ideal) m g)

/-- Over the extended reals the call computes the reference's derivatives. -/
theorem value_ideal : Cert.algebraic_ConvBIdeal_ConvBRefIdeal := fun m g m' g' _ hx =>
  ⟨_, _, (θ_run defs _ _).mono (fun r h c => ⟨(h c).1.trans (final_grad m c), (h c).2.1.trans (final_sums m c), (h c).2.2⟩) (run_blocks m g),
    (θ_run (Cert.ConvBRefIdeal.defs (F := Ideal)) _ _).mono
      (fun r h c => ⟨(h c).1.trans (by unfold Cert.ConvBRefIdeal.Value.res_main_v79; rw [(hx c).1, (hx c).2.1, (hx c).2.2]; rfl),
        (h c).2.1.trans (by rw [(hx c).1, (hx c).2.1]; rfl), (h c).2.2⟩) (Cert.ConvBRefIdeal.Value.run (F := Ideal) m' g')⟩

end Cert.ConvBProof

end
-- ==== Proof.FoxClaims.lean ====
/-
The claims about the forgetting attention's gates: the running sums of the logarithms of the gates. A call takes one sequence
at a point and sums its rows in eight chunks; a chunk's sums are a product with a triangle of ones, of the rows in three parts,
and the sum of the chunks before it is carried along.
-/
module

public import proofs.«01_k».proof.Defs
public import proofs.«01_k».proof.Proof.Gen.FoxF.Frame
public import proofs.«01_k».proof.Proof.Gen.FoxFIdeal.Frame
public import proofs.«01_k».proof.Proof.Gen.FoxFIdeal.Value
public import proofs.«01_k».proof.Proof.Gen.FoxFRefIdeal.Run
public import Idealize.ShloMosaic.Lib.Pipeline.ValueKit.Point
public import Idealize.ShloMosaic.Lib.Quiescent

@[expose] public section

set_option Elab.async false

noncomputable section

open Idealize.ShloMosaic Idealize.ShloMosaic.TcCoe Idealize.SL.Sem

namespace Cert.FoxLemmas

/-- A list summed from the left. -/
theorem foldl_add {α : Type} (f : α → EReal) (l : List α) : ∀ a : EReal, l.foldl (fun r n => r + f n) a = a + (l.map f).sum := by
  induction l with
  | nil => intro a; simp
  | cons b l ih => intro a; rw [List.foldl_cons, ih, List.map_cons, List.sum_cons, add_assoc]

/-- A window that ends at a row takes the rows up to it. -/
theorem window (g : ℕ → EReal) (r : ℕ) (hr : r < 2048) :
    (∑ k : Fin 2048, if 2047 ≤ r + k.val then g (r + k.val - 2047) else 0) = ∑ j ∈ Finset.range (r + 1), g j := by
  rw [← Finset.sum_range fun k => if 2047 ≤ r + k then g (r + k - 2047) else 0, show 2048 = (2047 - r) + (r + 1) by omega,
    Finset.sum_range_add, Finset.sum_eq_zero fun k hk => if_neg (by have := Finset.mem_range.mp hk; omega), zero_add]
  refine Finset.sum_congr rfl fun j _ => ?_
  rw [if_pos (by omega)]
  exact congrArg g (by omega)

/-- What is left of a number that is not the greatest, when it is taken from itself, changes nothing. -/
theorem add_rest {x : EReal} (h : x ≠ ⊤) : x + (x - x) = x := by
  induction x using EReal.rec with
  | bot => rfl
  | coe x => rw [← EReal.coe_sub, sub_self, EReal.coe_zero, add_zero]
  | top => exact absurd rfl h

/-- The three parts of a number are it. -/
theorem parts {x : EReal} (h : x ≠ ⊤) : x + (x - x) + ((x - x) - (x - x)) = x := by
  have h' : x - x ≠ ⊤ := by
    induction x using EReal.rec with
    | bot => exact bot_ne_top
    | coe x => rw [← EReal.coe_sub]; exact EReal.coe_ne_top _
    | top => exact absurd rfl h
  rw [add_assoc, add_rest h', add_rest h]

/-- The rows of a chunk up to one of them, after those of the chunks before. -/
theorem chunk (g : ℕ → EReal) (n r : ℕ) (hr : r < 256) :
    (∑ k : Fin 256, if k.val ≤ r then g (n + k.val) else 0) + ∑ j ∈ Finset.range n, g j = ∑ j ∈ Finset.range (n + r + 1), g j := by
  have e : (∑ k ∈ Finset.range 256, if k ≤ r then g (n + k) else 0) = ∑ k ∈ Finset.range (r + 1), g (n + k) := by
    rw [show 256 = (r + 1) + (255 - r) by omega, Finset.sum_range_add _ (r + 1),
      Finset.sum_eq_zero (s := Finset.range (255 - r)) fun k _ => if_neg (by omega), add_zero]
    exact Finset.sum_congr rfl fun k hk => if_pos (by have := Finset.mem_range.mp hk; omega)
  rw [← Finset.sum_range fun k => if k ≤ r then g (n + k) else 0, e, add_assoc n r 1, Finset.sum_range_add _ n, add_comm]

/-- An element of the triangle. -/
theorem triangle (r k : ℕ) (hr : r < 256) (hk : k < 256) :
    (FloatOps.sitofp .f32 (BitVec.setWidth 32 (IntOp.cmpi .sge (BitVec.ofNat 32 r) (BitVec.ofNat 32 k))) : Ideal .f32) = (if k ≤ r then 1 else 0 : EReal) := by
  have e : ∀ n : ℕ, n < 256 → (BitVec.ofNat 32 n).toInt = n := fun n hn => by
    rw [BitVec.toInt_eq_toNat_of_lt (by rw [BitVec.toNat_ofNat]; omega), BitVec.toNat_ofNat, Nat.mod_eq_of_lt (by omega)]
  by_cases h : k ≤ r <;> simp [FloatOps.sitofp, IntOp.cmpi, BitVec.sle, e r hr, e k hk, h]

end Cert.FoxLemmas

namespace Cert.FoxFProof

open Cert.FoxLemmas Cert.FoxFIdeal Cert.FoxFIdeal.Gen Cert.FoxFIdeal.Value

abbrev W : Shape := ⟨3, ![1, 2048, 1]⟩

/-- The positions of a window are its rows. -/
def pos : Fin 2048 ≃ W.Idx where
  toFun k := ix3 (0 : Fin 1) k (0 : Fin 1)
  invFun i := i (1 : Fin 3)
  left_inv k := rfl
  right_inv i := by
    funext a
    fin_cases a
    · exact Subsingleton.elim (α := Fin 1) _ _
    · rfl
    · exact Subsingleton.elim (α := Fin 1) _ _

/-- The running sums, at an index. -/
theorem cumsum_apply (x : Cert.FoxFRefIdeal.S2x2048x128.Idx → EReal) (z : Cert.FoxFRefIdeal.S_.Idx → EReal) (hz : ∀ i, z i = 0)
    (i : Cert.FoxFRefIdeal.S2x2048x128.Idx) :
    Host.reduceWindowAdd (F := Ideal) (φ := .f32) ![1, 2048, 1] ![1, 1, 1] ![0, 2047, 0] ![0, 0, 0] x z
      Cert.FoxFRefIdeal.Gen.reduceWindows_S2x2048x128_S2x2048x128_w1s1p0_0_w2048s1p2047_0_w1s1p0_0 Cert.FoxFRefIdeal.Gen.h_S_ i
      = ∑ j ∈ Finset.range ((i (1 : Fin 3)).val + 1), if h : j < 2048 then x (ix3 (i 0) ⟨j, h⟩ (i 2)) else 0 := by
  have hr : (i (1 : Fin 3)).val < 2048 := (i (1 : Fin 3)).isLt
  rw [← window (fun j => if h : j < 2048 then x (ix3 (i 0) ⟨j, h⟩ (i 2)) else 0) _ hr]
  unfold Host.reduceWindowAdd
  simp only [FloatOps.hostReduceWindowAdd, Ideal.hostReduceWindowAdd, Host.reduceWindow]
  refine (foldl_add _ _ _).trans ?_
  rw [hz, zero_add, ← Fin.sum_univ_def]
  refine ((Equiv.sum_comp W.rowMajor.symm fun w : W.Idx => if h : ∀ a : Fin 3, ![0, 2047, 0] a ≤ (i a).val * ![1, 1, 1] a + (w a).val
      ∧ (i a).val * ![1, 1, 1] a + (w a).val - ![0, 2047, 0] a < Cert.FoxFRefIdeal.S2x2048x128.size a
    then x fun a => ⟨(i a).val * ![1, 1, 1] a + (w a).val - ![0, 2047, 0] a, (h a).2⟩ else 0).trans (Equiv.sum_comp pos _).symm).trans ?_
  refine Finset.sum_congr rfl fun k _ => ?_
  by_cases hk : 2047 ≤ (i (1 : Fin 3)).val + k.val
  · have hj : (i (1 : Fin 3)).val + k.val - 2047 < 2048 := by omega
    rw [if_pos hk, dif_pos hj, dif_pos]
    · refine congrArg x (funext fun a => ?_)
      fin_cases a
      · exact Fin.ext (by show (i (0 : Fin 3)).val * 1 + 0 - 0 = (i (0 : Fin 3)).val; omega)
      · exact Fin.ext (by show (i (1 : Fin 3)).val * 1 + k.val - 2047 = (i (1 : Fin 3)).val + k.val - 2047; omega)
      · exact Fin.ext (by show (i (2 : Fin 3)).val * 1 + 0 - 0 = (i (2 : Fin 3)).val; omega)
    · intro a
      fin_cases a
      · exact ⟨Nat.zero_le _, by show (i (0 : Fin 3)).val * 1 + 0 - 0 < 2; have : (i (0 : Fin 3)).val < 2 := (i (0 : Fin 3)).isLt; omega⟩
      · exact ⟨by show 2047 ≤ (i (1 : Fin 3)).val * 1 + k.val; omega, by show (i (1 : Fin 3)).val * 1 + k.val - 2047 < 2048; omega⟩
      · exact ⟨Nat.zero_le _, by show (i (2 : Fin 3)).val * 1 + 0 - 0 < 128; have : (i (2 : Fin 3)).val < 128 := (i (2 : Fin 3)).isLt; omega⟩
  · rw [if_neg hk, dif_neg]
    intro h
    have h1 : 2047 ≤ (i (1 : Fin 3)).val * 1 + k.val := (h 1).1
    omega

/-- The logarithms of a chunk's gates. -/
def logs {F : FTy → Type} [FloatOps F] (v : FVec F S256x128 .f32) (b : FVec F S1x128 .f32) : FVec F S256x128 .f32 :=
  subf (minimumf (addf v (broadcastTo S256x128 b broadcasts_S1x128_S256x128)) (broadcast S256x128 (Scalar.ofBits .f32 0x00000000#32)))
    (log (addf (broadcast S256x128 (Scalar.ofBits .f32 0x3F800000#32)) (exp (subf (broadcast S256x128 (Scalar.ofBits .f32 0x00000000#32))
      (absf (addf v (broadcastTo S256x128 b broadcasts_S1x128_S256x128)))))))

/-- What the first part of a number leaves. -/
def rest {F : FTy → Type} [FloatOps F] (x : FVec F S256x128 .f32) : FVec F S256x128 .f32 :=
  subf x (extf .f32 (truncf .bf16 x bitsLt_bf16_f32) bitsLt_bf16_f32)

/-- A triangle of ones times a chunk. -/
def lower {F : FTy → Type} [FloatOps F] (x : FVec F S256x128 .f32) : FVec F S256x128 .f32 :=
  matmul dot_S256x256_S256x128_S256x128_1_0_0_1_n_n none (k0_pay3 (F := F)) (truncf .bf16 x bitsLt_bf16_f32) (constant S256x128 .f32 0x00000000#32)

/-- A chunk's running sums. -/
def sums {F : FTy → Type} [FloatOps F] (x : FVec F S256x128 .f32) (carry : FVec F S1x128 .f32) : FVec F S256x128 .f32 :=
  addf (addf (addf (lower x) (lower (rest x))) (lower (rest (rest x)))) (broadcastTo S256x128 carry broadcasts_S1x128_S256x128)

/-- A chunk's last sum. -/
def last {F : FTy → Type} [FloatOps F] (x : FVec F S256x128 .f32) : FVec F S1x128 .f32 :=
  extractStridedSlice S1x128 ![255, 0] x slices_S256x128_o255_0_S1x128

variable (x0 : Vec Ideal S2048x128 .f32) (x1 : Vec Ideal S8x128 .f32)

def c0 : FVec Ideal S256x128 .f32 := sums (logs (View.ld x0 r0_0) (View.ld x1 r0_1)) (broadcast S1x128 (Scalar.ofBits .f32 0x00000000#32))
def c1 : FVec Ideal S256x128 .f32 := sums (logs (View.ld x0 r0_2) (View.ld x1 r0_1)) (last (c0 x0 x1))
def c2 : FVec Ideal S256x128 .f32 := sums (logs (View.ld x0 r0_3) (View.ld x1 r0_1)) (last (c1 x0 x1))
def c3 : FVec Ideal S256x128 .f32 := sums (logs (View.ld x0 r0_4) (View.ld x1 r0_1)) (last (c2 x0 x1))
def c4 : FVec Ideal S256x128 .f32 := sums (logs (View.ld x0 r0_5) (View.ld x1 r0_1)) (last (c3 x0 x1))
def c5 : FVec Ideal S256x128 .f32 := sums (logs (View.ld x0 r0_6) (View.ld x1 r0_1)) (last (c4 x0 x1))
def c6 : FVec Ideal S256x128 .f32 := sums (logs (View.ld x0 r0_7) (View.ld x1 r0_1)) (last (c5 x0 x1))
def c7 : FVec Ideal S256x128 .f32 := sums (logs (View.ld x0 r0_8) (View.ld x1 r0_1)) (last (c6 x0 x1))

theorem pieces : out0_2 x0 x1 = View.canon [⟨r0_8, c7 x0 x1⟩, ⟨r0_7, c6 x0 x1⟩, ⟨r0_6, c5 x0 x1⟩, ⟨r0_5, c4 x0 x1⟩, ⟨r0_4, c3 x0 x1⟩,
    ⟨r0_3, c2 x0 x1⟩, ⟨r0_2, c1 x0 x1⟩, ⟨r0_0, c0 x0 x1⟩] := rfl

/-- The triangle takes the rows up to one. -/
theorem lower_apply (x : FVec Ideal S256x128 .f32) (i : S256x128.Idx) :
    lower x i = (∑ k : Fin 256, if k.val ≤ (i (0 : Fin 2)).val then (x (ix2 k (i 1)) : EReal) else 0 : EReal) := by
  pointwise [lower, k0_pay3]
  refine Finset.sum_congr rfl fun k _ => ?_
  rw [triangle _ _ (i (0 : Fin 2)).isLt k.isLt]
  by_cases h : k.val ≤ (i (0 : Fin 2)).val
  · rw [if_pos h, if_pos h, one_mul]
  · rw [if_neg h, if_neg h, zero_mul]

theorem rest_apply (x : FVec Ideal S256x128 .f32) (i : S256x128.Idx) : rest x i = ((x i : EReal) - x i : EReal) := by
  pointwise [rest]

/-- A chunk's running sums, at a row and a column. -/
theorem sums_apply (x : FVec Ideal S256x128 .f32) (carry : FVec Ideal S1x128 .f32) (hx : ∀ i, (x i : EReal) ≠ ⊤) (i : S256x128.Idx) :
    sums x carry i = ((∑ k : Fin 256, if k.val ≤ (i (0 : Fin 2)).val then (x (ix2 k (i 1)) : EReal) else 0) + carry (ix2 0 (i 1)) : EReal) := by
  pointwise [sums]
  rw [lower_apply, lower_apply, lower_apply, ← Finset.sum_add_distrib, ← Finset.sum_add_distrib]
  refine congrArg (· + _) (Finset.sum_congr rfl fun k _ => ?_)
  by_cases h : k.val ≤ (i (0 : Fin 2)).val
  · simp only [if_pos h, rest_apply]
    exact parts (hx _)
  · simp only [if_neg h, add_zero]

/-- The logarithm of a gate. -/
def gate (z : EReal) : EReal := min z 0 - Ideal.log (1 + Ideal.exp (0 - max z (-z)))

theorem logs_apply (v : FVec Ideal S256x128 .f32) (b : FVec Ideal S1x128 .f32) (i : S256x128.Idx) :
    logs v b i = gate ((v i : EReal) + b (ix2 0 (i 1))) := by
  pointwise [logs, gate]
  rfl

theorem exp_nonneg (z : EReal) : 0 ≤ Ideal.exp z := by
  induction z using EReal.rec with
  | bot => exact le_rfl
  | coe x => exact EReal.coe_nonneg.mpr (Real.exp_pos x).le
  | top => exact le_top

/-- A logarithm of what is at least one is at least zero. -/
theorem log_nonneg {z : EReal} (h : 1 ≤ z) : 0 ≤ Ideal.log z := by
  induction z using EReal.rec with
  | bot => exact absurd (le_bot_iff.mp h) (EReal.coe_ne_bot 1)
  | coe x =>
    have hx : 1 ≤ x := by exact_mod_cast h
    show (0 : EReal) ≤ if x ≤ 0 then ⊥ else (Real.log x : EReal)
    rw [if_neg (by linarith)]
    exact EReal.coe_nonneg.mpr (Real.log_nonneg hx)
  | top => exact le_top

/-- It is not the greatest number. -/
theorem gate_ne_top (z : EReal) : gate z ≠ ⊤ := by
  have h : 0 ≤ Ideal.log (1 + Ideal.exp (0 - max z (-z))) := log_nonneg (le_add_of_nonneg_right (exp_nonneg _))
  have : gate z ≤ 0 := by
    unfold gate
    rw [sub_eq_add_neg]
    exact add_nonpos (min_le_right _ _) (by rw [EReal.neg_le]; simpa using h)
  exact ne_top_of_le_ne_top EReal.zero_ne_top this

/-- A sequence's logarithms in one column. -/
def col (x0 : Vec Ideal S2048x128 .f32) (x1 : Vec Ideal S8x128 .f32) (l : Fin 128) (j : ℕ) : EReal :=
  if h : j < 2048 then gate ((x0 (ix2 ⟨j, h⟩ l) : EReal) + x1 (ix2 0 l)) else 0

/-- A chunk's running sums go on with those of the chunks before. -/
theorem step (n : ℕ) (v : FVec Ideal S256x128 .f32) (carry : FVec Ideal S1x128 .f32)
    (hv : ∀ i : S256x128.Idx, (v i : EReal) = col x0 x1 (i 1) (n + (i (0 : Fin 2)).val)) (hn : ∀ i : S256x128.Idx, (v i : EReal) ≠ ⊤)
    (hc : ∀ l : Fin 128, (carry (ix2 0 l) : EReal) = ∑ j ∈ Finset.range n, col x0 x1 l j) (i : S256x128.Idx) :
    sums v carry i = (∑ j ∈ Finset.range (n + (i (0 : Fin 2)).val + 1), col x0 x1 (i 1) j : EReal) := by
  refine (sums_apply v carry hn i).trans (Eq.trans (congrArg₂ (· + ·) (Finset.sum_congr rfl fun k _ => ?_) (hc (i 1)))
    (chunk (col x0 x1 (i 1)) n (i (0 : Fin 2)).val (i (0 : Fin 2)).isLt))
  by_cases h : k.val ≤ (i (0 : Fin 2)).val
  · rw [if_pos h, if_pos h]; exact hv (ix2 k (i 1))
  · rw [if_neg h, if_neg h]

theorem last_apply (v : FVec Ideal S256x128 .f32) (l : Fin 128) : last v (ix2 0 l) = v (ix2 255 l) := by
  pointwise [last]

theorem logs_ne_top (v : FVec Ideal S256x128 .f32) (b : FVec Ideal S1x128 .f32) (i : S256x128.Idx) : (logs v b i : EReal) ≠ ⊤ := by
  rw [logs_apply]; exact gate_ne_top _

theorem col_eq (l : Fin 128) (j : ℕ) (h : j < 2048) : col x0 x1 l j = gate ((x0 (ix2 ⟨j, h⟩ l) : EReal) + x1 (ix2 0 l)) := dif_pos h

/-- A chunk's rows, in the sequence's. -/
theorem ld_rows (n : ℕ) (hn : n + 256 ≤ 2048) (inb) (i : S256x128.Idx) :
    View.ld (Val := Elt Ideal) x0 (Rect.unit (s := S2048x128) ![n, 0] S256x128.size inb) i
      = x0 (ix2 ⟨n + (i (0 : Fin 2)).val, by have : (i (0 : Fin 2)).val < 256 := (i (0 : Fin 2)).isLt; omega⟩ (i 1)) := by
  refine congrArg x0 (funext fun a => ?_)
  fin_cases a
  · exact Fin.ext (by show n + 1 * (i (0 : Fin 2)).val = n + (i (0 : Fin 2)).val; omega)
  · exact Fin.ext (by show 0 + 1 * (i (1 : Fin 2)).val = (i (1 : Fin 2)).val; omega)

theorem ld_row (l : Fin 128) : View.ld (Val := Elt Ideal) x1 r0_1 (ix2 0 l) = x1 (ix2 0 l) := by
  refine congrArg x1 (funext fun a => ?_)
  fin_cases a
  · rfl
  · exact Fin.ext (by show 0 + 1 * l.val = l.val; omega)

/-- The eight chunks. -/
theorem c0_apply (i : S256x128.Idx) : c0 x0 x1 i = (∑ j ∈ Finset.range (0 + (i (0 : Fin 2)).val + 1), col x0 x1 (i 1) j : EReal) := by
  refine step x0 x1 0 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 0 (by omega) _ i) (ld_row x1 (i 1)))
  · rw [Finset.range_zero, Finset.sum_empty]
    pointwise []

theorem c1_apply (i : S256x128.Idx) : c1 x0 x1 i = (∑ j ∈ Finset.range (256 + (i (0 : Fin 2)).val + 1), col x0 x1 (i 1) j : EReal) := by
  refine step x0 x1 256 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 256 (by omega) _ i) (ld_row x1 (i 1)))
  · rw [last_apply, c0_apply]
    rfl

theorem c2_apply (i : S256x128.Idx) : c2 x0 x1 i = (∑ j ∈ Finset.range (512 + (i (0 : Fin 2)).val + 1), col x0 x1 (i 1) j : EReal) := by
  refine step x0 x1 512 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 512 (by omega) _ i) (ld_row x1 (i 1)))
  · rw [last_apply, c1_apply]
    rfl

theorem c3_apply (i : S256x128.Idx) : c3 x0 x1 i = (∑ j ∈ Finset.range (768 + (i (0 : Fin 2)).val + 1), col x0 x1 (i 1) j : EReal) := by
  refine step x0 x1 768 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 768 (by omega) _ i) (ld_row x1 (i 1)))
  · rw [last_apply, c2_apply]
    rfl

theorem c4_apply (i : S256x128.Idx) : c4 x0 x1 i = (∑ j ∈ Finset.range (1024 + (i (0 : Fin 2)).val + 1), col x0 x1 (i 1) j : EReal) := by
  refine step x0 x1 1024 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 1024 (by omega) _ i) (ld_row x1 (i 1)))
  · rw [last_apply, c3_apply]
    rfl

theorem c5_apply (i : S256x128.Idx) : c5 x0 x1 i = (∑ j ∈ Finset.range (1280 + (i (0 : Fin 2)).val + 1), col x0 x1 (i 1) j : EReal) := by
  refine step x0 x1 1280 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 1280 (by omega) _ i) (ld_row x1 (i 1)))
  · rw [last_apply, c4_apply]
    rfl

theorem c6_apply (i : S256x128.Idx) : c6 x0 x1 i = (∑ j ∈ Finset.range (1536 + (i (0 : Fin 2)).val + 1), col x0 x1 (i 1) j : EReal) := by
  refine step x0 x1 1536 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 1536 (by omega) _ i) (ld_row x1 (i 1)))
  · rw [last_apply, c5_apply]
    rfl

theorem c7_apply (i : S256x128.Idx) : c7 x0 x1 i = (∑ j ∈ Finset.range (1792 + (i (0 : Fin 2)).val + 1), col x0 x1 (i 1) j : EReal) := by
  refine step x0 x1 1792 _ _ (fun i => ?_) (logs_ne_top _ _) (fun l => ?_) i
  · have hi : (i (0 : Fin 2)).val < 256 := (i (0 : Fin 2)).isLt
    refine (logs_apply _ _ i).trans (Eq.trans ?_ (col_eq x0 x1 (i 1) _ (by omega)).symm)
    exact congrArg gate (congrArg₂ (· + ·) (ld_rows x0 1792 (by omega) _ i) (ld_row x1 (i 1)))
  · rw [last_apply, c6_apply]
    rfl

/-- The reference's gates, before the sigmoid. -/
def pre {F : FTy → Type} [FloatOps F] (a : S4096x3200.Idx → Elt F .f32) (b : S8x128.Idx → Elt F .f32) : Cert.FoxFRefIdeal.S2x2048x128.Idx → Elt F .f32 :=
  addf (shapeCast _ (extractStridedSlice S4096x128 ![0, 3072] a Cert.FoxFRefIdeal.Gen.slices_S4096x3200_S4096x128_0_3072) Cert.FoxFRefIdeal.Gen.shapeCasts_S4096x128_S2x2048x128)
    (broadcastInDim Cert.FoxFRefIdeal.S2x2048x128 ![0, 1, 2] Cert.FoxFRefIdeal.Gen.bcast_S1x1x128_S2x2048x128_0_1_2
      (broadcastInDim Cert.FoxFRefIdeal.S1x1x128 ![2] Cert.FoxFRefIdeal.Gen.bcast_S128_S1x1x128_2
        (shapeCast _ (extractStridedSlice S1x128 ![0, 0] b Cert.FoxFRefIdeal.Gen.slices_S8x128_S1x128_0_0) Cert.FoxFRefIdeal.Gen.shapeCasts_S1x128_S128)))

def zeros {F : FTy → Type} [FloatOps F] : Cert.FoxFRefIdeal.S2x2048x128.Idx → Elt F .f32 :=
  broadcastInDim Cert.FoxFRefIdeal.S2x2048x128 ![] Cert.FoxFRefIdeal.Gen.bcast_S_S2x2048x128 (constant Cert.FoxFRefIdeal.S_ .f32 0x00000000#32)

/-- The reference's logarithms of the gates. -/
def logsig {F : FTy → Type} [FloatOps F] (z : Cert.FoxFRefIdeal.S2x2048x128.Idx → Elt F .f32) : Cert.FoxFRefIdeal.S2x2048x128.Idx → Elt F .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The reference's running sums. -/
def want {F : FTy → Type} [FloatOps F] (a : S4096x3200.Idx → Elt F .f32) (b : S8x128.Idx → Elt F .f32) : S4096x128.Idx → Elt F .f32 :=
  shapeCast _ (Host.reduceWindowAdd ![1, 2048, 1] ![1, 1, 1] ![0, 2047, 0] ![0, 0, 0] (logsig (pre a b))
    (broadcastInDim Cert.FoxFRefIdeal.S_ ![] Cert.FoxFRefIdeal.Gen.bcast_S_S_ (constant Cert.FoxFRefIdeal.S_ .f32 0x00000000#32))
    Cert.FoxFRefIdeal.Gen.reduceWindows_S2x2048x128_S2x2048x128_w1s1p0_0_w2048s1p2047_0_w1s1p0_0 Cert.FoxFRefIdeal.Gen.h_S_) Cert.FoxFRefIdeal.Gen.shapeCasts_S2x2048x128_S4096x128

theorem logsig_apply (z : Cert.FoxFRefIdeal.S2x2048x128.Idx → EReal) (i : Cert.FoxFRefIdeal.S2x2048x128.Idx) : logsig (F := Ideal) z i = gate (z i) := by
  pointwise [logsig, zeros, gate]
  rw [if_neg (by simp)]
  show -(max (-z i) 0 + Ideal.log (1 + Ideal.exp (-max (-z i) (- -z i)))) = _
  have hl : 0 ≤ Ideal.log (1 + Ideal.exp (0 - max (z i) (-z i))) := log_nonneg (le_add_of_nonneg_right (exp_nonneg _))
  rw [neg_neg, max_comm (-z i) (z i), ← zero_sub (max (z i) (-z i)), EReal.neg_add (.inl (ne_bot_of_le_ne_bot EReal.zero_ne_bot (le_max_right _ _)))
    (.inr (ne_bot_of_le_ne_bot EReal.zero_ne_bot hl))]
  refine congrArg (· - _) ?_
  rcases le_total (z i) 0 with h | h
  · rw [min_eq_left h, max_eq_left (by rw [EReal.le_neg]; simpa using h), neg_neg]
  · rw [min_eq_right h, max_eq_right (by rw [EReal.neg_le]; simpa using h), neg_zero]

theorem pre_apply (a : S4096x3200.Idx → EReal) (b : S8x128.Idx → EReal) (q : Fin 2) (r : Fin 2048) (l : Fin 128) :
    pre (F := Ideal) a b (ix3 q r l) = a (ix2 ⟨q.val * 2048 + r.val, by omega⟩ ⟨3072 + l.val, by omega⟩) + b (ix2 0 l) := by
  pointwise [pre]

/-- A sequence's logarithms in one column, from the arguments. -/
def gates (a : S4096x3200.Idx → EReal) (b : S8x128.Idx → EReal) (q : Fin 2) (l : Fin 128) (j : ℕ) : EReal :=
  if h : j < 2048 then gate (a (ix2 ⟨q.val * 2048 + j, by omega⟩ ⟨3072 + l.val, by omega⟩) + b (ix2 0 l)) else 0

/-- The reference's running sums, at an index whose coordinates are known. -/
theorem want_apply (a : S4096x3200.Idx → EReal) (b : S8x128.Idx → EReal) (y : S4096x128.Idx) (q : Fin 2) (r : ℕ) (l : Fin 128) (hr : r < 2048)
    (h0 : (y (0 : Fin 2)).val = q.val * 2048 + r) (h1 : (y (1 : Fin 2)).val = l.val) :
    want (F := Ideal) a b y = ∑ j ∈ Finset.range (r + 1), gates a b q l j := by
  obtain rfl : l = y 1 := Fin.ext h1.symm
  pointwise [want]
  rw [cumsum_apply _ _ fun i => by pointwise []]
  have e : (y (0 : Fin 2)).val % 2048 = r := by omega
  have hq : (⟨(y (0 : Fin 2)).val / 2048, by have : (y (0 : Fin 2)).val < 4096 := (y (0 : Fin 2)).isLt; omega⟩ : Fin 2) = q :=
    Fin.ext (by show _ / 2048 = _; omega)
  rw [show ix3 (n0 := 2) (n1 := 2048) (n2 := 128) ⟨(y (0 : Fin 2)).val / 2048, _⟩ ⟨(y (0 : Fin 2)).val % 2048, _⟩ (y 1) = ix3 q ⟨r, hr⟩ (y 1) from
    congrArg₂ (fun a b => ix3 a b (y 1)) hq (Fin.ext e)]
  refine Finset.sum_congr rfl fun j _ => ?_
  unfold gates
  by_cases h : j < 2048
  · rw [dif_pos h, dif_pos h]
    exact (logsig_apply _ _).trans (congrArg gate (pre_apply a b _ _ _))
  · rw [dif_neg h, dif_neg h]

/-- The blocks of a point. -/
theorem idx : ∀ t : Fin cfg0.N, win0_0.index t (0 : Fin 2) = t.val ∧ win0_0.index t (1 : Fin 2) = 24
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- A point's sequence. -/
theorem col_iblk (c : Dev nD) (t : Fin cfg0.N) (l : Fin 128) (j : ℕ) : col (iblk m c 0 t) (iblk m c 1 t) l j
    = gates (m ((c : Thread nD τ).loc main_arg0)) (m ((c : Thread nD τ).loc main_arg1)) ⟨t.val, Nat.lt_of_lt_of_eq t.isLt N_0⟩ l j := by
  unfold col gates
  by_cases h : j < 2048
  · rw [dif_pos h, dif_pos h]
    refine congrArg gate (congrArg₂ (· + ·) ?_ ?_)
    · blk_point [iblk, V, idx t]
    · blk_point [iblk, V, idx t]
  · rw [dif_neg h, dif_neg h]

/-- The array after the run is the reference's. -/
theorem final (c : Dev nD) :
    (dats m 0 c).arrAt 2 cfg0.N = want (F := Ideal) (m ((c : Thread nD τ).loc main_arg0)) (m ((c : Thread nD τ).loc main_arg1)) := by
  refine (dats m 0 c).arrAt_eq_of_covers 2 _ (by decide +kernel) fun t hf y => ?_
  blk_simp
  rw [after0_2, pieces]
  canon_tiles y h
  · refine (c7_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (1792 + (y (0 : Fin 2)).val)
      blk_simp [idx t]; omega
    · blk_simp [idx t]; omega
  · refine (c6_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (1536 + (y (0 : Fin 2)).val)
      blk_simp [idx t]; omega
    · blk_simp [idx t]; omega
  · refine (c5_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (1280 + (y (0 : Fin 2)).val)
      blk_simp [idx t]; omega
    · blk_simp [idx t]; omega
  · refine (c4_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (1024 + (y (0 : Fin 2)).val)
      blk_simp [idx t]; omega
    · blk_simp [idx t]; omega
  · refine (c3_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (768 + (y (0 : Fin 2)).val)
      blk_simp [idx t]; omega
    · blk_simp [idx t]; omega
  · refine (c2_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (512 + (y (0 : Fin 2)).val)
      blk_simp [idx t]; omega
    · blk_simp [idx t]; omega
  · refine (c1_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (256 + (y (0 : Fin 2)).val)
      blk_simp [idx t]; omega
    · blk_simp [idx t]; omega
  · refine (c0_apply _ _ y).trans ((Finset.sum_congr rfl fun j _ => col_iblk m c t _ j).trans (want_apply _ _ _ _ _ _ ?_ ?_ ?_).symm)
    · have hy : (y (0 : Fin 2)).val < 256 := (y (0 : Fin 2)).isLt
      omega
    · show _ = t.val * 2048 + (0 + (y (0 : Fin 2)).val)
      blk_simp [idx t]; omega
    · blk_simp [idx t]; omega

theorem frame : Cert.quiescent_FoxF := fun m g _ => Cert.FoxF.Gen.frame m g

theorem frame_ideal : Cert.quiescent_FoxFIdeal := fun m g _ => Cert.FoxFIdeal.Gen.frame m g

theorem frame_ref_ideal : Cert.quiescent_FoxFRefIdeal := fun m g _ =>
  (θ_run (Cert.FoxFRefIdeal.defs (F := Ideal)) _ _).mono (fun r h => ⟨fun c => (h c).2, sem_eq_zero_of_no_sems rfl r.2⟩)
    (Cert.FoxFRefIdeal.Value.run (F := Ideal) m g)

/-- Over the extended reals the call computes the reference's running sums. -/
theorem value_ideal : Cert.algebraic_FoxFIdeal_FoxFRefIdeal := fun m g m' g' _ hx =>
  ⟨_, (θ_run defs _ _).mono (fun r h c => ⟨(h c).1.trans (final m c), (h c).2⟩) (run_blocks m g),
    (θ_run (Cert.FoxFRefIdeal.defs (F := Ideal)) _ _).mono
      (fun r h c => ⟨(h c).1.trans (by rw [(hx c).1, (hx c).2]; rfl), (h c).2⟩) (Cert.FoxFRefIdeal.Value.run (F := Ideal) m' g')⟩

end Cert.FoxFProof

end
-- ==== Proof.FoxBackClaims.lean ====
/-
The claims about the derivative of the forgetting attention's gates. A call takes one sequence at a point and sums its rows from
the last one in eight chunks, as the gates' own call sums them from the first one; it multiplies the sums by the gates' slopes,
and adds the products for the bias into one small block that its points share.
-/
module

public import proofs.«01_k».proof.Defs
public import proofs.«01_k».proof.Proof.FoxClaims
public import proofs.«01_k».proof.Proof.Gen.FoxB.Frame
public import proofs.«01_k».proof.Proof.Gen.FoxBIdeal.Frame
public import proofs.«01_k».proof.Proof.Gen.FoxBIdeal.Value
public import proofs.«01_k».proof.Proof.Gen.FoxBRefIdeal.Run
public import Idealize.ShloMosaic.Lib.Pipeline.ValueKit.Point
public import Idealize.ShloMosaic.Lib.WritesUnit
public import Idealize.ShloMosaic.Lib.ReduceAll
public import Idealize.ShloMosaic.Lib.Quiescent

@[expose] public section

set_option Elab.async false

noncomputable section

open Idealize.ShloMosaic Idealize.ShloMosaic.TcCoe Idealize.SL.Sem

namespace Cert.FoxLemmas

/-- What a sequence holds from a row to its end. -/
def tail (g : ℕ → EReal) (n : ℕ) : EReal := ∑ j ∈ Finset.Ico n 2048, g j

theorem tail_end (g : ℕ → EReal) : tail g 2048 = 0 := by
  unfold tail
  rw [Finset.Ico_self, Finset.sum_empty]

/-- The rows of a chunk from one of them on, before those of the chunks after. -/
theorem chunk_tail (g : ℕ → EReal) (n r : ℕ) (hn : n + 256 ≤ 2048) (hr : r ≤ 256) :
    (∑ k : Fin 256, if r ≤ k.val then g (n + k.val) else 0) + tail g (n + 256) = tail g (n + r) := by
  unfold tail
  rw [Fin.sum_univ_eq_sum_range (fun k => if r ≤ k then g (n + k) else 0) 256, Finset.range_eq_Ico, ← Finset.sum_Ico_consecutive _ (Nat.zero_le r) hr,
    Finset.sum_eq_zero fun k hk => if_neg (by have := Finset.mem_Ico.mp hk; omega), zero_add,
    Finset.sum_congr rfl fun k hk => if_pos (Finset.mem_Ico.mp hk).1, Finset.sum_Ico_add g r 256 n, Nat.add_comm r n, Nat.add_comm 256 n,
    Finset.sum_Ico_consecutive _ (by omega) hn]

/-- A chunk before those after it. -/
theorem chunk_all (g : ℕ → EReal) (n : ℕ) (hn : n + 256 ≤ 2048) : tail g (n + 256) + ∑ k : Fin 256, g (n + k.val) = tail g n := by
  rw [add_comm]
  exact (congrArg (· + _) (Finset.sum_congr rfl fun k _ => (if_pos (Nat.zero_le _)).symm)).trans (chunk_tail g n 0 hn (by omega))

/-- Sums of rows taken from the end. -/
theorem tail_turned (g : ℕ → EReal) (r : ℕ) (hr : r < 2048) : ∑ j ∈ Finset.range (2047 - r + 1), g (2047 - j) = tail g r := by
  unfold tail
  rw [Finset.sum_Ico_eq_sum_range, ← Finset.sum_range_reflect, show 2047 - r + 1 = 2048 - r by omega]
  exact Finset.sum_congr rfl fun j hj => congrArg g (by have := Finset.mem_range.mp hj; omega)

/-- An element of the other triangle. -/
theorem triangle_up (r k : ℕ) (hr : r < 256) (hk : k < 256) :
    (FloatOps.sitofp .f32 (BitVec.setWidth 32 (IntOp.cmpi .sle (BitVec.ofNat 32 r) (BitVec.ofNat 32 k))) : Ideal .f32) = (if r ≤ k then 1 else 0 : EReal) := by
  have e : ∀ n : ℕ, n < 256 → (BitVec.ofNat 32 n).toInt = n := fun n hn => by
    rw [BitVec.toInt_eq_toNat_of_lt (by rw [BitVec.toNat_ofNat]; omega), BitVec.toNat_ofNat, Nat.mod_eq_of_lt (by omega)]
  by_cases h : r ≤ k <;> simp [FloatOps.sitofp, IntOp.cmpi, BitVec.sle, e r hr, e k hk, h]

/-- The slope of a gate's logarithm. -/
def slope (z : EReal) : EReal := Ideal.div 1 (1 + Ideal.exp z)

/-- The same, with the exponential taken of a negative number. -/
theorem slope_eq (z : EReal) :
    Ideal.div (if 0 ≤ z then Ideal.exp (0 - max z (-z)) else 1) (1 + Ideal.exp (0 - max z (-z))) = slope z := by
  have real : ∀ x y : ℝ, 0 < y → Ideal.div (x : EReal) (1 + (y : EReal)) = ((x / (1 + y) : ℝ) : EReal) := fun x y hy => by
    unfold Ideal.div
    rw [← EReal.coe_one, ← EReal.coe_add, if_neg (by rw [EReal.coe_eq_zero]; positivity), ← EReal.coe_inv, ← EReal.coe_mul, div_eq_mul_inv]
  have e : ∀ x : ℝ, Ideal.exp (x : EReal) = ((Real.exp x : ℝ) : EReal) := fun _ => rfl
  have eb : Ideal.exp ⊥ = 0 := rfl
  have et : Ideal.exp ⊤ = ⊤ := rfl
  unfold slope
  induction z using EReal.rec with
  | bot => simp [eb]
  | coe x =>
    rw [e, show (1 : EReal) = ((1 : ℝ) : EReal) from rfl]
    rcases le_or_gt 0 x with h | h
    · rw [if_pos (EReal.coe_nonneg.mpr h), ← EReal.coe_neg, max_eq_left (EReal.coe_le_coe_iff.mpr (by linarith)), zero_sub, ← EReal.coe_neg, e, EReal.coe_one,
        real _ _ (Real.exp_pos _), ← EReal.coe_one]
      refine Eq.trans (congrArg _ ?_) (real 1 _ (Real.exp_pos _)).symm
      rw [Real.exp_neg]
      have := Real.exp_pos x
      field_simp
      try ring
    · rw [if_neg (by rw [EReal.coe_nonneg]; linarith), ← EReal.coe_neg, max_eq_right (EReal.coe_le_coe_iff.mpr (by linarith)), zero_sub, ← EReal.coe_neg, neg_neg, e]
  | top =>
    have h1 : (1 : EReal) + ⊤ = ⊤ := EReal.coe_add_top 1
    simp [eb, et, Ideal.div, h1]

end Cert.FoxLemmas

namespace Cert.FoxBProof

open Cert.FoxLemmas Cert.FoxBIdeal Cert.FoxBIdeal.Gen Cert.FoxBIdeal.Value

/-- A chunk's gates' slopes. -/
def slopes {F : FTy → Type} [FloatOps F] (v : FVec F S256x128 .f32) (b : FVec F S1x128 .f32) : FVec F S256x128 .f32 :=
  divf (select (cmpf .oge (addf v (broadcastTo S256x128 b broadcasts_S1x128_S256x128)) (broadcast S256x128 (Scalar.ofBits .f32 0x00000000#32)))
      (exp (subf (broadcast S256x128 (Scalar.ofBits .f32 0x00000000#32)) (absf (addf v (broadcastTo S256x128 b broadcasts_S1x128_S256x128)))))
      (broadcast S256x128 (Scalar.ofBits .f32 0x3F800000#32)))
    (addf (broadcast S256x128 (Scalar.ofBits .f32 0x3F800000#32))
      (exp (subf (broadcast S256x128 (Scalar.ofBits .f32 0x00000000#32)) (absf (addf v (broadcastTo S256x128 b broadcasts_S1x128_S256x128))))))

/-- What the first part of a number leaves. -/
def rest {F : FTy → Type} [FloatOps F] (x : FVec F S256x128 .f32) : FVec F S256x128 .f32 :=
  subf x (extf .f32 (truncf .bf16 x bitsLt_bf16_f32) bitsLt_bf16_f32)

/-- A triangle of ones times a chunk. -/
def upper {F : FTy → Type} [FloatOps F] (x : FVec F S256x128 .f32) : FVec F S256x128 .f32 :=
  matmul dot_S256x256_S256x128_S256x128_1_0_0_1_n_n none (k0_pay4 (F := F)) (truncf .bf16 x bitsLt_bf16_f32) (constant S256x128 .f32 0x00000000#32)

/-- A chunk's sums from each row on. -/
def sums {F : FTy → Type} [FloatOps F] (x : FVec F S256x128 .f32) (carry : FVec F S1x128 .f32) : FVec F S256x128 .f32 :=
  addf (addf (addf (upper x) (upper (rest x))) (upper (rest (rest x)))) (broadcastTo S256x128 carry broadcasts_S1x128_S256x128)

/-- A chunk's first row. -/
def first {F : FTy → Type} [FloatOps F] (x : FVec F S256x128 .f32) : FVec F S1x128 .f32 :=
  extractStridedSlice S1x128 ![0, 0] x slices_S256x128_o0_0_S1x128

/-- A total and a chunk's columns. -/
def more {F : FTy → Type} [FloatOps F] (a : FVec F S1x128 .f32) (x : FVec F S256x128 .f32) : FVec F S1x128 .f32 :=
  addf a (shapeCast S1x128 (multiReduction .add [0] S128 x 0x00000000#32 reduces_S256x128_S128 (.inl rfl) rfl) shapeCasts_S128_S1x128)

variable (x0 x1 : Vec Ideal S2048x128 .f32) (x2 : Vec Ideal S8x128 .f32)

/-- A chunk's rows, and the first row. -/
def rows (n : ℕ) (inb : ∀ a, (![n, 0] : Fin 2 → Nat) a + S256x128.size a ≤ S2048x128.size a) (x : Vec Ideal S2048x128 .f32) : FVec Ideal S256x128 .f32 :=
  View.ld (Val := Elt Ideal) x (Rect.unit (s := S2048x128) ![n, 0] S256x128.size inb)
def bias : FVec Ideal S1x128 .f32 := View.ld (Val := Elt Ideal) x2 (Rect.unit (s := S8x128) ![0, 0] S1x128.size inb_S8x128_S1x128_0_0)

def d7 : FVec Ideal S256x128 .f32 := sums (rows 1792 inb_S2048x128_S256x128_1792_0 x0) k0_pay5
def d6 : FVec Ideal S256x128 .f32 := sums (rows 1536 inb_S2048x128_S256x128_1536_0 x0) (first (d7 x0))
def d5 : FVec Ideal S256x128 .f32 := sums (rows 1280 inb_S2048x128_S256x128_1280_0 x0) (first (d6 x0))
def d4 : FVec Ideal S256x128 .f32 := sums (rows 1024 inb_S2048x128_S256x128_1024_0 x0) (first (d5 x0))
def d3 : FVec Ideal S256x128 .f32 := sums (rows 768 inb_S2048x128_S256x128_768_0 x0) (first (d4 x0))
def d2 : FVec Ideal S256x128 .f32 := sums (rows 512 inb_S2048x128_S256x128_512_0 x0) (first (d3 x0))
def d1 : FVec Ideal S256x128 .f32 := sums (rows 256 inb_S2048x128_S256x128_256_0 x0) (first (d2 x0))
def d0 : FVec Ideal S256x128 .f32 := sums (rows 0 inb_S2048x128_S256x128_0_0 x0) (first (d1 x0))
def p7 : FVec Ideal S256x128 .f32 := mulf (d7 x0) (slopes (rows 1792 inb_S2048x128_S256x128_1792_0 x1) (bias x2))
def p6 : FVec Ideal S256x128 .f32 := mulf (d6 x0) (slopes (rows 1536 inb_S2048x128_S256x128_1536_0 x1) (bias x2))
def p5 : FVec Ideal S256x128 .f32 := mulf (d5 x0) (slopes (rows 1280 inb_S2048x128_S256x128_1280_0 x1) (bias x2))
def p4 : FVec Ideal S256x128 .f32 := mulf (d4 x0) (slopes (rows 1024 inb_S2048x128_S256x128_1024_0 x1) (bias x2))
def p3 : FVec Ideal S256x128 .f32 := mulf (d3 x0) (slopes (rows 768 inb_S2048x128_S256x128_768_0 x1) (bias x2))
def p2 : FVec Ideal S256x128 .f32 := mulf (d2 x0) (slopes (rows 512 inb_S2048x128_S256x128_512_0 x1) (bias x2))
def p1 : FVec Ideal S256x128 .f32 := mulf (d1 x0) (slopes (rows 256 inb_S2048x128_S256x128_256_0 x1) (bias x2))
def p0 : FVec Ideal S256x128 .f32 := mulf (d0 x0) (slopes (rows 0 inb_S2048x128_S256x128_0_0 x1) (bias x2))
def t7 : FVec Ideal S1x128 .f32 := more k0_pay5 (p7 x0 x1 x2)
def t6 : FVec Ideal S1x128 .f32 := more (t7 x0 x1 x2) (p6 x0 x1 x2)
def t5 : FVec Ideal S1x128 .f32 := more (t6 x0 x1 x2) (p5 x0 x1 x2)
def t4 : FVec Ideal S1x128 .f32 := more (t5 x0 x1 x2) (p4 x0 x1 x2)
def t3 : FVec Ideal S1x128 .f32 := more (t4 x0 x1 x2) (p3 x0 x1 x2)
def t2 : FVec Ideal S1x128 .f32 := more (t3 x0 x1 x2) (p2 x0 x1 x2)
def t1 : FVec Ideal S1x128 .f32 := more (t2 x0 x1 x2) (p1 x0 x1 x2)
def t0 : FVec Ideal S1x128 .f32 := more (t1 x0 x1 x2) (p0 x0 x1 x2)

/-- The triangle takes the rows from one on. -/
theorem upper_apply (x : FVec Ideal S256x128 .f32) (i : S256x128.Idx) :
    upper x i = (∑ k : Fin 256, if (i (0 : Fin 2)).val ≤ k.val then (x (ix2 k (i 1)) : EReal) else 0 : EReal) := by
  pointwise [upper, k0_pay4]
  refine Finset.sum_congr rfl fun k _ => ?_
  rw [triangle_up _ _ (i (0 : Fin 2)).isLt k.isLt]
  by_cases h : (i (0 : Fin 2)).val ≤ k.val
  · rw [if_pos h, if_pos h, one_mul]
  · rw [if_neg h, if_neg h, zero_mul]

theorem rest_apply (x : FVec Ideal S256x128 .f32) (i : S256x128.Idx) : rest x i = ((x i : EReal) - x i : EReal) := by
  pointwise [rest]

/-- A chunk's sums, at a row and a column. -/
theorem sums_apply (x : FVec Ideal S256x128 .f32) (carry : FVec Ideal S1x128 .f32) (hx : ∀ i, (x i : EReal) ≠ ⊤) (i : S256x128.Idx) :
    sums x carry i = ((∑ k : Fin 256, if (i (0 : Fin 2)).val ≤ k.val then (x (ix2 k (i 1)) : EReal) else 0) + carry (ix2 0 (i 1)) : EReal) := by
  pointwise [sums]
  rw [upper_apply, upper_apply, upper_apply, ← Finset.sum_add_distrib, ← Finset.sum_add_distrib]
  refine congrArg (· + _) (Finset.sum_congr rfl fun k _ => ?_)
  by_cases h : (i (0 : Fin 2)).val ≤ k.val
  · simp only [if_pos h, rest_apply]
    exact parts (hx _)
  · simp only [if_neg h, add_zero]

theorem slopes_apply (v : FVec Ideal S256x128 .f32) (b : FVec Ideal S1x128 .f32) (i : S256x128.Idx) :
    slopes v b i = slope ((v i : EReal) + b (ix2 0 (i 1))) := by
  pointwise [slopes]
  exact slope_eq _

theorem first_apply (v : FVec Ideal S256x128 .f32) (l : Fin 128) : first v (ix2 0 l) = v (ix2 0 l) := by
  pointwise [first]

theorem more_apply (a : FVec Ideal S1x128 .f32) (x : FVec Ideal S256x128 .f32) (l : Fin 128) :
    more a x (ix2 0 l) = ((a (ix2 0 l) : EReal) + ∑ k : Fin 256, (x (ix2 k l) : EReal) : EReal) := by
  pointwise [more]

theorem zero_apply (i : S1x128.Idx) : k0_pay5 (F := Ideal) i = (0 : EReal) := by
  pointwise [k0_pay5]

theorem rows_apply (n : ℕ) (hn : n + 256 ≤ 2048) (inb) (x : Vec Ideal S2048x128 .f32) (i : S256x128.Idx) :
    rows n inb x i = x (ix2 ⟨n + (i (0 : Fin 2)).val, by have : (i (0 : Fin 2)).val < 256 := (i (0 : Fin 2)).isLt; omega⟩ (i 1)) := by
  refine congrArg x (funext fun a => ?_)
  fin_cases a
  · exact Fin.ext (by show n + 1 * (i (0 : Fin 2)).val = n + (i (0 : Fin 2)).val; omega)
  · exact Fin.ext (by show 0 + 1 * (i (1 : Fin 2)).val = (i (1 : Fin 2)).val; omega)

theorem bias_apply (l : Fin 128) : bias x2 (ix2 0 l) = x2 (ix2 0 l) := by
  refine congrArg x2 (funext fun a => ?_)
  fin_cases a
  · rfl
  · exact Fin.ext (by show 0 + 1 * l.val = l.val; omega)

/-- A sequence's derivatives in one column, -/
def col (x0 : Vec Ideal S2048x128 .f32) (l : Fin 128) (j : ℕ) : EReal := if h : j < 2048 then x0 (ix2 ⟨j, h⟩ l) else 0

/-- and their sums from each row on, times the gates' slopes. -/
def part (x0 x1 : Vec Ideal S2048x128 .f32) (x2 : Vec Ideal S8x128 .f32) (l : Fin 128) (j : ℕ) : EReal :=
  if h : j < 2048 then tail (col x0 l) j * slope ((x1 (ix2 ⟨j, h⟩ l) : EReal) + x2 (ix2 0 l)) else 0

/-- A chunk's sums go on with those of the chunks after. -/
theorem step (n : ℕ) (hn : n + 256 ≤ 2048) (inb) (carry : FVec Ideal S1x128 .f32) (h0 : ∀ i, (x0 i : EReal) ≠ ⊤)
    (hc : ∀ l : Fin 128, (carry (ix2 0 l) : EReal) = tail (col x0 l) (n + 256)) (i : S256x128.Idx) :
    sums (rows n inb x0) carry i = (tail (col x0 (i 1)) (n + (i (0 : Fin 2)).val) : EReal) := by
  have hi : (i (0 : Fin 2)).val < 256 := (i (0 : Fin 2)).isLt
  refine (sums_apply _ carry (fun j => by rw [rows_apply n hn]; exact h0 _) i).trans (Eq.trans (congrArg₂ (· + ·) (Finset.sum_congr rfl fun k _ => ?_) (hc (i 1)))
    (chunk_tail (col x0 (i 1)) n (i (0 : Fin 2)).val hn hi.le))
  by_cases h : (i (0 : Fin 2)).val ≤ k.val
  · rw [if_pos h, if_pos h]
    refine (rows_apply n hn inb x0 (ix2 k (i 1))).trans ?_
    unfold col
    rw [dif_pos (show n + k.val < 2048 by omega)]
    rfl
  · rw [if_neg h, if_neg h]

/-- A chunk's products. -/
theorem prod (n : ℕ) (hn : n + 256 ≤ 2048) (inb) (d : FVec Ideal S256x128 .f32) (hd : ∀ i : S256x128.Idx, (d i : EReal) = tail (col x0 (i 1)) (n + (i (0 : Fin 2)).val))
    (i : S256x128.Idx) : mulf d (slopes (rows n inb x1) (bias x2)) i = (part x0 x1 x2 (i 1) (n + (i (0 : Fin 2)).val) : EReal) := by
  have hi : (i (0 : Fin 2)).val < 256 := (i (0 : Fin 2)).isLt
  have e : (mulf d (slopes (rows n inb x1) (bias x2)) i : EReal) = (d i : EReal) * slopes (rows n inb x1) (bias x2) i := rfl
  unfold part
  rw [dif_pos (show n + (i (0 : Fin 2)).val < 2048 by omega)]
  refine e.trans (congrArg₂ (· * ·) (hd i) ?_)
  exact (slopes_apply _ _ i).trans (congrArg slope (congrArg₂ (· + ·) (rows_apply n hn inb x1 i) (bias_apply x2 (i 1))))

/-- A total. -/
theorem total (n : ℕ) (hn : n + 256 ≤ 2048) (a : FVec Ideal S1x128 .f32) (p : FVec Ideal S256x128 .f32)
    (ha : ∀ l : Fin 128, (a (ix2 0 l) : EReal) = tail (part x0 x1 x2 l) (n + 256))
    (hp : ∀ i : S256x128.Idx, (p i : EReal) = part x0 x1 x2 (i 1) (n + (i (0 : Fin 2)).val)) (l : Fin 128) :
    more a p (ix2 0 l) = (tail (part x0 x1 x2 l) n : EReal) :=
  (more_apply a p l).trans ((congrArg₂ (· + ·) (ha l) (Finset.sum_congr rfl fun k _ => hp (ix2 k l))).trans (chunk_all _ n hn))

section Chunks

variable (h0 : ∀ i, (x0 i : EReal) ≠ ⊤)
include h0

theorem d7_apply (i : S256x128.Idx) : d7 x0 i = (tail (col x0 (i 1)) (1792 + (i (0 : Fin 2)).val) : EReal) :=
  step x0 1792 (by omega) _ _ h0 (fun l => (zero_apply _).trans (tail_end _).symm) i
theorem d6_apply (i : S256x128.Idx) : d6 x0 i = (tail (col x0 (i 1)) (1536 + (i (0 : Fin 2)).val) : EReal) :=
  step x0 1536 (by omega) _ _ h0 (fun l => (first_apply _ l).trans (d7_apply x0 h0 (ix2 0 l))) i
theorem d5_apply (i : S256x128.Idx) : d5 x0 i = (tail (col x0 (i 1)) (1280 + (i (0 : Fin 2)).val) : EReal) :=
  step x0 1280 (by omega) _ _ h0 (fun l => (first_apply _ l).trans (d6_apply x0 h0 (ix2 0 l))) i
theorem d4_apply (i : S256x128.Idx) : d4 x0 i = (tail (col x0 (i 1)) (1024 + (i (0 : Fin 2)).val) : EReal) :=
  step x0 1024 (by omega) _ _ h0 (fun l => (first_apply _ l).trans (d5_apply x0 h0 (ix2 0 l))) i
theorem d3_apply (i : S256x128.Idx) : d3 x0 i = (tail (col x0 (i 1)) (768 + (i (0 : Fin 2)).val) : EReal) :=
  step x0 768 (by omega) _ _ h0 (fun l => (first_apply _ l).trans (d4_apply x0 h0 (ix2 0 l))) i
theorem d2_apply (i : S256x128.Idx) : d2 x0 i = (tail (col x0 (i 1)) (512 + (i (0 : Fin 2)).val) : EReal) :=
  step x0 512 (by omega) _ _ h0 (fun l => (first_apply _ l).trans (d3_apply x0 h0 (ix2 0 l))) i
theorem d1_apply (i : S256x128.Idx) : d1 x0 i = (tail (col x0 (i 1)) (256 + (i (0 : Fin 2)).val) : EReal) :=
  step x0 256 (by omega) _ _ h0 (fun l => (first_apply _ l).trans (d2_apply x0 h0 (ix2 0 l))) i
theorem d0_apply (i : S256x128.Idx) : d0 x0 i = (tail (col x0 (i 1)) (0 + (i (0 : Fin 2)).val) : EReal) :=
  step x0 0 (by omega) _ _ h0 (fun l => (first_apply _ l).trans (d1_apply x0 h0 (ix2 0 l))) i

theorem p7_apply (i : S256x128.Idx) : p7 x0 x1 x2 i = (part x0 x1 x2 (i 1) (1792 + (i (0 : Fin 2)).val) : EReal) :=
  prod x0 x1 x2 1792 (by omega) _ _ (d7_apply x0 h0) i
theorem p6_apply (i : S256x128.Idx) : p6 x0 x1 x2 i = (part x0 x1 x2 (i 1) (1536 + (i (0 : Fin 2)).val) : EReal) :=
  prod x0 x1 x2 1536 (by omega) _ _ (d6_apply x0 h0) i
theorem p5_apply (i : S256x128.Idx) : p5 x0 x1 x2 i = (part x0 x1 x2 (i 1) (1280 + (i (0 : Fin 2)).val) : EReal) :=
  prod x0 x1 x2 1280 (by omega) _ _ (d5_apply x0 h0) i
theorem p4_apply (i : S256x128.Idx) : p4 x0 x1 x2 i = (part x0 x1 x2 (i 1) (1024 + (i (0 : Fin 2)).val) : EReal) :=
  prod x0 x1 x2 1024 (by omega) _ _ (d4_apply x0 h0) i
theorem p3_apply (i : S256x128.Idx) : p3 x0 x1 x2 i = (part x0 x1 x2 (i 1) (768 + (i (0 : Fin 2)).val) : EReal) :=
  prod x0 x1 x2 768 (by omega) _ _ (d3_apply x0 h0) i
theorem p2_apply (i : S256x128.Idx) : p2 x0 x1 x2 i = (part x0 x1 x2 (i 1) (512 + (i (0 : Fin 2)).val) : EReal) :=
  prod x0 x1 x2 512 (by omega) _ _ (d2_apply x0 h0) i
theorem p1_apply (i : S256x128.Idx) : p1 x0 x1 x2 i = (part x0 x1 x2 (i 1) (256 + (i (0 : Fin 2)).val) : EReal) :=
  prod x0 x1 x2 256 (by omega) _ _ (d1_apply x0 h0) i
theorem p0_apply (i : S256x128.Idx) : p0 x0 x1 x2 i = (part x0 x1 x2 (i 1) (0 + (i (0 : Fin 2)).val) : EReal) :=
  prod x0 x1 x2 0 (by omega) _ _ (d0_apply x0 h0) i

theorem t7_apply (l : Fin 128) : t7 x0 x1 x2 (ix2 0 l) = (tail (part x0 x1 x2 l) 1792 : EReal) :=
  total x0 x1 x2 1792 (by omega) _ _ (fun l => (zero_apply _).trans (tail_end _).symm) (p7_apply x0 x1 x2 h0) l
theorem t6_apply (l : Fin 128) : t6 x0 x1 x2 (ix2 0 l) = (tail (part x0 x1 x2 l) 1536 : EReal) :=
  total x0 x1 x2 1536 (by omega) _ _ (t7_apply x0 x1 x2 h0) (p6_apply x0 x1 x2 h0) l
theorem t5_apply (l : Fin 128) : t5 x0 x1 x2 (ix2 0 l) = (tail (part x0 x1 x2 l) 1280 : EReal) :=
  total x0 x1 x2 1280 (by omega) _ _ (t6_apply x0 x1 x2 h0) (p5_apply x0 x1 x2 h0) l
theorem t4_apply (l : Fin 128) : t4 x0 x1 x2 (ix2 0 l) = (tail (part x0 x1 x2 l) 1024 : EReal) :=
  total x0 x1 x2 1024 (by omega) _ _ (t5_apply x0 x1 x2 h0) (p4_apply x0 x1 x2 h0) l
theorem t3_apply (l : Fin 128) : t3 x0 x1 x2 (ix2 0 l) = (tail (part x0 x1 x2 l) 768 : EReal) :=
  total x0 x1 x2 768 (by omega) _ _ (t4_apply x0 x1 x2 h0) (p3_apply x0 x1 x2 h0) l
theorem t2_apply (l : Fin 128) : t2 x0 x1 x2 (ix2 0 l) = (tail (part x0 x1 x2 l) 512 : EReal) :=
  total x0 x1 x2 512 (by omega) _ _ (t3_apply x0 x1 x2 h0) (p2_apply x0 x1 x2 h0) l
theorem t1_apply (l : Fin 128) : t1 x0 x1 x2 (ix2 0 l) = (tail (part x0 x1 x2 l) 256 : EReal) :=
  total x0 x1 x2 256 (by omega) _ _ (t2_apply x0 x1 x2 h0) (p1_apply x0 x1 x2 h0) l
theorem t0_apply (l : Fin 128) : t0 x0 x1 x2 (ix2 0 l) = (tail (part x0 x1 x2 l) 0 : EReal) :=
  total x0 x1 x2 0 (by omega) _ _ (t1_apply x0 x1 x2 h0) (p0_apply x0 x1 x2 h0) l

end Chunks

end Cert.FoxBProof

namespace Cert.FoxBWant

open Cert.FoxLemmas Cert.FoxBRefIdeal Cert.FoxBRefIdeal.Gen

/-- The reference's sums from each row of a sequence on, -/
def after {F : FTy → Type} [FloatOps F] (a : S4096x128.Idx → Elt F .f32) : S2x2048x128.Idx → Elt F .f32 :=
  Host.reverse [1] (Host.reduceWindowAdd ![1, 2048, 1] ![1, 1, 1] ![0, 2047, 0] ![0, 0, 0] (Host.reverse [1] (shapeCast _ a shapeCasts_S4096x128_S2x2048x128)) (broadcastInDim S_ ![] bcast_S_S_ (constant S_ .f32 0x00000000#32)) reduceWindows_S2x2048x128_S2x2048x128_w1s1p0_0_w2048s1p2047_0_w1s1p0_0 h_S_)

/-- its gates' numbers, -/
def pre {F : FTy → Type} [FloatOps F] (b : S4096x3200.Idx → Elt F .f32) (f : S8x128.Idx → Elt F .f32) : S2x2048x128.Idx → Elt F .f32 :=
  addf (shapeCast _ (extractStridedSlice S4096x128 ![0, 3072] b slices_S4096x3200_S4096x128_0_3072) shapeCasts_S4096x128_S2x2048x128) (broadcastInDim S2x2048x128 ![0, 1, 2] bcast_S1x1x128_S2x2048x128_0_1_2 (broadcastInDim S1x1x128 ![2] bcast_S128_S1x1x128_2 (shapeCast _ (extractStridedSlice S1x128 ![0, 0] f slices_S8x128_S1x128_0_0) shapeCasts_S1x128_S128)))

/-- its slopes, -/
def slopes {F : FTy → Type} [FloatOps F] (b : S4096x3200.Idx → Elt F .f32) (f : S8x128.Idx → Elt F .f32) : S2x2048x128.Idx → Elt F .f32 :=
  Host.divf (broadcastInDim S2x2048x128 ![] bcast_S_S2x2048x128 (constant S_ .f32 0x3F800000#32)) (addf (broadcastInDim S2x2048x128 ![] bcast_S_S2x2048x128 (constant S_ .f32 0x3F800000#32)) (Host.exp (Host.negf (Host.negf (pre b f)))))

/-- its derivatives, -/
def want {F : FTy → Type} [FloatOps F] (a : S4096x128.Idx → Elt F .f32) (b : S4096x3200.Idx → Elt F .f32) (f : S8x128.Idx → Elt F .f32) : S4096x128.Idx → Elt F .f32 :=
  shapeCast _ (mulf (after a) (slopes b f)) shapeCasts_S2x2048x128_S4096x128

/-- and their sums over the rows. -/
def sums {F : FTy → Type} [FloatOps F] (a : S4096x128.Idx → Elt F .f32) (b : S4096x3200.Idx → Elt F .f32) (f : S8x128.Idx → Elt F .f32) : S8x128.Idx → Elt F .f32 :=
  concatenate S8x128 0 [⟨S1x128, (broadcastInDim S1x128 ![1] bcast_S128_S1x128_1 (Host.reduceAdd (want a b f) (constant S_ .f32 0x00000000#32) reducesTo_S4096x128_S128_d0 h_S_))⟩, ⟨S7x128, (broadcastInDim S7x128 ![] bcast_S_S7x128 (constant S_ .f32 0x00000000#32))⟩] concatenates_S1x128_S7x128_S8x128_d0

/-- A sequence's derivatives in one column, from the argument, -/
def seqs (a : S4096x128.Idx → EReal) (q : Fin 2) (l : Fin 128) (j : ℕ) : EReal :=
  if h : j < 2048 then a (ix2 ⟨q.val * 2048 + j, by omega⟩ l) else 0

/-- and their sums from each row on, times the slopes. -/
def parts (a : S4096x128.Idx → EReal) (b : S4096x3200.Idx → EReal) (f : S8x128.Idx → EReal) (q : Fin 2) (l : Fin 128) (j : ℕ) : EReal :=
  if h : j < 2048 then tail (seqs a q l) j * slope (b (ix2 ⟨q.val * 2048 + j, by omega⟩ ⟨3072 + l.val, by omega⟩) + f (ix2 0 l)) else 0

/-- A sequence from its last row. -/
theorem turn_apply (x : S2x2048x128.Idx → EReal) (q : Fin 2) (r : Fin 2048) (l : Fin 128) :
    Host.reverse [1] x (ix3 q r l) = x (ix3 q ⟨2047 - r.val, by omega⟩ l) := by
  refine congrArg x (funext fun a => ?_)
  fin_cases a
  · rfl
  · exact Fin.ext (by show 2048 - (r.val + 1) = 2047 - r.val; omega)
  · rfl

theorem cast_apply (a : S4096x128.Idx → EReal) (q : Fin 2) (r : Fin 2048) (l : Fin 128) :
    shapeCast S2x2048x128 a shapeCasts_S4096x128_S2x2048x128 (ix3 q r l) = a (ix2 ⟨q.val * 2048 + r.val, by omega⟩ l) := by
  pointwise []

theorem after_apply (a : S4096x128.Idx → EReal) (q : Fin 2) (r : Fin 2048) (l : Fin 128) : after (F := Ideal) a (ix3 q r l) = tail (seqs a q l) r.val := by
  have hr := r.isLt
  unfold after
  refine (turn_apply _ q r l).trans ((Cert.FoxFProof.cumsum_apply _ _ (fun i => by pointwise []) _).trans ?_)
  rw [← tail_turned _ r.val hr]
  refine Finset.sum_congr rfl fun j hj => ?_
  have h : j < 2048 - r.val := by
    have := Finset.mem_range.mp hj
    have e : ((ix3 q (⟨2047 - r.val, by omega⟩ : Fin 2048) l : S2x2048x128.Idx) (1 : Fin 3)).val = 2047 - r.val := rfl
    omega
  unfold seqs
  rw [dif_pos (show j < 2048 by omega), dif_pos (show 2047 - j < 2048 by omega)]
  exact (turn_apply _ q ⟨j, by omega⟩ l).trans (cast_apply a q _ l)

theorem pre_apply (b : S4096x3200.Idx → EReal) (f : S8x128.Idx → EReal) (q : Fin 2) (r : Fin 2048) (l : Fin 128) :
    pre (F := Ideal) b f (ix3 q r l) = b (ix2 ⟨q.val * 2048 + r.val, by omega⟩ ⟨3072 + l.val, by omega⟩) + f (ix2 0 l) := by
  pointwise [pre]

theorem slopes_apply (b : S4096x3200.Idx → EReal) (f : S8x128.Idx → EReal) (i : S2x2048x128.Idx) : slopes (F := Ideal) b f i = slope (pre (F := Ideal) b f i) := by
  pointwise [slopes]
  exact congrArg (fun u => Ideal.div 1 (1 + Ideal.exp u)) (neg_neg _)

/-- The reference's derivatives, at an index whose coordinates are known. -/
theorem want_apply (a : S4096x128.Idx → EReal) (b : S4096x3200.Idx → EReal) (f : S8x128.Idx → EReal) (y : S4096x128.Idx) (q : Fin 2) (r : ℕ) (l : Fin 128)
    (hr : r < 2048) (h0 : (y (0 : Fin 2)).val = q.val * 2048 + r) (h1 : (y (1 : Fin 2)).val = l.val) :
    want (F := Ideal) a b f y = parts a b f q l r := by
  obtain rfl : l = y 1 := Fin.ext h1.symm
  pointwise [want]
  have e : (y (0 : Fin 2)).val % 2048 = r := by omega
  have hq : (⟨(y (0 : Fin 2)).val / 2048, by have : (y (0 : Fin 2)).val < 4096 := (y (0 : Fin 2)).isLt; omega⟩ : Fin 2) = q :=
    Fin.ext (by show _ / 2048 = _; omega)
  rw [show ix3 (n0 := 2) (n1 := 2048) (n2 := 128) ⟨(y (0 : Fin 2)).val / 2048, _⟩ ⟨(y (0 : Fin 2)).val % 2048, _⟩ (y 1) = ix3 q ⟨r, hr⟩ (y 1) from
    congrArg₂ (fun a b => ix3 a b (y 1)) hq (Fin.ext e)]
  unfold parts
  rw [dif_pos hr]
  exact congrArg₂ (fun a b : EReal => a * b) (after_apply a q ⟨r, hr⟩ (y 1)) ((slopes_apply b f _).trans (congrArg slope (pre_apply b f q ⟨r, hr⟩ (y 1))))

/-- The reference's sums, sequence by sequence. -/
theorem sums_apply (a : S4096x128.Idx → EReal) (b : S4096x3200.Idx → EReal) (f : S8x128.Idx → EReal) (z : S8x128.Idx) :
    sums (F := Ideal) a b f z = if (z (0 : Fin 2)).val = 0 then ∑ q : Fin 2, tail (parts a b f q (z 1)) 0 else 0 := by
  pointwise [sums]
  by_cases h0 : (z (0 : Fin 2)).val = 0
  · rw [if_pos h0, dif_pos (by omega)]
    symm
    refine Eq.trans (b := ∑ q : Fin 2, ∑ r : Fin 2048, want (F := Ideal) a b f (ix2 ⟨q.val * 2048 + r.val, by omega⟩ (z 1))) (Finset.sum_congr rfl fun q _ => ?_) (Fin.sum_mul_add_congr (n := 2048) (S := 2) fun q r hs => ?_)
    · unfold tail
      rw [← Finset.range_eq_Ico, ← Fin.sum_univ_eq_sum_range]
      exact Finset.sum_congr rfl fun r _ => (want_apply a b f _ q r.val (z 1) r.isLt rfl rfl).symm
    · exact congrArg (fun u => want (F := Ideal) a b f (ix2 u (z 1))) (Fin.ext rfl)
  · rw [if_neg h0, dif_neg (by omega)]

end Cert.FoxBWant

namespace Cert.FoxBProof

open Cert.FoxLemmas Cert.FoxBIdeal Cert.FoxBIdeal.Gen Cert.FoxBIdeal.Value

variable (m : (ℓ : Loc nD τ sig) → Buf (Elt Ideal) ℓ)

/-- The blocks of a point. -/
theorem idx : ∀ t : Fin cfg0.N, win0_0.index t (0 : Fin 2) = t.val ∧ win0_0.index t (1 : Fin 2) = 0
    ∧ win0_1.index t (0 : Fin 2) = t.val ∧ win0_1.index t (1 : Fin 2) = 24
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0 :=
  (by decide +kernel : ∀ t : Fin grid0.N, _)

/-- A point's sequence, -/
theorem col_iblk (c : Dev nD) (t : Fin cfg0.N) (l : Fin 128) : col (iblk m c 0 t) l
    = Cert.FoxBWant.seqs (m ((c : Thread nD τ).loc main_arg0)) ⟨t.val, Nat.lt_of_lt_of_eq t.isLt N_0⟩ l := by
  funext j
  unfold col Cert.FoxBWant.seqs
  by_cases h : j < 2048
  · rw [dif_pos h, dif_pos h]
    blk_point [iblk, V, idx t]
  · rw [dif_neg h, dif_neg h]

/-- and its derivatives. -/
theorem part_iblk (c : Dev nD) (t : Fin cfg0.N) (l : Fin 128) : part (iblk m c 0 t) (iblk m c 1 t) (iblk m c 2 t) l
    = Cert.FoxBWant.parts (m ((c : Thread nD τ).loc main_arg0)) (m ((c : Thread nD τ).loc main_arg1)) (m ((c : Thread nD τ).loc main_arg2))
      ⟨t.val, Nat.lt_of_lt_of_eq t.isLt N_0⟩ l := by
  funext j
  unfold part Cert.FoxBWant.parts
  by_cases h : j < 2048
  · rw [dif_pos h, dif_pos h, col_iblk]
    refine congrArg _ (congrArg slope (congrArg₂ (· + ·) ?_ ?_))
    · blk_point [iblk, V, idx t]
    · blk_point [iblk, V, idx t]
  · rw [dif_neg h, dif_neg h]

/-- A row of a chunk's products is the reference's. -/
theorem grad_piece (c : Dev nD) (t : Fin cfg0.N) (x : S256x128.Idx) (n : ℕ) (hn : n + 256 ≤ 2048) (y : S4096x128.Idx) (p : EReal)
    (hp : p = part (iblk m c 0 t) (iblk m c 1 t) (iblk m c 2 t) (x 1) (n + (x (0 : Fin 2)).val))
    (h0 : (y (0 : Fin 2)).val = t.val * 2048 + (n + (x (0 : Fin 2)).val)) (h1 : (y (1 : Fin 2)).val = (x (1 : Fin 2)).val) :
    p = Cert.FoxBWant.want (F := Ideal) (m ((c : Thread nD τ).loc main_arg0)) (m ((c : Thread nD τ).loc main_arg1)) (m ((c : Thread nD τ).loc main_arg2)) y := by
  have hx : (x (0 : Fin 2)).val < 256 := (x (0 : Fin 2)).isLt
  rw [hp, Cert.FoxBWant.want_apply _ _ _ y ⟨t.val, Nat.lt_of_lt_of_eq t.isLt N_0⟩ (n + (x (0 : Fin 2)).val) (x 1) (by omega) h0 h1]
  exact congrFun (part_iblk m c t (x 1)) _

section Value

variable (hm : ∀ (c : Dev nD) (i : S4096x128.Idx), m ((c : Thread nD τ).loc main_arg0) i ≠ (⊤ : EReal))
include hm

theorem below (c : Dev nD) (t : Fin cfg0.N) (i : S2048x128.Idx) : iblk m c 0 t i ≠ (⊤ : EReal) := hm c _

/-- The first array after the run is the reference's derivatives. -/
theorem final_grad (c : Dev nD) : (dats m 0 c).arrAt 3 cfg0.N
    = Cert.FoxBWant.want (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  by_cases h : t.val % 2 = 0 <;> [rw [outsAt0_A m c t h]; rw [outsAt0_B m c t h]] <;> frame_out <;> canon_tiles x h'
  · refine grad_piece m c t x 0 (by omega) _ _ (p0_apply _ _ _ (below m hm c t) x) ?_ ?_
    · show _ = t.val * 2048 + (0 + (x (0 : Fin 2)).val)
      blk_simp [idx t]; omega
    · blk_simp [idx t]; omega
  · refine grad_piece m c t x 256 (by omega) _ _ (p1_apply _ _ _ (below m hm c t) x) ?_ ?_
    · show _ = t.val * 2048 + (256 + (x (0 : Fin 2)).val)
      blk_simp [idx t]; omega
    · blk_simp [idx t]; omega
  · refine grad_piece m c t x 512 (by omega) _ _ (p2_apply _ _ _ (below m hm c t) x) ?_ ?_
    · show _ = t.val * 2048 + (512 + (x (0 : Fin 2)).val)
      blk_simp [idx t]; omega
    · blk_simp [idx t]; omega
  · refine grad_piece m c t x 768 (by omega) _ _ (p3_apply _ _ _ (below m hm c t) x) ?_ ?_
    · show _ = t.val * 2048 + (768 + (x (0 : Fin 2)).val)
      blk_simp [idx t]; omega
    · blk_simp [idx t]; omega
  · refine grad_piece m c t x 1024 (by omega) _ _ (p4_apply _ _ _ (below m hm c t) x) ?_ ?_
    · show _ = t.val * 2048 + (1024 + (x (0 : Fin 2)).val)
      blk_simp [idx t]; omega
    · blk_simp [idx t]; omega
  · refine grad_piece m c t x 1280 (by omega) _ _ (p5_apply _ _ _ (below m hm c t) x) ?_ ?_
    · show _ = t.val * 2048 + (1280 + (x (0 : Fin 2)).val)
      blk_simp [idx t]; omega
    · blk_simp [idx t]; omega
  · refine grad_piece m c t x 1536 (by omega) _ _ (p6_apply _ _ _ (below m hm c t) x) ?_ ?_
    · show _ = t.val * 2048 + (1536 + (x (0 : Fin 2)).val)
      blk_simp [idx t]; omega
    · blk_simp [idx t]; omega
  · refine grad_piece m c t x 1792 (by omega) _ _ (p7_apply _ _ _ (below m hm c t) x) ?_ ?_
    · show _ = t.val * 2048 + (1792 + (x (0 : Fin 2)).val)
      blk_simp [idx t]; omega
    · blk_simp [idx t]; omega
  · refine grad_piece m c t x 0 (by omega) _ _ (p0_apply _ _ _ (below m hm c t) x) ?_ ?_
    · show _ = t.val * 2048 + (0 + (x (0 : Fin 2)).val)
      blk_simp [idx t]; omega
    · blk_simp [idx t]; omega
  · refine grad_piece m c t x 256 (by omega) _ _ (p1_apply _ _ _ (below m hm c t) x) ?_ ?_
    · show _ = t.val * 2048 + (256 + (x (0 : Fin 2)).val)
      blk_simp [idx t]; omega
    · blk_simp [idx t]; omega
  · refine grad_piece m c t x 512 (by omega) _ _ (p2_apply _ _ _ (below m hm c t) x) ?_ ?_
    · show _ = t.val * 2048 + (512 + (x (0 : Fin 2)).val)
      blk_simp [idx t]; omega
    · blk_simp [idx t]; omega
  · refine grad_piece m c t x 768 (by omega) _ _ (p3_apply _ _ _ (below m hm c t) x) ?_ ?_
    · show _ = t.val * 2048 + (768 + (x (0 : Fin 2)).val)
      blk_simp [idx t]; omega
    · blk_simp [idx t]; omega
  · refine grad_piece m c t x 1024 (by omega) _ _ (p4_apply _ _ _ (below m hm c t) x) ?_ ?_
    · show _ = t.val * 2048 + (1024 + (x (0 : Fin 2)).val)
      blk_simp [idx t]; omega
    · blk_simp [idx t]; omega
  · refine grad_piece m c t x 1280 (by omega) _ _ (p5_apply _ _ _ (below m hm c t) x) ?_ ?_
    · show _ = t.val * 2048 + (1280 + (x (0 : Fin 2)).val)
      blk_simp [idx t]; omega
    · blk_simp [idx t]; omega
  · refine grad_piece m c t x 1536 (by omega) _ _ (p6_apply _ _ _ (below m hm c t) x) ?_ ?_
    · show _ = t.val * 2048 + (1536 + (x (0 : Fin 2)).val)
      blk_simp [idx t]; omega
    · blk_simp [idx t]; omega
  · refine grad_piece m c t x 1792 (by omega) _ _ (p7_apply _ _ _ (below m hm c t) x) ?_ ?_
    · show _ = t.val * 2048 + (1792 + (x (0 : Fin 2)).val)
      blk_simp [idx t]; omega
    · blk_simp [idx t]; omega

end Value

/-- At an index a store takes, the contents are what is stored. -/
theorem canon_at {Val : EltTy → Type} [∀ e, Nonempty (Val e)] {o : ℕ} (inb : ∀ a : Fin 2, ![o, 0] a + ![1, 128] a ≤ S8x128.size a) (w : S1x128.Idx → Val .f32)
    (L : List (View.Piece Val S8x128 .f32)) (i : S8x128.Idx) (x : (Rect.unit (s := S8x128) ![o, 0] ![1, 128] inb).shape.Idx) (e : (Rect.unit (s := S8x128) ![o, 0] ![1, 128] inb).emb x = i) :
    View.canon ((⟨Rect.unit (s := S8x128) ![o, 0] ![1, 128] inb, w⟩ : View.Piece Val S8x128 .f32) :: L) i = w x := by
  subst e
  exact View.canon_cons_emb _ w L x

/-- Under a store to row `o` the contents are the row stored; -/
theorem canon_row {Val : EltTy → Type} [∀ e, Nonempty (Val e)] {o : ℕ} (inb : ∀ a : Fin 2, ![o, 0] a + ![1, 128] a ≤ S8x128.size a) (w : S1x128.Idx → Val .f32)
    (L : List (View.Piece Val S8x128 .f32)) (i : S8x128.Idx) (h : (i (0 : Fin 2)).val = o) :
    View.canon ((⟨Rect.unit (s := S8x128) ![o, 0] ![1, 128] inb, w⟩ : View.Piece Val S8x128 .f32) :: L) i = w (ix2 0 (i 1)) := by
  have e : (Rect.unit (s := S8x128) ![o, 0] ![1, 128] inb).emb (ix2 0 (i 1)) = i := by
    funext a
    refine Fin.ext ?_
    revert a
    rw [Fin.forall_fin_two]
    refine ⟨?_, ?_⟩
    · show o + 1 * 0 = (i (0 : Fin 2)).val
      omega
    · show 0 + 1 * (i (1 : Fin 2)).val = (i (1 : Fin 2)).val
      omega
  exact canon_at inb w L i _ e

/-- at another row they are what they were. -/
theorem canon_other {Val : EltTy → Type} [∀ e, Nonempty (Val e)] {o : ℕ} (inb : ∀ a : Fin 2, ![o, 0] a + ![1, 128] a ≤ S8x128.size a) (w : S1x128.Idx → Val .f32)
    (L : List (View.Piece Val S8x128 .f32)) (i : S8x128.Idx) (h : (i (0 : Fin 2)).val ≠ o) :
    View.canon ((⟨Rect.unit (s := S8x128) ![o, 0] ![1, 128] inb, w⟩ : View.Piece Val S8x128 .f32) :: L) i = View.canon L i := by
  refine View.canon_cons_of_not_mem _ L ?_
  rw [Rect.mem_set_unit]
  intro hall
  have h0 : o ≤ (i (0 : Fin 2)).val ∧ (i (0 : Fin 2)).val < o + 1 := hall (0 : Fin 2)
  omega

/-- The same of contents read back: under the store the row stored; -/
theorem read_row {Val : EltTy → Type} {sig : RefSig} {κ : Kind} {sp : Space} (v : View sig κ sp S8x128 .f32) (f : v.ty.Contents Val) {o : ℕ}
    (inb : ∀ a : Fin 2, ![o, 0] a + ![1, 128] a ≤ S8x128.size a) (w : S1x128.Idx → Val .f32) (L : List (View.Piece Val S8x128 .f32)) (i : S8x128.Idx)
    (h : (i (0 : Fin 2)).val = o) :
    v.read Val (v.writes Val f ((⟨Rect.unit (s := S8x128) ![o, 0] ![1, 128] inb, w⟩ : View.Piece Val S8x128 .f32) :: L)) i = w (ix2 0 (i 1)) :=
  View.read_writes_cons_rows_of_mem v f inb w L i (ix2 0 (i 1)) rfl h rfl

/-- at another row what was there. -/
theorem read_other {Val : EltTy → Type} {sig : RefSig} {κ : Kind} {sp : Space} (v : View sig κ sp S8x128 .f32) (f : v.ty.Contents Val) {o : ℕ}
    (inb : ∀ a : Fin 2, ![o, 0] a + ![1, 128] a ≤ S8x128.size a) (w : S1x128.Idx → Val .f32) (L : List (View.Piece Val S8x128 .f32)) (i : S8x128.Idx)
    (h : (i (0 : Fin 2)).val ≠ o) :
    v.read Val (v.writes Val f ((⟨Rect.unit (s := S8x128) ![o, 0] ![1, 128] inb, w⟩ : View.Piece Val S8x128 .f32) :: L)) i = v.read Val (v.writes Val f L) i :=
  View.read_writes_cons_rows_of_not_mem v f inb w L i (W := 1) rfl rfl (by omega)

/-- An index from its row and its column. -/
theorem row_eq (i : S8x128.Idx) (o : Fin 8) (h : (i (0 : Fin 2)).val = o.val) : (ix2 o (i 1) : S8x128.Idx) = i := by
  funext a
  revert a
  rw [Fin.forall_fin_two]
  exact ⟨Fin.ext h.symm, rfl⟩

/-- Indices with equal coordinates. -/
theorem idx_eq (i z : S8x128.Idx) (h0 : (i (0 : Fin 2)).val = (z (0 : Fin 2)).val) (h1 : (i (1 : Fin 2)).val = (z (1 : Fin 2)).val) : i = z := by
  funext a
  revert a
  rw [Fin.forall_fin_two]
  exact ⟨Fin.ext h0, Fin.ext h1⟩

/-- What a point adds to the small block. -/
def added (c : Dev nD) (t : Fin cfg0.N) : S8x128.Idx → EReal := fun i =>
  if (i (0 : Fin 2)).val = 0 then tail (part (iblk m c 0 t) (iblk m c 1 t) (iblk m c 2 t) (i 1)) 0 else 0

section Sums

variable (hm : ∀ (c : Dev nD) (i : S4096x128.Idx), m ((c : Thread nD τ).loc main_arg0) i ≠ (⊤ : EReal))
include hm

/-- The first point starts at zero. -/
theorem sums_first (c : Dev nD) (t : Fin cfg0.N) (h : t.val % 2 = 0) (i : S8x128.Idx) :
    (outsAt0 m c t.val t.isLt).2 i = (0 : EReal) + added m c t i := by
  rw [outsAt0_A m c t h]; frame_out
  unfold added
  by_cases h0 : (i (0 : Fin 2)).val = 0
  · rw [canon_row _ _ _ _ h0, if_pos h0, View.readCov_eq_canon']
    refine congrArg₂ (· + ·) ?_ (t0_apply _ _ _ (below m hm c t) (i 1))
    pointwise []
    rw [View.canon_cons_unit_lit _ _ _ (by decide)]
    pointwise [k0_pay2]
  · rw [canon_other _ _ _ _ h0, if_neg h0]
    frame_out
    pointwise [k0_pay2]

/-- Every later point adds to what the one before left. -/
theorem sums_next (c : Dev nD) (t : Fin cfg0.N) (h : ¬t.val % 2 = 0) (i : S8x128.Idx) :
    (outsAt0 m c t.val t.isLt).2 i = (outsAt0 m c (t.val - 1) (Nat.lt_of_le_of_lt (Nat.sub_le _ _) t.isLt)).2 i + added m c t i := by
  rw [outsAt0_B m c t h]; frame_out
  unfold added
  by_cases h0 : (i (0 : Fin 2)).val = 0
  · rw [read_row _ _ _ _ _ _ h0, if_pos h0]
    refine congrArg₂ (· + ·) ?_ (t0_apply _ _ _ (below m hm c t) (i 1))
    pointwise []
    exact congrArg _ (row_eq i 0 h0)
  · rw [read_other _ _ _ _ _ _ h0, if_neg h0, add_zero]
    exact congrFun (Memref.IsWhole.read_unread _ _) i

omit hm in
/-- The points' parts add up to the reference's rows. -/
theorem sums_eq (c : Dev nD) (z : S8x128.Idx) : ∑ p : Fin cfg0.N, added m c p z
    = Cert.FoxBWant.sums (F := Ideal) (m ((c : Thread nD τ).loc main_arg0)) (m ((c : Thread nD τ).loc main_arg1)) (m ((c : Thread nD τ).loc main_arg2)) z := by
  rw [Cert.FoxBWant.sums_apply]
  unfold added
  by_cases h0 : (z (0 : Fin 2)).val = 0
  · simp only [if_pos h0]
    exact Fintype.sum_equiv (finCongr N_0) _ _ fun p => congrArg (fun g => tail g 0) (part_iblk m c p (z 1))
  · simp only [if_neg h0]
    exact (Finset.sum_const_zero : ∑ _s : Fin cfg0.N, (0 : EReal) = 0)

/-- The second array after the run is the reference's derivative with respect to the weights. -/
theorem final_sums (c : Dev nD) : (dats m 0 c).arrAt 4 cfg0.N
    = Cert.FoxBWant.sums (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  have hl := (flush0_4 t).mp hf
  have hN : cfg0.N = 2 := N_0
  blk_simp
  rw [after0_4, Pipeline.eq_sum_fin_of_reset_step_apply_last (fun n h => (outsAt0 m c n h).2) 2 (fun _ => 0)
      (added m c) (sums_first m hm c) (sums_next m hm c) (le_of_eq N_0) t (by have := t.isLt; omega), zero_add]
  refine (sums_eq m c y).trans (congrArg _ ?_)
  exact idx_eq _ _ (by blk_simp [idx t]) (by blk_simp [idx t])

end Sums

/-- The facts of the precondition's shapes. -/
theorem facts_pre : Cert.Pre_below_infinity.Facts := by
  constructor <;> decide

/-- Under the precondition no element of the first argument is positive infinity. -/
theorem ne_top (h : Cert.Pre_FoxBIdeal_below_infinity (hPre_below_infinity := facts_pre) m) (c : Dev nD)
    (i : S4096x128.Idx) : m ((c : Thread nD τ).loc main_arg0) i ≠ (⊤ : EReal) := by
  have e := Host.reduce_andi_all _ _ _ _ _ (congrFun (h c) (fun a => a.elim0)) i
  intro ht
  have e' : Ideal.cmp .olt (m ((c : Thread nD τ).loc main_arg0) i) (Ideal.ofBits .f32 0x7F800000#32) = 1#1 := e
  rw [ht] at e'
  simp [Ideal.cmp, not_top_lt] at e'

theorem frame : Cert.quiescent_FoxB := fun m g _ => Cert.FoxB.Gen.frame m g

theorem frame_ideal : Cert.quiescent_FoxBIdeal := fun m g _ => Cert.FoxBIdeal.Gen.frame m g

theorem frame_ideal_pre : Cert.quiescent_FoxBIdeal_pre_below_infinity (hPre_below_infinity := facts_pre) := fun m g _ => Cert.FoxBIdeal.Gen.frame m g

theorem frame_ref_ideal : Cert.quiescent_FoxBRefIdeal := fun m g _ =>
  (θ_run (Cert.FoxBRefIdeal.defs (F := Ideal)) _ _).mono (fun r h => ⟨fun c => (h c).2.2, sem_eq_zero_of_no_sems rfl r.2⟩)
    (Cert.FoxBRefIdeal.Value.run (F := Ideal) m g)

theorem frame_ref_ideal_pre : Cert.quiescent_FoxBRefIdeal_pre_below_infinity (hPre_below_infinity := facts_pre) := fun m g _ =>
  (θ_run (Cert.FoxBRefIdeal.defs (F := Ideal)) _ _).mono (fun r h => ⟨fun c => (h c).2.2, sem_eq_zero_of_no_sems rfl r.2⟩)
    (Cert.FoxBRefIdeal.Value.run (F := Ideal) m g)

/-- Over the extended reals, where the first argument stays below positive infinity, the call computes the reference's derivatives. -/
theorem value_ideal : Cert.algebraic_FoxBIdeal_FoxBRefIdeal_pre_below_infinity (hPre_below_infinity := facts_pre) := fun m g m' g' hp hx =>
  ⟨_, _, (θ_run defs _ _).mono (fun r h c => ⟨(h c).1.trans (final_grad m (ne_top m hp) c), (h c).2.1.trans (final_sums m (ne_top m hp) c), (h c).2.2⟩) (run_blocks m g),
    (θ_run (Cert.FoxBRefIdeal.defs (F := Ideal)) _ _).mono
      (fun r h c => ⟨(h c).1.trans (by rw [(hx c).1, (hx c).2.1, (hx c).2.2]; rfl),
        (h c).2.1.trans (by rw [(hx c).1, (hx c).2.1, (hx c).2.2]; rfl), (h c).2.2⟩) (Cert.FoxBRefIdeal.Value.run (F := Ideal) m' g')⟩

end Cert.FoxBProof

end
-- ==== Proof.DilBiasClaims.lean ====
/-
The claims about the bias of the dilated attention. The call goes through the weights' rows one by one, and takes a row wherever
the table names it; the reference takes the rows by the table.
-/
module

public import proofs.«01_k».proof.Defs
public import proofs.«01_k».proof.Proof.Gen.DilB.Frame
public import proofs.«01_k».proof.Proof.Gen.DilBIdeal.Frame
public import proofs.«01_k».proof.Proof.Gen.DilBIdeal.Value
public import proofs.«01_k».proof.Proof.Gen.DilBRefIdeal.Run
public import Idealize.ShloMosaic.Lib.Pipeline.ValueKit.Point
public import Idealize.ShloMosaic.Lib.WritesUnit
public import Idealize.ShloMosaic.Lib.Quiescent

@[expose] public section

set_option Elab.async false

noncomputable section

open Idealize.ShloMosaic Idealize.ShloMosaic.TcCoe Idealize.SL.Sem

namespace Cert.DilBProof

open Cert.DilBIdeal Cert.DilBIdeal.Gen Cert.DilBIdeal.Value

variable (m : (ℓ : Loc nD τ sig) → Buf (Elt Ideal) ℓ)

/-- The weight of the row that the table's word names, if the row lies below `n`. -/
def upTo (x : Vec Ideal S32x4 .f32) (w : BitVec 32) (h : Fin 4) (n : ℕ) : EReal :=
  if w.toNat < n then x (ix2 ⟨min w.toNat 31, by omega⟩ h) else (Scalar.ofBits .f32 0xF149F2CA#32 : Ideal .f32)

theorem upTo_succ (x : Vec Ideal S32x4 .f32) (w : BitVec 32) (h : Fin 4) (k : ℕ) (hk : k < 32) :
    Scalar.select (IntOp.cmpi .eq w (Scf.iv 0#32 1#32 k)) (x (ix2 ⟨k, hk⟩ h)) (upTo x w h k) = upTo x w h (k + 1) := by
  have e : (w = Scf.iv 0#32 1#32 k) ↔ w.toNat = k := by
    rw [← BitVec.toNat_inj]
    have : (Scf.iv 0#32 1#32 k).toNat = k := by simp [Scf.iv]; omega
    rw [this]
  unfold upTo
  by_cases hw : w.toNat = k
  · have hx : (⟨min w.toNat 31, by omega⟩ : Fin 32) = ⟨k, hk⟩ := Fin.ext (by show min w.toNat 31 = k; omega)
    rw [if_pos (show w.toNat < k + 1 by omega), hx]
    simp [Scalar.select, IntOp.cmpi, e.mpr hw]
  · have hn : ¬ w = Scf.iv 0#32 1#32 k := fun h' => hw (e.mp h')
    have : (w.toNat < k + 1) ↔ w.toNat < k := by omega
    have hb : (w == Scf.iv 0#32 1#32 k) = false := by simpa using hn
    simp [Scalar.select, IntOp.cmpi, hb, this]

/-- A weight as a loop reads it. -/
theorem read_weight (arg0 : Memref sig .tc .smem S32x4 .f32) (harg0 : arg0.IsWhole) (x : Vec Ideal S32x4 .f32) {off : Fin 2 → ℕ}
    (inb : ∀ a, off a + S1x1.size a ≤ S32x4.size a) (p) (h : Fin 4) (k : ℕ) (hk : k < 32) (h0 : off 0 = k) (h1 : off 1 = h.val) :
    View.readAt (Elt Ideal) arg0.view (Rect.unit (s := S32x4) off S1x1.size inb).toLoadRect (harg0.unread x) (Shape.Idx.first p) = x (ix2 ⟨k, hk⟩ h) := by
  rw [View.readAt_apply, harg0.read_unread]
  refine congrArg x (funext fun a => Fin.ext ?_)
  match a with
  | ⟨0, _⟩ => show off 0 + 1 * 0 = k; omega
  | ⟨1, _⟩ => show off 1 + 1 * 0 = h.val; omega

theorem offs1 : ∀ k : Fin k0_t1_loop.trips, k.val < 32 ∧ (k0_off1 k 0 = k.val ∧ k0_off1 k 1 = 0) ∧ (k0_off2 k 0 = k.val ∧ k0_off2 k 1 = 1)
    ∧ (k0_off3 k 0 = k.val ∧ k0_off3 k 1 = 2) ∧ (k0_off4 k 0 = k.val ∧ k0_off4 k 1 = 3) := by decide +kernel

set_option maxHeartbeats 4000000 in
/-- One trip of the loop. -/
theorem trip1 (𝒱 : Variants) (c : Dev nD) (bd : Option 𝒱.V) (arg0 : Memref sig .tc .smem S32x4 .f32) (harg0 : arg0.IsWhole) (arg1 : Memref sig .tc .vmem S3x128x256 .i32) (harg1 : arg1.IsWhole) (arg2 : Memref sig .tc .vmem S3x4x128x256 .f32) (harg2 : arg2.IsWhole) (v0 : Vec Ideal S1x128x256 .i32) (x : Vec Ideal S32x4 .f32) (k : Fin k0_t1_loop.trips)
    (acc : FVec Ideal S128x256 .f32 × FVec Ideal S128x256 .f32 × FVec Ideal S128x256 .f32 × FVec Ideal S128x256 .f32) :
    tripR_k0_t1 𝒱 c bd arg0 harg0 arg1 harg1 arg2 harg2 v0 (harg0.unread x) k acc
      = (k0_pay10 v0 k acc.1 (x (ix2 ⟨k.val, (offs1 k).1⟩ 0)), k0_pay11 v0 k acc.2.1 (x (ix2 ⟨k.val, (offs1 k).1⟩ 1)),
        k0_pay12 v0 k acc.2.2.1 (x (ix2 ⟨k.val, (offs1 k).1⟩ 2)), k0_pay13 v0 k acc.2.2.2 (x (ix2 ⟨k.val, (offs1 k).1⟩ 3))) := by
  obtain ⟨hk, ⟨a0, a1⟩, ⟨b0, b1⟩, ⟨c0, c1⟩, d0, d1⟩ := offs1 k
  rw [← read_weight arg0 harg0 x (Gen.k0_off1_inb k) (show 0 < S1x1.numel by decide) 0 k.val hk a0 a1, ← read_weight arg0 harg0 x (Gen.k0_off2_inb k) (show 0 < S1x1.numel by decide) 1 k.val hk b0 b1,
    ← read_weight arg0 harg0 x (Gen.k0_off3_inb k) (show 0 < S1x1.numel by decide) 2 k.val hk c0 c1, ← read_weight arg0 harg0 x (Gen.k0_off4_inb k) (show 0 < S1x1.numel by decide) 3 k.val hk d0 d1]
  unfold tripR_k0_t1 trip_k0_t1
  rfl

set_option maxHeartbeats 4000000 in
/-- After `n` trips of the loop the rows below `n` are in. -/
theorem loop1 (𝒱 : Variants) (c : Dev nD) (bd : Option 𝒱.V) (arg0 : Memref sig .tc .smem S32x4 .f32) (harg0 : arg0.IsWhole) (arg1 : Memref sig .tc .vmem S3x128x256 .i32) (harg1 : arg1.IsWhole) (arg2 : Memref sig .tc .vmem S3x4x128x256 .f32) (harg2 : arg2.IsWhole) (v0 : Vec Ideal S1x128x256 .i32) (x : Vec Ideal S32x4 .f32)
    (init : FVec Ideal S128x256 .f32 × FVec Ideal S128x256 .f32 × FVec Ideal S128x256 .f32 × FVec Ideal S128x256 .f32)
    (i0 : ∀ i, init.1 i = (Scalar.ofBits .f32 0xF149F2CA#32 : Ideal .f32)) (i1 : ∀ i, init.2.1 i = (Scalar.ofBits .f32 0xF149F2CA#32 : Ideal .f32))
    (i2 : ∀ i, init.2.2.1 i = (Scalar.ofBits .f32 0xF149F2CA#32 : Ideal .f32)) (i3 : ∀ i, init.2.2.2 i = (Scalar.ofBits .f32 0xF149F2CA#32 : Ideal .f32)) :
    ∀ n : ℕ, n ≤ k0_t1_loop.trips → st_k0_t1 (F := Ideal) 𝒱 c bd arg0 harg0 arg1 harg1 arg2 harg2 v0 (harg0.unread x) init n
      = (fun i => upTo x ((k0_pay5 v0) i) 0 n, fun i => upTo x ((k0_pay5 v0) i) 1 n, fun i => upTo x ((k0_pay5 v0) i) 2 n, fun i => upTo x ((k0_pay5 v0) i) 3 n)
  | 0, _ => by
    have z : ∀ (w : BitVec 32) (h : Fin 4), upTo x w h 0 = (Scalar.ofBits .f32 0xF149F2CA#32 : Ideal .f32) := fun w h => by simp [upTo]
    rw [st_k0_t1_zero]
    exact Prod.ext (funext fun i => (i0 i).trans (z ((k0_pay5 v0) i) 0).symm) (Prod.ext (funext fun i => (i1 i).trans (z ((k0_pay5 v0) i) 1).symm)
      (Prod.ext (funext fun i => (i2 i).trans (z ((k0_pay5 v0) i) 2).symm) (funext fun i => (i3 i).trans (z ((k0_pay5 v0) i) 3).symm)))
  | n + 1, hn => by
    have ih := loop1 𝒱 c bd arg0 harg0 arg1 harg1 arg2 harg2 v0 x init i0 i1 i2 i3 n (by omega)
    have e := st_k0_t1_succ (F := Ideal) 𝒱 c bd arg0 harg0 arg1 harg1 arg2 harg2 v0 (harg0.unread x) init ⟨n, by omega⟩
    refine e.trans ?_
    rw [trip1]
    show (k0_pay10 v0 ⟨n, _⟩ (st_k0_t1 (F := Ideal) 𝒱 c bd arg0 harg0 arg1 harg1 arg2 harg2 v0 (harg0.unread x) init n).1 _, _) = _
    rw [ih]
    have h32 := (offs1 ⟨n, by omega⟩).1
    exact Prod.ext (funext fun i => upTo_succ x _ 0 n h32) (Prod.ext (funext fun i => upTo_succ x _ 1 n h32)
      (Prod.ext (funext fun i => upTo_succ x _ 2 n h32) (funext fun i => upTo_succ x _ 3 n h32)))

theorem offs2 : ∀ k : Fin k0_t2_loop.trips, k.val < 32 ∧ (k0_off5 k 0 = k.val ∧ k0_off5 k 1 = 0) ∧ (k0_off6 k 0 = k.val ∧ k0_off6 k 1 = 1)
    ∧ (k0_off7 k 0 = k.val ∧ k0_off7 k 1 = 2) ∧ (k0_off8 k 0 = k.val ∧ k0_off8 k 1 = 3) := by decide +kernel

set_option maxHeartbeats 4000000 in
/-- One trip of the loop. -/
theorem trip2 (𝒱 : Variants) (c : Dev nD) (bd : Option 𝒱.V) (arg0 : Memref sig .tc .smem S32x4 .f32) (harg0 : arg0.IsWhole) (arg1 : Memref sig .tc .vmem S3x128x256 .i32) (harg1 : arg1.IsWhole) (arg2 : Memref sig .tc .vmem S3x4x128x256 .f32) (harg2 : arg2.IsWhole) (v21 : IVec S128x256 32) (v22 : FVec Ideal S128x256 .f32) (v23 : FVec Ideal S128x256 .f32) (x : Vec Ideal S32x4 .f32) (k : Fin k0_t2_loop.trips)
    (acc : FVec Ideal S128x256 .f32 × FVec Ideal S128x256 .f32 × FVec Ideal S128x256 .f32 × FVec Ideal S128x256 .f32) :
    tripR_k0_t2 𝒱 c bd arg0 harg0 arg1 harg1 arg2 harg2 v21 v22 v23 (harg0.unread x) k acc
      = (k0_pay23 v21 k acc.1 (x (ix2 ⟨k.val, (offs2 k).1⟩ 0)), k0_pay24 v21 k acc.2.1 (x (ix2 ⟨k.val, (offs2 k).1⟩ 1)),
        k0_pay25 v21 k acc.2.2.1 (x (ix2 ⟨k.val, (offs2 k).1⟩ 2)), k0_pay26 v21 k acc.2.2.2 (x (ix2 ⟨k.val, (offs2 k).1⟩ 3))) := by
  obtain ⟨hk, ⟨a0, a1⟩, ⟨b0, b1⟩, ⟨c0, c1⟩, d0, d1⟩ := offs2 k
  rw [← read_weight arg0 harg0 x (Gen.k0_off5_inb k) (show 0 < S1x1.numel by decide) 0 k.val hk a0 a1, ← read_weight arg0 harg0 x (Gen.k0_off6_inb k) (show 0 < S1x1.numel by decide) 1 k.val hk b0 b1,
    ← read_weight arg0 harg0 x (Gen.k0_off7_inb k) (show 0 < S1x1.numel by decide) 2 k.val hk c0 c1, ← read_weight arg0 harg0 x (Gen.k0_off8_inb k) (show 0 < S1x1.numel by decide) 3 k.val hk d0 d1]
  unfold tripR_k0_t2 trip_k0_t2
  rfl

set_option maxHeartbeats 4000000 in
/-- After `n` trips of the loop the rows below `n` are in. -/
theorem loop2 (𝒱 : Variants) (c : Dev nD) (bd : Option 𝒱.V) (arg0 : Memref sig .tc .smem S32x4 .f32) (harg0 : arg0.IsWhole) (arg1 : Memref sig .tc .vmem S3x128x256 .i32) (harg1 : arg1.IsWhole) (arg2 : Memref sig .tc .vmem S3x4x128x256 .f32) (harg2 : arg2.IsWhole) (v21 : IVec S128x256 32) (v22 : FVec Ideal S128x256 .f32) (v23 : FVec Ideal S128x256 .f32) (x : Vec Ideal S32x4 .f32)
    (init : FVec Ideal S128x256 .f32 × FVec Ideal S128x256 .f32 × FVec Ideal S128x256 .f32 × FVec Ideal S128x256 .f32)
    (i0 : ∀ i, init.1 i = (Scalar.ofBits .f32 0xF149F2CA#32 : Ideal .f32)) (i1 : ∀ i, init.2.1 i = (Scalar.ofBits .f32 0xF149F2CA#32 : Ideal .f32))
    (i2 : ∀ i, init.2.2.1 i = (Scalar.ofBits .f32 0xF149F2CA#32 : Ideal .f32)) (i3 : ∀ i, init.2.2.2 i = (Scalar.ofBits .f32 0xF149F2CA#32 : Ideal .f32)) :
    ∀ n : ℕ, n ≤ k0_t2_loop.trips → st_k0_t2 (F := Ideal) 𝒱 c bd arg0 harg0 arg1 harg1 arg2 harg2 v21 v22 v23 (harg0.unread x) init n
      = (fun i => upTo x ((v21) i) 0 n, fun i => upTo x ((v21) i) 1 n, fun i => upTo x ((v21) i) 2 n, fun i => upTo x ((v21) i) 3 n)
  | 0, _ => by
    have z : ∀ (w : BitVec 32) (h : Fin 4), upTo x w h 0 = (Scalar.ofBits .f32 0xF149F2CA#32 : Ideal .f32) := fun w h => by simp [upTo]
    rw [st_k0_t2_zero]
    exact Prod.ext (funext fun i => (i0 i).trans (z ((v21) i) 0).symm) (Prod.ext (funext fun i => (i1 i).trans (z ((v21) i) 1).symm)
      (Prod.ext (funext fun i => (i2 i).trans (z ((v21) i) 2).symm) (funext fun i => (i3 i).trans (z ((v21) i) 3).symm)))
  | n + 1, hn => by
    have ih := loop2 𝒱 c bd arg0 harg0 arg1 harg1 arg2 harg2 v21 v22 v23 x init i0 i1 i2 i3 n (by omega)
    have e := st_k0_t2_succ (F := Ideal) 𝒱 c bd arg0 harg0 arg1 harg1 arg2 harg2 v21 v22 v23 (harg0.unread x) init ⟨n, by omega⟩
    refine e.trans ?_
    rw [trip2]
    show (k0_pay23 v21 ⟨n, _⟩ (st_k0_t2 (F := Ideal) 𝒱 c bd arg0 harg0 arg1 harg1 arg2 harg2 v21 v22 v23 (harg0.unread x) init n).1 _, _) = _
    rw [ih]
    have h32 := (offs2 ⟨n, by omega⟩).1
    exact Prod.ext (funext fun i => upTo_succ x _ 0 n h32) (Prod.ext (funext fun i => upTo_succ x _ 1 n h32)
      (Prod.ext (funext fun i => upTo_succ x _ 2 n h32) (funext fun i => upTo_succ x _ 3 n h32)))

theorem offs3 : ∀ k : Fin k0_t3_loop.trips, k.val < 32 ∧ (k0_off9 k 0 = k.val ∧ k0_off9 k 1 = 0) ∧ (k0_off10 k 0 = k.val ∧ k0_off10 k 1 = 1)
    ∧ (k0_off11 k 0 = k.val ∧ k0_off11 k 1 = 2) ∧ (k0_off12 k 0 = k.val ∧ k0_off12 k 1 = 3) := by decide +kernel

set_option maxHeartbeats 4000000 in
/-- One trip of the loop. -/
theorem trip3 (𝒱 : Variants) (c : Dev nD) (bd : Option 𝒱.V) (arg0 : Memref sig .tc .smem S32x4 .f32) (harg0 : arg0.IsWhole) (arg1 : Memref sig .tc .vmem S3x128x256 .i32) (harg1 : arg1.IsWhole) (arg2 : Memref sig .tc .vmem S3x4x128x256 .f32) (harg2 : arg2.IsWhole) (v21 : IVec S128x256 32) (v22 : FVec Ideal S128x256 .f32) (v23 : FVec Ideal S128x256 .f32) (v40 : Vec Ideal S1x128x256 .i32) (x : Vec Ideal S32x4 .f32) (k : Fin k0_t3_loop.trips)
    (acc : FVec Ideal S128x256 .f32 × FVec Ideal S128x256 .f32 × FVec Ideal S128x256 .f32 × FVec Ideal S128x256 .f32) :
    tripR_k0_t3 𝒱 c bd arg0 harg0 arg1 harg1 arg2 harg2 v21 v22 v23 v40 (harg0.unread x) k acc
      = (k0_pay36 v40 k acc.1 (x (ix2 ⟨k.val, (offs3 k).1⟩ 0)), k0_pay37 v40 k acc.2.1 (x (ix2 ⟨k.val, (offs3 k).1⟩ 1)),
        k0_pay38 v40 k acc.2.2.1 (x (ix2 ⟨k.val, (offs3 k).1⟩ 2)), k0_pay39 v40 k acc.2.2.2 (x (ix2 ⟨k.val, (offs3 k).1⟩ 3))) := by
  obtain ⟨hk, ⟨a0, a1⟩, ⟨b0, b1⟩, ⟨c0, c1⟩, d0, d1⟩ := offs3 k
  rw [← read_weight arg0 harg0 x (Gen.k0_off9_inb k) (show 0 < S1x1.numel by decide) 0 k.val hk a0 a1, ← read_weight arg0 harg0 x (Gen.k0_off10_inb k) (show 0 < S1x1.numel by decide) 1 k.val hk b0 b1,
    ← read_weight arg0 harg0 x (Gen.k0_off11_inb k) (show 0 < S1x1.numel by decide) 2 k.val hk c0 c1, ← read_weight arg0 harg0 x (Gen.k0_off12_inb k) (show 0 < S1x1.numel by decide) 3 k.val hk d0 d1]
  unfold tripR_k0_t3 trip_k0_t3
  rfl

set_option maxHeartbeats 4000000 in
/-- After `n` trips of the loop the rows below `n` are in. -/
theorem loop3 (𝒱 : Variants) (c : Dev nD) (bd : Option 𝒱.V) (arg0 : Memref sig .tc .smem S32x4 .f32) (harg0 : arg0.IsWhole) (arg1 : Memref sig .tc .vmem S3x128x256 .i32) (harg1 : arg1.IsWhole) (arg2 : Memref sig .tc .vmem S3x4x128x256 .f32) (harg2 : arg2.IsWhole) (v21 : IVec S128x256 32) (v22 : FVec Ideal S128x256 .f32) (v23 : FVec Ideal S128x256 .f32) (v40 : Vec Ideal S1x128x256 .i32) (x : Vec Ideal S32x4 .f32)
    (init : FVec Ideal S128x256 .f32 × FVec Ideal S128x256 .f32 × FVec Ideal S128x256 .f32 × FVec Ideal S128x256 .f32)
    (i0 : ∀ i, init.1 i = (Scalar.ofBits .f32 0xF149F2CA#32 : Ideal .f32)) (i1 : ∀ i, init.2.1 i = (Scalar.ofBits .f32 0xF149F2CA#32 : Ideal .f32))
    (i2 : ∀ i, init.2.2.1 i = (Scalar.ofBits .f32 0xF149F2CA#32 : Ideal .f32)) (i3 : ∀ i, init.2.2.2 i = (Scalar.ofBits .f32 0xF149F2CA#32 : Ideal .f32)) :
    ∀ n : ℕ, n ≤ k0_t3_loop.trips → st_k0_t3 (F := Ideal) 𝒱 c bd arg0 harg0 arg1 harg1 arg2 harg2 v21 v22 v23 v40 (harg0.unread x) init n
      = (fun i => upTo x ((k0_pay31 v40) i) 0 n, fun i => upTo x ((k0_pay31 v40) i) 1 n, fun i => upTo x ((k0_pay31 v40) i) 2 n, fun i => upTo x ((k0_pay31 v40) i) 3 n)
  | 0, _ => by
    have z : ∀ (w : BitVec 32) (h : Fin 4), upTo x w h 0 = (Scalar.ofBits .f32 0xF149F2CA#32 : Ideal .f32) := fun w h => by simp [upTo]
    rw [st_k0_t3_zero]
    exact Prod.ext (funext fun i => (i0 i).trans (z ((k0_pay31 v40) i) 0).symm) (Prod.ext (funext fun i => (i1 i).trans (z ((k0_pay31 v40) i) 1).symm)
      (Prod.ext (funext fun i => (i2 i).trans (z ((k0_pay31 v40) i) 2).symm) (funext fun i => (i3 i).trans (z ((k0_pay31 v40) i) 3).symm)))
  | n + 1, hn => by
    have ih := loop3 𝒱 c bd arg0 harg0 arg1 harg1 arg2 harg2 v21 v22 v23 v40 x init i0 i1 i2 i3 n (by omega)
    have e := st_k0_t3_succ (F := Ideal) 𝒱 c bd arg0 harg0 arg1 harg1 arg2 harg2 v21 v22 v23 v40 (harg0.unread x) init ⟨n, by omega⟩
    refine e.trans ?_
    rw [trip3]
    show (k0_pay36 v40 ⟨n, _⟩ (st_k0_t3 (F := Ideal) 𝒱 c bd arg0 harg0 arg1 harg1 arg2 harg2 v21 v22 v23 v40 (harg0.unread x) init n).1 _, _) = _
    rw [ih]
    have h32 := (offs3 ⟨n, by omega⟩).1
    exact Prod.ext (funext fun i => upTo_succ x _ 0 n h32) (Prod.ext (funext fun i => upTo_succ x _ 1 n h32)
      (Prod.ext (funext fun i => upTo_succ x _ 2 n h32) (funext fun i => upTo_succ x _ 3 n h32)))

/-- The bias of the head and the pattern at each pair of places, by the table of rows. -/
def bias (x : Vec Ideal S32x4 .f32) (T : Vec Ideal S3x128x256 .i32) : Vec Ideal S3x4x128x256 .f32 :=
  fun j => upTo x (T (ix3 (n0 := 3) (n1 := 128) (n2 := 256) (j 0) (j 2) (j 3))) (j 1) 32

theorem idx : ∀ t : Fin cfg0.N, win0_0.index t 0 = 0 ∧ win0_0.index t 1 = 0 ∧ win0_1.index t 0 = 0 ∧ win0_1.index t 1 = 0 ∧ win0_1.index t 2 = 0
    ∧ win0_2.index t 0 = 0 ∧ win0_2.index t 1 = 0 ∧ win0_2.index t 2 = 0 ∧ win0_2.index t 3 = 0 := by decide +kernel

theorem weights (c : Dev nD) (t : Fin cfg0.N) : (iblk m c 0 t : Vec Ideal S32x4 .f32) = m ((c.tc : Thread nD τ).loc main_arg0) := by
  funext i
  blk_point [iblk, V, idx t]

theorem table (c : Dev nD) (t : Fin cfg0.N) : (iblk m c 1 t : Vec Ideal S3x128x256 .i32) = m ((c.tc : Thread nD τ).loc main_arg1) := by
  funext i
  blk_point [iblk, V, idx t]

theorem out_apply (g : FVec Ideal S128x256 .f32) (hs) (x : S1x1x128x256.Idx) : shapeCast S1x1x128x256 g hs x = g (ix2 (n0 := 128) (n1 := 256) (x 2) (x 3)) := by
  pointwise

theorem row_apply (v : Vec Ideal S1x128x256 .i32) (hs) (i : S128x256.Idx) : shapeCast S128x256 v hs i = v (ix3 (n0 := 1) (n1 := 128) (n2 := 256) 0 (i 0) (i 1)) := by
  pointwise

/-- The table's rows as a loop finds them. -/
theorem rows (c : Dev nD) (t : Fin cfg0.N) (p : Fin 3) {off : Fin 3 → ℕ} (inb) (h0 : off 0 = p.val) (h1 : off 1 = 0) (h2 : off 2 = 0) (hs) (i : S128x256.Idx) :
    shapeCast S128x256 (View.ld (View.read (Elt Ideal) (View.whole cc0_stg1_0) ((Memref.isWhole_whole cc0_stg1_0).unread (iblk m c 1 t)))
      (Rect.unit (s := S3x128x256) off ![1, 128, 256] inb) : Vec Ideal S1x128x256 .i32) hs i = m ((c.tc : Thread nD τ).loc main_arg1) (ix3 (n0 := 3) (n1 := 128) (n2 := 256) p (i 0) (i 1)) := by
  rw [row_apply, ← table m c t]
  refine (congrFun (Memref.IsWhole.read_unread _ _) _).trans (congrArg (iblk m c 1 t) (funext fun a => Fin.ext ?_))
  match a with
  | ⟨0, _⟩ => show off 0 + 1 * 0 = p.val; omega
  | ⟨1, _⟩ => show off 1 + 1 * (i (0 : Fin 2)).val = (i (0 : Fin 2)).val; omega
  | ⟨2, _⟩ => show off 2 + 1 * (i (1 : Fin 2)).val = (i (1 : Fin 2)).val; omega

theorem piece (c : Dev nD) (j : S3x4x128x256.Idx) (p : Fin 3) (h : Fin 4) (x : S1x1x128x256.Idx) (g : FVec Ideal S128x256 .f32) (hs)
    (hg : ∀ i, g i = upTo (m ((c.tc : Thread nD τ).loc main_arg0)) (m ((c.tc : Thread nD τ).loc main_arg1) (ix3 (n0 := 3) (n1 := 128) (n2 := 256) p (i 0) (i 1))) h 32)
    (h0 : (j 0).val = p.val) (h1 : (j 1).val = h.val) (h2 : (j 2).val = (x 2).val) (h3 : (j 3).val = (x 3).val) :
    shapeCast S1x1x128x256 g hs x = bias (m ((c.tc : Thread nD τ).loc main_arg0)) (m ((c.tc : Thread nD τ).loc main_arg1)) j := by
  rw [out_apply, hg]
  unfold bias
  rw [show (j 1) = h from Fin.ext h1, show (j 0) = p from Fin.ext h0, show (j 2) = x 2 from Fin.ext h2, show (j 3) = x 3 from Fin.ext h3]
  rfl

theorem trips32 : Scf.trips (0#32) (Scalar.addi 0#32 32#32) 1#32 = 32 := by decide +kernel

/-- The array after the run is the bias. -/
theorem final (c : Dev nD) : (dats m 0 c).arrAt 2 cfg0.N = bias (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  frame_out
  canon_tiles x h'
  · refine piece m c _ 2 3 x _ _ (fun i => ?_) (by blk_simp [idx t]; omega) (by blk_simp [idx t]; omega) (by blk_simp [idx t]; omega) (by blk_simp [idx t]; omega)
    rw [loop3 _ _ _ _ _ _ _ _ _ _ _ _ _ _ _ (fun _ => rfl) (fun _ => rfl) (fun _ => rfl) (fun _ => rfl) _ (by decide +kernel), trips32, weights m c t]
    exact congrArg (fun w => upTo _ w 3 32) (rows m c t 2 (off := ![2, 0, 0]) _ rfl rfl rfl _ i)
  · refine piece m c _ 2 2 x _ _ (fun i => ?_) (by blk_simp [idx t]; omega) (by blk_simp [idx t]; omega) (by blk_simp [idx t]; omega) (by blk_simp [idx t]; omega)
    rw [loop3 _ _ _ _ _ _ _ _ _ _ _ _ _ _ _ (fun _ => rfl) (fun _ => rfl) (fun _ => rfl) (fun _ => rfl) _ (by decide +kernel), trips32, weights m c t]
    exact congrArg (fun w => upTo _ w 2 32) (rows m c t 2 (off := ![2, 0, 0]) _ rfl rfl rfl _ i)
  · refine piece m c _ 2 1 x _ _ (fun i => ?_) (by blk_simp [idx t]; omega) (by blk_simp [idx t]; omega) (by blk_simp [idx t]; omega) (by blk_simp [idx t]; omega)
    rw [loop3 _ _ _ _ _ _ _ _ _ _ _ _ _ _ _ (fun _ => rfl) (fun _ => rfl) (fun _ => rfl) (fun _ => rfl) _ (by decide +kernel), trips32, weights m c t]
    exact congrArg (fun w => upTo _ w 1 32) (rows m c t 2 (off := ![2, 0, 0]) _ rfl rfl rfl _ i)
  · refine piece m c _ 2 0 x _ _ (fun i => ?_) (by blk_simp [idx t]; omega) (by blk_simp [idx t]; omega) (by blk_simp [idx t]; omega) (by blk_simp [idx t]; omega)
    rw [loop3 _ _ _ _ _ _ _ _ _ _ _ _ _ _ _ (fun _ => rfl) (fun _ => rfl) (fun _ => rfl) (fun _ => rfl) _ (by decide +kernel), trips32, weights m c t]
    exact congrArg (fun w => upTo _ w 0 32) (rows m c t 2 (off := ![2, 0, 0]) _ rfl rfl rfl _ i)
  · refine piece m c _ 1 3 x _ _ (fun i => ?_) (by blk_simp [idx t]; omega) (by blk_simp [idx t]; omega) (by blk_simp [idx t]; omega) (by blk_simp [idx t]; omega)
    rw [loop2 _ _ _ _ _ _ _ _ _ _ _ _ _ _ (fun _ => rfl) (fun _ => rfl) (fun _ => rfl) (fun _ => rfl) _ (by decide +kernel), trips32, weights m c t]
    exact congrArg (fun w => upTo _ w 3 32) (rows m c t 1 (off := ![1, 0, 0]) _ rfl rfl rfl _ i)
  · refine piece m c _ 1 2 x _ _ (fun i => ?_) (by blk_simp [idx t]; omega) (by blk_simp [idx t]; omega) (by blk_simp [idx t]; omega) (by blk_simp [idx t]; omega)
    rw [loop2 _ _ _ _ _ _ _ _ _ _ _ _ _ _ (fun _ => rfl) (fun _ => rfl) (fun _ => rfl) (fun _ => rfl) _ (by decide +kernel), trips32, weights m c t]
    exact congrArg (fun w => upTo _ w 2 32) (rows m c t 1 (off := ![1, 0, 0]) _ rfl rfl rfl _ i)
  · refine piece m c _ 1 1 x _ _ (fun i => ?_) (by blk_simp [idx t]; omega) (by blk_simp [idx t]; omega) (by blk_simp [idx t]; omega) (by blk_simp [idx t]; omega)
    rw [loop2 _ _ _ _ _ _ _ _ _ _ _ _ _ _ (fun _ => rfl) (fun _ => rfl) (fun _ => rfl) (fun _ => rfl) _ (by decide +kernel), trips32, weights m c t]
    exact congrArg (fun w => upTo _ w 1 32) (rows m c t 1 (off := ![1, 0, 0]) _ rfl rfl rfl _ i)
  · refine piece m c _ 1 0 x _ _ (fun i => ?_) (by blk_simp [idx t]; omega) (by blk_simp [idx t]; omega) (by blk_simp [idx t]; omega) (by blk_simp [idx t]; omega)
    rw [loop2 _ _ _ _ _ _ _ _ _ _ _ _ _ _ (fun _ => rfl) (fun _ => rfl) (fun _ => rfl) (fun _ => rfl) _ (by decide +kernel), trips32, weights m c t]
    exact congrArg (fun w => upTo _ w 0 32) (rows m c t 1 (off := ![1, 0, 0]) _ rfl rfl rfl _ i)
  · refine piece m c _ 0 3 x _ _ (fun i => ?_) (by blk_simp [idx t]; omega) (by blk_simp [idx t]; omega) (by blk_simp [idx t]; omega) (by blk_simp [idx t]; omega)
    rw [loop1 _ _ _ _ _ _ _ _ _ _ _ _ (fun _ => rfl) (fun _ => rfl) (fun _ => rfl) (fun _ => rfl) _ (by decide +kernel), trips32, weights m c t]
    exact congrArg (fun w => upTo _ w 3 32) (rows m c t 0 (off := ![0, 0, 0]) _ rfl rfl rfl _ i)
  · refine piece m c _ 0 2 x _ _ (fun i => ?_) (by blk_simp [idx t]; omega) (by blk_simp [idx t]; omega) (by blk_simp [idx t]; omega) (by blk_simp [idx t]; omega)
    rw [loop1 _ _ _ _ _ _ _ _ _ _ _ _ (fun _ => rfl) (fun _ => rfl) (fun _ => rfl) (fun _ => rfl) _ (by decide +kernel), trips32, weights m c t]
    exact congrArg (fun w => upTo _ w 2 32) (rows m c t 0 (off := ![0, 0, 0]) _ rfl rfl rfl _ i)
  · refine piece m c _ 0 1 x _ _ (fun i => ?_) (by blk_simp [idx t]; omega) (by blk_simp [idx t]; omega) (by blk_simp [idx t]; omega) (by blk_simp [idx t]; omega)
    rw [loop1 _ _ _ _ _ _ _ _ _ _ _ _ (fun _ => rfl) (fun _ => rfl) (fun _ => rfl) (fun _ => rfl) _ (by decide +kernel), trips32, weights m c t]
    exact congrArg (fun w => upTo _ w 1 32) (rows m c t 0 (off := ![0, 0, 0]) _ rfl rfl rfl _ i)
  · refine piece m c _ 0 0 x _ _ (fun i => ?_) (by blk_simp [idx t]; omega) (by blk_simp [idx t]; omega) (by blk_simp [idx t]; omega) (by blk_simp [idx t]; omega)
    rw [loop1 _ _ _ _ _ _ _ _ _ _ _ _ (fun _ => rfl) (fun _ => rfl) (fun _ => rfl) (fun _ => rfl) _ (by decide +kernel), trips32, weights m c t]
    exact congrArg (fun w => upTo _ w 0 32) (rows m c t 0 (off := ![0, 0, 0]) _ rfl rfl rfl _ i)

end Cert.DilBProof

namespace Cert.DilBRefLemmas

open Cert.DilBRefIdeal Cert.DilBRefIdeal.Gen

/-- The rows taken by their numbers, read at an index. -/
theorem take_apply (x : Vec Ideal S32x4 .f32) (i : IVec S3x128x256x1 32) (y : S3x128x256x4.Idx) :
    Host.gather gather_S32x4_S3x128x256x1_S3x128x256x4_3_0_n_n_0_3_14 x i y
      = x (ix2 ⟨min (i (ix4 (n0 := 3) (n1 := 128) (n2 := 256) (n3 := 1) (y 0) (y 1) (y 2) 0)).toInt.toNat 31, by omega⟩ (y 3)) := by
  unfold Host.gather
  congr 1
  funext a
  refine Fin.ext ?_
  show GatherDims.start gather_S32x4_S3x128x256x1_S3x128x256x4_3_0_n_n_0_3_14 y i a + GatherDims.batchCoord gather_S32x4_S3x128x256x1_S3x128x256x4_3_0_n_n_0_3_14 y a
      + GatherDims.offCoord gather_S32x4_S3x128x256x1_S3x128x256x4_3_0_n_n_0_3_14 y a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap gather_S32x4_S3x128x256x1_S3x128x256x4_3_0_n_n_0_3_14 from List.mem_singleton.mpr rfl)]
    have hsi : GatherDims.siIdx gather_S32x4_S3x128x256x1_S3x128x256x4_3_0_n_n_0_3_14 y ⟨List.idxOf (0 : Fin 2) (GatherDims.startIndexMap gather_S32x4_S3x128x256x1_S3x128x256x4_3_0_n_n_0_3_14),
        List.idxOf_lt_length_iff.2 (List.mem_singleton.mpr rfl)⟩ = ix4 (n0 := 3) (n1 := 128) (n2 := 256) (n3 := 1) (y 0) (y 1) (y 2) 0 := by
      funext b; refine Fin.ext ?_
      match b with
      | ⟨0, _⟩ => rfl
      | ⟨1, _⟩ => rfl
      | ⟨2, _⟩ => rfl
      | ⟨3, _⟩ => rfl
    rw [hsi]
    rfl
  · rw [GatherDims.batchCoord_eq_zero _ _ _ List.not_mem_nil]
    unfold GatherDims.start
    rw [dif_neg (by decide)]
    simp only [Nat.zero_add, Nat.add_zero]
    unfold GatherDims.offCoord
    rw [dif_pos (by decide)]
    rfl

/-- A row's number in the table, kept where it is by the cut to the rows there are. -/
theorem cut : ∀ k : Fin 32, Scalar.select (IntOp.cmpi .slt (IntOp.minsi 31#32 (IntOp.maxsi 0#32 (BitVec.ofNat 32 k.val))) 0#32)
    (IntOp.addi (IntOp.minsi 31#32 (IntOp.maxsi 0#32 (BitVec.ofNat 32 k.val))) 32#32) (IntOp.minsi 31#32 (IntOp.maxsi 0#32 (BitVec.ofNat 32 k.val)))
    = BitVec.ofNat 32 k.val := by decide +kernel

theorem number : ∀ k : Fin 32, (BitVec.ofNat 32 k.val).toInt.toNat = k.val := by decide +kernel

/-- Whether a word of the table names a row. -/
theorem named (w : BitVec 32) : IntOp.andi (IntOp.cmpi .sge w 0#32) (IntOp.cmpi .slt w 32#32) = BitVec.ofBool (decide (w.toNat < 32)) := by
  have e : w.toInt = if 2 * w.toNat < 2 ^ 32 then (w.toNat : ℤ) else (w.toNat : ℤ) - (2 ^ 32 : ℕ) := BitVec.toInt_eq_toNat_cond w
  have hw := w.isLt
  have a : BitVec.sle 0#32 w = decide (0 ≤ w.toInt) := by simp [BitVec.sle]
  have b : BitVec.slt w 32#32 = decide (w.toInt < 32) := by simp [BitVec.slt]
  by_cases h : w.toNat < 32
  · have h1 : 0 ≤ w.toInt := by rw [e]; split <;> omega
    have h2 : w.toInt < 32 := by rw [e]; split <;> omega
    simp [IntOp.andi, IntOp.cmpi, a, b, h, h1, h2]
  · by_cases h1 : 0 ≤ w.toInt
    · have h2 : ¬ w.toInt < 32 := by rw [e] at h1 ⊢; split at h1 <;> split <;> omega
      simp [IntOp.andi, IntOp.cmpi, a, b, h, h1, h2]
    · simp [IntOp.andi, IntOp.cmpi, a, b, h, h1]

/-- The reference's array. -/
theorem ref_eq (x : Vec Ideal S32x4 .f32) (T : Vec Ideal S3x128x256 .i32) :
    (select (broadcastInDim S3x4x128x256 ![0, 1, 2, 3] bcast_S3x1x128x256_S3x4x128x256_0_1_2_3 (broadcastInDim S3x1x128x256 ![0, 2, 3] bcast_S3x128x256_S3x1x128x256_0_2_3 (andi (cmpi .sge T (broadcastInDim S3x128x256 ![] bcast_S_S3x128x256 (constantI S_ 32 0#32))) (cmpi .slt T (broadcastInDim S3x128x256 ![] bcast_S_S3x128x256 (constantI S_ 32 32#32)))))) (transpose S3x4x128x256 [0, 3, 1, 2] (Host.gather gather_S32x4_S3x128x256x1_S3x128x256x4_3_0_n_n_0_3_14 x (broadcastInDim S3x128x256x1 ![0, 1, 2] bcast_S3x128x256_S3x128x256x1_0_1_2 (select (cmpi .slt (minsi (broadcastInDim S3x128x256 ![] bcast_S_S3x128x256 (id (constantI S_ 32 31#32))) (maxsi (broadcastInDim S3x128x256 ![] bcast_S_S3x128x256 (id (constantI S_ 32 0#32))) T)) (broadcastInDim S3x128x256 ![] bcast_S_S3x128x256 (constantI S_ 32 0#32))) (addi (minsi (broadcastInDim S3x128x256 ![] bcast_S_S3x128x256 (id (constantI S_ 32 31#32))) (maxsi (broadcastInDim S3x128x256 ![] bcast_S_S3x128x256 (id (constantI S_ 32 0#32))) T)) (broadcastInDim S3x128x256 ![] bcast_S_S3x128x256 (constantI S_ 32 32#32))) (minsi (broadcastInDim S3x128x256 ![] bcast_S_S3x128x256 (id (constantI S_ 32 31#32))) (maxsi (broadcastInDim S3x128x256 ![] bcast_S_S3x128x256 (id (constantI S_ 32 0#32))) T))))) transposes_S3x128x256x4_S3x4x128x256_0_3_1_2) (broadcastInDim S3x4x128x256 ![] bcast_S_S3x4x128x256 (id (constant (F := Ideal) S_ .f32 0xF149F2CA#32))) : Vec Ideal S3x4x128x256 .f32) = Cert.DilBProof.bias x T := by
  funext j
  have e : ∀ (w : BitVec 32) (a b : EReal), Scalar.select (IntOp.andi (IntOp.cmpi .sge w 0#32) (IntOp.cmpi .slt w 32#32)) a b = if w.toNat < 32 then a else b := fun w a b => by
    rw [named]; by_cases h : w.toNat < 32 <;> simp [Scalar.select, h]
  pointwise
  rw [e, take_apply]
  unfold Cert.DilBProof.bias Cert.DilBProof.upTo
  by_cases h : (T (ix3 (n0 := 3) (n1 := 128) (n2 := 256) (j 0) (j 2) (j 3))).toNat < 32
  · rw [if_pos h, if_pos h]
    refine congrArg x (congrArg₂ ix2 (Fin.ext ?_) rfl)
    refine congrArg (fun n => min n 31) (Eq.trans ?_ (number ⟨_, h⟩))
    refine congrArg (fun w : BitVec 32 => w.toInt.toNat) (Eq.trans ?_ (cut ⟨_, h⟩))
    have hw : BitVec.ofNat 32 (T (ix3 (n0 := 3) (n1 := 128) (n2 := 256) (j 0) (j 2) (j 3))).toNat = T (ix3 (n0 := 3) (n1 := 128) (n2 := 256) (j 0) (j 2) (j 3)) := by simp
    show _ = Scalar.select (IntOp.cmpi .slt (IntOp.minsi 31#32 (IntOp.maxsi 0#32 (BitVec.ofNat 32 (T (ix3 (n0 := 3) (n1 := 128) (n2 := 256) (j 0) (j 2) (j 3))).toNat))) 0#32) _ _
    simp only [hw]
    pointwise
    rfl
  · rw [if_neg h, if_neg h]
    rfl

end Cert.DilBRefLemmas

namespace Cert.DilBProof

open Cert.DilBIdeal Cert.DilBIdeal.Gen Cert.DilBIdeal.Value

theorem frame : Cert.quiescent_DilB := fun m g _ => Cert.DilB.Gen.frame m g

theorem frame_ideal : Cert.quiescent_DilBIdeal := fun m g _ => Cert.DilBIdeal.Gen.frame m g

theorem frame_ref_ideal : Cert.quiescent_DilBRefIdeal := fun m g _ =>
  (θ_run (Cert.DilBRefIdeal.defs (F := Ideal)) _ _).mono (fun r h => ⟨fun c => (h c).2, sem_eq_zero_of_no_sems rfl r.2⟩)
    (Cert.DilBRefIdeal.Value.run (F := Ideal) m g)

/-- Over the extended reals the call computes the reference's bias. -/
theorem value_ideal : Cert.algebraic_DilBIdeal_DilBRefIdeal := fun m g m' g' _ hx =>
  ⟨_, (θ_run defs _ _).mono (fun r h c => ⟨(h c).1.trans (final m c), (h c).2⟩) (run_blocks m g),
    (θ_run (Cert.DilBRefIdeal.defs (F := Ideal)) _ _).mono
      (fun r h c => ⟨(h c).1.trans ((Cert.DilBRefLemmas.ref_eq _ _).trans (by rw [(hx c).1, (hx c).2])), (h c).2⟩)
      (Cert.DilBRefIdeal.Value.run (F := Ideal) m' g')⟩

end Cert.DilBProof

end
-- ==== Proof.DilGradClaims.lean ====
/-
The claims about the gradient of the dilated attention's bias. The call goes through the weights' rows one by one and adds up, for each
head, the derivative at the places that the table gives the row; the reference adds them up at once.
-/
module

public import proofs.«01_k».proof.Defs
public import proofs.«01_k».proof.Proof.Gen.DilG.Frame
public import proofs.«01_k».proof.Proof.Gen.DilGIdeal.Frame
public import proofs.«01_k».proof.Proof.Gen.DilGIdeal.Value
public import proofs.«01_k».proof.Proof.Gen.DilGRefIdeal.Run
public import Idealize.ShloMosaic.Lib.Pipeline.ValueKit.Point
public import Idealize.ShloMosaic.Lib.WritesUnit
public import Idealize.ShloMosaic.Lib.Quiescent

@[expose] public section

set_option Elab.async false

noncomputable section

open Idealize.ShloMosaic Idealize.ShloMosaic.TcCoe Idealize.SL.Sem

namespace Cert.DilGProof

open Cert.DilGIdeal Cert.DilGIdeal.Gen Cert.DilGIdeal.Value

variable (m : (ℓ : Loc nD τ sig) → Buf (Elt Ideal) ℓ)

/-- A sum over the places that the table gives a row. -/
def placed (w : BitVec 32) (a : FVec Ideal S128x256 .f32) (u : Vec Ideal S1x128x256 .i32) : EReal :=
  ∑ i : Fin 128, ∑ j : Fin 256, Scalar.select (IntOp.cmpi .eq (u (ix3 (n0 := 1) (n1 := 128) (n2 := 256) 0 i j)) w) (a (ix2 i j)) 0

theorem pay6_apply (v0 v1 : IVec S8x128 32) (a b c : FVec Ideal S128x256 .f32) (k : Fin k0_t1_loop.trips) (u0 u1 u2 : Vec Ideal S1x128x256 .i32) (x : S8x128.Idx) :
    k0_pay6 v0 v1 a b c 0#32 1#32 k u0 u1 u2 x = Scalar.select (IntOp.andi (IntOp.cmpi .eq (v0 x) 0#32) (IntOp.cmpi .eq (v1 x) (Scf.iv 0#32 1#32 k)))
      (placed (Scf.iv 0#32 1#32 k) a u0 + placed (Scf.iv 0#32 1#32 k) b u1 + placed (Scf.iv 0#32 1#32 k) c u2) (0 : EReal) := by
  unfold placed
  pointwise [k0_pay6]

theorem pay8_apply (v0 v1 : IVec S8x128 32) (a b c : FVec Ideal S128x256 .f32) (w : BitVec 32) (u0 u1 u2 : Vec Ideal S1x128x256 .i32) (x : S8x128.Idx) :
    k0_pay8 v0 v1 a b c w u0 u1 u2 x = Scalar.select (IntOp.andi (IntOp.cmpi .eq (v0 x) 1#32) (IntOp.cmpi .eq (v1 x) (w)))
      (placed (w) a u0 + placed (w) b u1 + placed (w) c u2) (0 : EReal) := by
  unfold placed
  pointwise [k0_pay8]

theorem pay10_apply (v0 v1 : IVec S8x128 32) (a b c : FVec Ideal S128x256 .f32) (w : BitVec 32) (u0 u1 u2 : Vec Ideal S1x128x256 .i32) (x : S8x128.Idx) :
    k0_pay10 v0 v1 a b c w u0 u1 u2 x = Scalar.select (IntOp.andi (IntOp.cmpi .eq (v0 x) 2#32) (IntOp.cmpi .eq (v1 x) (w)))
      (placed (w) a u0 + placed (w) b u1 + placed (w) c u2) (0 : EReal) := by
  unfold placed
  pointwise [k0_pay10]

theorem pay12_apply (v0 v1 : IVec S8x128 32) (a b c : FVec Ideal S128x256 .f32) (w : BitVec 32) (u0 u1 u2 : Vec Ideal S1x128x256 .i32) (x : S8x128.Idx) :
    k0_pay12 v0 v1 a b c w u0 u1 u2 x = Scalar.select (IntOp.andi (IntOp.cmpi .eq (v0 x) 3#32) (IntOp.cmpi .eq (v1 x) (w)))
      (placed (w) a u0 + placed (w) b u1 + placed (w) c u2) (0 : EReal) := by
  unfold placed
  pointwise [k0_pay12]

/-- The table's rows as a trip reads them. -/
def got (arg1 : Memref sig .tc .vmem S3x128x256 .i32) (harg1 : arg1.IsWhole) (T : Vec Ideal S3x128x256 .i32) (off : Fin 3 → ℕ) (inb : ∀ a, off a + S1x128x256.size a ≤ S3x128x256.size a) : Vec Ideal S1x128x256 .i32 :=
  View.readAt (Elt Ideal) arg1.view (Rect.unit (s := S3x128x256) off S1x128x256.size inb).toLoadRect (harg1.unread T)

theorem got_apply (arg1 : Memref sig .tc .vmem S3x128x256 .i32) (harg1 : arg1.IsWhole) (T : Vec Ideal S3x128x256 .i32) (off : Fin 3 → ℕ) (inb) (p : Fin 3)
    (h0 : off 0 = p.val) (h1 : off 1 = 0) (h2 : off 2 = 0) (i : Fin 128) (j : Fin 256) :
    got arg1 harg1 T off inb (ix3 (n0 := 1) (n1 := 128) (n2 := 256) 0 i j) = T (ix3 (n0 := 3) (n1 := 128) (n2 := 256) p i j) := by
  unfold got
  rw [View.readAt_apply, harg1.read_unread]
  refine congrArg T (funext fun a => Fin.ext ?_)
  match a with
  | ⟨0, _⟩ => show off 0 + 1 * 0 = p.val; omega
  | ⟨1, _⟩ => show off 1 + 1 * i.val = i.val; omega
  | ⟨2, _⟩ => show off 2 + 1 * j.val = j.val; omega

set_option maxHeartbeats 4000000 in
theorem trip (𝒱 : Variants) (c : Dev nD) (bd : Option 𝒱.V) (arg0 : Memref sig .tc .vmem S2x4x3x128x256 .f32) (harg0 : arg0.IsWhole) (arg1 : Memref sig .tc .vmem S3x128x256 .i32) (harg1 : arg1.IsWhole) (arg2 : Memref sig .tc .vmem S8x128 .f32) (harg2 : arg2.IsWhole) (v0 : IVec S8x128 32) (v1 : IVec S8x128 32) (v8 v15 v22 v29 v36 v43 v50 v57 v64 v68 : FVec Ideal S128x256 .f32) (v69 v72 v76 v79 v83 : Vec Ideal S1x1x1x128x256 .f32) (T : Vec Ideal S3x128x256 .i32) (k : Fin k0_t1_loop.trips) (acc : FVec Ideal S8x128 .f32) :
    tripR_k0_t1 𝒱 c bd arg0 harg0 arg1 harg1 arg2 harg2 v0 v1 v8 v15 v22 v29 v36 v43 v50 v57 v64 v68 v69 v72 v76 v79 v83 (harg1.unread T) k acc
      = k0_pay5 (k0_pay11 (k0_pay9 (k0_pay7 acc
          (k0_pay6 v0 v1 v8 v15 v22 0#32 1#32 k (got arg1 harg1 T ![0, 0, 0] (by decide)) (got arg1 harg1 T ![1, 0, 0] (by decide)) (got arg1 harg1 T ![2, 0, 0] (by decide))))
          (k0_pay8 v0 v1 v29 v36 v43 (Scf.iv 0#32 1#32 k) (got arg1 harg1 T ![0, 0, 0] (by decide)) (got arg1 harg1 T ![1, 0, 0] (by decide)) (got arg1 harg1 T ![2, 0, 0] (by decide))))
          (k0_pay10 v0 v1 v50 v57 v64 (Scf.iv 0#32 1#32 k) (got arg1 harg1 T ![0, 0, 0] (by decide)) (got arg1 harg1 T ![1, 0, 0] (by decide)) (got arg1 harg1 T ![2, 0, 0] (by decide))))
          (k0_pay12 v0 v1 (k0_pay1 v68 v69) (k0_pay2 v72 v76) (k0_pay3 v79 v83) (Scf.iv 0#32 1#32 k) (got arg1 harg1 T ![0, 0, 0] (by decide)) (got arg1 harg1 T ![1, 0, 0] (by decide)) (got arg1 harg1 T ![2, 0, 0] (by decide))) := by
  unfold tripR_k0_t1 trip_k0_t1
  rfl

/-- What a head's row of the weights gets. -/
def total (w : BitVec 32) (a b c : FVec Ideal S128x256 .f32) (T : Vec Ideal S3x128x256 .i32) : EReal :=
  (∑ i : Fin 128, ∑ j : Fin 256, Scalar.select (IntOp.cmpi .eq (T (ix3 (n0 := 3) (n1 := 128) (n2 := 256) 0 i j)) w) (a (ix2 i j)) (0 : EReal))
    + (∑ i : Fin 128, ∑ j : Fin 256, Scalar.select (IntOp.cmpi .eq (T (ix3 (n0 := 3) (n1 := 128) (n2 := 256) 1 i j)) w) (b (ix2 i j)) (0 : EReal))
    + (∑ i : Fin 128, ∑ j : Fin 256, Scalar.select (IntOp.cmpi .eq (T (ix3 (n0 := 3) (n1 := 128) (n2 := 256) 2 i j)) w) (c (ix2 i j)) (0 : EReal))

theorem total_eq (w : BitVec 32) (a b c : FVec Ideal S128x256 .f32) (arg1 : Memref sig .tc .vmem S3x128x256 .i32) (harg1 : arg1.IsWhole) (T : Vec Ideal S3x128x256 .i32) (inb0) (inb1) (inb2) :
    placed w a (got arg1 harg1 T ![0, 0, 0] inb0) + placed w b (got arg1 harg1 T ![1, 0, 0] inb1) + placed w c (got arg1 harg1 T ![2, 0, 0] inb2) = total w a b c T := by
  unfold placed total
  simp only [got_apply arg1 harg1 T ![0, 0, 0] _ 0 rfl rfl rfl, got_apply arg1 harg1 T ![1, 0, 0] _ 1 rfl rfl rfl, got_apply arg1 harg1 T ![2, 0, 0] _ 2 rfl rfl rfl]

theorem pick (r l k : ℕ) (hr : r < 8) (hl : l < 128) (hk : k < 32) (h : ℕ) (hh : h < 4) (a : EReal) :
    Scalar.select (IntOp.andi (IntOp.cmpi .eq (BitVec.ofNat 32 r) (BitVec.ofNat 32 h)) (IntOp.cmpi .eq (BitVec.ofNat 32 l) (Scf.iv 0#32 1#32 k))) a 0 = if r = h ∧ l = k then a else 0 := by
  have e1 : (BitVec.ofNat 32 r == BitVec.ofNat 32 h) = decide (r = h) := by
    rw [Bool.eq_iff_iff]; simp [← BitVec.toNat_inj]; omega
  have e2 : (BitVec.ofNat 32 l == Scf.iv 0#32 1#32 k) = decide (l = k) := by
    rw [Bool.eq_iff_iff]; simp [← BitVec.toNat_inj, Scf.iv]; omega
  have f1 : IntOp.cmpi .eq (BitVec.ofNat 32 r) (BitVec.ofNat 32 h) = BitVec.ofBool (decide (r = h)) := congrArg BitVec.ofBool e1
  have f2 : IntOp.cmpi .eq (BitVec.ofNat 32 l) (Scf.iv 0#32 1#32 k) = BitVec.ofBool (decide (l = k)) := congrArg BitVec.ofBool e2
  rw [f1, f2]
  by_cases h1 : r = h <;> by_cases h2 : l = k <;> simp [Scalar.select, IntOp.andi, h1, h2]

/-- The first places of a row after `n` trips. -/
def upTo (S : ℕ → ℕ → EReal) (r l n : ℕ) : EReal := if r < 4 ∧ l < n then S r l else 0

theorem upTo_succ (S : ℕ → ℕ → EReal) (r l k : ℕ) :
    upTo S r l k + (if r = 0 ∧ l = k then S 0 k else 0) + (if r = 1 ∧ l = k then S 1 k else 0) + (if r = 2 ∧ l = k then S 2 k else 0) + (if r = 3 ∧ l = k then S 3 k else 0)
      = upTo S r l (k + 1) := by
  unfold upTo
  by_cases hl : l = k
  · subst hl
    by_cases h0 : r = 0
    · subst h0; simp
    by_cases h1 : r = 1
    · subst h1; simp
    by_cases h2 : r = 2
    · subst h2; simp
    by_cases h3 : r = 3
    · subst h3; simp
    have h4 : ¬ r < 4 := by omega
    simp [h0, h1, h2, h3, h4]
  · have : (l < k + 1) ↔ l < k := by omega
    simp [hl, this]

set_option maxHeartbeats 4000000 in
theorem loop (𝒱 : Variants) (c : Dev nD) (bd : Option 𝒱.V) (arg0 : Memref sig .tc .vmem S2x4x3x128x256 .f32) (harg0 : arg0.IsWhole) (arg1 : Memref sig .tc .vmem S3x128x256 .i32) (harg1 : arg1.IsWhole) (arg2 : Memref sig .tc .vmem S8x128 .f32) (harg2 : arg2.IsWhole) (v0 : IVec S8x128 32) (v1 : IVec S8x128 32) (v8 v15 v22 v29 v36 v43 v50 v57 v64 v68 : FVec Ideal S128x256 .f32) (v69 v72 v76 v79 v83 : Vec Ideal S1x1x1x128x256 .f32) (T : Vec Ideal S3x128x256 .i32) (h0 : ∀ x : S8x128.Idx, v0 x = BitVec.ofNat 32 (x 0).val) (h1 : ∀ x : S8x128.Idx, v1 x = BitVec.ofNat 32 (x 1).val) :
    ∀ n : ℕ, n ≤ k0_t1_loop.trips → st_k0_t1 (F := Ideal) 𝒱 c bd arg0 harg0 arg1 harg1 arg2 harg2 v0 v1 v8 v15 v22 v29 v36 v43 v50 v57 v64 v68 v69 v72 v76 v79 v83 (harg1.unread T) k0_pay4 n
      = fun x => upTo (fun r l => if r = 0 then total (Scf.iv 0#32 1#32 l) v8 v15 v22 T else if r = 1 then total (Scf.iv 0#32 1#32 l) v29 v36 v43 T
        else if r = 2 then total (Scf.iv 0#32 1#32 l) v50 v57 v64 T else total (Scf.iv 0#32 1#32 l) (k0_pay1 v68 v69) (k0_pay2 v72 v76) (k0_pay3 v79 v83) T) (x 0).val (x 1).val n
  | 0, _ => by
    rw [st_k0_t1_zero]
    funext x
    unfold upTo
    rw [if_neg (by omega)]
    pointwise [k0_pay4]
  | n + 1, hn => by
    have ih := loop 𝒱 c bd arg0 harg0 arg1 harg1 arg2 harg2 v0 v1 v8 v15 v22 v29 v36 v43 v50 v57 v64 v68 v69 v72 v76 v79 v83 T h0 h1 n (by omega)
    refine (st_k0_t1_succ (F := Ideal) 𝒱 c bd arg0 harg0 arg1 harg1 arg2 harg2 v0 v1 v8 v15 v22 v29 v36 v43 v50 v57 v64 v68 v69 v72 v76 v79 v83 (harg1.unread T) k0_pay4 ⟨n, by omega⟩).trans ?_
    have hk : n < 32 := Nat.lt_of_lt_of_le (Nat.lt_of_succ_le hn) k0_t1_abs.2.1
    rw [trip]
    funext x
    have hr : (x 0).val < 8 := (x 0).isLt
    have hl : (x 1).val < 128 := (x 1).isLt
    refine Eq.trans ?_ (upTo_succ _ (x 0).val (x 1).val n)
    refine congrArg₂ (· + ·) (congrArg₂ (· + ·) (congrArg₂ (· + ·) (congrArg₂ (· + ·) (congrFun ih x) ?_) ?_) ?_) ?_
    · refine (pay6_apply _ _ _ _ _ _ _ _ _ x).trans ?_
      rw [total_eq, h0, h1]
      exact pick _ _ n hr hl hk 0 (by decide) _
    · refine (pay8_apply _ _ _ _ _ _ _ _ _ x).trans ?_
      rw [total_eq, h0, h1]
      exact pick _ _ n hr hl hk 1 (by decide) _
    · refine (pay10_apply _ _ _ _ _ _ _ _ _ x).trans ?_
      rw [total_eq, h0, h1]
      exact pick _ _ n hr hl hk 2 (by decide) _
    · refine (pay12_apply _ _ _ _ _ _ _ _ _ x).trans ?_
      rw [total_eq, h0, h1]
      exact pick _ _ n hr hl hk 3 (by decide) _

/-- The derivative of a head's piece, added over the batch. -/
def both (G : Vec Ideal S2x4x3x128x256 .f32) (h : Fin 4) (p : Fin 3) : FVec Ideal S128x256 .f32 := fun y =>
  G (ix5 (n0 := 2) (n1 := 4) (n2 := 3) (n3 := 128) (n4 := 256) 0 h p (y 0) (y 1)) + G (ix5 (n0 := 2) (n1 := 4) (n2 := 3) (n3 := 128) (n4 := 256) 1 h p (y 0) (y 1))

/-- The weights' derivative: a head's row has what the table gives its places. -/
def grad (G : Vec Ideal S2x4x3x128x256 .f32) (T : Vec Ideal S3x128x256 .i32) : Vec Ideal S8x128 .f32 := fun x =>
  if h : (x 0).val < 4 ∧ (x 1).val < 32 then
    total (BitVec.ofNat 32 (x 1).val) (both G ⟨(x 0).val, h.1⟩ 0) (both G ⟨(x 0).val, h.1⟩ 1) (both G ⟨(x 0).val, h.1⟩ 2) T
  else 0

theorem idx : ∀ t : Fin cfg0.N, win0_0.index t 0 = 0 ∧ win0_0.index t 1 = 0 ∧ win0_0.index t 2 = 0 ∧ win0_0.index t 3 = 0 ∧ win0_0.index t 4 = 0
    ∧ win0_1.index t 0 = 0 ∧ win0_1.index t 1 = 0 ∧ win0_1.index t 2 = 0 ∧ win0_2.index t 0 = 0 ∧ win0_2.index t 1 = 0 := by decide +kernel

theorem deriv (c : Dev nD) (t : Fin cfg0.N) : (iblk m c 0 t : Vec Ideal S2x4x3x128x256 .f32) = m ((c.tc : Thread nD τ).loc main_arg0) := by
  funext i
  blk_point [iblk, V, idx t]

theorem table (c : Dev nD) (t : Fin cfg0.N) : (iblk m c 1 t : Vec Ideal S3x128x256 .i32) = m ((c.tc : Thread nD τ).loc main_arg1) := by
  funext i
  blk_point [iblk, V, idx t]

/-- A piece of the derivative as the call reads it. -/
theorem piece (arg0 : Memref sig .tc .vmem S2x4x3x128x256 .f32) (harg0 : arg0.IsWhole) (G : Vec Ideal S2x4x3x128x256 .f32) {off : Fin 5 → ℕ} (inb)
    (b : Fin 2) (h : Fin 4) (p : Fin 3) (h0 : off 0 = b.val) (h1 : off 1 = h.val) (h2 : off 2 = p.val) (h3 : off 3 = 0) (h4 : off 4 = 0) (i : Fin 128) (j : Fin 256) :
    (View.ld (View.read (Elt Ideal) arg0.view (harg0.unread G))
      (Rect.unit (s := S2x4x3x128x256) off ![1, 1, 1, 128, 256] inb) : Vec Ideal S1x1x1x128x256 .f32) (ix5 (n0 := 1) (n1 := 1) (n2 := 1) (n3 := 128) (n4 := 256) 0 0 0 i j)
      = G (ix5 (n0 := 2) (n1 := 4) (n2 := 3) (n3 := 128) (n4 := 256) b h p i j) := by
  refine (congrFun (Memref.IsWhole.read_unread _ _) _).trans (congrArg G (funext fun a => Fin.ext ?_))
  match a with
  | ⟨0, _⟩ => show off 0 + 1 * 0 = b.val; omega
  | ⟨1, _⟩ => show off 1 + 1 * 0 = h.val; omega
  | ⟨2, _⟩ => show off 2 + 1 * 0 = p.val; omega
  | ⟨3, _⟩ => show off 3 + 1 * i.val = i.val; omega
  | ⟨4, _⟩ => show off 4 + 1 * j.val = j.val; omega

theorem add_apply (u v : Vec Ideal S1x1x1x128x256 .f32) (y : S128x256.Idx) :
    k0_pay13 u v y = u (ix5 (n0 := 1) (n1 := 1) (n2 := 1) (n3 := 128) (n4 := 256) 0 0 0 (y 0) (y 1)) + v (ix5 (n0 := 1) (n1 := 1) (n2 := 1) (n3 := 128) (n4 := 256) 0 0 0 (y 0) (y 1)) := by
  pointwise [k0_pay13]

theorem both_eq (c : Dev nD) (t : Fin cfg0.N) (h : Fin 4) (p : Fin 3) {o o' : Fin 5 → ℕ} (inb inb')
    (h0 : o 0 = 0) (h1 : o 1 = h.val) (h2 : o 2 = p.val) (h3 : o 3 = 0) (h4 : o 4 = 0) (g0 : o' 0 = 1) (g1 : o' 1 = h.val) (g2 : o' 2 = p.val) (g3 : o' 3 = 0) (g4 : o' 4 = 0) :
    k0_pay13 (View.ld (View.read (Elt Ideal) (View.whole cc0_stg0_0) ((Memref.isWhole_whole cc0_stg0_0).unread (iblk m c 0 t))) (Rect.unit (s := S2x4x3x128x256) o ![1, 1, 1, 128, 256] inb) : Vec Ideal S1x1x1x128x256 .f32)
      (View.ld (View.read (Elt Ideal) (View.whole cc0_stg0_0) ((Memref.isWhole_whole cc0_stg0_0).unread (iblk m c 0 t))) (Rect.unit (s := S2x4x3x128x256) o' ![1, 1, 1, 128, 256] inb') : Vec Ideal S1x1x1x128x256 .f32)
      = both (m ((c.tc : Thread nD τ).loc main_arg0)) h p := by
  funext y
  rw [add_apply]
  unfold both
  rw [← deriv m c t]
  exact congrArg₂ (· + ·) (piece _ (Memref.isWhole_whole cc0_stg0_0) _ inb 0 h p h0 h1 h2 h3 h4 _ _) (piece _ (Memref.isWhole_whole cc0_stg0_0) _ inb' 1 h p g0 g1 g2 g3 g4 _ _)

theorem trips32 : Scf.trips (0#32) (Scalar.addi 0#32 32#32) 1#32 = 32 := by decide +kernel

theorem iv_eq (k : ℕ) : Scf.iv 0#32 1#32 k = BitVec.ofNat 32 k := by simp [Scf.iv]

/-- The rows by their numbers. -/
theorem upTo_grad (G : Vec Ideal S2x4x3x128x256 .f32) (T : Vec Ideal S3x128x256 .i32) (S : ℕ → ℕ → EReal)
    (s0 : ∀ l, S 0 l = total (Scf.iv 0#32 1#32 l) (both G 0 0) (both G 0 1) (both G 0 2) T) (s1 : ∀ l, S 1 l = total (Scf.iv 0#32 1#32 l) (both G 1 0) (both G 1 1) (both G 1 2) T)
    (s2 : ∀ l, S 2 l = total (Scf.iv 0#32 1#32 l) (both G 2 0) (both G 2 1) (both G 2 2) T) (s3 : ∀ l, S 3 l = total (Scf.iv 0#32 1#32 l) (both G 3 0) (both G 3 1) (both G 3 2) T)
    (x : S8x128.Idx) : upTo S (x 0).val (x 1).val 32 = grad G T x := by
  unfold upTo grad
  by_cases h : (x 0).val < 4 ∧ (x 1).val < 32
  · rw [if_pos h, dif_pos h]
    have key : ∀ r : Fin 4, S r.val (x 1).val = total (BitVec.ofNat 32 (x 1).val) (both G r 0) (both G r 1) (both G r 2) T := by
      intro r
      rw [← iv_eq]
      match r with
      | ⟨0, _⟩ => exact s0 _
      | ⟨1, _⟩ => exact s1 _
      | ⟨2, _⟩ => exact s2 _
      | ⟨3, _⟩ => exact s3 _
    exact key ⟨(x 0).val, h.1⟩
  · rw [if_neg h, dif_neg h]

theorem total_congr {w : BitVec 32} {a a' b b' c c' : FVec Ideal S128x256 .f32} {T T' : Vec Ideal S3x128x256 .i32} (ha : a = a') (hb : b = b') (hc : c = c') (hT : T = T') :
    total w a b c T = total w a' b' c' T' := by rw [ha, hb, hc, hT]

set_option maxHeartbeats 4000000 in
/-- The array after the run is the weights' derivative. -/
theorem final (c : Dev nD) : (dats m 0 c).arrAt 2 cfg0.N = grad (m ((c.tc : Thread nD τ).loc main_arg0)) (m ((c.tc : Thread nD τ).loc main_arg1)) := by
  refine (dats m 0 c).arrAt_eq_of_covers 2 _ (by decide +kernel) fun t hf y => ?_
  blk_simp
  rw [after0_2]
  unfold outsAt0
  frame_out
  rw [loop]
  · rw [trips32]
    refine (upTo_grad (m ((c.tc : Thread nD τ).loc main_arg0)) (m ((c.tc : Thread nD τ).loc main_arg1)) _ (fun l => ?_) (fun l => ?_) (fun l => ?_) (fun l => ?_) y).trans ?_
    · exact total_congr (both_eq m c t 0 0 _ _ rfl rfl rfl rfl rfl rfl rfl rfl rfl rfl) (both_eq m c t 0 1 _ _ rfl rfl rfl rfl rfl rfl rfl rfl rfl rfl) (both_eq m c t 0 2 _ _ rfl rfl rfl rfl rfl rfl rfl rfl rfl rfl) (table m c t)
    · exact total_congr (both_eq m c t 1 0 _ _ rfl rfl rfl rfl rfl rfl rfl rfl rfl rfl) (both_eq m c t 1 1 _ _ rfl rfl rfl rfl rfl rfl rfl rfl rfl rfl) (both_eq m c t 1 2 _ _ rfl rfl rfl rfl rfl rfl rfl rfl rfl rfl) (table m c t)
    · exact total_congr (both_eq m c t 2 0 _ _ rfl rfl rfl rfl rfl rfl rfl rfl rfl rfl) (both_eq m c t 2 1 _ _ rfl rfl rfl rfl rfl rfl rfl rfl rfl rfl) (both_eq m c t 2 2 _ _ rfl rfl rfl rfl rfl rfl rfl rfl rfl rfl) (table m c t)
    · exact total_congr (both_eq m c t 3 0 _ _ rfl rfl rfl rfl rfl rfl rfl rfl rfl rfl) (both_eq m c t 3 1 _ _ rfl rfl rfl rfl rfl rfl rfl rfl rfl rfl) (both_eq m c t 3 2 _ _ rfl rfl rfl rfl rfl rfl rfl rfl rfl rfl) (table m c t)
    · refine congrArg (grad _ _) (funext fun a => Fin.ext ?_)
      match a with
      | ⟨0, _⟩ => blk_simp [idx t]; try omega
      | ⟨1, _⟩ => blk_simp [idx t]; try omega
  · intro x
    pointwise
  · intro x
    pointwise
  · decide +kernel

end Cert.DilGProof

namespace Cert.DilGRefLemmas

open Cert.DilGRefIdeal Cert.DilGRefIdeal.Gen

/-- The reference's array. -/
theorem ref_eq (G : Vec Ideal S2x4x3x128x256 .f32) (T : Vec Ideal S3x128x256 .i32) :
    (concatenate S8x128 0 [⟨S4x128, (concatenate S4x128 1 [⟨S4x32, (Host.reduceAdd (select (broadcastInDim S4x32x3x128x256 ![0, 1, 2, 3, 4] bcast_S1x32x3x128x256_S4x32x3x128x256_0_1_2_3_4 (cmpi .eq (broadcastInDim S1x32x3x128x256 ![0, 1, 2, 3, 4] bcast_S1x1x3x128x256_S1x32x3x128x256_0_1_2_3_4 (broadcastInDim S1x1x3x128x256 ![2, 3, 4] bcast_S3x128x256_S1x1x3x128x256_2_3_4 T)) (broadcastInDim S1x32x3x128x256 ![0, 1, 2, 3, 4] bcast_S1x32x1x1x1_S1x32x3x128x256_0_1_2_3_4 (broadcastInDim S1x32x1x1x1 ![1] bcast_S32_S1x32x1x1x1_1 (iotaInDim S32 32 0))))) (broadcastInDim S4x32x3x128x256 ![0, 1, 2, 3, 4] bcast_S4x1x3x128x256_S4x32x3x128x256_0_1_2_3_4 (broadcastInDim S4x1x3x128x256 ![0, 2, 3, 4] bcast_S4x3x128x256_S4x1x3x128x256_0_2_3_4 (Host.reduceAdd G (constant (F := Ideal) S_ .f32 0x00000000#32) reducesTo_S2x4x3x128x256_S4x3x128x256_d0 h_S_))) (broadcastInDim S4x32x3x128x256 ![] bcast_S_S4x32x3x128x256 (id (constant (F := Ideal) S_ .f32 0x00000000#32)))) (constant (F := Ideal) S_ .f32 0x00000000#32) reducesTo_S4x32x3x128x256_S4x32_d2_3_4 h_S_)⟩, ⟨S4x96, (broadcastInDim S4x96 ![] bcast_S_S4x96 (constant (F := Ideal) S_ .f32 0x00000000#32))⟩] concatenates_S4x32_S4x96_S4x128_d1)⟩, ⟨S4x128, (broadcastInDim S4x128 ![] bcast_S_S4x128 (constant (F := Ideal) S_ .f32 0x00000000#32))⟩] concatenates_S4x128_S4x128_S8x128_d0 : Vec Ideal S8x128 .f32) = Cert.DilGProof.grad G T := by
  funext x
  unfold Cert.DilGProof.grad Cert.DilGProof.total Cert.DilGProof.both
  by_cases h0 : (x 0).val < 4
  · by_cases h1 : (x 1).val < 32
    · rw [dif_pos ⟨h0, h1⟩]
      pointwise [h0, h1]
      rw [Fin.sum_univ_three]
      simp only [Fin.sum_univ_two, id_eq]
      pointwise
    · rw [dif_neg (fun h => h1 h.2)]
      pointwise [h0, h1]
  · rw [dif_neg (fun h => h0 h.1)]
    pointwise [h0]

end Cert.DilGRefLemmas

namespace Cert.DilGProof

open Cert.DilGIdeal Cert.DilGIdeal.Gen Cert.DilGIdeal.Value

variable (m : (ℓ : Loc nD τ sig) → Buf (Elt Ideal) ℓ)

theorem frame : Cert.quiescent_DilG := fun m g _ => Cert.DilG.Gen.frame m g

theorem frame_ideal : Cert.quiescent_DilGIdeal := fun m g _ => Cert.DilGIdeal.Gen.frame m g

theorem frame_ref_ideal : Cert.quiescent_DilGRefIdeal := fun m g _ =>
  (θ_run (Cert.DilGRefIdeal.defs (F := Ideal)) _ _).mono (fun r h => ⟨fun c => (h c).2, sem_eq_zero_of_no_sems rfl r.2⟩)
    (Cert.DilGRefIdeal.Value.run (F := Ideal) m g)

/-- Over the extended reals the call computes the reference's derivative. -/
theorem value_ideal : Cert.algebraic_DilGIdeal_DilGRefIdeal := fun m g m' g' _ hx =>
  ⟨_, (θ_run defs _ _).mono (fun r h c => ⟨(h c).1.trans (final m c), (h c).2⟩) (run_blocks m g),
    (θ_run (Cert.DilGRefIdeal.defs (F := Ideal)) _ _).mono
      (fun r h c => ⟨(h c).1.trans ((Cert.DilGRefLemmas.ref_eq _ _).trans (by rw [(hx c).1, (hx c).2])), (h c).2⟩)
      (Cert.DilGRefIdeal.Value.run (F := Ideal) m' g')⟩

end Cert.DilGProof

end
-- ==== Proof.TalkLaunch.lean ====
/-
The launch of a program whose one kernel has no window: every array stays in HBM, the kernel moves it with its own
copies, and the copies of one device land in the arrays of another.

The landing arrays of ALL devices have to be dealt out before any device starts, because a device writes into the
array of a peer that may not have entered its kernel. So the launch step here is given, for all devices together, the
kernel's semaphores at zero, the arrays whole at their launch contents, and the launch credit.
-/
module

public import Idealize.ShloMosaic.Lib.Pipeline.Launch
public import Idealize.ShloMosaic.Lib.Pipeline.Kit
public import Idealize.ShloMosaic.Lib.Tactic

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat cellOf)

variable {nD : Nat} {τ : Topo} {sig : RefSig} {Val : EltTy → Type} {Λ₀ : Labels}

/-- Two copies of the rounds library's ghost state: one for the (empty) pipeline, one for the kernel's own cells. -/
abbrev UU (nD : Nat) (τ : Topo) (sig : RefSig) : Type := UR sig nD τ × UR sig nD τ

local notation "𝕄" => MT nD τ sig Unit Val ℕ (UU nD τ sig) ℕ

abbrev EP : Emb (UR sig nD τ) (MT nD τ sig Unit Val ℕ (UU nD τ sig) ℕ) := embL
abbrev ER : Emb (UR sig nD τ) (MT nD τ sig Unit Val ℕ (UU nD τ sig) ℕ) := embR

section

variable (cfg : Cfg sig Λ₀)

/-- Proof data of a kernel with no window: only what the body starts from and what it ends with, and what it owes. -/
def rdat [IsEmpty (Fin cfg.W)] (O₀ : Dev nD → CellTallies nD τ sig Unit) (X Y : Dev nD → sProp 𝕄) (c : Dev nD) :
    RDat τ Val Unit ℕ (UU nD τ sig) ℕ cfg c where
  A w := isEmptyElim w
  after w := isEmptyElim w
  Φ t := if t = 0 then X c else Y c
  q w := fullShare
  owed t := if t = 0 then O₀ c else 0

/-- Before the body a device holds its start, and owes what the launch made it owe. -/
theorem rdat_first [IsEmpty (Fin cfg.W)] (O₀ : Dev nD → CellTallies nD τ sig Unit) (X Y : Dev nD → sProp 𝕄) (c : Dev nD) {t : Fin (cfg.N + 1)} (h : t = 0) :
    (rdat cfg O₀ X Y c).Φ t = X c ∧ (rdat cfg O₀ X Y c).owed t = O₀ c := ⟨if_pos h, if_pos h⟩

/-- After the body it holds its end, and owes nothing. -/
theorem rdat_last [IsEmpty (Fin cfg.W)] (O₀ : Dev nD → CellTallies nD τ sig Unit) (X Y : Dev nD → sProp 𝕄) (c : Dev nD) {t : Fin (cfg.N + 1)} (h : t ≠ 0) :
    (rdat cfg O₀ X Y c).Φ t = Y c ∧ (rdat cfg O₀ X Y c).owed t = 0 := ⟨if_neg h, if_neg h⟩

/-- The levels of the cells `L` dealt at launch: each device assigns its own TensorCore's. -/
theorem assign_levels (L : GSem nD τ sig → Finset Unit) (lv : GSem nD τ sig → Unit → ℕ)
    (hL : ∀ g : GSem nD τ sig, g.1.2 ≠ .tc → L g = ∅) :
    (bigSep Finset.univ fun c : Dev nD => levels0 (Ix := Unit) (Val := Val) (Name := ℕ) (U := UU nD τ sig) (Lvl := ℕ) (τ := τ) (sig := sig) c)
      ⊢ (|==> levAts L lv : sProp 𝕄) := by
  refine (bigSep_mono fun c _ => lev_assign_cells (c.tc : Thread nD τ) L lv).trans <| (BI.bigSep_bupd _ _).trans <| BI.bupd_mono ?_
  have none_else : (bigSep Finset.univ fun d : Dev nD => bigSep (Finset.univ.erase Proc.tc) fun p =>
      (coreLevAts ((d, p) : Thread nD τ) L lv : sProp 𝕄)) = BI.emp := by
    have one (d : Dev nD) (p : Proc τ) (hp : p ∈ Finset.univ.erase Proc.tc) : (coreLevAts ((d, p) : Thread nD τ) L lv : sProp 𝕄) = BI.emp := by
      unfold coreLevAts
      rw [bigSep_congr (Ψ := fun _ : SemLoc sig => (BI.emp : sProp 𝕄)) fun sm _ => by
        rw [hL (((d, p) : Thread nD τ), sm) (Finset.ne_of_mem_erase hp), BI.bigSep_empty], BI.bigSep_emp_const]
    rw [bigSep_congr (Ψ := fun _ : Dev nD => (BI.emp : sProp 𝕄)) fun d _ =>
      (bigSep_congr (Ψ := fun _ : Proc τ => (BI.emp : sProp 𝕄)) (one d)).trans (BI.bigSep_emp_const _), BI.bigSep_emp_const]
  rw [show (levAts L lv : sProp 𝕄) = bigSep Finset.univ fun c : Thread nD τ => coreLevAts c L lv
      from (bigSep_univ_prod fun g : GSem nD τ sig => bigSep (L g) fun ι => levAt g ι (lv g ι)),
    bigSep_threads (fun c : Thread nD τ => coreLevAts c L lv), none_else, bigSep_sep']
  have drop (A B : sProp 𝕄) : iprop(A ∗ B) ⊢ iprop(B ∗ emp) := by
    iintro ⟨-, H⟩
    isplitl [H]; · iexact H
    iempintro
  exact drop _ _

variable {K : Type} [Fintype K] {osem : K → SemLoc sig}

set_option maxHeartbeats 1000000 in
/-- The run of a program that is one windowless kernel. Given what all devices hold together at launch (`hglob`) dealt
    into each device's start `X c`, and the body run once per device from `X c` to `Y c` with the kernel's semaphores
    back at zero and nothing owed (`hbody`), every weakly fair execution terminates, and its final memory satisfies what
    each device's `Y c` says of it (`hY`), with every scoped semaphore at zero. -/
theorem run_talk [IsEmpty (Fin cfg.W)] (hN : cfg.N = 1) [∀ e, Nonempty (Val e)] (defs₀ : Defs nD τ sig Val Λ₀)
    (phinj : Function.Injective (cellOf (nD := nD) (τ := τ) (fun _ : Fin 1 => cfg)))
    (ho : Pipeline.OwnSemFacts cfg.spec osem)
    (hrest : ∀ c : Dev nD, (Pipeline.scopedRest (Ix := Unit) (Name := ℕ) (U := UU nD τ sig) (Lvl := ℕ) (Val := Val) (τ := τ) cfg.spec c : sProp 𝕄) = BI.emp)
    (m : (ℓ : Loc nD τ sig) → Buf Val ℓ) (ρ : Dev nD → PrngReg)
    (main : Dev nD → Prog (TpuEff nD τ sig Val (Pipeline.Sig Λ₀ (Fin 1) fun _ => (cfg.toPCfg (Val := Val)).Adm) .tc) PUnit)
    (hmain : ∀ c, main c = .op (.customCall (Pipeline.entry 0) ()) fun _ => .ret ⟨⟩)
    (O₀ : Dev nD → CellTallies nD τ sig Unit)
    (L : GSem nD τ sig → Finset Unit) (lv : GSem nD τ sig → Unit → ℕ) (hL : ∀ g : GSem nD τ sig, g.1.2 ≠ .tc → L g = ∅)
    (S : Finset (GSem nD τ sig)) (T : Finset (GSem nD τ sig × ℕ × Unit))
    (X Y : Dev nD → sProp 𝕄)
    (hglob : iprop(BI.own (ER (initOf S T)) ∗ levAts L lv
        ∗ (bigSep Finset.univ fun c : Dev nD => Pipeline.ownSems0 osem c)
        ∗ (bigSep Finset.univ fun c : Dev nD => unscopedBufs c fun b => m ((c.tc : Thread nD τ).loc b))
        ∗ (bigSep Finset.univ fun c : Dev nD => Pipeline.launchCred O₀ c))
      ⊢ |={Set.univ}=> bigSep Finset.univ X)
    (hbody : ∀ (c : Dev nD) (t : Fin cfg.N) (W : Waits sig Unit), iprop(X c ∗ owes (c.tc : Thread nD τ) (O₀ c) W)
      ⊢ wp frame (wpE defs₀ Variants.none (c.tc : Thread nD τ) none) Set.univ (defs₀ .tc cfg.body (cfg.bodyArgs t (cfg.slots t))) fun _ =>
        iprop(Y c ∗ Pipeline.ownSems0 osem c ∗ ∃ W, owes (c.tc : Thread nD τ) 0 W))
    (QY : Dev nD → MemSt nD τ sig Val → Prop)
    (hY : ∀ c (s' : Phys nD τ sig Val), iprop(Y c ∗ SI s') ⊢ |={Set.univ}=> iprop(⌜QY c s'.mem⌝ ∗ SI s')) :
    θ_run (Pipeline.defs (fun _ : Fin 1 => cfg.toPCfg) defs₀) (onTc main) ⟨m, fun _ => 0, ρ⟩ fun r =>
      (∀ c, QY c r.2) ∧ ∀ g : GSem nD τ sig, (g.1.2 ≠ .tc ∨ g.2.isScoped .tc = true) → r.2.sem g = 0 := by
  classical
  let pcs : Fin 1 → Pipeline.PCfg sig Λ₀ Val := fun _ => cfg.toPCfg
  let a : Dev nD → (p : Fin 1) → (pcs p).Adm := fun _ _ => cfg.toPCfg_adm
  let rdats : (p : Fin 1) → (c : Dev nD) → RDat τ Val Unit ℕ (UU nD τ sig) ℕ (Pipeline.pinD pcs a c p) c :=
    fun _ c => rdat cfg O₀ X (fun c => iprop(Y c ∗ Pipeline.ownSems0 osem c)) c
  have hw : Pipeline.WinFacts₀ cfg.spec := ⟨fun w => isEmptyElim w, fun k => isEmptyElim k.1, fun k => isEmptyElim k.1, fun w => isEmptyElim w⟩
  have hss := fun c : Dev nD => Pipeline.PerCore.scopedSems0_split (Pipeline.pinD pcs a) phinj 0 (fun _ => hw) (fun _ => ho)
    (Ix := Unit) (Val := Val) (Name := ℕ) (U := UU nD τ sig) (Lvl := ℕ) c
  have hsb := fun c : Dev nD => Pipeline.PerCore.scopedBufs_split (Pipeline.pinD pcs a) 0 c hw.stage_scoped hw.stage_inj (fun w => isEmptyElim w)
    (nD := nD) (τ := τ) (Ix := Unit) (Val := Val) (Name := ℕ) (U := UU nD τ sig) (Lvl := ℕ)
  -- what each device holds before its kernel and after it
  let pre : Dev nD → sProp 𝕄 := fun c => iprop(scopedBufs (c.tc : Thread nD τ) ∗ Pipeline.PerCore.cellsSems0 (Pipeline.pinD pcs a) 0 c
    ∗ Pipeline.PerCore.idleSems0 (Pipeline.pinD pcs a) phinj 0 (fun _ => ho) c ∗ owes (c.tc : Thread nD τ) (O₀ c) ∅
    ∗ Pipeline.PerCore.cellsGhost (Pipeline.pinD pcs a) EP 0 c ∗ Pipeline.PerCore.toksInit (Pipeline.pinD pcs a) EP 0 c ∗ X c)
  let fin : Dev nD → sProp 𝕄 := fun c => iprop(Y c ∗ scopedSems0 (c.tc : Thread nD τ))
  refine (θ_run _ _ _).mono (Q := fun r => (∀ c : Dev nD, QY c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sems_of_reads (fun c => (hr.1 c).2) hr.2⟩) (adequate_tpu _ _ _ _
    (reflect_intro_fupd_tc_sems (X := Unit) (Variants.lift Variants.none) (Pipeline.owing O₀) 0 (noBookings fun _ => le_rfl) (Pipeline.owing_of_ne O₀)
      ((initOf (Pipeline.PerCore.cells (Pipeline.pinD pcs a) phinj) (Pipeline.PerCore.launchToks (Pipeline.pinD pcs a) phinj), initOf S T) : UU nD τ sig)
      (fun _ => pre) (fun _ => fin) (fun _ => iprop(emp)) Set.univ ?_ (fun _ c => ?_) fun _ => ?_))
  · -- the launch
    have core (c : Dev nD) :
        coreInit (Ix := Unit) (Name := ℕ) (U := UU nD τ sig) (Lvl := ℕ) (Pipeline.owing O₀) 0 (⟨m, fun _ => 0, ρ⟩ : MemSt nD τ sig Val) (c.tc : Thread nD τ)
          ⊢ iprop((scopedBufs (c.tc : Thread nD τ) ∗ Pipeline.PerCore.cellsSems0 (Pipeline.pinD pcs a) 0 c
              ∗ Pipeline.PerCore.idleSems0 (Pipeline.pinD pcs a) phinj 0 (fun _ => ho) c ∗ owes (c.tc : Thread nD τ) (O₀ c) ∅)
            ∗ Pipeline.ownSems0 osem c ∗ unscopedBufs c (fun b => m ((c.tc : Thread nD τ).loc b)) ∗ levels0 c ∗ Pipeline.launchCred O₀ c) := by
      refine (Pipeline.coreInit_boundary_owing O₀ m ρ c).trans ?_
      unfold boundary
      rw [hss c]
      iintro ⟨⟨Hb, ⟨⟨Hcells, Hos⟩, Hidle⟩, -⟩, Hub, -, HL, Hlv, -, Hcr⟩
      isplitl [Hb Hcells Hidle HL]
      · isplitl [Hb]; · iexact Hb
        isplitl [Hcells]; · iexact Hcells
        isplitl [Hidle] <;> iassumption
      isplitl [Hos]; · iexact Hos
      isplitl [Hub]; · iexact Hub
      isplitl [Hlv] <;> iassumption
    have cores : (bigSep Finset.univ fun c : Dev nD =>
          coreInit (Ix := Unit) (Name := ℕ) (U := UU nD τ sig) (Lvl := ℕ) (Pipeline.owing O₀) 0 (⟨m, fun _ => 0, ρ⟩ : MemSt nD τ sig Val) (c.tc : Thread nD τ))
        ⊢ iprop(((bigSep Finset.univ fun c : Dev nD => scopedBufs (c.tc : Thread nD τ))
              ∗ (bigSep Finset.univ fun c : Dev nD => Pipeline.PerCore.cellsSems0 (Pipeline.pinD pcs a) 0 c)
              ∗ (bigSep Finset.univ fun c : Dev nD => Pipeline.PerCore.idleSems0 (Pipeline.pinD pcs a) phinj 0 (fun _ => ho) c)
              ∗ (bigSep Finset.univ fun c : Dev nD => owes (c.tc : Thread nD τ) (O₀ c) ∅))
            ∗ (bigSep Finset.univ fun c : Dev nD => Pipeline.ownSems0 osem c)
            ∗ (bigSep Finset.univ fun c : Dev nD => unscopedBufs c fun b => m ((c.tc : Thread nD τ).loc b))
            ∗ (bigSep Finset.univ fun c : Dev nD => levels0 c) ∗ (bigSep Finset.univ fun c : Dev nD => Pipeline.launchCred O₀ c)) := by
      refine (bigSep_mono fun c _ => core c).trans ?_
      simp only [bigSep_sep']
      exact BI.Entails.refl _
    have pick (Φ : Fin 1 → Dev nD → sProp 𝕄) :
        (bigSep Finset.univ fun c : Dev nD => bigSep Finset.univ fun p' => Φ p' c) ⊢ bigSep Finset.univ fun c : Dev nD => Φ 0 c :=
      bigSep_mono fun c _ => BI.bigSep_elim (Finset.mem_univ 0)
    iintro ⟨Hcores, Hu⟩
    ihave Hc := cores $$ Hcores
    icases Hc with ⟨⟨Hb, Hcells, Hidle, HO⟩, Hos, Hub, Hlv, Hcr⟩
    imod (assign_levels L lv hL) $$ Hlv with Hla
    ihave Hu' := (ownU_pair _ _) $$ Hu
    icases Hu' with ⟨HP, HR⟩
    imod (Pipeline.PerCore.fund_ghost (Pipeline.pinD pcs a) EP phinj) $$ HP with ⟨Hg, Ht⟩
    imod hglob $$ [HR Hla Hos Hub Hcr] with HX
    · isplitl [HR]; · iexact HR
      isplitl [Hla]; · iexact Hla
      isplitl [Hos]; · iexact Hos
      isplitl [Hub] <;> iassumption
    imodintro
    iexists ()
    isplitr []
    · simp only [pre, bigSep_sep']
      isplitl [Hb]; · iexact Hb
      isplitl [Hcells]; · iexact Hcells
      isplitl [Hidle]; · iexact Hidle
      isplitl [HO]; · iexact HO
      isplitl [Hg]; · iapply (pick fun p' c => Pipeline.PerCore.cellsGhost (Pipeline.pinD pcs a) EP p' c); iexact Hg
      isplitl [Ht]; · iapply (pick fun p' c => Pipeline.PerCore.toksInit (Pipeline.pinD pcs a) EP p' c); iexact Ht
      iexact HX
    · iempintro
  · -- one device
    have none_staged (Ψ : Fin (Pipeline.pinD pcs a c 0).W → sProp 𝕄) : (bigSep Finset.univ Ψ : sProp 𝕄) = BI.emp := by
      have h0 : (Finset.univ : Finset (Fin (Pipeline.pinD pcs a c 0).W)) = ∅ := Finset.univ_eq_empty (α := Fin cfg.W)
      rw [h0, BI.bigSep_empty]
    have hout : iprop((rdats 0 c).Φ (Fin.last (Pipeline.pinD pcs a c 0).N) ∗ Pipeline.PerCore.cellsSems0 (Pipeline.pinD pcs a) 0 c
          ∗ Pipeline.Dat.staging (Pipeline.pinD pcs a c 0) c ∗ Pipeline.PerCore.idleSems0 (Pipeline.pinD pcs a) phinj 0 (fun _ => ho) c)
        ⊢ iprop(Y c ∗ scopedSems0 (c.tc : Thread nD τ) ∗ scopedBufs (c.tc : Thread nD τ)) := by
      rw [hss c, hsb c, show (rdats 0 c).Φ (Fin.last (Pipeline.pinD pcs a c 0).N) = iprop(Y c ∗ Pipeline.ownSems0 osem c) from
        (rdat_last cfg O₀ _ _ c (fun h => by have h2 : cfg.N = 0 := congrArg Fin.val h; omega)).1]
      have hr : (Pipeline.scopedRest (Pipeline.pinD pcs a c 0).spec c : sProp 𝕄) = BI.emp := hrest c
      rw [hr]
      iintro ⟨⟨HY, Hos⟩, Hcells, Hst, Hidle⟩
      isplitl [HY]; · iexact HY
      isplitl [Hcells Hos Hidle]
      · isplitl [Hcells Hos]; · isplitl [Hcells] <;> iassumption
        iexact Hidle
      isplitl [Hst]; · iexact Hst
      iempintro
    have hob : (rdats 0 c).BodyObligation defs₀ Variants.none () Set.univ := by
      intro t Y' _
      have ht : t.val = 0 := by have h2 : t.val < cfg.N := t.isLt; omega
      rw [none_staged, none_staged,
        show (rdats 0 c).Φ t.castSucc = X c from (rdat_first cfg O₀ _ _ c (Fin.ext ht)).1,
        show (rdats 0 c).Φ t.succ = iprop(Y c ∗ Pipeline.ownSems0 osem c) from (rdat_last cfg O₀ _ _ c (Fin.succ_ne_zero t)).1]
      unfold RDat.owesAt Pipeline.owesWithin
      rw [show (rdats 0 c).owed t.castSucc = O₀ c from (rdat_first cfg O₀ _ _ c (Fin.ext ht)).2,
        show (rdats 0 c).owed t.succ = 0 from (rdat_last cfg O₀ _ _ c (Fin.succ_ne_zero t)).2]
      have hstart : iprop(X c ∗ (∃ W, ⌜↑W ⊆ (rdats 0 c).bound () t.castSucc⌝ ∗ owes (c.tc : Thread nD τ) (O₀ c) W) ∗ BI.emp)
          ⊢ wp frame (wpE defs₀ Variants.none (c.tc : Thread nD τ) none) Set.univ (defs₀ .tc cfg.body (cfg.bodyArgs t (cfg.slots t)))
            fun _ => iprop(Y c ∗ Pipeline.ownSems0 osem c ∗ ∃ W, owes (c.tc : Thread nD τ) 0 W) := by
        iintro ⟨HX, ⟨%W, -, HL⟩, -⟩
        iapply (hbody c t W)
        isplitl [HX] <;> iassumption
      refine BI.Entails.trans hstart (wp_mono _ _ _ fun _ => ?_)
      show iprop(Y c ∗ Pipeline.ownSems0 osem c ∗ ∃ W, owes (c.tc : Thread nD τ) 0 W) ⊢ iprop((Y c ∗ Pipeline.ownSems0 osem c) ∗ (∃ W, ⌜↑W ⊆ (rdats 0 c).bound () t.succ⌝ ∗ owes (c.tc : Thread nD τ) 0 W) ∗ BI.emp)
      iintro ⟨HY, Hos, ⟨%W, HL⟩⟩
      isplitl [HY Hos]; · isplitl [HY] <;> iassumption
      isplitl [HL]
      · iexists W; isplitr; · ipureintro; exact fun _ _ => Or.inl trivial
        iexact HL
      iempintro
    have hwaits : (emp : sProp 𝕄) ⊢ Pipeline.PerCore.RDat.cellsWaits (Pipeline.pinD pcs a) rdats () 0 c :=
      Pipeline.PerCore.RDat.cellsWaits_intro (Pipeline.pinD pcs a) rdats () 0 c fun w => isEmptyElim (α := Fin cfg.W) w
    simp only [pre]
    rw [hmain c]
    iintro ⟨Hsc, Hcells, Hidle, HL, Hg, Ht, HX⟩
    iapply (fupd_wp frame (wpE (Pipeline.defs pcs defs₀) (Variants.lift Variants.none) (c.tc : Thread nD τ) none) Set.univ _ _)
    imod (Pipeline.PerCore.RDat.cellsInit_alloc (Pipeline.pinD pcs a) rdats EP phinj 0 c) $$ [Hcells Hg] with ⟨%κ, -, Hinit⟩
    · isplitl [Hcells] <;> iassumption
    imodintro
    iapply (Pipeline.PerCore.RDat.wp_customCall_entry_frame pcs a rdats () EP κ phinj 0 defs₀ Variants.none (fun k => k.elim0) c Set.univ (fun _ _ => Set.mem_univ _)
        hob (fun w => isEmptyElim (α := Fin cfg.W) w) none (fun u h => nomatch h) (X := X c) (Y := Y c) (R := Pipeline.scopedRest (Pipeline.pinD pcs a c 0).spec c)
        (I := Pipeline.PerCore.idleSems0 (Pipeline.pinD pcs a) phinj 0 (fun _ => ho) c)
        (Entails.of_eq (hsb c)) (by
          show iprop(_ ∗ _ ∗ _) ⊢ iprop(X c)
          iintro ⟨H, -⟩
          iexact H) hout
        (k := fun _ => .ret ⟨⟩) (Q := fun _ => post (liftTc fin BI.emp) (c.tc : Thread nD τ))) $$ [HL Hinit Ht HX Hidle Hsc]
    · isplitl [HL Hinit Ht]
      · unfold Pipeline.PerCore.RDat.EntryPre RDat.owesAt Pipeline.owesWithin
        rw [show (rdats 0 c).owed 0 = O₀ c from rfl]
        isplitr
        · unfold RDat.arrays
          iapply (Entails.of_eq (none_staged _).symm)
          iempintro
        isplitl [HL]
        · iexists ∅; isplitr; · ipureintro; rw [Finset.coe_empty]; exact Set.empty_subset _
          iexact HL
        isplitr; · iapply hwaits; iempintro
        isplitl [Hinit] <;> iassumption
      isplitr
      · unfold Pipeline.prefHeld
        iapply (Entails.of_eq (show (BI.emp : sProp 𝕄) = _ from by
          rw [show (Finset.univ : Finset (Fin (pcs 0).pre.K)) = ∅ from rfl, BI.bigSep_empty]))
        iempintro
      isplitl [HX]; · iexact HX
      isplitl [Hidle]; · iexact Hidle
      iexact Hsc
    iintro ⟨Hpost, HY, Hss2, -⟩
    rw [wp_ret]; imodintro
    unfold post; simp only [liftTc_tc, fin]
    isplitl [HY Hss2]; · isplitl [HY] <;> iassumption
    unfold Pipeline.PerCore.RDat.EntryPost RDat.owesAt Pipeline.owesWithin
    rw [show (rdats 0 c).owed (Fin.last (Pipeline.pinD pcs a c 0).N) = 0 from
      (rdat_last cfg O₀ _ _ c (fun h => by have h2 : cfg.N = 0 := congrArg Fin.val h; omega)).2]
    icases Hpost with ⟨-, ⟨%W, -, HW⟩⟩
    iexists W
    iexact HW
  · -- the final memory
    have hcore (c : Dev nD) (s' : Phys nD τ sig Val) : iprop(fin c ∗ SI s') ⊢ |={Set.univ}=>
        iprop(⌜QY c s'.mem ∧ ∀ sm : SemLoc sig, sm.isScoped .tc = true → s'.mem.sem ((c.tc : Thread nD τ), sm) = 0⌝ ∗ SI s') := by
      simp only [fin]
      iintro ⟨⟨HY, Hss⟩, HSI⟩
      ihave %hz := (tcScoped_read_pers c s') $$ [Hss HSI]
      · isplitl [Hss] <;> iassumption
      imod (hY c s') $$ [HY HSI] with ⟨%hy, HSI⟩
      · isplitl [HY] <;> iassumption
      imodintro
      isplitr
      · ipureintro; exact ⟨hy, hz⟩
      · iexact HSI
    iintro ⟨H, -, Hsc⟩ %s' HSI
    ihave %hsc := (scSems_read_zero m ρ s') $$ [Hsc HSI]
    · isplitl [Hsc] <;> iassumption
    imod (posts_fupd Finset.univ hcore s') $$ [H HSI] with %h
    · isplitl [H] <;> iassumption
    imodintro
    ipureintro
    exact ⟨fun c => h c (Finset.mem_univ c), hsc⟩

end

/-- A conjunction over a list, one conjunct after the other. -/
def listSep {ι : Type} (Φ : ι → sProp (MT nD τ sig Unit Val ℕ (UU nD τ sig) ℕ)) : List ι → sProp (MT nD τ sig Unit Val ℕ (UU nD τ sig) ℕ)
  | [] => iprop(emp)
  | k :: l => iprop(Φ k ∗ listSep Φ l)

/-- A conjunction over a finite set that a list enumerates. -/
theorem bigSep_list {ι : Type} [DecidableEq ι] (Φ : ι → sProp (MT nD τ sig Unit Val ℕ (UU nD τ sig) ℕ)) (l : List ι) (hl : l.Nodup)
    (S : Finset ι) (hS : S = l.toFinset) : bigSep S Φ = listSep Φ l := by
  subst hS
  induction l with
  | nil => rw [List.toFinset_nil, BI.bigSep_empty]; rfl
  | cons k l ih =>
    have hk : k ∉ l.toFinset := fun h => (List.nodup_cons.mp hl).1 (List.mem_toFinset.mp h)
    rw [List.toFinset_cons, BI.bigSep_insert hk, ih (List.nodup_cons.mp hl).2]; rfl

/-- With no window, a device's arrays are all outside the windows. -/
theorem unscopedBufs_eq_rest {gr W : Nat} [IsEmpty (Fin W)] (win : Fin W → Pipeline.WinSpec sig gr) (c : Dev nD)
    (V : (b : Ref sig .tc) → Buf Val ((c.tc : Thread nD τ).loc b)) :
    (unscopedBufs c V : sProp 𝕄) = Pipeline.unscopedRest win c V := by
  unfold unscopedBufs Pipeline.unscopedRest
  have h : (Finset.univ : Finset (Fin W)) = ∅ := Finset.univ_eq_empty
  rw [h, Finset.image_empty, Finset.sdiff_empty]

end Cert.Talk

end
-- ==== Proof.Talk.lean ====
/-
A protocol in which every semaphore cell is used once: each cell of each device is credited by exactly one copy, and its
owner waits for it once. A copy of device `c` credits its own sending cell and the landing cell of the device it sends
to; what the landing cell's owner gets from its wait is the landed area, what the sender gets back is its source.

`held` is what a device holds in the middle of its kernel: the cells it has still to pay (`P`), the cells it has still to
wait for (`A`), the credit in its hand (`C`), and the landing cells of other devices it still owes (`l`, in the order in
which it pays them). The rules `held_send`, `held_copy`, `held_wait` move it along, one per operation.
-/
module

public import proofs.«01_k».proof.Proof.TalkLaunch

@[expose] public section

set_option Elab.async false

noncomputable section

namespace Cert.Talk

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat cellOf)

variable {nD : Nat} {τ : Topo} {sig : RefSig} {Val : EltTy → Type} {Λ₀ : Labels}

local notation "𝕄" => MT nD τ sig Unit Val ℕ (UU nD τ sig) ℕ

/-- A protocol of `n` one-shot cells per device. -/
structure Proto (nD : Nat) (τ : Topo) (sig : RefSig) (Val : EltTy → Type) (n : ℕ) where
  /-- The semaphores of the cells. -/
  osem : Fin n → SemLoc sig
  inj : Function.Injective osem
  /-- The device whose cell `k` a device pays. -/
  tgt : Fin n → Dev nD ≃ Dev nD
  /-- The units of a cell. -/
  amt : Fin n → ℕ
  amt_pos : ∀ k, 0 < amt k
  /-- What the wait for cell `k` gives device `c`. -/
  pay : Dev nD → Fin n → sProp (MT nD τ sig Unit Val ℕ (UU nD τ sig) ℕ)
  stor : ∀ c k, BI.Storable (upEmb : UEmb _ (MT nD τ sig Unit Val ℕ (UU nD τ sig) ℕ)) (pay c k)
  /-- What device `c` gives away at launch to the one who pays its cell `k`: the area the copy lands in. -/
  slot : Dev nD → Fin n → sProp (MT nD τ sig Unit Val ℕ (UU nD τ sig) ℕ)
  /-- The order of the waits: who waits for a cell owes only cells of higher level. -/
  lvl : Fin n → ℕ

namespace Proto

variable {n : ℕ} (p : Proto nD τ sig Val n)

abbrev cell (ck : Dev nD × Fin n) : GSem nD τ sig := ((ck.1.tc : Thread nD τ), p.osem ck.2)

theorem cell_inj : Function.Injective p.cell := by
  rintro ⟨c, k⟩ ⟨c', k'⟩ h
  have h1 : c = c' := congrArg (fun g : GSem nD τ sig => g.1.1) h
  have h2 : k = k' := p.inj (congrArg Prod.snd h)
  subst h1; subst h2; rfl

open Classical in
/-- Every cell has one duty, in round 0. -/
def sched : Rounds.Schedule (GSem nD τ sig) Unit 𝕄 where
  duties g r := if r = 0 ∧ ∃ ck, p.cell ck = g then {()} else ∅
  unitless _ := False
  amount g _ _ := if h : ∃ ck, p.cell ck = g then p.amt h.choose.2 else 1
  payload g _ _ := if h : ∃ ck, p.cell ck = g then p.pay h.choose.1 h.choose.2 else iprop(emp)
  amount_pos g _ _ _ := by
    by_cases h : ∃ ck, p.cell ck = g
    · rw [dif_pos h]; exact p.amt_pos _
    · rw [dif_neg h]; exact Nat.one_pos

instance sched_storable (g : GSem nD τ sig) (r : ℕ) (d : Unit) : BI.Storable (upEmb : UEmb _ 𝕄) (p.sched.payload g r d) := by
  dsimp only [sched]
  split
  · exact p.stor _ _
  · infer_instance

theorem choose_cell (ck : Dev nD × Fin n) (h : ∃ ck', p.cell ck' = p.cell ck) : h.choose = ck := p.cell_inj h.choose_spec

theorem duties_zero (ck : Dev nD × Fin n) : p.sched.duties (p.cell ck) 0 = {()} := by
  dsimp only [sched]; exact if_pos ⟨rfl, ck, rfl⟩
theorem duties_later (g : GSem nD τ sig) (r : ℕ) (hr : 1 ≤ r) : p.sched.duties g r = ∅ := by
  dsimp only [sched]; exact if_neg fun h => by omega
theorem amount_eq (ck : Dev nD × Fin n) (u : Unit) : p.sched.amount (p.cell ck) 0 u = p.amt ck.2 := by
  have h : ∃ ck', p.cell ck' = p.cell ck := ⟨ck, rfl⟩
  dsimp only [sched]; rw [dif_pos h, p.choose_cell ck h]
theorem payload_eq (ck : Dev nD × Fin n) (u : Unit) : p.sched.payload (p.cell ck) 0 u = p.pay ck.1 ck.2 := by
  have h : ∃ ck', p.cell ck' = p.cell ck := ⟨ck, rfl⟩
  dsimp only [sched]; rw [dif_pos h, p.choose_cell ck h]
theorem expect_eq (ck : Dev nD × Fin n) : p.sched.expect (p.cell ck) 0 = p.amt ck.2 := by
  unfold Schedule.expect Schedule.amountOf; rw [duties_zero, Finset.sum_singleton, amount_eq]
theorem rest_eq (ck : Dev nD × Fin n) :
    bigSep (p.sched.duties (p.cell ck) 0 \ ∅) (fun u => p.sched.payload (p.cell ck) 0 u) = p.pay ck.1 ck.2 := by
  rw [Finset.sdiff_empty, duties_zero, bigSep_singleton, payload_eq]

/-! ### What is owed, and the levels -/

/-- What device `c` owes when it has still to pay the landing cells `l`. -/
def owed (c : Dev nD) : List (Fin n) → CellTallies nD τ sig Unit
  | [] => 0
  | k :: l => owed c l + tallyAt (p.cell (p.tgt k c, k)) () (p.amt k)

theorem owed_pos (c : Dev nD) {l : List (Fin n)} {g : GSem nD τ sig} {i : Unit} (h : 0 < p.owed c l g i) :
    ∃ k ∈ l, g = p.cell (p.tgt k c, k) := by
  induction l with
  | nil => exact absurd h (Nat.lt_irrefl 0)
  | cons k l ih =>
    rcases Pipeline.add_pos_cases h with h | h
    · obtain ⟨j, hj, hg⟩ := ih h
      exact ⟨j, List.mem_cons_of_mem _ hj, hg⟩
    · exact ⟨k, List.mem_cons_self .., (Pipeline.tallyAt_pos h).1⟩

def L (g : GSem nD τ sig) : Finset Unit := if g.1.2 = .tc then {()} else ∅
open Classical in
def lv (g : GSem nD τ sig) (_ : Unit) : ℕ := if h : ∃ ck, p.cell ck = g then p.lvl h.choose.2 else 0
theorem L_of_ne (g : GSem nD τ sig) (h : g.1.2 ≠ .tc) : L g = ∅ := if_neg h
theorem L_cell (ck : Dev nD × Fin n) : () ∈ L (p.cell ck) := by
  have h : L (p.cell ck) = {()} := if_pos rfl
  rw [h]; exact Finset.mem_singleton_self _
theorem lv_cell (ck : Dev nD × Fin n) (u : Unit) : p.lv (p.cell ck) u = p.lvl ck.2 := by
  have h : ∃ ck', p.cell ck' = p.cell ck := ⟨ck, rfl⟩
  unfold lv; rw [dif_pos h, p.choose_cell ck h]

theorem mayWait (c : Dev nD) (k : Fin n) (l : List (Fin n)) (hl : ∀ j ∈ l, p.lvl k < p.lvl j) :
    (levAts L p.lv : sProp 𝕄) ⊢ MayWait (c.tc : Thread nD τ) (p.osem k) () (p.owed c l) :=
  Pipeline.mayWait_of_levAts (p.L_cell (c, k)) fun g i hg => by
    obtain ⟨j, hj, rfl⟩ := p.owed_pos c hg
    refine ⟨p.L_cell _, ?_⟩
    have h1 := p.lv_cell (c, k) ()
    unfold cell at h1
    rw [h1, lv_cell]
    exact hl j hj

/-! ### What a device holds -/

/-- The invariants of all cells, and that each is open. -/
def records (K : Dev nD × Fin n → ℕ) : sProp 𝕄 :=
  iprop((bigSep Finset.univ fun ck : Dev nD × Fin n => cellInv ER p.sched (K ck) (p.cell ck))
    ∗ bigSep Finset.univ fun ck : Dev nD × Fin n => reached ER (p.cell ck) 0)
instance records_persistent (K : Dev nD × Fin n → ℕ) : BI.Persistent (p.records K) := by unfold records; infer_instance

theorem records_at (K : Dev nD × Fin n → ℕ) (ck : Dev nD × Fin n) :
    p.records K ⊢ iprop(cellInv ER p.sched (K ck) (p.cell ck) ∗ reached ER (p.cell ck) 0) := by
  unfold records
  exact BI.sep_mono (BI.bigSep_elim (Finset.mem_univ ck)) (BI.bigSep_elim (Finset.mem_univ ck))

/-- The right to pay cell `k`, with the area the paying copy lands in. -/
def tok (c : Dev nD) (k : Fin n) : sProp 𝕄 := iprop(dutyTok ER (p.cell (p.tgt k c, k)) 0 () ∗ p.slot (p.tgt k c) k)

open Classical in
/-- A cell of the device's own: not yet waited for, or closed at zero. -/
def own (A : Finset (Fin n)) (c : Dev nD) (k : Fin n) : sProp 𝕄 :=
  if k ∈ A then atPos ER (p.cell (c, k)) 0 ∅ 0 else semVal (p.cell (c, k)) 0

/-- The credit for one wait on cell `k`. -/
abbrev crd (c : Dev nD) (k : Fin n) : sProp 𝕄 := cred (tallyAt (p.cell (c, k)) () (p.amt k))

/-- What a device holds: cells to pay `P`, cells to wait for `A`, credit `C`. -/
def deal (K : Dev nD × Fin n → ℕ) (c : Dev nD) (P A C : Finset (Fin n)) : sProp 𝕄 :=
  iprop(p.records K ∗ levAts L p.lv ∗ bigSep P (p.tok c) ∗ bigSep Finset.univ (p.own A c) ∗ bigSep C (p.crd c))

/-- The same, with the landing cells `l` it owes. -/
def held (K : Dev nD × Fin n → ℕ) (c : Dev nD) (P A C : Finset (Fin n)) (l : List (Fin n)) : sProp 𝕄 :=
  iprop(p.deal K c P A C ∗ ∃ W, owes (c.tc : Thread nD τ) (p.owed c l) W)

theorem take (P : Finset (Fin n)) (Φ : Fin n → sProp 𝕄) {k : Fin n} (h : k ∈ P) :
    bigSep P Φ = iprop(Φ k ∗ bigSep (P.erase k) Φ) := BI.bigSep_erase h
theorem put (P : Finset (Fin n)) (Φ : Fin n → sProp 𝕄) {k : Fin n} (h : k ∉ P) :
    bigSep (insert k P) Φ = iprop(Φ k ∗ bigSep P Φ) := BI.bigSep_insert h

/-- Waiting for cell `k` replaces its position by its counter at zero. -/
theorem own_erase (A : Finset (Fin n)) (c : Dev nD) {k : Fin n} (hk : k ∈ A) :
    iprop(semVal (p.cell (c, k)) 0 ∗ bigSep (Finset.univ.erase k) (p.own A c)) ⊢ bigSep Finset.univ (p.own (A.erase k) c) := by
  rw [take Finset.univ (p.own (A.erase k) c) (Finset.mem_univ k)]
  have h1 : p.own (A.erase k) c k = semVal (p.cell (c, k)) 0 := if_neg (Finset.notMem_erase k A)
  have h2 : bigSep (Finset.univ.erase k) (p.own (A.erase k) c) = bigSep (Finset.univ.erase k) (p.own A c) := by
    refine BI.bigSep_congr fun j hj => ?_
    have hne := Finset.ne_of_mem_erase hj
    unfold own
    by_cases h : j ∈ A
    · rw [if_pos h, if_pos (Finset.mem_erase.mpr ⟨hne, h⟩)]
    · rw [if_neg h, if_neg fun h' => h (Finset.mem_of_mem_erase h')]
  rw [h1, h2]

section Steps

variable {defs₀ : Defs nD τ sig Val Λ₀} {α : Type} {Q : α → sProp (MT nD τ sig Unit Val ℕ (UU nD τ sig) ℕ)} {sp sp' : Space} {s : Shape} {e : EltTy}
  (K : Dev nD × Fin n → ℕ) (c : Dev nD) (P A C : Finset (Fin n)) (l : List (Fin n))

/-- A copy to another device: it pays the device's own cell `k₁` (with the source) and cell `k₂` of the other. -/
theorem held_send (k₁ k₂ : Fin n) (c' : Dev nD) (hc' : c' = p.tgt k₂ c) (hto : p.tgt k₁ c = c)
    (h₁ : k₁ ∈ P) (h₂ : k₂ ∈ P.erase k₁) (hC : k₁ ∉ C)
    {src : Memref sig .tc sp s e} {dst : Memref sig (c'.tc : Thread nD τ).2.kind sp' s e} {hsc : dst.view.ref.isScScratch = false} {sS sem : SemLoc sig}
    (hS : sS = p.osem k₁) (hR : sem = p.osem k₂)
    {hsrc : src.view.WordExact} {hdst : dst.view.WordExact} {hsem : DmaTarget.Typed sp sem (.remote (c'.tc : Thread nD τ) dst sS hsc)}
    {k : PUnit → Prog (TpuEff nD τ sig Val Λ₀ .tc) α} {q : PosShare TreeShare} {fs : Buf Val (src.view.loc (c.tc : Thread nD τ))}
    (hN₁ : p.amt k₁ = p.amt k₂) (hN₂ : dst.view.amount sem = p.amt k₂)
    (hslot : p.slot c' k₂ ⊢ iprop(∃ fd : Buf Val (dst.view.loc (c'.tc : Thread nD τ)), dst.view.loc (c'.tc : Thread nD τ) ↦[dst.view.set]{fullShare} fd))
    (hpay₁ : (src.view.loc (c.tc : Thread nD τ) ↦[src.view.set]{q} fs) ⊢ p.pay c k₁)
    (hpay₂ : ∀ fd : Buf Val (dst.view.loc (c'.tc : Thread nD τ)),
      (dst.view.loc (c'.tc : Thread nD τ) ↦[dst.view.set]{fullShare} (dst.view.write Val fd (src.view.read Val fs) Finset.univ)) ⊢ p.pay c' k₂)
    (hr : τ.routes (c.tc : Thread nD τ) (c'.tc : Thread nD τ) = true := by routes) :
    iprop(p.held K c P A C (k₂ :: l) ∗ (src.view.loc (c.tc : Thread nD τ) ↦[src.view.set]{q} fs))
      ⊢ iprop((p.held K c ((P.erase k₁).erase k₂) A (insert k₁ C) l -∗ wp frame (wpE defs₀ Variants.none (c.tc : Thread nD τ) none) Set.univ (k ⟨⟩) Q)
        -∗ wp frame (wpE defs₀ Variants.none (c.tc : Thread nD τ) none) Set.univ
            (.op (.enqueueDma src (.remote (c'.tc : Thread nD τ) dst sS hsc) sem hsrc hdst hsem) k) Q) := by
  subst hS hR
  have rule := fun fd W => Rounds.wp_send_pointsTo (Γ := .empty) (defs := defs₀) Variants.none ER p.sched (c.tc : Thread nD τ) none
    (c' := (c'.tc : Thread nD τ)) (src := src) (dst := dst) (hsc := hsc) (sS := p.osem k₁) (sem := p.osem k₂) (hsrc := hsrc) (hdst := hdst) (hsem := hsem)
    (k := k) (Q := Q) (q := q) (fs := fs) (fd := fd) (r₁ := 0) (r₂ := 0) (d₁ := ()) (d₂ := ()) (κ₁ := K (c, k₁)) (κ₂ := K (c', k₂)) (Es := Set.univ)
    (by rw [show (((c.tc : Thread nD τ), p.osem k₁) : GSem nD τ sig) = p.cell (c, k₁) from rfl, duties_zero]; exact Finset.mem_singleton_self _)
    (by rw [show (((c'.tc : Thread nD τ), p.osem k₂) : GSem nD τ sig) = p.cell (c', k₂) from rfl, duties_zero]; exact Finset.mem_singleton_self _)
    () () (p.amt k₂) hN₂ ((p.amount_eq (c, k₁) ()).trans hN₁) (p.amount_eq (c', k₂) ()) (O₀ := p.owed c (k₂ :: l)) (W := W) (p.owed c l)
    (by rw [hc']; rfl)
    (hpay₁.trans (Entails.of_eq (p.payload_eq (c, k₁) ()).symm))
    ((hpay₂ fd).trans (Entails.of_eq (p.payload_eq (c', k₂) ()).symm)) hr
  subst hc'
  have hcrd : p.crd c k₁ = (cred (tallyAt ((c.tc : Thread nD τ), p.osem k₁) () (p.amt k₂)) : sProp 𝕄) := by rw [← hN₁]
  have hput : iprop(p.crd c k₁ ∗ bigSep C (p.crd c)) ⊢ bigSep (insert k₁ C) (p.crd c) := Entails.of_eq (put C (p.crd c) hC).symm
  unfold held deal
  rw [take P (p.tok c) h₁, take (P.erase k₁) (p.tok c) h₂]
  unfold tok
  rw [hto]
  iintro ⟨⟨⟨#Hrec, #Hlev, ⟨⟨Ht1, -⟩, ⟨Ht2, Hsl⟩, Htoks⟩, Hown, Hcr⟩, ⟨%W, Ho⟩⟩, Hsrc⟩ Hk
  ihave Hsl := hslot $$ Hsl
  icases Hsl with ⟨%fd, Hdst⟩
  ihave #H1 := (p.records_at K (c, k₁)) $$ Hrec
  ihave #H2 := (p.records_at K (p.tgt k₂ c, k₂)) $$ Hrec
  icases H1 with ⟨#HI1, #HR1⟩
  icases H2 with ⟨#HI2, #HR2⟩
  iapply (rule fd W) $$ [Hsrc Hdst Ho Ht1 Ht2]
  · isplitr; · iexact HI1
    isplitr; · iexact HI2
    isplitl [Hsrc]; · iexact Hsrc
    isplitl [Hdst]; · iexact Hdst
    isplitl [Ho]; · iexact Ho
    isplitl [Ht1]; · iexact Ht1
    isplitr; · iexact HR1
    isplitl [Ht2]; · iexact Ht2
    iexact HR2
  iintro ⟨Hc1, Ho⟩
  iapply Hk
  isplitr [Ho]
  · isplitr; · iexact Hrec
    isplitr; · iexact Hlev
    isplitl [Htoks]; · iexact Htoks
    isplitl [Hown]; · iexact Hown
    iapply hput
    isplitl [Hc1]
    · rw [hcrd]; iexact Hc1
    iexact Hcr
  iexists W; iexact Ho

/-- A copy within the device, which pays its own cell `k₁` with both the landed area and the source. -/
theorem held_copy (k₁ : Fin n) (hto : p.tgt k₁ c = c) (h₁ : k₁ ∈ P) (hC : k₁ ∉ C)
    {src : Memref sig .tc sp s e} {dst : Memref sig .tc sp' s e} {sem : SemLoc sig} (hS : sem = p.osem k₁)
    {hsrc : src.view.WordExact} {hdst : dst.view.WordExact} {hsem : DmaTarget.Typed (nD := nD) (τ := τ) (p := .tc) sp sem (.here dst)}
    {k : PUnit → Prog (TpuEff nD τ sig Val Λ₀ .tc) α} {q : PosShare TreeShare} {fs : Buf Val (src.view.loc (c.tc : Thread nD τ))}
    (hN : dst.view.amount sem = p.amt k₁)
    (hslot : p.slot c k₁ ⊢ iprop(∃ fd : Buf Val (dst.view.loc (c.tc : Thread nD τ)), dst.view.loc (c.tc : Thread nD τ) ↦[dst.view.set]{fullShare} fd))
    (hpay : ∀ fd : Buf Val (dst.view.loc (c.tc : Thread nD τ)),
      iprop((dst.view.loc (c.tc : Thread nD τ) ↦[dst.view.set]{fullShare} (dst.view.write Val fd (src.view.read Val fs) Finset.univ))
        ∗ (src.view.loc (c.tc : Thread nD τ) ↦[src.view.set]{q} fs)) ⊢ p.pay c k₁) :
    iprop(p.held K c P A C l ∗ (src.view.loc (c.tc : Thread nD τ) ↦[src.view.set]{q} fs))
      ⊢ iprop((p.held K c (P.erase k₁) A (insert k₁ C) l -∗ wp frame (wpE defs₀ Variants.none (c.tc : Thread nD τ) none) Set.univ (k ⟨⟩) Q)
        -∗ wp frame (wpE defs₀ Variants.none (c.tc : Thread nD τ) none) Set.univ (.op (.enqueueDma src (.here dst) sem hsrc hdst hsem) k) Q) := by
  subst hS
  have rule := fun fd => Rounds.wp_copy_pointsTo (Γ := .empty) (defs := defs₀) Variants.none ER p.sched (c.tc : Thread nD τ) none
    (src := src) (dst := dst) (sem := p.osem k₁) (hsrc := hsrc) (hdst := hdst) (hsem := hsem)
    (k := k) (Q := Q) (q := q) (fs := fs) (fd := fd) (r := 0) (d := ()) (κ := K (c, k₁)) (Es := Set.univ)
    (by rw [show (((c.tc : Thread nD τ), p.osem k₁) : GSem nD τ sig) = p.cell (c, k₁) from rfl, duties_zero]; exact Finset.mem_singleton_self _)
    () (p.amt k₁) hN (p.amount_eq (c, k₁) ())
    ((hpay fd).trans (Entails.of_eq (p.payload_eq (c, k₁) ()).symm))
  have hput : iprop(p.crd c k₁ ∗ bigSep C (p.crd c)) ⊢ bigSep (insert k₁ C) (p.crd c) := Entails.of_eq (put C (p.crd c) hC).symm
  unfold held deal
  rw [take P (p.tok c) h₁]
  unfold tok
  rw [hto]
  iintro ⟨⟨⟨#Hrec, #Hlev, ⟨⟨Ht1, Hsl⟩, Htoks⟩, Hown, Hcr⟩, ⟨%W, Ho⟩⟩, Hsrc⟩ Hk
  ihave Hsl := hslot $$ Hsl
  icases Hsl with ⟨%fd, Hdst⟩
  ihave #H1 := (p.records_at K (c, k₁)) $$ Hrec
  icases H1 with ⟨#HI1, #HR1⟩
  iapply (rule fd) $$ [Hsrc Hdst Ht1]
  · isplitr; · iexact HI1
    isplitl [Hsrc]; · iexact Hsrc
    isplitl [Hdst]; · iexact Hdst
    isplitl [Ht1]; · iexact Ht1
    iexact HR1
  iintro Hc1
  iapply Hk
  isplitr [Ho]
  · isplitr; · iexact Hrec
    isplitr; · iexact Hlev
    isplitl [Htoks]; · iexact Htoks
    isplitl [Hown]; · iexact Hown
    iapply hput
    isplitl [Hc1]; · iexact Hc1
    iexact Hcr
  iexists W; iexact Ho

/-- The wait for cell `k₁`: it gives what the copy into it carried, and the cell is closed. -/
theorem held_wait (k₁ : Fin n) (hA : k₁ ∈ A) (hC : k₁ ∈ C) (hl : ∀ j ∈ l, p.lvl k₁ < p.lvl j)
    {w : TpuEff nD τ sig Val Λ₀ .tc PUnit} {sm : SemLoc sig} {k' : ℕ} (hS : sm = p.osem k₁) (hN : k' = p.amt k₁)
    (hw : ∀ R : PUnit → sProp 𝕄, wpE defs₀ Variants.none (c.tc : Thread nD τ) none Set.univ w R = waitSpec (c.tc : Thread nD τ) Set.univ sm k' R)
    {k : PUnit → Prog (TpuEff nD τ sig Val Λ₀ .tc) α} :
    p.held K c P A C l
      ⊢ iprop(((p.held K c P (A.erase k₁) (C.erase k₁) l ∗ p.pay c k₁) -∗ wp frame (wpE defs₀ Variants.none (c.tc : Thread nD τ) none) Set.univ (k ⟨⟩) Q)
        -∗ wp frame (wpE defs₀ Variants.none (c.tc : Thread nD τ) none) Set.univ (.op w k) Q) := by
  subst hS hN
  have rule := fun W => Rounds.wp_wait_rest_token (Γ := .empty) (defs := defs₀) Variants.none ER p.sched (c.tc : Thread nD τ) none (Q := Q) (w := w) (k := k)
    (sm := p.osem k₁) (k' := p.amt k₁) (κ := K (c, k₁)) hw (Set.mem_univ _) () (O := p.owed c l) (W := W) (R := 0) (m := 0) (T := ∅)
    (by rw [Nat.zero_add]; exact (p.expect_eq (c, k₁)).symm)
  have hat : p.own A c k₁ = atPos ER (p.cell (c, k₁)) 0 ∅ 0 := if_pos hA
  have hclose := Rounds.cell_close ER p.sched (κ := K (c, k₁)) (Es := Set.univ) (Set.mem_univ _) (fun h => h) (R := 0 + 1) (p.duties_later (p.cell (c, k₁)))
  unfold held deal
  rw [take C (p.crd c) hC, take Finset.univ (p.own A c) (Finset.mem_univ k₁), hat]
  iintro ⟨⟨#Hrec, #Hlev, Htoks, ⟨Hat, Hown⟩, Hc1, Hcr⟩, ⟨%W, Ho⟩⟩ Hk
  ihave #H1 := (p.records_at K (c, k₁)) $$ Hrec
  icases H1 with ⟨#HI1, #HR1⟩
  iapply (rule W) $$ [Hc1 Ho Hat]
  · isplitr; · iexact HI1
    isplitl [Hc1]; · iexact Hc1
    isplitl [Ho]; · iexact Ho
    isplitr; · iapply (p.mayWait c k₁ l hl); iexact Hlev
    iexact Hat
  iintro ⟨Ho, Hat, -, Hpay⟩
  ihave Hp := (Entails.of_eq (p.rest_eq (c, k₁))) $$ Hpay
  imod hclose $$ [Hat] with Hz
  · isplitr; · iexact HI1
    iexact Hat
  iapply Hk
  isplitr [Hp]
  · isplitr [Ho]
    · isplitr; · iexact Hrec
      isplitr; · iexact Hlev
      isplitl [Htoks]; · iexact Htoks
      isplitl [Hown Hz]
      · iapply (p.own_erase A c hA)
        isplitl [Hz] <;> iassumption
      iexact Hcr
    iexists _; iexact Ho
  iexact Hp

/-- Every cell waited for and nothing owed: the semaphores are back at zero. -/
theorem held_done : p.held K c P ∅ C [] ⊢ iprop(Pipeline.ownSems0 p.osem c ∗ ∃ W, owes (c.tc : Thread nD τ) 0 W) := by
  have h : bigSep Finset.univ (p.own ∅ c) ⊢ (Pipeline.ownSems0 p.osem c : sProp 𝕄) :=
    Entails.of_eq (BI.bigSep_congr fun k _ => if_neg (Finset.notMem_empty k))
  unfold held deal
  iintro ⟨⟨-, -, -, Hown, -⟩, ⟨%W, Ho⟩⟩
  isplitl [Hown]; · iapply h; iexact Hown
  iexists W; iexact Ho

end Steps

/-! ### The launch -/

def cells : Finset (GSem nD τ sig) := Finset.univ.map ⟨p.cell, p.cell_inj⟩
def toks : Finset (GSem nD τ sig × ℕ × Unit) :=
  Finset.univ.map ⟨fun ck : Dev nD × Fin n => (p.cell ck, 0, ()), fun _ _ h => p.cell_inj (congrArg Prod.fst h)⟩

/-- The launch's ghost element, cell by cell. -/
theorem fund_cells : BI.own (ER (initOf p.cells p.toks))
    ⊢ (|==> ((bigSep Finset.univ fun ck => roundState ER p.sched (p.cell ck) 0) ∗ (bigSep Finset.univ fun ck => reached ER (p.cell ck) 0)
        ∗ (bigSep Finset.univ fun ck => atPos ER (p.cell ck) 0 ∅ 0) ∗ bigSep Finset.univ fun ck => dutyTok ER (p.cell ck) 0 ()) : sProp 𝕄) := by
  have h := Rounds.fund (ER : Emb (UR sig nD τ) 𝕄) p.sched p.cells p.toks
  simp only [cells, toks, bigSep_map] at h
  exact h

/-- The cells' invariants, from their counters at zero. -/
theorem alloc_cells : iprop((bigSep Finset.univ fun ck => semVal (p.cell ck) 0) ∗ bigSep Finset.univ fun ck => roundState ER p.sched (p.cell ck) 0)
    ⊢ (|={Set.univ}=> (∃ K : Dev nD × Fin n → ℕ, bigSep Finset.univ fun ck => cellInv ER p.sched (K ck) (p.cell ck)) : sProp 𝕄) := by
  rw [← bigSep_sep']
  have h1 : (bigSep Finset.univ fun ck => iprop(semVal (p.cell ck) 0 ∗ roundState ER p.sched (p.cell ck) 0))
      ⊢ (|={Set.univ}=> bigSep Finset.univ fun ck => iprop(∃ κ : ℕ, cellInv ER p.sched κ (p.cell ck)) : sProp 𝕄) :=
    (BI.bigSep_mono fun ck _ => (Rounds.body_intro ER p.sched (p.cell ck)).trans inv_alloc).trans (BI.bigSep_fupd _ _)
  have h2 : (bigSep Finset.univ fun ck => iprop(∃ κ : ℕ, cellInv ER p.sched κ (p.cell ck)))
      ⊢ (∃ K : Dev nD × Fin n → ℕ, bigSep Finset.univ fun ck => cellInv ER p.sched (K ck) (p.cell ck) : sProp 𝕄) :=
    BI.bigSep_exists_pi Finset.univ fun (ck : Dev nD × Fin n) (κ : ℕ) => (cellInv ER p.sched κ (p.cell ck) : sProp 𝕄)
  exact h1.trans (BI.fupd_mono h2)

/-- Each device gets the tokens and the landing areas of the cells it pays. -/
theorem deal_toks : iprop((bigSep Finset.univ fun ck => dutyTok ER (p.cell ck) 0 ()) ∗ bigSep Finset.univ fun c => bigSep Finset.univ (p.slot c))
    ⊢ (bigSep Finset.univ fun c => bigSep Finset.univ (p.tok c) : sProp 𝕄) := by
  let e : Dev nD × Fin n ≃ Dev nD × Fin n := ⟨fun ck => (p.tgt ck.2 ck.1, ck.2), fun ck => ((p.tgt ck.2).symm ck.1, ck.2),
    fun ck => by simp, fun ck => by simp⟩
  rw [← bigSep_univ_prod (fun ck : Dev nD × Fin n => p.slot ck.1 ck.2), ← bigSep_univ_prod (fun ck : Dev nD × Fin n => p.tok ck.1 ck.2), ← bigSep_sep',
    bigSep_univ_equiv e (fun ck : Dev nD × Fin n => (iprop(dutyTok ER (p.cell ck) 0 () ∗ p.slot ck.1 ck.2) : sProp 𝕄))]
  exact BI.Entails.refl _

/-- The launch credit of a device: one wait's worth for each of its landing cells. -/
theorem deal_creds (l : List (Fin n)) (hl : l.Nodup) (c : Dev nD) :
    (Pipeline.launchCred (fun d => p.owed d l) c : sProp 𝕄) ⊢ bigSep l.toFinset (p.crd c) := by
  induction l with
  | nil =>
    rw [List.toFinset_nil, BI.bigSep_empty]
    exact Entails.of_eq (Pipeline.launchCred_zero c)
  | cons k l ih =>
    have hk : k ∉ l.toFinset := fun h => (List.nodup_cons.mp hl).1 (List.mem_toFinset.mp h)
    rw [List.toFinset_cons, put _ _ hk]
    have hadd : (Pipeline.launchCred (fun d => p.owed d (k :: l)) c : sProp 𝕄)
        = iprop(Pipeline.launchCred (fun d => p.owed d l) c ∗ Pipeline.launchCred (fun d => tallyAt (p.cell (p.tgt k d, k)) () (p.amt k)) c) :=
      Pipeline.launchCred_add _ _ c
    rw [hadd]
    have h1 := ih (List.nodup_cons.mp hl).2
    have h2 := Pipeline.launchCred_tallyAt (Val := Val) (Name := ℕ) (U := UU nD τ sig) (Lvl := ℕ) (τ := τ) (p.osem k) (p.tgt k) (p.tgt k).symm
      (fun c => by simp) (fun d => by simp) () (p.amt k) c
    iintro ⟨H1, H2⟩
    isplitl [H2]
    · iapply h2; iexact H2
    iapply h1; iexact H1

/-- All devices' launch resources dealt out. -/
theorem deal_all (l : List (Fin n)) (hl : l.Nodup) :
    iprop(BI.own (ER (initOf p.cells p.toks)) ∗ levAts L p.lv ∗ (bigSep Finset.univ fun c : Dev nD => Pipeline.ownSems0 p.osem c)
        ∗ (bigSep Finset.univ fun c : Dev nD => bigSep Finset.univ (p.slot c))
        ∗ (bigSep Finset.univ fun c : Dev nD => Pipeline.launchCred (fun d => p.owed d l) c))
      ⊢ (|={Set.univ}=> (∃ K : Dev nD × Fin n → ℕ, bigSep Finset.univ fun c => p.deal K c Finset.univ Finset.univ l.toFinset) : sProp 𝕄) := by
  have hsem : (bigSep Finset.univ fun c : Dev nD => Pipeline.ownSems0 p.osem c : sProp 𝕄) = bigSep Finset.univ fun ck : Dev nD × Fin n => semVal (p.cell ck) 0 :=
    (bigSep_univ_prod fun ck : Dev nD × Fin n => (semVal (p.cell ck) 0 : sProp 𝕄)).symm
  have hat : (bigSep Finset.univ fun ck : Dev nD × Fin n => (atPos ER (p.cell ck) 0 ∅ 0 : sProp 𝕄))
      ⊢ bigSep Finset.univ fun c : Dev nD => bigSep Finset.univ (p.own Finset.univ c) := by
    rw [bigSep_univ_prod]
    refine Entails.of_eq (BI.bigSep_congr fun c _ => BI.bigSep_congr fun k _ => ?_)
    exact (if_pos (Finset.mem_univ k)).symm
  have hcr : (bigSep Finset.univ fun c : Dev nD => Pipeline.launchCred (fun d => p.owed d l) c)
      ⊢ (bigSep Finset.univ fun c : Dev nD => bigSep l.toFinset (p.crd c) : sProp 𝕄) :=
    BI.bigSep_mono fun (c : Dev nD) _ => p.deal_creds l hl c
  have hone (K : Dev nD × Fin n → ℕ) :
      iprop((p.records K ∗ levAts L p.lv) ∗ bigSep Finset.univ fun c : Dev nD =>
          iprop(bigSep Finset.univ (p.tok c) ∗ bigSep Finset.univ (p.own Finset.univ c) ∗ bigSep l.toFinset (p.crd c)))
        ⊢ (bigSep Finset.univ fun c => p.deal K c Finset.univ Finset.univ l.toFinset : sProp 𝕄) := by
    refine (BI.sep_mono_l (BI.bigSep_of_persistent (Finset.univ : Finset (Dev nD)) iprop(p.records K ∗ levAts L p.lv))).trans ?_
    refine (Entails.of_eq (bigSep_sep' _ _ _).symm).trans (BI.bigSep_mono fun c _ => ?_)
    unfold deal
    exact BI.sep_assoc
  rw [hsem]
  iintro ⟨HX, #Hlev, Hsem, Hslot, Hcred⟩
  imod (p.fund_cells) $$ HX with ⟨Hst, #Hr, Hat, Htok⟩
  imod (p.alloc_cells) $$ [Hsem Hst] with ⟨%K, #HI⟩
  · isplitl [Hsem] <;> iassumption
  imodintro
  iexists K
  iapply (hone K)
  isplitr
  · isplitr
    · unfold records
      isplitr; · iexact HI
      iexact Hr
    iexact Hlev
  rw [bigSep_sep', bigSep_sep']
  isplitl [Htok Hslot]
  · iapply p.deal_toks
    isplitl [Htok] <;> iassumption
  isplitl [Hat]
  · iapply hat; iexact Hat
  iapply hcr; iexact Hcred

/-- The run of a windowless kernel under a one-shot protocol. `keep c` is what device `c` keeps of its arrays at launch
    besides its landing areas; the landing cells `l` are paid in the order of the list. -/
theorem run (cfg : Cfg sig Λ₀) [IsEmpty (Fin cfg.W)] (hN : cfg.N = 1) [∀ e, Nonempty (Val e)] (defs₀ : Defs nD τ sig Val Λ₀)
    (phinj : Function.Injective (cellOf (nD := nD) (τ := τ) (fun _ : Fin 1 => cfg)))
    (ho : Pipeline.OwnSemFacts cfg.spec p.osem)
    (hrest : ∀ c : Dev nD, (Pipeline.scopedRest (Ix := Unit) (Name := ℕ) (U := UU nD τ sig) (Lvl := ℕ) (Val := Val) (τ := τ) cfg.spec c : sProp 𝕄) = BI.emp)
    (m : (ℓ : Loc nD τ sig) → Buf Val ℓ) (ρ : Dev nD → PrngReg)
    (main : Dev nD → Prog (TpuEff nD τ sig Val (Pipeline.Sig Λ₀ (Fin 1) fun _ => (cfg.toPCfg (Val := Val)).Adm) .tc) PUnit)
    (hmain : ∀ c, main c = .op (.customCall (Pipeline.entry 0) ()) fun _ => .ret ⟨⟩)
    (hscoped : ∀ sm : SemLoc sig, sm.isScoped .tc = true)
    (l : List (Fin n)) (hl : l.Nodup)
    (keep Y : Dev nD → sProp 𝕄)
    (hbufs : ∀ c : Dev nD, unscopedBufs c (fun b => m ((c.tc : Thread nD τ).loc b)) ⊢ iprop(keep c ∗ bigSep Finset.univ (p.slot c)))
    (hbody : ∀ (c : Dev nD) (K : Dev nD × Fin n → ℕ) (t : Fin cfg.N), iprop(p.held K c Finset.univ Finset.univ l.toFinset l ∗ keep c)
      ⊢ wp frame (wpE defs₀ Variants.none (c.tc : Thread nD τ) none) Set.univ (defs₀ .tc cfg.body (cfg.bodyArgs t (cfg.slots t))) fun _ =>
        iprop(Y c ∗ ∃ (P C : Finset (Fin n)), p.held K c P ∅ C []))
    (QY : Dev nD → MemSt nD τ sig Val → Prop)
    (hY : ∀ c (s' : Phys nD τ sig Val), iprop(Y c ∗ SI s') ⊢ |={Set.univ}=> iprop(⌜QY c s'.mem⌝ ∗ SI s')) :
    θ_run (Pipeline.defs (fun _ : Fin 1 => cfg.toPCfg) defs₀) (onTc main) ⟨m, fun _ => 0, ρ⟩ fun r =>
      (∀ c, QY c r.2) ∧ r.2.sem = fun _ => 0 := by
  refine (θ_run _ _ _).mono (fun r hr => ⟨hr.1, sem_eq_zero_of_scoped hscoped hr.2⟩)
    (run_talk cfg hN defs₀ phinj ho hrest m ρ main hmain (fun d => p.owed d l) L p.lv L_of_ne p.cells p.toks
      (fun c => iprop(∃ K, p.deal K c Finset.univ Finset.univ l.toFinset ∗ keep c)) Y ?_ ?_ QY hY)
  · have hdeal := p.deal_all l hl
    have hb : (bigSep Finset.univ fun c : Dev nD => unscopedBufs c (fun b => m ((c.tc : Thread nD τ).loc b)))
        ⊢ (iprop((bigSep Finset.univ keep) ∗ bigSep Finset.univ fun c => bigSep Finset.univ (p.slot c)) : sProp 𝕄) :=
      (BI.bigSep_mono fun c _ => hbufs c).trans (Entails.of_eq (bigSep_sep' _ _ _))
    have hfin (K : Dev nD × Fin n → ℕ) : iprop((bigSep Finset.univ fun c => p.deal K c Finset.univ Finset.univ l.toFinset) ∗ bigSep Finset.univ keep)
        ⊢ (bigSep Finset.univ fun c => iprop(∃ K, p.deal K c Finset.univ Finset.univ l.toFinset ∗ keep c) : sProp 𝕄) := by
      refine (Entails.of_eq (bigSep_sep' _ _ _).symm).trans (BI.bigSep_mono fun c _ => ?_)
      show iprop(p.deal K c Finset.univ Finset.univ l.toFinset ∗ keep c) ⊢ iprop(∃ K, p.deal K c Finset.univ Finset.univ l.toFinset ∗ keep c)
      iintro H
      iexists K; iexact H
    iintro ⟨HX, Hlev, Hsem, Hbuf, Hcr⟩
    ihave Hbuf := hb $$ Hbuf
    icases Hbuf with ⟨Hkeep, Hslot⟩
    imod hdeal $$ [HX Hlev Hsem Hslot Hcr] with ⟨%K, Hd⟩
    · isplitl [HX]; · iexact HX
      isplitl [Hlev]; · iexact Hlev
      isplitl [Hsem]; · iexact Hsem
      isplitl [Hslot] <;> iassumption
    imodintro
    iapply (hfin K)
    isplitl [Hd] <;> iassumption
  · intro c t W
    have hend (K : Dev nD × Fin n → ℕ) : iprop(Y c ∗ ∃ (P C : Finset (Fin n)), p.held K c P ∅ C [])
        ⊢ iprop(Y c ∗ Pipeline.ownSems0 p.osem c ∗ ∃ W, owes (c.tc : Thread nD τ) 0 W) := by
      iintro ⟨HY, ⟨%P, %C, Hh⟩⟩
      isplitl [HY]; · iexact HY
      iapply (p.held_done K c P C); iexact Hh
    have hrun (K : Dev nD × Fin n → ℕ) := (hbody c K t).trans (wp_mono _ _ _ fun _ => hend K)
    iintro ⟨⟨%K, Hd, Hk⟩, Ho⟩
    iapply (hrun K)
    isplitl [Hd Ho]
    · unfold held
      isplitl [Hd]; · iexact Hd
      iexists W; iexact Ho
    iexact Hk

end Proto

end Cert.Talk

end
-- ==== Proof.TalkParts.lean ====
/-
Arrays cut into parts: the element sets on which a label is constant, and what an area holds after a copy landed in it.
-/
module

public import proofs.«01_k».proof.Proof.Talk
public import Idealize.ShloMosaic.Lib.ValueIdxCore
public import Idealize.ShloMosaic.Lib.ValueLayout

@[expose] public section

set_option Elab.async false

noncomputable section

namespace Cert.Talk

open Idealize.ShloMosaic
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}

/-- The elements labelled `t`. -/
def part {ι : Type} [Fintype ι] {n : ℕ} (lab : ι → Fin n) (t : Fin n) : Finset ι := Finset.univ.filter fun i => lab i = t

theorem mem_part {ι : Type} [Fintype ι] {n : ℕ} (lab : ι → Fin n) (t : Fin n) (i : ι) : i ∈ part lab t ↔ lab i = t := by
  unfold part; simp

/-- An array is its parts. -/
theorem pointsTo_parts {ℓ : Loc nD τ sig} {q : PosShare TreeShare} {f : Buf Val ℓ} {n : ℕ} (lab : Idx ℓ → Fin n) :
    (ℓ ↦{q} f : sProp (MT nD τ sig Unit Val ℕ (UU nD τ sig) ℕ)) = bigSep Finset.univ fun t => ℓ ↦[part lab t]{q} f := by
  rw [← pointsTo_biUnion Finset.univ (part lab) (fun t _ t' _ h => Finset.disjoint_left.mpr fun i hi hi' =>
    h (((mem_part lab t i).mp hi).symm.trans ((mem_part lab t' i).mp hi')))]
  have h : Finset.univ.biUnion (part lab) = Finset.univ := by
    ext i; simp [mem_part]
  rw [h]

/-- After a copy landed, the area holds what any contents `fin` hold there that read as the copied values. -/
theorem landed_at {c : Thread nD τ} {sp : Space} {s : Shape} {e : EltTy} (v : View sig c.2.kind sp s e) {q : PosShare TreeShare}
    (fd fin : Buf Val (v.loc c)) (w : s.Idx → Val e) (h : v.read Val fin = w) :
    (v.loc c ↦[v.set]{q} (v.write Val fd w Finset.univ) : sProp (MT nD τ sig Unit Val ℕ (UU nD τ sig) ℕ)) = (v.loc c ↦[v.set]{q} fin) := by
  refine pointsTo_congr fun i hi => ?_
  obtain ⟨x, -, rfl⟩ := Finset.mem_map.mp hi
  rw [View.write_emb_of_mem (v := v) fd w (Finset.mem_univ x), ← h, View.read_apply, cast_cast, cast_eq]

/-- The last of a list carries no rest. -/
theorem listSep_one {ι : Type} (Φ : ι → sProp (MT nD τ sig Unit Val ℕ (UU nD τ sig) ℕ)) (a : ι) : listSep Φ [a] = Φ a := BI.equiv_iff.mp sep_emp

/-- The first coordinate, of three. -/
def lab3 {n r w : ℕ} (i : (⟨3, ![n, r, w]⟩ : Shape).Idx) : Fin n := i 0

/-- One index of the first axis of an array of three axes: its elements. -/
theorem rect3_set {n r w : ℕ} (off : Fin 3 → ℕ) (inb : ∀ a, off a + (![1, r, w] : Fin 3 → ℕ) a ≤ (⟨3, ![n, r, w]⟩ : Shape).size a) (s : Fin n)
    (h : off = ![s.val, 0, 0]) :
    (Rect.unit (s := ⟨3, ![n, r, w]⟩) off ![1, r, w] inb).set = part lab3 s := by
  subst h
  ext i
  refine Rect.mem_set_unit.trans (Iff.trans ?_ (mem_part lab3 s i).symm)
  constructor
  · intro h
    have h1 : s.val ≤ (i (0 : Fin 3)).val := (h (0 : Fin 3)).1
    have h2 : (i (0 : Fin 3)).val < s.val + 1 := (h (0 : Fin 3)).2
    refine Fin.ext ?_
    show (i (0 : Fin 3)).val = s.val
    omega
  · intro h a
    have hi : (i (0 : Fin 3)).val = s.val := congrArg Fin.val h
    match a with
    | ⟨0, _⟩ => show s.val ≤ (i (0 : Fin 3)).val ∧ (i (0 : Fin 3)).val < s.val + 1; omega
    | ⟨1, _⟩ => show 0 ≤ (i (1 : Fin 3)).val ∧ (i (1 : Fin 3)).val < 0 + r
                have : (i (1 : Fin 3)).val < r := (i (1 : Fin 3)).isLt
                omega
    | ⟨2, _⟩ => show 0 ≤ (i (2 : Fin 3)).val ∧ (i (2 : Fin 3)).val < 0 + w
                have : (i (2 : Fin 3)).val < w := (i (2 : Fin 3)).isLt
                omega

/-- And where an element of it lies in the array. -/
theorem rect3_emb {n r w : ℕ} (off : Fin 3 → ℕ) (inb : ∀ a, off a + (![1, r, w] : Fin 3 → ℕ) a ≤ (⟨3, ![n, r, w]⟩ : Shape).size a) (s : Fin n)
    (h : off = ![s.val, 0, 0]) (hn : (⟨2, ![r, w]⟩ : Shape).numel = (⟨3, ![1, r, w]⟩ : Shape).numel) (x : Fin r) (y : Fin w) :
    (Rect.unit (s := ⟨3, ![n, r, w]⟩) off ![1, r, w] inb).emb (Shape.reshapeEquiv hn (ix2 x y)) = ix3 s x y := by
  subst h
  rw [reshapeEquiv_ix2_1ab]
  refine funext fun a => Fin.ext ?_
  match a with
  | ⟨0, _⟩ => show s.val + 1 * 0 = s.val; omega
  | ⟨1, _⟩ => show 0 + 1 * x.val = x.val; omega
  | ⟨2, _⟩ => show 0 + 1 * y.val = y.val; omega

/-- The elements of one index of the first axis, of four. -/
def first4 {n k r w : ℕ} (s : Fin n) : Finset (⟨4, ![n, k, r, w]⟩ : Shape).Idx := Finset.univ.filter fun i => (i (0 : Fin 4)).val = s.val

/-- The elements of one index of the first axis and one of the second, of four. -/
def both4 {n k r w : ℕ} (s : Fin n) (l : Fin k) : Finset (⟨4, ![n, k, r, w]⟩ : Shape).Idx :=
  Finset.univ.filter fun i => (i (0 : Fin 4)).val = s.val ∧ (i (1 : Fin 4)).val = l.val

/-- One index of the first axis of an array of four axes: its elements. -/
theorem rect4_set {n k r w : ℕ} (off : Fin 4 → ℕ) (inb : ∀ a, off a + (![1, k, r, w] : Fin 4 → ℕ) a ≤ (⟨4, ![n, k, r, w]⟩ : Shape).size a) (s : Fin n)
    (h : off = ![s.val, 0, 0, 0]) :
    (Rect.unit (s := ⟨4, ![n, k, r, w]⟩) off ![1, k, r, w] inb).set = first4 s := by
  subst h
  ext i
  refine Rect.mem_set_unit.trans (Iff.trans ?_ (show (i ∈ Finset.univ.filter fun i : (⟨4, ![n, k, r, w]⟩ : Shape).Idx => (i (0 : Fin 4)).val = s.val) ↔ _ from Iff.rfl))
  rw [Finset.mem_filter]
  constructor
  · intro h
    have h1 : s.val ≤ (i (0 : Fin 4)).val := (h (0 : Fin 4)).1
    have h2 : (i (0 : Fin 4)).val < s.val + 1 := (h (0 : Fin 4)).2
    exact ⟨Finset.mem_univ _, by omega⟩
  · rintro ⟨-, hi⟩ a
    match a with
    | ⟨0, _⟩ => show s.val ≤ (i (0 : Fin 4)).val ∧ (i (0 : Fin 4)).val < s.val + 1; omega
    | ⟨1, _⟩ => show 0 ≤ (i (1 : Fin 4)).val ∧ (i (1 : Fin 4)).val < 0 + k
                have : (i (1 : Fin 4)).val < k := (i (1 : Fin 4)).isLt
                omega
    | ⟨2, _⟩ => show 0 ≤ (i (2 : Fin 4)).val ∧ (i (2 : Fin 4)).val < 0 + r
                have : (i (2 : Fin 4)).val < r := (i (2 : Fin 4)).isLt
                omega
    | ⟨3, _⟩ => show 0 ≤ (i (3 : Fin 4)).val ∧ (i (3 : Fin 4)).val < 0 + w
                have : (i (3 : Fin 4)).val < w := (i (3 : Fin 4)).isLt
                omega

/-- And where an element of it lies in the array. -/
theorem rect4_emb {n k r w : ℕ} (off : Fin 4 → ℕ) (inb : ∀ a, off a + (![1, k, r, w] : Fin 4 → ℕ) a ≤ (⟨4, ![n, k, r, w]⟩ : Shape).size a) (s : Fin n)
    (h : off = ![s.val, 0, 0, 0]) (hn : (⟨3, ![k, r, w]⟩ : Shape).numel = (⟨4, ![1, k, r, w]⟩ : Shape).numel) (l : Fin k) (x : Fin r) (y : Fin w) :
    (Rect.unit (s := ⟨4, ![n, k, r, w]⟩) off ![1, k, r, w] inb).emb (Shape.reshapeEquiv hn (ix3 l x y)) = ix4 s l x y := by
  subst h
  rw [reshapeEquiv_ix3_1abc]
  refine funext fun a => Fin.ext ?_
  match a with
  | ⟨0, _⟩ => show s.val + 1 * 0 = s.val; omega
  | ⟨1, _⟩ => show 0 + 1 * l.val = l.val; omega
  | ⟨2, _⟩ => show 0 + 1 * x.val = x.val; omega
  | ⟨3, _⟩ => show 0 + 1 * y.val = y.val; omega

/-- One index of the first axis and one of the second, of four: its elements. -/
theorem rect4b_set {n k r w : ℕ} (off : Fin 4 → ℕ) (inb : ∀ a, off a + (![1, 1, r, w] : Fin 4 → ℕ) a ≤ (⟨4, ![n, k, r, w]⟩ : Shape).size a) (s : Fin n) (l : Fin k)
    (h : off = ![s.val, l.val, 0, 0]) :
    (Rect.unit (s := ⟨4, ![n, k, r, w]⟩) off ![1, 1, r, w] inb).set = both4 s l := by
  subst h
  ext i
  refine Rect.mem_set_unit.trans (Iff.trans ?_ (show (i ∈ Finset.univ.filter fun i : (⟨4, ![n, k, r, w]⟩ : Shape).Idx =>
    (i (0 : Fin 4)).val = s.val ∧ (i (1 : Fin 4)).val = l.val) ↔ _ from Iff.rfl))
  rw [Finset.mem_filter]
  constructor
  · intro h
    have h1 : s.val ≤ (i (0 : Fin 4)).val := (h (0 : Fin 4)).1
    have h2 : (i (0 : Fin 4)).val < s.val + 1 := (h (0 : Fin 4)).2
    have h3 : l.val ≤ (i (1 : Fin 4)).val := (h (1 : Fin 4)).1
    have h4 : (i (1 : Fin 4)).val < l.val + 1 := (h (1 : Fin 4)).2
    exact ⟨Finset.mem_univ _, by omega, by omega⟩
  · rintro ⟨-, hi, hj⟩ a
    match a with
    | ⟨0, _⟩ => show s.val ≤ (i (0 : Fin 4)).val ∧ (i (0 : Fin 4)).val < s.val + 1; omega
    | ⟨1, _⟩ => show l.val ≤ (i (1 : Fin 4)).val ∧ (i (1 : Fin 4)).val < l.val + 1; omega
    | ⟨2, _⟩ => show 0 ≤ (i (2 : Fin 4)).val ∧ (i (2 : Fin 4)).val < 0 + r
                have : (i (2 : Fin 4)).val < r := (i (2 : Fin 4)).isLt
                omega
    | ⟨3, _⟩ => show 0 ≤ (i (3 : Fin 4)).val ∧ (i (3 : Fin 4)).val < 0 + w
                have : (i (3 : Fin 4)).val < w := (i (3 : Fin 4)).isLt
                omega

/-- And where an element of it lies in the array. -/
theorem rect4b_emb {n k r w : ℕ} (off : Fin 4 → ℕ) (inb : ∀ a, off a + (![1, 1, r, w] : Fin 4 → ℕ) a ≤ (⟨4, ![n, k, r, w]⟩ : Shape).size a) (s : Fin n) (l : Fin k)
    (h : off = ![s.val, l.val, 0, 0]) (hn : (⟨2, ![r, w]⟩ : Shape).numel = (⟨4, ![1, 1, r, w]⟩ : Shape).numel) (x : Fin r) (y : Fin w) :
    (Rect.unit (s := ⟨4, ![n, k, r, w]⟩) off ![1, 1, r, w] inb).emb (Shape.reshapeEquiv hn (ix2 x y)) = ix4 s l x y := by
  subst h
  rw [reshapeEquiv_ix2_11ab]
  refine funext fun a => Fin.ext ?_
  match a with
  | ⟨0, _⟩ => show s.val + 1 * 0 = s.val; omega
  | ⟨1, _⟩ => show l.val + 1 * 0 = l.val; omega
  | ⟨2, _⟩ => show 0 + 1 * x.val = x.val; omega
  | ⟨3, _⟩ => show 0 + 1 * y.val = y.val; omega

end Cert.Talk

end
-- ==== Proof.GatherRun.lean ====
/-
The run of the gathering kernel. Every device copies its chip's two layers into its own result array, sends its own
core's layer to the three other devices of its core, and passes each layer that lands from them on to the other core of
its chip. Thirteen cells per device: 0, 1, 2 are paid by its own sends and 3, 4, 5 by its own passings-on when they have
read their source, 6, 7, 8 by the three others' sends and 9, 10, 11 by the other core's passings-on when they have
landed, 12 by the local copy.
-/
module

public import proofs.«01_k».proof.Proof.TalkParts
public import proofs.«01_k».proof.Proof.Gen.GatherIdeal
public import proofs.«01_k».proof.Proof.Gen.GatherIdeal.Skeleton
public import proofs.«01_k».proof.Proof.Gen.GatherIdeal.Launch

@[expose] public section

set_option Elab.async false

noncomputable section

namespace Cert.GatherProof

open Cert.GatherIdeal Cert.GatherIdeal.Gen Cert.Talk
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-- The chip and the core of a device, and the other core. -/
def chip (c : Dev nD) : Fin 4 := ⟨c.val / 2, by have := c.isLt; have : nD = 8 := rfl; omega⟩
def core (c : Dev nD) : Fin 2 := ⟨c.val % 2, by omega⟩
def other (c : Dev nD) : Fin 2 := ⟨1 - c.val % 2, by omega⟩
/-- The device whose layer `l` of chip `s` ends up at device `c`. -/
def holder (c : Dev nD) (s : Fin 4) (l : Fin 2) : Dev nD := if s = chip c then c else ⟨2 * s.val + l.val, by have : nD = 8 := rfl; omega⟩

/-- The three other devices of a core, and the other device of a chip (as three passings-on name it). -/
def peer0 : Dev nD ≃ Dev nD where
  toFun c := ⟨k0_dev1 c, k0_dev1_lt c⟩
  invFun c := ⟨k0_dev1 c, k0_dev1_lt c⟩
  left_inv := by intro c; revert c; decide +kernel
  right_inv := by intro c; revert c; decide +kernel
def peer1 : Dev nD ≃ Dev nD where
  toFun c := ⟨k0_dev2 c, k0_dev2_lt c⟩
  invFun c := ⟨k0_dev2 c, k0_dev2_lt c⟩
  left_inv := by intro c; revert c; decide +kernel
  right_inv := by intro c; revert c; decide +kernel
def peer2 : Dev nD ≃ Dev nD where
  toFun c := ⟨k0_dev3 c, k0_dev3_lt c⟩
  invFun c := ⟨k0_dev3 c, k0_dev3_lt c⟩
  left_inv := by intro c; revert c; decide +kernel
  right_inv := by intro c; revert c; decide +kernel
def sib0 : Dev nD ≃ Dev nD where
  toFun c := ⟨k0_dev4 c, k0_dev4_lt c⟩
  invFun c := ⟨k0_dev4 c, k0_dev4_lt c⟩
  left_inv := by intro c; revert c; decide +kernel
  right_inv := by intro c; revert c; decide +kernel
def sib1 : Dev nD ≃ Dev nD where
  toFun c := ⟨k0_dev5 c, k0_dev5_lt c⟩
  invFun c := ⟨k0_dev5 c, k0_dev5_lt c⟩
  left_inv := by intro c; revert c; decide +kernel
  right_inv := by intro c; revert c; decide +kernel
def sib2 : Dev nD ≃ Dev nD where
  toFun c := ⟨k0_dev6 c, k0_dev6_lt c⟩
  invFun c := ⟨k0_dev6 c, k0_dev6_lt c⟩
  left_inv := by intro c; revert c; decide +kernel
  right_inv := by intro c; revert c; decide +kernel

theorem holder_own : ∀ (c : Dev nD) (l : Fin 2), holder c (chip c) l = c := by decide +kernel
theorem holder_peer0 : ∀ c : Dev nD, holder (peer0 c) (chip c) (core c) = c := by decide +kernel
theorem holder_sib0 : ∀ c : Dev nD, holder (sib0 c) (chip (peer0 c)) (core c) = holder c (chip (peer0 c)) (core c) := by decide +kernel
theorem chip_peer0 : ∀ c : Dev nD, chip (peer0 (peer0 c)) = chip c := by decide +kernel
theorem core_peer0 : ∀ c : Dev nD, core (peer0 c) = core c := by decide +kernel
theorem chip_sib0 : ∀ c : Dev nD, chip (peer0 (sib0 c)) = chip (peer0 c) := by decide +kernel
theorem other_sib0 : ∀ c : Dev nD, other (sib0 c) = core c := by decide +kernel
theorem holder_peer1 : ∀ c : Dev nD, holder (peer1 c) (chip c) (core c) = c := by decide +kernel
theorem holder_sib1 : ∀ c : Dev nD, holder (sib1 c) (chip (peer1 c)) (core c) = holder c (chip (peer1 c)) (core c) := by decide +kernel
theorem chip_peer1 : ∀ c : Dev nD, chip (peer1 (peer1 c)) = chip c := by decide +kernel
theorem core_peer1 : ∀ c : Dev nD, core (peer1 c) = core c := by decide +kernel
theorem chip_sib1 : ∀ c : Dev nD, chip (peer1 (sib1 c)) = chip (peer1 c) := by decide +kernel
theorem other_sib1 : ∀ c : Dev nD, other (sib1 c) = core c := by decide +kernel
theorem holder_peer2 : ∀ c : Dev nD, holder (peer2 c) (chip c) (core c) = c := by decide +kernel
theorem holder_sib2 : ∀ c : Dev nD, holder (sib2 c) (chip (peer2 c)) (core c) = holder c (chip (peer2 c)) (core c) := by decide +kernel
theorem chip_peer2 : ∀ c : Dev nD, chip (peer2 (peer2 c)) = chip c := by decide +kernel
theorem core_peer2 : ∀ c : Dev nD, core (peer2 c) = core c := by decide +kernel
theorem chip_sib2 : ∀ c : Dev nD, chip (peer2 (sib2 c)) = chip (peer2 c) := by decide +kernel
theorem other_sib2 : ∀ c : Dev nD, other (sib2 c) = core c := by decide +kernel
theorem off1 : ∀ c : Dev nD, k0_off1 c = ![(chip c).val, 0, 0, 0] := by decide +kernel
theorem off2 : ∀ c : Dev nD, k0_off2 c = ![(chip c).val, (core c).val, 0, 0] := by decide +kernel
theorem off3 : ∀ c : Dev nD, k0_off3 c = ![(core c).val, 0, 0] := by decide +kernel
theorem off4 : ∀ c : Dev nD, k0_off4 c = ![(chip (peer0 c)).val, (core c).val, 0, 0] := by decide +kernel
theorem off5 : ∀ c : Dev nD, k0_off5 c = ![(chip (peer1 c)).val, (core c).val, 0, 0] := by decide +kernel
theorem off6 : ∀ c : Dev nD, k0_off6 c = ![(chip (peer2 c)).val, (core c).val, 0, 0] := by decide +kernel

/-- One layer of the argument, one layer of a chip of the result, both layers of a chip of the result. -/
abbrev at0 (off : Fin 3 → ℕ) (inb : ∀ a, off a + S1x3137x1024.size a ≤ S2x3137x1024.size a) : Memref sig .tc .hbm S3137x1024 .bf16 :=
  ((Memref.whole main_arg0).slice (Rect.unit (s := S2x3137x1024) off S1x3137x1024.size inb) (fun _ => rfl)).squeeze S3137x1024 squeezes_S1x3137x1024_S3137x1024
abbrev at1 (off : Fin 4 → ℕ) (inb : ∀ a, off a + S1x1x3137x1024.size a ≤ S4x2x3137x1024.size a) : Memref sig .tc .hbm S3137x1024 .bf16 :=
  ((Memref.whole main_v1).slice (Rect.unit (s := S4x2x3137x1024) off S1x1x3137x1024.size inb) (fun _ => rfl)).squeeze S3137x1024 squeezes_S1x1x3137x1024_S3137x1024
abbrev at2 (off : Fin 4 → ℕ) (inb : ∀ a, off a + S1x2x3137x1024.size a ≤ S4x2x3137x1024.size a) : Memref sig .tc .hbm S2x3137x1024 .bf16 :=
  ((Memref.whole main_v1).slice (Rect.unit (s := S4x2x3137x1024) off S1x2x3137x1024.size inb) (fun _ => rfl)).squeeze S2x3137x1024 squeezes_S1x2x3137x1024_S2x3137x1024

/-- The elements of a layer of the argument, of a layer of a chip of the result, of a chip of the result. -/
abbrev layer (l : Fin 2) : Finset S2x3137x1024.Idx := part lab3 l
abbrev piece (s : Fin 4) (l : Fin 2) : Finset S4x2x3137x1024.Idx := both4 s l
abbrev both (s : Fin 4) : Finset S4x2x3137x1024.Idx := first4 s

theorem at0_set (off : Fin 3 → ℕ) (inb) (l : Fin 2) (h : off = ![l.val, 0, 0]) : (at0 off inb).view.set = layer l :=
  (View.set_reshape _ _).trans ((View.set_slice_whole main_arg0 _).trans (rect3_set off inb l h))
theorem at1_set (off : Fin 4 → ℕ) (inb) (s : Fin 4) (l : Fin 2) (h : off = ![s.val, l.val, 0, 0]) : (at1 off inb).view.set = piece s l :=
  (View.set_reshape _ _).trans ((View.set_slice_whole main_v1 _).trans (rect4b_set off inb s l h))
theorem at2_set (off : Fin 4 → ℕ) (inb) (s : Fin 4) (h : off = ![s.val, 0, 0, 0]) : (at2 off inb).view.set = both s :=
  (View.set_reshape _ _).trans ((View.set_slice_whole main_v1 _).trans (rect4_set off inb s h))
theorem at0_emb (off : Fin 3 → ℕ) (inb) (l : Fin 2) (h : off = ![l.val, 0, 0]) (r : Fin 3137) (w : Fin 1024) :
    (at0 off inb).view.emb (ix2 r w) = (ix3 l r w : S2x3137x1024.Idx) := rect3_emb off inb l h _ r w
theorem at1_emb (off : Fin 4 → ℕ) (inb) (s : Fin 4) (l : Fin 2) (h : off = ![s.val, l.val, 0, 0]) (r : Fin 3137) (w : Fin 1024) :
    (at1 off inb).view.emb (ix2 r w) = (ix4 s l r w : S4x2x3137x1024.Idx) := rect4b_emb off inb s l h _ r w
theorem at2_emb (off : Fin 4 → ℕ) (inb) (s : Fin 4) (h : off = ![s.val, 0, 0, 0]) (l : Fin 2) (r : Fin 3137) (w : Fin 1024) :
    (at2 off inb).view.emb (ix3 l r w) = (ix4 s l r w : S4x2x3137x1024.Idx) := rect4_emb off inb s h _ l r w

variable (m : (ℓ : Loc nD τ sig) → Buf (Elt F) ℓ)

/-- What device `c`'s result ends as: at layer `l` of chip `s`, layer `l` of its holder's argument. -/
def fin (c : Dev nD) : Buf (Elt F) ((c.tc : Thread nD τ).loc main_v1) :=
  fun (i : S4x2x3137x1024.Idx) => (m (((holder c (i 0) (i 1)).tc : Thread nD τ).loc main_arg0) : S2x3137x1024.Idx → Elt F .bf16) (ix3 (i 1 : Fin 2) (i 2 : Fin 3137) (i 3 : Fin 1024))

/-- The final contents of device `c'` read, at device `c`'s place, as `c`'s layer. -/
theorem fin_sent (c c' : Dev nD) (h : holder c' (chip c) (core c) = c) (off : Fin 4 → ℕ) (off' : Fin 3 → ℕ) (inb) (inb')
    (ho : off = ![(chip c).val, (core c).val, 0, 0]) (ho' : off' = ![(core c).val, 0, 0]) :
    (at1 off inb).view.read (Elt F) (fin m c') = (at0 off' inb').view.read (Elt F) (m ((c.tc : Thread nD τ).loc main_arg0)) := by
  funext i
  obtain ⟨r, w, rfl⟩ : ∃ (r : Fin 3137) (w : Fin 1024), i = ix2 r w := ⟨i 0, i 1, eq_ix2 i⟩
  show fin m c' ((at1 off inb).view.emb (ix2 r w)) = m ((c.tc : Thread nD τ).loc main_arg0) ((at0 off' inb').view.emb (ix2 r w))
  rw [at1_emb off inb _ _ ho, at0_emb off' inb' _ ho']
  show m (((holder c' (chip c) (core c)).tc : Thread nD τ).loc main_arg0) (ix3 (core c) r w) = _
  rw [h]

/-- A layer passed on reads the same on both cores. -/
theorem fin_passed (c c' : Dev nD) (s : Fin 4) (l : Fin 2) (h : holder c' s l = holder c s l) (off : Fin 4 → ℕ) (inb) (ho : off = ![s.val, l.val, 0, 0]) :
    (at1 off inb).view.read (Elt F) (fin m c') = (at1 off inb).view.read (Elt F) (fin m c) := by
  funext i
  obtain ⟨r, w, rfl⟩ : ∃ (r : Fin 3137) (w : Fin 1024), i = ix2 r w := ⟨i 0, i 1, eq_ix2 i⟩
  show fin m c' ((at1 off inb).view.emb (ix2 r w)) = fin m c ((at1 off inb).view.emb (ix2 r w))
  rw [at1_emb off inb _ _ ho]
  show m (((holder c' s l).tc : Thread nD τ).loc main_arg0) (ix3 l r w) = m (((holder c s l).tc : Thread nD τ).loc main_arg0) (ix3 l r w)
  rw [h]

/-- The final contents of a device read, at its own chip's place, as its argument. -/
theorem fin_own (c : Dev nD) (off : Fin 4 → ℕ) (inb) (ho : off = ![(chip c).val, 0, 0, 0]) :
    (at2 off inb).view.read (Elt F) (fin m c) = (Memref.whole main_arg0).view.read (Elt F) (m ((c.tc : Thread nD τ).loc main_arg0)) := by
  funext i
  obtain ⟨l, r, w, rfl⟩ : ∃ (l : Fin 2) (r : Fin 3137) (w : Fin 1024), i = ix3 l r w := ⟨i 0, i 1, i 2, eq_ix3 i⟩
  show fin m c ((at2 off inb).view.emb (ix3 l r w)) = m ((c.tc : Thread nD τ).loc main_arg0) (ix3 l r w)
  rw [at2_emb off inb _ ho]
  show m (((holder c (chip c) l).tc : Thread nD τ).loc main_arg0) (ix3 l r w) = _
  rw [holder_own]

/-- The area of device `c`'s result in which a layer of a chip lies. -/
def area (c : Dev nD) (s : Fin 4) (l : Fin 2) : Fin 7 :=
  if s = chip c then 6 else if s = chip (peer0 c) then (if l = core c then 0 else 3) else if s = chip (peer1 c) then (if l = core c then 1 else 4)
    else (if l = core c then 2 else 5)
theorem area0 : ∀ (c : Dev nD) (s : Fin 4) (l : Fin 2), area c s l = 0 ↔ s.val = (chip (peer0 c)).val ∧ l.val = (core c).val := by decide +kernel
theorem area1 : ∀ (c : Dev nD) (s : Fin 4) (l : Fin 2), area c s l = 1 ↔ s.val = (chip (peer1 c)).val ∧ l.val = (core c).val := by decide +kernel
theorem area2 : ∀ (c : Dev nD) (s : Fin 4) (l : Fin 2), area c s l = 2 ↔ s.val = (chip (peer2 c)).val ∧ l.val = (core c).val := by decide +kernel
theorem area3 : ∀ (c : Dev nD) (s : Fin 4) (l : Fin 2), area c s l = 3 ↔ s.val = (chip (peer0 c)).val ∧ l.val = (other c).val := by decide +kernel
theorem area4 : ∀ (c : Dev nD) (s : Fin 4) (l : Fin 2), area c s l = 4 ↔ s.val = (chip (peer1 c)).val ∧ l.val = (other c).val := by decide +kernel
theorem area5 : ∀ (c : Dev nD) (s : Fin 4) (l : Fin 2), area c s l = 5 ↔ s.val = (chip (peer2 c)).val ∧ l.val = (other c).val := by decide +kernel
theorem area6 : ∀ (c : Dev nD) (s : Fin 4) (l : Fin 2), area c s l = 6 ↔ s.val = (chip c).val := by decide +kernel
/-- The area of an element. -/
def lab (c : Dev nD) (i : S4x2x3137x1024.Idx) : Fin 7 := area c (i 0) (i 1)
theorem lab_piece (c : Dev nD) (k : Fin 7) (s : Fin 4) (l : Fin 2) (h : ∀ s' l', area c s' l' = k ↔ s'.val = s.val ∧ l'.val = l.val) : part (lab c) k = piece s l := by
  ext i
  exact (mem_part (lab c) k i).trans ((h (i 0) (i 1)).trans (by unfold piece both4; rw [Finset.mem_filter]; exact ⟨fun h => ⟨Finset.mem_univ _, h⟩, fun h => h.2⟩))
theorem lab_both (c : Dev nD) (k : Fin 7) (s : Fin 4) (h : ∀ s' l', area c s' l' = k ↔ s'.val = s.val) : part (lab c) k = both s := by
  ext i
  exact (mem_part (lab c) k i).trans ((h (i 0) (i 1)).trans (by unfold both first4; rw [Finset.mem_filter]; exact ⟨fun h => ⟨Finset.mem_univ _, h⟩, fun h => h.2⟩))

/-- The result is its own chip's layers and six single layers. -/
theorem sevenths (c : Dev nD) (f : Buf (Elt F) ((c.tc : Thread nD τ).loc main_v1)) :
    ((c.tc : Thread nD τ).loc main_v1 ↦{fullShare} f : sProp 𝕄)
      = iprop(((c.tc : Thread nD τ).loc main_v1 ↦[both (chip c)]{fullShare} f)
        ∗ ((c.tc : Thread nD τ).loc main_v1 ↦[piece (chip (peer0 c)) (core c)]{fullShare} f)
        ∗ ((c.tc : Thread nD τ).loc main_v1 ↦[piece (chip (peer1 c)) (core c)]{fullShare} f)
        ∗ ((c.tc : Thread nD τ).loc main_v1 ↦[piece (chip (peer2 c)) (core c)]{fullShare} f)
        ∗ ((c.tc : Thread nD τ).loc main_v1 ↦[piece (chip (peer0 c)) (other c)]{fullShare} f)
        ∗ ((c.tc : Thread nD τ).loc main_v1 ↦[piece (chip (peer1 c)) (other c)]{fullShare} f)
        ∗ ((c.tc : Thread nD τ).loc main_v1 ↦[piece (chip (peer2 c)) (other c)]{fullShare} f)) := by
  rw [pointsTo_parts (ℓ := (c.tc : Thread nD τ).loc main_v1) (lab c), bigSep_list _ [(6 : Fin 7), 0, 1, 2, 3, 4, 5] (by decide) _ (by decide)]
  unfold listSep listSep listSep listSep listSep listSep; rw [listSep_one]
  rw [lab_both c 6 _ (area6 c), lab_piece c 0 _ _ (area0 c), lab_piece c 1 _ _ (area1 c), lab_piece c 2 _ _ (area2 c), lab_piece c 3 _ _ (area3 c), lab_piece c 4 _ _ (area4 c), lab_piece c 5 _ _ (area5 c)]

/-- The shares of the argument: one for the local copy, three for the sends. -/
abbrev shL : PosShare TreeShare := fullShare.left
abbrev shR : PosShare TreeShare := fullShare.right
abbrev sh0 : PosShare TreeShare := fullShare.right.left
abbrev sh1 : PosShare TreeShare := fullShare.right.right.left
abbrev sh2 : PosShare TreeShare := fullShare.right.right.right

/-- A sent layer given back, the whole argument given back, and the layer that is not sent. -/
def back (c : Dev nD) (q : PosShare TreeShare) : sProp 𝕄 := iprop((c.tc : Thread nD τ).loc main_arg0 ↦[layer (core c)]{q} m ((c.tc : Thread nD τ).loc main_arg0))
def whole (c : Dev nD) : sProp 𝕄 := iprop((c.tc : Thread nD τ).loc main_arg0 ↦{shL} m ((c.tc : Thread nD τ).loc main_arg0))
def rest (c : Dev nD) : sProp 𝕄 := iprop((c.tc : Thread nD τ).loc main_arg0 ↦[Finset.univ \ layer (core c)]{shR} m ((c.tc : Thread nD τ).loc main_arg0))
/-- A layer landed, and the own chip's layers. -/
def got (c : Dev nD) (s : Fin 4) (l : Fin 2) : sProp 𝕄 := iprop((c.tc : Thread nD τ).loc main_v1 ↦[piece s l]{fullShare} fin m c)
def own (c : Dev nD) : sProp 𝕄 := iprop((c.tc : Thread nD τ).loc main_v1 ↦[both (chip c)]{fullShare} fin m c)
/-- A part of the result not yet filled. -/
def gap (c : Dev nD) (S : Finset S4x2x3137x1024.Idx) : sProp 𝕄 := iprop(∃ f : Buf (Elt F) ((c.tc : Thread nD τ).loc main_v1), (c.tc : Thread nD τ).loc main_v1 ↦[S]{fullShare} f)

instance back_storable (c : Dev nD) (q : PosShare TreeShare) : BI.Storable (upEmb : UEmb _ 𝕄) (back m c q) := by unfold back; infer_instance
instance whole_storable (c : Dev nD) : BI.Storable (upEmb : UEmb _ 𝕄) (whole m c) := by unfold whole; infer_instance
instance got_storable (c : Dev nD) (s : Fin 4) (l : Fin 2) : BI.Storable (upEmb : UEmb _ 𝕄) (got m c s l) := by unfold got; infer_instance
instance own_storable (c : Dev nD) : BI.Storable (upEmb : UEmb _ 𝕄) (own m c) := by unfold own; infer_instance

def keep (c : Dev nD) : sProp 𝕄 := iprop((c.tc : Thread nD τ).loc main_arg0 ↦{fullShare} m ((c.tc : Thread nD τ).loc main_arg0))
def done (c : Dev nD) : sProp 𝕄 := iprop(keep m c ∗ (c.tc : Thread nD τ).loc main_v1 ↦{fullShare} fin m c)

/-- The argument is its shares. -/
theorem shares (c : Dev nD) : keep m c = iprop(whole m c ∗ (back m c sh0 ∗ back m c sh1 ∗ back m c sh2) ∗ rest m c) := by
  have e1 : keep m c = iprop(whole m c ∗ (c.tc : Thread nD τ).loc main_arg0 ↦{shR} m ((c.tc : Thread nD τ).loc main_arg0)) := BI.equiv_iff.mp ⟨(pointsTo_share (PosShare.mem_left_op_right fullShare)).1, (pointsTo_share (PosShare.mem_left_op_right fullShare)).2⟩
  have e2 : iprop((c.tc : Thread nD τ).loc main_arg0 ↦{shR} m ((c.tc : Thread nD τ).loc main_arg0)) = iprop(back m c shR ∗ rest m c) := BI.equiv_iff.mp ⟨(pointsTo_split_subset (Finset.subset_univ _)).1, (pointsTo_split_subset (Finset.subset_univ _)).2⟩
  have e3 : back m c shR = iprop(back m c sh0 ∗ back m c fullShare.right.right) := BI.equiv_iff.mp ⟨(pointsTo_share (PosShare.mem_left_op_right fullShare.right)).1, (pointsTo_share (PosShare.mem_left_op_right fullShare.right)).2⟩
  have e4 : back m c fullShare.right.right = iprop(back m c sh1 ∗ back m c sh2) := BI.equiv_iff.mp ⟨(pointsTo_share (PosShare.mem_left_op_right fullShare.right.right)).1, (pointsTo_share (PosShare.mem_left_op_right fullShare.right.right)).2⟩
  rw [e1, e2, e3, e4]

/-- What the wait for cell `k` gives. -/
def pay (c : Dev nD) (k : Fin 13) : sProp 𝕄 :=
  match k with
  | 0 => back m c sh0
  | 1 => back m c sh1
  | 2 => back m c sh2
  | 3 => got m c (chip (peer0 c)) (core c)
  | 4 => got m c (chip (peer1 c)) (core c)
  | 5 => got m c (chip (peer2 c)) (core c)
  | 6 => got m c (chip (peer0 c)) (core c)
  | 7 => got m c (chip (peer1 c)) (core c)
  | 8 => got m c (chip (peer2 c)) (core c)
  | 9 => got m c (chip (peer0 c)) (other c)
  | 10 => got m c (chip (peer1 c)) (other c)
  | 11 => got m c (chip (peer2 c)) (other c)
  | 12 => iprop(own m c ∗ whole m c)

instance pay_storable (c : Dev nD) (k : Fin 13) : BI.Storable (upEmb : UEmb _ 𝕄) (pay m c k) := by
  unfold pay; split <;> infer_instance

/-- The areas a device gives away: those of its result, for the cells 6 to 12. -/
def slot (c : Dev nD) (k : Fin 13) : sProp 𝕄 :=
  match k with
  | 0 => iprop(emp)
  | 1 => iprop(emp)
  | 2 => iprop(emp)
  | 3 => iprop(emp)
  | 4 => iprop(emp)
  | 5 => iprop(emp)
  | 6 => gap c (piece (chip (peer0 c)) (core c))
  | 7 => gap c (piece (chip (peer1 c)) (core c))
  | 8 => gap c (piece (chip (peer2 c)) (core c))
  | 9 => gap c (piece (chip (peer0 c)) (other c))
  | 10 => gap c (piece (chip (peer1 c)) (other c))
  | 11 => gap c (piece (chip (peer2 c)) (other c))
  | 12 => gap c (both (chip c))

/-- The semaphores of the cells. -/
abbrev sem6 (a : DmaSems sig S6) (i : Fin 6) : SemLoc sig :=
  .dma ((a.slice (Rect.unit (s := S6) ![i.val] S1.size (by intro b; match b with | ⟨0, _⟩ => show i.val + 1 ≤ 6; omega)) ).squeeze S_ squeezes_S1_S_).sem
abbrev sems : Fin 13 → SemLoc sig :=
  ![sem6 cc0_scratch0 0, sem6 cc0_scratch0 1, sem6 cc0_scratch0 2, sem6 cc0_scratch0 3, sem6 cc0_scratch0 4, sem6 cc0_scratch0 5, sem6 cc0_scratch1 0, sem6 cc0_scratch1 1, sem6 cc0_scratch1 2, sem6 cc0_scratch1 3, sem6 cc0_scratch1 4, sem6 cc0_scratch1 5, .dma cc0_scratch2.sem]

/-- The units a copy of a layer pays, and a copy of two. -/
abbrev units : ℕ := (at1 ![0, 0, 0, 0] (by decide)).view.dmaCredit
abbrev units2 : ℕ := (at2 ![0, 0, 0, 0] (by decide)).view.dmaCredit
def amt (k : Fin 13) : ℕ :=
  match k with
  | 12 => units2
  | _ => units
theorem amt_pos (k : Fin 13) : 0 < amt k := by
  unfold amt; split
  · exact View.dmaCredit_pos _ (by decide)
  · exact View.dmaCredit_pos _ (by decide)

/-- The order of the waits: a landed layer is passed on before the passed-on ones are waited for. -/
def lvl : Fin 13 → ℕ := ![0, 0, 0, 0, 0, 0, 1, 1, 1, 2, 2, 2, 0]

/-- The protocol. -/
def proto : Proto nD τ sig (Elt F) 13 where
  osem := sems
  inj := by decide
  tgt := ![Equiv.refl _, Equiv.refl _, Equiv.refl _, Equiv.refl _, Equiv.refl _, Equiv.refl _, peer0, peer1, peer2, sib0, sib1, sib2, Equiv.refl _]
  amt := amt
  amt_pos := amt_pos
  pay := pay m
  stor := pay_storable m
  slot := slot
  lvl := lvl

/-- The protocol's cells in hand. -/
abbrev hold (c : Dev nD) (K : Dev nD × Fin 13 → ℕ) (P A C : Finset (Fin 13)) (l : List (Fin 13)) : sProp 𝕄 := (proto m).held K c P A C l

/-- The send of its core's layer to device `c'`: it owes the landing cell `k₂` there and its own cell `k₁`. -/
theorem send (c : Dev nD) (K : Dev nD × Fin 13 → ℕ) (P A C : Finset (Fin 13)) (l : List (Fin 13)) (k₁ k₂ : Fin 13) (c' : Dev nD) (hc' : c' = (proto m).tgt k₂ c)
    (hto : (proto m).tgt k₁ c = c) (h₁ : k₁ ∈ P) (h₂ : k₂ ∈ P.erase k₁) (hC : k₁ ∉ C) (hh : holder c' (chip c) (core c) = c) (q : PosShare TreeShare)
    (ha₁ : amt k₁ = units) (ha₂ : amt k₂ = units)
    (hp₁ : pay m c k₁ = back m c q) (hp₂ : pay m c' k₂ = got m c' (chip c) (core c)) (hs : slot (F := F) c' k₂ = gap c' (piece (chip c) (core c)))
    (off : Fin 4 → ℕ) (off' : Fin 3 → ℕ) (inb) (inb') (ho : off = ![(chip c).val, (core c).val, 0, 0]) (ho' : off' = ![(core c).val, 0, 0])
    {sS sem : SemLoc sig} (hS : sS = (proto m).osem k₁) (hR : sem = (proto m).osem k₂) {hsrc : (at0 off' inb').view.WordExact} {hdst : (at1 off inb).view.WordExact}
    {hsc : (at1 off inb).view.ref.isScScratch = false} {hsem : DmaTarget.Typed .hbm sem (.remote (c'.tc : Thread nD τ) (at1 off inb) sS hsc)} {k : PUnit → Prog (TpuEff nD τ sig (Elt F) Λ₀ .tc) PUnit} {Q : PUnit → sProp 𝕄}
    (hN : (at1 off inb).view.amount sem = units)
    (hr : τ.routes (c.tc : Thread nD τ) (c'.tc : Thread nD τ) = true) :
    iprop(hold m c K P A C (k₂ :: l) ∗ back m c q)
      ⊢ iprop((hold m c K ((P.erase k₁).erase k₂) A (insert k₁ C) l -∗ wp frame (wpE (defs₀ (F := F)) Variants.none (c.tc : Thread nD τ) none) Set.univ (k ⟨⟩) Q)
        -∗ wp frame (wpE (defs₀ (F := F)) Variants.none (c.tc : Thread nD τ) none) Set.univ
            (.op (.enqueueDma (at0 off' inb') (.remote (c'.tc : Thread nD τ) (at1 off inb) sS hsc) sem hsrc hdst hsem) k) Q) := by
  have h := (proto m).held_send (defs₀ := defs₀ (F := F)) (α := PUnit) (Q := Q) K c P A C l k₁ k₂ c' hc' hto h₁ h₂ hC (src := at0 off' inb') (dst := at1 off inb) (hsc := hsc)
    hS hR (hsrc := hsrc) (hdst := hdst) (hsem := hsem) (k := k) (q := q) (fs := m ((c.tc : Thread nD τ).loc main_arg0)) (ha₁.trans ha₂.symm) (hN.trans ha₂.symm)
    (by show slot c' k₂ ⊢ _
        rw [hs, at1_set off inb _ _ ho]; unfold gap; exact .rfl)
    (by show _ ⊢ pay m c k₁
        rw [hp₁, at0_set off' inb' _ ho']; unfold back; exact .rfl)
    (by intro fd
        show _ ⊢ pay m c' k₂
        rw [hp₂, landed_at _ _ _ _ (fin_sent m c c' hh off off' inb inb' ho ho'), at1_set off inb _ _ ho]; unfold got; exact .rfl)
    hr
  rw [at0_set off' inb' _ ho'] at h
  unfold back
  exact h

/-- The passing-on of a landed layer to device `c'`. -/
theorem pass (c : Dev nD) (K : Dev nD × Fin 13 → ℕ) (P A C : Finset (Fin 13)) (l : List (Fin 13)) (k₁ k₂ : Fin 13) (c' : Dev nD) (hc' : c' = (proto m).tgt k₂ c)
    (hto : (proto m).tgt k₁ c = c) (h₁ : k₁ ∈ P) (h₂ : k₂ ∈ P.erase k₁) (hC : k₁ ∉ C) (s : Fin 4) (hh : holder c' s (core c) = holder c s (core c))
    (ha₁ : amt k₁ = units) (ha₂ : amt k₂ = units)
    (hp₁ : pay m c k₁ = got m c s (core c)) (hp₂ : pay m c' k₂ = got m c' s (core c)) (hs : slot (F := F) c' k₂ = gap c' (piece s (core c)))
    (off : Fin 4 → ℕ) (inb) (ho : off = ![s.val, (core c).val, 0, 0])
    {sS sem : SemLoc sig} (hS : sS = (proto m).osem k₁) (hR : sem = (proto m).osem k₂) {hsrc : (at1 off inb).view.WordExact} {hdst : (at1 off inb).view.WordExact}
    {hsc : (at1 off inb).view.ref.isScScratch = false} {hsem : DmaTarget.Typed .hbm sem (.remote (c'.tc : Thread nD τ) (at1 off inb) sS hsc)} {k : PUnit → Prog (TpuEff nD τ sig (Elt F) Λ₀ .tc) PUnit} {Q : PUnit → sProp 𝕄}
    (hN : (at1 off inb).view.amount sem = units)
    (hr : τ.routes (c.tc : Thread nD τ) (c'.tc : Thread nD τ) = true) :
    iprop(hold m c K P A C (k₂ :: l) ∗ got m c s (core c))
      ⊢ iprop((hold m c K ((P.erase k₁).erase k₂) A (insert k₁ C) l -∗ wp frame (wpE (defs₀ (F := F)) Variants.none (c.tc : Thread nD τ) none) Set.univ (k ⟨⟩) Q)
        -∗ wp frame (wpE (defs₀ (F := F)) Variants.none (c.tc : Thread nD τ) none) Set.univ
            (.op (.enqueueDma (at1 off inb) (.remote (c'.tc : Thread nD τ) (at1 off inb) sS hsc) sem hsrc hdst hsem) k) Q) := by
  have h := (proto m).held_send (defs₀ := defs₀ (F := F)) (α := PUnit) (Q := Q) K c P A C l k₁ k₂ c' hc' hto h₁ h₂ hC (src := at1 off inb) (dst := at1 off inb) (hsc := hsc)
    hS hR (hsrc := hsrc) (hdst := hdst) (hsem := hsem) (k := k) (q := fullShare) (fs := fin m c) (ha₁.trans ha₂.symm) (hN.trans ha₂.symm)
    (by show slot c' k₂ ⊢ _
        rw [hs, at1_set off inb _ _ ho]; unfold gap; exact .rfl)
    (by show _ ⊢ pay m c k₁
        rw [hp₁, at1_set off inb _ _ ho]; unfold got; exact .rfl)
    (by intro fd
        show _ ⊢ pay m c' k₂
        rw [hp₂, landed_at _ _ _ _ (fin_passed m c c' s (core c) hh off inb ho), at1_set off inb _ _ ho]; unfold got; exact .rfl)
    hr
  rw [at1_set off inb _ _ ho] at h
  unfold got
  exact h

/-- The copy of its own chip's layers. -/
theorem copy (c : Dev nD) (K : Dev nD × Fin 13 → ℕ) (P A C : Finset (Fin 13)) (l : List (Fin 13)) (h₁ : (12 : Fin 13) ∈ P) (hC : (12 : Fin 13) ∉ C)
    {sem : SemLoc sig} (hS : sem = (proto m).osem 12) {hsrc : (Memref.whole main_arg0).view.WordExact} {hdst : (at2 (k0_off1 c) (k0_off1_inb c)).view.WordExact}
    {hsem : DmaTarget.Typed (nD := nD) (τ := τ) (p := .tc) .hbm sem (.here (at2 (k0_off1 c) (k0_off1_inb c)))} {k : PUnit → Prog (TpuEff nD τ sig (Elt F) Λ₀ .tc) PUnit} {Q : PUnit → sProp 𝕄}
    (hN : (at2 (k0_off1 c) (k0_off1_inb c)).view.amount sem = units2) :
    iprop(hold m c K P A C l ∗ whole m c)
      ⊢ iprop((hold m c K (P.erase 12) A (insert 12 C) l -∗ wp frame (wpE (defs₀ (F := F)) Variants.none (c.tc : Thread nD τ) none) Set.univ (k ⟨⟩) Q)
        -∗ wp frame (wpE (defs₀ (F := F)) Variants.none (c.tc : Thread nD τ) none) Set.univ
            (.op (.enqueueDma (Memref.whole main_arg0) (.here (at2 (k0_off1 c) (k0_off1_inb c))) sem hsrc hdst hsem) k) Q) := by
  have h := (proto m).held_copy (defs₀ := defs₀ (F := F)) (α := PUnit) (Q := Q) K c P A C l 12 rfl h₁ hC (src := Memref.whole main_arg0) (dst := at2 (k0_off1 c) (k0_off1_inb c))
    hS (hsrc := hsrc) (hdst := hdst) (hsem := hsem) (k := k) (q := shL) (fs := m ((c.tc : Thread nD τ).loc main_arg0)) hN
    (by show gap c (both (chip c)) ⊢ _
        rw [at2_set _ _ _ (off1 c)]; unfold gap; exact .rfl)
    (by intro fd
        show _ ⊢ iprop(own m c ∗ whole m c)
        rw [landed_at _ _ _ _ (fin_own m c _ (k0_off1_inb c) (off1 c)), at2_set _ _ _ (off1 c), View.set_whole]; unfold own whole; exact .rfl)
  rw [View.set_whole] at h
  unfold whole
  exact h

/-- A wait. -/
theorem await (c : Dev nD) (K : Dev nD × Fin 13 → ℕ) (P A C : Finset (Fin 13)) (l : List (Fin 13)) (j : Fin 13) (hA : j ∈ A) (hC : j ∈ C)
    (hl : ∀ i ∈ l, lvl j < lvl i)
    {w : TpuEff nD τ sig (Elt F) Λ₀ .tc PUnit} {sm : SemLoc sig} {k' : ℕ} (hS : sm = (proto m).osem j) (hN : k' = amt j)
    (hw : ∀ R : PUnit → sProp 𝕄, wpE (defs₀ (F := F)) Variants.none (c.tc : Thread nD τ) none Set.univ w R = waitSpec (c.tc : Thread nD τ) Set.univ sm k' R)
    {k : PUnit → Prog (TpuEff nD τ sig (Elt F) Λ₀ .tc) PUnit} {Q : PUnit → sProp 𝕄} :
    hold m c K P A C l
      ⊢ iprop(((hold m c K P (A.erase j) (C.erase j) l ∗ pay m c j) -∗ wp frame (wpE (defs₀ (F := F)) Variants.none (c.tc : Thread nD τ) none) Set.univ (k ⟨⟩) Q)
        -∗ wp frame (wpE (defs₀ (F := F)) Variants.none (c.tc : Thread nD τ) none) Set.univ (.op w k) Q) :=
  (proto m).held_wait (defs₀ := defs₀ (F := F)) K c P A C l j hA hC hl hS hN hw

theorem pay6 (c : Dev nD) : pay m (peer0 c) 6 = got m (peer0 c) (chip c) (core c) := by
  show got m (peer0 c) (chip (peer0 (peer0 c))) (core (peer0 c)) = _
  rw [chip_peer0, core_peer0]
theorem slot6 (c : Dev nD) : slot (F := F) (peer0 c) 6 = gap (peer0 c) (piece (chip c) (core c)) := by
  show gap (peer0 c) (piece (chip (peer0 (peer0 c))) (core (peer0 c))) = _
  rw [chip_peer0, core_peer0]
theorem pay9 (c : Dev nD) : pay m (sib0 c) 9 = got m (sib0 c) (chip (peer0 c)) (core c) := by
  show got m (sib0 c) (chip (peer0 (sib0 c))) (other (sib0 c)) = _
  rw [chip_sib0, other_sib0]
theorem slot9 (c : Dev nD) : slot (F := F) (sib0 c) 9 = gap (sib0 c) (piece (chip (peer0 c)) (core c)) := by
  show gap (sib0 c) (piece (chip (peer0 (sib0 c))) (other (sib0 c))) = _
  rw [chip_sib0, other_sib0]
theorem pay7 (c : Dev nD) : pay m (peer1 c) 7 = got m (peer1 c) (chip c) (core c) := by
  show got m (peer1 c) (chip (peer1 (peer1 c))) (core (peer1 c)) = _
  rw [chip_peer1, core_peer1]
theorem slot7 (c : Dev nD) : slot (F := F) (peer1 c) 7 = gap (peer1 c) (piece (chip c) (core c)) := by
  show gap (peer1 c) (piece (chip (peer1 (peer1 c))) (core (peer1 c))) = _
  rw [chip_peer1, core_peer1]
theorem pay10 (c : Dev nD) : pay m (sib1 c) 10 = got m (sib1 c) (chip (peer1 c)) (core c) := by
  show got m (sib1 c) (chip (peer1 (sib1 c))) (other (sib1 c)) = _
  rw [chip_sib1, other_sib1]
theorem slot10 (c : Dev nD) : slot (F := F) (sib1 c) 10 = gap (sib1 c) (piece (chip (peer1 c)) (core c)) := by
  show gap (sib1 c) (piece (chip (peer1 (sib1 c))) (other (sib1 c))) = _
  rw [chip_sib1, other_sib1]
theorem pay8 (c : Dev nD) : pay m (peer2 c) 8 = got m (peer2 c) (chip c) (core c) := by
  show got m (peer2 c) (chip (peer2 (peer2 c))) (core (peer2 c)) = _
  rw [chip_peer2, core_peer2]
theorem slot8 (c : Dev nD) : slot (F := F) (peer2 c) 8 = gap (peer2 c) (piece (chip c) (core c)) := by
  show gap (peer2 c) (piece (chip (peer2 (peer2 c))) (core (peer2 c))) = _
  rw [chip_peer2, core_peer2]
theorem pay11 (c : Dev nD) : pay m (sib2 c) 11 = got m (sib2 c) (chip (peer2 c)) (core c) := by
  show got m (sib2 c) (chip (peer2 (sib2 c))) (other (sib2 c)) = _
  rw [chip_sib2, other_sib2]
theorem slot11 (c : Dev nD) : slot (F := F) (sib2 c) 11 = gap (sib2 c) (piece (chip (peer2 c)) (core c)) := by
  show gap (sib2 c) (piece (chip (peer2 (sib2 c))) (other (sib2 c))) = _
  rw [chip_sib2, other_sib2]

/-- A device's kernel, from its array and its tokens. -/
theorem body (c : Dev nD) (K : Dev nD × Fin 13 → ℕ) :
    iprop(hold m c K Finset.univ Finset.univ [(6 : Fin 13), 7, 8, 9, 10, 11].toFinset [6, 7, 8, 9, 10, 11] ∗ keep m c)
      ⊢ wp frame (wpE (defs₀ (F := F)) Variants.none (c.tc : Thread nD τ) none) Set.univ
          (cc0_gather_weights (Memref.whole main_arg0) (Memref.isWhole_whole _) (Memref.whole main_v1) (Memref.isWhole_whole _) cc0_scratch0 cc0_scratch1 cc0_scratch2) fun _ =>
        iprop(done m c ∗ ∃ (P C : Finset (Fin 13)), hold m c K P ∅ C []) := by
  have hq1 : iprop((c.tc : Thread nD τ).loc main_v1 ↦{fullShare} fin m c) = iprop(own m c ∗ got m c (chip (peer0 c)) (core c) ∗ got m c (chip (peer1 c)) (core c) ∗ got m c (chip (peer2 c)) (core c) ∗ got m c (chip (peer0 c)) (other c) ∗ got m c (chip (peer1 c)) (other c) ∗ got m c (chip (peer2 c)) (other c)) := sevenths c _
  have hp0 : pay m c 0 ⊢ back m c sh0 := .rfl
  have hp1 : pay m c 1 ⊢ back m c sh1 := .rfl
  have hp2 : pay m c 2 ⊢ back m c sh2 := .rfl
  have hp3 : pay m c 3 ⊢ got m c (chip (peer0 c)) (core c) := .rfl
  have hp4 : pay m c 4 ⊢ got m c (chip (peer1 c)) (core c) := .rfl
  have hp5 : pay m c 5 ⊢ got m c (chip (peer2 c)) (core c) := .rfl
  have hp6 : pay m c 6 ⊢ got m c (chip (peer0 c)) (core c) := .rfl
  have hp7 : pay m c 7 ⊢ got m c (chip (peer1 c)) (core c) := .rfl
  have hp8 : pay m c 8 ⊢ got m c (chip (peer2 c)) (core c) := .rfl
  have hp9 : pay m c 9 ⊢ got m c (chip (peer0 c)) (other c) := .rfl
  have hp10 : pay m c 10 ⊢ got m c (chip (peer1 c)) (other c) := .rfl
  have hp11 : pay m c 11 ⊢ got m c (chip (peer2 c)) (other c) := .rfl
  have hp12 : pay m c 12 ⊢ iprop(own m c ∗ whole m c) := .rfl
  rw [cc0_gather_weights_eq_skeleton]; unfold cc0_gather_weights_skel
  rw [k0_part1_eq_skeleton, k0_part2_eq_skeleton, k0_part3_eq_skeleton, k0_part4_eq_skeleton, k0_part5_eq_skeleton, k0_part6_eq_skeleton, k0_part7_eq_skeleton]; unfold k0_part1_skel k0_part2_skel k0_part3_skel k0_part4_skel k0_part5_skel k0_part6_skel k0_part7_skel
  simp only [Prog.lift, Prog.bind_op, Prog.bind_ret, Prog.pure_eq_ret, wp_deviceId]
  rw [shares]
  iintro ⟨Hh, Hm, ⟨H0, H1, H2⟩, Hr⟩
  iapply (copy m c K Finset.univ Finset.univ [(6 : Fin 13), 7, 8, 9, 10, 11].toFinset [6, 7, 8, 9, 10, 11] (by decide) (by decide) rfl rfl) $$ [Hh Hm]
  · isplitl [Hh] <;> iassumption
  iintro Hh
  iapply (send m c K (Finset.univ.erase 12) Finset.univ (insert 12 [(6 : Fin 13), 7, 8, 9, 10, 11].toFinset) [7, 8, 9, 10, 11] 0 6 (peer0 c) rfl rfl (by decide) (by decide) (by decide) (holder_peer0 c) sh0 rfl rfl rfl (pay6 m c) (slot6 c)
    _ _ _ _ (off2 c) (off3 c) rfl rfl rfl (by routes)) $$ [Hh H0]
  · isplitl [Hh] <;> iassumption
  iintro Hh
  iapply (send m c K (((Finset.univ.erase 12).erase 0).erase 6) Finset.univ (insert 0 (insert 12 [(6 : Fin 13), 7, 8, 9, 10, 11].toFinset)) [8, 9, 10, 11] 1 7 (peer1 c) rfl rfl (by decide) (by decide) (by decide) (holder_peer1 c) sh1 rfl rfl rfl (pay7 m c) (slot7 c)
    _ _ _ _ (off2 c) (off3 c) rfl rfl rfl (by routes)) $$ [Hh H1]
  · isplitl [Hh] <;> iassumption
  iintro Hh
  iapply (send m c K (((((Finset.univ.erase 12).erase 0).erase 6).erase 1).erase 7) Finset.univ (insert 1 (insert 0 (insert 12 [(6 : Fin 13), 7, 8, 9, 10, 11].toFinset))) [9, 10, 11] 2 8 (peer2 c) rfl rfl (by decide) (by decide) (by decide) (holder_peer2 c) sh2 rfl rfl rfl (pay8 m c) (slot8 c)
    _ _ _ _ (off2 c) (off3 c) rfl rfl rfl (by routes)) $$ [Hh H2]
  · isplitl [Hh] <;> iassumption
  iintro Hh
  iapply (await m c K (((((((Finset.univ.erase 12).erase 0).erase 6).erase 1).erase 7).erase 2).erase 8) Finset.univ (insert 2 (insert 1 (insert 0 (insert 12 [(6 : Fin 13), 7, 8, 9, 10, 11].toFinset)))) [9, 10, 11] 6 (by decide) (by decide) (by decide) rfl rfl (fun _ => rfl)) $$ Hh
  iintro ⟨Hh, G0⟩
  ihave G0 := hp6 $$ G0
  iapply (pass m c K (((((((Finset.univ.erase 12).erase 0).erase 6).erase 1).erase 7).erase 2).erase 8) (Finset.univ.erase 6) ((insert 2 (insert 1 (insert 0 (insert 12 [(6 : Fin 13), 7, 8, 9, 10, 11].toFinset)))).erase 6) [10, 11] 3 9 (sib0 c) rfl rfl (by decide) (by decide) (by decide) (chip (peer0 c)) (holder_sib0 c) rfl rfl rfl (pay9 m c) (slot9 c)
    _ _ (off4 c) rfl rfl rfl (by routes)) $$ [Hh G0]
  · isplitl [Hh] <;> iassumption
  iintro Hh
  iapply (await m c K (((((((((Finset.univ.erase 12).erase 0).erase 6).erase 1).erase 7).erase 2).erase 8).erase 3).erase 9) (Finset.univ.erase 6) (insert 3 ((insert 2 (insert 1 (insert 0 (insert 12 [(6 : Fin 13), 7, 8, 9, 10, 11].toFinset)))).erase 6)) [10, 11] 7 (by decide) (by decide) (by decide) rfl rfl (fun _ => rfl)) $$ Hh
  iintro ⟨Hh, G1⟩
  ihave G1 := hp7 $$ G1
  iapply (pass m c K (((((((((Finset.univ.erase 12).erase 0).erase 6).erase 1).erase 7).erase 2).erase 8).erase 3).erase 9) ((Finset.univ.erase 6).erase 7) ((insert 3 ((insert 2 (insert 1 (insert 0 (insert 12 [(6 : Fin 13), 7, 8, 9, 10, 11].toFinset)))).erase 6)).erase 7) [11] 4 10 (sib1 c) rfl rfl (by decide) (by decide) (by decide) (chip (peer1 c)) (holder_sib1 c) rfl rfl rfl (pay10 m c) (slot10 c)
    _ _ (off5 c) rfl rfl rfl (by routes)) $$ [Hh G1]
  · isplitl [Hh] <;> iassumption
  iintro Hh
  iapply (await m c K (((((((((((Finset.univ.erase 12).erase 0).erase 6).erase 1).erase 7).erase 2).erase 8).erase 3).erase 9).erase 4).erase 10) ((Finset.univ.erase 6).erase 7) (insert 4 ((insert 3 ((insert 2 (insert 1 (insert 0 (insert 12 [(6 : Fin 13), 7, 8, 9, 10, 11].toFinset)))).erase 6)).erase 7)) [11] 8 (by decide) (by decide) (by decide) rfl rfl (fun _ => rfl)) $$ Hh
  iintro ⟨Hh, G2⟩
  ihave G2 := hp8 $$ G2
  iapply (pass m c K (((((((((((Finset.univ.erase 12).erase 0).erase 6).erase 1).erase 7).erase 2).erase 8).erase 3).erase 9).erase 4).erase 10) (((Finset.univ.erase 6).erase 7).erase 8) ((insert 4 ((insert 3 ((insert 2 (insert 1 (insert 0 (insert 12 [(6 : Fin 13), 7, 8, 9, 10, 11].toFinset)))).erase 6)).erase 7)).erase 8) [] 5 11 (sib2 c) rfl rfl (by decide) (by decide) (by decide) (chip (peer2 c)) (holder_sib2 c) rfl rfl rfl (pay11 m c) (slot11 c)
    _ _ (off6 c) rfl rfl rfl (by routes)) $$ [Hh G2]
  · isplitl [Hh] <;> iassumption
  iintro Hh
  iapply (await m c K (((((((((((((Finset.univ.erase 12).erase 0).erase 6).erase 1).erase 7).erase 2).erase 8).erase 3).erase 9).erase 4).erase 10).erase 5).erase 11) (((Finset.univ.erase 6).erase 7).erase 8) (insert 5 ((insert 4 ((insert 3 ((insert 2 (insert 1 (insert 0 (insert 12 [(6 : Fin 13), 7, 8, 9, 10, 11].toFinset)))).erase 6)).erase 7)).erase 8)) [] 9 (by decide) (by decide) (by decide) rfl rfl (fun _ => rfl)) $$ Hh
  iintro ⟨Hh, G3⟩
  ihave G3 := hp9 $$ G3
  iapply (await m c K (((((((((((((Finset.univ.erase 12).erase 0).erase 6).erase 1).erase 7).erase 2).erase 8).erase 3).erase 9).erase 4).erase 10).erase 5).erase 11) ((((Finset.univ.erase 6).erase 7).erase 8).erase 9) ((insert 5 ((insert 4 ((insert 3 ((insert 2 (insert 1 (insert 0 (insert 12 [(6 : Fin 13), 7, 8, 9, 10, 11].toFinset)))).erase 6)).erase 7)).erase 8)).erase 9) [] 10 (by decide) (by decide) (by decide) rfl rfl (fun _ => rfl)) $$ Hh
  iintro ⟨Hh, G4⟩
  ihave G4 := hp10 $$ G4
  iapply (await m c K (((((((((((((Finset.univ.erase 12).erase 0).erase 6).erase 1).erase 7).erase 2).erase 8).erase 3).erase 9).erase 4).erase 10).erase 5).erase 11) (((((Finset.univ.erase 6).erase 7).erase 8).erase 9).erase 10) (((insert 5 ((insert 4 ((insert 3 ((insert 2 (insert 1 (insert 0 (insert 12 [(6 : Fin 13), 7, 8, 9, 10, 11].toFinset)))).erase 6)).erase 7)).erase 8)).erase 9).erase 10) [] 11 (by decide) (by decide) (by decide) rfl rfl (fun _ => rfl)) $$ Hh
  iintro ⟨Hh, G5⟩
  ihave G5 := hp11 $$ G5
  iapply (await m c K (((((((((((((Finset.univ.erase 12).erase 0).erase 6).erase 1).erase 7).erase 2).erase 8).erase 3).erase 9).erase 4).erase 10).erase 5).erase 11) ((((((Finset.univ.erase 6).erase 7).erase 8).erase 9).erase 10).erase 11) ((((insert 5 ((insert 4 ((insert 3 ((insert 2 (insert 1 (insert 0 (insert 12 [(6 : Fin 13), 7, 8, 9, 10, 11].toFinset)))).erase 6)).erase 7)).erase 8)).erase 9).erase 10).erase 11) [] 0 (by decide) (by decide) (by decide) rfl rfl (fun _ => rfl)) $$ Hh
  iintro ⟨Hh, H0⟩
  ihave H0 := hp0 $$ H0
  iapply (await m c K (((((((((((((Finset.univ.erase 12).erase 0).erase 6).erase 1).erase 7).erase 2).erase 8).erase 3).erase 9).erase 4).erase 10).erase 5).erase 11) (((((((Finset.univ.erase 6).erase 7).erase 8).erase 9).erase 10).erase 11).erase 0) (((((insert 5 ((insert 4 ((insert 3 ((insert 2 (insert 1 (insert 0 (insert 12 [(6 : Fin 13), 7, 8, 9, 10, 11].toFinset)))).erase 6)).erase 7)).erase 8)).erase 9).erase 10).erase 11).erase 0) [] 1 (by decide) (by decide) (by decide) rfl rfl (fun _ => rfl)) $$ Hh
  iintro ⟨Hh, H1⟩
  ihave H1 := hp1 $$ H1
  iapply (await m c K (((((((((((((Finset.univ.erase 12).erase 0).erase 6).erase 1).erase 7).erase 2).erase 8).erase 3).erase 9).erase 4).erase 10).erase 5).erase 11) ((((((((Finset.univ.erase 6).erase 7).erase 8).erase 9).erase 10).erase 11).erase 0).erase 1) ((((((insert 5 ((insert 4 ((insert 3 ((insert 2 (insert 1 (insert 0 (insert 12 [(6 : Fin 13), 7, 8, 9, 10, 11].toFinset)))).erase 6)).erase 7)).erase 8)).erase 9).erase 10).erase 11).erase 0).erase 1) [] 2 (by decide) (by decide) (by decide) rfl rfl (fun _ => rfl)) $$ Hh
  iintro ⟨Hh, H2⟩
  ihave H2 := hp2 $$ H2
  iapply (await m c K (((((((((((((Finset.univ.erase 12).erase 0).erase 6).erase 1).erase 7).erase 2).erase 8).erase 3).erase 9).erase 4).erase 10).erase 5).erase 11) (((((((((Finset.univ.erase 6).erase 7).erase 8).erase 9).erase 10).erase 11).erase 0).erase 1).erase 2) (((((((insert 5 ((insert 4 ((insert 3 ((insert 2 (insert 1 (insert 0 (insert 12 [(6 : Fin 13), 7, 8, 9, 10, 11].toFinset)))).erase 6)).erase 7)).erase 8)).erase 9).erase 10).erase 11).erase 0).erase 1).erase 2) [] 3 (by decide) (by decide) (by decide) rfl rfl (fun _ => rfl)) $$ Hh
  iintro ⟨Hh, G0⟩
  ihave G0 := hp3 $$ G0
  iapply (await m c K (((((((((((((Finset.univ.erase 12).erase 0).erase 6).erase 1).erase 7).erase 2).erase 8).erase 3).erase 9).erase 4).erase 10).erase 5).erase 11) ((((((((((Finset.univ.erase 6).erase 7).erase 8).erase 9).erase 10).erase 11).erase 0).erase 1).erase 2).erase 3) ((((((((insert 5 ((insert 4 ((insert 3 ((insert 2 (insert 1 (insert 0 (insert 12 [(6 : Fin 13), 7, 8, 9, 10, 11].toFinset)))).erase 6)).erase 7)).erase 8)).erase 9).erase 10).erase 11).erase 0).erase 1).erase 2).erase 3) [] 4 (by decide) (by decide) (by decide) rfl rfl (fun _ => rfl)) $$ Hh
  iintro ⟨Hh, G1⟩
  ihave G1 := hp4 $$ G1
  iapply (await m c K (((((((((((((Finset.univ.erase 12).erase 0).erase 6).erase 1).erase 7).erase 2).erase 8).erase 3).erase 9).erase 4).erase 10).erase 5).erase 11) (((((((((((Finset.univ.erase 6).erase 7).erase 8).erase 9).erase 10).erase 11).erase 0).erase 1).erase 2).erase 3).erase 4) (((((((((insert 5 ((insert 4 ((insert 3 ((insert 2 (insert 1 (insert 0 (insert 12 [(6 : Fin 13), 7, 8, 9, 10, 11].toFinset)))).erase 6)).erase 7)).erase 8)).erase 9).erase 10).erase 11).erase 0).erase 1).erase 2).erase 3).erase 4) [] 5 (by decide) (by decide) (by decide) rfl rfl (fun _ => rfl)) $$ Hh
  iintro ⟨Hh, G2⟩
  ihave G2 := hp5 $$ G2
  iapply (await m c K (((((((((((((Finset.univ.erase 12).erase 0).erase 6).erase 1).erase 7).erase 2).erase 8).erase 3).erase 9).erase 4).erase 10).erase 5).erase 11) ((((((((((((Finset.univ.erase 6).erase 7).erase 8).erase 9).erase 10).erase 11).erase 0).erase 1).erase 2).erase 3).erase 4).erase 5) ((((((((((insert 5 ((insert 4 ((insert 3 ((insert 2 (insert 1 (insert 0 (insert 12 [(6 : Fin 13), 7, 8, 9, 10, 11].toFinset)))).erase 6)).erase 7)).erase 8)).erase 9).erase 10).erase 11).erase 0).erase 1).erase 2).erase 3).erase 4).erase 5) [] 12 (by decide) (by decide) (by decide) rfl rfl (fun _ => rfl)) $$ Hh
  iintro ⟨Hh, Hm⟩
  ihave Hm := hp12 $$ Hm
  icases Hm with ⟨Gm, Hm⟩
  rw [wp_ret]; imodintro
  isplitr [Hh]
  · unfold done
    rw [shares, hq1]
    isplitl [Hm H0 H1 H2 Hr]
    · isplitl [Hm]; · iexact Hm
      isplitl [H0 H1 H2]
      · isplitl [H0]; · iexact H0
        isplitl [H1] <;> iassumption
      iexact Hr
    · isplitl [Gm]; · iexact Gm
      isplitl [G0]; · iexact G0
      isplitl [G1]; · iexact G1
      isplitl [G2]; · iexact G2
      isplitl [G3]; · iexact G3
      isplitl [G4] <;> iassumption
  iexists _, _
  iexact Hh

/-- The run: every device's result holds each chip's layers as their holders hold them, its array is unchanged, and all
    semaphores are back at zero. -/
theorem run [∀ e, Nonempty (Elt F e)] (ρ : Dev nD → PrngReg) :
    θ_run (defs (F := F)) (onTc (τ := τ) (main (F := F))) ⟨m, fun _ => 0, ρ⟩ fun r =>
      (∀ c : Dev nD, r.2.mem ((c.tc : Thread nD τ).loc main_v1) = fin m c
        ∧ r.2.mem ((c.tc : Thread nD τ).loc main_arg0) = m ((c.tc : Thread nD τ).loc main_arg0)) ∧ r.2.sem = fun _ => 0 := by
  haveI : IsEmpty (Fin cfg0.W) := ⟨fun w => w.elim0⟩
  refine (proto m).run cfg0 N_0 defs₀ cellOf_inj (show Pipeline.OwnSemFacts cfg0.spec sems by decide) (fun c => scopedRest0_eq c) m ρ main (fun c => rfl) (by decide) [6, 7, 8, 9, 10, 11] (by decide)
    (keep m) (done m) ?_ (fun c K t => body m c K) (fun c s => s.mem ((c.tc : Thread nD τ).loc main_v1) = fin m c
        ∧ s.mem ((c.tc : Thread nD τ).loc main_arg0) = m ((c.tc : Thread nD τ).loc main_arg0)) ?_
  · intro c
    have h0 : unscopedBufs c (fun b => m ((c.tc : Thread nD τ).loc b)) = iprop(keep m c ∗ (c.tc : Thread nD τ).loc main_v1 ↦{fullShare} m ((c.tc : Thread nD τ).loc main_v1)) :=
      (unscopedBufs_eq_rest cfg0.spec c _).trans (unscopedRest0_eq c _)
    have h1 : bigSep Finset.univ ((proto m).slot c) = listSep (slot c) [0, 1, 2, 3, 4, 5, 6, 7, 8, 9, 10, 11, 12] := bigSep_list _ _ (by decide) _ (by decide)
    have h2 : listSep (slot (F := F) c) [0, 1, 2, 3, 4, 5, 6, 7, 8, 9, 10, 11, 12] = iprop(emp ∗ emp ∗ emp ∗ emp ∗ emp ∗ emp ∗ gap c (piece (chip (peer0 c)) (core c)) ∗ gap c (piece (chip (peer1 c)) (core c)) ∗ gap c (piece (chip (peer2 c)) (core c)) ∗ gap c (piece (chip (peer0 c)) (other c)) ∗ gap c (piece (chip (peer1 c)) (other c)) ∗ gap c (piece (chip (peer2 c)) (other c)) ∗ gap c (both (chip c)) ∗ emp) := rfl
    rw [h0, h1, h2, sevenths]
    unfold gap
    iintro ⟨Hk, Hm, H0, H1, H2, H3, H4, H5⟩
    isplitl [Hk]; · iexact Hk
    isplitr; · iempintro
    isplitr; · iempintro
    isplitr; · iempintro
    isplitr; · iempintro
    isplitr; · iempintro
    isplitr; · iempintro
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl; · iexists _; iexact Hm
    iempintro
  · intro c s'
    unfold done keep
    iintro ⟨⟨Ha, Hv⟩, HSI⟩
    icombine HSI Ha gives %ha
    icombine HSI Hv gives %hv
    imodintro
    isplitr
    · ipureintro
      exact ⟨Buf.eq_of_forall_mem_univ hv, Buf.eq_of_forall_mem_univ ha⟩
    iexact HSI

end Cert.GatherProof

end
-- ==== Proof.GatherValue.lean ====
/-
What the gathering's reference says of a device's block, and that the kernel's run ends there.
-/
module

public import proofs.«01_k».proof.Proof.GatherRun
public import proofs.«01_k».proof.Proof.Gen.GatherRefIdeal
public import Idealize.ShloMosaic.Lib.Pipeline.Value

@[expose] public section

set_option Elab.async false

noncomputable section

namespace Cert.GatherProof

open Cert.GatherRefIdeal Cert.GatherRefIdeal.Gen
open Idealize.ShloMosaic Idealize.ShloMosaic.TcCoe Idealize.ShloMosaic.ValueIdx

variable {α : Type}

/-- The reference's result as a function of its argument. -/
def refTerm (x : S8x3137x1024.Idx → α) : S4x2x3137x1024.Idx → α := shapeCast S4x2x3137x1024 x shapeCasts_S8x3137x1024_S4x2x3137x1024

/-- The reference at an index: layer `l` of chip `s`. -/
theorem refTerm_apply (x : S8x3137x1024.Idx → α) (s : Fin 4) (l : Fin 2) (r : Fin 3137) (w : Fin 1024) :
    refTerm x (ix4 s l r w) = x (ix3 (⟨2 * s.val + l.val, by omega⟩ : Fin 8) r w) := by
  unfold refTerm
  rw [shapeCast_apply (k := ix3 (⟨2 * s.val + l.val, by omega⟩ : Fin 8) r w) (hk := by
    rw [Shape.rowMajor_val_three, Shape.rowMajor_val_four]
    show ((2 * s.val + l.val) * 3137 + r.val) * 1024 + w.val = ((s.val * 2 + l.val) * 3137 + r.val) * 1024 + w.val
    omega)]

variable {F : FTy → Type} [FloatOps F]

/-- What a device's result ends as, when the devices' arrays are their chips' blocks of a whole array `x`: the
    reference's result, on every device. -/
theorem fin_eq (m : (ℓ : Loc Cert.GatherIdeal.nD Cert.GatherIdeal.τ Cert.GatherIdeal.sig) → Buf (Elt F) ℓ) (x : S8x3137x1024.Idx → Elt F .bf16)
    (hx : ∀ c : Dev Cert.GatherIdeal.nD, m ((c.tc : Thread _ _).loc Cert.GatherIdeal.main_arg0)
      = Layout.blockN ⟨3, ![2, 3137, 1024]⟩ ⟨3, ![8, 3137, 1024]⟩ (Layout.meshBlock [2, 2, 2] ![[0, 1], [], []] c) x)
    (c : Dev Cert.GatherIdeal.nD) :
    fin m c = refTerm x := by
  funext i
  obtain ⟨s, l, r, w, rfl⟩ : ∃ (s : Fin 4) (l : Fin 2) (r : Fin 3137) (w : Fin 1024), i = ix4 s l r w := ⟨i 0, i 1, i 2, i 3, eq_ix4 i⟩
  have hh : (holder c s l).val / 2 = s.val := by revert c s l; decide +kernel
  have h8 : (holder c s l).val < 8 := (holder c s l).isLt
  rw [refTerm_apply]
  show m (((holder c s l).tc : Thread _ _).loc Cert.GatherIdeal.main_arg0) (ix3 l r w) = _
  rw [hx, Layout.blockN_apply]
  have e1 : ((by decide : Layout.TilesN ⟨3, ![2, 3137, 1024]⟩ ⟨3, ![8, 3137, 1024]⟩ _).idx (Layout.meshBlock [2, 2, 2] ![[0, 1], [], []] (holder c s l)) (ix3 l r w))
      = ix3 (⟨2 * s.val + l.val, by omega⟩ : Fin 8) r w := by
    funext a; refine Fin.ext ?_
    match a with
    | ⟨0, _⟩ => show ((holder c s l).val / 4 % 2 * 2 + ((holder c s l).val / 2 % 2 * 1 + 0)) * 2 + l.val = 2 * s.val + l.val; omega
    | ⟨1, _⟩ => show 0 * 3137 + r.val = r.val; omega
    | ⟨2, _⟩ => show 0 * 1024 + w.val = w.val; omega
  exact congrArg x e1

end Cert.GatherProof

end
-- ==== Proof.GatherClaims.lean ====
/-
The claims about the gathering: every program of it runs to its end with its arguments unchanged and all semaphores at zero,
and each device's result is its block of the reference's.
-/
module

public import proofs.«01_k».proof.Defs
public import proofs.«01_k».proof.Proof.GatherValue
public import proofs.«01_k».proof.Proof.Gen.Gather
public import proofs.«01_k».proof.Proof.Gen.GatherRefIdeal.Run
public import proofs.«01_k».proof.Proof.Gen.GatherRef.Run
public import Idealize.ShloMosaic.Lib.Quiescent

@[expose] public section

set_option Elab.async false

noncomputable section

namespace Cert.GatherProof

open Idealize.ShloMosaic Idealize.ShloMosaic.TcCoe Idealize.SL.Sem

/-- The kernel runs to its end: the array unchanged, the semaphores at zero. -/
theorem frame : Cert.quiescent_Gather := fun m g _ =>
  (θ_run (Cert.GatherIdeal.defs (F := Bits)) _ _).mono (fun _ h => ⟨fun c => (h.1 c).2, h.2⟩) (run (F := Bits) m g)

/-- The same of the ideal kernel. -/
theorem frame_ideal : Cert.quiescent_GatherIdeal := fun m g _ =>
  (θ_run (Cert.GatherIdeal.defs (F := Ideal)) _ _).mono (fun _ h => ⟨fun c => (h.1 c).2, h.2⟩) (run (F := Ideal) m g)

/-- The same of the ideal reference. -/
theorem frame_ref_ideal : Cert.quiescent_GatherRefIdeal := fun m g _ =>
  (θ_run (Cert.GatherRefIdeal.defs (F := Ideal)) _ _).mono (fun r h => ⟨fun c => (h c).2, sem_eq_zero_of_no_sems rfl r.2⟩)
    (Cert.GatherRefIdeal.Value.run (F := Ideal) m g)

/-- The same of the reference. -/
theorem frame_ref : Cert.quiescent_GatherRef := fun m g _ =>
  (θ_run (Cert.GatherRef.defs (F := Bits)) _ _).mono (fun r h => ⟨fun c => (h c).2, sem_eq_zero_of_no_sems rfl r.2⟩)
    (Cert.GatherRef.Value.run (F := Bits) m g)

/-- Over the extended reals the kernel leaves each device with its block of the reference's result. -/
theorem value_ideal : Cert.algebraic_GatherIdeal_GatherRefIdeal := fun m g m' g' _ hx =>
  ⟨refTerm (m' (((0 : Dev Cert.GatherRefIdeal.nD).tc : Thread Cert.GatherRefIdeal.nD Cert.GatherRefIdeal.τ).loc Cert.GatherRefIdeal.main_arg0)),
    (θ_run (Cert.GatherIdeal.defs (F := Ideal)) _ _).mono (fun _ h c => ⟨(h.1 c).1.trans (fin_eq m _ hx c), (h.1 c).2⟩) (run (F := Ideal) m g),
    (θ_run (Cert.GatherRefIdeal.defs (F := Ideal)) _ _).mono (fun r h => ⟨(h 0).1, (h 0).2⟩) (Cert.GatherRefIdeal.Value.run (F := Ideal) m' g')⟩

/-- The same bit for bit. -/
theorem value : Cert.bitexact_Gather_GatherRef := fun m g m' g' _ hx =>
  ⟨refTerm (m' (((0 : Dev Cert.GatherRef.nD).tc : Thread Cert.GatherRef.nD Cert.GatherRef.τ).loc Cert.GatherRef.main_arg0)),
    (θ_run (Cert.GatherIdeal.defs (F := Bits)) _ _).mono (fun _ h c => ⟨(h.1 c).1.trans (fin_eq m _ hx c), (h.1 c).2⟩) (run (F := Bits) m g),
    (θ_run (Cert.GatherRef.defs (F := Bits)) _ _).mono (fun r h => ⟨(h 0).1, (h 0).2⟩) (Cert.GatherRef.Value.run (F := Bits) m' g')⟩

end Cert.GatherProof

end
-- ==== Proof.SwapRun.lean ====
/-
The run of the swap kernel. Every device sends one layer of its array to its core sibling, whose result array the layer
fills: device `c` ends with the layer `src c` of its sibling's array. Two cells per device: 0 is paid by the device's
own copy when it has read the source, 1 by the sibling's copy when it has landed.
-/
module

public import proofs.«01_k».proof.Proof.Talk
public import proofs.«01_k».proof.Proof.Gen.SwapIdeal
public import proofs.«01_k».proof.Proof.Gen.SwapIdeal.Skeleton
public import proofs.«01_k».proof.Proof.Gen.SwapIdeal.Launch

@[expose] public section

set_option Elab.async false

noncomputable section

namespace Cert.SwapProof

open Cert.SwapIdeal Cert.SwapIdeal.Gen Cert.Talk
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-- The core sibling of a device. -/
def sib : Dev nD ≃ Dev nD where
  toFun c := ⟨k0_dev1 c, k0_dev1_lt c⟩
  invFun c := ⟨k0_dev1 c, k0_dev1_lt c⟩
  left_inv := by intro c; revert c; decide +kernel
  right_inv := by intro c; revert c; decide +kernel

theorem sib_sib (c : Dev nD) : sib (sib c) = c := sib.left_inv c

/-- The layer a device sends. -/
abbrev src (c : Dev nD) : Memref sig .tc .hbm S4x3137x1024 .f32 :=
  ((Memref.whole main_arg0).slice (Rect.unit (s := S2x4x3137x1024) (k0_off1 c) S1x4x3137x1024.size (k0_off1_inb c)) (fun _ => rfl)).squeeze S4x3137x1024 squeezes_S1x4x3137x1024_S4x3137x1024
abbrev dst : Memref sig .tc .hbm S4x3137x1024 .f32 := Memref.whole main_v1

variable (m : (ℓ : Loc nD τ sig) → Buf (Elt F) ℓ)

/-- What device `c`'s result ends as: the layer its sibling sent. -/
def landed (c : Dev nD) : Buf (Elt F) ((c.tc : Thread nD τ).loc main_v1) := (src (sib c)).view.read (Elt F) (m (((sib c).tc : Thread nD τ).loc main_arg0))

/-- What the wait for cell `k` gives: the source back, the filled result. -/
def pay (c : Dev nD) (k : Fin 2) : sProp 𝕄 :=
  if k = 0 then iprop((src c).view.loc (c.tc : Thread nD τ) ↦[(src c).view.set]{fullShare} m ((c.tc : Thread nD τ).loc main_arg0))
  else iprop((c.tc : Thread nD τ).loc main_v1 ↦{fullShare} landed m c)

instance pay_storable (c : Dev nD) (k : Fin 2) : BI.Storable (upEmb : UEmb _ 𝕄) (pay m c k) := by
  unfold pay; split <;> infer_instance

/-- The area a device gives away: its result, for cell 1. -/
def slot (c : Dev nD) (k : Fin 2) : sProp 𝕄 :=
  if k = 0 then iprop(emp) else iprop(∃ f : Buf (Elt F) ((c.tc : Thread nD τ).loc main_v1), (c.tc : Thread nD τ).loc main_v1 ↦{fullShare} f)

abbrev sems : Fin 2 → SemLoc sig := ![.dma cc0_scratch0.sem, .dma cc0_scratch1.sem]

/-- The protocol. -/
def proto : Proto nD τ sig (Elt F) 2 where
  osem := sems
  inj := by decide
  tgt := ![Equiv.refl _, sib]
  amt _ := dst.view.dmaCredit
  amt_pos _ := View.dmaCredit_pos _ (by decide)
  pay := pay m
  stor := pay_storable m
  slot := slot
  lvl _ := 0

def keep (c : Dev nD) : sProp 𝕄 := iprop((c.tc : Thread nD τ).loc main_arg0 ↦{fullShare} m ((c.tc : Thread nD τ).loc main_arg0))
def done (c : Dev nD) : sProp 𝕄 := iprop(keep m c ∗ (c.tc : Thread nD τ).loc main_v1 ↦{fullShare} landed m c)

/-- A device's kernel, from its array and its tokens. -/
theorem body (c : Dev nD) (K : Dev nD × Fin 2 → ℕ) :
    iprop((proto m).held K c Finset.univ Finset.univ [(1 : Fin 2)].toFinset [1] ∗ keep m c)
      ⊢ wp frame (wpE (defs₀ (F := F)) Variants.none (c.tc : Thread nD τ) none) Set.univ
          (cc0_swap_layers (Memref.whole main_arg0) (Memref.isWhole_whole _) (Memref.whole main_v1) (Memref.isWhole_whole _) cc0_scratch0 cc0_scratch1) fun _ =>
        iprop(done m c ∗ ∃ (P C : Finset (Fin 2)), (proto m).held K c P ∅ C []) := by
  have hsplit : keep m c ⊢ iprop(((src c).view.loc (c.tc : Thread nD τ) ↦[(src c).view.set]{fullShare} m ((c.tc : Thread nD τ).loc main_arg0))
      ∗ ((c.tc : Thread nD τ).loc main_arg0 ↦[Finset.univ \ (src c).view.set]{fullShare} m ((c.tc : Thread nD τ).loc main_arg0))) :=
    (pointsTo_split_subset (Finset.subset_univ _)).1
  have hjoin : iprop(((src c).view.loc (c.tc : Thread nD τ) ↦[(src c).view.set]{fullShare} m ((c.tc : Thread nD τ).loc main_arg0))
      ∗ ((c.tc : Thread nD τ).loc main_arg0 ↦[Finset.univ \ (src c).view.set]{fullShare} m ((c.tc : Thread nD τ).loc main_arg0))) ⊢ keep m c :=
    (pointsTo_split_subset (Finset.subset_univ _)).2
  have hsend := fun k Q => (proto m).held_send (defs₀ := defs₀ (F := F)) (α := PUnit) (Q := Q) K c Finset.univ Finset.univ [(1 : Fin 2)].toFinset [] 0 1 (sib c) rfl rfl
    (by decide) (by decide) (by decide) (src := src c) (dst := dst) (hsc := rfl) (sS := .dma cc0_scratch0.sem) (sem := .dma cc0_scratch1.sem) rfl rfl
    (hsrc := ((View.wordExact_bits rfl).reshape _ _)) (hdst := (Memref.isWhole_whole _).wordExact) (hsem := ⟨⟨rfl, Or.inl rfl⟩, trivial⟩) (k := k)
    (q := fullShare) (fs := m ((c.tc : Thread nD τ).loc main_arg0)) rfl rfl
    (by show slot (sib c) 1 ⊢ _
        unfold slot; rw [if_neg (by decide)]
        rw [View.set_whole])
    (by show _ ⊢ pay m c 0
        unfold pay; rw [if_pos rfl])
    (by intro fd
        show _ ⊢ pay m (sib c) 1
        unfold pay; rw [if_neg (by decide), View.write_whole_univ, View.set_whole]
        unfold landed; rw [sib_sib])
  have hw0 := fun Q w hw (k : PUnit → Prog (TpuEff nD τ sig (Elt F) Λ₀ .tc) PUnit) P C h0 => (proto m).held_wait (defs₀ := defs₀ (F := F)) (α := PUnit) (Q := Q) K c P Finset.univ C [] 0
    (Finset.mem_univ _) h0 (by simp) (w := w) (sm := .dma cc0_scratch0.sem) (k' := (src c).view.dmaCredit) rfl rfl hw (k := k)
  have hw1 := fun Q w hw (k : PUnit → Prog (TpuEff nD τ sig (Elt F) Λ₀ .tc) PUnit) P C h1 => (proto m).held_wait (defs₀ := defs₀ (F := F)) (α := PUnit) (Q := Q) K c P (Finset.univ.erase 0) C [] 1
    (by decide) h1 (by simp) (w := w) (sm := .dma cc0_scratch1.sem) (k' := dst.view.dmaCredit) rfl rfl hw (k := k)
  have hpay0 : (proto m).pay c 0 ⊢ iprop((src c).view.loc (c.tc : Thread nD τ) ↦[(src c).view.set]{fullShare} m ((c.tc : Thread nD τ).loc main_arg0)) := by
    show pay m c 0 ⊢ _
    unfold pay; rw [if_pos rfl]
  have hpay1 : (proto m).pay c 1 ⊢ iprop((c.tc : Thread nD τ).loc main_v1 ↦{fullShare} landed m c) := by
    show pay m c 1 ⊢ _
    unfold pay; rw [if_neg (by decide)]
  rw [cc0_swap_layers_eq_skeleton]; unfold cc0_swap_layers_skel
  simp only [Prog.lift, Prog.bind_op, Prog.bind_ret, Prog.pure_eq_ret, wp_deviceId]
  iintro ⟨Hh, Hk⟩
  ihave Hk := hsplit $$ Hk
  icases Hk with ⟨Hs, Hr⟩
  iapply (hsend _ _) $$ [Hh Hs]
  · isplitl [Hh] <;> iassumption
  iintro Hh
  iapply (hw0 _ _ (fun _ => rfl) _ _ _ (by decide)) $$ Hh
  iintro ⟨Hh, Hs⟩
  iapply (hw1 _ _ (fun _ => rfl) _ _ _ (by decide)) $$ Hh
  iintro ⟨Hh, Hd⟩
  ihave Hs := hpay0 $$ Hs
  ihave Hd := hpay1 $$ Hd
  rw [wp_ret]; imodintro
  isplitr [Hh]
  · unfold done
    isplitl [Hs Hr]
    · iapply hjoin
      isplitl [Hs] <;> iassumption
    iexact Hd
  iexists _, _
  iexact Hh

/-- The run: every device's result is the layer its sibling sent, its array is unchanged, and all semaphores are back
    at zero. -/
theorem run [∀ e, Nonempty (Elt F e)] (ρ : Dev nD → PrngReg) :
    θ_run (defs (F := F)) (onTc (τ := τ) (main (F := F))) ⟨m, fun _ => 0, ρ⟩ fun r =>
      (∀ c : Dev nD, r.2.mem ((c.tc : Thread nD τ).loc main_v1) = landed m c
        ∧ r.2.mem ((c.tc : Thread nD τ).loc main_arg0) = m ((c.tc : Thread nD τ).loc main_arg0)) ∧ r.2.sem = fun _ => 0 := by
  haveI : IsEmpty (Fin cfg0.W) := ⟨fun w => w.elim0⟩
  refine (proto m).run cfg0 N_0 defs₀ cellOf_inj (show Pipeline.OwnSemFacts cfg0.spec sems by decide) (fun c => scopedRest0_eq c) m ρ main (fun c => rfl) (by decide) [1] (by decide)
    (keep m) (done m) ?_ (fun c K t => body m c K) (fun c s => s.mem ((c.tc : Thread nD τ).loc main_v1) = landed m c
        ∧ s.mem ((c.tc : Thread nD τ).loc main_arg0) = m ((c.tc : Thread nD τ).loc main_arg0)) ?_
  · intro c
    have h0 : unscopedBufs c (fun b => m ((c.tc : Thread nD τ).loc b)) = iprop(keep m c ∗ (c.tc : Thread nD τ).loc main_v1 ↦{fullShare} m ((c.tc : Thread nD τ).loc main_v1)) :=
      (unscopedBufs_eq_rest cfg0.spec c _).trans (unscopedRest0_eq c _)
    have h1 : bigSep Finset.univ ((proto m).slot c) = listSep (slot c) [0, 1] := bigSep_list _ _ (by decide) _ (by decide)
    rw [h0, h1]
    unfold listSep listSep listSep slot
    rw [if_pos rfl, if_neg (by decide)]
    iintro ⟨Hk, Hv⟩
    isplitl [Hk]; · iexact Hk
    isplitr; · iempintro
    isplitl; · iexists _; iexact Hv
    iempintro
  · intro c s'
    unfold done keep
    iintro ⟨⟨Ha, Hv⟩, HSI⟩
    icombine HSI Ha gives %ha
    icombine HSI Hv gives %hv
    imodintro
    isplitr
    · ipureintro
      exact ⟨Buf.eq_of_forall_mem_univ hv, Buf.eq_of_forall_mem_univ ha⟩
    iexact HSI

end Cert.SwapProof

end
-- ==== Proof.SwapValue.lean ====
/-
What the swap's reference says of a device's block, and that the kernel's run ends there.
-/
module

public import proofs.«01_k».proof.Proof.SwapRun
public import proofs.«01_k».proof.Proof.Gen.SwapRefIdeal
public import Idealize.ShloMosaic.Lib.Pipeline.Value
public import Idealize.ShloMosaic.Lib.ValueIdxCore
public import Idealize.ShloMosaic.Lib.ValueIdxRank6
public import Idealize.ShloMosaic.Lib.ValueLayout

@[expose] public section

set_option Elab.async false

noncomputable section

namespace Cert.SwapProof

open Cert.SwapRefIdeal Cert.SwapRefIdeal.Gen
open Idealize.ShloMosaic Idealize.ShloMosaic.TcCoe Idealize.ShloMosaic.ValueIdx

variable {α : Type}

/-- One half of the reference: the layer `b` that the cores `a` hold, chip by chip. -/
def half (a b : Nat) (h : S4x2x2x4x3137x1024.Slices ![0, a, b, 0, 0, 0] S4x1x1x4x3137x1024) (x : S16x4x3137x1024.Idx → α) : S4x1x4x3137x1024.Idx → α :=
  broadcastInDim S4x1x4x3137x1024 ![0, 2, 3, 4] bcast_S4x4x3137x1024_S4x1x4x3137x1024_0_2_3_4
    (shapeCast S4x4x3137x1024 (extractStridedSlice S4x1x1x4x3137x1024 ![0, a, b, 0, 0, 0]
      (shapeCast S4x2x2x4x3137x1024 x shapeCasts_S16x4x3137x1024_S4x2x2x4x3137x1024) h) shapeCasts_S4x1x1x4x3137x1024_S4x4x3137x1024)

/-- The reference's result as a function of its argument. -/
def refTerm (x : S16x4x3137x1024.Idx → α) : S32x3137x1024.Idx → α :=
  shapeCast S32x3137x1024 (concatenate S4x2x4x3137x1024 1
    [⟨S4x1x4x3137x1024, half 1 0 slices_S4x2x2x4x3137x1024_S4x1x1x4x3137x1024_0_1_0_0_0_0 x⟩,
     ⟨S4x1x4x3137x1024, half 0 1 slices_S4x2x2x4x3137x1024_S4x1x1x4x3137x1024_0_0_1_0_0_0 x⟩]
    concatenates_S4x1x4x3137x1024_S4x1x4x3137x1024_S4x2x4x3137x1024_d1) shapeCasts_S4x2x4x3137x1024_S32x3137x1024

theorem half_apply (a b : Nat) (ha : a < 2) (hb : b < 2) (h : S4x2x2x4x3137x1024.Slices ![0, a, b, 0, 0, 0] S4x1x1x4x3137x1024)
    (x : S16x4x3137x1024.Idx → α) (k : Fin 4) (n : Fin 4) (r : Fin 3137) (w : Fin 1024) :
    half a b h x (ix5 k (0 : Fin 1) n r w) = x (ix4 (⟨4 * k.val + 2 * a + b, by omega⟩ : Fin 16) n r w) := by
  unfold half
  rw [broadcastInDim_apply (k := ix4 k n r w)
    (hk := fun d => match d with | ⟨0, _⟩ => rfl | ⟨1, _⟩ => rfl | ⟨2, _⟩ => rfl | ⟨3, _⟩ => rfl)]
  rw [shapeCast_apply (k := ix6 k (0 : Fin 1) (0 : Fin 1) n r w) (hk := by
    rw [Shape.rowMajor_val_four, Shape.rowMajor_val_six]
    show ((((k.val * 1 + 0) * 1 + 0) * 4 + n.val) * 3137 + r.val) * 1024 + w.val = ((k.val * 4 + n.val) * 3137 + r.val) * 1024 + w.val
    omega)]
  rw [extractStridedSlice_apply (k := ix6 k (⟨a, ha⟩ : Fin 2) (⟨b, hb⟩ : Fin 2) n r w)
    (hk := fun d => match d with
      | ⟨0, _⟩ => (Nat.zero_add _).symm | ⟨1, _⟩ => rfl | ⟨2, _⟩ => rfl
      | ⟨3, _⟩ => (Nat.zero_add _).symm | ⟨4, _⟩ => (Nat.zero_add _).symm | ⟨5, _⟩ => (Nat.zero_add _).symm)]
  rw [shapeCast_apply (k := ix4 (⟨4 * k.val + 2 * a + b, by omega⟩ : Fin 16) n r w) (hk := by
    rw [Shape.rowMajor_val_four, Shape.rowMajor_val_six]
    show (((4 * k.val + 2 * a + b) * 4 + n.val) * 3137 + r.val) * 1024 + w.val
      = ((((k.val * 2 + a) * 2 + b) * 4 + n.val) * 3137 + r.val) * 1024 + w.val
    omega)]

/-- The reference at an index: device `2k + b`'s rows come from the other core of chip `k`, layer `b`. -/
theorem refTerm_apply (x : S16x4x3137x1024.Idx → α) (k : Fin 4) (b : Fin 2) (n : Fin 4) (r : Fin 3137) (w : Fin 1024) :
    refTerm x (ix3 (⟨(2 * k.val + b.val) * 4 + n.val, by omega⟩ : Fin 32) r w) = x (ix4 (⟨4 * k.val + 2 - b.val, by omega⟩ : Fin 16) n r w) := by
  unfold refTerm
  rw [shapeCast_apply (k := ix5 k b n r w) (hk := by
    rw [Shape.rowMajor_val_three, Shape.rowMajor_val_five]
    show (((k.val * 2 + b.val) * 4 + n.val) * 3137 + r.val) * 1024 + w.val = (((2 * k.val + b.val) * 4 + n.val) * 3137 + r.val) * 1024 + w.val
    omega)]
  have hb : b = 0 ∨ b = 1 := by omega
  rcases hb with rfl | rfl
  · rw [concatenate_pair_apply_left (t := S4x2x4x3137x1024) (s₁ := S4x1x4x3137x1024) (s₂ := S4x1x4x3137x1024) (hr := rfl) (i := ix5 k (0 : Fin 1) n r w)
      (hi := fun d => match d with | ⟨0, _⟩ => rfl | ⟨1, _⟩ => rfl | ⟨2, _⟩ => rfl | ⟨3, _⟩ => rfl | ⟨4, _⟩ => rfl)]
    rw [half_apply 1 0 (by omega) (by omega)]
    rfl
  · rw [concatenate_pair_apply_right (t := S4x2x4x3137x1024) (s₁ := S4x1x4x3137x1024) (s₂ := S4x1x4x3137x1024) (hr := rfl) (hr₂ := rfl) (i := ix5 k (0 : Fin 1) n r w)
      (hi := fun d hd => match d, hd with | ⟨0, _⟩, _ => rfl | ⟨1, _⟩, hd => absurd rfl hd | ⟨2, _⟩, _ => rfl | ⟨3, _⟩, _ => rfl | ⟨4, _⟩, _ => rfl)
      (ha := rfl)]
    rw [half_apply 0 1 (by omega) (by omega)]
    rfl

variable {F : FTy → Type} [FloatOps F]

/-- The element of its array that a device sends for an element of the result. -/
theorem landed_apply (m : (ℓ : Loc Cert.SwapIdeal.nD Cert.SwapIdeal.τ Cert.SwapIdeal.sig) → Buf (Elt F) ℓ) (c : Dev Cert.SwapIdeal.nD)
    (n : Fin 4) (r : Fin 3137) (w : Fin 1024) :
    landed m c (ix3 n r w) = m (((sib c).tc : Thread _ _).loc Cert.SwapIdeal.main_arg0) (ix4 (⟨1 - (sib c).val % 2, by omega⟩ : Fin 2) n r w) := by
  show m (((sib c).tc : Thread _ _).loc Cert.SwapIdeal.main_arg0)
    ((Rect.unit (s := Cert.SwapIdeal.S2x4x3137x1024) (Cert.SwapIdeal.k0_off1 (sib c)) Cert.SwapIdeal.S1x4x3137x1024.size (Cert.SwapIdeal.Facts₀.k0_off1_inb (sib c))).emb
      (Shape.reshapeEquiv (Shape.Squeezes.numel_eq Cert.SwapIdeal.Gen.squeezes_S1x4x3137x1024_S4x3137x1024) (ix3 n r w))) = _
  rw [reshapeEquiv_ix3_1abc]
  refine congrArg _ (funext fun a => Fin.ext ?_)
  have h0 := fun a => congrFun (Cert.SwapIdeal.Gen.k0_off1_eq (sib c)) a
  match a with
  | ⟨0, _⟩ => exact (Nat.add_zero _).trans (h0 0)
  | ⟨1, _⟩ => exact (congrArg (· + 1 * n.val) (h0 1)).trans (by show 0 + 1 * n.val = n.val; omega)
  | ⟨2, _⟩ => exact (congrArg (· + 1 * r.val) (h0 2)).trans (by show 0 + 1 * r.val = r.val; omega)
  | ⟨3, _⟩ => exact (congrArg (· + 1 * w.val) (h0 3)).trans (by show 0 + 1 * w.val = w.val; omega)

/-- What a device's result ends as, when the devices' arrays are the blocks of a whole array `x`: its block of the
    reference's result. -/
theorem landed_eq (m : (ℓ : Loc Cert.SwapIdeal.nD Cert.SwapIdeal.τ Cert.SwapIdeal.sig) → Buf (Elt F) ℓ) (x : S16x4x3137x1024.Idx → Elt F .f32)
    (hx : ∀ c : Dev Cert.SwapIdeal.nD, m ((c.tc : Thread _ _).loc Cert.SwapIdeal.main_arg0) = Layout.block ⟨4, ![2, 4, 3137, 1024]⟩ ⟨4, ![16, 4, 3137, 1024]⟩ 0 8 c x)
    (c : Dev Cert.SwapIdeal.nD) :
    landed m c = Layout.block ⟨3, ![4, 3137, 1024]⟩ ⟨3, ![32, 3137, 1024]⟩ 0 8 c (refTerm x) := by
  funext i
  obtain ⟨n, r, w, rfl⟩ : ∃ (n : Fin 4) (r : Fin 3137) (w : Fin 1024), i = ix3 n r w := ⟨i 0, i 1, i 2, eq_ix3 i⟩
  have hc : c.val < 8 := c.isLt
  have h := refTerm_apply x (⟨c.val / 2, by omega⟩ : Fin 4) (⟨c.val % 2, by omega⟩ : Fin 2) n r w
  have hs : (sib c).val = (4 * (c.val / 4) + 2 * ((c.val / 2) % 2) + 1) - (c.val % 2) := Cert.SwapIdeal.Gen.k0_dev1_eq c
  rw [landed_apply, hx, Layout.block_apply, Layout.block_apply]
  have e1 : ((by decide : Layout.Tiles ⟨3, ![4, 3137, 1024]⟩ ⟨3, ![32, 3137, 1024]⟩ 0 8).idx c (ix3 n r w))
      = ix3 (⟨(2 * (c.val / 2) + c.val % 2) * 4 + n.val, by omega⟩ : Fin 32) r w := by
    funext a; refine Fin.ext ?_
    match a with
    | ⟨0, _⟩ => show c.val * 4 + n.val = (2 * (c.val / 2) + c.val % 2) * 4 + n.val; omega
    | ⟨1, _⟩ => rfl
    | ⟨2, _⟩ => rfl
  have e2 : ((by decide : Layout.Tiles ⟨4, ![2, 4, 3137, 1024]⟩ ⟨4, ![16, 4, 3137, 1024]⟩ 0 8).idx (sib c) (ix4 (⟨1 - (sib c).val % 2, by omega⟩ : Fin 2) n r w))
      = ix4 (⟨4 * (c.val / 2) + 2 - c.val % 2, by omega⟩ : Fin 16) n r w := by
    funext a; refine Fin.ext ?_
    match a with
    | ⟨0, _⟩ => show (sib c).val * 2 + (1 - (sib c).val % 2) = 4 * (c.val / 2) + 2 - c.val % 2; omega
    | ⟨1, _⟩ => rfl
    | ⟨2, _⟩ => rfl
    | ⟨3, _⟩ => rfl
  exact (congrArg x e2).trans (h.symm.trans (congrArg (refTerm x) e1.symm))

end Cert.SwapProof

end
-- ==== Proof.SwapClaims.lean ====
/-
The claims about the swap: every program of it runs to its end with its arguments unchanged and all semaphores at zero,
and each device's result is its block of the reference's.
-/
module

public import proofs.«01_k».proof.Defs
public import proofs.«01_k».proof.Proof.SwapValue
public import proofs.«01_k».proof.Proof.Gen.Swap
public import proofs.«01_k».proof.Proof.Gen.SwapRefIdeal.Run
public import proofs.«01_k».proof.Proof.Gen.SwapRef.Run
public import Idealize.ShloMosaic.Lib.Quiescent

@[expose] public section

set_option Elab.async false

noncomputable section

namespace Cert.SwapProof

open Idealize.ShloMosaic Idealize.ShloMosaic.TcCoe Idealize.SL.Sem

/-- The kernel runs to its end: the array unchanged, the semaphores at zero. -/
theorem frame : Cert.quiescent_Swap := fun m g _ =>
  (θ_run (Cert.SwapIdeal.defs (F := Bits)) _ _).mono (fun _ h => ⟨fun c => (h.1 c).2, h.2⟩) (run (F := Bits) m g)

/-- The same of the ideal kernel. -/
theorem frame_ideal : Cert.quiescent_SwapIdeal := fun m g _ =>
  (θ_run (Cert.SwapIdeal.defs (F := Ideal)) _ _).mono (fun _ h => ⟨fun c => (h.1 c).2, h.2⟩) (run (F := Ideal) m g)

/-- The same of the ideal reference. -/
theorem frame_ref_ideal : Cert.quiescent_SwapRefIdeal := fun m g _ =>
  (θ_run (Cert.SwapRefIdeal.defs (F := Ideal)) _ _).mono (fun r h => ⟨fun c => (h c).2, sem_eq_zero_of_no_sems rfl r.2⟩)
    (Cert.SwapRefIdeal.Value.run (F := Ideal) m g)

/-- The same of the reference. -/
theorem frame_ref : Cert.quiescent_SwapRef := fun m g _ =>
  (θ_run (Cert.SwapRef.defs (F := Bits)) _ _).mono (fun r h => ⟨fun c => (h c).2, sem_eq_zero_of_no_sems rfl r.2⟩)
    (Cert.SwapRef.Value.run (F := Bits) m g)

/-- Over the extended reals the kernel leaves each device with its block of the reference's result. -/
theorem value_ideal : Cert.algebraic_SwapIdeal_SwapRefIdeal := fun m g m' g' _ hx =>
  ⟨refTerm (m' (((0 : Dev Cert.SwapRefIdeal.nD).tc : Thread Cert.SwapRefIdeal.nD Cert.SwapRefIdeal.τ).loc Cert.SwapRefIdeal.main_arg0)),
    (θ_run (Cert.SwapIdeal.defs (F := Ideal)) _ _).mono (fun _ h c => ⟨(h.1 c).1.trans (landed_eq m _ hx c), (h.1 c).2⟩) (run (F := Ideal) m g),
    (θ_run (Cert.SwapRefIdeal.defs (F := Ideal)) _ _).mono (fun r h => ⟨(h 0).1, (h 0).2⟩) (Cert.SwapRefIdeal.Value.run (F := Ideal) m' g')⟩

/-- And bit for bit. -/
theorem value : Cert.bitexact_Swap_SwapRef := fun m g m' g' _ hx =>
  ⟨refTerm (m' (((0 : Dev Cert.SwapRef.nD).tc : Thread Cert.SwapRef.nD Cert.SwapRef.τ).loc Cert.SwapRef.main_arg0)),
    (θ_run (Cert.SwapIdeal.defs (F := Bits)) _ _).mono (fun _ h c => ⟨(h.1 c).1.trans (landed_eq m _ hx c), (h.1 c).2⟩) (run (F := Bits) m g),
    (θ_run (Cert.SwapRef.defs (F := Bits)) _ _).mono (fun r h => ⟨(h 0).1, (h 0).2⟩) (Cert.SwapRef.Value.run (F := Bits) m' g')⟩

end Cert.SwapProof

end
-- ==== Proof.ScatterRun.lean ====
/-
The run of the scattering kernel. Every device holds its own gradients of all four chips' shards; it copies its chip's
shard into its own result array, and sends each other chip's shard to that chip's device of the same core, where it lands
at the sender's place. Seven cells per device: 0, 1, 2 are paid by the device's own sends when they have read their
source, 3, 4, 5 by the three others' sends when they have landed, 6 by the local copy.
-/
module

public import proofs.«01_k».proof.Proof.TalkParts
public import proofs.«01_k».proof.Proof.Gen.ScatterIdeal
public import proofs.«01_k».proof.Proof.Gen.ScatterIdeal.Skeleton
public import proofs.«01_k».proof.Proof.Gen.ScatterIdeal.Launch

@[expose] public section

set_option Elab.async false

noncomputable section

namespace Cert.ScatterProof

open Cert.ScatterIdeal Cert.ScatterIdeal.Gen Cert.Talk
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-- The chip of a device. -/
def chip (c : Dev nD) : Fin 4 := ⟨c.val / 2, by have := c.isLt; have : nD = 8 := rfl; omega⟩
/-- The device of chip `s` of the same core as `c`. -/
def holder (c : Dev nD) (s : Fin 4) : Dev nD := ⟨2 * s.val + c.val % 2, by have : nD = 8 := rfl; omega⟩

/-- The three other devices of a core. -/
def peer0 : Dev nD ≃ Dev nD where
  toFun c := ⟨k0_dev1 c, k0_dev1_lt c⟩
  invFun c := ⟨k0_dev1 c, k0_dev1_lt c⟩
  left_inv := by intro c; revert c; decide +kernel
  right_inv := by intro c; revert c; decide +kernel
def peer1 : Dev nD ≃ Dev nD where
  toFun c := ⟨k0_dev2 c, k0_dev2_lt c⟩
  invFun c := ⟨k0_dev2 c, k0_dev2_lt c⟩
  left_inv := by intro c; revert c; decide +kernel
  right_inv := by intro c; revert c; decide +kernel
def peer2 : Dev nD ≃ Dev nD where
  toFun c := ⟨k0_dev3 c, k0_dev3_lt c⟩
  invFun c := ⟨k0_dev3 c, k0_dev3_lt c⟩
  left_inv := by intro c; revert c; decide +kernel
  right_inv := by intro c; revert c; decide +kernel

theorem holder_chip : ∀ c : Dev nD, holder c (chip c) = c := by decide +kernel
theorem holder_peer0 : ∀ c : Dev nD, holder (peer0 c) (chip c) = c := by decide +kernel
theorem holder_peer1 : ∀ c : Dev nD, holder (peer1 c) (chip c) = c := by decide +kernel
theorem holder_peer2 : ∀ c : Dev nD, holder (peer2 c) (chip c) = c := by decide +kernel
theorem off1 : ∀ c : Dev nD, k0_off1 c = ![(chip c).val, 0, 0] := by decide +kernel
theorem off2 : ∀ c : Dev nD, k0_off2 c = ![(chip (peer0 c)).val, 0, 0] := by decide +kernel
theorem off3 : ∀ c : Dev nD, k0_off3 c = ![(chip (peer1 c)).val, 0, 0] := by decide +kernel
theorem off4 : ∀ c : Dev nD, k0_off4 c = ![(chip (peer2 c)).val, 0, 0] := by decide +kernel

/-- One shard of the argument, one of the result. -/
abbrev at0 (off : Fin 3 → ℕ) (inb : ∀ a, off a + S1x3137x1024.size a ≤ S4x3137x1024.size a) : Memref sig .tc .hbm S3137x1024 .bf16 :=
  ((Memref.whole main_arg0).slice (Rect.unit (s := S4x3137x1024) off S1x3137x1024.size inb) (fun _ => rfl)).squeeze S3137x1024 squeezes_S1x3137x1024_S3137x1024
abbrev at1 (off : Fin 3 → ℕ) (inb : ∀ a, off a + S1x3137x1024.size a ≤ S4x3137x1024.size a) : Memref sig .tc .hbm S3137x1024 .bf16 :=
  ((Memref.whole main_v1).slice (Rect.unit (s := S4x3137x1024) off S1x3137x1024.size inb) (fun _ => rfl)).squeeze S3137x1024 squeezes_S1x3137x1024_S3137x1024

/-- The shard of an element. -/
abbrev lab : S4x3137x1024.Idx → Fin 4 := lab3

theorem at0_set (off : Fin 3 → ℕ) (inb) (s : Fin 4) (h : off = ![s.val, 0, 0]) : (at0 off inb).view.set = part lab s :=
  (View.set_reshape _ _).trans ((View.set_slice_whole main_arg0 _).trans (rect3_set off inb s h))
theorem at1_set (off : Fin 3 → ℕ) (inb) (s : Fin 4) (h : off = ![s.val, 0, 0]) : (at1 off inb).view.set = part lab s :=
  (View.set_reshape _ _).trans ((View.set_slice_whole main_v1 _).trans (rect3_set off inb s h))
theorem at0_emb (off : Fin 3 → ℕ) (inb) (s : Fin 4) (h : off = ![s.val, 0, 0]) (r : Fin 3137) (w : Fin 1024) :
    (at0 off inb).view.emb (ix2 r w) = (ix3 s r w : S4x3137x1024.Idx) := rect3_emb off inb s h _ r w
theorem at1_emb (off : Fin 3 → ℕ) (inb) (s : Fin 4) (h : off = ![s.val, 0, 0]) (r : Fin 3137) (w : Fin 1024) :
    (at1 off inb).view.emb (ix2 r w) = (ix3 s r w : S4x3137x1024.Idx) := rect3_emb off inb s h _ r w

variable (m : (ℓ : Loc nD τ sig) → Buf (Elt F) ℓ)

/-- What device `c`'s result ends as: at shard `s`, what the device of chip `s` and `c`'s core holds of `c`'s chip's shard. -/
def fin (c : Dev nD) : Buf (Elt F) ((c.tc : Thread nD τ).loc main_v1) :=
  fun (i : S4x3137x1024.Idx) => (m (((holder c (i 0)).tc : Thread nD τ).loc main_arg0) : S4x3137x1024.Idx → Elt F .bf16) (ix3 (chip c) (i 1 : Fin 3137) (i 2 : Fin 1024))

/-- The final contents of device `c'` read, at device `c`'s place, as `c`'s shard for the chip of `c'`. -/
theorem fin_read (c c' : Dev nD) (h : holder c' (chip c) = c) (off off' : Fin 3 → ℕ) (inb) (inb')
    (ho : off = ![(chip c).val, 0, 0]) (ho' : off' = ![(chip c').val, 0, 0]) :
    (at1 off inb).view.read (Elt F) (fin m c') = (at0 off' inb').view.read (Elt F) (m ((c.tc : Thread nD τ).loc main_arg0)) := by
  funext i
  obtain ⟨r, w, rfl⟩ : ∃ (r : Fin 3137) (w : Fin 1024), i = ix2 r w := ⟨i 0, i 1, eq_ix2 i⟩
  show fin m c' ((at1 off inb).view.emb (ix2 r w)) = m ((c.tc : Thread nD τ).loc main_arg0) ((at0 off' inb').view.emb (ix2 r w))
  rw [at1_emb off inb _ ho, at0_emb off' inb' _ ho']
  show m (((holder c' (chip c)).tc : Thread nD τ).loc main_arg0) (ix3 (chip c') r w) = _
  rw [h]

theorem shards : ∀ c : Dev nD, [chip c, chip (peer0 c), chip (peer1 c), chip (peer2 c)].Nodup
    ∧ (Finset.univ : Finset (Fin 4)) = [chip c, chip (peer0 c), chip (peer1 c), chip (peer2 c)].toFinset := by decide +kernel

/-- The argument is its four shards, and so is the result. -/
theorem quarters0 (c : Dev nD) (f : Buf (Elt F) ((c.tc : Thread nD τ).loc main_arg0)) :
    ((c.tc : Thread nD τ).loc main_arg0 ↦{fullShare} f : sProp 𝕄)
      = iprop(((c.tc : Thread nD τ).loc main_arg0 ↦[part lab (chip c)]{fullShare} f) ∗ ((c.tc : Thread nD τ).loc main_arg0 ↦[part lab (chip (peer0 c))]{fullShare} f)
        ∗ ((c.tc : Thread nD τ).loc main_arg0 ↦[part lab (chip (peer1 c))]{fullShare} f) ∗ ((c.tc : Thread nD τ).loc main_arg0 ↦[part lab (chip (peer2 c))]{fullShare} f)) := by
  rw [pointsTo_parts (ℓ := (c.tc : Thread nD τ).loc main_arg0) lab, bigSep_list _ _ (shards c).1 _ (shards c).2]
  unfold listSep listSep listSep; rw [listSep_one]
theorem quarters1 (c : Dev nD) (f : Buf (Elt F) ((c.tc : Thread nD τ).loc main_v1)) :
    ((c.tc : Thread nD τ).loc main_v1 ↦{fullShare} f : sProp 𝕄)
      = iprop(((c.tc : Thread nD τ).loc main_v1 ↦[part lab (chip c)]{fullShare} f) ∗ ((c.tc : Thread nD τ).loc main_v1 ↦[part lab (chip (peer0 c))]{fullShare} f)
        ∗ ((c.tc : Thread nD τ).loc main_v1 ↦[part lab (chip (peer1 c))]{fullShare} f) ∗ ((c.tc : Thread nD τ).loc main_v1 ↦[part lab (chip (peer2 c))]{fullShare} f)) := by
  rw [pointsTo_parts (ℓ := (c.tc : Thread nD τ).loc main_v1) lab, bigSep_list _ _ (shards c).1 _ (shards c).2]
  unfold listSep listSep listSep; rw [listSep_one]

/-- A sent shard given back, and a landed shard. -/
def back (c : Dev nD) (s : Fin 4) : sProp 𝕄 := iprop((c.tc : Thread nD τ).loc main_arg0 ↦[part lab s]{fullShare} m ((c.tc : Thread nD τ).loc main_arg0))
def got (c : Dev nD) (s : Fin 4) : sProp 𝕄 := iprop((c.tc : Thread nD τ).loc main_v1 ↦[part lab s]{fullShare} fin m c)
/-- A shard of the result not yet filled. -/
def gap (c : Dev nD) (s : Fin 4) : sProp 𝕄 := iprop(∃ f : Buf (Elt F) ((c.tc : Thread nD τ).loc main_v1), (c.tc : Thread nD τ).loc main_v1 ↦[part lab s]{fullShare} f)

instance back_storable (c : Dev nD) (s : Fin 4) : BI.Storable (upEmb : UEmb _ 𝕄) (back m c s) := by unfold back; infer_instance
instance got_storable (c : Dev nD) (s : Fin 4) : BI.Storable (upEmb : UEmb _ 𝕄) (got m c s) := by unfold got; infer_instance

/-- What the wait for cell `k` gives. -/
def pay (c : Dev nD) (k : Fin 7) : sProp 𝕄 :=
  match k with
  | 0 => back m c (chip (peer0 c))
  | 1 => back m c (chip (peer1 c))
  | 2 => back m c (chip (peer2 c))
  | 3 => got m c (chip (peer0 c))
  | 4 => got m c (chip (peer1 c))
  | 5 => got m c (chip (peer2 c))
  | 6 => iprop(got m c (chip c) ∗ back m c (chip c))

instance pay_storable (c : Dev nD) (k : Fin 7) : BI.Storable (upEmb : UEmb _ 𝕄) (pay m c k) := by
  unfold pay; split <;> infer_instance

/-- The area a device gives away: the four shards of its result, for the cells 3 to 6. -/
def slot (c : Dev nD) (k : Fin 7) : sProp 𝕄 :=
  match k with
  | 0 => iprop(emp)
  | 1 => iprop(emp)
  | 2 => iprop(emp)
  | 3 => gap c (chip (peer0 c))
  | 4 => gap c (chip (peer1 c))
  | 5 => gap c (chip (peer2 c))
  | 6 => gap c (chip c)

/-- The semaphores of the cells. -/
abbrev sem3 (a : DmaSems sig S3) (i : Fin 3) : SemLoc sig :=
  .dma ((a.slice (Rect.unit (s := S3) ![i.val] S1.size (by intro b; match b with | ⟨0, _⟩ => show i.val + 1 ≤ 3; omega)) ).squeeze S_ squeezes_S1_S_).sem
abbrev sems : Fin 7 → SemLoc sig :=
  ![sem3 cc0_scratch0 0, sem3 cc0_scratch0 1, sem3 cc0_scratch0 2, sem3 cc0_scratch1 0, sem3 cc0_scratch1 1, sem3 cc0_scratch1 2, .dma cc0_scratch2.sem]

/-- The units a copy of a shard pays. -/
abbrev units : ℕ := (at1 ![0, 0, 0] (by decide)).view.dmaCredit

/-- The protocol. -/
def proto : Proto nD τ sig (Elt F) 7 where
  osem := sems
  inj := by decide
  tgt := ![Equiv.refl _, Equiv.refl _, Equiv.refl _, peer0, peer1, peer2, Equiv.refl _]
  amt _ := units
  amt_pos _ := View.dmaCredit_pos _ (by decide)
  pay := pay m
  stor := pay_storable m
  slot := slot
  lvl _ := 0

def keep (c : Dev nD) : sProp 𝕄 := iprop((c.tc : Thread nD τ).loc main_arg0 ↦{fullShare} m ((c.tc : Thread nD τ).loc main_arg0))
def done (c : Dev nD) : sProp 𝕄 := iprop(keep m c ∗ (c.tc : Thread nD τ).loc main_v1 ↦{fullShare} fin m c)

/-- The protocol's cells in hand. -/
abbrev hold (c : Dev nD) (K : Dev nD × Fin 7 → ℕ) (P A C : Finset (Fin 7)) (l : List (Fin 7)) : sProp 𝕄 := (proto m).held K c P A C l

/-- A send of shard `chip c'` to device `c'`: it owes the landing cell `k₂` there and its own cell `k₁`. -/
theorem send (c : Dev nD) (K : Dev nD × Fin 7 → ℕ) (P A C : Finset (Fin 7)) (l : List (Fin 7)) (k₁ k₂ : Fin 7) (c' : Dev nD) (hc' : c' = (proto m).tgt k₂ c)
    (hto : (proto m).tgt k₁ c = c) (h₁ : k₁ ∈ P) (h₂ : k₂ ∈ P.erase k₁) (hC : k₁ ∉ C) (hh : holder c' (chip c) = c)
    (hp₁ : pay m c k₁ = back m c (chip c')) (hp₂ : pay m c' k₂ = got m c' (chip c)) (hs : slot (F := F) c' k₂ = gap c' (chip c))
    (off off' : Fin 3 → ℕ) (inb) (inb') (ho : off = ![(chip c).val, 0, 0]) (ho' : off' = ![(chip c').val, 0, 0])
    {sS sem : SemLoc sig} (hS : sS = (proto m).osem k₁) (hR : sem = (proto m).osem k₂) {hsrc : (at0 off' inb').view.WordExact} {hdst : (at1 off inb).view.WordExact}
    {hsc : (at1 off inb).view.ref.isScScratch = false} {hsem : DmaTarget.Typed .hbm sem (.remote (c'.tc : Thread nD τ) (at1 off inb) sS hsc)} {k : PUnit → Prog (TpuEff nD τ sig (Elt F) Λ₀ .tc) PUnit} {Q : PUnit → sProp 𝕄}
    (hN : (at1 off inb).view.amount sem = units)
    (hr : τ.routes (c.tc : Thread nD τ) (c'.tc : Thread nD τ) = true) :
    iprop(hold m c K P A C (k₂ :: l) ∗ back m c (chip c'))
      ⊢ iprop((hold m c K ((P.erase k₁).erase k₂) A (insert k₁ C) l -∗ wp frame (wpE (defs₀ (F := F)) Variants.none (c.tc : Thread nD τ) none) Set.univ (k ⟨⟩) Q)
        -∗ wp frame (wpE (defs₀ (F := F)) Variants.none (c.tc : Thread nD τ) none) Set.univ
            (.op (.enqueueDma (at0 off' inb') (.remote (c'.tc : Thread nD τ) (at1 off inb) sS hsc) sem hsrc hdst hsem) k) Q) := by
  have h := (proto m).held_send (defs₀ := defs₀ (F := F)) (α := PUnit) (Q := Q) K c P A C l k₁ k₂ c' hc' hto h₁ h₂ hC (src := at0 off' inb') (dst := at1 off inb) (hsc := hsc)
    hS hR (hsrc := hsrc) (hdst := hdst) (hsem := hsem) (k := k) (q := fullShare) (fs := m ((c.tc : Thread nD τ).loc main_arg0)) rfl hN
    (by show slot c' k₂ ⊢ _
        rw [hs, at1_set off inb _ ho]; unfold gap; exact .rfl)
    (by show _ ⊢ pay m c k₁
        rw [hp₁, at0_set off' inb' _ ho']; unfold back; exact .rfl)
    (by intro fd
        show _ ⊢ pay m c' k₂
        rw [hp₂, landed_at _ _ _ _ (fin_read m c c' hh off off' inb inb' ho ho'), at1_set off inb _ ho]; unfold got; exact .rfl)
    hr
  rw [at0_set off' inb' _ ho'] at h
  unfold back
  exact h

/-- The copy of its own chip's shard. -/
theorem copy (c : Dev nD) (K : Dev nD × Fin 7 → ℕ) (P A C : Finset (Fin 7)) (l : List (Fin 7)) (h₁ : (6 : Fin 7) ∈ P) (hC : (6 : Fin 7) ∉ C)
    {sem : SemLoc sig} (hS : sem = (proto m).osem 6) {hsrc : (at0 (k0_off1 c) (k0_off1_inb c)).view.WordExact} {hdst : (at1 (k0_off1 c) (k0_off1_inb c)).view.WordExact}
    {hsem : DmaTarget.Typed (nD := nD) (τ := τ) (p := .tc) .hbm sem (.here (at1 (k0_off1 c) (k0_off1_inb c)))} {k : PUnit → Prog (TpuEff nD τ sig (Elt F) Λ₀ .tc) PUnit} {Q : PUnit → sProp 𝕄}
    (hN : (at1 (k0_off1 c) (k0_off1_inb c)).view.amount sem = units) :
    iprop(hold m c K P A C l ∗ back m c (chip c))
      ⊢ iprop((hold m c K (P.erase 6) A (insert 6 C) l -∗ wp frame (wpE (defs₀ (F := F)) Variants.none (c.tc : Thread nD τ) none) Set.univ (k ⟨⟩) Q)
        -∗ wp frame (wpE (defs₀ (F := F)) Variants.none (c.tc : Thread nD τ) none) Set.univ
            (.op (.enqueueDma (at0 (k0_off1 c) (k0_off1_inb c)) (.here (at1 (k0_off1 c) (k0_off1_inb c))) sem hsrc hdst hsem) k) Q) := by
  have h := (proto m).held_copy (defs₀ := defs₀ (F := F)) (α := PUnit) (Q := Q) K c P A C l 6 rfl h₁ hC (src := at0 (k0_off1 c) (k0_off1_inb c)) (dst := at1 (k0_off1 c) (k0_off1_inb c))
    hS (hsrc := hsrc) (hdst := hdst) (hsem := hsem) (k := k) (q := fullShare) (fs := m ((c.tc : Thread nD τ).loc main_arg0)) hN
    (by show gap c (chip c) ⊢ _
        rw [at1_set _ _ _ (off1 c)]; unfold gap; exact .rfl)
    (by intro fd
        show _ ⊢ iprop(got m c (chip c) ∗ back m c (chip c))
        rw [landed_at _ _ _ _ (fin_read m c c (holder_chip c) _ _ _ (k0_off1_inb c) (off1 c) (off1 c)), at1_set _ _ _ (off1 c), at0_set _ _ _ (off1 c)]; unfold got back; exact .rfl)
  rw [at0_set _ _ _ (off1 c)] at h
  unfold back
  exact h

/-- A wait. -/
theorem await (c : Dev nD) (K : Dev nD × Fin 7 → ℕ) (P A C : Finset (Fin 7)) (j : Fin 7) (hA : j ∈ A) (hC : j ∈ C)
    {w : TpuEff nD τ sig (Elt F) Λ₀ .tc PUnit} {sm : SemLoc sig} {k' : ℕ} (hS : sm = (proto m).osem j) (hN : k' = units)
    (hw : ∀ R : PUnit → sProp 𝕄, wpE (defs₀ (F := F)) Variants.none (c.tc : Thread nD τ) none Set.univ w R = waitSpec (c.tc : Thread nD τ) Set.univ sm k' R)
    {k : PUnit → Prog (TpuEff nD τ sig (Elt F) Λ₀ .tc) PUnit} {Q : PUnit → sProp 𝕄} :
    hold m c K P A C []
      ⊢ iprop(((hold m c K P (A.erase j) (C.erase j) [] ∗ pay m c j) -∗ wp frame (wpE (defs₀ (F := F)) Variants.none (c.tc : Thread nD τ) none) Set.univ (k ⟨⟩) Q)
        -∗ wp frame (wpE (defs₀ (F := F)) Variants.none (c.tc : Thread nD τ) none) Set.univ (.op w k) Q) :=
  (proto m).held_wait (defs₀ := defs₀ (F := F)) K c P A C [] j hA hC (by simp) hS hN hw

theorem pay3 (c : Dev nD) : pay m (peer0 c) 3 = got m (peer0 c) (chip c) := congrArg (fun d => got m (peer0 c) (chip d)) (peer0.left_inv c)
theorem slot3 (c : Dev nD) : slot (F := F) (peer0 c) 3 = gap (peer0 c) (chip c) := congrArg (fun d => gap (F := F) (peer0 c) (chip d)) (peer0.left_inv c)
theorem pay4 (c : Dev nD) : pay m (peer1 c) 4 = got m (peer1 c) (chip c) := congrArg (fun d => got m (peer1 c) (chip d)) (peer1.left_inv c)
theorem slot4 (c : Dev nD) : slot (F := F) (peer1 c) 4 = gap (peer1 c) (chip c) := congrArg (fun d => gap (F := F) (peer1 c) (chip d)) (peer1.left_inv c)
theorem pay5 (c : Dev nD) : pay m (peer2 c) 5 = got m (peer2 c) (chip c) := congrArg (fun d => got m (peer2 c) (chip d)) (peer2.left_inv c)
theorem slot5 (c : Dev nD) : slot (F := F) (peer2 c) 5 = gap (peer2 c) (chip c) := congrArg (fun d => gap (F := F) (peer2 c) (chip d)) (peer2.left_inv c)

/-- A device's kernel, from its array and its tokens. -/
theorem body (c : Dev nD) (K : Dev nD × Fin 7 → ℕ) :
    iprop(hold m c K Finset.univ Finset.univ [(3 : Fin 7), 4, 5].toFinset [3, 4, 5] ∗ keep m c)
      ⊢ wp frame (wpE (defs₀ (F := F)) Variants.none (c.tc : Thread nD τ) none) Set.univ
          (cc0_scatter_shards (Memref.whole main_arg0) (Memref.isWhole_whole _) (Memref.whole main_v1) (Memref.isWhole_whole _) cc0_scratch0 cc0_scratch1 cc0_scratch2) fun _ =>
        iprop(done m c ∗ ∃ (P C : Finset (Fin 7)), hold m c K P ∅ C []) := by
  have hq0 : keep m c = iprop(back m c (chip c) ∗ back m c (chip (peer0 c)) ∗ back m c (chip (peer1 c)) ∗ back m c (chip (peer2 c))) := quarters0 c _
  have hq1 : iprop((c.tc : Thread nD τ).loc main_v1 ↦{fullShare} fin m c)
      = iprop(got m c (chip c) ∗ got m c (chip (peer0 c)) ∗ got m c (chip (peer1 c)) ∗ got m c (chip (peer2 c))) := quarters1 c _
  have hp0 : pay m c 0 ⊢ back m c (chip (peer0 c)) := .rfl
  have hp3 : pay m c 3 ⊢ got m c (chip (peer0 c)) := .rfl
  have hp1 : pay m c 1 ⊢ back m c (chip (peer1 c)) := .rfl
  have hp4 : pay m c 4 ⊢ got m c (chip (peer1 c)) := .rfl
  have hp2 : pay m c 2 ⊢ back m c (chip (peer2 c)) := .rfl
  have hp5 : pay m c 5 ⊢ got m c (chip (peer2 c)) := .rfl
  have hp6 : pay m c 6 ⊢ iprop(got m c (chip c) ∗ back m c (chip c)) := .rfl
  rw [cc0_scatter_shards_eq_skeleton]; unfold cc0_scatter_shards_skel
  rw [k0_part1_eq_skeleton, k0_part2_eq_skeleton, k0_part3_eq_skeleton, k0_part4_eq_skeleton]; unfold k0_part1_skel k0_part2_skel k0_part3_skel k0_part4_skel
  simp only [Prog.lift, Prog.bind_op, Prog.bind_ret, Prog.pure_eq_ret, wp_deviceId]
  rw [hq0]
  iintro ⟨Hh, Hm, H0, H1, H2⟩
  iapply (copy m c K Finset.univ Finset.univ [(3 : Fin 7), 4, 5].toFinset [3, 4, 5] (by decide) (by decide) rfl rfl) $$ [Hh Hm]
  · isplitl [Hh] <;> iassumption
  iintro Hh
  iapply (send m c K (Finset.univ.erase 6) Finset.univ (insert 6 [(3 : Fin 7), 4, 5].toFinset) [4, 5] 0 3 (peer0 c) rfl rfl (by decide) (by decide) (by decide) (holder_peer0 c) rfl (pay3 m c) (slot3 c)
    _ _ _ _ (off1 c) (off2 c) rfl rfl rfl (by routes)) $$ [Hh H0]
  · isplitl [Hh] <;> iassumption
  iintro Hh
  iapply (send m c K (((Finset.univ.erase 6).erase 0).erase 3) Finset.univ (insert 0 (insert 6 [(3 : Fin 7), 4, 5].toFinset)) [5] 1 4 (peer1 c) rfl rfl (by decide) (by decide) (by decide) (holder_peer1 c) rfl (pay4 m c) (slot4 c)
    _ _ _ _ (off1 c) (off3 c) rfl rfl rfl (by routes)) $$ [Hh H1]
  · isplitl [Hh] <;> iassumption
  iintro Hh
  iapply (send m c K (((((Finset.univ.erase 6).erase 0).erase 3).erase 1).erase 4) Finset.univ (insert 1 (insert 0 (insert 6 [(3 : Fin 7), 4, 5].toFinset))) [] 2 5 (peer2 c) rfl rfl (by decide) (by decide) (by decide) (holder_peer2 c) rfl (pay5 m c) (slot5 c)
    _ _ _ _ (off1 c) (off4 c) rfl rfl rfl (by routes)) $$ [Hh H2]
  · isplitl [Hh] <;> iassumption
  iintro Hh
  iapply (await m c K (((((((Finset.univ.erase 6).erase 0).erase 3).erase 1).erase 4).erase 2).erase 5) Finset.univ (insert 2 (insert 1 (insert 0 (insert 6 [(3 : Fin 7), 4, 5].toFinset)))) 3 (by decide) (by decide) rfl rfl (fun _ => rfl)) $$ Hh
  iintro ⟨Hh, G0⟩
  iapply (await m c K (((((((Finset.univ.erase 6).erase 0).erase 3).erase 1).erase 4).erase 2).erase 5) (Finset.univ.erase 3) ((insert 2 (insert 1 (insert 0 (insert 6 [(3 : Fin 7), 4, 5].toFinset)))).erase 3) 4 (by decide) (by decide) rfl rfl (fun _ => rfl)) $$ Hh
  iintro ⟨Hh, G1⟩
  iapply (await m c K (((((((Finset.univ.erase 6).erase 0).erase 3).erase 1).erase 4).erase 2).erase 5) ((Finset.univ.erase 3).erase 4) (((insert 2 (insert 1 (insert 0 (insert 6 [(3 : Fin 7), 4, 5].toFinset)))).erase 3).erase 4) 5 (by decide) (by decide) rfl rfl (fun _ => rfl)) $$ Hh
  iintro ⟨Hh, G2⟩
  iapply (await m c K (((((((Finset.univ.erase 6).erase 0).erase 3).erase 1).erase 4).erase 2).erase 5) (((Finset.univ.erase 3).erase 4).erase 5) ((((insert 2 (insert 1 (insert 0 (insert 6 [(3 : Fin 7), 4, 5].toFinset)))).erase 3).erase 4).erase 5) 0 (by decide) (by decide) rfl rfl (fun _ => rfl)) $$ Hh
  iintro ⟨Hh, H0⟩
  iapply (await m c K (((((((Finset.univ.erase 6).erase 0).erase 3).erase 1).erase 4).erase 2).erase 5) ((((Finset.univ.erase 3).erase 4).erase 5).erase 0) (((((insert 2 (insert 1 (insert 0 (insert 6 [(3 : Fin 7), 4, 5].toFinset)))).erase 3).erase 4).erase 5).erase 0) 1 (by decide) (by decide) rfl rfl (fun _ => rfl)) $$ Hh
  iintro ⟨Hh, H1⟩
  iapply (await m c K (((((((Finset.univ.erase 6).erase 0).erase 3).erase 1).erase 4).erase 2).erase 5) (((((Finset.univ.erase 3).erase 4).erase 5).erase 0).erase 1) ((((((insert 2 (insert 1 (insert 0 (insert 6 [(3 : Fin 7), 4, 5].toFinset)))).erase 3).erase 4).erase 5).erase 0).erase 1) 2 (by decide) (by decide) rfl rfl (fun _ => rfl)) $$ Hh
  iintro ⟨Hh, H2⟩
  iapply (await m c K (((((((Finset.univ.erase 6).erase 0).erase 3).erase 1).erase 4).erase 2).erase 5) ((((((Finset.univ.erase 3).erase 4).erase 5).erase 0).erase 1).erase 2) (((((((insert 2 (insert 1 (insert 0 (insert 6 [(3 : Fin 7), 4, 5].toFinset)))).erase 3).erase 4).erase 5).erase 0).erase 1).erase 2) 6 (by decide) (by decide) rfl rfl (fun _ => rfl)) $$ Hh
  iintro ⟨Hh, Hm⟩
  ihave H0 := hp0 $$ H0
  ihave G0 := hp3 $$ G0
  ihave H1 := hp1 $$ H1
  ihave G1 := hp4 $$ G1
  ihave H2 := hp2 $$ H2
  ihave G2 := hp5 $$ G2
  ihave Hm := hp6 $$ Hm
  icases Hm with ⟨Gm, Hm⟩
  rw [wp_ret]; imodintro
  isplitr [Hh]
  · unfold done
    rw [hq0, hq1]
    isplitl [Hm H0 H1 H2]
    · isplitl [Hm]; · iexact Hm
      isplitl [H0]; · iexact H0
      isplitl [H1] <;> iassumption
    · isplitl [Gm]; · iexact Gm
      isplitl [G0]; · iexact G0
      isplitl [G1] <;> iassumption
  iexists _, _
  iexact Hh

/-- The run: every device's result is its chip's shard of the four chips' gradients, its array is unchanged, and all
    semaphores are back at zero. -/
theorem run [∀ e, Nonempty (Elt F e)] (ρ : Dev nD → PrngReg) :
    θ_run (defs (F := F)) (onTc (τ := τ) (main (F := F))) ⟨m, fun _ => 0, ρ⟩ fun r =>
      (∀ c : Dev nD, r.2.mem ((c.tc : Thread nD τ).loc main_v1) = fin m c
        ∧ r.2.mem ((c.tc : Thread nD τ).loc main_arg0) = m ((c.tc : Thread nD τ).loc main_arg0)) ∧ r.2.sem = fun _ => 0 := by
  haveI : IsEmpty (Fin cfg0.W) := ⟨fun w => w.elim0⟩
  refine (proto m).run cfg0 N_0 defs₀ cellOf_inj (show Pipeline.OwnSemFacts cfg0.spec sems by decide) (fun c => scopedRest0_eq c) m ρ main (fun c => rfl) (by decide) [3, 4, 5] (by decide)
    (keep m) (done m) ?_ (fun c K t => body m c K) (fun c s => s.mem ((c.tc : Thread nD τ).loc main_v1) = fin m c
        ∧ s.mem ((c.tc : Thread nD τ).loc main_arg0) = m ((c.tc : Thread nD τ).loc main_arg0)) ?_
  · intro c
    have h0 : unscopedBufs c (fun b => m ((c.tc : Thread nD τ).loc b)) = iprop(keep m c ∗ (c.tc : Thread nD τ).loc main_v1 ↦{fullShare} m ((c.tc : Thread nD τ).loc main_v1)) :=
      (unscopedBufs_eq_rest cfg0.spec c _).trans (unscopedRest0_eq c _)
    have h1 : bigSep Finset.univ ((proto m).slot c) = listSep (slot c) [0, 1, 2, 3, 4, 5, 6] := bigSep_list _ _ (by decide) _ (by decide)
    have h2 : listSep (slot (F := F) c) [0, 1, 2, 3, 4, 5, 6] = iprop(emp ∗ emp ∗ emp ∗ gap c (chip (peer0 c)) ∗ gap c (chip (peer1 c)) ∗ gap c (chip (peer2 c)) ∗ gap c (chip c) ∗ emp) := rfl
    rw [h0, h1, h2, quarters1]
    unfold gap
    iintro ⟨Hk, Hm, H0, H1, H2⟩
    isplitl [Hk]; · iexact Hk
    isplitr; · iempintro
    isplitr; · iempintro
    isplitr; · iempintro
    isplitl [H0]; · iexists _; iexact H0
    isplitl [H1]; · iexists _; iexact H1
    isplitl [H2]; · iexists _; iexact H2
    isplitl; · iexists _; iexact Hm
    iempintro
  · intro c s'
    unfold done keep
    iintro ⟨⟨Ha, Hv⟩, HSI⟩
    icombine HSI Ha gives %ha
    icombine HSI Hv gives %hv
    imodintro
    isplitr
    · ipureintro
      exact ⟨Buf.eq_of_forall_mem_univ hv, Buf.eq_of_forall_mem_univ ha⟩
    iexact HSI

end Cert.ScatterProof

end
-- ==== Proof.ScatterValue.lean ====
/-
What the scattering's reference says of a device's block, and that the kernel's run ends there.
-/
module

public import proofs.«01_k».proof.Proof.ScatterRun
public import proofs.«01_k».proof.Proof.Gen.ScatterRefIdeal
public import Idealize.ShloMosaic.Lib.Pipeline.Value

@[expose] public section

set_option Elab.async false

noncomputable section

namespace Cert.ScatterProof

open Cert.ScatterRefIdeal Cert.ScatterRefIdeal.Gen
open Idealize.ShloMosaic Idealize.ShloMosaic.TcCoe Idealize.ShloMosaic.ValueIdx

variable {α : Type}

/-- The reference's result as a function of its argument. -/
def refTerm (x : S32x3137x1024.Idx → α) : S32x3137x1024.Idx → α :=
  shapeCast S32x3137x1024 (transpose S4x2x4x3137x1024 [2, 1, 0, 3, 4] (shapeCast S4x2x4x3137x1024 x shapeCasts_S32x3137x1024_S4x2x4x3137x1024)
    transposes_S4x2x4x3137x1024_S4x2x4x3137x1024_2_1_0_3_4) shapeCasts_S4x2x4x3137x1024_S32x3137x1024

/-- The reference at an index: shard `s` of device `2k + b` is what device `2s + b` holds for chip `k`. -/
theorem refTerm_apply (x : S32x3137x1024.Idx → α) (k : Fin 4) (b : Fin 2) (s : Fin 4) (r : Fin 3137) (w : Fin 1024) :
    refTerm x (ix3 (⟨(2 * k.val + b.val) * 4 + s.val, by omega⟩ : Fin 32) r w) = x (ix3 (⟨(2 * s.val + b.val) * 4 + k.val, by omega⟩ : Fin 32) r w) := by
  unfold refTerm
  rw [shapeCast_apply (k := ix5 k b s r w) (hk := by
    rw [Shape.rowMajor_val_three, Shape.rowMajor_val_five]
    show (((k.val * 2 + b.val) * 4 + s.val) * 3137 + r.val) * 1024 + w.val = (((2 * k.val + b.val) * 4 + s.val) * 3137 + r.val) * 1024 + w.val
    omega)]
  rw [transpose_apply (k := ix5 s b k r w) (hk := fun d => match d with | ⟨0, _⟩ => rfl | ⟨1, _⟩ => rfl | ⟨2, _⟩ => rfl | ⟨3, _⟩ => rfl | ⟨4, _⟩ => rfl)]
  rw [shapeCast_apply (k := ix3 (⟨(2 * s.val + b.val) * 4 + k.val, by omega⟩ : Fin 32) r w) (hk := by
    rw [Shape.rowMajor_val_three, Shape.rowMajor_val_five]
    show (((2 * s.val + b.val) * 4 + k.val) * 3137 + r.val) * 1024 + w.val = (((s.val * 2 + b.val) * 4 + k.val) * 3137 + r.val) * 1024 + w.val
    omega)]

variable {F : FTy → Type} [FloatOps F]

/-- What a device's result ends as, when the devices' arrays are the blocks of a whole array `x`: its block of the
    reference's result. -/
theorem fin_eq (m : (ℓ : Loc Cert.ScatterIdeal.nD Cert.ScatterIdeal.τ Cert.ScatterIdeal.sig) → Buf (Elt F) ℓ) (x : S32x3137x1024.Idx → Elt F .bf16)
    (hx : ∀ c : Dev Cert.ScatterIdeal.nD, m ((c.tc : Thread _ _).loc Cert.ScatterIdeal.main_arg0) = Layout.block ⟨3, ![4, 3137, 1024]⟩ ⟨3, ![32, 3137, 1024]⟩ 0 8 c x)
    (c : Dev Cert.ScatterIdeal.nD) :
    fin m c = Layout.block ⟨3, ![4, 3137, 1024]⟩ ⟨3, ![32, 3137, 1024]⟩ 0 8 c (refTerm x) := by
  funext i
  obtain ⟨s, r, w, rfl⟩ : ∃ (s : Fin 4) (r : Fin 3137) (w : Fin 1024), i = ix3 s r w := ⟨i 0, i 1, i 2, eq_ix3 i⟩
  have hc : c.val < 8 := c.isLt
  have h := refTerm_apply x (⟨c.val / 2, by omega⟩ : Fin 4) (⟨c.val % 2, by omega⟩ : Fin 2) s r w
  rw [Layout.block_apply]
  show m (((holder c s).tc : Thread _ _).loc Cert.ScatterIdeal.main_arg0) (ix3 (chip c) r w) = _
  rw [hx, Layout.block_apply]
  have e1 : ((by decide : Layout.Tiles ⟨3, ![4, 3137, 1024]⟩ ⟨3, ![32, 3137, 1024]⟩ 0 8).idx c (ix3 s r w))
      = ix3 (⟨(2 * (c.val / 2) + c.val % 2) * 4 + s.val, by omega⟩ : Fin 32) r w := by
    funext a; refine Fin.ext ?_
    match a with
    | ⟨0, _⟩ => show c.val * 4 + s.val = (2 * (c.val / 2) + c.val % 2) * 4 + s.val; omega
    | ⟨1, _⟩ => rfl
    | ⟨2, _⟩ => rfl
  have e2 : ((by decide : Layout.Tiles ⟨3, ![4, 3137, 1024]⟩ ⟨3, ![32, 3137, 1024]⟩ 0 8).idx (holder c s) (ix3 (chip c) r w))
      = ix3 (⟨(2 * s.val + c.val % 2) * 4 + c.val / 2, by omega⟩ : Fin 32) r w := by
    funext a; refine Fin.ext ?_
    match a with
    | ⟨0, _⟩ => rfl
    | ⟨1, _⟩ => rfl
    | ⟨2, _⟩ => rfl
  exact (congrArg x e2).trans (h.symm.trans (congrArg (refTerm x) e1.symm))

end Cert.ScatterProof

end
-- ==== Proof.ScatterClaims.lean ====
/-
The claims about the scattering: every program of it runs to its end with its arguments unchanged and all semaphores at zero,
and each device's result is its block of the reference's.
-/
module

public import proofs.«01_k».proof.Defs
public import proofs.«01_k».proof.Proof.ScatterValue
public import proofs.«01_k».proof.Proof.Gen.Scatter
public import proofs.«01_k».proof.Proof.Gen.ScatterRefIdeal.Run
public import proofs.«01_k».proof.Proof.Gen.ScatterRef.Run
public import Idealize.ShloMosaic.Lib.Quiescent

@[expose] public section

set_option Elab.async false

noncomputable section

namespace Cert.ScatterProof

open Idealize.ShloMosaic Idealize.ShloMosaic.TcCoe Idealize.SL.Sem

/-- The kernel runs to its end: the array unchanged, the semaphores at zero. -/
theorem frame : Cert.quiescent_Scatter := fun m g _ =>
  (θ_run (Cert.ScatterIdeal.defs (F := Bits)) _ _).mono (fun _ h => ⟨fun c => (h.1 c).2, h.2⟩) (run (F := Bits) m g)

/-- The same of the ideal kernel. -/
theorem frame_ideal : Cert.quiescent_ScatterIdeal := fun m g _ =>
  (θ_run (Cert.ScatterIdeal.defs (F := Ideal)) _ _).mono (fun _ h => ⟨fun c => (h.1 c).2, h.2⟩) (run (F := Ideal) m g)

/-- The same of the ideal reference. -/
theorem frame_ref_ideal : Cert.quiescent_ScatterRefIdeal := fun m g _ =>
  (θ_run (Cert.ScatterRefIdeal.defs (F := Ideal)) _ _).mono (fun r h => ⟨fun c => (h c).2, sem_eq_zero_of_no_sems rfl r.2⟩)
    (Cert.ScatterRefIdeal.Value.run (F := Ideal) m g)

/-- The same of the reference. -/
theorem frame_ref : Cert.quiescent_ScatterRef := fun m g _ =>
  (θ_run (Cert.ScatterRef.defs (F := Bits)) _ _).mono (fun r h => ⟨fun c => (h c).2, sem_eq_zero_of_no_sems rfl r.2⟩)
    (Cert.ScatterRef.Value.run (F := Bits) m g)

/-- Over the extended reals the kernel leaves each device with its block of the reference's result. -/
theorem value_ideal : Cert.algebraic_ScatterIdeal_ScatterRefIdeal := fun m g m' g' _ hx =>
  ⟨refTerm (m' (((0 : Dev Cert.ScatterRefIdeal.nD).tc : Thread Cert.ScatterRefIdeal.nD Cert.ScatterRefIdeal.τ).loc Cert.ScatterRefIdeal.main_arg0)),
    (θ_run (Cert.ScatterIdeal.defs (F := Ideal)) _ _).mono (fun _ h c => ⟨(h.1 c).1.trans (fin_eq m _ hx c), (h.1 c).2⟩) (run (F := Ideal) m g),
    (θ_run (Cert.ScatterRefIdeal.defs (F := Ideal)) _ _).mono (fun r h => ⟨(h 0).1, (h 0).2⟩) (Cert.ScatterRefIdeal.Value.run (F := Ideal) m' g')⟩

/-- The same bit for bit. -/
theorem value : Cert.bitexact_Scatter_ScatterRef := fun m g m' g' _ hx =>
  ⟨refTerm (m' (((0 : Dev Cert.ScatterRef.nD).tc : Thread Cert.ScatterRef.nD Cert.ScatterRef.τ).loc Cert.ScatterRef.main_arg0)),
    (θ_run (Cert.ScatterIdeal.defs (F := Bits)) _ _).mono (fun _ h c => ⟨(h.1 c).1.trans (fin_eq m _ hx c), (h.1 c).2⟩) (run (F := Bits) m g),
    (θ_run (Cert.ScatterRef.defs (F := Bits)) _ _).mono (fun r h => ⟨(h 0).1, (h 0).2⟩) (Cert.ScatterRef.Value.run (F := Bits) m' g')⟩

end Cert.ScatterProof

end
-- ==== Proof.ShareRun.lean ====
/-
The run of the sharing kernel. Every device holds its chip's gradients of one layer; it copies them into its own result
array at that layer and sends them to its core sibling's at the same place. Three cells per device: 0 is paid by the
device's own send when it has read the source, 1 by the sibling's when it has landed, 2 by the local copy.
-/
module

public import proofs.«01_k».proof.Proof.TalkParts
public import proofs.«01_k».proof.Proof.Gen.ShareIdeal
public import proofs.«01_k».proof.Proof.Gen.ShareIdeal.Skeleton
public import proofs.«01_k».proof.Proof.Gen.ShareIdeal.Launch
public import Idealize.ShloMosaic.Lib.ValueIdxCore
public import Idealize.ShloMosaic.Lib.ValueLayout

@[expose] public section

set_option Elab.async false

noncomputable section

namespace Cert.ShareProof

open Cert.ShareIdeal Cert.ShareIdeal.Gen Cert.Talk
open Idealize.ShloMosaic Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UU nD τ sig) ℕ

/-- The core sibling of a device. -/
def sib : Dev nD ≃ Dev nD where
  toFun c := ⟨k0_dev1 c, k0_dev1_lt c⟩
  invFun c := ⟨k0_dev1 c, k0_dev1_lt c⟩
  left_inv := by intro c; revert c; decide +kernel
  right_inv := by intro c; revert c; decide +kernel

theorem sib_sib (c : Dev nD) : sib (sib c) = c := sib.left_inv c

/-- The device of `c`'s chip that holds layer `l`. -/
def holder (c : Dev nD) (l : Fin 2) : Dev nD := ⟨2 * (c.val / 2) + l.val, by have := c.isLt; have : nD = 8 := rfl; omega⟩

theorem holder_self (c : Dev nD) : holder c (⟨c.val % 2, Nat.mod_lt _ (by decide)⟩ : Fin 2) = c :=
  Fin.ext (by show 2 * (c.val / 2) + c.val % 2 = c.val; omega)
theorem holder_sib (c : Dev nD) (l : Fin 2) : holder (sib c) l = holder c l := by revert c l; decide +kernel

abbrev src : Memref sig .tc .hbm S3137x1024 .f32 := Memref.whole main_arg0
/-- The place of device `c`'s layer in the result. -/
abbrev dst (c : Dev nD) : Memref sig .tc .hbm S3137x1024 .f32 :=
  ((Memref.whole main_v1).slice (Rect.unit (s := S2x3137x1024) (k0_off1 c) S1x3137x1024.size (k0_off1_inb c)) (fun _ => rfl)).squeeze S3137x1024 squeezes_S1x3137x1024_S3137x1024

variable (m : (ℓ : Loc nD τ sig) → Buf (Elt F) ℓ)

/-- What device `c`'s result ends as: at each layer, what that layer's holder holds. -/
def fin (c : Dev nD) : Buf (Elt F) ((c.tc : Thread nD τ).loc main_v1) :=
  fun (i : S2x3137x1024.Idx) => (m (((holder c (i 0)).tc : Thread nD τ).loc main_arg0) : S3137x1024.Idx → Elt F .f32) (ix2 (i 1 : Fin 3137) (i 2 : Fin 1024))

/-- Where a copied element lands. -/
theorem dst_emb (c : Dev nD) (r : Fin 3137) (w : Fin 1024) :
    (dst c).view.emb (ix2 r w) = (ix3 (⟨c.val % 2, Nat.mod_lt _ (by decide)⟩ : Fin 2) r w : S2x3137x1024.Idx) := by
  show (Rect.unit (s := S2x3137x1024) (k0_off1 c) S1x3137x1024.size (k0_off1_inb c)).emb
      (Shape.reshapeEquiv (Shape.Squeezes.numel_eq squeezes_S1x3137x1024_S3137x1024) (ix2 r w)) = _
  rw [reshapeEquiv_ix2_1ab]
  refine funext fun a => Fin.ext ?_
  have h0 := fun a => congrFun (k0_off1_eq c) a
  match a with
  | ⟨0, _⟩ => exact (Nat.add_zero _).trans (h0 0)
  | ⟨1, _⟩ => exact (congrArg (· + 1 * r.val) (h0 1)).trans (by show 0 + 1 * r.val = r.val; omega)
  | ⟨2, _⟩ => exact (congrArg (· + 1 * w.val) (h0 2)).trans (by show 0 + 1 * w.val = w.val; omega)

/-- The final contents read, at a layer, as what its holder holds. -/
theorem fin_read (c c' : Dev nD) (h : holder c' (⟨c.val % 2, Nat.mod_lt _ (by decide)⟩ : Fin 2) = c) :
    (dst c).view.read (Elt F) (fin m c') = src.view.read (Elt F) (m ((c.tc : Thread nD τ).loc main_arg0)) := by
  funext i
  obtain ⟨r, w, rfl⟩ : ∃ (r : Fin 3137) (w : Fin 1024), i = ix2 r w := ⟨i 0, i 1, eq_ix2 i⟩
  show fin m c' ((dst c).view.emb (ix2 r w)) = m ((c.tc : Thread nD τ).loc main_arg0) (ix2 r w)
  rw [dst_emb]
  show m (((holder c' _).tc : Thread nD τ).loc main_arg0) (ix2 r w) = _
  rw [h]

/-- The layer of an element of the result. -/
def lab (i : S2x3137x1024.Idx) : Fin 2 := i 0

theorem dst_set (c : Dev nD) : (dst c).view.set = part lab (⟨c.val % 2, Nat.mod_lt _ (by decide)⟩ : Fin 2) := by
  refine (View.set_reshape _ _).trans ((View.set_slice_whole main_v1 _).trans ?_)
  ext i
  rw [mem_part, Rect.mem_set_unit]
  have h0 := fun a => congrFun (k0_off1_eq c) a
  have e0 : k0_off1 c (0 : Fin 3) = c.val % 2 := h0 0
  have e1 : k0_off1 c (1 : Fin 3) = 0 := h0 1
  have e2 : k0_off1 c (2 : Fin 3) = 0 := h0 2
  constructor
  · intro h
    have h1 : k0_off1 c (0 : Fin 3) ≤ (i (0 : Fin 3)).val := (h (0 : Fin 3)).1
    have h2 : (i (0 : Fin 3)).val < k0_off1 c (0 : Fin 3) + 1 := (h (0 : Fin 3)).2
    refine Fin.ext ?_
    show (i (0 : Fin 3)).val = c.val % 2
    omega
  · intro h a
    have hi : (i (0 : Fin 3)).val = c.val % 2 := congrArg Fin.val h
    match a with
    | ⟨0, _⟩ => show k0_off1 c (0 : Fin 3) ≤ (i (0 : Fin 3)).val ∧ (i (0 : Fin 3)).val < k0_off1 c (0 : Fin 3) + 1; omega
    | ⟨1, _⟩ => show k0_off1 c (1 : Fin 3) ≤ (i (1 : Fin 3)).val ∧ (i (1 : Fin 3)).val < k0_off1 c (1 : Fin 3) + 3137
                have : (i (1 : Fin 3)).val < 3137 := (i (1 : Fin 3)).isLt
                omega
    | ⟨2, _⟩ => show k0_off1 c (2 : Fin 3) ≤ (i (2 : Fin 3)).val ∧ (i (2 : Fin 3)).val < k0_off1 c (2 : Fin 3) + 1024
                have : (i (2 : Fin 3)).val < 1024 := (i (2 : Fin 3)).isLt
                omega

/-- The result is the place of the device's own layer and that of its sibling's. -/
theorem halves (c : Dev nD) (f : Buf (Elt F) ((c.tc : Thread nD τ).loc main_v1)) :
    ((c.tc : Thread nD τ).loc main_v1 ↦{fullShare} f : sProp 𝕄)
      = iprop(((c.tc : Thread nD τ).loc main_v1 ↦[(dst (sib c)).view.set]{fullShare} f) ∗ ((c.tc : Thread nD τ).loc main_v1 ↦[(dst c).view.set]{fullShare} f)) := by
  have hd : ∀ c : Dev nD, [(⟨(sib c).val % 2, Nat.mod_lt _ (by decide)⟩ : Fin 2), ⟨c.val % 2, Nat.mod_lt _ (by decide)⟩].Nodup
      ∧ (Finset.univ : Finset (Fin 2)) = [(⟨(sib c).val % 2, Nat.mod_lt _ (by decide)⟩ : Fin 2), ⟨c.val % 2, Nat.mod_lt _ (by decide)⟩].toFinset := by decide +kernel
  rw [dst_set, dst_set, pointsTo_parts (ℓ := (c.tc : Thread nD τ).loc main_v1) lab, bigSep_list _ _ (hd c).1 _ (hd c).2]
  unfold listSep; rw [listSep_one]

/-- What the wait for cell `k` gives: the source's share back, or the filled layer. -/
def pay (c : Dev nD) (k : Fin 3) : sProp 𝕄 :=
  if k = 0 then iprop((c.tc : Thread nD τ).loc main_arg0 ↦{fullShare.right} m ((c.tc : Thread nD τ).loc main_arg0))
  else if k = 1 then iprop((c.tc : Thread nD τ).loc main_v1 ↦[(dst (sib c)).view.set]{fullShare} fin m c)
  else iprop(((c.tc : Thread nD τ).loc main_v1 ↦[(dst c).view.set]{fullShare} fin m c) ∗ (c.tc : Thread nD τ).loc main_arg0 ↦{fullShare.left} m ((c.tc : Thread nD τ).loc main_arg0))

instance pay_storable (c : Dev nD) (k : Fin 3) : BI.Storable (upEmb : UEmb _ 𝕄) (pay m c k) := by
  unfold pay; split; · infer_instance
  split <;> infer_instance

/-- The area a device gives away: the two layers of its result, for cells 1 and 2. -/
def slot (c : Dev nD) (k : Fin 3) : sProp 𝕄 :=
  if k = 0 then iprop(emp)
  else if k = 1 then iprop(∃ f : Buf (Elt F) ((c.tc : Thread nD τ).loc main_v1), (c.tc : Thread nD τ).loc main_v1 ↦[(dst (sib c)).view.set]{fullShare} f)
  else iprop(∃ f : Buf (Elt F) ((c.tc : Thread nD τ).loc main_v1), (c.tc : Thread nD τ).loc main_v1 ↦[(dst c).view.set]{fullShare} f)

abbrev sems : Fin 3 → SemLoc sig := ![.dma cc0_scratch0.sem, .dma cc0_scratch1.sem, .dma cc0_scratch2.sem]

/-- The protocol. -/
def proto : Proto nD τ sig (Elt F) 3 where
  osem := sems
  inj := by decide
  tgt := ![Equiv.refl _, sib, Equiv.refl _]
  amt _ := src.view.dmaCredit
  amt_pos _ := View.dmaCredit_pos _ (by decide)
  pay := pay m
  stor := pay_storable m
  slot := slot
  lvl _ := 0

def keep (c : Dev nD) : sProp 𝕄 := iprop((c.tc : Thread nD τ).loc main_arg0 ↦{fullShare} m ((c.tc : Thread nD τ).loc main_arg0))
def done (c : Dev nD) : sProp 𝕄 := iprop(keep m c ∗ (c.tc : Thread nD τ).loc main_v1 ↦{fullShare} fin m c)

/-- A device's kernel, from its array and its tokens. -/
theorem body (c : Dev nD) (K : Dev nD × Fin 3 → ℕ) :
    iprop((proto m).held K c Finset.univ Finset.univ [(1 : Fin 3)].toFinset [1] ∗ keep m c)
      ⊢ wp frame (wpE (defs₀ (F := F)) Variants.none (c.tc : Thread nD τ) none) Set.univ
          (cc0_share_layers (Memref.whole main_arg0) (Memref.isWhole_whole _) (Memref.whole main_v1) (Memref.isWhole_whole _) cc0_scratch0 cc0_scratch1 cc0_scratch2) fun _ =>
        iprop(done m c ∗ ∃ (P C : Finset (Fin 3)), (proto m).held K c P ∅ C []) := by
  have hsplit : keep m c ⊢ iprop(((c.tc : Thread nD τ).loc main_arg0 ↦{fullShare.left} m ((c.tc : Thread nD τ).loc main_arg0))
      ∗ ((c.tc : Thread nD τ).loc main_arg0 ↦{fullShare.right} m ((c.tc : Thread nD τ).loc main_arg0))) :=
    (pointsTo_share (PosShare.mem_left_op_right fullShare)).1
  have hjoin : iprop(((c.tc : Thread nD τ).loc main_arg0 ↦{fullShare.left} m ((c.tc : Thread nD τ).loc main_arg0))
      ∗ ((c.tc : Thread nD τ).loc main_arg0 ↦{fullShare.right} m ((c.tc : Thread nD τ).loc main_arg0))) ⊢ keep m c :=
    (pointsTo_share (PosShare.mem_left_op_right fullShare)).2
  have hcopy := fun k Q => (proto m).held_copy (defs₀ := defs₀ (F := F)) (α := PUnit) (Q := Q) K c Finset.univ Finset.univ [(1 : Fin 3)].toFinset [1] 2 rfl
    (by decide) (by decide) (src := src) (dst := dst c) (sem := .dma cc0_scratch2.sem) rfl
    (hsrc := (Memref.isWhole_whole _).wordExact) (hdst := ((View.wordExact_bits rfl).reshape _ _)) (hsem := ⟨Or.inl rfl, trivial⟩) (k := k)
    (q := fullShare.left) (fs := m ((c.tc : Thread nD τ).loc main_arg0)) rfl
    (by show slot c 2 ⊢ _
        unfold slot; rw [if_neg (by decide), if_neg (by decide)])
    (by intro fd
        show _ ⊢ pay m c 2
        unfold pay; rw [if_neg (by decide), if_neg (by decide), landed_at _ _ _ _ (fin_read m c c (holder_self c)), View.set_whole])
  have hsend := fun k Q => (proto m).held_send (defs₀ := defs₀ (F := F)) (α := PUnit) (Q := Q) K c (Finset.univ.erase 2) Finset.univ (insert 2 [(1 : Fin 3)].toFinset) [] 0 1 (sib c) rfl rfl
    (by decide) (by decide) (by decide) (src := src) (dst := dst c) (hsc := rfl) (sS := .dma cc0_scratch0.sem) (sem := .dma cc0_scratch1.sem) rfl rfl
    (hsrc := (Memref.isWhole_whole _).wordExact) (hdst := ((View.wordExact_bits rfl).reshape _ _)) (hsem := ⟨⟨rfl, Or.inl rfl⟩, trivial⟩) (k := k)
    (q := fullShare.right) (fs := m ((c.tc : Thread nD τ).loc main_arg0)) rfl rfl
    (by show slot (sib c) 1 ⊢ _
        unfold slot; rw [if_neg (by decide), if_pos rfl, sib_sib])
    (by show _ ⊢ pay m c 0
        unfold pay; rw [if_pos rfl, View.set_whole])
    (by intro fd
        show _ ⊢ pay m (sib c) 1
        unfold pay; rw [if_neg (by decide), if_pos rfl, sib_sib, landed_at _ _ _ _ (fin_read m c (sib c) ((holder_sib c _).trans (holder_self c)))])
  have hwait := fun j A Q w hw (k : PUnit → Prog (TpuEff nD τ sig (Elt F) Λ₀ .tc) PUnit) P C h0 h1 hS hN => (proto m).held_wait (defs₀ := defs₀ (F := F)) (α := PUnit) (Q := Q) K c P A C [] j
    h0 h1 (by simp) (w := w) (sm := (proto m).osem j) (k' := src.view.dmaCredit) hS hN hw (k := k)
  have hpay0 : (proto m).pay c 0 ⊢ iprop((c.tc : Thread nD τ).loc main_arg0 ↦{fullShare.right} m ((c.tc : Thread nD τ).loc main_arg0)) := by
    show pay m c 0 ⊢ _
    unfold pay; rw [if_pos rfl]
  have hpay1 : (proto m).pay c 1 ⊢ iprop((c.tc : Thread nD τ).loc main_v1 ↦[(dst (sib c)).view.set]{fullShare} fin m c) := by
    show pay m c 1 ⊢ _
    unfold pay; rw [if_neg (by decide), if_pos rfl]
  have hpay2 : (proto m).pay c 2 ⊢ iprop(((c.tc : Thread nD τ).loc main_v1 ↦[(dst c).view.set]{fullShare} fin m c) ∗ (c.tc : Thread nD τ).loc main_arg0 ↦{fullShare.left} m ((c.tc : Thread nD τ).loc main_arg0)) := by
    show pay m c 2 ⊢ _
    unfold pay; rw [if_neg (by decide), if_neg (by decide)]
  rw [cc0_share_layers_eq_skeleton]; unfold cc0_share_layers_skel
  rw [k0_part1_eq_skeleton]; unfold k0_part1_skel
  simp only [Prog.lift, Prog.bind_op, Prog.bind_ret, Prog.pure_eq_ret, wp_deviceId]
  iintro ⟨Hh, Hk⟩
  ihave Hk := hsplit $$ Hk
  icases Hk with ⟨Hl, Hr⟩
  iapply (hcopy _ _) $$ [Hh Hl]
  · isplitl [Hh]; · iexact Hh
    rw [View.set_whole]; iexact Hl
  iintro Hh
  iapply (hsend _ _) $$ [Hh Hr]
  · isplitl [Hh]; · iexact Hh
    rw [View.set_whole]; iexact Hr
  iintro Hh
  iapply (hwait 0 _ _ _ (fun _ => rfl) _ _ _ (by decide) (by decide) rfl rfl) $$ Hh
  iintro ⟨Hh, Hr⟩
  iapply (hwait 1 _ _ _ (fun _ => rfl) _ _ _ (by decide) (by decide) rfl rfl) $$ Hh
  iintro ⟨Hh, Ht⟩
  iapply (hwait 2 _ _ _ (fun _ => rfl) _ _ _ (by decide) (by decide) rfl rfl) $$ Hh
  iintro ⟨Hh, Hm⟩
  ihave Hr := hpay0 $$ Hr
  ihave Ht := hpay1 $$ Ht
  ihave Hm := hpay2 $$ Hm
  icases Hm with ⟨Hm, Hl⟩
  rw [wp_ret]; imodintro
  isplitr [Hh]
  · unfold done
    isplitl [Hl Hr]
    · iapply hjoin
      isplitl [Hl] <;> iassumption
    rw [halves]
    isplitl [Ht] <;> iassumption
  iexists _, _
  iexact Hh

/-- The run: every device's result is its chip's two layers, its array is unchanged, and all semaphores are back at
    zero. -/
theorem run [∀ e, Nonempty (Elt F e)] (ρ : Dev nD → PrngReg) :
    θ_run (defs (F := F)) (onTc (τ := τ) (main (F := F))) ⟨m, fun _ => 0, ρ⟩ fun r =>
      (∀ c : Dev nD, r.2.mem ((c.tc : Thread nD τ).loc main_v1) = fin m c
        ∧ r.2.mem ((c.tc : Thread nD τ).loc main_arg0) = m ((c.tc : Thread nD τ).loc main_arg0)) ∧ r.2.sem = fun _ => 0 := by
  haveI : IsEmpty (Fin cfg0.W) := ⟨fun w => w.elim0⟩
  refine (proto m).run cfg0 N_0 defs₀ cellOf_inj (show Pipeline.OwnSemFacts cfg0.spec sems by decide) (fun c => scopedRest0_eq c) m ρ main (fun c => rfl) (by decide) [1] (by decide)
    (keep m) (done m) ?_ (fun c K t => body m c K) (fun c s => s.mem ((c.tc : Thread nD τ).loc main_v1) = fin m c
        ∧ s.mem ((c.tc : Thread nD τ).loc main_arg0) = m ((c.tc : Thread nD τ).loc main_arg0)) ?_
  · intro c
    have h0 : unscopedBufs c (fun b => m ((c.tc : Thread nD τ).loc b)) = iprop(keep m c ∗ (c.tc : Thread nD τ).loc main_v1 ↦{fullShare} m ((c.tc : Thread nD τ).loc main_v1)) :=
      (unscopedBufs_eq_rest cfg0.spec c _).trans (unscopedRest0_eq c _)
    have h1 : bigSep Finset.univ ((proto m).slot c) = listSep (slot c) [0, 1, 2] := bigSep_list _ _ (by decide) _ (by decide)
    rw [h0, h1, halves]
    unfold listSep listSep listSep listSep slot
    rw [if_pos rfl, if_neg (by decide), if_pos rfl, if_neg (by decide), if_neg (by decide)]
    iintro ⟨Hk, Ht, Hm⟩
    isplitl [Hk]; · iexact Hk
    isplitr; · iempintro
    isplitl [Ht]; · iexists _; iexact Ht
    isplitl; · iexists _; iexact Hm
    iempintro
  · intro c s'
    unfold done keep
    iintro ⟨⟨Ha, Hv⟩, HSI⟩
    icombine HSI Ha gives %ha
    icombine HSI Hv gives %hv
    imodintro
    isplitr
    · ipureintro
      exact ⟨Buf.eq_of_forall_mem_univ hv, Buf.eq_of_forall_mem_univ ha⟩
    iexact HSI

end Cert.ShareProof

end
-- ==== Proof.ShareValue.lean ====
/-
What the sharing's reference says of a device's block, and that the kernel's run ends there.
-/
module

public import proofs.«01_k».proof.Proof.ShareRun
public import proofs.«01_k».proof.Proof.Gen.ShareRefIdeal
public import Idealize.ShloMosaic.Lib.Pipeline.Value

@[expose] public section

set_option Elab.async false

noncomputable section

namespace Cert.ShareProof

open Cert.ShareRefIdeal Cert.ShareRefIdeal.Gen
open Idealize.ShloMosaic Idealize.ShloMosaic.TcCoe Idealize.ShloMosaic.ValueIdx

variable {α : Type}

/-- The reference's result as a function of its argument. -/
def refTerm (x : S25096x1024.Idx → α) : S8x3137x1024.Idx → α := shapeCast S8x3137x1024 x shapeCasts_S25096x1024_S8x3137x1024

/-- The reference at an index: block `d` of the rows. -/
theorem refTerm_apply (x : S25096x1024.Idx → α) (d : Fin 8) (r : Fin 3137) (w : Fin 1024) :
    refTerm x (ix3 d r w) = x (ix2 (⟨d.val * 3137 + r.val, by omega⟩ : Fin 25096) w) := by
  unfold refTerm
  rw [shapeCast_apply (k := ix2 (⟨d.val * 3137 + r.val, by omega⟩ : Fin 25096) w) (hk := by
    rw [Shape.rowMajor_val_three, Shape.rowMajor_val_two]; rfl)]

variable {F : FTy → Type} [FloatOps F]

/-- What a device's result ends as, when the devices' arrays are the blocks of a whole array `x`: its chip's block of
    the reference's result. -/
theorem fin_eq (m : (ℓ : Loc Cert.ShareIdeal.nD Cert.ShareIdeal.τ Cert.ShareIdeal.sig) → Buf (Elt F) ℓ) (x : S25096x1024.Idx → Elt F .f32)
    (hx : ∀ c : Dev Cert.ShareIdeal.nD, m ((c.tc : Thread _ _).loc Cert.ShareIdeal.main_arg0) = Layout.block ⟨2, ![3137, 1024]⟩ ⟨2, ![25096, 1024]⟩ 0 8 c x)
    (c : Dev Cert.ShareIdeal.nD) :
    fin m c = Layout.blockN ⟨3, ![2, 3137, 1024]⟩ ⟨3, ![8, 3137, 1024]⟩ (Layout.meshBlock [2, 2, 2] ![[0, 1], [], []] c) (refTerm x) := by
  funext i
  obtain ⟨l, r, w, rfl⟩ : ∃ (l : Fin 2) (r : Fin 3137) (w : Fin 1024), i = ix3 l r w := ⟨i 0, i 1, i 2, eq_ix3 i⟩
  have hc : c.val < 8 := c.isLt
  have h := refTerm_apply x (⟨2 * (c.val / 2) + l.val, by omega⟩ : Fin 8) r w
  rw [Layout.blockN_apply]
  show m (((holder c l).tc : Thread _ _).loc Cert.ShareIdeal.main_arg0) (ix2 r w) = _
  rw [hx, Layout.block_apply]
  have e1 : ((by decide : Layout.TilesN ⟨3, ![2, 3137, 1024]⟩ ⟨3, ![8, 3137, 1024]⟩ _).idx (Layout.meshBlock [2, 2, 2] ![[0, 1], [], []] c) (ix3 l r w))
      = ix3 (⟨2 * (c.val / 2) + l.val, by omega⟩ : Fin 8) r w := by
    funext a; refine Fin.ext ?_
    match a with
    | ⟨0, _⟩ => show (c.val / 4 % 2 * 2 + (c.val / 2 % 2 * 1 + 0)) * 2 + l.val = 2 * (c.val / 2) + l.val; omega
    | ⟨1, _⟩ => show 0 * 3137 + r.val = r.val; omega
    | ⟨2, _⟩ => show 0 * 1024 + w.val = w.val; omega
  have e2 : ((by decide : Layout.Tiles ⟨2, ![3137, 1024]⟩ ⟨2, ![25096, 1024]⟩ 0 8).idx (holder c l) (ix2 r w))
      = ix2 (⟨(2 * (c.val / 2) + l.val) * 3137 + r.val, by omega⟩ : Fin 25096) w := by
    funext a; refine Fin.ext ?_
    match a with
    | ⟨0, _⟩ => rfl
    | ⟨1, _⟩ => rfl
  exact (congrArg x e2).trans (h.symm.trans (congrArg (refTerm x) e1.symm))

end Cert.ShareProof

end
-- ==== Proof.ShareClaims.lean ====
/-
The claims about the sharing: every program of it runs to its end with its arguments unchanged and all semaphores at zero,
and each device's result is its block of the reference's.
-/
module

public import proofs.«01_k».proof.Defs
public import proofs.«01_k».proof.Proof.ShareValue
public import proofs.«01_k».proof.Proof.Gen.Share
public import proofs.«01_k».proof.Proof.Gen.ShareRefIdeal.Run
public import proofs.«01_k».proof.Proof.Gen.ShareRef.Run
public import Idealize.ShloMosaic.Lib.Quiescent

@[expose] public section

set_option Elab.async false

noncomputable section

namespace Cert.ShareProof

open Idealize.ShloMosaic Idealize.ShloMosaic.TcCoe Idealize.SL.Sem

/-- The kernel runs to its end: the array unchanged, the semaphores at zero. -/
theorem frame : Cert.quiescent_Share := fun m g _ =>
  (θ_run (Cert.ShareIdeal.defs (F := Bits)) _ _).mono (fun _ h => ⟨fun c => (h.1 c).2, h.2⟩) (run (F := Bits) m g)

/-- The same of the ideal kernel. -/
theorem frame_ideal : Cert.quiescent_ShareIdeal := fun m g _ =>
  (θ_run (Cert.ShareIdeal.defs (F := Ideal)) _ _).mono (fun _ h => ⟨fun c => (h.1 c).2, h.2⟩) (run (F := Ideal) m g)

/-- The same of the ideal reference. -/
theorem frame_ref_ideal : Cert.quiescent_ShareRefIdeal := fun m g _ =>
  (θ_run (Cert.ShareRefIdeal.defs (F := Ideal)) _ _).mono (fun r h => ⟨fun c => (h c).2, sem_eq_zero_of_no_sems rfl r.2⟩)
    (Cert.ShareRefIdeal.Value.run (F := Ideal) m g)

/-- The same of the reference. -/
theorem frame_ref : Cert.quiescent_ShareRef := fun m g _ =>
  (θ_run (Cert.ShareRef.defs (F := Bits)) _ _).mono (fun r h => ⟨fun c => (h c).2, sem_eq_zero_of_no_sems rfl r.2⟩)
    (Cert.ShareRef.Value.run (F := Bits) m g)

/-- Over the extended reals the kernel leaves each device with its block of the reference's result. -/
theorem value_ideal : Cert.algebraic_ShareIdeal_ShareRefIdeal := fun m g m' g' _ hx =>
  ⟨refTerm (m' (((0 : Dev Cert.ShareRefIdeal.nD).tc : Thread Cert.ShareRefIdeal.nD Cert.ShareRefIdeal.τ).loc Cert.ShareRefIdeal.main_arg0)),
    (θ_run (Cert.ShareIdeal.defs (F := Ideal)) _ _).mono (fun _ h c => ⟨(h.1 c).1.trans (fin_eq m _ hx c), (h.1 c).2⟩) (run (F := Ideal) m g),
    (θ_run (Cert.ShareRefIdeal.defs (F := Ideal)) _ _).mono (fun r h => ⟨(h 0).1, (h 0).2⟩) (Cert.ShareRefIdeal.Value.run (F := Ideal) m' g')⟩

/-- The same bit for bit. -/
theorem value : Cert.bitexact_Share_ShareRef := fun m g m' g' _ hx =>
  ⟨refTerm (m' (((0 : Dev Cert.ShareRef.nD).tc : Thread Cert.ShareRef.nD Cert.ShareRef.τ).loc Cert.ShareRef.main_arg0)),
    (θ_run (Cert.ShareIdeal.defs (F := Bits)) _ _).mono (fun _ h c => ⟨(h.1 c).1.trans (fin_eq m _ hx c), (h.1 c).2⟩) (run (F := Bits) m g),
    (θ_run (Cert.ShareRef.defs (F := Bits)) _ _).mono (fun r h => ⟨(h 0).1, (h 0).2⟩) (Cert.ShareRef.Value.run (F := Bits) m' g')⟩

end Cert.ShareProof

end
-- ==== Proof.lean ====
module

public import proofs.«01_k».proof.Defs
public import proofs.«01_k».proof.Proof.Gen.Swap
public import proofs.«01_k».proof.Proof.Gen.Swap.Skeleton
public import proofs.«01_k».proof.Proof.Gen.Swap.Launch
public import proofs.«01_k».proof.Proof.Gen.Swap.Points
public import proofs.«01_k».proof.Proof.Gen.Swap.Frame
public import proofs.«01_k».proof.Proof.Gen.SwapIdeal
public import proofs.«01_k».proof.Proof.Gen.SwapIdeal.Skeleton
public import proofs.«01_k».proof.Proof.Gen.SwapIdeal.Launch
public import proofs.«01_k».proof.Proof.Gen.SwapIdeal.Points
public import proofs.«01_k».proof.Proof.Gen.SwapIdeal.Frame
public import proofs.«01_k».proof.Proof.Gen.SwapRefIdeal
public import proofs.«01_k».proof.Proof.Gen.SwapRef
public import proofs.«01_k».proof.Proof.Gen.SwapRefIdeal.Run
public import proofs.«01_k».proof.Proof.Gen.SwapRef.Run
public import proofs.«01_k».proof.Proof.Gen.Gather
public import proofs.«01_k».proof.Proof.Gen.Gather.Skeleton
public import proofs.«01_k».proof.Proof.Gen.Gather.Launch
public import proofs.«01_k».proof.Proof.Gen.Gather.Points
public import proofs.«01_k».proof.Proof.Gen.Gather.Frame
public import proofs.«01_k».proof.Proof.Gen.GatherRef
public import proofs.«01_k».proof.Proof.Gen.GatherRef.Run
public import proofs.«01_k».proof.Proof.Gen.GatherIdeal
public import proofs.«01_k».proof.Proof.Gen.GatherIdeal.Skeleton
public import proofs.«01_k».proof.Proof.Gen.GatherIdeal.Launch
public import proofs.«01_k».proof.Proof.Gen.GatherIdeal.Points
public import proofs.«01_k».proof.Proof.Gen.GatherIdeal.Frame
public import proofs.«01_k».proof.Proof.Gen.GatherRefIdeal
public import proofs.«01_k».proof.Proof.Gen.GatherRefIdeal.Run
public import proofs.«01_k».proof.Proof.Gen.Scatter
public import proofs.«01_k».proof.Proof.Gen.Scatter.Skeleton
public import proofs.«01_k».proof.Proof.Gen.Scatter.Launch
public import proofs.«01_k».proof.Proof.Gen.Scatter.Points
public import proofs.«01_k».proof.Proof.Gen.Scatter.Frame
public import proofs.«01_k».proof.Proof.Gen.ScatterRef
public import proofs.«01_k».proof.Proof.Gen.ScatterRef.Run
public import proofs.«01_k».proof.Proof.Gen.ScatterIdeal
public import proofs.«01_k».proof.Proof.Gen.ScatterIdeal.Skeleton
public import proofs.«01_k».proof.Proof.Gen.ScatterIdeal.Launch
public import proofs.«01_k».proof.Proof.Gen.ScatterIdeal.Points
public import proofs.«01_k».proof.Proof.Gen.ScatterIdeal.Frame
public import proofs.«01_k».proof.Proof.Gen.ScatterRefIdeal
public import proofs.«01_k».proof.Proof.Gen.ScatterRefIdeal.Run
public import proofs.«01_k».proof.Proof.Gen.Share
public import proofs.«01_k».proof.Proof.Gen.Share.Skeleton
public import proofs.«01_k».proof.Proof.Gen.Share.Launch
public import proofs.«01_k».proof.Proof.Gen.Share.Points
public import proofs.«01_k».proof.Proof.Gen.Share.Frame
public import proofs.«01_k».proof.Proof.Gen.ShareRef
public import proofs.«01_k».proof.Proof.Gen.ShareRef.Run
public import proofs.«01_k».proof.Proof.Gen.ShareIdeal
public import proofs.«01_k».proof.Proof.Gen.ShareIdeal.Skeleton
public import proofs.«01_k».proof.Proof.Gen.ShareIdeal.Launch
public import proofs.«01_k».proof.Proof.Gen.ShareIdeal.Points
public import proofs.«01_k».proof.Proof.Gen.ShareIdeal.Frame
public import proofs.«01_k».proof.Proof.Gen.ShareRefIdeal
public import proofs.«01_k».proof.Proof.Gen.ShareRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInRefIdeal
public import proofs.«01_k».proof.Proof.Gen.AdamInRefIdeal.Run
public import proofs.«01_k».proof.Proof.Gen.AdamOut
public import proofs.«01_k».proof.Proof.Gen.AdamOut.Frame
public import proofs.«01_k».proof.Proof.Gen.AdamOutIdeal
public import proofs.«01_k».proof.Proof.Gen.AdamOutIdeal.Frame
public import proofs.«01_k».proof.Proof.Gen.AdamOutIdeal.Value
public import proofs.«01_k».proof.Proof.Gen.AdamOutRefIdeal
public import proofs.«01_k».proof.Proof.Gen.AdamOutRefIdeal.Run
public import proofs.«01_k».proof.Proof.Gen.AdamGate
public import proofs.«01_k».proof.Proof.Gen.AdamGate.Frame
public import proofs.«01_k».proof.Proof.Gen.AdamGateIdeal
public import proofs.«01_k».proof.Proof.Gen.AdamGateIdeal.Frame
public import proofs.«01_k».proof.Proof.Gen.AdamGateIdeal.Value
public import proofs.«01_k».proof.Proof.Gen.AdamGateRefIdeal
public import proofs.«01_k».proof.Proof.Gen.AdamGateRefIdeal.Run
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpRefIdeal
public import proofs.«01_k».proof.Proof.Gen.AdamUpRefIdeal.Run
public import proofs.«01_k».proof.Proof.Gen.AdamDown
public import proofs.«01_k».proof.Proof.Gen.AdamDown.Frame
public import proofs.«01_k».proof.Proof.Gen.AdamDownIdeal
public import proofs.«01_k».proof.Proof.Gen.AdamDownIdeal.Frame
public import proofs.«01_k».proof.Proof.Gen.AdamDownIdeal.Value
public import proofs.«01_k».proof.Proof.Gen.AdamDownRefIdeal
public import proofs.«01_k».proof.Proof.Gen.AdamDownRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.Chip
public import proofs.«01_k».proof.Proof.Gen.Chip.Frame
public import proofs.«01_k».proof.Proof.Gen.ChipIdeal
public import proofs.«01_k».proof.Proof.Gen.ChipIdeal.Frame
public import proofs.«01_k».proof.Proof.Gen.ChipIdeal.Value
public import proofs.«01_k».proof.Proof.Gen.ChipRefIdeal
public import proofs.«01_k».proof.Proof.Gen.ChipRefIdeal.Run
public import proofs.«01_k».proof.Proof.Gen.ProjDx
public import proofs.«01_k».proof.Proof.Gen.ProjDx.Frame
public import proofs.«01_k».proof.Proof.Gen.ProjDxIdeal
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInIdeal.Value
public import proofs.«01_k».proof.Proof.Gen.FfnInRefIdeal
public import proofs.«01_k».proof.Proof.Gen.FfnInRefIdeal.Run
public import proofs.«01_k».proof.Proof.Gen.FfnOut
public import proofs.«01_k».proof.Proof.Gen.FfnOut.Frame
public import proofs.«01_k».proof.Proof.Gen.FfnOutIdeal
public import proofs.«01_k».proof.Proof.Gen.FfnOutIdeal.Frame
public import proofs.«01_k».proof.Proof.Gen.FfnOutIdeal.Value
public import proofs.«01_k».proof.Proof.Gen.FfnOutRefIdeal
public import proofs.«01_k».proof.Proof.Gen.FfnOutRefIdeal.Run
public import proofs.«01_k».proof.Proof.Gen.FfnOutDx
public import proofs.«01_k».proof.Proof.Gen.FfnOutDx.Frame
public import proofs.«01_k».proof.Proof.Gen.FfnOutDxIdeal
public import proofs.«01_k».proof.Proof.Gen.FfnOutDxIdeal.Frame
public import proofs.«01_k».proof.Proof.Gen.FfnOutDxIdeal.Value
public import proofs.«01_k».proof.Proof.Gen.FfnOutDxRefIdeal
public import proofs.«01_k».proof.Proof.Gen.FfnOutDxRefIdeal.Run
public import proofs.«01_k».proof.Proof.Gen.OutProjDx
public import proofs.«01_k».proof.Proof.Gen.OutProjDx.Frame
public import proofs.«01_k».proof.Proof.Gen.OutProjDxIdeal
public import proofs.«01_k».proof.Proof.Gen.OutProjDxIdeal.Frame
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.FfnInDx
public import proofs.«01_k».proof.Proof.Gen.FfnInDx.Frame
public import proofs.«01_k».proof.Proof.Gen.FfnInDxIdeal
public import proofs.«01_k».proof.Proof.Gen.FfnInDxIdeal.Frame
public import proofs.«01_k».proof.Proof.Gen.FfnInDxIdeal.Value
public import proofs.«01_k».proof.Proof.Gen.FfnInDxRefIdeal
public import proofs.«01_k».proof.Proof.Gen.FfnInDxRefIdeal.Run
public import proofs.«01_k».proof.Proof.Gen.FfnOutDw
public import proofs.«01_k».proof.Proof.Gen.FfnOutDw.Frame
public import proofs.«01_k».proof.Proof.Gen.FfnOutDwIdeal
public import proofs.«01_k».proof.Proof.Gen.FfnOutDwIdeal.Frame
public import proofs.«01_k».proof.Proof.Gen.FfnOutDwIdeal.Value
public import proofs.«01_k».proof.Proof.Gen.FfnOutDwRefIdeal
public import proofs.«01_k».proof.Proof.Gen.FfnOutDwRefIdeal.Run
public import proofs.«01_k».proof.Proof.Gen.FfnInDw
public import proofs.«01_k».proof.Proof.Gen.FfnInDw.Frame
public import proofs.«01_k».proof.Proof.Gen.FfnInDwIdeal
public import proofs.«01_k».proof.Proof.Gen.FfnInDwIdeal.Frame
public import proofs.«01_k».proof.Proof.Gen.FfnInDwIdeal.Value
public import proofs.«01_k».proof.Proof.Gen.FfnInDwRefIdeal
public import proofs.«01_k».proof.Proof.Gen.FfnInDwRefIdeal.Run
public import proofs.«01_k».proof.Proof.Gen.OutProjDw
public import proofs.«01_k».proof.Proof.Gen.OutProjDw.Frame
public import proofs.«01_k».proof.Proof.Gen.OutProjDwIdeal
public import proofs.«01_k».proof.Proof.Gen.OutProjDwIdeal.Frame
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.Gen.ProjDw
public import proofs.«01_k».proof.Proof.Gen.ProjDw.Frame
public import proofs.«01_k».proof.Proof.Gen.ProjDwIdeal
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.SwiF
public import proofs.«01_k».proof.Proof.Gen.SwiF.Frame
public import proofs.«01_k».proof.Proof.Gen.SwiFIdeal
public import proofs.«01_k».proof.Proof.Gen.SwiFIdeal.Frame
public import proofs.«01_k».proof.Proof.Gen.SwiFIdeal.Value
public import proofs.«01_k».proof.Proof.Gen.SwiFRefIdeal
public import proofs.«01_k».proof.Proof.Gen.SwiFRefIdeal.Run
public import proofs.«01_k».proof.Proof.Gen.SwiB
public import proofs.«01_k».proof.Proof.Gen.SwiB.Frame
public import proofs.«01_k».proof.Proof.Gen.SwiBIdeal
public import proofs.«01_k».proof.Proof.Gen.SwiBIdeal.Frame
public import proofs.«01_k».proof.Proof.Gen.SwiBIdeal.Value
public import proofs.«01_k».proof.Proof.Gen.SwiBRefIdeal
public import proofs.«01_k».proof.Proof.Gen.SwiBRefIdeal.Run
public import proofs.«01_k».proof.Proof.Gen.LnF
public import proofs.«01_k».proof.Proof.Gen.LnF.Frame
public import proofs.«01_k».proof.Proof.Gen.LnFIdeal
public import proofs.«01_k».proof.Proof.Gen.LnFIdeal.Frame
public import proofs.«01_k».proof.Proof.Gen.LnFIdeal.Value
public import proofs.«01_k».proof.Proof.Gen.LnFRefIdeal
public import proofs.«01_k».proof.Proof.Gen.LnFRefIdeal.Run
public import proofs.«01_k».proof.Proof.Gen.LnB
public import proofs.«01_k».proof.Proof.Gen.LnB.Frame
public import proofs.«01_k».proof.Proof.Gen.LnBIdeal
public import proofs.«01_k».proof.Proof.Gen.LnBIdeal.Frame
public import proofs.«01_k».proof.Proof.Gen.LnBIdeal.Value
public import proofs.«01_k».proof.Proof.Gen.LnBRefIdeal
public import proofs.«01_k».proof.Proof.Gen.LnBRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.DilG
public import proofs.«01_k».proof.Proof.Gen.DilG.Frame
public import proofs.«01_k».proof.Proof.Gen.DilGIdeal
public import proofs.«01_k».proof.Proof.Gen.DilGIdeal.Frame
public import proofs.«01_k».proof.Proof.Gen.DilGIdeal.Value
public import proofs.«01_k».proof.Proof.Gen.DilGRefIdeal
public import proofs.«01_k».proof.Proof.Gen.DilGRefIdeal.Run
public import proofs.«01_k».proof.Proof.Gen.DilB
public import proofs.«01_k».proof.Proof.Gen.DilB.Frame
public import proofs.«01_k».proof.Proof.Gen.DilBIdeal
public import proofs.«01_k».proof.Proof.Gen.DilBIdeal.Frame
public import proofs.«01_k».proof.Proof.Gen.DilBIdeal.Value
public import proofs.«01_k».proof.Proof.Gen.DilBRefIdeal
public import proofs.«01_k».proof.Proof.Gen.DilBRefIdeal.Run
public import proofs.«01_k».proof.Proof.Gen.FoxB
public import proofs.«01_k».proof.Proof.Gen.FoxB.Frame
public import proofs.«01_k».proof.Proof.Gen.FoxBIdeal
public import proofs.«01_k».proof.Proof.Gen.FoxBIdeal.Frame
public import proofs.«01_k».proof.Proof.Gen.FoxBIdeal.Value
public import proofs.«01_k».proof.Proof.Gen.FoxBRefIdeal
public import proofs.«01_k».proof.Proof.Gen.FoxBRefIdeal.Run
public import proofs.«01_k».proof.Proof.Gen.FoxF
public import proofs.«01_k».proof.Proof.Gen.FoxF.Frame
public import proofs.«01_k».proof.Proof.Gen.FoxFIdeal
public import proofs.«01_k».proof.Proof.Gen.FoxFIdeal.Frame
public import proofs.«01_k».proof.Proof.Gen.FoxFIdeal.Value
public import proofs.«01_k».proof.Proof.Gen.FoxFRefIdeal
public import proofs.«01_k».proof.Proof.Gen.FoxFRefIdeal.Run
public import proofs.«01_k».proof.Proof.Gen.ConvB
public import proofs.«01_k».proof.Proof.Gen.ConvB.Frame
public import proofs.«01_k».proof.Proof.Gen.ConvBIdeal
public import proofs.«01_k».proof.Proof.Gen.ConvBIdeal.Frame
public import proofs.«01_k».proof.Proof.Gen.ConvBIdeal.Value
public import proofs.«01_k».proof.Proof.Gen.ConvBRefIdeal
public import proofs.«01_k».proof.Proof.Gen.ConvBRefIdeal.Run
public import proofs.«01_k».proof.Proof.Gen.ConvF
public import proofs.«01_k».proof.Proof.Gen.ConvF.Frame
public import proofs.«01_k».proof.Proof.Gen.ConvFIdeal
public import proofs.«01_k».proof.Proof.Gen.ConvFIdeal.Frame
public import proofs.«01_k».proof.Proof.Gen.ConvFIdeal.Value
public import proofs.«01_k».proof.Proof.Gen.ConvFRefIdeal
public import proofs.«01_k».proof.Proof.Gen.ConvFRefIdeal.Run
public import proofs.«01_k».proof.Proof.Gen.DilD
public import proofs.«01_k».proof.Proof.Gen.DilD.Frame
public import proofs.«01_k».proof.Proof.Gen.DilDIdeal
public import proofs.«01_k».proof.Proof.Gen.DilDIdeal.Frame
public import proofs.«01_k».proof.Proof.Gen.DilDIdeal.Value
public import proofs.«01_k».proof.Proof.Gen.DilDRefIdeal
public import proofs.«01_k».proof.Proof.Gen.DilDRefIdeal.Run
public import proofs.«01_k».proof.Proof.Gen.DilM
public import proofs.«01_k».proof.Proof.Gen.DilM.Frame
public import proofs.«01_k».proof.Proof.Gen.DilMIdeal
public import proofs.«01_k».proof.Proof.Gen.DilMIdeal.Frame
public import proofs.«01_k».proof.Proof.Gen.DilMIdeal.Value
public import proofs.«01_k».proof.Proof.Gen.DilMRefIdeal
public import proofs.«01_k».proof.Proof.Gen.DilMRefIdeal.Run
public import proofs.«01_k».proof.Proof.ChipClaims
public import proofs.«01_k».proof.Proof.AdamClaims
public import proofs.«01_k».proof.Proof.ProjDxClaims
public import proofs.«01_k».proof.Proof.ProductClaims
public import proofs.«01_k».proof.Proof.WeightClaims
public import proofs.«01_k».proof.Proof.RowClaims
public import proofs.«01_k».proof.Proof.SumClaims
public import proofs.«01_k».proof.Proof.ConvClaims
public import proofs.«01_k».proof.Proof.DilClaims
public import proofs.«01_k».proof.Proof.ConvBackClaims
public import proofs.«01_k».proof.Proof.FoxClaims
public import proofs.«01_k».proof.Proof.FoxBackClaims
public import proofs.«01_k».proof.Proof.DilBiasClaims
public import proofs.«01_k».proof.Proof.DilGradClaims
public import proofs.«01_k».proof.Proof.GatherClaims
public import proofs.«01_k».proof.Proof.SwapClaims
public import proofs.«01_k».proof.Proof.ScatterClaims
public import proofs.«01_k».proof.Proof.ShareClaims
public import Idealize.ShloMosaic.Adequacy
public import Idealize.ShloMosaic.Init

@[expose] public section

noncomputable section

namespace Cert.Proof

open Idealize.ShloMosaic Idealize.SL.Sem Cert.Swap

/-- Everything the statement certifies. -/
theorem claim : Cert.Claim := ⟨Cert.Gather.Gen.facts, Cert.GatherIdeal.Gen.facts, Cert.GatherRefIdeal.Gen.facts, Cert.GatherRef.Gen.facts,
  Cert.Swap.Gen.facts, Cert.SwapIdeal.Gen.facts, Cert.SwapRefIdeal.Gen.facts, Cert.SwapRef.Gen.facts,
  Cert.Scatter.Gen.facts, Cert.ScatterIdeal.Gen.facts, Cert.ScatterRefIdeal.Gen.facts, Cert.ScatterRef.Gen.facts,
  Cert.Share.Gen.facts, Cert.ShareIdeal.Gen.facts, Cert.ShareRefIdeal.Gen.facts, Cert.ShareRef.Gen.facts,
  Cert.Chip.Gen.facts, Cert.ChipIdeal.Gen.facts, Cert.ChipRefIdeal.Gen.facts,
  Cert.ProjDx.Gen.facts, Cert.ProjDxIdeal.Gen.facts, Cert.ProjDxRefIdeal.Gen.facts,
  Cert.Proj.Gen.facts, Cert.ProjIdeal.Gen.facts, Cert.ProjRefIdeal.Gen.facts,
  Cert.OutProj.Gen.facts, Cert.OutProjIdeal.Gen.facts, Cert.OutProjRefIdeal.Gen.facts,
  Cert.FfnIn.Gen.facts, Cert.FfnInIdeal.Gen.facts, Cert.FfnInRefIdeal.Gen.facts,
  Cert.FfnOut.Gen.facts, Cert.FfnOutIdeal.Gen.facts, Cert.FfnOutRefIdeal.Gen.facts,
  Cert.FfnOutDx.Gen.facts, Cert.FfnOutDxIdeal.Gen.facts, Cert.FfnOutDxRefIdeal.Gen.facts,
  Cert.OutProjDx.Gen.facts, Cert.OutProjDxIdeal.Gen.facts, Cert.OutProjDxRefIdeal.Gen.facts,
  Cert.FfnInDx.Gen.facts, Cert.FfnInDxIdeal.Gen.facts, Cert.FfnInDxRefIdeal.Gen.facts,
  Cert.FfnOutDw.Gen.facts, Cert.FfnOutDwIdeal.Gen.facts, Cert.FfnOutDwRefIdeal.Gen.facts,
  Cert.FfnInDw.Gen.facts, Cert.FfnInDwIdeal.Gen.facts, Cert.FfnInDwRefIdeal.Gen.facts,
  Cert.OutProjDw.Gen.facts, Cert.OutProjDwIdeal.Gen.facts, Cert.OutProjDwRefIdeal.Gen.facts,
  Cert.ProjDw.Gen.facts, Cert.ProjDwIdeal.Gen.facts, Cert.ProjDwRefIdeal.Gen.facts,
  Cert.SwiF.Gen.facts, Cert.SwiFIdeal.Gen.facts, Cert.SwiFRefIdeal.Gen.facts,
  Cert.SwiB.Gen.facts, Cert.SwiBIdeal.Gen.facts, Cert.SwiBRefIdeal.Gen.facts,
  Cert.LnF.Gen.facts, Cert.LnFIdeal.Gen.facts, Cert.LnFRefIdeal.Gen.facts,
  Cert.LnB.Gen.facts, Cert.LnBIdeal.Gen.facts, Cert.LnBRefIdeal.Gen.facts,
  Cert.Loss.Gen.facts, Cert.LossIdeal.Gen.facts, Cert.LossRefIdeal.Gen.facts,
  Cert.ConvF.Gen.facts, Cert.ConvFIdeal.Gen.facts, Cert.ConvFRefIdeal.Gen.facts,
  Cert.ConvB.Gen.facts, Cert.ConvBIdeal.Gen.facts, Cert.ConvBRefIdeal.Gen.facts,
  Cert.DilD.Gen.facts, Cert.DilDIdeal.Gen.facts, Cert.DilDRefIdeal.Gen.facts,
  Cert.DilM.Gen.facts, Cert.DilMIdeal.Gen.facts, Cert.DilMRefIdeal.Gen.facts,
  Cert.FoxF.Gen.facts, Cert.FoxFIdeal.Gen.facts, Cert.FoxFRefIdeal.Gen.facts,
  Cert.FoxB.Gen.facts, Cert.FoxBIdeal.Gen.facts, Cert.FoxBRefIdeal.Gen.facts,
  Cert.DilB.Gen.facts, Cert.DilBIdeal.Gen.facts, Cert.DilBRefIdeal.Gen.facts,
  Cert.DilG.Gen.facts, Cert.DilGIdeal.Gen.facts, Cert.DilGRefIdeal.Gen.facts,
  Cert.AdamIn.Gen.facts, Cert.AdamInIdeal.Gen.facts, Cert.AdamInRefIdeal.Gen.facts,
  Cert.AdamOut.Gen.facts, Cert.AdamOutIdeal.Gen.facts, Cert.AdamOutRefIdeal.Gen.facts,
  Cert.AdamGate.Gen.facts, Cert.AdamGateIdeal.Gen.facts, Cert.AdamGateRefIdeal.Gen.facts,
  Cert.AdamUp.Gen.facts, Cert.AdamUpIdeal.Gen.facts, Cert.AdamUpRefIdeal.Gen.facts,
  Cert.AdamDown.Gen.facts, Cert.AdamDownIdeal.Gen.facts, Cert.AdamDownRefIdeal.Gen.facts,
  Cert.AdamSmall.Gen.facts, Cert.AdamSmallIdeal.Gen.facts, Cert.AdamSmallRefIdeal.Gen.facts,
  Cert.FoxBProof.facts_pre,
  Cert.GatherProof.frame, Cert.GatherProof.frame_ideal, Cert.GatherProof.frame_ref_ideal, Cert.GatherProof.frame_ref,
  Cert.SwapProof.frame, Cert.SwapProof.frame_ideal, Cert.SwapProof.frame_ref_ideal, Cert.SwapProof.frame_ref,
  Cert.ScatterProof.frame, Cert.ScatterProof.frame_ideal, Cert.ScatterProof.frame_ref_ideal, Cert.ScatterProof.frame_ref,
  Cert.ShareProof.frame, Cert.ShareProof.frame_ideal, Cert.ShareProof.frame_ref_ideal, Cert.ShareProof.frame_ref,
  Cert.ChipProof.frame, Cert.ChipProof.frame_ideal, Cert.ChipProof.frame_ref_ideal,
  Cert.ProjDxProof.frame, Cert.ProjDxProof.frame_ideal, Cert.ProjDxProof.frame_ref_ideal,
  Cert.ProjProof.frame, Cert.ProjProof.frame_ideal, Cert.ProjProof.frame_ref_ideal,
  Cert.OutProjProof.frame, Cert.OutProjProof.frame_ideal, Cert.OutProjProof.frame_ref_ideal,
  Cert.FfnInProof.frame, Cert.FfnInProof.frame_ideal, Cert.FfnInProof.frame_ref_ideal,
  Cert.FfnOutProof.frame, Cert.FfnOutProof.frame_ideal, Cert.FfnOutProof.frame_ref_ideal,
  Cert.FfnOutDxProof.frame, Cert.FfnOutDxProof.frame_ideal, Cert.FfnOutDxProof.frame_ref_ideal,
  Cert.OutProjDxProof.frame, Cert.OutProjDxProof.frame_ideal, Cert.OutProjDxProof.frame_ref_ideal,
  Cert.FfnInDxProof.frame, Cert.FfnInDxProof.frame_ideal, Cert.FfnInDxProof.frame_ref_ideal,
  Cert.FfnOutDwProof.frame, Cert.FfnOutDwProof.frame_ideal, Cert.FfnOutDwProof.frame_ref_ideal,
  Cert.FfnInDwProof.frame, Cert.FfnInDwProof.frame_ideal, Cert.FfnInDwProof.frame_ref_ideal,
  Cert.OutProjDwProof.frame, Cert.OutProjDwProof.frame_ideal, Cert.OutProjDwProof.frame_ref_ideal,
  Cert.ProjDwProof.frame, Cert.ProjDwProof.frame_ideal, Cert.ProjDwProof.frame_ref_ideal,
  Cert.SwiFProof.frame, Cert.SwiFProof.frame_ideal, Cert.SwiFProof.frame_ref_ideal,
  Cert.SwiBProof.frame, Cert.SwiBProof.frame_ideal, Cert.SwiBProof.frame_ref_ideal,
  Cert.LnFProof.frame, Cert.LnFProof.frame_ideal, Cert.LnFProof.frame_ref_ideal,
  Cert.LnBProof.frame, Cert.LnBProof.frame_ideal, Cert.LnBProof.frame_ref_ideal,
  Cert.LossProof.frame, Cert.LossProof.frame_ideal, Cert.LossProof.frame_ref_ideal,
  Cert.ConvFProof.frame, Cert.ConvFProof.frame_ideal, Cert.ConvFProof.frame_ref_ideal,
  Cert.ConvBProof.frame, Cert.ConvBProof.frame_ideal, Cert.ConvBProof.frame_ref_ideal,
  Cert.DilDProof.frame, Cert.DilDProof.frame_ideal, Cert.DilDProof.frame_ref_ideal,
  Cert.DilMProof.frame, Cert.DilMProof.frame_ideal, Cert.DilMProof.frame_ref_ideal,
  Cert.FoxFProof.frame, Cert.FoxFProof.frame_ideal, Cert.FoxFProof.frame_ref_ideal,
  Cert.FoxBProof.frame, Cert.FoxBProof.frame_ideal, Cert.FoxBProof.frame_ideal_pre, Cert.FoxBProof.frame_ref_ideal, Cert.FoxBProof.frame_ref_ideal_pre,
  Cert.DilBProof.frame, Cert.DilBProof.frame_ideal, Cert.DilBProof.frame_ref_ideal,
  Cert.DilGProof.frame, Cert.DilGProof.frame_ideal, Cert.DilGProof.frame_ref_ideal,
  Cert.AdamProof.frame_in, Cert.AdamProof.frame_ideal_in, Cert.AdamProof.frame_ref_in,
  Cert.AdamProof.frame_out, Cert.AdamProof.frame_ideal_out, Cert.AdamProof.frame_ref_out,
  Cert.AdamProof.frame_gate, Cert.AdamProof.frame_ideal_gate, Cert.AdamProof.frame_ref_gate,
  Cert.AdamProof.frame_up, Cert.AdamProof.frame_ideal_up, Cert.AdamProof.frame_ref_up,
  Cert.AdamProof.frame_down, Cert.AdamProof.frame_ideal_down, Cert.AdamProof.frame_ref_down,
  Cert.AdamProof.frame_small, Cert.AdamProof.frame_ideal_small, Cert.AdamProof.frame_ref_small,
  trivial, Cert.GatherProof.value_ideal, Cert.GatherProof.value,
  trivial, Cert.SwapProof.value_ideal, Cert.SwapProof.value,
  trivial, Cert.ScatterProof.value_ideal, Cert.ScatterProof.value,
  trivial, Cert.ShareProof.value_ideal, Cert.ShareProof.value,
  trivial, Cert.ChipProof.value_ideal,
  trivial, Cert.ProjDxProof.value_ideal,
  trivial, Cert.ProjProof.value_ideal,
  trivial, Cert.OutProjProof.value_ideal,
  trivial, Cert.FfnInProof.value_ideal,
  trivial, Cert.FfnOutProof.value_ideal,
  trivial, Cert.FfnOutDxProof.value_ideal,
  trivial, Cert.OutProjDxProof.value_ideal,
  trivial, Cert.FfnInDxProof.value_ideal,
  trivial, Cert.FfnOutDwProof.value_ideal,
  trivial, Cert.FfnInDwProof.value_ideal,
  trivial, Cert.OutProjDwProof.value_ideal,
  trivial, Cert.ProjDwProof.value_ideal,
  trivial, Cert.SwiFProof.value_ideal,
  trivial, Cert.SwiBProof.value_ideal,
  trivial, Cert.LnFProof.value_ideal,
  trivial, Cert.LnBProof.value_ideal,
  trivial, Cert.LossProof.value_ideal,
  trivial, Cert.ConvFProof.value_ideal,
  trivial, Cert.ConvBProof.value_ideal,
  trivial, Cert.DilDProof.value_ideal,
  trivial, Cert.DilMProof.value_ideal,
  trivial, Cert.FoxFProof.value_ideal,
  trivial, Cert.FoxBProof.value_ideal,
  trivial, Cert.DilBProof.value_ideal,
  trivial, Cert.DilGProof.value_ideal,
  trivial, Cert.AdamProof.value_in,
  trivial, Cert.AdamProof.value_out,
  trivial, Cert.AdamProof.value_gate,
  trivial, Cert.AdamProof.value_up,
  trivial, Cert.AdamProof.value_down,
  trivial, Cert.AdamProof.value_small⟩

end Cert.Proof

end
